-- ==== Defs.lean ====
def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnIdeal_finite_ffn [hPre_finite_ffn : Cert.Pre_finite_ffn.Facts] (m : (ℓ : Loc Cert.NormFfnIdeal.nD Cert.NormFfnIdeal.τ Cert.NormFfnIdeal.sig) → Buf (Elt Ideal) ℓ) : Prop :=
  ∀ c : Dev Cert.NormFfnIdeal.nD,
    (Cert.Pre_finite_ffn.fn (F := Ideal) (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)) (m ((c.tc : Thread Cert.NormFfnIdeal.nD Cert.NormFfnIdeal.τ).loc Cert.NormFfnIdeal.main_arg4))).1 = (fun _ => 1#1)
    ∧ (Cert.Pre_finite_ffn.fn (F := Ideal) (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)) (m ((c.tc : Thread Cert.NormFfnIdeal.nD Cert.NormFfnIdeal.τ).loc Cert.NormFfnIdeal.main_arg4))).2.1 = (fun _ => 1#1)
    ∧ (Cert.Pre_finite_ffn.fn (F := Ideal) (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)) (m ((c.tc : Thread Cert.NormFfnIdeal.nD Cert.NormFfnIdeal.τ).loc Cert.NormFfnIdeal.main_arg4))).2.2.1 = (fun _ => 1#1)
    ∧ (Cert.Pre_finite_ffn.fn (F := Ideal) (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)) (m ((c.tc : Thread Cert.NormFfnIdeal.nD Cert.NormFfnIdeal.τ).loc Cert.NormFfnIdeal.main_arg4))).2.2.2.1 = (fun _ => 1#1)
    ∧ (Cert.Pre_finite_ffn.fn (F := Ideal) (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)) (m ((c.tc : Thread Cert.NormFfnIdeal.nD Cert.NormFfnIdeal.τ).loc Cert.NormFfnIdeal.main_arg4))).2.2.2.2 = (fun _ => 1#1)

def Pre_NormFfnRefIdeal (m : (ℓ : Loc Cert.NormFfnRefIdeal.nD Cert.NormFfnRefIdeal.τ Cert.NormFfnRefIdeal.sig) → Buf (Elt Ideal) ℓ) : Prop :=
  True

def Pre_NormFfnRefIdeal_finite_ffn [hPre_finite_ffn : Cert.Pre_finite_ffn.Facts] (m : (ℓ : Loc Cert.NormFfnRefIdeal.nD Cert.NormFfnRefIdeal.τ Cert.NormFfnRefIdeal.sig) → Buf (Elt Ideal) ℓ) : Prop :=
  ∀ c : Dev Cert.NormFfnRefIdeal.nD,
    (Cert.Pre_finite_ffn.fn (F := Ideal) (m ((c.tc : Thread Cert.NormFfnRefIdeal.nD Cert.NormFfnRefIdeal.τ).loc Cert.NormFfnRefIdeal.main_arg0)) (m ((c.tc : Thread Cert.NormFfnRefIdeal.nD Cert.NormFfnRefIdeal.τ).loc Cert.NormFfnRefIdeal.main_arg1)) (m ((c.tc : Thread Cert.NormFfnRefIdeal.nD Cert.NormFfnRefIdeal.τ).loc Cert.NormFfnRefIdeal.main_arg2)) (m ((c.tc : Thread Cert.NormFfnRefIdeal.nD Cert.NormFfnRefIdeal.τ).loc Cert.NormFfnRefIdeal.main_arg3)) (m ((c.tc : Thread Cert.NormFfnRefIdeal.nD Cert.NormFfnRefIdeal.τ).loc Cert.NormFfnRefIdeal.main_arg4))).1 = (fun _ => 1#1)
    ∧ (Cert.Pre_finite_ffn.fn (F := Ideal) (m ((c.tc : Thread Cert.NormFfnRefIdeal.nD Cert.NormFfnRefIdeal.τ).loc Cert.NormFfnRefIdeal.main_arg0)) (m ((c.tc : Thread Cert.NormFfnRefIdeal.nD Cert.NormFfnRefIdeal.τ).loc Cert.NormFfnRefIdeal.main_arg1)) (m ((c.tc : Thread Cert.NormFfnRefIdeal.nD Cert.NormFfnRefIdeal.τ).loc Cert.NormFfnRefIdeal.main_arg2)) (m ((c.tc : Thread Cert.NormFfnRefIdeal.nD Cert.NormFfnRefIdeal.τ).loc Cert.NormFfnRefIdeal.main_arg3)) (m ((c.tc : Thread Cert.NormFfnRefIdeal.nD Cert.NormFfnRefIdeal.τ).loc Cert.NormFfnRefIdeal.main_arg4))).2.1 = (fun _ => 1#1)
    ∧ (Cert.Pre_finite_ffn.fn (F := Ideal) (m ((c.tc : Thread Cert.NormFfnRefIdeal.nD Cert.NormFfnRefIdeal.τ).loc Cert.NormFfnRefIdeal.main_arg0)) (m ((c.tc : Thread Cert.NormFfnRefIdeal.nD Cert.NormFfnRefIdeal.τ).loc Cert.NormFfnRefIdeal.main_arg1)) (m ((c.tc : Thread Cert.NormFfnRefIdeal.nD Cert.NormFfnRefIdeal.τ).loc Cert.NormFfnRefIdeal.main_arg2)) (m ((c.tc : Thread Cert.NormFfnRefIdeal.nD Cert.NormFfnRefIdeal.τ).loc Cert.NormFfnRefIdeal.main_arg3)) (m ((c.tc : Thread Cert.NormFfnRefIdeal.nD Cert.NormFfnRefIdeal.τ).loc Cert.NormFfnRefIdeal.main_arg4))).2.2.1 = (fun _ => 1#1)
    ∧ (Cert.Pre_finite_ffn.fn (F := Ideal) (m ((c.tc : Thread Cert.NormFfnRefIdeal.nD Cert.NormFfnRefIdeal.τ).loc Cert.NormFfnRefIdeal.main_arg0)) (m ((c.tc : Thread Cert.NormFfnRefIdeal.nD Cert.NormFfnRefIdeal.τ).loc Cert.NormFfnRefIdeal.main_arg1)) (m ((c.tc : Thread Cert.NormFfnRefIdeal.nD Cert.NormFfnRefIdeal.τ).loc Cert.NormFfnRefIdeal.main_arg2)) (m ((c.tc : Thread Cert.NormFfnRefIdeal.nD Cert.NormFfnRefIdeal.τ).loc Cert.NormFfnRefIdeal.main_arg3)) (m ((c.tc : Thread Cert.NormFfnRefIdeal.nD Cert.NormFfnRefIdeal.τ).loc Cert.NormFfnRefIdeal.main_arg4))).2.2.2.1 = (fun _ => 1#1)
    ∧ (Cert.Pre_finite_ffn.fn (F := Ideal) (m ((c.tc : Thread Cert.NormFfnRefIdeal.nD Cert.NormFfnRefIdeal.τ).loc Cert.NormFfnRefIdeal.main_arg0)) (m ((c.tc : Thread Cert.NormFfnRefIdeal.nD Cert.NormFfnRefIdeal.τ).loc Cert.NormFfnRefIdeal.main_arg1)) (m ((c.tc : Thread Cert.NormFfnRefIdeal.nD Cert.NormFfnRefIdeal.τ).loc Cert.NormFfnRefIdeal.main_arg2)) (m ((c.tc : Thread Cert.NormFfnRefIdeal.nD Cert.NormFfnRefIdeal.τ).loc Cert.NormFfnRefIdeal.main_arg3)) (m ((c.tc : Thread Cert.NormFfnRefIdeal.nD Cert.NormFfnRefIdeal.τ).loc Cert.NormFfnRefIdeal.main_arg4))).2.2.2.2 = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite_sgu [hPre_finite_sgu : Cert.Pre_finite_sgu.Facts] (m : (ℓ : Loc Cert.SguIdeal.nD Cert.SguIdeal.τ Cert.SguIdeal.sig) → Buf (Elt Ideal) ℓ) : Prop :=
  ∀ c : Dev Cert.SguIdeal.nD,
    (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.2 = (fun _ => 1#1)

def Pre_NormAttn (m : (ℓ : Loc Cert.NormAttn.nD Cert.NormAttn.τ Cert.NormAttn.sig) → Buf (Elt Bits) ℓ) : Prop :=
  True

def Pre_NormAttnIdeal (m : (ℓ : Loc Cert.NormAttnIdeal.nD Cert.NormAttnIdeal.τ Cert.NormAttnIdeal.sig) → Buf (Elt Ideal) ℓ) : Prop :=
  True

def Pre_NormAttnIdeal_finite_attn [hPre_finite_attn : Cert.Pre_finite_attn.Facts] (m : (ℓ : Loc Cert.NormAttnIdeal.nD Cert.NormAttnIdeal.τ Cert.NormAttnIdeal.sig) → Buf (Elt Ideal) ℓ) : Prop :=
  ∀ c : Dev Cert.NormAttnIdeal.nD,
    (Cert.Pre_finite_attn.fn (F := Ideal) (m ((c.tc : Thread Cert.NormAttnIdeal.nD Cert.NormAttnIdeal.τ).loc Cert.NormAttnIdeal.main_arg0)) (m ((c.tc : Thread Cert.NormAttnIdeal.nD Cert.NormAttnIdeal.τ).loc Cert.NormAttnIdeal.main_arg1)) (m ((c.tc : Thread Cert.NormAttnIdeal.nD Cert.NormAttnIdeal.τ).loc Cert.NormAttnIdeal.main_arg2)) (m ((c.tc : Thread Cert.NormAttnIdeal.nD Cert.NormAttnIdeal.τ).loc Cert.NormAttnIdeal.main_arg3)) (m ((c.tc : Thread Cert.NormAttnIdeal.nD Cert.NormAttnIdeal.τ).loc Cert.NormAttnIdeal.main_arg4))).1 = (fun _ => 1#1)
    ∧ (Cert.Pre_finite_attn.fn (F := Ideal) (m ((c.tc : Thread Cert.NormAttnIdeal.nD Cert.NormAttnIdeal.τ).loc Cert.NormAttnIdeal.main_arg0)) (m ((c.tc : Thread Cert.NormAttnIdeal.nD Cert.NormAttnIdeal.τ).loc Cert.NormAttnIdeal.main_arg1)) (m ((c.tc : Thread Cert.NormAttnIdeal.nD Cert.NormAttnIdeal.τ).loc Cert.NormAttnIdeal.main_arg2)) (m ((c.tc : Thread Cert.NormAttnIdeal.nD Cert.NormAttnIdeal.τ).loc Cert.NormAttnIdeal.main_arg3)) (m ((c.tc : Thread Cert.NormAttnIdeal.nD Cert.NormAttnIdeal.τ).loc Cert.NormAttnIdeal.main_arg4))).2.1 = (fun _ => 1#1)
    ∧ (Cert.Pre_finite_attn.fn (F := Ideal) (m ((c.tc : Thread Cert.NormAttnIdeal.nD Cert.NormAttnIdeal.τ).loc Cert.NormAttnIdeal.main_arg0)) (m ((c.tc : Thread Cert.NormAttnIdeal.nD Cert.NormAttnIdeal.τ).loc Cert.NormAttnIdeal.main_arg1)) (m ((c.tc : Thread Cert.NormAttnIdeal.nD Cert.NormAttnIdeal.τ).loc Cert.NormAttnIdeal.main_arg2)) (m ((c.tc : Thread Cert.NormAttnIdeal.nD Cert.NormAttnIdeal.τ).loc Cert.NormAttnIdeal.main_arg3)) (m ((c.tc : Thread Cert.NormAttnIdeal.nD Cert.NormAttnIdeal.τ).loc Cert.NormAttnIdeal.main_arg4))).2.2.1 = (fun _ => 1#1)
    ∧ (Cert.Pre_finite_attn.fn (F := Ideal) (m ((c.tc : Thread Cert.NormAttnIdeal.nD Cert.NormAttnIdeal.τ).loc Cert.NormAttnIdeal.main_arg0)) (m ((c.tc : Thread Cert.NormAttnIdeal.nD Cert.NormAttnIdeal.τ).loc Cert.NormAttnIdeal.main_arg1)) (m ((c.tc : Thread Cert.NormAttnIdeal.nD Cert.NormAttnIdeal.τ).loc Cert.NormAttnIdeal.main_arg2)) (m ((c.tc : Thread Cert.NormAttnIdeal.nD Cert.NormAttnIdeal.τ).loc Cert.NormAttnIdeal.main_arg3)) (m ((c.tc : Thread Cert.NormAttnIdeal.nD Cert.NormAttnIdeal.τ).loc Cert.NormAttnIdeal.main_arg4))).2.2.2.1 = (fun _ => 1#1)
    ∧ (Cert.Pre_finite_attn.fn (F := Ideal) (m ((c.tc : Thread Cert.NormAttnIdeal.nD Cert.NormAttnIdeal.τ).loc Cert.NormAttnIdeal.main_arg0)) (m ((c.tc : Thread Cert.NormAttnIdeal.nD Cert.NormAttnIdeal.τ).loc Cert.NormAttnIdeal.main_arg1)) (m ((c.tc : Thread Cert.NormAttnIdeal.nD Cert.NormAttnIdeal.τ).loc Cert.NormAttnIdeal.main_arg2)) (m ((c.tc : Thread Cert.NormAttnIdeal.nD Cert.NormAttnIdeal.τ).loc Cert.NormAttnIdeal.main_arg3)) (m ((c.tc : Thread Cert.NormAttnIdeal.nD Cert.NormAttnIdeal.τ).loc Cert.NormAttnIdeal.main_arg4))).2.2.2.2 = (fun _ => 1#1)

def Pre_NormAttnRefIdeal (m : (ℓ : Loc Cert.NormAttnRefIdeal.nD Cert.NormAttnRefIdeal.τ Cert.NormAttnRefIdeal.sig) → Buf (Elt Ideal) ℓ) : Prop :=
  True

def Pre_NormAttnRefIdeal_finite_attn [hPre_finite_attn : Cert.Pre_finite_attn.Facts] (m : (ℓ : Loc Cert.NormAttnRefIdeal.nD Cert.NormAttnRefIdeal.τ Cert.NormAttnRefIdeal.sig) → Buf (Elt Ideal) ℓ) : Prop :=
  ∀ c : Dev Cert.NormAttnRefIdeal.nD,
    (Cert.Pre_finite_attn.fn (F := Ideal) (m ((c.tc : Thread Cert.NormAttnRefIdeal.nD Cert.NormAttnRefIdeal.τ).loc Cert.NormAttnRefIdeal.main_arg0)) (m ((c.tc : Thread Cert.NormAttnRefIdeal.nD Cert.NormAttnRefIdeal.τ).loc Cert.NormAttnRefIdeal.main_arg1)) (m ((c.tc : Thread Cert.NormAttnRefIdeal.nD Cert.NormAttnRefIdeal.τ).loc Cert.NormAttnRefIdeal.main_arg2)) (m ((c.tc : Thread Cert.NormAttnRefIdeal.nD Cert.NormAttnRefIdeal.τ).loc Cert.NormAttnRefIdeal.main_arg3)) (m ((c.tc : Thread Cert.NormAttnRefIdeal.nD Cert.NormAttnRefIdeal.τ).loc Cert.NormAttnRefIdeal.main_arg4))).1 = (fun _ => 1#1)
    ∧ (Cert.Pre_finite_attn.fn (F := Ideal) (m ((c.tc : Thread Cert.NormAttnRefIdeal.nD Cert.NormAttnRefIdeal.τ).loc Cert.NormAttnRefIdeal.main_arg0)) (m ((c.tc : Thread Cert.NormAttnRefIdeal.nD Cert.NormAttnRefIdeal.τ).loc Cert.NormAttnRefIdeal.main_arg1)) (m ((c.tc : Thread Cert.NormAttnRefIdeal.nD Cert.NormAttnRefIdeal.τ).loc Cert.NormAttnRefIdeal.main_arg2)) (m ((c.tc : Thread Cert.NormAttnRefIdeal.nD Cert.NormAttnRefIdeal.τ).loc Cert.NormAttnRefIdeal.main_arg3)) (m ((c.tc : Thread Cert.NormAttnRefIdeal.nD Cert.NormAttnRefIdeal.τ).loc Cert.NormAttnRefIdeal.main_arg4))).2.1 = (fun _ => 1#1)
    ∧ (Cert.Pre_finite_attn.fn (F := Ideal) (m ((c.tc : Thread Cert.NormAttnRefIdeal.nD Cert.NormAttnRefIdeal.τ).loc Cert.NormAttnRefIdeal.main_arg0)) (m ((c.tc : Thread Cert.NormAttnRefIdeal.nD Cert.NormAttnRefIdeal.τ).loc Cert.NormAttnRefIdeal.main_arg1)) (m ((c.tc : Thread Cert.NormAttnRefIdeal.nD Cert.NormAttnRefIdeal.τ).loc Cert.NormAttnRefIdeal.main_arg2)) (m ((c.tc : Thread Cert.NormAttnRefIdeal.nD Cert.NormAttnRefIdeal.τ).loc Cert.NormAttnRefIdeal.main_arg3)) (m ((c.tc : Thread Cert.NormAttnRefIdeal.nD Cert.NormAttnRefIdeal.τ).loc Cert.NormAttnRefIdeal.main_arg4))).2.2.1 = (fun _ => 1#1)
    ∧ (Cert.Pre_finite_attn.fn (F := Ideal) (m ((c.tc : Thread Cert.NormAttnRefIdeal.nD Cert.NormAttnRefIdeal.τ).loc Cert.NormAttnRefIdeal.main_arg0)) (m ((c.tc : Thread Cert.NormAttnRefIdeal.nD Cert.NormAttnRefIdeal.τ).loc Cert.NormAttnRefIdeal.main_arg1)) (m ((c.tc : Thread Cert.NormAttnRefIdeal.nD Cert.NormAttnRefIdeal.τ).loc Cert.NormAttnRefIdeal.main_arg2)) (m ((c.tc : Thread Cert.NormAttnRefIdeal.nD Cert.NormAttnRefIdeal.τ).loc Cert.NormAttnRefIdeal.main_arg3)) (m ((c.tc : Thread Cert.NormAttnRefIdeal.nD Cert.NormAttnRefIdeal.τ).loc Cert.NormAttnRefIdeal.main_arg4))).2.2.2.1 = (fun _ => 1#1)
    ∧ (Cert.Pre_finite_attn.fn (F := Ideal) (m ((c.tc : Thread Cert.NormAttnRefIdeal.nD Cert.NormAttnRefIdeal.τ).loc Cert.NormAttnRefIdeal.main_arg0)) (m ((c.tc : Thread Cert.NormAttnRefIdeal.nD Cert.NormAttnRefIdeal.τ).loc Cert.NormAttnRefIdeal.main_arg1)) (m ((c.tc : Thread Cert.NormAttnRefIdeal.nD Cert.NormAttnRefIdeal.τ).loc Cert.NormAttnRefIdeal.main_arg2)) (m ((c.tc : Thread Cert.NormAttnRefIdeal.nD Cert.NormAttnRefIdeal.τ).loc Cert.NormAttnRefIdeal.main_arg3)) (m ((c.tc : Thread Cert.NormAttnRefIdeal.nD Cert.NormAttnRefIdeal.τ).loc Cert.NormAttnRefIdeal.main_arg4))).2.2.2.2 = (fun _ => 1#1)

def Pre_NormPle (m : (ℓ : Loc Cert.NormPle.nD Cert.NormPle.τ Cert.NormPle.sig) → Buf (Elt Bits) ℓ) : Prop :=
  True

def Pre_NormPleIdeal (m : (ℓ : Loc Cert.NormPleIdeal.nD Cert.NormPleIdeal.τ Cert.NormPleIdeal.sig) → Buf (Elt Ideal) ℓ) : Prop :=
  True

def Pre_NormPleIdeal_finite_ple [hPre_finite_ple : Cert.Pre_finite_ple.Facts] (m : (ℓ : Loc Cert.NormPleIdeal.nD Cert.NormPleIdeal.τ Cert.NormPleIdeal.sig) → Buf (Elt Ideal) ℓ) : Prop :=
  ∀ c : Dev Cert.NormPleIdeal.nD,
    (Cert.Pre_finite_ple.fn (F := Ideal) (m ((c.tc : Thread Cert.NormPleIdeal.nD Cert.NormPleIdeal.τ).loc Cert.NormPleIdeal.main_arg0)) (m ((c.tc : Thread Cert.NormPleIdeal.nD Cert.NormPleIdeal.τ).loc Cert.NormPleIdeal.main_arg1)) (m ((c.tc : Thread Cert.NormPleIdeal.nD Cert.NormPleIdeal.τ).loc Cert.NormPleIdeal.main_arg2)) (m ((c.tc : Thread Cert.NormPleIdeal.nD Cert.NormPleIdeal.τ).loc Cert.NormPleIdeal.main_arg3)) (m ((c.tc : Thread Cert.NormPleIdeal.nD Cert.NormPleIdeal.τ).loc Cert.NormPleIdeal.main_arg4))).1 = (fun _ => 1#1)
    ∧ (Cert.Pre_finite_ple.fn (F := Ideal) (m ((c.tc : Thread Cert.NormPleIdeal.nD Cert.NormPleIdeal.τ).loc Cert.NormPleIdeal.main_arg0)) (m ((c.tc : Thread Cert.NormPleIdeal.nD Cert.NormPleIdeal.τ).loc Cert.NormPleIdeal.main_arg1)) (m ((c.tc : Thread Cert.NormPleIdeal.nD Cert.NormPleIdeal.τ).loc Cert.NormPleIdeal.main_arg2)) (m ((c.tc : Thread Cert.NormPleIdeal.nD Cert.NormPleIdeal.τ).loc Cert.NormPleIdeal.main_arg3)) (m ((c.tc : Thread Cert.NormPleIdeal.nD Cert.NormPleIdeal.τ).loc Cert.NormPleIdeal.main_arg4))).2.1 = (fun _ => 1#1)
    ∧ (Cert.Pre_finite_ple.fn (F := Ideal) (m ((c.tc : Thread Cert.NormPleIdeal.nD Cert.NormPleIdeal.τ).loc Cert.NormPleIdeal.main_arg0)) (m ((c.tc : Thread Cert.NormPleIdeal.nD Cert.NormPleIdeal.τ).loc Cert.NormPleIdeal.main_arg1)) (m ((c.tc : Thread Cert.NormPleIdeal.nD Cert.NormPleIdeal.τ).loc Cert.NormPleIdeal.main_arg2)) (m ((c.tc : Thread Cert.NormPleIdeal.nD Cert.NormPleIdeal.τ).loc Cert.NormPleIdeal.main_arg3)) (m ((c.tc : Thread Cert.NormPleIdeal.nD Cert.NormPleIdeal.τ).loc Cert.NormPleIdeal.main_arg4))).2.2.1 = (fun _ => 1#1)
    ∧ (Cert.Pre_finite_ple.fn (F := Ideal) (m ((c.tc : Thread Cert.NormPleIdeal.nD Cert.NormPleIdeal.τ).loc Cert.NormPleIdeal.main_arg0)) (m ((c.tc : Thread Cert.NormPleIdeal.nD Cert.NormPleIdeal.τ).loc Cert.NormPleIdeal.main_arg1)) (m ((c.tc : Thread Cert.NormPleIdeal.nD Cert.NormPleIdeal.τ).loc Cert.NormPleIdeal.main_arg2)) (m ((c.tc : Thread Cert.NormPleIdeal.nD Cert.NormPleIdeal.τ).loc Cert.NormPleIdeal.main_arg3)) (m ((c.tc : Thread Cert.NormPleIdeal.nD Cert.NormPleIdeal.τ).loc Cert.NormPleIdeal.main_arg4))).2.2.2.1 = (fun _ => 1#1)
    ∧ (Cert.Pre_finite_ple.fn (F := Ideal) (m ((c.tc : Thread Cert.NormPleIdeal.nD Cert.NormPleIdeal.τ).loc Cert.NormPleIdeal.main_arg0)) (m ((c.tc : Thread Cert.NormPleIdeal.nD Cert.NormPleIdeal.τ).loc Cert.NormPleIdeal.main_arg1)) (m ((c.tc : Thread Cert.NormPleIdeal.nD Cert.NormPleIdeal.τ).loc Cert.NormPleIdeal.main_arg2)) (m ((c.tc : Thread Cert.NormPleIdeal.nD Cert.NormPleIdeal.τ).loc Cert.NormPleIdeal.main_arg3)) (m ((c.tc : Thread Cert.NormPleIdeal.nD Cert.NormPleIdeal.τ).loc Cert.NormPleIdeal.main_arg4))).2.2.2.2 = (fun _ => 1#1)

def Pre_NormPleRefIdeal (m : (ℓ : Loc Cert.NormPleRefIdeal.nD Cert.NormPleRefIdeal.τ Cert.NormPleRefIdeal.sig) → Buf (Elt Ideal) ℓ) : Prop :=
  True

def Pre_NormPleRefIdeal_finite_ple [hPre_finite_ple : Cert.Pre_finite_ple.Facts] (m : (ℓ : Loc Cert.NormPleRefIdeal.nD Cert.NormPleRefIdeal.τ Cert.NormPleRefIdeal.sig) → Buf (Elt Ideal) ℓ) : Prop :=
  ∀ c : Dev Cert.NormPleRefIdeal.nD,
    (Cert.Pre_finite_ple.fn (F := Ideal) (m ((c.tc : Thread Cert.NormPleRefIdeal.nD Cert.NormPleRefIdeal.τ).loc Cert.NormPleRefIdeal.main_arg0)) (m ((c.tc : Thread Cert.NormPleRefIdeal.nD Cert.NormPleRefIdeal.τ).loc Cert.NormPleRefIdeal.main_arg1)) (m ((c.tc : Thread Cert.NormPleRefIdeal.nD Cert.NormPleRefIdeal.τ).loc Cert.NormPleRefIdeal.main_arg2)) (m ((c.tc : Thread Cert.NormPleRefIdeal.nD Cert.NormPleRefIdeal.τ).loc Cert.NormPleRefIdeal.main_arg3)) (m ((c.tc : Thread Cert.NormPleRefIdeal.nD Cert.NormPleRefIdeal.τ).loc Cert.NormPleRefIdeal.main_arg4))).1 = (fun _ => 1#1)
    ∧ (Cert.Pre_finite_ple.fn (F := Ideal) (m ((c.tc : Thread Cert.NormPleRefIdeal.nD Cert.NormPleRefIdeal.τ).loc Cert.NormPleRefIdeal.main_arg0)) (m ((c.tc : Thread Cert.NormPleRefIdeal.nD Cert.NormPleRefIdeal.τ).loc Cert.NormPleRefIdeal.main_arg1)) (m ((c.tc : Thread Cert.NormPleRefIdeal.nD Cert.NormPleRefIdeal.τ).loc Cert.NormPleRefIdeal.main_arg2)) (m ((c.tc : Thread Cert.NormPleRefIdeal.nD Cert.NormPleRefIdeal.τ).loc Cert.NormPleRefIdeal.main_arg3)) (m ((c.tc : Thread Cert.NormPleRefIdeal.nD Cert.NormPleRefIdeal.τ).loc Cert.NormPleRefIdeal.main_arg4))).2.1 = (fun _ => 1#1)
    ∧ (Cert.Pre_finite_ple.fn (F := Ideal) (m ((c.tc : Thread Cert.NormPleRefIdeal.nD Cert.NormPleRefIdeal.τ).loc Cert.NormPleRefIdeal.main_arg0)) (m ((c.tc : Thread Cert.NormPleRefIdeal.nD Cert.NormPleRefIdeal.τ).loc Cert.NormPleRefIdeal.main_arg1)) (m ((c.tc : Thread Cert.NormPleRefIdeal.nD Cert.NormPleRefIdeal.τ).loc Cert.NormPleRefIdeal.main_arg2)) (m ((c.tc : Thread Cert.NormPleRefIdeal.nD Cert.NormPleRefIdeal.τ).loc Cert.NormPleRefIdeal.main_arg3)) (m ((c.tc : Thread Cert.NormPleRefIdeal.nD Cert.NormPleRefIdeal.τ).loc Cert.NormPleRefIdeal.main_arg4))).2.2.1 = (fun _ => 1#1)
    ∧ (Cert.Pre_finite_ple.fn (F := Ideal) (m ((c.tc : Thread Cert.NormPleRefIdeal.nD Cert.NormPleRefIdeal.τ).loc Cert.NormPleRefIdeal.main_arg0)) (m ((c.tc : Thread Cert.NormPleRefIdeal.nD Cert.NormPleRefIdeal.τ).loc Cert.NormPleRefIdeal.main_arg1)) (m ((c.tc : Thread Cert.NormPleRefIdeal.nD Cert.NormPleRefIdeal.τ).loc Cert.NormPleRefIdeal.main_arg2)) (m ((c.tc : Thread Cert.NormPleRefIdeal.nD Cert.NormPleRefIdeal.τ).loc Cert.NormPleRefIdeal.main_arg3)) (m ((c.tc : Thread Cert.NormPleRefIdeal.nD Cert.NormPleRefIdeal.τ).loc Cert.NormPleRefIdeal.main_arg4))).2.2.2.1 = (fun _ => 1#1)
    ∧ (Cert.Pre_finite_ple.fn (F := Ideal) (m ((c.tc : Thread Cert.NormPleRefIdeal.nD Cert.NormPleRefIdeal.τ).loc Cert.NormPleRefIdeal.main_arg0)) (m ((c.tc : Thread Cert.NormPleRefIdeal.nD Cert.NormPleRefIdeal.τ).loc Cert.NormPleRefIdeal.main_arg1)) (m ((c.tc : Thread Cert.NormPleRefIdeal.nD Cert.NormPleRefIdeal.τ).loc Cert.NormPleRefIdeal.main_arg2)) (m ((c.tc : Thread Cert.NormPleRefIdeal.nD Cert.NormPleRefIdeal.τ).loc Cert.NormPleRefIdeal.main_arg3)) (m ((c.tc : Thread Cert.NormPleRefIdeal.nD Cert.NormPleRefIdeal.τ).loc Cert.NormPleRefIdeal.main_arg4))).2.2.2.2 = (fun _ => 1#1)

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_GradProj (m : (ℓ : Loc Cert.GradProj.nD Cert.GradProj.τ Cert.GradProj.sig) → Buf (Elt Bits) ℓ) : Prop :=
  True

def Pre_GradProjIdeal (m : (ℓ : Loc Cert.GradProjIdeal.nD Cert.GradProjIdeal.τ Cert.GradProjIdeal.sig) → Buf (Elt Ideal) ℓ) : Prop :=
  True

def Pre_GradProjRefIdeal (m : (ℓ : Loc Cert.GradProjRefIdeal.nD Cert.GradProjRefIdeal.τ Cert.GradProjRefIdeal.sig) → Buf (Elt Ideal) ℓ) : Prop :=
  True

def Pre_BackAct (m : (ℓ : Loc Cert.BackAct.nD Cert.BackAct.τ Cert.BackAct.sig) → Buf (Elt Bits) ℓ) : Prop :=
  True

def Pre_BackActIdeal (m : (ℓ : Loc Cert.BackActIdeal.nD Cert.BackActIdeal.τ Cert.BackActIdeal.sig) → Buf (Elt Ideal) ℓ) : Prop :=
  True

def Pre_BackActRefIdeal (m : (ℓ : Loc Cert.BackActRefIdeal.nD Cert.BackActRefIdeal.τ Cert.BackActRefIdeal.sig) → Buf (Elt Ideal) ℓ) : Prop :=
  True

def Pre_BackMix (m : (ℓ : Loc Cert.BackMix.nD Cert.BackMix.τ Cert.BackMix.sig) → Buf (Elt Bits) ℓ) : Prop :=
  True

def Pre_BackMixIdeal (m : (ℓ : Loc Cert.BackMixIdeal.nD Cert.BackMixIdeal.τ Cert.BackMixIdeal.sig) → Buf (Elt Ideal) ℓ) : Prop :=
  True

def Pre_BackMixRefIdeal (m : (ℓ : Loc Cert.BackMixRefIdeal.nD Cert.BackMixRefIdeal.τ Cert.BackMixRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdRefIdeal (m : (ℓ : Loc Cert.PleBwdRefIdeal.nD Cert.PleBwdRefIdeal.τ Cert.PleBwdRefIdeal.sig) → Buf (Elt Ideal) ℓ) : Prop :=
  True

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateRefIdeal (m : (ℓ : Loc Cert.ConvGateRefIdeal.nD Cert.ConvGateRefIdeal.τ Cert.ConvGateRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2)
      ∧ r.2.mem ((c.tc : Thread Cert.NormFfn.nD Cert.NormFfn.τ).loc Cert.NormFfn.main_arg3) = m ((c.tc : Thread Cert.NormFfn.nD Cert.NormFfn.τ).loc Cert.NormFfn.main_arg3)
      ∧ r.2.mem ((c.tc : Thread Cert.NormFfn.nD Cert.NormFfn.τ).loc Cert.NormFfn.main_arg4) = m ((c.tc : Thread Cert.NormFfn.nD Cert.NormFfn.τ).loc Cert.NormFfn.main_arg4))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
      ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4))
      ∧ r.2.sem = fun _ => 0)

def quiescent_NormFfnIdeal_pre_finite_ffn [hNormFfnIdeal : Cert.NormFfnIdeal.Facts] [hPre_finite_ffn : Cert.Pre_finite_ffn.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal_finite_ffn m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
      ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3)
      ∧ r.2.mem ((c.tc : Thread Cert.NormFfnRefIdeal.nD Cert.NormFfnRefIdeal.τ).loc Cert.NormFfnRefIdeal.main_arg4) = m ((c.tc : Thread Cert.NormFfnRefIdeal.nD Cert.NormFfnRefIdeal.τ).loc Cert.NormFfnRefIdeal.main_arg4))
      ∧ r.2.sem = fun _ => 0)

def quiescent_NormFfnRefIdeal_pre_finite_ffn [hNormFfnRefIdeal : Cert.NormFfnRefIdeal.Facts] [hPre_finite_ffn : Cert.Pre_finite_ffn.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal_finite_ffn m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3)
      ∧ r.2.mem ((c.tc : Thread Cert.NormFfnRefIdeal.nD Cert.NormFfnRefIdeal.τ).loc Cert.NormFfnRefIdeal.main_arg4) = m ((c.tc : Thread Cert.NormFfnRefIdeal.nD Cert.NormFfnRefIdeal.τ).loc Cert.NormFfnRefIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_finite_sgu [hSguIdeal : Cert.SguIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite_sgu m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_NormAttn [hNormAttn : Cert.NormAttn.Facts] : Prop :=
  ∀ (m : (ℓ : Loc Cert.NormAttn.nD Cert.NormAttn.τ Cert.NormAttn.sig) → Buf (Elt Bits) ℓ) (g : Dev Cert.NormAttn.nD → PrngReg), Pre_NormAttn m →
    θ_run (Cert.NormAttn.defs (F := Bits)) (onTc (τ := Cert.NormAttn.τ) (Cert.NormAttn.main (F := Bits))) ⟨m, fun _ => 0, g⟩ (fun r => (∀ c : Dev Cert.NormAttn.nD,
      r.2.mem ((c.tc : Thread Cert.NormAttn.nD Cert.NormAttn.τ).loc Cert.NormAttn.main_arg0) = m ((c.tc : Thread Cert.NormAttn.nD Cert.NormAttn.τ).loc Cert.NormAttn.main_arg0)
      ∧ r.2.mem ((c.tc : Thread Cert.NormAttn.nD Cert.NormAttn.τ).loc Cert.NormAttn.main_arg1) = m ((c.tc : Thread Cert.NormAttn.nD Cert.NormAttn.τ).loc Cert.NormAttn.main_arg1)
      ∧ r.2.mem ((c.tc : Thread Cert.NormAttn.nD Cert.NormAttn.τ).loc Cert.NormAttn.main_arg2) = m ((c.tc : Thread Cert.NormAttn.nD Cert.NormAttn.τ).loc Cert.NormAttn.main_arg2)
      ∧ r.2.mem ((c.tc : Thread Cert.NormAttn.nD Cert.NormAttn.τ).loc Cert.NormAttn.main_arg3) = m ((c.tc : Thread Cert.NormAttn.nD Cert.NormAttn.τ).loc Cert.NormAttn.main_arg3)
      ∧ r.2.mem ((c.tc : Thread Cert.NormAttn.nD Cert.NormAttn.τ).loc Cert.NormAttn.main_arg4) = m ((c.tc : Thread Cert.NormAttn.nD Cert.NormAttn.τ).loc Cert.NormAttn.main_arg4))
      ∧ r.2.sem = fun _ => 0)

def quiescent_NormAttnIdeal [hNormAttnIdeal : Cert.NormAttnIdeal.Facts] : Prop :=
  ∀ (m : (ℓ : Loc Cert.NormAttnIdeal.nD Cert.NormAttnIdeal.τ Cert.NormAttnIdeal.sig) → Buf (Elt Ideal) ℓ) (g : Dev Cert.NormAttnIdeal.nD → PrngReg), Pre_NormAttnIdeal m →
    θ_run (Cert.NormAttnIdeal.defs (F := Ideal)) (onTc (τ := Cert.NormAttnIdeal.τ) (Cert.NormAttnIdeal.main (F := Ideal))) ⟨m, fun _ => 0, g⟩ (fun r => (∀ c : Dev Cert.NormAttnIdeal.nD,
      r.2.mem ((c.tc : Thread Cert.NormAttnIdeal.nD Cert.NormAttnIdeal.τ).loc Cert.NormAttnIdeal.main_arg0) = m ((c.tc : Thread Cert.NormAttnIdeal.nD Cert.NormAttnIdeal.τ).loc Cert.NormAttnIdeal.main_arg0)
      ∧ r.2.mem ((c.tc : Thread Cert.NormAttnIdeal.nD Cert.NormAttnIdeal.τ).loc Cert.NormAttnIdeal.main_arg1) = m ((c.tc : Thread Cert.NormAttnIdeal.nD Cert.NormAttnIdeal.τ).loc Cert.NormAttnIdeal.main_arg1)
      ∧ r.2.mem ((c.tc : Thread Cert.NormAttnIdeal.nD Cert.NormAttnIdeal.τ).loc Cert.NormAttnIdeal.main_arg2) = m ((c.tc : Thread Cert.NormAttnIdeal.nD Cert.NormAttnIdeal.τ).loc Cert.NormAttnIdeal.main_arg2)
      ∧ r.2.mem ((c.tc : Thread Cert.NormAttnIdeal.nD Cert.NormAttnIdeal.τ).loc Cert.NormAttnIdeal.main_arg3) = m ((c.tc : Thread Cert.NormAttnIdeal.nD Cert.NormAttnIdeal.τ).loc Cert.NormAttnIdeal.main_arg3)
      ∧ r.2.mem ((c.tc : Thread Cert.NormAttnIdeal.nD Cert.NormAttnIdeal.τ).loc Cert.NormAttnIdeal.main_arg4) = m ((c.tc : Thread Cert.NormAttnIdeal.nD Cert.NormAttnIdeal.τ).loc Cert.NormAttnIdeal.main_arg4))
      ∧ r.2.sem = fun _ => 0)

def quiescent_NormAttnIdeal_pre_finite_attn [hNormAttnIdeal : Cert.NormAttnIdeal.Facts] [hPre_finite_attn : Cert.Pre_finite_attn.Facts] : Prop :=
  ∀ (m : (ℓ : Loc Cert.NormAttnIdeal.nD Cert.NormAttnIdeal.τ Cert.NormAttnIdeal.sig) → Buf (Elt Ideal) ℓ) (g : Dev Cert.NormAttnIdeal.nD → PrngReg), Pre_NormAttnIdeal_finite_attn m →
    θ_run (Cert.NormAttnIdeal.defs (F := Ideal)) (onTc (τ := Cert.NormAttnIdeal.τ) (Cert.NormAttnIdeal.main (F := Ideal))) ⟨m, fun _ => 0, g⟩ (fun r => (∀ c : Dev Cert.NormAttnIdeal.nD,
      r.2.mem ((c.tc : Thread Cert.NormAttnIdeal.nD Cert.NormAttnIdeal.τ).loc Cert.NormAttnIdeal.main_arg0) = m ((c.tc : Thread Cert.NormAttnIdeal.nD Cert.NormAttnIdeal.τ).loc Cert.NormAttnIdeal.main_arg0)
      ∧ r.2.mem ((c.tc : Thread Cert.NormAttnIdeal.nD Cert.NormAttnIdeal.τ).loc Cert.NormAttnIdeal.main_arg1) = m ((c.tc : Thread Cert.NormAttnIdeal.nD Cert.NormAttnIdeal.τ).loc Cert.NormAttnIdeal.main_arg1)
      ∧ r.2.mem ((c.tc : Thread Cert.NormAttnIdeal.nD Cert.NormAttnIdeal.τ).loc Cert.NormAttnIdeal.main_arg2) = m ((c.tc : Thread Cert.NormAttnIdeal.nD Cert.NormAttnIdeal.τ).loc Cert.NormAttnIdeal.main_arg2)
      ∧ r.2.mem ((c.tc : Thread Cert.NormAttnIdeal.nD Cert.NormAttnIdeal.τ).loc Cert.NormAttnIdeal.main_arg3) = m ((c.tc : Thread Cert.NormAttnIdeal.nD Cert.NormAttnIdeal.τ).loc Cert.NormAttnIdeal.main_arg3)
      ∧ r.2.mem ((c.tc : Thread Cert.NormAttnIdeal.nD Cert.NormAttnIdeal.τ).loc Cert.NormAttnIdeal.main_arg4) = m ((c.tc : Thread Cert.NormAttnIdeal.nD Cert.NormAttnIdeal.τ).loc Cert.NormAttnIdeal.main_arg4))
      ∧ r.2.sem = fun _ => 0)

def quiescent_NormAttnRefIdeal [hNormAttnRefIdeal : Cert.NormAttnRefIdeal.Facts] : Prop :=
  ∀ (m : (ℓ : Loc Cert.NormAttnRefIdeal.nD Cert.NormAttnRefIdeal.τ Cert.NormAttnRefIdeal.sig) → Buf (Elt Ideal) ℓ) (g : Dev Cert.NormAttnRefIdeal.nD → PrngReg), Pre_NormAttnRefIdeal m →
    θ_run (Cert.NormAttnRefIdeal.defs (F := Ideal)) (onTc (τ := Cert.NormAttnRefIdeal.τ) (Cert.NormAttnRefIdeal.main (F := Ideal))) ⟨m, fun _ => 0, g⟩ (fun r => (∀ c : Dev Cert.NormAttnRefIdeal.nD,
      r.2.mem ((c.tc : Thread Cert.NormAttnRefIdeal.nD Cert.NormAttnRefIdeal.τ).loc Cert.NormAttnRefIdeal.main_arg0) = m ((c.tc : Thread Cert.NormAttnRefIdeal.nD Cert.NormAttnRefIdeal.τ).loc Cert.NormAttnRefIdeal.main_arg0)
      ∧ r.2.mem ((c.tc : Thread Cert.NormAttnRefIdeal.nD Cert.NormAttnRefIdeal.τ).loc Cert.NormAttnRefIdeal.main_arg1) = m ((c.tc : Thread Cert.NormAttnRefIdeal.nD Cert.NormAttnRefIdeal.τ).loc Cert.NormAttnRefIdeal.main_arg1)
      ∧ r.2.mem ((c.tc : Thread Cert.NormAttnRefIdeal.nD Cert.NormAttnRefIdeal.τ).loc Cert.NormAttnRefIdeal.main_arg2) = m ((c.tc : Thread Cert.NormAttnRefIdeal.nD Cert.NormAttnRefIdeal.τ).loc Cert.NormAttnRefIdeal.main_arg2)
      ∧ r.2.mem ((c.tc : Thread Cert.NormAttnRefIdeal.nD Cert.NormAttnRefIdeal.τ).loc Cert.NormAttnRefIdeal.main_arg3) = m ((c.tc : Thread Cert.NormAttnRefIdeal.nD Cert.NormAttnRefIdeal.τ).loc Cert.NormAttnRefIdeal.main_arg3)
      ∧ r.2.mem ((c.tc : Thread Cert.NormAttnRefIdeal.nD Cert.NormAttnRefIdeal.τ).loc Cert.NormAttnRefIdeal.main_arg4) = m ((c.tc : Thread Cert.NormAttnRefIdeal.nD Cert.NormAttnRefIdeal.τ).loc Cert.NormAttnRefIdeal.main_arg4))
      ∧ r.2.sem = fun _ => 0)

def quiescent_NormAttnRefIdeal_pre_finite_attn [hNormAttnRefIdeal : Cert.NormAttnRefIdeal.Facts] [hPre_finite_attn : Cert.Pre_finite_attn.Facts] : Prop :=
  ∀ (m : (ℓ : Loc Cert.NormAttnRefIdeal.nD Cert.NormAttnRefIdeal.τ Cert.NormAttnRefIdeal.sig) → Buf (Elt Ideal) ℓ) (g : Dev Cert.NormAttnRefIdeal.nD → PrngReg), Pre_NormAttnRefIdeal_finite_attn m →
    θ_run (Cert.NormAttnRefIdeal.defs (F := Ideal)) (onTc (τ := Cert.NormAttnRefIdeal.τ) (Cert.NormAttnRefIdeal.main (F := Ideal))) ⟨m, fun _ => 0, g⟩ (fun r => (∀ c : Dev Cert.NormAttnRefIdeal.nD,
      r.2.mem ((c.tc : Thread Cert.NormAttnRefIdeal.nD Cert.NormAttnRefIdeal.τ).loc Cert.NormAttnRefIdeal.main_arg0) = m ((c.tc : Thread Cert.NormAttnRefIdeal.nD Cert.NormAttnRefIdeal.τ).loc Cert.NormAttnRefIdeal.main_arg0)
      ∧ r.2.mem ((c.tc : Thread Cert.NormAttnRefIdeal.nD Cert.NormAttnRefIdeal.τ).loc Cert.NormAttnRefIdeal.main_arg1) = m ((c.tc : Thread Cert.NormAttnRefIdeal.nD Cert.NormAttnRefIdeal.τ).loc Cert.NormAttnRefIdeal.main_arg1)
      ∧ r.2.mem ((c.tc : Thread Cert.NormAttnRefIdeal.nD Cert.NormAttnRefIdeal.τ).loc Cert.NormAttnRefIdeal.main_arg2) = m ((c.tc : Thread Cert.NormAttnRefIdeal.nD Cert.NormAttnRefIdeal.τ).loc Cert.NormAttnRefIdeal.main_arg2)
      ∧ r.2.mem ((c.tc : Thread Cert.NormAttnRefIdeal.nD Cert.NormAttnRefIdeal.τ).loc Cert.NormAttnRefIdeal.main_arg3) = m ((c.tc : Thread Cert.NormAttnRefIdeal.nD Cert.NormAttnRefIdeal.τ).loc Cert.NormAttnRefIdeal.main_arg3)
      ∧ r.2.mem ((c.tc : Thread Cert.NormAttnRefIdeal.nD Cert.NormAttnRefIdeal.τ).loc Cert.NormAttnRefIdeal.main_arg4) = m ((c.tc : Thread Cert.NormAttnRefIdeal.nD Cert.NormAttnRefIdeal.τ).loc Cert.NormAttnRefIdeal.main_arg4))
      ∧ r.2.sem = fun _ => 0)

def quiescent_NormPle [hNormPle : Cert.NormPle.Facts] : Prop :=
  ∀ (m : (ℓ : Loc Cert.NormPle.nD Cert.NormPle.τ Cert.NormPle.sig) → Buf (Elt Bits) ℓ) (g : Dev Cert.NormPle.nD → PrngReg), Pre_NormPle m →
    θ_run (Cert.NormPle.defs (F := Bits)) (onTc (τ := Cert.NormPle.τ) (Cert.NormPle.main (F := Bits))) ⟨m, fun _ => 0, g⟩ (fun r => (∀ c : Dev Cert.NormPle.nD,
      r.2.mem ((c.tc : Thread Cert.NormPle.nD Cert.NormPle.τ).loc Cert.NormPle.main_arg0) = m ((c.tc : Thread Cert.NormPle.nD Cert.NormPle.τ).loc Cert.NormPle.main_arg0)
      ∧ r.2.mem ((c.tc : Thread Cert.NormPle.nD Cert.NormPle.τ).loc Cert.NormPle.main_arg1) = m ((c.tc : Thread Cert.NormPle.nD Cert.NormPle.τ).loc Cert.NormPle.main_arg1)
      ∧ r.2.mem ((c.tc : Thread Cert.NormPle.nD Cert.NormPle.τ).loc Cert.NormPle.main_arg2) = m ((c.tc : Thread Cert.NormPle.nD Cert.NormPle.τ).loc Cert.NormPle.main_arg2)
      ∧ r.2.mem ((c.tc : Thread Cert.NormPle.nD Cert.NormPle.τ).loc Cert.NormPle.main_arg3) = m ((c.tc : Thread Cert.NormPle.nD Cert.NormPle.τ).loc Cert.NormPle.main_arg3)
      ∧ r.2.mem ((c.tc : Thread Cert.NormPle.nD Cert.NormPle.τ).loc Cert.NormPle.main_arg4) = m ((c.tc : Thread Cert.NormPle.nD Cert.NormPle.τ).loc Cert.NormPle.main_arg4))
      ∧ r.2.sem = fun _ => 0)

def quiescent_NormPleIdeal [hNormPleIdeal : Cert.NormPleIdeal.Facts] : Prop :=
  ∀ (m : (ℓ : Loc Cert.NormPleIdeal.nD Cert.NormPleIdeal.τ Cert.NormPleIdeal.sig) → Buf (Elt Ideal) ℓ) (g : Dev Cert.NormPleIdeal.nD → PrngReg), Pre_NormPleIdeal m →
    θ_run (Cert.NormPleIdeal.defs (F := Ideal)) (onTc (τ := Cert.NormPleIdeal.τ) (Cert.NormPleIdeal.main (F := Ideal))) ⟨m, fun _ => 0, g⟩ (fun r => (∀ c : Dev Cert.NormPleIdeal.nD,
      r.2.mem ((c.tc : Thread Cert.NormPleIdeal.nD Cert.NormPleIdeal.τ).loc Cert.NormPleIdeal.main_arg0) = m ((c.tc : Thread Cert.NormPleIdeal.nD Cert.NormPleIdeal.τ).loc Cert.NormPleIdeal.main_arg0)
      ∧ r.2.mem ((c.tc : Thread Cert.NormPleIdeal.nD Cert.NormPleIdeal.τ).loc Cert.NormPleIdeal.main_arg1) = m ((c.tc : Thread Cert.NormPleIdeal.nD Cert.NormPleIdeal.τ).loc Cert.NormPleIdeal.main_arg1)
      ∧ r.2.mem ((c.tc : Thread Cert.NormPleIdeal.nD Cert.NormPleIdeal.τ).loc Cert.NormPleIdeal.main_arg2) = m ((c.tc : Thread Cert.NormPleIdeal.nD Cert.NormPleIdeal.τ).loc Cert.NormPleIdeal.main_arg2)
      ∧ r.2.mem ((c.tc : Thread Cert.NormPleIdeal.nD Cert.NormPleIdeal.τ).loc Cert.NormPleIdeal.main_arg3) = m ((c.tc : Thread Cert.NormPleIdeal.nD Cert.NormPleIdeal.τ).loc Cert.NormPleIdeal.main_arg3)
      ∧ r.2.mem ((c.tc : Thread Cert.NormPleIdeal.nD Cert.NormPleIdeal.τ).loc Cert.NormPleIdeal.main_arg4) = m ((c.tc : Thread Cert.NormPleIdeal.nD Cert.NormPleIdeal.τ).loc Cert.NormPleIdeal.main_arg4))
      ∧ r.2.sem = fun _ => 0)

def quiescent_NormPleIdeal_pre_finite_ple [hNormPleIdeal : Cert.NormPleIdeal.Facts] [hPre_finite_ple : Cert.Pre_finite_ple.Facts] : Prop :=
  ∀ (m : (ℓ : Loc Cert.NormPleIdeal.nD Cert.NormPleIdeal.τ Cert.NormPleIdeal.sig) → Buf (Elt Ideal) ℓ) (g : Dev Cert.NormPleIdeal.nD → PrngReg), Pre_NormPleIdeal_finite_ple m →
    θ_run (Cert.NormPleIdeal.defs (F := Ideal)) (onTc (τ := Cert.NormPleIdeal.τ) (Cert.NormPleIdeal.main (F := Ideal))) ⟨m, fun _ => 0, g⟩ (fun r => (∀ c : Dev Cert.NormPleIdeal.nD,
      r.2.mem ((c.tc : Thread Cert.NormPleIdeal.nD Cert.NormPleIdeal.τ).loc Cert.NormPleIdeal.main_arg0) = m ((c.tc : Thread Cert.NormPleIdeal.nD Cert.NormPleIdeal.τ).loc Cert.NormPleIdeal.main_arg0)
      ∧ r.2.mem ((c.tc : Thread Cert.NormPleIdeal.nD Cert.NormPleIdeal.τ).loc Cert.NormPleIdeal.main_arg1) = m ((c.tc : Thread Cert.NormPleIdeal.nD Cert.NormPleIdeal.τ).loc Cert.NormPleIdeal.main_arg1)
      ∧ r.2.mem ((c.tc : Thread Cert.NormPleIdeal.nD Cert.NormPleIdeal.τ).loc Cert.NormPleIdeal.main_arg2) = m ((c.tc : Thread Cert.NormPleIdeal.nD Cert.NormPleIdeal.τ).loc Cert.NormPleIdeal.main_arg2)
      ∧ r.2.mem ((c.tc : Thread Cert.NormPleIdeal.nD Cert.NormPleIdeal.τ).loc Cert.NormPleIdeal.main_arg3) = m ((c.tc : Thread Cert.NormPleIdeal.nD Cert.NormPleIdeal.τ).loc Cert.NormPleIdeal.main_arg3)
      ∧ r.2.mem ((c.tc : Thread Cert.NormPleIdeal.nD Cert.NormPleIdeal.τ).loc Cert.NormPleIdeal.main_arg4) = m ((c.tc : Thread Cert.NormPleIdeal.nD Cert.NormPleIdeal.τ).loc Cert.NormPleIdeal.main_arg4))
      ∧ r.2.sem = fun _ => 0)

def quiescent_NormPleRefIdeal [hNormPleRefIdeal : Cert.NormPleRefIdeal.Facts] : Prop :=
  ∀ (m : (ℓ : Loc Cert.NormPleRefIdeal.nD Cert.NormPleRefIdeal.τ Cert.NormPleRefIdeal.sig) → Buf (Elt Ideal) ℓ) (g : Dev Cert.NormPleRefIdeal.nD → PrngReg), Pre_NormPleRefIdeal m →
    θ_run (Cert.NormPleRefIdeal.defs (F := Ideal)) (onTc (τ := Cert.NormPleRefIdeal.τ) (Cert.NormPleRefIdeal.main (F := Ideal))) ⟨m, fun _ => 0, g⟩ (fun r => (∀ c : Dev Cert.NormPleRefIdeal.nD,
      r.2.mem ((c.tc : Thread Cert.NormPleRefIdeal.nD Cert.NormPleRefIdeal.τ).loc Cert.NormPleRefIdeal.main_arg0) = m ((c.tc : Thread Cert.NormPleRefIdeal.nD Cert.NormPleRefIdeal.τ).loc Cert.NormPleRefIdeal.main_arg0)
      ∧ r.2.mem ((c.tc : Thread Cert.NormPleRefIdeal.nD Cert.NormPleRefIdeal.τ).loc Cert.NormPleRefIdeal.main_arg1) = m ((c.tc : Thread Cert.NormPleRefIdeal.nD Cert.NormPleRefIdeal.τ).loc Cert.NormPleRefIdeal.main_arg1)
      ∧ r.2.mem ((c.tc : Thread Cert.NormPleRefIdeal.nD Cert.NormPleRefIdeal.τ).loc Cert.NormPleRefIdeal.main_arg2) = m ((c.tc : Thread Cert.NormPleRefIdeal.nD Cert.NormPleRefIdeal.τ).loc Cert.NormPleRefIdeal.main_arg2)
      ∧ r.2.mem ((c.tc : Thread Cert.NormPleRefIdeal.nD Cert.NormPleRefIdeal.τ).loc Cert.NormPleRefIdeal.main_arg3) = m ((c.tc : Thread Cert.NormPleRefIdeal.nD Cert.NormPleRefIdeal.τ).loc Cert.NormPleRefIdeal.main_arg3)
      ∧ r.2.mem ((c.tc : Thread Cert.NormPleRefIdeal.nD Cert.NormPleRefIdeal.τ).loc Cert.NormPleRefIdeal.main_arg4) = m ((c.tc : Thread Cert.NormPleRefIdeal.nD Cert.NormPleRefIdeal.τ).loc Cert.NormPleRefIdeal.main_arg4))
      ∧ r.2.sem = fun _ => 0)

def quiescent_NormPleRefIdeal_pre_finite_ple [hNormPleRefIdeal : Cert.NormPleRefIdeal.Facts] [hPre_finite_ple : Cert.Pre_finite_ple.Facts] : Prop :=
  ∀ (m : (ℓ : Loc Cert.NormPleRefIdeal.nD Cert.NormPleRefIdeal.τ Cert.NormPleRefIdeal.sig) → Buf (Elt Ideal) ℓ) (g : Dev Cert.NormPleRefIdeal.nD → PrngReg), Pre_NormPleRefIdeal_finite_ple m →
    θ_run (Cert.NormPleRefIdeal.defs (F := Ideal)) (onTc (τ := Cert.NormPleRefIdeal.τ) (Cert.NormPleRefIdeal.main (F := Ideal))) ⟨m, fun _ => 0, g⟩ (fun r => (∀ c : Dev Cert.NormPleRefIdeal.nD,
      r.2.mem ((c.tc : Thread Cert.NormPleRefIdeal.nD Cert.NormPleRefIdeal.τ).loc Cert.NormPleRefIdeal.main_arg0) = m ((c.tc : Thread Cert.NormPleRefIdeal.nD Cert.NormPleRefIdeal.τ).loc Cert.NormPleRefIdeal.main_arg0)
      ∧ r.2.mem ((c.tc : Thread Cert.NormPleRefIdeal.nD Cert.NormPleRefIdeal.τ).loc Cert.NormPleRefIdeal.main_arg1) = m ((c.tc : Thread Cert.NormPleRefIdeal.nD Cert.NormPleRefIdeal.τ).loc Cert.NormPleRefIdeal.main_arg1)
      ∧ r.2.mem ((c.tc : Thread Cert.NormPleRefIdeal.nD Cert.NormPleRefIdeal.τ).loc Cert.NormPleRefIdeal.main_arg2) = m ((c.tc : Thread Cert.NormPleRefIdeal.nD Cert.NormPleRefIdeal.τ).loc Cert.NormPleRefIdeal.main_arg2)
      ∧ r.2.mem ((c.tc : Thread Cert.NormPleRefIdeal.nD Cert.NormPleRefIdeal.τ).loc Cert.NormPleRefIdeal.main_arg3) = m ((c.tc : Thread Cert.NormPleRefIdeal.nD Cert.NormPleRefIdeal.τ).loc Cert.NormPleRefIdeal.main_arg3)
      ∧ r.2.mem ((c.tc : Thread Cert.NormPleRefIdeal.nD Cert.NormPleRefIdeal.τ).loc Cert.NormPleRefIdeal.main_arg4) = m ((c.tc : Thread Cert.NormPleRefIdeal.nD Cert.NormPleRefIdeal.τ).loc Cert.NormPleRefIdeal.main_arg4))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_GradProj [hGradProj : Cert.GradProj.Facts] : Prop :=
  ∀ (m : (ℓ : Loc Cert.GradProj.nD Cert.GradProj.τ Cert.GradProj.sig) → Buf (Elt Bits) ℓ) (g : Dev Cert.GradProj.nD → PrngReg), Pre_GradProj m →
    θ_run (Cert.GradProj.defs (F := Bits)) (onTc (τ := Cert.GradProj.τ) (Cert.GradProj.main (F := Bits))) ⟨m, fun _ => 0, g⟩ (fun r => (∀ c : Dev Cert.GradProj.nD,
      r.2.mem ((c.tc : Thread Cert.GradProj.nD Cert.GradProj.τ).loc Cert.GradProj.main_arg0) = m ((c.tc : Thread Cert.GradProj.nD Cert.GradProj.τ).loc Cert.GradProj.main_arg0)
      ∧ r.2.mem ((c.tc : Thread Cert.GradProj.nD Cert.GradProj.τ).loc Cert.GradProj.main_arg1) = m ((c.tc : Thread Cert.GradProj.nD Cert.GradProj.τ).loc Cert.GradProj.main_arg1))
      ∧ r.2.sem = fun _ => 0)

def quiescent_GradProjIdeal [hGradProjIdeal : Cert.GradProjIdeal.Facts] : Prop :=
  ∀ (m : (ℓ : Loc Cert.GradProjIdeal.nD Cert.GradProjIdeal.τ Cert.GradProjIdeal.sig) → Buf (Elt Ideal) ℓ) (g : Dev Cert.GradProjIdeal.nD → PrngReg), Pre_GradProjIdeal m →
    θ_run (Cert.GradProjIdeal.defs (F := Ideal)) (onTc (τ := Cert.GradProjIdeal.τ) (Cert.GradProjIdeal.main (F := Ideal))) ⟨m, fun _ => 0, g⟩ (fun r => (∀ c : Dev Cert.GradProjIdeal.nD,
      r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
      ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ r.2.sem = fun _ => 0)

def quiescent_GradProjRefIdeal [hGradProjRefIdeal : Cert.GradProjRefIdeal.Facts] : Prop :=
  ∀ (m : (ℓ : Loc Cert.GradProjRefIdeal.nD Cert.GradProjRefIdeal.τ Cert.GradProjRefIdeal.sig) → Buf (Elt Ideal) ℓ) (g : Dev Cert.GradProjRefIdeal.nD → PrngReg), Pre_GradProjRefIdeal m →
    θ_run (Cert.GradProjRefIdeal.defs (F := Ideal)) (onTc (τ := Cert.GradProjRefIdeal.τ) (Cert.GradProjRefIdeal.main (F := Ideal))) ⟨m, fun _ => 0, g⟩ (fun r => (∀ c : Dev Cert.GradProjRefIdeal.nD,
      r.2.mem ((c.tc : Thread Cert.GradProjRefIdeal.nD Cert.GradProjRefIdeal.τ).loc Cert.GradProjRefIdeal.main_arg0) = m ((c.tc : Thread Cert.GradProjRefIdeal.nD Cert.GradProjRefIdeal.τ).loc Cert.GradProjRefIdeal.main_arg0)
      ∧ r.2.mem ((c.tc : Thread Cert.GradProjRefIdeal.nD Cert.GradProjRefIdeal.τ).loc Cert.GradProjRefIdeal.main_arg1) = m ((c.tc : Thread Cert.GradProjRefIdeal.nD Cert.GradProjRefIdeal.τ).loc Cert.GradProjRefIdeal.main_arg1))
      ∧ r.2.sem = fun _ => 0)

def quiescent_BackAct [hBackAct : Cert.BackAct.Facts] : Prop :=
  ∀ (m : (ℓ : Loc Cert.BackAct.nD Cert.BackAct.τ Cert.BackAct.sig) → Buf (Elt Bits) ℓ) (g : Dev Cert.BackAct.nD → PrngReg), Pre_BackAct m →
    θ_run (Cert.BackAct.defs (F := Bits)) (onTc (τ := Cert.BackAct.τ) (Cert.BackAct.main (F := Bits))) ⟨m, fun _ => 0, g⟩ (fun r => (∀ c : Dev Cert.BackAct.nD,
      r.2.mem ((c.tc : Thread Cert.BackAct.nD Cert.BackAct.τ).loc Cert.BackAct.main_arg0) = m ((c.tc : Thread Cert.BackAct.nD Cert.BackAct.τ).loc Cert.BackAct.main_arg0)
      ∧ r.2.mem ((c.tc : Thread Cert.BackAct.nD Cert.BackAct.τ).loc Cert.BackAct.main_arg1) = m ((c.tc : Thread Cert.BackAct.nD Cert.BackAct.τ).loc Cert.BackAct.main_arg1))
      ∧ r.2.sem = fun _ => 0)

def quiescent_BackActIdeal [hBackActIdeal : Cert.BackActIdeal.Facts] : Prop :=
  ∀ (m : (ℓ : Loc Cert.BackActIdeal.nD Cert.BackActIdeal.τ Cert.BackActIdeal.sig) → Buf (Elt Ideal) ℓ) (g : Dev Cert.BackActIdeal.nD → PrngReg), Pre_BackActIdeal m →
    θ_run (Cert.BackActIdeal.defs (F := Ideal)) (onTc (τ := Cert.BackActIdeal.τ) (Cert.BackActIdeal.main (F := Ideal))) ⟨m, fun _ => 0, g⟩ (fun r => (∀ c : Dev Cert.BackActIdeal.nD,
      r.2.mem ((c.tc : Thread Cert.BackActIdeal.nD Cert.BackActIdeal.τ).loc Cert.BackActIdeal.main_arg0) = m ((c.tc : Thread Cert.BackActIdeal.nD Cert.BackActIdeal.τ).loc Cert.BackActIdeal.main_arg0)
      ∧ r.2.mem ((c.tc : Thread Cert.BackActIdeal.nD Cert.BackActIdeal.τ).loc Cert.BackActIdeal.main_arg1) = m ((c.tc : Thread Cert.BackActIdeal.nD Cert.BackActIdeal.τ).loc Cert.BackActIdeal.main_arg1))
      ∧ r.2.sem = fun _ => 0)

def quiescent_BackActRefIdeal [hBackActRefIdeal : Cert.BackActRefIdeal.Facts] : Prop :=
  ∀ (m : (ℓ : Loc Cert.BackActRefIdeal.nD Cert.BackActRefIdeal.τ Cert.BackActRefIdeal.sig) → Buf (Elt Ideal) ℓ) (g : Dev Cert.BackActRefIdeal.nD → PrngReg), Pre_BackActRefIdeal m →
    θ_run (Cert.BackActRefIdeal.defs (F := Ideal)) (onTc (τ := Cert.BackActRefIdeal.τ) (Cert.BackActRefIdeal.main (F := Ideal))) ⟨m, fun _ => 0, g⟩ (fun r => (∀ c : Dev Cert.BackActRefIdeal.nD,
      r.2.mem ((c.tc : Thread Cert.BackActRefIdeal.nD Cert.BackActRefIdeal.τ).loc Cert.BackActRefIdeal.main_arg0) = m ((c.tc : Thread Cert.BackActRefIdeal.nD Cert.BackActRefIdeal.τ).loc Cert.BackActRefIdeal.main_arg0)
      ∧ r.2.mem ((c.tc : Thread Cert.BackActRefIdeal.nD Cert.BackActRefIdeal.τ).loc Cert.BackActRefIdeal.main_arg1) = m ((c.tc : Thread Cert.BackActRefIdeal.nD Cert.BackActRefIdeal.τ).loc Cert.BackActRefIdeal.main_arg1))
      ∧ r.2.sem = fun _ => 0)

def quiescent_BackMix [hBackMix : Cert.BackMix.Facts] : Prop :=
  ∀ (m : (ℓ : Loc Cert.BackMix.nD Cert.BackMix.τ Cert.BackMix.sig) → Buf (Elt Bits) ℓ) (g : Dev Cert.BackMix.nD → PrngReg), Pre_BackMix m →
    θ_run (Cert.BackMix.defs (F := Bits)) (onTc (τ := Cert.BackMix.τ) (Cert.BackMix.main (F := Bits))) ⟨m, fun _ => 0, g⟩ (fun r => (∀ c : Dev Cert.BackMix.nD,
      r.2.mem ((c.tc : Thread Cert.BackMix.nD Cert.BackMix.τ).loc Cert.BackMix.main_arg0) = m ((c.tc : Thread Cert.BackMix.nD Cert.BackMix.τ).loc Cert.BackMix.main_arg0)
      ∧ r.2.mem ((c.tc : Thread Cert.BackMix.nD Cert.BackMix.τ).loc Cert.BackMix.main_arg1) = m ((c.tc : Thread Cert.BackMix.nD Cert.BackMix.τ).loc Cert.BackMix.main_arg1))
      ∧ r.2.sem = fun _ => 0)

def quiescent_BackMixIdeal [hBackMixIdeal : Cert.BackMixIdeal.Facts] : Prop :=
  ∀ (m : (ℓ : Loc Cert.BackMixIdeal.nD Cert.BackMixIdeal.τ Cert.BackMixIdeal.sig) → Buf (Elt Ideal) ℓ) (g : Dev Cert.BackMixIdeal.nD → PrngReg), Pre_BackMixIdeal m →
    θ_run (Cert.BackMixIdeal.defs (F := Ideal)) (onTc (τ := Cert.BackMixIdeal.τ) (Cert.BackMixIdeal.main (F := Ideal))) ⟨m, fun _ => 0, g⟩ (fun r => (∀ c : Dev Cert.BackMixIdeal.nD,
      r.2.mem ((c.tc : Thread Cert.BackMixIdeal.nD Cert.BackMixIdeal.τ).loc Cert.BackMixIdeal.main_arg0) = m ((c.tc : Thread Cert.BackMixIdeal.nD Cert.BackMixIdeal.τ).loc Cert.BackMixIdeal.main_arg0)
      ∧ r.2.mem ((c.tc : Thread Cert.BackMixIdeal.nD Cert.BackMixIdeal.τ).loc Cert.BackMixIdeal.main_arg1) = m ((c.tc : Thread Cert.BackMixIdeal.nD Cert.BackMixIdeal.τ).loc Cert.BackMixIdeal.main_arg1))
      ∧ r.2.sem = fun _ => 0)

def quiescent_BackMixRefIdeal [hBackMixRefIdeal : Cert.BackMixRefIdeal.Facts] : Prop :=
  ∀ (m : (ℓ : Loc Cert.BackMixRefIdeal.nD Cert.BackMixRefIdeal.τ Cert.BackMixRefIdeal.sig) → Buf (Elt Ideal) ℓ) (g : Dev Cert.BackMixRefIdeal.nD → PrngReg), Pre_BackMixRefIdeal m →
    θ_run (Cert.BackMixRefIdeal.defs (F := Ideal)) (onTc (τ := Cert.BackMixRefIdeal.τ) (Cert.BackMixRefIdeal.main (F := Ideal))) ⟨m, fun _ => 0, g⟩ (fun r => (∀ c : Dev Cert.BackMixRefIdeal.nD,
      r.2.mem ((c.tc : Thread Cert.BackMixRefIdeal.nD Cert.BackMixRefIdeal.τ).loc Cert.BackMixRefIdeal.main_arg0) = m ((c.tc : Thread Cert.BackMixRefIdeal.nD Cert.BackMixRefIdeal.τ).loc Cert.BackMixRefIdeal.main_arg0)
      ∧ r.2.mem ((c.tc : Thread Cert.BackMixRefIdeal.nD Cert.BackMixRefIdeal.τ).loc Cert.BackMixRefIdeal.main_arg1) = m ((c.tc : Thread Cert.BackMixRefIdeal.nD Cert.BackMixRefIdeal.τ).loc Cert.BackMixRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_NormFfn_NormFfnIdeal : Prop :=
  True

def algebraic_NormFfnIdeal_NormFfnRefIdeal_pre_finite_ffn [hNormFfnIdeal : Cert.NormFfnIdeal.Facts] [hNormFfnRefIdeal : Cert.NormFfnRefIdeal.Facts] [hPre_finite_ffn : Cert.Pre_finite_ffn.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal_finite_ffn m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)
      ∧ m' ((c.tc : Thread Cert.NormFfnRefIdeal.nD Cert.NormFfnRefIdeal.τ).loc Cert.NormFfnRefIdeal.main_arg3) = m ((c.tc : Thread Cert.NormFfnIdeal.nD Cert.NormFfnIdeal.τ).loc Cert.NormFfnIdeal.main_arg3)
      ∧ m' ((c.tc : Thread Cert.NormFfnRefIdeal.nD Cert.NormFfnRefIdeal.τ).loc Cert.NormFfnRefIdeal.main_arg4) = m ((c.tc : Thread Cert.NormFfnIdeal.nD Cert.NormFfnIdeal.τ).loc Cert.NormFfnIdeal.main_arg4)) →
    ∃ (v0 : (c : Dev Cert.NormFfnIdeal.nD) → Buf (Elt Ideal) ((c.tc : Thread Cert.NormFfnIdeal.nD Cert.NormFfnIdeal.τ).loc Cert.NormFfnIdeal.main_v1_0)) (v1 : (c : Dev Cert.NormFfnIdeal.nD) → Buf (Elt Ideal) ((c.tc : Thread Cert.NormFfnIdeal.nD Cert.NormFfnIdeal.τ).loc Cert.NormFfnIdeal.main_v1_1)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v1_0) = v0 c
          ∧ r.2.mem ((c.tc : Thread Cert.NormFfnIdeal.nD Cert.NormFfnIdeal.τ).loc Cert.NormFfnIdeal.main_v1_1) = v1 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
          ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
          ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v42) = v0 c
          ∧ r.2.mem ((c.tc : Thread Cert.NormFfnRefIdeal.nD Cert.NormFfnRefIdeal.τ).loc Cert.NormFfnRefIdeal.main_v43) = v1 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2)
          ∧ r.2.mem ((c.tc : Thread Cert.NormFfnRefIdeal.nD Cert.NormFfnRefIdeal.τ).loc Cert.NormFfnRefIdeal.main_arg3) = m' ((c.tc : Thread Cert.NormFfnRefIdeal.nD Cert.NormFfnRefIdeal.τ).loc Cert.NormFfnRefIdeal.main_arg3)
          ∧ r.2.mem ((c.tc : Thread Cert.NormFfnRefIdeal.nD Cert.NormFfnRefIdeal.τ).loc Cert.NormFfnRefIdeal.main_arg4) = m' ((c.tc : Thread Cert.NormFfnRefIdeal.nD Cert.NormFfnRefIdeal.τ).loc Cert.NormFfnRefIdeal.main_arg4))

def preserves_Sgu_SguIdeal : Prop :=
  IdealRules.named_const.Statement Cert.SguIdeal.κ "three_a_c" .f32 0x3DDB33B6#32 ((241015141496493 / 2251799813685248 : ℝ) : EReal)

def algebraic_SguIdeal_SguRefIdeal_pre_finite_sgu [hSguIdeal : Cert.SguIdeal.Facts] [hSguRefIdeal : Cert.SguRefIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite_sgu m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v8_0)) (v1 : (c : Dev Cert.SguIdeal.nD) → Buf (Elt Ideal) ((c.tc : Thread Cert.SguIdeal.nD Cert.SguIdeal.τ).loc Cert.SguIdeal.main_v8_1)) (v2 : (c : Dev Cert.SguIdeal.nD) → Buf (Elt Ideal) ((c.tc : Thread Cert.SguIdeal.nD Cert.SguIdeal.τ).loc Cert.SguIdeal.main_v8_2)) (v3 : (c : Dev Cert.SguIdeal.nD) → Buf (Elt Ideal) ((c.tc : Thread Cert.SguIdeal.nD Cert.SguIdeal.τ).loc Cert.SguIdeal.main_v8_3)) (v4 : (c : Dev Cert.SguIdeal.nD) → Buf (Elt Ideal) ((c.tc : Thread Cert.SguIdeal.nD Cert.SguIdeal.τ).loc Cert.SguIdeal.main_v8_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v8_0) = v0 c
          ∧ r.2.mem ((c.tc : Thread Cert.SguIdeal.nD Cert.SguIdeal.τ).loc Cert.SguIdeal.main_v8_1) = v1 c
          ∧ r.2.mem ((c.tc : Thread Cert.SguIdeal.nD Cert.SguIdeal.τ).loc Cert.SguIdeal.main_v8_2) = v2 c
          ∧ r.2.mem ((c.tc : Thread Cert.SguIdeal.nD Cert.SguIdeal.τ).loc Cert.SguIdeal.main_v8_3) = v3 c
          ∧ r.2.mem ((c.tc : Thread Cert.SguIdeal.nD Cert.SguIdeal.τ).loc Cert.SguIdeal.main_v8_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v127) = v0 c
          ∧ r.2.mem ((c.tc : Thread Cert.SguRefIdeal.nD Cert.SguRefIdeal.τ).loc Cert.SguRefIdeal.main_v128) = v1 c
          ∧ r.2.mem ((c.tc : Thread Cert.SguRefIdeal.nD Cert.SguRefIdeal.τ).loc Cert.SguRefIdeal.main_v129) = v2 c
          ∧ r.2.mem ((c.tc : Thread Cert.SguRefIdeal.nD Cert.SguRefIdeal.τ).loc Cert.SguRefIdeal.main_v75) = v3 c
          ∧ r.2.mem ((c.tc : Thread Cert.SguRefIdeal.nD Cert.SguRefIdeal.τ).loc Cert.SguRefIdeal.main_v130) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_NormAttn_NormAttnIdeal : Prop :=
  True

def algebraic_NormAttnIdeal_NormAttnRefIdeal_pre_finite_attn [hNormAttnIdeal : Cert.NormAttnIdeal.Facts] [hNormAttnRefIdeal : Cert.NormAttnRefIdeal.Facts] [hPre_finite_attn : Cert.Pre_finite_attn.Facts] : Prop :=
  ∀ (m : (ℓ : Loc Cert.NormAttnIdeal.nD Cert.NormAttnIdeal.τ Cert.NormAttnIdeal.sig) → Buf (Elt Ideal) ℓ) (g : Dev Cert.NormAttnIdeal.nD → PrngReg)
    (m' : (ℓ : Loc Cert.NormAttnRefIdeal.nD Cert.NormAttnRefIdeal.τ Cert.NormAttnRefIdeal.sig) → Buf (Elt Ideal) ℓ) (g' : Dev Cert.NormAttnRefIdeal.nD → PrngReg), Pre_NormAttnIdeal_finite_attn m →
    (∀ c : Dev Cert.NormAttnIdeal.nD,
      m' ((c.tc : Thread Cert.NormAttnRefIdeal.nD Cert.NormAttnRefIdeal.τ).loc Cert.NormAttnRefIdeal.main_arg0) = m ((c.tc : Thread Cert.NormAttnIdeal.nD Cert.NormAttnIdeal.τ).loc Cert.NormAttnIdeal.main_arg0)
      ∧ m' ((c.tc : Thread Cert.NormAttnRefIdeal.nD Cert.NormAttnRefIdeal.τ).loc Cert.NormAttnRefIdeal.main_arg1) = m ((c.tc : Thread Cert.NormAttnIdeal.nD Cert.NormAttnIdeal.τ).loc Cert.NormAttnIdeal.main_arg1)
      ∧ m' ((c.tc : Thread Cert.NormAttnRefIdeal.nD Cert.NormAttnRefIdeal.τ).loc Cert.NormAttnRefIdeal.main_arg2) = m ((c.tc : Thread Cert.NormAttnIdeal.nD Cert.NormAttnIdeal.τ).loc Cert.NormAttnIdeal.main_arg2)
      ∧ m' ((c.tc : Thread Cert.NormAttnRefIdeal.nD Cert.NormAttnRefIdeal.τ).loc Cert.NormAttnRefIdeal.main_arg3) = m ((c.tc : Thread Cert.NormAttnIdeal.nD Cert.NormAttnIdeal.τ).loc Cert.NormAttnIdeal.main_arg3)
      ∧ m' ((c.tc : Thread Cert.NormAttnRefIdeal.nD Cert.NormAttnRefIdeal.τ).loc Cert.NormAttnRefIdeal.main_arg4) = m ((c.tc : Thread Cert.NormAttnIdeal.nD Cert.NormAttnIdeal.τ).loc Cert.NormAttnIdeal.main_arg4)) →
    ∃ (v0 : (c : Dev Cert.NormAttnIdeal.nD) → Buf (Elt Ideal) ((c.tc : Thread Cert.NormAttnIdeal.nD Cert.NormAttnIdeal.τ).loc Cert.NormAttnIdeal.main_v1_0)) (v1 : (c : Dev Cert.NormAttnIdeal.nD) → Buf (Elt Ideal) ((c.tc : Thread Cert.NormAttnIdeal.nD Cert.NormAttnIdeal.τ).loc Cert.NormAttnIdeal.main_v1_1)),
      θ_run (Cert.NormAttnIdeal.defs (F := Ideal)) (onTc (τ := Cert.NormAttnIdeal.τ) (Cert.NormAttnIdeal.main (F := Ideal))) ⟨m, fun _ => 0, g⟩ (fun r => ∀ c : Dev Cert.NormAttnIdeal.nD,
          r.2.mem ((c.tc : Thread Cert.NormAttnIdeal.nD Cert.NormAttnIdeal.τ).loc Cert.NormAttnIdeal.main_v1_0) = v0 c
          ∧ r.2.mem ((c.tc : Thread Cert.NormAttnIdeal.nD Cert.NormAttnIdeal.τ).loc Cert.NormAttnIdeal.main_v1_1) = v1 c
          ∧ r.2.mem ((c.tc : Thread Cert.NormAttnIdeal.nD Cert.NormAttnIdeal.τ).loc Cert.NormAttnIdeal.main_arg0) = m ((c.tc : Thread Cert.NormAttnIdeal.nD Cert.NormAttnIdeal.τ).loc Cert.NormAttnIdeal.main_arg0)
          ∧ r.2.mem ((c.tc : Thread Cert.NormAttnIdeal.nD Cert.NormAttnIdeal.τ).loc Cert.NormAttnIdeal.main_arg1) = m ((c.tc : Thread Cert.NormAttnIdeal.nD Cert.NormAttnIdeal.τ).loc Cert.NormAttnIdeal.main_arg1)
          ∧ r.2.mem ((c.tc : Thread Cert.NormAttnIdeal.nD Cert.NormAttnIdeal.τ).loc Cert.NormAttnIdeal.main_arg2) = m ((c.tc : Thread Cert.NormAttnIdeal.nD Cert.NormAttnIdeal.τ).loc Cert.NormAttnIdeal.main_arg2)
          ∧ r.2.mem ((c.tc : Thread Cert.NormAttnIdeal.nD Cert.NormAttnIdeal.τ).loc Cert.NormAttnIdeal.main_arg3) = m ((c.tc : Thread Cert.NormAttnIdeal.nD Cert.NormAttnIdeal.τ).loc Cert.NormAttnIdeal.main_arg3)
          ∧ r.2.mem ((c.tc : Thread Cert.NormAttnIdeal.nD Cert.NormAttnIdeal.τ).loc Cert.NormAttnIdeal.main_arg4) = m ((c.tc : Thread Cert.NormAttnIdeal.nD Cert.NormAttnIdeal.τ).loc Cert.NormAttnIdeal.main_arg4))
      ∧ θ_run (Cert.NormAttnRefIdeal.defs (F := Ideal)) (onTc (τ := Cert.NormAttnRefIdeal.τ) (Cert.NormAttnRefIdeal.main (F := Ideal))) ⟨m', fun _ => 0, g'⟩ (fun r => ∀ c : Dev Cert.NormAttnRefIdeal.nD,
          r.2.mem ((c.tc : Thread Cert.NormAttnRefIdeal.nD Cert.NormAttnRefIdeal.τ).loc Cert.NormAttnRefIdeal.main_v42) = v0 c
          ∧ r.2.mem ((c.tc : Thread Cert.NormAttnRefIdeal.nD Cert.NormAttnRefIdeal.τ).loc Cert.NormAttnRefIdeal.main_v43) = v1 c
          ∧ r.2.mem ((c.tc : Thread Cert.NormAttnRefIdeal.nD Cert.NormAttnRefIdeal.τ).loc Cert.NormAttnRefIdeal.main_arg0) = m' ((c.tc : Thread Cert.NormAttnRefIdeal.nD Cert.NormAttnRefIdeal.τ).loc Cert.NormAttnRefIdeal.main_arg0)
          ∧ r.2.mem ((c.tc : Thread Cert.NormAttnRefIdeal.nD Cert.NormAttnRefIdeal.τ).loc Cert.NormAttnRefIdeal.main_arg1) = m' ((c.tc : Thread Cert.NormAttnRefIdeal.nD Cert.NormAttnRefIdeal.τ).loc Cert.NormAttnRefIdeal.main_arg1)
          ∧ r.2.mem ((c.tc : Thread Cert.NormAttnRefIdeal.nD Cert.NormAttnRefIdeal.τ).loc Cert.NormAttnRefIdeal.main_arg2) = m' ((c.tc : Thread Cert.NormAttnRefIdeal.nD Cert.NormAttnRefIdeal.τ).loc Cert.NormAttnRefIdeal.main_arg2)
          ∧ r.2.mem ((c.tc : Thread Cert.NormAttnRefIdeal.nD Cert.NormAttnRefIdeal.τ).loc Cert.NormAttnRefIdeal.main_arg3) = m' ((c.tc : Thread Cert.NormAttnRefIdeal.nD Cert.NormAttnRefIdeal.τ).loc Cert.NormAttnRefIdeal.main_arg3)
          ∧ r.2.mem ((c.tc : Thread Cert.NormAttnRefIdeal.nD Cert.NormAttnRefIdeal.τ).loc Cert.NormAttnRefIdeal.main_arg4) = m' ((c.tc : Thread Cert.NormAttnRefIdeal.nD Cert.NormAttnRefIdeal.τ).loc Cert.NormAttnRefIdeal.main_arg4))

def preserves_NormPle_NormPleIdeal : Prop :=
  True

def algebraic_NormPleIdeal_NormPleRefIdeal_pre_finite_ple [hNormPleIdeal : Cert.NormPleIdeal.Facts] [hNormPleRefIdeal : Cert.NormPleRefIdeal.Facts] [hPre_finite_ple : Cert.Pre_finite_ple.Facts] : Prop :=
  ∀ (m : (ℓ : Loc Cert.NormPleIdeal.nD Cert.NormPleIdeal.τ Cert.NormPleIdeal.sig) → Buf (Elt Ideal) ℓ) (g : Dev Cert.NormPleIdeal.nD → PrngReg)
    (m' : (ℓ : Loc Cert.NormPleRefIdeal.nD Cert.NormPleRefIdeal.τ Cert.NormPleRefIdeal.sig) → Buf (Elt Ideal) ℓ) (g' : Dev Cert.NormPleRefIdeal.nD → PrngReg), Pre_NormPleIdeal_finite_ple m →
    (∀ c : Dev Cert.NormPleIdeal.nD,
      m' ((c.tc : Thread Cert.NormPleRefIdeal.nD Cert.NormPleRefIdeal.τ).loc Cert.NormPleRefIdeal.main_arg0) = m ((c.tc : Thread Cert.NormPleIdeal.nD Cert.NormPleIdeal.τ).loc Cert.NormPleIdeal.main_arg0)
      ∧ m' ((c.tc : Thread Cert.NormPleRefIdeal.nD Cert.NormPleRefIdeal.τ).loc Cert.NormPleRefIdeal.main_arg1) = m ((c.tc : Thread Cert.NormPleIdeal.nD Cert.NormPleIdeal.τ).loc Cert.NormPleIdeal.main_arg1)
      ∧ m' ((c.tc : Thread Cert.NormPleRefIdeal.nD Cert.NormPleRefIdeal.τ).loc Cert.NormPleRefIdeal.main_arg2) = m ((c.tc : Thread Cert.NormPleIdeal.nD Cert.NormPleIdeal.τ).loc Cert.NormPleIdeal.main_arg2)
      ∧ m' ((c.tc : Thread Cert.NormPleRefIdeal.nD Cert.NormPleRefIdeal.τ).loc Cert.NormPleRefIdeal.main_arg3) = m ((c.tc : Thread Cert.NormPleIdeal.nD Cert.NormPleIdeal.τ).loc Cert.NormPleIdeal.main_arg3)
      ∧ m' ((c.tc : Thread Cert.NormPleRefIdeal.nD Cert.NormPleRefIdeal.τ).loc Cert.NormPleRefIdeal.main_arg4) = m ((c.tc : Thread Cert.NormPleIdeal.nD Cert.NormPleIdeal.τ).loc Cert.NormPleIdeal.main_arg4)) →
    ∃ (v0 : (c : Dev Cert.NormPleIdeal.nD) → Buf (Elt Ideal) ((c.tc : Thread Cert.NormPleIdeal.nD Cert.NormPleIdeal.τ).loc Cert.NormPleIdeal.main_v1_0)) (v1 : (c : Dev Cert.NormPleIdeal.nD) → Buf (Elt Ideal) ((c.tc : Thread Cert.NormPleIdeal.nD Cert.NormPleIdeal.τ).loc Cert.NormPleIdeal.main_v1_1)),
      θ_run (Cert.NormPleIdeal.defs (F := Ideal)) (onTc (τ := Cert.NormPleIdeal.τ) (Cert.NormPleIdeal.main (F := Ideal))) ⟨m, fun _ => 0, g⟩ (fun r => ∀ c : Dev Cert.NormPleIdeal.nD,
          r.2.mem ((c.tc : Thread Cert.NormPleIdeal.nD Cert.NormPleIdeal.τ).loc Cert.NormPleIdeal.main_v1_0) = v0 c
          ∧ r.2.mem ((c.tc : Thread Cert.NormPleIdeal.nD Cert.NormPleIdeal.τ).loc Cert.NormPleIdeal.main_v1_1) = v1 c
          ∧ r.2.mem ((c.tc : Thread Cert.NormPleIdeal.nD Cert.NormPleIdeal.τ).loc Cert.NormPleIdeal.main_arg0) = m ((c.tc : Thread Cert.NormPleIdeal.nD Cert.NormPleIdeal.τ).loc Cert.NormPleIdeal.main_arg0)
          ∧ r.2.mem ((c.tc : Thread Cert.NormPleIdeal.nD Cert.NormPleIdeal.τ).loc Cert.NormPleIdeal.main_arg1) = m ((c.tc : Thread Cert.NormPleIdeal.nD Cert.NormPleIdeal.τ).loc Cert.NormPleIdeal.main_arg1)
          ∧ r.2.mem ((c.tc : Thread Cert.NormPleIdeal.nD Cert.NormPleIdeal.τ).loc Cert.NormPleIdeal.main_arg2) = m ((c.tc : Thread Cert.NormPleIdeal.nD Cert.NormPleIdeal.τ).loc Cert.NormPleIdeal.main_arg2)
          ∧ r.2.mem ((c.tc : Thread Cert.NormPleIdeal.nD Cert.NormPleIdeal.τ).loc Cert.NormPleIdeal.main_arg3) = m ((c.tc : Thread Cert.NormPleIdeal.nD Cert.NormPleIdeal.τ).loc Cert.NormPleIdeal.main_arg3)
          ∧ r.2.mem ((c.tc : Thread Cert.NormPleIdeal.nD Cert.NormPleIdeal.τ).loc Cert.NormPleIdeal.main_arg4) = m ((c.tc : Thread Cert.NormPleIdeal.nD Cert.NormPleIdeal.τ).loc Cert.NormPleIdeal.main_arg4))
      ∧ θ_run (Cert.NormPleRefIdeal.defs (F := Ideal)) (onTc (τ := Cert.NormPleRefIdeal.τ) (Cert.NormPleRefIdeal.main (F := Ideal))) ⟨m', fun _ => 0, g'⟩ (fun r => ∀ c : Dev Cert.NormPleRefIdeal.nD,
          r.2.mem ((c.tc : Thread Cert.NormPleRefIdeal.nD Cert.NormPleRefIdeal.τ).loc Cert.NormPleRefIdeal.main_v42) = v0 c
          ∧ r.2.mem ((c.tc : Thread Cert.NormPleRefIdeal.nD Cert.NormPleRefIdeal.τ).loc Cert.NormPleRefIdeal.main_v43) = v1 c
          ∧ r.2.mem ((c.tc : Thread Cert.NormPleRefIdeal.nD Cert.NormPleRefIdeal.τ).loc Cert.NormPleRefIdeal.main_arg0) = m' ((c.tc : Thread Cert.NormPleRefIdeal.nD Cert.NormPleRefIdeal.τ).loc Cert.NormPleRefIdeal.main_arg0)
          ∧ r.2.mem ((c.tc : Thread Cert.NormPleRefIdeal.nD Cert.NormPleRefIdeal.τ).loc Cert.NormPleRefIdeal.main_arg1) = m' ((c.tc : Thread Cert.NormPleRefIdeal.nD Cert.NormPleRefIdeal.τ).loc Cert.NormPleRefIdeal.main_arg1)
          ∧ r.2.mem ((c.tc : Thread Cert.NormPleRefIdeal.nD Cert.NormPleRefIdeal.τ).loc Cert.NormPleRefIdeal.main_arg2) = m' ((c.tc : Thread Cert.NormPleRefIdeal.nD Cert.NormPleRefIdeal.τ).loc Cert.NormPleRefIdeal.main_arg2)
          ∧ r.2.mem ((c.tc : Thread Cert.NormPleRefIdeal.nD Cert.NormPleRefIdeal.τ).loc Cert.NormPleRefIdeal.main_arg3) = m' ((c.tc : Thread Cert.NormPleRefIdeal.nD Cert.NormPleRefIdeal.τ).loc Cert.NormPleRefIdeal.main_arg3)
          ∧ r.2.mem ((c.tc : Thread Cert.NormPleRefIdeal.nD Cert.NormPleRefIdeal.τ).loc Cert.NormPleRefIdeal.main_arg4) = m' ((c.tc : Thread Cert.NormPleRefIdeal.nD Cert.NormPleRefIdeal.τ).loc Cert.NormPleRefIdeal.main_arg4))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v5) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v5) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v4) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v5) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_GradProj_GradProjIdeal : Prop :=
  True

def algebraic_GradProjIdeal_GradProjRefIdeal [hGradProjIdeal : Cert.GradProjIdeal.Facts] [hGradProjRefIdeal : Cert.GradProjRefIdeal.Facts] : Prop :=
  ∀ (m : (ℓ : Loc Cert.GradProjIdeal.nD Cert.GradProjIdeal.τ Cert.GradProjIdeal.sig) → Buf (Elt Ideal) ℓ) (g : Dev Cert.GradProjIdeal.nD → PrngReg)
    (m' : (ℓ : Loc Cert.GradProjRefIdeal.nD Cert.GradProjRefIdeal.τ Cert.GradProjRefIdeal.sig) → Buf (Elt Ideal) ℓ) (g' : Dev Cert.GradProjRefIdeal.nD → PrngReg), Pre_GradProjIdeal m →
    (∀ c : Dev Cert.GradProjIdeal.nD,
      m' ((c.tc : Thread Cert.GradProjRefIdeal.nD Cert.GradProjRefIdeal.τ).loc Cert.GradProjRefIdeal.main_arg0) = m ((c.tc : Thread Cert.GradProjIdeal.nD Cert.GradProjIdeal.τ).loc Cert.GradProjIdeal.main_arg0)
      ∧ m' ((c.tc : Thread Cert.GradProjRefIdeal.nD Cert.GradProjRefIdeal.τ).loc Cert.GradProjRefIdeal.main_arg1) = m ((c.tc : Thread Cert.GradProjIdeal.nD Cert.GradProjIdeal.τ).loc Cert.GradProjIdeal.main_arg1)) →
    ∃ (v0 : (c : Dev Cert.GradProjIdeal.nD) → Buf (Elt Ideal) ((c.tc : Thread Cert.GradProjIdeal.nD Cert.GradProjIdeal.τ).loc Cert.GradProjIdeal.main_v0)),
      θ_run (Cert.GradProjIdeal.defs (F := Ideal)) (onTc (τ := Cert.GradProjIdeal.τ) (Cert.GradProjIdeal.main (F := Ideal))) ⟨m, fun _ => 0, g⟩ (fun r => ∀ c : Dev Cert.GradProjIdeal.nD,
          r.2.mem ((c.tc : Thread Cert.GradProjIdeal.nD Cert.GradProjIdeal.τ).loc Cert.GradProjIdeal.main_v0) = v0 c
          ∧ r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
          ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ θ_run (Cert.GradProjRefIdeal.defs (F := Ideal)) (onTc (τ := Cert.GradProjRefIdeal.τ) (Cert.GradProjRefIdeal.main (F := Ideal))) ⟨m', fun _ => 0, g'⟩ (fun r => ∀ c : Dev Cert.GradProjRefIdeal.nD,
          r.2.mem ((c.tc : Thread Cert.GradProjRefIdeal.nD Cert.GradProjRefIdeal.τ).loc Cert.GradProjRefIdeal.main_v4) = v0 c
          ∧ r.2.mem ((c.tc : Thread Cert.GradProjRefIdeal.nD Cert.GradProjRefIdeal.τ).loc Cert.GradProjRefIdeal.main_arg0) = m' ((c.tc : Thread Cert.GradProjRefIdeal.nD Cert.GradProjRefIdeal.τ).loc Cert.GradProjRefIdeal.main_arg0)
          ∧ r.2.mem ((c.tc : Thread Cert.GradProjRefIdeal.nD Cert.GradProjRefIdeal.τ).loc Cert.GradProjRefIdeal.main_arg1) = m' ((c.tc : Thread Cert.GradProjRefIdeal.nD Cert.GradProjRefIdeal.τ).loc Cert.GradProjRefIdeal.main_arg1))

def preserves_BackAct_BackActIdeal : Prop :=
  True

def algebraic_BackActIdeal_BackActRefIdeal [hBackActIdeal : Cert.BackActIdeal.Facts] [hBackActRefIdeal : Cert.BackActRefIdeal.Facts] : Prop :=
  ∀ (m : (ℓ : Loc Cert.BackActIdeal.nD Cert.BackActIdeal.τ Cert.BackActIdeal.sig) → Buf (Elt Ideal) ℓ) (g : Dev Cert.BackActIdeal.nD → PrngReg)
    (m' : (ℓ : Loc Cert.BackActRefIdeal.nD Cert.BackActRefIdeal.τ Cert.BackActRefIdeal.sig) → Buf (Elt Ideal) ℓ) (g' : Dev Cert.BackActRefIdeal.nD → PrngReg), Pre_BackActIdeal m →
    (∀ c : Dev Cert.BackActIdeal.nD,
      m' ((c.tc : Thread Cert.BackActRefIdeal.nD Cert.BackActRefIdeal.τ).loc Cert.BackActRefIdeal.main_arg0) = m ((c.tc : Thread Cert.BackActIdeal.nD Cert.BackActIdeal.τ).loc Cert.BackActIdeal.main_arg0)
      ∧ m' ((c.tc : Thread Cert.BackActRefIdeal.nD Cert.BackActRefIdeal.τ).loc Cert.BackActRefIdeal.main_arg1) = m ((c.tc : Thread Cert.BackActIdeal.nD Cert.BackActIdeal.τ).loc Cert.BackActIdeal.main_arg1)) →
    ∃ (v0 : (c : Dev Cert.BackActIdeal.nD) → Buf (Elt Ideal) ((c.tc : Thread Cert.BackActIdeal.nD Cert.BackActIdeal.τ).loc Cert.BackActIdeal.main_v0)),
      θ_run (Cert.BackActIdeal.defs (F := Ideal)) (onTc (τ := Cert.BackActIdeal.τ) (Cert.BackActIdeal.main (F := Ideal))) ⟨m, fun _ => 0, g⟩ (fun r => ∀ c : Dev Cert.BackActIdeal.nD,
          r.2.mem ((c.tc : Thread Cert.BackActIdeal.nD Cert.BackActIdeal.τ).loc Cert.BackActIdeal.main_v0) = v0 c
          ∧ r.2.mem ((c.tc : Thread Cert.BackActIdeal.nD Cert.BackActIdeal.τ).loc Cert.BackActIdeal.main_arg0) = m ((c.tc : Thread Cert.BackActIdeal.nD Cert.BackActIdeal.τ).loc Cert.BackActIdeal.main_arg0)
          ∧ r.2.mem ((c.tc : Thread Cert.BackActIdeal.nD Cert.BackActIdeal.τ).loc Cert.BackActIdeal.main_arg1) = m ((c.tc : Thread Cert.BackActIdeal.nD Cert.BackActIdeal.τ).loc Cert.BackActIdeal.main_arg1))
      ∧ θ_run (Cert.BackActRefIdeal.defs (F := Ideal)) (onTc (τ := Cert.BackActRefIdeal.τ) (Cert.BackActRefIdeal.main (F := Ideal))) ⟨m', fun _ => 0, g'⟩ (fun r => ∀ c : Dev Cert.BackActRefIdeal.nD,
          r.2.mem ((c.tc : Thread Cert.BackActRefIdeal.nD Cert.BackActRefIdeal.τ).loc Cert.BackActRefIdeal.main_v6) = v0 c
          ∧ r.2.mem ((c.tc : Thread Cert.BackActRefIdeal.nD Cert.BackActRefIdeal.τ).loc Cert.BackActRefIdeal.main_arg0) = m' ((c.tc : Thread Cert.BackActRefIdeal.nD Cert.BackActRefIdeal.τ).loc Cert.BackActRefIdeal.main_arg0)
          ∧ r.2.mem ((c.tc : Thread Cert.BackActRefIdeal.nD Cert.BackActRefIdeal.τ).loc Cert.BackActRefIdeal.main_arg1) = m' ((c.tc : Thread Cert.BackActRefIdeal.nD Cert.BackActRefIdeal.τ).loc Cert.BackActRefIdeal.main_arg1))

def preserves_BackMix_BackMixIdeal : Prop :=
  True

def algebraic_BackMixIdeal_BackMixRefIdeal [hBackMixIdeal : Cert.BackMixIdeal.Facts] [hBackMixRefIdeal : Cert.BackMixRefIdeal.Facts] : Prop :=
  ∀ (m : (ℓ : Loc Cert.BackMixIdeal.nD Cert.BackMixIdeal.τ Cert.BackMixIdeal.sig) → Buf (Elt Ideal) ℓ) (g : Dev Cert.BackMixIdeal.nD → PrngReg)
    (m' : (ℓ : Loc Cert.BackMixRefIdeal.nD Cert.BackMixRefIdeal.τ Cert.BackMixRefIdeal.sig) → Buf (Elt Ideal) ℓ) (g' : Dev Cert.BackMixRefIdeal.nD → PrngReg), Pre_BackMixIdeal m →
    (∀ c : Dev Cert.BackMixIdeal.nD,
      m' ((c.tc : Thread Cert.BackMixRefIdeal.nD Cert.BackMixRefIdeal.τ).loc Cert.BackMixRefIdeal.main_arg0) = m ((c.tc : Thread Cert.BackMixIdeal.nD Cert.BackMixIdeal.τ).loc Cert.BackMixIdeal.main_arg0)
      ∧ m' ((c.tc : Thread Cert.BackMixRefIdeal.nD Cert.BackMixRefIdeal.τ).loc Cert.BackMixRefIdeal.main_arg1) = m ((c.tc : Thread Cert.BackMixIdeal.nD Cert.BackMixIdeal.τ).loc Cert.BackMixIdeal.main_arg1)) →
    ∃ (v0 : (c : Dev Cert.BackMixIdeal.nD) → Buf (Elt Ideal) ((c.tc : Thread Cert.BackMixIdeal.nD Cert.BackMixIdeal.τ).loc Cert.BackMixIdeal.main_v0)),
      θ_run (Cert.BackMixIdeal.defs (F := Ideal)) (onTc (τ := Cert.BackMixIdeal.τ) (Cert.BackMixIdeal.main (F := Ideal))) ⟨m, fun _ => 0, g⟩ (fun r => ∀ c : Dev Cert.BackMixIdeal.nD,
          r.2.mem ((c.tc : Thread Cert.BackMixIdeal.nD Cert.BackMixIdeal.τ).loc Cert.BackMixIdeal.main_v0) = v0 c
          ∧ r.2.mem ((c.tc : Thread Cert.BackMixIdeal.nD Cert.BackMixIdeal.τ).loc Cert.BackMixIdeal.main_arg0) = m ((c.tc : Thread Cert.BackMixIdeal.nD Cert.BackMixIdeal.τ).loc Cert.BackMixIdeal.main_arg0)
          ∧ r.2.mem ((c.tc : Thread Cert.BackMixIdeal.nD Cert.BackMixIdeal.τ).loc Cert.BackMixIdeal.main_arg1) = m ((c.tc : Thread Cert.BackMixIdeal.nD Cert.BackMixIdeal.τ).loc Cert.BackMixIdeal.main_arg1))
      ∧ θ_run (Cert.BackMixRefIdeal.defs (F := Ideal)) (onTc (τ := Cert.BackMixRefIdeal.τ) (Cert.BackMixRefIdeal.main (F := Ideal))) ⟨m', fun _ => 0, g'⟩ (fun r => ∀ c : Dev Cert.BackMixRefIdeal.nD,
          r.2.mem ((c.tc : Thread Cert.BackMixRefIdeal.nD Cert.BackMixRefIdeal.τ).loc Cert.BackMixRefIdeal.main_v5) = v0 c
          ∧ r.2.mem ((c.tc : Thread Cert.BackMixRefIdeal.nD Cert.BackMixRefIdeal.τ).loc Cert.BackMixRefIdeal.main_arg0) = m' ((c.tc : Thread Cert.BackMixRefIdeal.nD Cert.BackMixRefIdeal.τ).loc Cert.BackMixRefIdeal.main_arg0)
          ∧ r.2.mem ((c.tc : Thread Cert.BackMixRefIdeal.nD Cert.BackMixRefIdeal.τ).loc Cert.BackMixRefIdeal.main_arg1) = m' ((c.tc : Thread Cert.BackMixRefIdeal.nD Cert.BackMixRefIdeal.τ).loc Cert.BackMixRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_v23) = v1 c
          ∧ r.2.mem ((c.tc : Thread Cert.InProjRefIdeal.nD Cert.InProjRefIdeal.τ).loc Cert.InProjRefIdeal.main_v25) = v2 c
          ∧ r.2.mem ((c.tc : Thread Cert.InProjRefIdeal.nD Cert.InProjRefIdeal.τ).loc Cert.InProjRefIdeal.main_v26) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v1_0)) (v1 : (c : Dev Cert.PleFwdIdeal.nD) → Buf (Elt Ideal) ((c.tc : Thread Cert.PleFwdIdeal.nD Cert.PleFwdIdeal.τ).loc Cert.PleFwdIdeal.main_v1_1)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v1_0) = v0 c
          ∧ r.2.mem ((c.tc : Thread Cert.PleFwdIdeal.nD Cert.PleFwdIdeal.τ).loc Cert.PleFwdIdeal.main_v1_1) = v1 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v28) = v0 c
          ∧ r.2.mem ((c.tc : Thread Cert.PleFwdRefIdeal.nD Cert.PleFwdRefIdeal.τ).loc Cert.PleFwdRefIdeal.main_v29) = v1 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4))

def preserves_PleBwd_PleBwdIdeal : Prop :=
  True

def algebraic_PleBwdIdeal_PleBwdRefIdeal [hPleBwdIdeal : Cert.PleBwdIdeal.Facts] [hPleBwdRefIdeal : Cert.PleBwdRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)) →
    ∃ (v0 : (c : Dev Cert.PleBwdIdeal.nD) → Buf (Elt Ideal) ((c.tc : Thread Cert.PleBwdIdeal.nD Cert.PleBwdIdeal.τ).loc Cert.PleBwdIdeal.main_v0_0)) (v1 : (c : Dev Cert.PleBwdIdeal.nD) → Buf (Elt Ideal) ((c.tc : Thread Cert.PleBwdIdeal.nD Cert.PleBwdIdeal.τ).loc Cert.PleBwdIdeal.main_v0_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v0_0) = v0 c
          ∧ r.2.mem ((c.tc : Thread Cert.PleBwdIdeal.nD Cert.PleBwdIdeal.τ).loc Cert.PleBwdIdeal.main_v0_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v22) = v0 c
          ∧ r.2.mem ((c.tc : Thread Cert.PleBwdRefIdeal.nD Cert.PleBwdRefIdeal.τ).loc Cert.PleBwdRefIdeal.main_v23) = v1 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4))

def preserves_ConvGate_ConvGateIdeal : Prop :=
  True

def algebraic_ConvGateIdeal_ConvGateRefIdeal [hConvGateIdeal : Cert.ConvGateIdeal.Facts] [hConvGateRefIdeal : Cert.ConvGateRefIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)) →
    ∃ (v0 : (c : Dev Cert.ConvGateIdeal.nD) → Buf (Elt Ideal) ((c.tc : Thread Cert.ConvGateIdeal.nD Cert.ConvGateIdeal.τ).loc Cert.ConvGateIdeal.main_v10)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v10) = v0 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v43) = v0 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v4_0)) (v1 : (c : Dev Cert.AdamGluIdeal.nD) → Buf (Elt Ideal) ((c.tc : Thread Cert.AdamGluIdeal.nD Cert.AdamGluIdeal.τ).loc Cert.AdamGluIdeal.main_v4_1)) (v2 : (c : Dev Cert.AdamGluIdeal.nD) → Buf (Elt Ideal) ((c.tc : Thread Cert.AdamGluIdeal.nD Cert.AdamGluIdeal.τ).loc Cert.AdamGluIdeal.main_v4_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v4_0) = v0 c
          ∧ r.2.mem ((c.tc : Thread Cert.AdamGluIdeal.nD Cert.AdamGluIdeal.τ).loc Cert.AdamGluIdeal.main_v4_1) = v1 c
          ∧ r.2.mem ((c.tc : Thread Cert.AdamGluIdeal.nD Cert.AdamGluIdeal.τ).loc Cert.AdamGluIdeal.main_v4_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v24) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v26) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v24) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v26) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v4_0)) (v1 : (c : Dev Cert.AdamGateIdeal.nD) → Buf (Elt Ideal) ((c.tc : Thread Cert.AdamGateIdeal.nD Cert.AdamGateIdeal.τ).loc Cert.AdamGateIdeal.main_v4_1)) (v2 : (c : Dev Cert.AdamGateIdeal.nD) → Buf (Elt Ideal) ((c.tc : Thread Cert.AdamGateIdeal.nD Cert.AdamGateIdeal.τ).loc Cert.AdamGateIdeal.main_v4_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v4_0) = v0 c
          ∧ r.2.mem ((c.tc : Thread Cert.AdamGateIdeal.nD Cert.AdamGateIdeal.τ).loc Cert.AdamGateIdeal.main_v4_1) = v1 c
          ∧ r.2.mem ((c.tc : Thread Cert.AdamGateIdeal.nD Cert.AdamGateIdeal.τ).loc Cert.AdamGateIdeal.main_v4_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v24) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v26) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v4_0)) (v1 : (c : Dev Cert.AdamProjIdeal.nD) → Buf (Elt Ideal) ((c.tc : Thread Cert.AdamProjIdeal.nD Cert.AdamProjIdeal.τ).loc Cert.AdamProjIdeal.main_v4_1)) (v2 : (c : Dev Cert.AdamProjIdeal.nD) → Buf (Elt Ideal) ((c.tc : Thread Cert.AdamProjIdeal.nD Cert.AdamProjIdeal.τ).loc Cert.AdamProjIdeal.main_v4_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v4_0) = v0 c
          ∧ r.2.mem ((c.tc : Thread Cert.AdamProjIdeal.nD Cert.AdamProjIdeal.τ).loc Cert.AdamProjIdeal.main_v4_1) = v1 c
          ∧ r.2.mem ((c.tc : Thread Cert.AdamProjIdeal.nD Cert.AdamProjIdeal.τ).loc Cert.AdamProjIdeal.main_v4_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v24) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v26) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hNormFfn : Cert.NormFfn.Facts) (hNormFfnIdeal : Cert.NormFfnIdeal.Facts) (hNormFfnRefIdeal : Cert.NormFfnRefIdeal.Facts) (hSgu : Cert.Sgu.Facts) (hSguIdeal : Cert.SguIdeal.Facts) (hSguRefIdeal : Cert.SguRefIdeal.Facts) (hNormAttn : Cert.NormAttn.Facts) (hNormAttnIdeal : Cert.NormAttnIdeal.Facts) (hNormAttnRefIdeal : Cert.NormAttnRefIdeal.Facts) (hNormPle : Cert.NormPle.Facts) (hNormPleIdeal : Cert.NormPleIdeal.Facts) (hNormPleRefIdeal : Cert.NormPleRefIdeal.Facts) (hGradUp : Cert.GradUp.Facts) (hGradUpIdeal : Cert.GradUpIdeal.Facts) (hGradUpRefIdeal : Cert.GradUpRefIdeal.Facts) (hGradDown : Cert.GradDown.Facts) (hGradDownIdeal : Cert.GradDownIdeal.Facts) (hGradDownRefIdeal : Cert.GradDownRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradGate : Cert.GradGate.Facts) (hGradGateIdeal : Cert.GradGateIdeal.Facts) (hGradGateRefIdeal : Cert.GradGateRefIdeal.Facts) (hGradProj : Cert.GradProj.Facts) (hGradProjIdeal : Cert.GradProjIdeal.Facts) (hGradProjRefIdeal : Cert.GradProjRefIdeal.Facts) (hBackAct : Cert.BackAct.Facts) (hBackActIdeal : Cert.BackActIdeal.Facts) (hBackActRefIdeal : Cert.BackActRefIdeal.Facts) (hBackMix : Cert.BackMix.Facts) (hBackMixIdeal : Cert.BackMixIdeal.Facts) (hBackMixRefIdeal : Cert.BackMixRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hInProj : Cert.InProj.Facts) (hInProjIdeal : Cert.InProjIdeal.Facts) (hInProjRefIdeal : Cert.InProjRefIdeal.Facts) (hPleFwd : Cert.PleFwd.Facts) (hPleFwdIdeal : Cert.PleFwdIdeal.Facts) (hPleFwdRefIdeal : Cert.PleFwdRefIdeal.Facts) (hPleBwd : Cert.PleBwd.Facts) (hPleBwdIdeal : Cert.PleBwdIdeal.Facts) (hPleBwdRefIdeal : Cert.PleBwdRefIdeal.Facts) (hConvGate : Cert.ConvGate.Facts) (hConvGateIdeal : Cert.ConvGateIdeal.Facts) (hConvGateRefIdeal : Cert.ConvGateRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamConv : Cert.AdamConv.Facts) (hAdamConvIdeal : Cert.AdamConvIdeal.Facts) (hAdamConvRefIdeal : Cert.AdamConvRefIdeal.Facts) (hAdamDown : Cert.AdamDown.Facts) (hAdamDownIdeal : Cert.AdamDownIdeal.Facts) (hAdamDownRefIdeal : Cert.AdamDownRefIdeal.Facts) (hAdamGate : Cert.AdamGate.Facts) (hAdamGateIdeal : Cert.AdamGateIdeal.Facts) (hAdamGateRefIdeal : Cert.AdamGateRefIdeal.Facts) (hAdamProj : Cert.AdamProj.Facts) (hAdamProjIdeal : Cert.AdamProjIdeal.Facts) (hAdamProjRefIdeal : Cert.AdamProjRefIdeal.Facts) (hLossHead : Cert.LossHead.Facts) (hLossHeadIdeal : Cert.LossHeadIdeal.Facts) (hLossHeadRefIdeal : Cert.LossHeadRefIdeal.Facts) (hPre_finite_ffn : Cert.Pre_finite_ffn.Facts) (hPre_finite_sgu : Cert.Pre_finite_sgu.Facts) (hPre_finite_attn : Cert.Pre_finite_attn.Facts) (hPre_finite_ple : Cert.Pre_finite_ple.Facts) (hPre_finite_loss : Cert.Pre_finite_loss.Facts),
    quiescent_NormFfn (hNormFfn := hNormFfn)
    ∧ quiescent_NormFfnIdeal (hNormFfnIdeal := hNormFfnIdeal)
    ∧ quiescent_NormFfnIdeal_pre_finite_ffn (hNormFfnIdeal := hNormFfnIdeal) (hPre_finite_ffn := hPre_finite_ffn)
    ∧ quiescent_NormFfnRefIdeal (hNormFfnRefIdeal := hNormFfnRefIdeal)
    ∧ quiescent_NormFfnRefIdeal_pre_finite_ffn (hNormFfnRefIdeal := hNormFfnRefIdeal) (hPre_finite_ffn := hPre_finite_ffn)
    ∧ quiescent_Sgu (hSgu := hSgu)
    ∧ quiescent_SguIdeal (hSguIdeal := hSguIdeal)
    ∧ quiescent_SguIdeal_pre_finite_sgu (hSguIdeal := hSguIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_NormAttn (hNormAttn := hNormAttn)
    ∧ quiescent_NormAttnIdeal (hNormAttnIdeal := hNormAttnIdeal)
    ∧ quiescent_NormAttnIdeal_pre_finite_attn (hNormAttnIdeal := hNormAttnIdeal) (hPre_finite_attn := hPre_finite_attn)
    ∧ quiescent_NormAttnRefIdeal (hNormAttnRefIdeal := hNormAttnRefIdeal)
    ∧ quiescent_NormAttnRefIdeal_pre_finite_attn (hNormAttnRefIdeal := hNormAttnRefIdeal) (hPre_finite_attn := hPre_finite_attn)
    ∧ quiescent_NormPle (hNormPle := hNormPle)
    ∧ quiescent_NormPleIdeal (hNormPleIdeal := hNormPleIdeal)
    ∧ quiescent_NormPleIdeal_pre_finite_ple (hNormPleIdeal := hNormPleIdeal) (hPre_finite_ple := hPre_finite_ple)
    ∧ quiescent_NormPleRefIdeal (hNormPleRefIdeal := hNormPleRefIdeal)
    ∧ quiescent_NormPleRefIdeal_pre_finite_ple (hNormPleRefIdeal := hNormPleRefIdeal) (hPre_finite_ple := hPre_finite_ple)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradGate (hGradGate := hGradGate)
    ∧ quiescent_GradGateIdeal (hGradGateIdeal := hGradGateIdeal)
    ∧ quiescent_GradGateRefIdeal (hGradGateRefIdeal := hGradGateRefIdeal)
    ∧ quiescent_GradProj (hGradProj := hGradProj)
    ∧ quiescent_GradProjIdeal (hGradProjIdeal := hGradProjIdeal)
    ∧ quiescent_GradProjRefIdeal (hGradProjRefIdeal := hGradProjRefIdeal)
    ∧ quiescent_BackAct (hBackAct := hBackAct)
    ∧ quiescent_BackActIdeal (hBackActIdeal := hBackActIdeal)
    ∧ quiescent_BackActRefIdeal (hBackActRefIdeal := hBackActRefIdeal)
    ∧ quiescent_BackMix (hBackMix := hBackMix)
    ∧ quiescent_BackMixIdeal (hBackMixIdeal := hBackMixIdeal)
    ∧ quiescent_BackMixRefIdeal (hBackMixRefIdeal := hBackMixRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_PleBwd (hPleBwd := hPleBwd)
    ∧ quiescent_PleBwdIdeal (hPleBwdIdeal := hPleBwdIdeal)
    ∧ quiescent_PleBwdRefIdeal (hPleBwdRefIdeal := hPleBwdRefIdeal)
    ∧ quiescent_ConvGate (hConvGate := hConvGate)
    ∧ quiescent_ConvGateIdeal (hConvGateIdeal := hConvGateIdeal)
    ∧ quiescent_ConvGateRefIdeal (hConvGateRefIdeal := hConvGateRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ preserves_NormFfn_NormFfnIdeal
    ∧ algebraic_NormFfnIdeal_NormFfnRefIdeal_pre_finite_ffn (hNormFfnIdeal := hNormFfnIdeal) (hNormFfnRefIdeal := hNormFfnRefIdeal) (hPre_finite_ffn := hPre_finite_ffn)
    ∧ preserves_Sgu_SguIdeal
    ∧ algebraic_SguIdeal_SguRefIdeal_pre_finite_sgu (hSguIdeal := hSguIdeal) (hSguRefIdeal := hSguRefIdeal) (hPre_finite_sgu := hPre_finite_sgu)
    ∧ preserves_NormAttn_NormAttnIdeal
    ∧ algebraic_NormAttnIdeal_NormAttnRefIdeal_pre_finite_attn (hNormAttnIdeal := hNormAttnIdeal) (hNormAttnRefIdeal := hNormAttnRefIdeal) (hPre_finite_attn := hPre_finite_attn)
    ∧ preserves_NormPle_NormPleIdeal
    ∧ algebraic_NormPleIdeal_NormPleRefIdeal_pre_finite_ple (hNormPleIdeal := hNormPleIdeal) (hNormPleRefIdeal := hNormPleRefIdeal) (hPre_finite_ple := hPre_finite_ple)
    ∧ preserves_GradUp_GradUpIdeal
    ∧ algebraic_GradUpIdeal_GradUpRefIdeal (hGradUpIdeal := hGradUpIdeal) (hGradUpRefIdeal := hGradUpRefIdeal)
    ∧ preserves_GradDown_GradDownIdeal
    ∧ algebraic_GradDownIdeal_GradDownRefIdeal (hGradDownIdeal := hGradDownIdeal) (hGradDownRefIdeal := hGradDownRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradGate_GradGateIdeal
    ∧ algebraic_GradGateIdeal_GradGateRefIdeal (hGradGateIdeal := hGradGateIdeal) (hGradGateRefIdeal := hGradGateRefIdeal)
    ∧ preserves_GradProj_GradProjIdeal
    ∧ algebraic_GradProjIdeal_GradProjRefIdeal (hGradProjIdeal := hGradProjIdeal) (hGradProjRefIdeal := hGradProjRefIdeal)
    ∧ preserves_BackAct_BackActIdeal
    ∧ algebraic_BackActIdeal_BackActRefIdeal (hBackActIdeal := hBackActIdeal) (hBackActRefIdeal := hBackActRefIdeal)
    ∧ preserves_BackMix_BackMixIdeal
    ∧ algebraic_BackMixIdeal_BackMixRefIdeal (hBackMixIdeal := hBackMixIdeal) (hBackMixRefIdeal := hBackMixRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_InProj_InProjIdeal
    ∧ algebraic_InProjIdeal_InProjRefIdeal (hInProjIdeal := hInProjIdeal) (hInProjRefIdeal := hInProjRefIdeal)
    ∧ preserves_PleFwd_PleFwdIdeal
    ∧ algebraic_PleFwdIdeal_PleFwdRefIdeal (hPleFwdIdeal := hPleFwdIdeal) (hPleFwdRefIdeal := hPleFwdRefIdeal)
    ∧ preserves_PleBwd_PleBwdIdeal
    ∧ algebraic_PleBwdIdeal_PleBwdRefIdeal (hPleBwdIdeal := hPleBwdIdeal) (hPleBwdRefIdeal := hPleBwdRefIdeal)
    ∧ preserves_ConvGate_ConvGateIdeal
    ∧ algebraic_ConvGateIdeal_ConvGateRefIdeal (hConvGateIdeal := hConvGateIdeal) (hConvGateRefIdeal := hConvGateRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamProj_AdamProjIdeal
    ∧ algebraic_AdamProjIdeal_AdamProjRefIdeal (hAdamProjIdeal := hAdamProjIdeal) (hAdamProjRefIdeal := hAdamProjRefIdeal)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
-- ==== Pre_finite_attn.lean ====
abbrev S8192x2304 : Shape := ⟨2, ![8192, 2304]⟩
abbrev S2x1024x2304 : Shape := ⟨3, ![2, 1024, 2304]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2304 : S_.BroadcastsInDim S8192x2304 (![] : Fin 0 → Fin S8192x2304.rank)
  bcast_S_S2x1024x2304 : S_.BroadcastsInDim S2x1024x2304 (![] : Fin 0 → Fin S2x1024x2304.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x2304 .bf16) (main_arg1 : FVec F S2x1024x2304 .bf16) (main_arg2 : FVec F S8192x1024 .f32) (main_arg3 : FVec F S1024 .f32) (main_arg4 : FVec F S8192x1024 .f32) : IVec S8192x2304 1 × IVec S2x1024x2304 1 × IVec S8192x1024 1 × IVec S1024 1 × IVec S8192x1024 1 :=
  let main_v0 : FVec F S8192x2304 .f32 := (extf .f32 · bitsLt_bf16_f32) main_arg0
  let main_v1 : FVec F S8192x2304 .f32 := Host.absf main_v0
  let main_cst : FVec F S_ .f32 := constant S_ .f32 0x7F800000#32
  let main_v2 : FVec F S8192x2304 .f32 := broadcastInDim S8192x2304 ![] bcast_S_S8192x2304 main_cst
  let main_v3 : IVec S8192x2304 1 := cmpf .olt main_v1 main_v2
  let main_v4 : FVec F S2x1024x2304 .f32 := (extf .f32 · bitsLt_bf16_f32) main_arg1
  let main_v5 : FVec F S2x1024x2304 .f32 := Host.absf main_v4
  let main_cst_0 : FVec F S_ .f32 := constant S_ .f32 0x7F800000#32
  let main_v6 : FVec F S2x1024x2304 .f32 := broadcastInDim S2x1024x2304 ![] bcast_S_S2x1024x2304 main_cst_0
  let main_v7 : IVec S2x1024x2304 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_finite_ffn.lean ====
abbrev S8192x5632 : Shape := ⟨2, ![8192, 5632]⟩
abbrev S2x1024x5632 : Shape := ⟨3, ![2, 1024, 5632]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S2x1024x5632 : S_.BroadcastsInDim S2x1024x5632 (![] : Fin 0 → Fin S2x1024x5632.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x5632 .bf16) (main_arg1 : FVec F S2x1024x5632 .bf16) (main_arg2 : FVec F S8192x1024 .f32) (main_arg3 : FVec F S1024 .f32) (main_arg4 : FVec F S8192x1024 .f32) : IVec S8192x5632 1 × IVec S2x1024x5632 1 × IVec S8192x1024 1 × IVec S1024 1 × IVec S8192x1024 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S2x1024x5632 .f32 := (extf .f32 · bitsLt_bf16_f32) main_arg1
  let main_v5 : FVec F S2x1024x5632 .f32 := Host.absf main_v4
  let main_cst_0 : FVec F S_ .f32 := constant S_ .f32 0x7F800000#32
  let main_v6 : FVec F S2x1024x5632 .f32 := broadcastInDim S2x1024x5632 ![] bcast_S_S2x1024x5632 main_cst_0
  let main_v7 : IVec S2x1024x5632 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_ple.lean ====
abbrev S8192x1024 : Shape := ⟨2, ![8192, 1024]⟩
abbrev S2x1024x1024 : Shape := ⟨3, ![2, 1024, 1024]⟩
abbrev S1024 : Shape := ⟨1, ![1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2x1024x1024 : S_.BroadcastsInDim S2x1024x1024 (![] : Fin 0 → Fin S2x1024x1024.rank)
  bcast_S_S1024 : S_.BroadcastsInDim S1024 (![] : Fin 0 → Fin S1024.rank)

variable [Facts]

def fn {F : FTy → Type} [FloatOps F] (main_arg0 : FVec F S8192x1024 .bf16) (main_arg1 : FVec F S2x1024x1024 .bf16) (main_arg2 : FVec F S8192x1024 .f32) (main_arg3 : FVec F S1024 .f32) (main_arg4 : FVec F S8192x1024 .f32) : IVec S8192x1024 1 × IVec S2x1024x1024 1 × IVec S8192x1024 1 × IVec S1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2x1024x1024 .f32 := (extf .f32 · bitsLt_bf16_f32) main_arg1
  let main_v5 : FVec F S2x1024x1024 .f32 := Host.absf main_v4
  let main_cst_0 : FVec F S_ .f32 := constant S_ .f32 0x7F800000#32
  let main_v6 : FVec F S2x1024x1024 .f32 := broadcastInDim S2x1024x1024 ![] bcast_S_S2x1024x1024 main_cst_0
  let main_v7 : IVec S2x1024x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_finite_sgu.lean ====
abbrev S8192x512 : Shape := ⟨2, ![8192, 512]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩

class Facts : Prop where
  bcast_S_S8192x512 : S_.BroadcastsInDim S8192x512 (![] : Fin 0 → Fin S8192x512.rank)
  bcast_S_S256 : S_.BroadcastsInDim S256 (![] : Fin 0 → Fin S256.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S8192x256 : S_.BroadcastsInDim S8192x256 (![] : Fin 0 → Fin S8192x256.rank)

variable [Facts]

def fn {F : FTy → Type} [FloatOps F] (main_arg0 : FVec F S8192x512 .f32) (main_arg1 : FVec F S256 .f32) (main_arg2 : FVec F S256 .f32) (main_arg3 : FVec F S4x128x128 .f32) (main_arg4 : FVec F S4x128 .f32) (main_arg5 : FVec F S8192x256 .f32) : IVec S8192x512 1 × IVec S256 1 × IVec S256 1 × IVec S4x128x128 1 × IVec S4x128 1 × IVec S8192x256 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  (main_v2, main_v5, main_v8, main_v11, main_v14, main_v17)
-- ==== NormFfn.lean ====
abbrev S8192x5632 : Shape := ⟨2, ![8192, 5632]⟩
abbrev S2x1024x5632 : Shape := ⟨3, ![2, 1024, 5632]⟩
abbrev S8192x1024 : Shape := ⟨2, ![8192, 1024]⟩
abbrev S1024 : Shape := ⟨1, ![1024]⟩
abbrev S1x1024 : Shape := ⟨2, ![1, 1024]⟩
abbrev S256x5632 : Shape := ⟨2, ![256, 5632]⟩
abbrev S1x1024x5632 : Shape := ⟨3, ![1, 1024, 5632]⟩
abbrev S256x1024 : Shape := ⟨2, ![256, 1024]⟩
abbrev S1024x5632 : Shape := ⟨2, ![1024, 5632]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2x1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1x1024x5632, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormFfnRefIdeal.lean ====
abbrev S8192x5632 : Shape := ⟨2, ![8192, 5632]⟩
abbrev S2x1024x5632 : Shape := ⟨3, ![2, 1024, 5632]⟩
abbrev S8192x1024 : Shape := ⟨2, ![8192, 1024]⟩
abbrev S1024 : Shape := ⟨1, ![1024]⟩
abbrev S1x1024x5632 : Shape := ⟨3, ![1, 1024, 5632]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024x5632, .bf16⟩
  | .hbm, ⟨6, _⟩ => ⟨S1024x5632, .bf16⟩
  | .hbm, ⟨7, _⟩ => ⟨S1024x5632, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Sgu.lean ====
abbrev S8192x512 : Shape := ⟨2, ![8192, 512]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S1x256 : Shape := ⟨2, ![1, 256]⟩
abbrev S512x512 : Shape := ⟨2, ![512, 512]⟩
abbrev S512x256 : Shape := ⟨2, ![512, 256]⟩
abbrev S256x256 : Shape := ⟨2, ![256, 256]⟩
abbrev S128x256 : Shape := ⟨2, ![128, 256]⟩
abbrev S128x1 : Shape := ⟨2, ![128, 1]⟩
abbrev S128 : Shape := ⟨1, ![128]⟩

abbrev nBuf : Space → Nat
  | .hbm => 28
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S4x128x128, .f32⟩
  | .hbm, ⟨19, _⟩ => ⟨S4x128x128, .f32⟩
  | .hbm, ⟨20, _⟩ => ⟨S128x4, .f32⟩
  | .hbm, ⟨21, _⟩ => ⟨S1x256, .f32⟩
  | .hbm, ⟨22, _⟩ => ⟨S1x256, .f32⟩
  | .hbm, ⟨23, _⟩ => ⟨S8192x512, .bf16⟩
  | .hbm, ⟨24, _⟩ => ⟨S1x256, .f32⟩
  | .hbm, ⟨25, _⟩ => ⟨S1x256, .f32⟩
  | .hbm, ⟨26, _⟩ => ⟨S4x128x128, .f32⟩
  | .hbm, ⟨27, _⟩ => ⟨S128x4, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x4, .f32⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S512x512, .bf16⟩
  | .local _ .vmem, ⟨10, _⟩ => ⟨S1x256, .f32⟩
  | .local _ .vmem, ⟨11, _⟩ => ⟨S1x256, .f32⟩
  | .local _ .vmem, ⟨12, _⟩ => ⟨S4x128x128, .f32⟩
  | .local _ .vmem, ⟨13, _⟩ => ⟨S128x4, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguIdeal.lean ====
variable {F : FTy → Type} [FloatOps F] [Named F]
def κ : String → Option EReal := fun
  | "three_a_c" => some ((241015141496493 / 2251799813685248 : ℝ) : EReal)
  | _ => none
-- ==== SguRefIdeal.lean ====
abbrev S8192x512 : Shape := ⟨2, ![8192, 512]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S128x128 : Shape := ⟨2, ![128, 128]⟩
abbrev S_ : Shape := ⟨0, ![]⟩
abbrev S64x128x4x64 : Shape := ⟨4, ![64, 128, 4, 64]⟩
abbrev S64x128x4 : Shape := ⟨3, ![64, 128, 4]⟩
abbrev S64x128x4x1 : Shape := ⟨4, ![64, 128, 4, 1]⟩
abbrev S4x64 : Shape := ⟨2, ![4, 64]⟩
abbrev S1x1x4x64 : Shape := ⟨4, ![1, 1, 4, 64]⟩
abbrev S4x64x64x128 : Shape := ⟨4, ![4, 64, 64, 128]⟩
abbrev S128x4 : Shape := ⟨2, ![128, 4]⟩
abbrev S128x4x1 : Shape := ⟨3, ![128, 4, 1]⟩
abbrev S1x128x4x1 : Shape := ⟨4, ![1, 128, 4, 1]⟩
abbrev S1x256 : Shape := ⟨2, ![1, 256]⟩

abbrev nBuf : Space → Nat
  | .hbm => 177
  | .vmem => 0
  | .smem => 0
  | _ => 0

abbrev hbmTy0_0 (i : Nat) : BufTy := match i % 128 with
  | 0 => ⟨S8192x512, .f32⟩
  | 1 => ⟨S256, .f32⟩
  | 2 => ⟨S256, .f32⟩
  | 3 => ⟨S4x128x128, .f32⟩
  | 4 => ⟨S4x128, .f32⟩
  | 5 => ⟨S8192x256, .f32⟩
  | 6 => ⟨S128x128, .i32⟩
  | 7 => ⟨S_, .i32⟩
  | 8 => ⟨S128x128, .i32⟩
  | 9 => ⟨S128x128, .i32⟩
  | 10 => ⟨S128x128, .i32⟩
  | 11 => ⟨S128x128, .i1⟩
  | 12 => ⟨S4x128x128, .i1⟩
  | 13 => ⟨S_, .f32⟩
  | 14 => ⟨S4x128x128, .f32⟩
  | 15 => ⟨S4x128x128, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x512, .f32⟩
  | 44 => ⟨S8192x256, .f32⟩
  | 45 => ⟨S8192x256, .f32⟩
  | 46 => ⟨S64x128x4x64, .f32⟩
  | 47 => ⟨S_, .f32⟩
  | 48 => ⟨S64x128x4, .f32⟩
  | 49 => ⟨S64x128x4x1, .f32⟩
  | 50 => ⟨S_, .f32⟩
  | 51 => ⟨S64x128x4x1, .f32⟩
  | 52 => ⟨S64x128x4x1, .f32⟩
  | 53 => ⟨S64x128x4x64, .f32⟩
  | 54 => ⟨S64x128x4x64, .f32⟩
  | 55 => ⟨S64x128x4x64, .f32⟩
  | 56 => ⟨S_, .f32⟩
  | 57 => ⟨S64x128x4x64, .f32⟩
  | 58 => ⟨S64x128x4x64, .f32⟩
  | 59 => ⟨S_, .f32⟩
  | 60 => ⟨S64x128x4, .f32⟩
  | 61 => ⟨S64x128x4x1, .f32⟩
  | 62 => ⟨S_, .f32⟩
  | 63 => ⟨S64x128x4x1, .f32⟩
  | 64 => ⟨S64x128x4x1, .f32⟩
  | 65 => ⟨S64x128x4x64, .f32⟩
  | 66 => ⟨S64x128x4x64, .f32⟩
  | 67 => ⟨S_, .f32⟩
  | 68 => ⟨S64x128x4x1, .f32⟩
  | 69 => ⟨S64x128x4x1, .f32⟩
  | 70 => ⟨S64x128x4x1, .f32⟩
  | 71 => ⟨S64x128x4x1, .f32⟩
  | 72 => ⟨S_, .f32⟩
  | 73 => ⟨S64x128x4x1, .f32⟩
  | 74 => ⟨S64x128x4x1, .f32⟩
  | 75 => ⟨S64x128x4x64, .f32⟩
  | 76 => ⟨S64x128x4x64, .f32⟩
  | 77 => ⟨S4x64, .f32⟩
  | 78 => ⟨S1x1x4x64, .f32⟩
  | 79 => ⟨S64x128x4x64, .f32⟩
  | 80 => ⟨S64x128x4x64, .f32⟩
  | 81 => ⟨S4x64, .f32⟩
  | 82 => ⟨S1x1x4x64, .f32⟩
  | 83 => ⟨S64x128x4x64, .f32⟩
  | 84 => ⟨S64x128x4x64, .f32⟩
  | 85 => ⟨S4x64x64x128, .f32⟩
  | 86 => ⟨S64x128x4x64, .f32⟩
  | 87 => ⟨S128x4, .f32⟩
  | 88 => ⟨S128x4x1, .f32⟩
  | 89 => ⟨S1x128x4x1, .f32⟩
  | 90 => ⟨S64x128x4x64, .f32⟩
  | 91 => ⟨S64x128x4x64, .f32⟩
  | 92 => ⟨S8192x256, .f32⟩
  | 93 => ⟨S8192x256, .f32⟩
  | 94 => ⟨S8192x256, .f32⟩
  | 95 => ⟨S8192x256, .f32⟩
  | 96 => ⟨S64x128x4x64, .f32⟩
  | 97 => ⟨S_, .f32⟩
  | 98 => ⟨S128x4, .f32⟩
  | 99 => ⟨S1x128x4x1, .f32⟩
  | 100 => ⟨S_, .f32⟩
  | 101 => ⟨S128x4, .f32⟩
  | 102 => ⟨S128x4x1, .f32⟩
  | 103 => ⟨S_, .f32⟩
  | 104 => ⟨S128x4, .f32⟩
  | 105 => ⟨S4x128, .f32⟩
  | 106 => ⟨S4x64x64x128, .f32⟩
  | 107 => ⟨S4x128x128, .f32⟩
  | 108 => ⟨S4x64x64x128, .f32⟩
  | 109 => ⟨S64x128x4x64, .f32⟩
  | 110 => ⟨S_, .f32⟩
  | 111 => ⟨S4x64, .f32⟩
  | 112 => ⟨S1x1x4x64, .f32⟩
  | 113 => ⟨S_, .f32⟩
  | 114 => ⟨S4x64, .f32⟩
  | 115 => ⟨S256, .f32⟩
  | 116 => ⟨S64x128x4x64, .f32⟩
  | 117 => ⟨S_, .f32⟩
  | 118 => ⟨S4x64, .f32⟩
  | 119 => ⟨S1x1x4x64, .f32⟩
  | 120 => ⟨S64x128x4x64, .f32⟩
  | 121 => ⟨S64x128x4x64, .f32⟩
  | 122 => ⟨S_, .f32⟩
  | 123 => ⟨S4x64, .f32⟩
  | 124 => ⟨S256, .f32⟩
  | 125 => ⟨S64x128x4x64, .f32⟩
  | 126 => ⟨S_, .f32⟩
  | 127 => ⟨S64x128x4, .f32⟩
  | _ => ⟨S8192x512, .f32⟩

abbrev hbmTy0_1 (i : Nat) : BufTy := match i % 128 with
  | 0 => ⟨S64x128x4x1, .f32⟩
  | 1 => ⟨S64x128x4x64, .f32⟩
  | 2 => ⟨S64x128x4x64, .f32⟩
  | 3 => ⟨S64x128x4x1, .f32⟩
  | 4 => ⟨S64x128x4x64, .f32⟩
  | 5 => ⟨S_, .f32⟩
  | 6 => ⟨S64x128x4, .f32⟩
  | 7 => ⟨S64x128x4x1, .f32⟩
  | 8 => ⟨S_, .f32⟩
  | 9 => ⟨S64x128x4x1, .f32⟩
  | 10 => ⟨S64x128x4x1, .f32⟩
  | 11 => ⟨S_, .f32⟩
  | 12 => ⟨S64x128x4, .f32⟩
  | 13 => ⟨S64x128x4x64, .f32⟩
  | 14 => ⟨S64x128x4x64, .f32⟩
  | 15 => ⟨S64x128x4x64, .f32⟩
  | 16 => ⟨S_, .f32⟩
  | 17 => ⟨S64x128x4, .f32⟩
  | 18 => ⟨S64x128x4x1, .f32⟩
  | 19 => ⟨S64x128x4x64, .f32⟩
  | 20 => ⟨S64x128x4x1, .f32⟩
  | 21 => ⟨S_, .f32⟩
  | 22 => ⟨S64x128x4x1, .f32⟩
  | 23 => ⟨S64x128x4x1, .f32⟩
  | 24 => ⟨S_, .f32⟩
  | 25 => ⟨S64x128x4, .f32⟩
  | 26 => ⟨S64x128x4x64, .f32⟩
  | 27 => ⟨S64x128x4x64, .f32⟩
  | 28 => ⟨S8192x256, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x512, .f32⟩
  | 44 => ⟨S8192x512, .f32⟩
  | 45 => ⟨S8192x512, .bf16⟩
  | 46 => ⟨S1x256, .f32⟩
  | 47 => ⟨S1x256, .f32⟩
  | 48 => ⟨S128x4, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst : Ref sig .tc := ⟨.hbm, 13, rfl⟩
abbrev main_call0_v6 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_cst_22 : Ref sig .tc := ⟨.hbm, 136, rfl⟩
abbrev main_v98 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_24 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_25 : Ref sig .tc := ⟨.hbm, 149, rfl⟩
abbrev main_v108 : Ref sig .tc := ⟨.hbm, 150, rfl⟩
abbrev main_v109 : Ref sig .tc := ⟨.hbm, 151, rfl⟩
abbrev main_cst_26 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_27 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_28 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_29 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩

abbrev nD : Nat := 1
abbrev τ : Topo := Topo.v7x

variable {F : FTy → Type} [FloatOps F]
-- ==== NormAttn.lean ====
abbrev S8192x2304 : Shape := ⟨2, ![8192, 2304]⟩
abbrev S2x1024x2304 : Shape := ⟨3, ![2, 1024, 2304]⟩
abbrev S8192x1024 : Shape := ⟨2, ![8192, 1024]⟩
abbrev S1024 : Shape := ⟨1, ![1024]⟩
abbrev S1x1024 : Shape := ⟨2, ![1, 1024]⟩
abbrev S512x2304 : Shape := ⟨2, ![512, 2304]⟩
abbrev S1x1024x2304 : Shape := ⟨3, ![1, 1024, 2304]⟩
abbrev S512x1024 : Shape := ⟨2, ![512, 1024]⟩
abbrev S1024x2304 : Shape := ⟨2, ![1024, 2304]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2304, .bf16⟩
  | .hbm, ⟨1, _⟩ => ⟨S2x1024x2304, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S1x1024x2304, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormAttnRefIdeal.lean ====
abbrev S8192x2304 : Shape := ⟨2, ![8192, 2304]⟩
abbrev S2x1024x2304 : Shape := ⟨3, ![2, 1024, 2304]⟩
abbrev S8192x1024 : Shape := ⟨2, ![8192, 1024]⟩
abbrev S1024 : Shape := ⟨1, ![1024]⟩
abbrev S1x1024x2304 : Shape := ⟨3, ![1, 1024, 2304]⟩
abbrev S1024x2304 : Shape := ⟨2, ![1024, 2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S2x1024x2304, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024x2304, .bf16⟩
  | .hbm, ⟨6, _⟩ => ⟨S1024x2304, .bf16⟩
  | .hbm, ⟨7, _⟩ => ⟨S1024x2304, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2304, .f32⟩
  | .hbm, ⟨29, _⟩ => ⟨S8192x2304, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== NormPle.lean ====
abbrev S8192x1024 : Shape := ⟨2, ![8192, 1024]⟩
abbrev S2x1024x1024 : Shape := ⟨3, ![2, 1024, 1024]⟩
abbrev S1024 : Shape := ⟨1, ![1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormPleRefIdeal.lean ====
abbrev S8192x1024 : Shape := ⟨2, ![8192, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== GradUp.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradIn.lean ====
abbrev S8192x1024 : Shape := ⟨2, ![8192, 1024]⟩
abbrev S8192x2304 : Shape := ⟨2, ![8192, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S8192x1024, .f32⟩
  | .hbm, ⟨3, _⟩ => ⟨S8192x2304, .f32⟩
  | .hbm, ⟨4, _⟩ => ⟨S_, .f32⟩
  | .hbm, ⟨5, _⟩ => ⟨S1024x2304, .f32⟩
  | .hbm, ⟨6, _⟩ => ⟨S8192x2304, .f32⟩
  | .hbm, ⟨7, _⟩ => ⟨S2304x1024, .f32⟩
  | .hbm, ⟨8, _⟩ => ⟨S1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradGate.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradGateRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradProj.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BackAct.lean ====
abbrev S8192x1024 : Shape := ⟨2, ![8192, 1024]⟩
abbrev S2x2816x1024 : Shape := ⟨3, ![2, 2816, 1024]⟩
abbrev S8192x2816 : Shape := ⟨2, ![8192, 2816]⟩
abbrev S512x1024 : Shape := ⟨2, ![512, 1024]⟩
abbrev S1x1408x1024 : Shape := ⟨3, ![1, 1408, 1024]⟩
abbrev S512x1408 : Shape := ⟨2, ![512, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x2816x1024, .bf16⟩
  | .hbm, ⟨2, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S512x1408, .bf16⟩
  | .local _ .vmem, ⟨5, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackActRefIdeal.lean ====
abbrev S8192x1024 : Shape := ⟨2, ![8192, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x2816x1024, .bf16⟩
  | .hbm, ⟨2, _⟩ => ⟨S1x2816x1024, .bf16⟩
  | .hbm, ⟨3, _⟩ => ⟨S2816x1024, .bf16⟩
  | .hbm, ⟨4, _⟩ => ⟨S2816x1024, .f32⟩
  | .hbm, ⟨5, _⟩ => ⟨S_, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BackMix.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackMixRefIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S8192x2816 : Shape := ⟨2, ![8192, 2816]⟩
abbrev S2x2816x1024 : Shape := ⟨3, ![2, 2816, 1024]⟩
abbrev S8192x1024 : Shape := ⟨2, ![8192, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x2816 : Shape := ⟨2, ![8192, 2816]⟩
abbrev S2x2816x1024 : Shape := ⟨3, ![2, 2816, 1024]⟩
abbrev S8192x1024 : Shape := ⟨2, ![8192, 1024]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .hbm, ⟨3, _⟩ => ⟨S1x2816x1024, .bf16⟩
  | .hbm, ⟨4, _⟩ => ⟨S2816x1024, .bf16⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S1x1024x1024, .bf16⟩
  | .hbm, ⟨4, _⟩ => ⟨S1024x1024, .bf16⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S2x1024x2304 : Shape := ⟨3, ![2, 1024, 2304]⟩
abbrev S1x1024 : Shape := ⟨2, ![1, 1024]⟩
abbrev S12x8192x128 : Shape := ⟨3, ![12, 8192, 128]⟩
abbrev S8192x512 : Shape := ⟨2, ![8192, 512]⟩
abbrev S8192x256 : Shape := ⟨2, ![8192, 256]⟩
abbrev S512x1024 : Shape := ⟨2, ![512, 1024]⟩
abbrev S1x1024x2304 : Shape := ⟨3, ![1, 1024, 2304]⟩
abbrev S12x512x128 : Shape := ⟨3, ![12, 512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x2304 : Shape := ⟨2, ![1024, 2304]⟩
abbrev S512x2304 : Shape := ⟨2, ![512, 2304]⟩
abbrev S512x128 : Shape := ⟨2, ![512, 128]⟩
abbrev S1x512x128 : Shape := ⟨3, ![1, 512, 128]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x2304, .bf16⟩
  | .hbm, ⟨3, _⟩ => ⟨S1x1024, .f32⟩
  | .hbm, ⟨4, _⟩ => ⟨S8192x1024, .bf16⟩
  | .hbm, ⟨5, _⟩ => ⟨S12x8192x128, .f32⟩
  | .hbm, ⟨6, _⟩ => ⟨S8192x512, .f32⟩
  | .hbm, ⟨7, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2304, .bf16⟩
  | .local _ .vmem, ⟨4, _⟩ => ⟨S512x1024, .bf16⟩
  | .local _ .vmem, ⟨5, _⟩ => ⟨S512x1024, .bf16⟩
  | .local _ .vmem, ⟨6, _⟩ => ⟨S12x512x128, .f32⟩
  | .local _ .vmem, ⟨7, _⟩ => ⟨S12x512x128, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S8192x1024 : Shape := ⟨2, ![8192, 1024]⟩
abbrev S1024 : Shape := ⟨1, ![1024]⟩
abbrev S2x1024x2304 : Shape := ⟨3, ![2, 1024, 2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x2304 : Shape := ⟨3, ![1, 1024, 2304]⟩
abbrev S1024x2304 : Shape := ⟨2, ![1024, 2304]⟩
abbrev S8192x2304 : Shape := ⟨2, ![8192, 2304]⟩
abbrev S8192x512 : Shape := ⟨2, ![8192, 512]⟩
abbrev S8192x1536 : Shape := ⟨2, ![8192, 1536]⟩
abbrev S8192x12x128 : Shape := ⟨3, ![8192, 12, 128]⟩
abbrev S12x8192x128 : Shape := ⟨3, ![12, 8192, 128]⟩
abbrev S8192x256 : Shape := ⟨2, ![8192, 256]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x2304, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1x1024x2304, .bf16⟩
  | .hbm, ⟨20, _⟩ => ⟨S1024x2304, .bf16⟩
  | .hbm, ⟨21, _⟩ => ⟨S1024x2304, .f32⟩
  | .hbm, ⟨22, _⟩ => ⟨S8192x2304, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x1024, .f32⟩
  | .hbm, ⟨28, _⟩ => ⟨S8192x1536, .f32⟩
  | .hbm, ⟨29, _⟩ => ⟨S8192x12x128, .f32⟩
  | .hbm, ⟨30, _⟩ => ⟨S12x8192x128, .f32⟩
  | .hbm, ⟨31, _⟩ => ⟨S8192x1024, .bf16⟩
  | .hbm, ⟨32, _⟩ => ⟨S8192x512, .f32⟩
  | .hbm, ⟨33, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== PleFwd.lean ====
abbrev S8192x1024 : Shape := ⟨2, ![8192, 1024]⟩
abbrev S1024 : Shape := ⟨1, ![1024]⟩
abbrev S8192x256 : Shape := ⟨2, ![8192, 256]⟩
abbrev S2x1024x1024 : Shape := ⟨3, ![2, 1024, 1024]⟩
abbrev S2x256x1024 : Shape := ⟨3, ![2, 256, 1024]⟩
abbrev S1x1024 : Shape := ⟨2, ![1, 1024]⟩
abbrev S512x1024 : Shape := ⟨2, ![512, 1024]⟩
abbrev S512x256 : Shape := ⟨2, ![512, 256]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x256, .f32⟩
  | .hbm, ⟨3, _⟩ => ⟨S2x1024x1024, .bf16⟩
  | .hbm, ⟨4, _⟩ => ⟨S2x256x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .f32⟩
  | .local _ .vmem, ⟨4, _⟩ => ⟨S512x256, .f32⟩
  | .local _ .vmem, ⟨5, _⟩ => ⟨S1x1024x1024, .bf16⟩
  | .local _ .vmem, ⟨6, _⟩ => ⟨S1x256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleFwdRefIdeal.lean ====
abbrev S8192x1024 : Shape := ⟨2, ![8192, 1024]⟩
abbrev S1024 : Shape := ⟨1, ![1024]⟩
abbrev S8192x256 : Shape := ⟨2, ![8192, 256]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x256, .f32⟩
  | .hbm, ⟨3, _⟩ => ⟨S2x1024x1024, .bf16⟩
  | .hbm, ⟨4, _⟩ => ⟨S2x256x1024, .bf16⟩
  | .hbm, ⟨5, _⟩ => ⟨S1x1024x1024, .bf16⟩
  | .hbm, ⟨6, _⟩ => ⟨S1024x1024, .bf16⟩
  | .hbm, ⟨7, _⟩ => ⟨S1x256x1024, .bf16⟩
  | .hbm, ⟨8, _⟩ => ⟨S256x1024, .bf16⟩
  | .hbm, ⟨9, _⟩ => ⟨S1024x1024, .f32⟩
  | .hbm, ⟨10, _⟩ => ⟨S256x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== PleBwd.lean ====
abbrev S8192x1024 : Shape := ⟨2, ![8192, 1024]⟩
abbrev S8192x256 : Shape := ⟨2, ![8192, 256]⟩
abbrev S2x1024x1024 : Shape := ⟨3, ![2, 1024, 1024]⟩
abbrev S2x256x1024 : Shape := ⟨3, ![2, 256, 1024]⟩
abbrev S512x1024 : Shape := ⟨2, ![512, 1024]⟩
abbrev S512x256 : Shape := ⟨2, ![512, 256]⟩
abbrev S1x1024x1024 : Shape := ⟨3, ![1, 1024, 1024]⟩
abbrev S1x256x1024 : Shape := ⟨3, ![1, 256, 1024]⟩
abbrev S1024x1024 : Shape := ⟨2, ![1024, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S2x1024x1024, .bf16⟩
  | .hbm, ⟨3, _⟩ => ⟨S2x256x1024, .bf16⟩
  | .hbm, ⟨4, _⟩ => ⟨S8192x1024, .f32⟩
  | .hbm, ⟨5, _⟩ => ⟨S8192x1024, .bf16⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S1x1024x1024, .bf16⟩
  | .local _ .vmem, ⟨5, _⟩ => ⟨S1x256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleBwdRefIdeal.lean ====
abbrev S8192x1024 : Shape := ⟨2, ![8192, 1024]⟩
abbrev S8192x256 : Shape := ⟨2, ![8192, 256]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S2x1024x1024, .bf16⟩
  | .hbm, ⟨3, _⟩ => ⟨S2x256x1024, .bf16⟩
  | .hbm, ⟨4, _⟩ => ⟨S8192x1024, .f32⟩
  | .hbm, ⟨5, _⟩ => ⟨S1x1024x1024, .bf16⟩
  | .hbm, ⟨6, _⟩ => ⟨S1024x1024, .bf16⟩
  | .hbm, ⟨7, _⟩ => ⟨S1x256x1024, .bf16⟩
  | .hbm, ⟨8, _⟩ => ⟨S256x1024, .bf16⟩
  | .hbm, ⟨9, _⟩ => ⟨S8192x1024, .f32⟩
  | .hbm, ⟨10, _⟩ => ⟨S1024x1024, .f32⟩
  | .hbm, ⟨11, _⟩ => ⟨S256x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== ConvGate.lean ====
abbrev S8192x5632 : Shape := ⟨2, ![8192, 5632]⟩
abbrev S3x5632 : Shape := ⟨2, ![3, 5632]⟩
abbrev S5632 : Shape := ⟨1, ![5632]⟩
abbrev S8192x2x2x1408 : Shape := ⟨4, ![8192, 2, 2, 1408]⟩
abbrev S3x2x2x1408 : Shape := ⟨4, ![3, 2, 2, 1408]⟩
abbrev S2x2x1408 : Shape := ⟨3, ![2, 2, 1408]⟩
abbrev S1x5632 : Shape := ⟨2, ![1, 5632]⟩
abbrev S8192x2816 : Shape := ⟨2, ![8192, 2816]⟩
abbrev S256x2816 : Shape := ⟨2, ![256, 2816]⟩
abbrev S16x2816 : Shape := ⟨2, ![16, 2816]⟩
abbrev S3x2816 : Shape := ⟨2, ![3, 2816]⟩
abbrev S1x2816 : Shape := ⟨2, ![1, 2816]⟩
abbrev S256x1408 : Shape := ⟨2, ![256, 1408]⟩
abbrev S512x256 : Shape := ⟨2, ![512, 256]⟩
abbrev S512x2816 : Shape := ⟨2, ![512, 2816]⟩
abbrev S8x2816 : Shape := ⟨2, ![8, 2816]⟩
abbrev S248x2816 : Shape := ⟨2, ![248, 2816]⟩

abbrev nBuf : Space → Nat
  | .hbm => 14
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S8192x2x2x1408, .bf16⟩
  | .hbm, ⟨4, _⟩ => ⟨S8192x2x2x1408, .bf16⟩
  | .hbm, ⟨5, _⟩ => ⟨S8192x5632, .bf16⟩
  | .hbm, ⟨6, _⟩ => ⟨S3x2x2x1408, .f32⟩
  | .hbm, ⟨7, _⟩ => ⟨S3x2x2x1408, .f32⟩
  | .hbm, ⟨8, _⟩ => ⟨S3x5632, .f32⟩
  | .hbm, ⟨9, _⟩ => ⟨S2x2x1408, .f32⟩
  | .hbm, ⟨10, _⟩ => ⟨S2x2x1408, .f32⟩
  | .hbm, ⟨11, _⟩ => ⟨S5632, .f32⟩
  | .hbm, ⟨12, _⟩ => ⟨S1x5632, .f32⟩
  | .hbm, ⟨13, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S3x2816, .f32⟩
  | .local _ .vmem, ⟨5, _⟩ => ⟨S3x2816, .f32⟩
  | .local _ .vmem, ⟨6, _⟩ => ⟨S1x2816, .f32⟩
  | .local _ .vmem, ⟨7, _⟩ => ⟨S1x2816, .f32⟩
  | .local _ .vmem, ⟨8, _⟩ => ⟨S256x1408, .bf16⟩
  | .local _ .vmem, ⟨9, _⟩ => ⟨S256x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvGateRefIdeal.lean ====
abbrev S8192x5632 : Shape := ⟨2, ![8192, 5632]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S8192x2816 : Shape := ⟨2, ![8192, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S8192x5632, .f32⟩
  | .hbm, ⟨4, _⟩ => ⟨S1x5632, .f32⟩
  | .hbm, ⟨5, _⟩ => ⟨S5632, .f32⟩
  | .hbm, ⟨6, _⟩ => ⟨S_, .f32⟩
  | .hbm, ⟨7, _⟩ => ⟨S2x5632, .f32⟩
  | .hbm, ⟨8, _⟩ => ⟨S8190x5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S_, .f32⟩
  | .hbm, ⟨16, _⟩ => ⟨S1x5632, .f32⟩
  | .hbm, ⟨17, _⟩ => ⟨S8191x5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== AdamIn.lean ====
abbrev S2x1024x576 : Shape := ⟨3, ![2, 1024, 576]⟩
abbrev S2048x576 : Shape := ⟨2, ![2048, 576]⟩
abbrev S256x576 : Shape := ⟨2, ![256, 576]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S2x1024x576, .f32⟩
  | .hbm, ⟨4, _⟩ => ⟨S2048x576, .f32⟩
  | .hbm, ⟨5, _⟩ => ⟨S2048x576, .f32⟩
  | .hbm, ⟨6, _⟩ => ⟨S2048x576, .f32⟩
  | .hbm, ⟨7, _⟩ => ⟨S2048x576, .f32⟩
  | .hbm, ⟨8, _⟩ => ⟨S2048x576, .f32⟩
  | .hbm, ⟨9, _⟩ => ⟨S2048x576, .f32⟩
  | .hbm, ⟨10, _⟩ => ⟨S2048x576, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | .local _ .vmem, ⟨7, _⟩ => ⟨S256x576, .f32⟩
  | .local _ .vmem, ⟨8, _⟩ => ⟨S256x576, .f32⟩
  | .local _ .vmem, ⟨9, _⟩ => ⟨S256x576, .f32⟩
  | .local _ .vmem, ⟨10, _⟩ => ⟨S256x576, .f32⟩
  | .local _ .vmem, ⟨11, _⟩ => ⟨S256x576, .f32⟩
  | .local _ .vmem, ⟨12, _⟩ => ⟨S256x576, .f32⟩
  | .local _ .vmem, ⟨13, _⟩ => ⟨S256x576, .f32⟩
  | _, _ => ⟨S2x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x1024x576 : Shape := ⟨3, ![2, 1024, 576]⟩
abbrev S_ : Shape := ⟨0, ![]⟩
abbrev S2048x576 : Shape := ⟨2, ![2048, 576]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S2x1024x576, .f32⟩
  | .hbm, ⟨4, _⟩ => ⟨S_, .f32⟩
  | .hbm, ⟨5, _⟩ => ⟨S2x1024x576, .f32⟩
  | .hbm, ⟨6, _⟩ => ⟨S2x1024x576, .f32⟩
  | .hbm, ⟨7, _⟩ => ⟨S_, .f32⟩
  | .hbm, ⟨8, _⟩ => ⟨S2x1024x576, .f32⟩
  | .hbm, ⟨9, _⟩ => ⟨S2x1024x576, .f32⟩
  | .hbm, ⟨10, _⟩ => ⟨S2x1024x576, .f32⟩
  | .hbm, ⟨11, _⟩ => ⟨S_, .f32⟩
  | .hbm, ⟨12, _⟩ => ⟨S2x1024x576, .f32⟩
  | .hbm, ⟨13, _⟩ => ⟨S2x1024x576, .f32⟩
  | .hbm, ⟨14, _⟩ => ⟨S2x1024x576, .f32⟩
  | .hbm, ⟨15, _⟩ => ⟨S_, .f32⟩
  | .hbm, ⟨16, _⟩ => ⟨S2x1024x576, .f32⟩
  | .hbm, ⟨17, _⟩ => ⟨S2x1024x576, .f32⟩
  | .hbm, ⟨18, _⟩ => ⟨S2x1024x576, .f32⟩
  | .hbm, ⟨19, _⟩ => ⟨S_, .f32⟩
  | .hbm, ⟨20, _⟩ => ⟨S2x1024x576, .f32⟩
  | .hbm, ⟨21, _⟩ => ⟨S2x1024x576, .f32⟩
  | .hbm, ⟨22, _⟩ => ⟨S_, .f32⟩
  | .hbm, ⟨23, _⟩ => ⟨S2x1024x576, .f32⟩
  | .hbm, ⟨24, _⟩ => ⟨S2x1024x576, .f32⟩
  | .hbm, ⟨25, _⟩ => ⟨S2x1024x576, .f32⟩
  | .hbm, ⟨26, _⟩ => ⟨S_, .f32⟩
  | .hbm, ⟨27, _⟩ => ⟨S2x1024x576, .f32⟩
  | .hbm, ⟨28, _⟩ => ⟨S2x1024x576, .f32⟩
  | .hbm, ⟨29, _⟩ => ⟨S2x1024x576, .f32⟩
  | .hbm, ⟨30, _⟩ => ⟨S_, .f32⟩
  | .hbm, ⟨31, _⟩ => ⟨S2x1024x576, .f32⟩
  | .hbm, ⟨32, _⟩ => ⟨S2x1024x576, .f32⟩
  | .hbm, ⟨33, _⟩ => ⟨S2x1024x576, .f32⟩
  | .hbm, ⟨34, _⟩ => ⟨S_, .f32⟩
  | .hbm, ⟨35, _⟩ => ⟨S2x1024x576, .f32⟩
  | .hbm, ⟨36, _⟩ => ⟨S2x1024x576, .f32⟩
  | .hbm, ⟨37, _⟩ => ⟨S2048x576, .f32⟩
  | .hbm, ⟨38, _⟩ => ⟨S2048x576, .f32⟩
  | .hbm, ⟨39, _⟩ => ⟨S2048x576, .f32⟩
  | _, _ => ⟨S2x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGlu.lean ====
abbrev S2x64x256 : Shape := ⟨3, ![2, 64, 256]⟩
abbrev S128x256 : Shape := ⟨2, ![128, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S2x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluRefIdeal.lean ====
abbrev S2x64x256 : Shape := ⟨3, ![2, 64, 256]⟩
abbrev S_ : Shape := ⟨0, ![]⟩
abbrev S128x256 : Shape := ⟨2, ![128, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S_, .f32⟩
  | .hbm, ⟨5, _⟩ => ⟨S2x64x256, .f32⟩
  | .hbm, ⟨6, _⟩ => ⟨S2x64x256, .f32⟩
  | .hbm, ⟨7, _⟩ => ⟨S_, .f32⟩
  | .hbm, ⟨8, _⟩ => ⟨S2x64x256, .f32⟩
  | .hbm, ⟨9, _⟩ => ⟨S2x64x256, .f32⟩
  | .hbm, ⟨10, _⟩ => ⟨S2x64x256, .f32⟩
  | .hbm, ⟨11, _⟩ => ⟨S_, .f32⟩
  | .hbm, ⟨12, _⟩ => ⟨S2x64x256, .f32⟩
  | .hbm, ⟨13, _⟩ => ⟨S2x64x256, .f32⟩
  | .hbm, ⟨14, _⟩ => ⟨S2x64x256, .f32⟩
  | .hbm, ⟨15, _⟩ => ⟨S_, .f32⟩
  | .hbm, ⟨16, _⟩ => ⟨S2x64x256, .f32⟩
  | .hbm, ⟨17, _⟩ => ⟨S2x64x256, .f32⟩
  | .hbm, ⟨18, _⟩ => ⟨S2x64x256, .f32⟩
  | .hbm, ⟨19, _⟩ => ⟨S_, .f32⟩
  | .hbm, ⟨20, _⟩ => ⟨S2x64x256, .f32⟩
  | .hbm, ⟨21, _⟩ => ⟨S2x64x256, .f32⟩
  | .hbm, ⟨22, _⟩ => ⟨S_, .f32⟩
  | .hbm, ⟨23, _⟩ => ⟨S2x64x256, .f32⟩
  | .hbm, ⟨24, _⟩ => ⟨S2x64x256, .f32⟩
  | .hbm, ⟨25, _⟩ => ⟨S2x64x256, .f32⟩
  | .hbm, ⟨26, _⟩ => ⟨S_, .f32⟩
  | .hbm, ⟨27, _⟩ => ⟨S2x64x256, .f32⟩
  | .hbm, ⟨28, _⟩ => ⟨S2x64x256, .f32⟩
  | .hbm, ⟨29, _⟩ => ⟨S2x64x256, .f32⟩
  | .hbm, ⟨30, _⟩ => ⟨S_, .f32⟩
  | .hbm, ⟨31, _⟩ => ⟨S2x64x256, .f32⟩
  | .hbm, ⟨32, _⟩ => ⟨S2x64x256, .f32⟩
  | .hbm, ⟨33, _⟩ => ⟨S2x64x256, .f32⟩
  | .hbm, ⟨34, _⟩ => ⟨S_, .f32⟩
  | .hbm, ⟨35, _⟩ => ⟨S2x64x256, .f32⟩
  | .hbm, ⟨36, _⟩ => ⟨S2x64x256, .f32⟩
  | .hbm, ⟨37, _⟩ => ⟨S128x256, .f32⟩
  | .hbm, ⟨38, _⟩ => ⟨S128x256, .f32⟩
  | .hbm, ⟨39, _⟩ => ⟨S128x256, .f32⟩
  | _, _ => ⟨S2x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConv.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S2x3x1408 : Shape := ⟨3, ![2, 3, 1408]⟩
abbrev S_ : Shape := ⟨0, ![]⟩
abbrev S6x1408 : Shape := ⟨2, ![6, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | .hbm, ⟨37, _⟩ => ⟨S6x1408, .f32⟩
  | .hbm, ⟨38, _⟩ => ⟨S6x1408, .f32⟩
  | .hbm, ⟨39, _⟩ => ⟨S6x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGate.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamProj.lean ====
abbrev S2x256x256 : Shape := ⟨3, ![2, 256, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamProjRefIdeal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.Reals.lean ====
/-
  REAL NUMBERS INSIDE THE EXTENDED REALS. The gradient identities of this certificate are identities of real numbers:
  they distribute products over sums, which the extended reals do not. Here: a finite array is an array of reals; sums,
  quotients, reciprocal square roots and hyperbolic tangents of reals are real; the literals of the programs as reals.
-/
module

public import Idealize.ShloMosaic.PureOps.Ideal.Laws
public import Idealize.ShloMosaic.Lib.IdealHost
public import Mathlib.Tactic.NormNum
public import Mathlib.Tactic.Positivity
public import Mathlib.Tactic.FieldSimp
public import Mathlib.Tactic.Ring

@[expose] public section

noncomputable section

namespace Cert.Reals

open Idealize.ShloMosaic
open scoped BigOperators

/-- An extended real below `⊤` in absolute value is a real number. -/
theorem real_of_abs_lt (x : EReal) (h : max x (-x) < ⊤) : ∃ r : ℝ, x = (r : EReal) := by
  induction x with
  | bot => simp at h
  | coe r => exact ⟨r, rfl⟩
  | top => simp at h

/-- An array whose elements are all below `⊤` in absolute value is an array of reals. -/
theorem reals_of_abs_lt {ι : Type} (x : ι → EReal) (h : ∀ i, max (x i) (-x i) < ⊤) :
    ∃ r : ι → ℝ, x = fun i => (r i : EReal) :=
  ⟨fun i => (real_of_abs_lt (x i) (h i)).choose, funext fun i => (real_of_abs_lt (x i) (h i)).choose_spec⟩

/-- A finite sum of reals, taken in the extended reals, is the real sum. -/
theorem coe_sum {ι : Type} [Fintype ι] (f : ι → ℝ) : (∑ i, ((f i : ℝ) : EReal)) = ((∑ i, f i : ℝ) : EReal) := by
  classical
  have h : ∀ s : Finset ι, (∑ i ∈ s, ((f i : ℝ) : EReal)) = ((∑ i ∈ s, f i : ℝ) : EReal) := fun s => by
    induction s using Finset.induction_on with
    | empty => simp
    | insert a s ha ih => rw [Finset.sum_insert ha, Finset.sum_insert ha, ih, EReal.coe_add]
  exact h _

/-- The quotient of two reals, the divisor not zero, is the real quotient. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The reciprocal square root of a positive real. -/
theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

/-- The hyperbolic tangent of a real. -/
theorem tanh_coe (a : ℝ) : Ideal.tanh (a : EReal) = ((Real.tanh a : ℝ) : EReal) := rfl

/-- The `1e-6` of the norms, as the f32 word has it. -/
def eps : ℝ := 8796093 / 2 ^ 43

theorem eps_pos : 0 < eps := by unfold eps; positivity

theorem lit_eps : Ideal.ofBits .f32 0x358637BD#32 = ((eps : ℝ) : EReal) := by
  unfold eps; simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_inf : Ideal.ofBits .f32 0x7F800000#32 = ⊤ := by
  simp [Ideal.ofBits, Ideal.ieee]

/-- An array whose elements all compare below +∞ in absolute value is an array of reals. -/
theorem reals_of_olt {ι : Type} (x : ι → EReal)
    (h : ∀ i, Ideal.cmp .olt (max (x i) (-x i)) (Ideal.ofBits .f32 0x7F800000#32) = 1#1) :
    ∃ r : ι → ℝ, x = fun i => (r i : EReal) :=
  reals_of_abs_lt x fun i => by
    have hi := h i
    rw [lit_inf] at hi
    by_contra hn
    simp [Ideal.cmp, hn] at hi

end Cert.Reals

end
-- ==== Proof.NormMath.lean ====
/-
  THE GRADIENT OF A NORMALISED ROW, over the reals. A row `x` of 1024 numbers is scaled to root mean square one,
  `x̂ = x·r` with `r = 1/√(mean x² + ε)`, and multiplied by `g`. For the gradient `y` of that product and the gradient `d`
  that reaches `x` past the norm, the kernel computes `d + r·(y·g − x̂·mean(y·g·x̂))`; the derivative taken factor by
  factor is `d + y·g·r + 2·x·(…)/1024`. Here: the two are equal (`dRow_eq`).
-/
module

public import proofs.«01_k».proof.Proof.Reals

@[expose] public section

noncomputable section

namespace Cert.NormMath

open Cert.Reals
open scoped BigOperators

/-- The mean square of a row, plus ε. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg (x k)) (by norm_num)) eps_pos

/-- The reciprocal root of the mean square plus ε. -/
def rinv (x : Fin 1024 → ℝ) : ℝ := (Real.sqrt (msq x))⁻¹

theorem rinv_div (x : Fin 1024 → ℝ) : rinv x / msq x = rinv x ^ 3 := by
  have h : rinv x ^ 2 = (msq x)⁻¹ := by
    unfold rinv; rw [inv_pow, Real.sq_sqrt (msq_pos x).le]
  rw [pow_succ, h, div_eq_mul_inv, mul_comm]

/-- What reaches the row `x`: `d` past the norm, and `y` through it. -/
def dRow (y x g d : Fin 1024 → ℝ) (j : Fin 1024) : ℝ :=
  d j + rinv x * (y j * g j - x j * rinv x * ((∑ k, y k * g k * (x k * rinv x)) / 1024))

/-- The factor-by-factor derivative is the kernel's expression: the derivative of `1/√v` is `−½·r/v`, and `r/v = r³`. -/
theorem dRow_eq (y x g d : Fin 1024 → ℝ) (j : Fin 1024) :
    d j + y j * g j * rinv x + x j * ((∑ k, x k * (y k * g k)) * (-(1 / 2) * (rinv x / msq x)) / 1024)
      + (∑ k, x k * (y k * g k)) * (-(1 / 2) * (rinv x / msq x)) / 1024 * x j = dRow y x g d j := by
  have hs : (∑ k, y k * g k * (x k * rinv x)) = (∑ k, x k * (y k * g k)) * rinv x := by
    rw [Finset.sum_mul]; exact Finset.sum_congr rfl fun k _ => by ring
  unfold dRow
  rw [rinv_div, hs]
  ring

end Cert.NormMath

end
-- ==== Proof.NormFfnBlock.lean ====
/-
  ONE BLOCK of `d_xn_ffn` (256 rows of the stream): what a grid point leaves in its two output buffers, first as the
  program's own terms over its input blocks, then, for input blocks of reals, as real formulas — the gradient rows of
  `NormMath.dRow`, and the block's part of the gradient of `g`.
-/
module

public import proofs.«01_k».proof.Proof.NormMath
public import proofs.«01_k».proof.Proof.Gen.NormFfnIdeal.Value
public import Idealize.ShloMosaic.Lib.Pointwise

@[expose] public section

set_option maxRecDepth 16384

noncomputable section

namespace Cert.NormFfnIdeal.Block

open Cert.NormFfnIdeal Cert.NormFfnIdeal.Gen Cert.Reals Cert.NormMath
open Idealize.ShloMosaic Idealize.ShloMosaic.TcCoe Idealize.SL.Sem
open scoped BigOperators

section Terms

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The rows a point leaves in the first output, of its blocks: of the product's gradient `a`, the weights `w`, the
    stream `x`, the scale `g`, the gradient `d` past the norm. -/
def rows (a : Vec F S256x5632 .bf16) (w : Vec F S1x1024x5632 .bf16) (x : Vec F S256x1024 .f32) (g : Vec F S1x1024 .f32)
    (d : Vec F S256x1024 .f32) : Vec F S256x1024 .f32 :=
  k0_pay1 (k0_pay4 x) (k0_pay5 x) (k0_pay7 a w g) d (k0_pay8 a w x g) (Scalar.ofBits .f32 0x44800000#32)

variable (c : Dev nD) (i : grid0.Coords) (a1 : Memref sig .tc .vmem S256x5632 .bf16) (h1 : a1.IsWhole)
  (a2 : Memref sig .tc .vmem S1x1024x5632 .bf16) (h2 : a2.IsWhole) (a3 : Memref sig .tc .vmem S256x1024 .f32) (h3 : a3.IsWhole)
  (a4 : Memref sig .tc .vmem S1x1024 .f32) (h4 : a4.IsWhole) (a5 : Memref sig .tc .vmem S256x1024 .f32) (h5 : a5.IsWhole)
  (a6 : Memref sig .tc .vmem S256x1024 .f32) (h6 : a6.IsWhole) (a7 : Memref sig .tc .vmem S1x1024 .f32) (h7 : a7.IsWhole)
  (x0 : Vec F S256x5632 .bf16) (x1 : Vec F S1x1024x5632 .bf16) (x2 : Vec F S256x1024 .f32) (x3 : Vec F S1x1024 .f32)
  (x4 : Vec F S256x1024 .f32) (xo : Vec F S1x1024 .f32)

/-- At a later point, the first output holds `rows`. -/
theorem out_B_5 (hc : ¬cond0_0 i) :
    out0_B_5 c i a1 h1 a2 h2 a3 h3 a4 h4 a5 h5 a6 h6 a7 h7 hc x0 x1 x2 x3 x4 xo = rows x0 x1 x2 x3 x4 := by
  unfold out0_B_5 rows
  rw [View.read_writes_eq_canon _ _ _ (cover0_B_5 c i a1 h1 a2 h2 a3 h3 a4 h4 a5 h5 a6 h6 a7 h7 hc x0 x1 x2 x3 x4 xo)]
  unfold kernelRun0_B; dsimp only; sl_unfold_words
  rw [View.canon_unit_zero hz]
  simp only [View.readAt_eq_ld, h1.read_unread, h2.read_unread, h3.read_unread, h4.read_unread, h5.read_unread,
    h7.read_unread, View.ld_unit_zero (S := S256x5632) hz, View.ld_unit_zero (S := S1x1024x5632) hz3,
    View.ld_unit_zero (S := S256x1024) hz, View.ld_unit_zero (S := S1x1024) hz]

/-- At the first point, too. -/
theorem out_A_5 (hc : cond0_0 i) :
    out0_A_5 c i a1 h1 a2 h2 a3 h3 a4 h4 a5 h5 a6 h6 a7 h7 hc x0 x1 x2 x3 x4 = rows x0 x1 x2 x3 x4 := by
  unfold out0_A_5 rows
  rw [View.read_writes_eq_canon _ _ _ (cover0_A_5 c i a1 h1 a2 h2 a3 h3 a4 h4 a5 h5 a6 h6 a7 h7 hc x0 x1 x2 x3 x4)]
  unfold kernelRun0_A; dsimp only; sl_unfold_words
  rw [View.canon_unit_zero hz]
  simp only [View.readAt_eq_ld, h1.read_unread, h2.read_unread, h3.read_unread, h4.read_unread, h5.read_unread,
    View.ld_unit_zero (S := S256x5632) hz, View.ld_unit_zero (S := S1x1024x5632) hz3,
    View.ld_unit_zero (S := S256x1024) hz, View.ld_unit_zero (S := S1x1024) hz]

/-- At a later point, the second output holds what it held, plus the block's part. -/
theorem out_B_6 (hc : ¬cond0_0 i) :
    out0_B_6 c i a1 h1 a2 h2 a3 h3 a4 h4 a5 h5 a6 h6 a7 h7 hc x0 x1 x2 x3 x4 xo = k0_pay6 x0 x1 x2 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B; dsimp only; sl_unfold_words
  rw [View.canon_unit_zero hz]
  simp only [View.readAt_eq_ld, h1.read_unread, h2.read_unread, h3.read_unread, h4.read_unread, h5.read_unread,
    h7.read_unread, View.ld_unit_zero (S := S256x5632) hz, View.ld_unit_zero (S := S1x1024x5632) hz3,
    View.ld_unit_zero (S := S256x1024) hz, View.ld_unit_zero (S := S1x1024) hz]

/-- At the first point, it holds zero plus the block's part. -/
theorem out_A_6 (hc : cond0_0 i) :
    out0_A_6 c i a1 h1 a2 h2 a3 h3 a4 h4 a5 h5 a6 h6 a7 h7 hc x0 x1 x2 x3 x4 = k0_pay6 x0 x1 x2 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A; dsimp only; sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S256x5632) hz, View.ld_unit_zero (S := S1x1024x5632) hz3,
    View.ld_unit_zero (S := S256x1024) hz, View.ld_unit_zero (S := S1x1024) hz]

end Terms

/-! ## At blocks of reals -/

variable (a : S256x5632.Idx → ℝ) (w : S1x1024x5632.Idx → ℝ) (x : S256x1024.Idx → ℝ) (g : S1x1024.Idx → ℝ)
  (d : S256x1024.Idx → ℝ)

/-- The gradient of the normalised row `p`: the product of the block's row with the weights. -/
def dy (p : Fin 256) (j : Fin 1024) : ℝ := ∑ k : Fin 5632, a (ix2 p k) * w (ix3 0 j k)

theorem pay3 (p : Fin 256) (j : Fin 1024) :
    k0_pay3 (F := Ideal) (fun i => (a i : EReal)) (fun i => (w i : EReal)) (ix2 p j) = ((dy a w p j : ℝ) : EReal) := by
  unfold dy
  pointwise [k0_pay3]
  simp only [← EReal.coe_mul, coe_sum]

theorem pay4 (p : Fin 256) :
    k0_pay4 (F := Ideal) (fun i => (x i : EReal)) (ix2 p 0) = ((rinv (fun k => x (ix2 p k)) : ℝ) : EReal) := by
  pointwise [k0_pay4]
  simp only [← EReal.coe_mul, coe_sum, lit_1024, lit_eps]
  rw [div_coe _ _ (by norm_num), ← EReal.coe_add]
  exact rsqrt_coe _ (msq_pos fun k => x (ix2 p k))

/-- The gradient rows: `dRow` of the row's product. -/
theorem rows_apply (p : Fin 256) (j : Fin 1024) :
    rows (F := Ideal) (fun i => (a i : EReal)) (fun i => (w i : EReal)) (fun i => (x i : EReal)) (fun i => (g i : EReal))
        (fun i => (d i : EReal)) (ix2 p j)
      = ((dRow (dy a w p) (fun k => x (ix2 p k)) (fun k => g (ix2 0 k)) (fun k => d (ix2 p k)) j : ℝ) : EReal) := by
  unfold dRow
  pointwise [rows, k0_pay1, k0_pay5, k0_pay7, k0_pay8]
  simp only [pay3, pay4, ← EReal.coe_mul, coe_sum, lit_1024]
  rw [div_coe _ _ (by norm_num)]
  simp only [← EReal.coe_mul, ← EReal.coe_sub, ← EReal.coe_add]

/-- The block's part of the gradient of `g`, added to what the accumulator `o` holds. -/
theorem part_apply (o : S1x1024.Idx → ℝ) (j : Fin 1024) :
    k0_pay6 (F := Ideal) (fun i => (a i : EReal)) (fun i => (w i : EReal)) (fun i => (x i : EReal)) (fun i => (o i : EReal))
        (ix2 0 j)
      = ((o (ix2 0 j) + ∑ p : Fin 256, dy a w p j * (x (ix2 p j) * rinv (fun k => x (ix2 p k))) : ℝ) : EReal) := by
  pointwise [k0_pay6, k0_pay5]
  simp only [pay3, pay4, ← EReal.coe_mul, coe_sum, ← EReal.coe_add]

/-- The accumulator starts at zero. -/
theorem zero_apply : k0_pay2 (F := Ideal) = fun _ => ((0 : ℝ) : EReal) := by
  funext i
  pointwise [k0_pay2]
  exact EReal.coe_zero.symm

end Cert.NormFfnIdeal.Block

end
-- ==== Proof.NormFfnArray.lean ====
/-
  THE ARRAYS of `d_xn_ffn`, for arguments of reals: the blocks a grid point reads are rows `256 t + p` of the arguments; the
  first output ends holding, row by row, the gradient of the stream (`NormMath.dRow`); the second holds, after the last of
  the 32 points, the sum over all 8192 rows that is the gradient of `g`.
-/
module

public import proofs.«01_k».proof.Proof.NormFfnBlock

@[expose] public section

set_option maxRecDepth 16384

noncomputable section

namespace Cert.NormFfnIdeal.Arrays

open Cert.NormFfnIdeal Cert.NormFfnIdeal.Gen Cert.NormFfnIdeal.Block Cert.Reals Cert.NormMath
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

theorem hN : cfg0.N = 32 := N_0

/-- Row `p` of block `t`. -/
abbrev row (t : Fin cfg0.N) (p : Fin 256) : Fin 8192 :=
  ⟨256 * t.val + p.val, by have := t.isLt.trans_eq hN; omega⟩

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 1 ∧ win0_1.index t 1 = 0 ∧ win0_1.index t 2 = 0 :=
  (by decide +kernel : ∀ t : Fin grid0.N, win0_1.index t 0 = 1 ∧ win0_1.index t 1 = 0 ∧ win0_1.index t 2 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)

theorem read0 (t : Fin cfg0.N) (i : S256x5632.Idx) :
    iblk m c 0 t i = m ((c : Thread nD τ).loc main_arg0) (ix2 (row t (i 0)) (i 1)) := by
  rw [← V_main_arg0 m c]; unfold iblk; rw [View.read_apply]
  show V m c main_arg0 _ = V m c main_arg0 _
  congr 1; funext b; apply Fin.ext
  match b with
  | ⟨0, _⟩ => show win0_0.index t 0 * 256 + 1 * (i 0).val = 256 * t.val + (i 0).val; rw [(at0 t).1]; omega
  | ⟨1, _⟩ => show win0_0.index t 1 * 5632 + 1 * (i 1).val = (i 1).val; rw [(at0 t).2]; omega

theorem read1 (t : Fin cfg0.N) (i : S1x1024x5632.Idx) :
    iblk m c 1 t i = m ((c : Thread nD τ).loc main_arg1) (ix3 1 (i 1) (i 2)) := by
  rw [← V_main_arg1 m c]; unfold iblk; rw [View.read_apply]
  show V m c main_arg1 _ = V m c main_arg1 _
  congr 1; funext b; apply Fin.ext
  have h0 : (i 0).val = 0 := by have : (i 0).val < 1 := (i 0).isLt; omega
  match b with
  | ⟨0, _⟩ => show win0_1.index t 0 * 1 + 1 * (i 0).val = 1; rw [(at1 t).1, h0]
  | ⟨1, _⟩ => show win0_1.index t 1 * 1024 + 1 * (i 1).val = (i 1).val; rw [(at1 t).2.1]; omega
  | ⟨2, _⟩ => show win0_1.index t 2 * 5632 + 1 * (i 2).val = (i 2).val; rw [(at1 t).2.2]; omega

theorem read2 (t : Fin cfg0.N) (i : S256x1024.Idx) :
    iblk m c 2 t i = m ((c : Thread nD τ).loc main_arg2) (ix2 (row t (i 0)) (i 1)) := by
  rw [← V_main_arg2 m c]; unfold iblk; rw [View.read_apply]
  show V m c main_arg2 _ = V m c main_arg2 _
  congr 1; funext b; apply Fin.ext
  match b with
  | ⟨0, _⟩ => show win0_2.index t 0 * 256 + 1 * (i 0).val = 256 * t.val + (i 0).val; rw [(at2 t).1]; omega
  | ⟨1, _⟩ => show win0_2.index t 1 * 1024 + 1 * (i 1).val = (i 1).val; rw [(at2 t).2]; omega

theorem V_v0 : V m c main_v0 = shapeCast _ (m ((c : Thread nD τ).loc main_arg3)) shapeCasts_S1024_S1x1024 := by
  unfold_abbrev_sides; after_results; rfl

theorem read3 (t : Fin cfg0.N) (i : S1x1024.Idx) :
    iblk m c 3 t i = m ((c : Thread nD τ).loc main_arg3) (ix1 (i 1)) := by
  unfold iblk; rw [View.read_apply]
  have h0 : (i 0).val = 0 := by have : (i 0).val < 1 := (i 0).isLt; omega
  show V m c main_v0 _ = _
  rw [V_v0]
  refine shapeCast_apply _ shapeCasts_S1024_S1x1024 _ (ix1 (i 1)) ?_
  rewrite [Shape.rowMajor_val_one, Shape.rowMajor_val_two]
  show (i 1).val = (win0_3.index t 0 * 1 + 1 * (i 0).val) * 1024 + (win0_3.index t 1 * 1024 + 1 * (i 1).val)
  rw [(at3 t).1, (at3 t).2]; omega

theorem read4 (t : Fin cfg0.N) (i : S256x1024.Idx) :
    iblk m c 4 t i = m ((c : Thread nD τ).loc main_arg4) (ix2 (row t (i 0)) (i 1)) := by
  rw [← V_main_arg4 m c]; unfold iblk; rw [View.read_apply]
  show V m c main_arg4 _ = V m c main_arg4 _
  congr 1; funext b; apply Fin.ext
  match b with
  | ⟨0, _⟩ => show win0_4.index t 0 * 256 + 1 * (i 0).val = 256 * t.val + (i 0).val; rw [(at4 t).1]; omega
  | ⟨1, _⟩ => show win0_4.index t 1 * 1024 + 1 * (i 1).val = (i 1).val; rw [(at4 t).2]; omega

/-! ## For arguments of reals -/

/-- The arguments are arrays of reals: the product's gradient, the two layers' weights, the stream, its scale, and the
    gradient past the norm. -/
structure Args (A : S8192x5632.Idx → ℝ) (W : S2x1024x5632.Idx → ℝ) (X : S8192x1024.Idx → ℝ) (G : S1024.Idx → ℝ)
    (D : S8192x1024.Idx → ℝ) : Prop where
  a0 : m ((c : Thread nD τ).loc main_arg0) = fun i => (A i : EReal)
  a1 : m ((c : Thread nD τ).loc main_arg1) = fun i => (W i : EReal)
  a2 : m ((c : Thread nD τ).loc main_arg2) = fun i => (X i : EReal)
  a3 : m ((c : Thread nD τ).loc main_arg3) = fun i => (G i : EReal)
  a4 : m ((c : Thread nD τ).loc main_arg4) = fun i => (D i : EReal)

variable (A : S8192x5632.Idx → ℝ) (W : S2x1024x5632.Idx → ℝ) (X : S8192x1024.Idx → ℝ) (G : S1024.Idx → ℝ)
  (D : S8192x1024.Idx → ℝ)

/-- The gradient of the normalised stream: the product of the incoming gradient with the layer's weights. -/
def DY (p : Fin 8192) (j : Fin 1024) : ℝ := ∑ k : Fin 5632, A (ix2 p k) * W (ix3 1 j k)

/-- The gradient of the stream. -/
def DH (p : Fin 8192) (j : Fin 1024) : ℝ :=
  dRow (DY A W p) (fun k => X (ix2 p k)) (fun k => G (ix1 k)) (fun k => D (ix2 p k)) j

/-- Row `p`'s part of the gradient of the scale. -/
def DGpart (p : Fin 8192) (j : Fin 1024) : ℝ := DY A W p j * (X (ix2 p j) * rinv (fun k => X (ix2 p k)))

/-- The gradient of the scale. -/
def DG (j : Fin 1024) : ℝ := ∑ p : Fin 8192, DGpart A W X p j

/-- The blocks of point `t`. -/
def blkA (t : Fin cfg0.N) : S256x5632.Idx → ℝ := fun i => A (ix2 (row t (i 0)) (i 1))
def blkW : S1x1024x5632.Idx → ℝ := fun i => W (ix3 1 (i 1) (i 2))
def blkX (t : Fin cfg0.N) : S256x1024.Idx → ℝ := fun i => X (ix2 (row t (i 0)) (i 1))
def blkG : S1x1024.Idx → ℝ := fun i => G (ix1 (i 1))

variable {m c A W X G D}

/-- What a point reads, for such arguments. -/
theorem blocks_eq (h : Args m c A W X G D) (t : Fin cfg0.N) :
    iblk m c 0 t = (fun i => (blkA A t i : EReal)) ∧ iblk m c 1 t = (fun i => (blkW W i : EReal))
      ∧ iblk m c 2 t = (fun i => (blkX X t i : EReal)) ∧ iblk m c 3 t = (fun i => (blkG G i : EReal))
      ∧ iblk m c 4 t = (fun i => (blkX D t i : EReal)) :=
  ⟨funext fun i => by rw [read0, h.a0]; rfl, funext fun i => by rw [read1, h.a1]; rfl,
    funext fun i => by rw [read2, h.a2]; rfl, funext fun i => by rw [read3, h.a3]; rfl,
    funext fun i => by rw [read4, h.a4]; rfl⟩

/-- The rows a point leaves in the first output are its rows of the gradient of the stream. -/
theorem rows_eq (h : Args m c A W X G D) (t : Fin cfg0.N) (i : S256x1024.Idx) :
    rows (F := Ideal) (iblk m c 0 t) (iblk m c 1 t) (iblk m c 2 t) (iblk m c 3 t) (iblk m c 4 t) i
      = ((DH A W X G D (row t (i 0)) (i 1) : ℝ) : EReal) := by
  obtain ⟨e0, e1, e2, e3, e4⟩ := blocks_eq h t
  have hi : i = ix2 (i 0) (i 1) := by funext b; match b with | ⟨0, _⟩ => rfl | ⟨1, _⟩ => rfl
  rw [show rows (F := Ideal) (iblk m c 0 t) (iblk m c 1 t) (iblk m c 2 t) (iblk m c 3 t) (iblk m c 4 t)
    = rows (F := Ideal) (fun i => (blkA A t i : EReal)) (fun i => (blkW W i : EReal)) (fun i => (blkX X t i : EReal))
      (fun i => (blkG G i : EReal)) (fun i => (blkX D t i : EReal)) by rw [e0, e1, e2, e3, e4]]
  exact (congrArg _ hi).trans (rows_apply (blkA A t) (blkW W) (blkX X t) (blkG G) (blkX D t) (i 0) (i 1))

/-- What a point adds to the second output: its rows' parts. -/
theorem part_eq (h : Args m c A W X G D) (t : Fin cfg0.N) (o : S1x1024.Idx → ℝ) (i : S1x1024.Idx) :
    k0_pay6 (F := Ideal) (iblk m c 0 t) (iblk m c 1 t) (iblk m c 2 t) (fun i => (o i : EReal)) i
      = ((o i + ∑ p : Fin 256, DGpart A W X (row t p) (i 1) : ℝ) : EReal) := by
  obtain ⟨e0, e1, e2, -, -⟩ := blocks_eq h t
  have hi : i = ix2 0 (i 1) := by
    funext b; match b with | ⟨0, _⟩ => exact Subsingleton.elim (α := Fin 1) _ _ | ⟨1, _⟩ => rfl
  rw [show k0_pay6 (F := Ideal) (iblk m c 0 t) (iblk m c 1 t) (iblk m c 2 t) (fun i => (o i : EReal))
    = k0_pay6 (F := Ideal) (fun i => (blkA A t i : EReal)) (fun i => (blkW W i : EReal)) (fun i => (blkX X t i : EReal))
      (fun i => (o i : EReal)) by rw [e0, e1, e2]]
  refine (congrArg _ hi).trans ((part_apply (blkA A t) (blkW W) (blkX X t) o (i 1)).trans ?_)
  rw [show o (ix2 0 (i 1)) = o i from congrArg o hi.symm]; rfl

/-- What the first output's buffer holds after any point. -/
theorem outs_fst (t : Fin cfg0.N) : (outsAt0 m c t.val t.isLt).1
    = rows (F := Ideal) (iblk m c 0 t) (iblk m c 1 t) (iblk m c 2 t) (iblk m c 3 t) (iblk m c 4 t) := by
  by_cases h0 : t.val % 32 = 0
  · rw [outsAt0_A m c t h0]; dsimp only; rw [out_A_5]
  · rw [outsAt0_B m c t h0]; dsimp only; rw [out_B_5]

/-- The first output ends holding the gradient of the stream. -/
theorem final5 (h : Args m c A W X G D) :
    (dats m 0 c).arrAt 5 cfg0.N = fun i => ((DH A W X G D (i 0) (i 1) : ℝ) : EReal) := by
  refine (dats m 0 c).arrAt_eq_of_cover 5 _ (fun t _ => ?_) fun i => ?_
  · rw [Value.flushed5, outs_fst]
    funext j
    rw [View.read_apply]
    refine (rows_eq h t j).trans ?_
    show _ = (((DH A W X G D _ _ : ℝ) : EReal))
    congr 2 <;> apply Fin.ext
    · show 256 * t.val + (j 0).val = win0_5.index t 0 * 256 + 1 * (j 0).val; rw [(at5 t).1]; omega
    · show (j 1).val = win0_5.index t 1 * 1024 + 1 * (j 1).val; rw [(at5 t).2]; omega
  · have h0 : (i 0 : Nat) < 8192 := (i 0).isLt
    have h1 : (i 1 : Nat) < 1024 := (i 1).isLt
    have ht : (i 0 : Nat) / 256 < cfg0.N := by have := hN; omega
    refine ⟨⟨(i 0 : Nat) / 256, ht⟩, flush0_5 _, ?_⟩
    show i ∈ ((View.whole main_v1_0).slice (win0_5.rect ⟨(i 0 : Nat) / 256, ht⟩)).set
    rw [View.set_slice_whole, Rect.mem_set_unit]
    intro b
    match b with
    | ⟨0, _⟩ =>
      show win0_5.index ⟨(i 0 : Nat) / 256, ht⟩ 0 * 256 ≤ (i 0 : Nat)
        ∧ (i 0 : Nat) < win0_5.index ⟨(i 0 : Nat) / 256, ht⟩ 0 * 256 + 256
      rw [(at5 _).1]; dsimp only; omega
    | ⟨1, _⟩ =>
      show win0_5.index ⟨(i 0 : Nat) / 256, ht⟩ 1 * 1024 ≤ (i 1 : Nat)
        ∧ (i 1 : Nat) < win0_5.index ⟨(i 0 : Nat) / 256, ht⟩ 1 * 1024 + 1024
      rw [(at5 _).2]; omega

/-- What the second output's buffer holds after point `n`: the parts of the rows so far. -/
theorem outs_snd (h : Args m c A W X G D) : ∀ (n : ℕ) (hn : n < cfg0.N), (outsAt0 m c n hn).2
    = fun i => ((∑ t : Fin (n + 1), ∑ p : Fin 256, DGpart A W X (row ⟨t.val, lt_of_le_of_lt (Nat.le_of_lt_succ t.isLt) hn⟩ p) (i 1) : ℝ) : EReal)
  | 0, hn => by
    rw [show outsAt0 m c 0 hn = _ from outsAt0_A m c ⟨0, hn⟩ rfl]
    dsimp only
    rw [out_A_6, zero_apply]
    funext i
    refine (part_eq h ⟨0, hn⟩ (fun _ => 0) i).trans ?_
    rw [Fin.sum_univ_one, zero_add]
    rfl
  | n + 1, hn => by
    have hB : ¬(⟨n + 1, hn⟩ : Fin cfg0.N).val % 32 = 0 := by have := hN; dsimp only; omega
    rw [show outsAt0 m c (n + 1) hn = _ from outsAt0_B m c ⟨n + 1, hn⟩ hB]
    dsimp only
    rw [out_B_6, show outsAt0 m c (n + 1 - 1) _ = outsAt0 m c n (Nat.lt_of_succ_lt hn) from rfl, outs_snd h n]
    funext i
    refine (part_eq h ⟨n + 1, hn⟩ (fun i => ∑ t : Fin (n + 1), ∑ p : Fin 256, DGpart A W X
      (row ⟨t.val, lt_of_le_of_lt (Nat.le_of_lt_succ t.isLt) (Nat.lt_of_succ_lt hn)⟩ p) (i 1)) i).trans ?_
    rw [Fin.sum_univ_castSucc (n := n + 1)]
    rfl

/-- The sum over the points of the sums over their rows is the sum over all rows. -/
theorem sum_rows (f : Fin 8192 → ℝ) (h31 : 31 < cfg0.N) :
    (∑ t : Fin (31 + 1), ∑ p : Fin 256, f (row ⟨t.val, lt_of_le_of_lt (Nat.le_of_lt_succ t.isLt) h31⟩ p)) = ∑ q, f q := by
  rw [← Fintype.sum_prod_type' (fun (t : Fin 32) (p : Fin 256) => f (row ⟨t.val, lt_of_le_of_lt (Nat.le_of_lt_succ t.isLt) h31⟩ p))]
  refine Fintype.sum_equiv (finProdFinEquiv (m := 32) (n := 256)) _ _ fun x => congrArg f (Fin.ext ?_)
  show 256 * x.1.val + x.2.val = x.2.val + 256 * x.1.val
  omega

/-- The second output ends holding the gradient of the scale. -/
theorem final6 (h : Args m c A W X G D) :
    (dats m 0 c).arrAt 6 cfg0.N = fun i => ((DG A W X (i 1) : ℝ) : EReal) := by
  have h31 : 31 < cfg0.N := by have := hN; omega
  refine (dats m 0 c).arrAt_eq_of_cover 6 _ (fun t ht => ?_) fun i => ⟨⟨31, h31⟩, (flush0_6 _).mpr rfl, ?_⟩
  · have h3 : t.val = 31 := by have := (flush0_6 t).mp ht; have := t.isLt.trans_eq hN; omega
    obtain rfl : t = ⟨31, h31⟩ := Fin.ext h3
    rw [Value.flushed6, outs_snd h]
    funext j
    rw [View.read_apply]
    show ((_ : ℝ) : EReal) = ((DG A W X _ : ℝ) : EReal)
    congr 1
    refine (sum_rows (fun p => DGpart A W X p _) h31).trans ?_
    show DG A W X _ = DG A W X _
    congr 1; apply Fin.ext
    show (j 1).val = win0_6.index ⟨31, h31⟩ 1 * 1024 + 1 * (j 1).val
    rw [(at6 _).2]; omega
  · show i ∈ ((View.whole main_v1_1).slice (win0_6.rect ⟨31, h31⟩)).set
    rw [View.set_slice_whole, Rect.mem_set_unit]
    have h0 : (i 0 : Nat) < 1 := (i 0).isLt
    have h1 : (i 1 : Nat) < 1024 := (i 1).isLt
    intro b
    match b with
    | ⟨0, _⟩ =>
      show win0_6.index ⟨31, h31⟩ 0 * 1 ≤ (i 0 : Nat) ∧ (i 0 : Nat) < win0_6.index ⟨31, h31⟩ 0 * 1 + 1
      rw [(at6 _).1]; omega
    | ⟨1, _⟩ =>
      show win0_6.index ⟨31, h31⟩ 1 * 1024 ≤ (i 1 : Nat) ∧ (i 1 : Nat) < win0_6.index ⟨31, h31⟩ 1 * 1024 + 1024
      rw [(at6 _).2]; omega

end Cert.NormFfnIdeal.Arrays

end
-- ==== Proof.NormFfnRef.lean ====
/-
  THE REFERENCE of `d_xn_ffn`, read at an index for arguments of reals: the two gradients are the formulas of
  `NormFfnIdeal.Arrays` — the product's gradient, the norm differentiated factor by factor (`NormMath.dRow_eq`), and
  the sum over the rows for the scale.
-/
module

public import proofs.«01_k».proof.Proof.NormFfnArray
public import proofs.«01_k».proof.Proof.Gen.NormFfnRefIdeal.Run
public import proofs.«01_k».proof.Proof.Gen.NormFfnRefIdeal.Read

@[expose] public section

set_option maxRecDepth 16384

noncomputable section

namespace Cert.NormFfnRefIdeal.Reading

open Cert.NormFfnRefIdeal Cert.NormFfnRefIdeal.Gen Cert.NormFfnRefIdeal.Read Cert.Reals Cert.NormMath
open Cert.NormFfnIdeal.Arrays (DY DH DG DGpart)
open Idealize.ShloMosaic Idealize.ShloMosaic.TcCoe Idealize.SL.Sem
open scoped BigOperators

variable (A : S8192x5632.Idx → ℝ) (W : S2x1024x5632.Idx → ℝ) (X : S8192x1024.Idx → ℝ) (G : S1024.Idx → ℝ)
  (D : S8192x1024.Idx → ℝ)

theorem v9 (p : Fin 8192) :
    val_main_v9 (F := Ideal) (fun i => (X i : EReal)) (ix2 p 0) = ((msq (fun k => X (ix2 p k)) : ℝ) : EReal) := by
  unfold msq
  pointwise [val_main_v9, val_main_v8, val_main_v7, val_main_v6, val_main_v5, val_main_v4, val_main_v3, val_main_cst,
    val_main_cst_0, val_main_cst_1]
  simp only [← EReal.coe_mul, coe_sum, lit_1024, lit_eps]
  rw [div_coe _ _ (by norm_num), ← EReal.coe_add]

theorem v10 (p : Fin 8192) :
    val_main_v10 (F := Ideal) (fun i => (X i : EReal)) (ix2 p 0) = ((rinv (fun k => X (ix2 p k)) : ℝ) : EReal) := by
  pointwise [val_main_v10]
  rw [v9]
  exact rsqrt_coe _ (msq_pos fun k => X (ix2 p k))

theorem v13 (p : Fin 8192) : val_main_v13 (F := Ideal) (fun i => (X i : EReal)) (ix2 p 0)
    = ((-(1 / 2) * (rinv (fun k => X (ix2 p k)) / msq (fun k => X (ix2 p k))) : ℝ) : EReal) := by
  pointwise [val_main_v13, val_main_v12, val_main_v11, val_main_cst_2]
  rw [v9, v10, lit_neg_half, div_coe _ _ (msq_pos _).ne', ← EReal.coe_mul]

theorem v21 (p : Fin 8192) (j : Fin 1024) :
    val_main_v21 (F := Ideal) (fun i => (A i : EReal)) (fun i => (W i : EReal)) (ix2 p j) = ((DY A W p j : ℝ) : EReal) := by
  unfold DY
  pointwise [val_main_v21, val_main_v20, val_main_v2, val_main_v1, val_main_v0]
  simp only [← EReal.coe_mul, coe_sum]

theorem v22 (p : Fin 8192) (j : Fin 1024) :
    val_main_v22 (F := Ideal) (fun i => (A i : EReal)) (fun i => (W i : EReal)) (fun i => (X i : EReal)) (ix2 p j)
      = ((DGpart A W X p j : ℝ) : EReal) := by
  unfold DGpart
  pointwise [val_main_v22, val_main_v15, val_main_v14]
  rw [v10, v21, ← EReal.coe_mul, ← EReal.coe_mul, mul_comm]

/-- The second result: the gradient of the scale. -/
theorem out1 (j : Fin 1024) :
    val_main_v43 (F := Ideal) (fun i => (A i : EReal)) (fun i => (W i : EReal)) (fun i => (X i : EReal)) (ix2 0 j)
      = ((DG A W X j : ℝ) : EReal) := by
  unfold DG
  pointwise [val_main_v43, val_main_v27, val_main_v24, val_main_v23, val_main_cst_3, val_main_cst_4]
  simp only [v22, coe_sum, Fin.sum_univ_one]

theorem v26 (p : Fin 8192) (j : Fin 1024) :
    val_main_v26 (F := Ideal) (fun i => (A i : EReal)) (fun i => (W i : EReal)) (fun i => (G i : EReal)) (ix2 p j)
      = ((DY A W p j * G (ix1 j) : ℝ) : EReal) := by
  pointwise [val_main_v26, val_main_v25, val_main_v16]
  rw [v21, ← EReal.coe_mul]

theorem v38 (p : Fin 8192) (j : Fin 1024) :
    val_main_v38 (F := Ideal) (fun i => (A i : EReal)) (fun i => (W i : EReal)) (fun i => (X i : EReal)) (fun i => (G i : EReal)) (ix2 p j)
      = (((∑ k, X (ix2 p k) * (DY A W p k * G (ix1 k)))
          * (-(1 / 2) * (rinv (fun k => X (ix2 p k)) / msq (fun k => X (ix2 p k)))) / 1024 : ℝ) : EReal) := by
  pointwise [val_main_v38, val_main_v37, val_main_v36, val_main_v35, val_main_v34, val_main_v30, val_main_v29, val_main_v28,
    val_main_cst_5, val_main_cst_6, val_main_cst_7]
  simp only [Fin.sum_univ_one, v26, v13, ← EReal.coe_mul, coe_sum, lit_1024]
  rw [div_coe _ _ (by norm_num)]

/-- The first result: the gradient of the stream. -/
theorem out0 (p : Fin 8192) (j : Fin 1024) :
    val_main_v42 (F := Ideal) (fun i => (A i : EReal)) (fun i => (W i : EReal)) (fun i => (X i : EReal)) (fun i => (G i : EReal))
        (fun i => (D i : EReal)) (ix2 p j)
      = ((DH A W X G D p j : ℝ) : EReal) := by
  unfold DH
  rw [← dRow_eq]
  pointwise [val_main_v42, val_main_v41, val_main_v40, val_main_v39, val_main_v33, val_main_v32, val_main_v31]
  simp only [v26, v38, v10, ← EReal.coe_mul, ← EReal.coe_add]

/-- The two results as arrays. -/
theorem array0 : val_main_v42 (F := Ideal) (fun i => (A i : EReal)) (fun i => (W i : EReal)) (fun i => (X i : EReal))
    (fun i => (G i : EReal)) (fun i => (D i : EReal)) = fun i => ((DH A W X G D (i 0) (i 1) : ℝ) : EReal) := by
  funext i
  have hi : i = ix2 (i 0) (i 1) := by funext b; match b with | ⟨0, _⟩ => rfl | ⟨1, _⟩ => rfl
  exact (congrArg _ hi).trans (out0 A W X G D (i 0) (i 1))

theorem array1 : val_main_v43 (F := Ideal) (fun i => (A i : EReal)) (fun i => (W i : EReal)) (fun i => (X i : EReal))
    = fun i => ((DG A W X (i 1) : ℝ) : EReal) := by
  funext i
  have hi : i = ix2 0 (i 1) := by
    funext b; match b with | ⟨0, _⟩ => exact Subsingleton.elim (α := Fin 1) _ _ | ⟨1, _⟩ => rfl
  exact (congrArg _ hi).trans (out1 A W X (i 1))

end Cert.NormFfnRefIdeal.Reading

end
-- ==== Proof.NormFfnClaims.lean ====
/-
  THE CLAIMS about `d_xn_ffn`: the frames, and the value claim — for finite arguments, kernel and reference end with the
  same two arrays, the gradients of the stream and of the scale.
-/
module

public import proofs.«01_k».proof.Defs
public import proofs.«01_k».proof.Proof.NormFfnRef
public import proofs.«01_k».proof.Proof.Gen.NormFfn.Frame
public import proofs.«01_k».proof.Proof.Gen.Pre_finite_ffn
public import Idealize.ShloMosaic.Lib.Quiescent

@[expose] public section

set_option maxRecDepth 16384

noncomputable section

namespace Cert.Proof.NormFfn

open Cert.Reals Cert.NormFfnIdeal.Arrays
open Idealize.ShloMosaic Idealize.ShloMosaic.TcCoe Idealize.SL.Sem

theorem frame : Cert.quiescent_NormFfn := fun m ρ _ => Cert.NormFfn.Gen.frame m ρ
theorem frame_ideal : Cert.quiescent_NormFfnIdeal := fun m ρ _ => Cert.NormFfnIdeal.Gen.frame m ρ
theorem frame_ideal_pre : Cert.quiescent_NormFfnIdeal_pre_finite_ffn := fun m ρ _ => Cert.NormFfnIdeal.Gen.frame m ρ

/-- The reference's run, read at its arguments; it declares no semaphore. -/
theorem frame_ref : Cert.quiescent_NormFfnRefIdeal := fun m ρ _ =>
  (θ_run Cert.NormFfnRefIdeal.defs _ _).mono
    (fun r h => ⟨fun c => (h c).2.2, Idealize.ShloMosaic.sem_eq_zero_of_no_sems (by decide) r.2⟩)
    (Cert.NormFfnRefIdeal.Value.run (F := Ideal) m ρ)
theorem frame_ref_pre : Cert.quiescent_NormFfnRefIdeal_pre_finite_ffn := fun m ρ _ => frame_ref m ρ trivial

/-- Finite arguments are arrays of reals. -/
theorem args_real (m : (ℓ : Loc Cert.NormFfnIdeal.nD Cert.NormFfnIdeal.τ Cert.NormFfnIdeal.sig) → Buf (Elt Ideal) ℓ)
    (h : Cert.Pre_NormFfnIdeal_finite_ffn m) (c : Dev Cert.NormFfnIdeal.nD) : ∃ A W X G D, Args m c A W X G D := by
  obtain ⟨h0, h1, h2, h3, h4⟩ := h c
  obtain ⟨A, hA⟩ := reals_of_olt _ fun i => congrFun h0 i
  obtain ⟨W, hW⟩ := reals_of_olt _ fun i => congrFun h1 i
  obtain ⟨X, hX⟩ := reals_of_olt _ fun i => congrFun h2 i
  obtain ⟨G, hG⟩ := reals_of_olt _ fun i => congrFun h3 i
  obtain ⟨D, hD⟩ := reals_of_olt _ fun i => congrFun h4 i
  exact ⟨A, W, X, G, D, hA, hW, hX, hG, hD⟩

/-- For finite arguments the two programs end with the same gradients of the stream and of the scale. -/
theorem algebraic : Cert.algebraic_NormFfnIdeal_NormFfnRefIdeal_pre_finite_ffn := by
  intro m ρ m' ρ' hpre hagree
  refine ⟨fun c => (Cert.NormFfnIdeal.Gen.dats (F := Ideal) m 0 c).arrAt 5 Cert.NormFfnIdeal.cfg0.N,
    fun c => (Cert.NormFfnIdeal.Gen.dats (F := Ideal) m 0 c).arrAt 6 Cert.NormFfnIdeal.cfg0.N,
    Cert.NormFfnIdeal.Value.run_blocks m ρ, ?_⟩
  refine (θ_run Cert.NormFfnRefIdeal.defs _ _).mono (fun r h c => ?_) (Cert.NormFfnRefIdeal.Value.run (F := Ideal) m' ρ')
  obtain ⟨A, W, X, G, D, hargs⟩ := args_real m hpre c
  obtain ⟨g0, g1, g2, g3, g4⟩ := hagree c
  have e0 := g0.trans hargs.a0
  have e1 := g1.trans hargs.a1
  have e2 := g2.trans hargs.a2
  have e3 := g3.trans hargs.a3
  have e4 := g4.trans hargs.a4
  refine ⟨(h c).1.trans ?_, (h c).2.1.trans ?_, (h c).2.2⟩
  · refine Eq.trans ?_ (final5 hargs).symm
    refine (Cert.NormFfnRefIdeal.Read.val_main_v42_eq m' c).trans ?_
    rw [e0, e1, e2, e3, e4]
    exact Cert.NormFfnRefIdeal.Reading.array0 A W X G D
  · refine Eq.trans ?_ (final6 hargs).symm
    refine (Cert.NormFfnRefIdeal.Read.val_main_v43_eq _ _ _).trans ?_
    rw [e0, e1, e2]
    exact Cert.NormFfnRefIdeal.Reading.array1 A W X

end Cert.Proof.NormFfn

end
-- ==== Proof.HostSum.lean ====
/-
  TWO-AXIS HOST SUMS: a sum of a rank-4 array over two of its axes, read at an index of the two that stay.
-/
module

public import Idealize.ShloMosaic.Lib.Pointwise

@[expose] public section

noncomputable section

namespace Cert.HostSum

open Idealize.ShloMosaic
open scoped BigOperators

variable {n0 n1 n2 n3 : ℕ}

/-- The first two axes summed: the start value and the double sum. -/
theorem d01 (h : (⟨4, ![n0, n1, n2, n3]⟩ : Shape).ReducesTo [0, 1] ⟨2, ![n2, n3]⟩)
    (v : (⟨4, ![n0, n1, n2, n3]⟩ : Shape).Idx → EReal) (x : EReal) (g : Fin n2) (e : Fin n3) :
    Ideal.hostReduceAdd h v x (ix2 g e) = x + ∑ a : Fin n0, ∑ b : Fin n1, v (ix4 a b g e) := by
  have key : ∀ i, h.drop i = ix2 g e ↔ ∃ k : Fin n0 × Fin n1, ix4 k.1 k.2 g e = i := fun i => by
    constructor
    · intro w
      refine ⟨(i 0, i 1), ?_⟩
      funext a; apply Fin.ext
      match a with
      | ⟨0, _⟩ => rfl
      | ⟨1, _⟩ => rfl
      | ⟨2, _⟩ => exact (congrArg Fin.val (congrFun w 0)).symm
      | ⟨3, _⟩ => exact (congrArg Fin.val (congrFun w 1)).symm
    · rintro ⟨k, rfl⟩
      funext b; apply Fin.ext
      match b with
      | ⟨0, _⟩ => rfl
      | ⟨1, _⟩ => rfl
  show x + ∑ i ∈ Finset.univ.filter (fun i => h.drop i = ix2 g e), v i = _
  rw [Finset.sum_filter_eq_sum_of_fiber _ (fun k : Fin n0 × Fin n1 => ix4 k.1 k.2 g e)
    (fun k l w => Prod.ext (congrFun w 0) (congrFun w 1)) key v, Fintype.sum_prod_type]

/-- The first and the last axis summed. -/
theorem d03 (h : (⟨4, ![n0, n1, n2, n3]⟩ : Shape).ReducesTo [0, 3] ⟨2, ![n1, n2]⟩)
    (v : (⟨4, ![n0, n1, n2, n3]⟩ : Shape).Idx → EReal) (x : EReal) (t : Fin n1) (g : Fin n2) :
    Ideal.hostReduceAdd h v x (ix2 t g) = x + ∑ a : Fin n0, ∑ e : Fin n3, v (ix4 a t g e) := by
  have key : ∀ i, h.drop i = ix2 t g ↔ ∃ k : Fin n0 × Fin n3, ix4 k.1 t g k.2 = i := fun i => by
    constructor
    · intro w
      refine ⟨(i 0, i 3), ?_⟩
      funext a; apply Fin.ext
      match a with
      | ⟨0, _⟩ => rfl
      | ⟨1, _⟩ => exact (congrArg Fin.val (congrFun w 0)).symm
      | ⟨2, _⟩ => exact (congrArg Fin.val (congrFun w 1)).symm
      | ⟨3, _⟩ => rfl
    · rintro ⟨k, rfl⟩
      funext b; apply Fin.ext
      match b with
      | ⟨0, _⟩ => rfl
      | ⟨1, _⟩ => rfl
  show x + ∑ i ∈ Finset.univ.filter (fun i => h.drop i = ix2 t g), v i = _
  rw [Finset.sum_filter_eq_sum_of_fiber _ (fun k : Fin n0 × Fin n3 => ix4 k.1 t g k.2)
    (fun k l w => Prod.ext (congrFun w 0) (congrFun w 3)) key v, Fintype.sum_prod_type]

end Cert.HostSum
-- ==== Proof.SguMath.lean ====
/-
  SPATIAL GATING AND ITS GRADIENT, over the reals, for one chunk of 128 positions. A position has 512 numbers `z`; after
  gelu the first 256 are `u`, the last 256 are `v`. The 256 channels of `v` form 4 groups of 64; each group is normalised
  to mean zero and variance one, scaled by `γ`, shifted by `β`; group `g` is then mixed over the positions by the matrix
  `W g`, shifted by `B g`, and multiplied by `u`. Here: these maps, their gradients as the kernel has them, and the proof
  that the group normalisation differentiated factor by factor is the kernel's expression (`dLn_eq`).
-/
module

public import proofs.«01_k».proof.Proof.Reals
public import Mathlib.Algebra.BigOperators.Fin

@[expose] public section

noncomputable section

namespace Cert.SguMath

open Cert.Reals
open scoped BigOperators

/-- The two constants of gelu, as their f32 words have them. -/
def cC : ℝ := 13386282 / 2 ^ 24
def cA : ℝ := 12003091 / 2 ^ 28

/-- Gelu by the hyperbolic tangent, and its derivative. -/
def tn (x : ℝ) : ℝ := Real.tanh (cC * x * (1 + cA * (x * x)))
def gl (x : ℝ) : ℝ := x * (1 / 2 * (1 + tn x))
def dgl (x : ℝ) : ℝ := 1 / 2 * (1 + tn x) + 1 / 2 * x * (1 - tn x * tn x) * (cC + 3 * cA * cC * (x * x))

/-- Channel `e` of group `g`; the group of a channel; the two halves of a position. -/
abbrev pr (g : Fin 4) (e : Fin 64) : Fin 256 := ⟨64 * g.val + e.val, by omega⟩
abbrev grp (c : Fin 256) : Fin 4 := ⟨c.val / 64, by omega⟩
abbrev lo (c : Fin 256) : Fin 512 := ⟨c.val, by omega⟩
abbrev hi (c : Fin 256) : Fin 512 := ⟨256 + c.val, by omega⟩

theorem grp_pr (g : Fin 4) (e : Fin 64) : grp (pr g e) = g := Fin.ext (by show (64 * g.val + e.val) / 64 = g.val; omega)

/-- A sum over the channels is a sum over the groups and their channels. -/
theorem sum_channels {M : Type} [AddCommMonoid M] (f : Fin 256 → M) : (∑ c, f c) = ∑ g, ∑ e, f (pr g e) := by
  rw [← Fintype.sum_prod_type' (fun (g : Fin 4) (e : Fin 64) => f (pr g e))]
  refine (Fintype.sum_equiv (finProdFinEquiv (m := 4) (n := 64)) _ _ fun x => congrArg f (Fin.ext ?_)).symm
  show 64 * x.1.val + x.2.val = x.2.val + 64 * x.1.val
  omega

/-- A sum over the channels of what is zero off group `g` is the sum over the group. -/
theorem sum_group (f : Fin 256 → ℝ) (g : Fin 4) : (∑ c, if grp c = g then f c else 0) = ∑ e, f (pr g e) := by
  rw [sum_channels, Finset.sum_eq_single g]
  · exact Finset.sum_congr rfl fun e _ => if_pos (grp_pr g e)
  · intro b _ hb
    exact Finset.sum_eq_zero fun e _ => if_neg (by rw [grp_pr]; exact hb)
  · intro h; exact absurd (Finset.mem_univ g) h

/-- The mean over a group. -/
def gm (f : Fin 256 → ℝ) (g : Fin 4) : ℝ := (∑ e, f (pr g e)) / 64

/-- The mean as the product with the matrix of `1/64`s on the groups. -/
theorem gm_mat (f : Fin 256 → ℝ) (c : Fin 256) : (∑ j, f j * (if grp j = grp c then 1 / 64 else 0)) = gm f (grp c) := by
  unfold gm
  rw [← sum_group, Finset.sum_div]
  refine Finset.sum_congr rfl fun j _ => ?_
  split_ifs <;> ring

/-! ## The group normalisation of one position -/

def cen (v : Fin 256 → ℝ) (c : Fin 256) : ℝ := v c - gm v (grp c)
def vr (v : Fin 256 → ℝ) (g : Fin 4) : ℝ := gm (fun c => cen v c * cen v c) g + eps
def rs (v : Fin 256 → ℝ) (g : Fin 4) : ℝ := (Real.sqrt (vr v g))⁻¹
def xh (v : Fin 256 → ℝ) (c : Fin 256) : ℝ := cen v c * rs v (grp c)
def ln (v γ β : Fin 256 → ℝ) (c : Fin 256) : ℝ := xh v c * γ c + β c

/-- Its gradient with respect to `v`, as the kernel has it; `d` the gradient of its result. -/
def dLn (v γ d : Fin 256 → ℝ) (c : Fin 256) : ℝ :=
  rs v (grp c) * (d c * γ c - gm (fun j => d j * γ j) (grp c) - xh v c * gm (fun j => d j * γ j * xh v j) (grp c))

theorem vr_pos (v : Fin 256 → ℝ) (g : Fin 4) : 0 < vr v g :=
  add_pos_of_nonneg_of_pos (div_nonneg (Finset.sum_nonneg fun _ _ => mul_self_nonneg _) (by norm_num)) eps_pos

theorem rs_div (v : Fin 256 → ℝ) (g : Fin 4) : rs v g / vr v g = rs v g ^ 3 := by
  have h : rs v g ^ 2 = (vr v g)⁻¹ := by unfold rs; rw [inv_pow, Real.sq_sqrt (vr_pos v g).le]
  rw [pow_succ, h, div_eq_mul_inv, mul_comm]

/-- A centred group sums to zero. -/
theorem sum_cen (v : Fin 256 → ℝ) (g : Fin 4) : (∑ e, cen v (pr g e)) = 0 := by
  unfold cen
  simp only [grp_pr, Finset.sum_sub_distrib, Finset.sum_const, Finset.card_univ, Fintype.card_fin, nsmul_eq_mul]
  unfold gm; push_cast; ring

/-- The factor-by-factor derivative: with `P = d·γ`, `q` the gradient that reaches the variance divided by 64, a channel
    gets `P·r + q·2·cen` and the mean of minus these. -/
theorem dLn_eq (v γ d : Fin 256 → ℝ) (g : Fin 4) (e : Fin 64) :
    d (pr g e) * γ (pr g e) * rs v g
        + (∑ k, cen v (pr g k) * (d (pr g k) * γ (pr g k))) * (-(1 / 2) * (rs v g / vr v g)) / 64 * (2 * cen v (pr g e))
        + ((∑ j, -(d (pr g j) * γ (pr g j) * rs v g))
            + ∑ j, -((∑ k, cen v (pr g k) * (d (pr g k) * γ (pr g k))) * (-(1 / 2) * (rs v g / vr v g)) / 64
                * (2 * cen v (pr g j)))) / 64
      = dLn v γ d (pr g e) := by
  have h1 : (∑ j, -(d (pr g j) * γ (pr g j) * rs v g)) = -((∑ j, d (pr g j) * γ (pr g j)) * rs v g) := by
    rw [Finset.sum_neg_distrib, Finset.sum_mul]
  have h2 : (∑ j, -((∑ k, cen v (pr g k) * (d (pr g k) * γ (pr g k))) * (-(1 / 2) * (rs v g / vr v g)) / 64
      * (2 * cen v (pr g j)))) = 0 := by
    rw [Finset.sum_neg_distrib, ← Finset.mul_sum, ← Finset.mul_sum, sum_cen]; ring
  have h3 : (∑ j, d (pr g j) * γ (pr g j) * xh v (pr g j))
      = (∑ k, cen v (pr g k) * (d (pr g k) * γ (pr g k))) * rs v g := by
    rw [Finset.sum_mul]; refine Finset.sum_congr rfl fun j _ => ?_
    unfold xh; rw [grp_pr]; ring
  unfold dLn
  rw [h1, h2, grp_pr, rs_div]
  unfold gm
  rw [h3]
  unfold xh
  rw [grp_pr]
  ring

/-! ## One chunk -/

variable (z : Fin 128 → Fin 512 → ℝ) (γ β : Fin 256 → ℝ) (W : Fin 4 → Fin 128 → Fin 128 → ℝ) (B : Fin 4 → Fin 128 → ℝ)
  (y : Fin 128 → Fin 256 → ℝ)

/-- The two halves after gelu, the normalised half, the mixed half. -/
def cU (t : Fin 128) (c : Fin 256) : ℝ := gl (z t (lo c))
def cV (t : Fin 128) (c : Fin 256) : ℝ := gl (z t (hi c))
def cN (t : Fin 128) (c : Fin 256) : ℝ := ln (cV z t) γ β c
def cM (t : Fin 128) (c : Fin 256) : ℝ := (∑ s, W (grp c) t s * cN z γ β s c) + B (grp c) t

/-- The gradients of the mixed half and of the normalised half. -/
def dM (t : Fin 128) (c : Fin 256) : ℝ := y t c * cU z t c
def dN (s : Fin 128) (c : Fin 256) : ℝ := ∑ t, W (grp c) t s * dM z y t c

/-- The gradients of `z`, half by half. -/
def dZu (t : Fin 128) (c : Fin 256) : ℝ := y t c * cM z γ β W B t c * dgl (z t (lo c))
def dZv (t : Fin 128) (c : Fin 256) : ℝ := dLn (cV z t) γ (dN z W y t) c * dgl (z t (hi c))

/-- The chunk's parts of the gradients of `γ`, `β`, `W` and `B`. -/
def pG (c : Fin 256) : ℝ := ∑ t, dN z W y t c * xh (cV z t) c
def pB (c : Fin 256) : ℝ := ∑ t, dN z W y t c
def pW (g : Fin 4) (t s : Fin 128) : ℝ := ∑ e, dM z y t (pr g e) * cN z γ β s (pr g e)
def pT (g : Fin 4) (t : Fin 128) : ℝ := ∑ e, dM z y t (pr g e)

end Cert.SguMath

end
-- ==== Proof.SguStage.lean ====
/-
  THE STAGES of the spatial gating's gradient, for one block of 512 positions (4 chunks of 128): the program's own terms,
  gathered into a few named stages, and each stage read at an index for inputs of reals, as the formulas of `SguMath`.
-/
module

public import proofs.«01_k».proof.Proof.SguMath
public import proofs.«01_k».proof.Proof.Gen.SguIdeal.Value
public import Idealize.ShloMosaic.Lib.Pointwise

@[expose] public section

set_option maxRecDepth 16384

noncomputable section

namespace Cert.SguIdeal.Stage

open Cert.SguIdeal Cert.SguIdeal.Gen Cert.Reals Cert.SguMath
open Idealize.ShloMosaic Idealize.ShloMosaic.TcCoe Idealize.SL.Sem
open scoped BigOperators

section Terms

variable {F : FTy → Type} [FloatOps F] [Named F]

/-- The matrix of the group mean; the centred, the inverse deviation, the normalised and the scaled half. -/
def avg : FVec F S256x256 .f32 := k0_pay14 (iota .tc S256x256 32 [0] iota_S256x256_d0_w32) 64#32 k0_pay12 k0_pay13
def tCen (x0 : Vec F S512x512 .f32) : FVec F S512x256 .f32 :=
  k0_pay15 (k0_pay11 x0) (iota .tc S256x256 32 [0] iota_S256x256_d0_w32) 64#32 k0_pay12 k0_pay13
def tRs (x0 : Vec F S512x512 .f32) : FVec F S512x256 .f32 := k0_pay16 avg (tCen x0)
def tXh (x0 : Vec F S512x512 .f32) : FVec F S512x256 .f32 := k0_pay17 avg (tCen x0)
def tVn (x0 : Vec F S512x512 .f32) (x1 x2 : Vec F S1x256 .f32) : FVec F S512x256 .bf16 := k0_pay18 avg (tCen x0) x1 x2

end Terms

/-! ## The rows -/

theorem lit_C : Ideal.ofBits .f32 0x3F4C422A#32 = ((cC : ℝ) : EReal) := by
  unfold cC; simp [Ideal.ofBits, Ideal.ieee, -EReal.coe_mul]; norm_num
theorem lit_A : Ideal.ofBits .f32 0x3D372713#32 = ((cA : ℝ) : EReal) := by
  unfold cA; simp [Ideal.ofBits, Ideal.ieee, -EReal.coe_mul]; norm_num
theorem lit_64th : Ideal.ofBits .f32 0x3C800000#32 = ((1 / 64 : ℝ) : EReal) := by
  simp [Ideal.ofBits, Ideal.ieee, -EReal.coe_mul]; norm_num
theorem lit_3AC : Named.named (F := Ideal) (φ := .f32) κ "three_a_c" 0x3DDB33B6#32 = ((3 * cA * cC : ℝ) : EReal) := by
  show ((241015141496493 / 2251799813685248 : ℝ) : EReal) = _
  unfold cA cC; congr 1; norm_num

variable (x0 : S512x512.Idx → ℝ) (x1 x2 : S1x256.Idx → ℝ)

theorem dgelu_apply (p : Fin 512) (j : Fin 512) :
    k0_pay9 (F := Ideal) (fun i => (x0 i : EReal)) (ix2 p j) = ((dgl (x0 (ix2 p j)) : ℝ) : EReal) := by
  unfold dgl tn
  pointwise [k0_pay9, k0_pay7, k0_pay6, k0_pay5]
  simp only [lit_3AC, lit_C, lit_A, lit_half, ← EReal.coe_one, ← EReal.coe_mul, ← EReal.coe_add, tanh_coe, ← EReal.coe_sub]

theorem u_apply (p : Fin 512) (c : Fin 256) :
    k0_pay10 (F := Ideal) (fun i => (x0 i : EReal)) (ix2 p c) = ((gl (x0 (ix2 p (lo c))) : ℝ) : EReal) := by
  unfold gl tn
  pointwise [k0_pay10, k0_pay8, k0_pay7, k0_pay6, k0_pay5]
  simp only [lit_3AC, lit_C, lit_A, lit_half, ← EReal.coe_one, ← EReal.coe_mul, ← EReal.coe_add, tanh_coe, ← EReal.coe_sub]

theorem v_apply (p : Fin 512) (c : Fin 256) :
    k0_pay11 (F := Ideal) (fun i => (x0 i : EReal)) (ix2 p c) = ((gl (x0 (ix2 p (hi c))) : ℝ) : EReal) := by
  unfold gl tn
  pointwise [k0_pay11, k0_pay8, k0_pay7, k0_pay6, k0_pay5]
  simp only [lit_3AC, lit_C, lit_A, lit_half, ← EReal.coe_one, ← EReal.coe_mul, ← EReal.coe_add, tanh_coe, ← EReal.coe_sub]

/-- The group of a channel, as the program's integers compute it. -/
theorem group_word : ∀ b : Fin 256, Scalar.select
      (IntOp.andi
        (IntOp.cmpi CmpIPredicate.ne
          (IntOp.subi (BitVec.setWidth 32 (IntOp.cmpi CmpIPredicate.sgt (BitVec.ofNat 32 b.val) 0#32))
            (BitVec.setWidth 32 (IntOp.cmpi CmpIPredicate.slt (BitVec.ofNat 32 b.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 b.val) 64#32) 0#32))
      (IntOp.subi (IntOp.divsi ArithUnit.vector (BitVec.ofNat 32 b.val) 64#32) 1#32)
      (IntOp.divsi ArithUnit.vector (BitVec.ofNat 32 b.val) 64#32) = BitVec.ofNat 32 (grp b).val := by
  decide +kernel

theorem lane_apply (a : Fin 128) (b : Fin 256) : k0_pay19 (ix2 a b) = BitVec.ofNat 32 (grp b).val := by
  pointwise [k0_pay19]
  exact group_word b

theorem eq_group : ∀ g h : Fin 4, Scalar.cmpi .eq (BitVec.ofNat 32 g.val) (BitVec.ofNat 32 h.val) = if g = h then 1#1 else 0#1 := by
  decide +kernel

/-- A choice by comparing groups. -/
theorem select_group {α : Type} (g h : Fin 4) (x y : α) :
    Scalar.select (IntOp.cmpi CmpIPredicate.eq (BitVec.ofNat 32 g.val) (BitVec.ofNat 32 h.val)) x y = if g = h then x else y := by
  have e : IntOp.cmpi CmpIPredicate.eq (BitVec.ofNat 32 g.val) (BitVec.ofNat 32 h.val) = if g = h then 1#1 else 0#1 := eq_group g h
  rw [e]; split_ifs <;> rfl

theorem avg_apply (a b : Fin 256) :
    avg (F := Ideal) (ix2 a b) = (((if grp a = grp b then 1 / 64 else 0) : ℝ) : EReal) := by
  pointwise [avg, k0_pay14, k0_pay12, k0_pay13]
  rw [group_word, group_word, select_group, lit_64th]
  split_ifs
  · rfl
  · exact EReal.coe_zero.symm

/-- The last half of a row, after gelu. -/
abbrev rV (p : Fin 512) (c : Fin 256) : ℝ := gl (x0 (ix2 p (hi c)))

theorem cen_apply (p : Fin 512) (c : Fin 256) :
    tCen (F := Ideal) (fun i => (x0 i : EReal)) (ix2 p c) = ((cen (rV x0 p) c : ℝ) : EReal) := by
  unfold cen
  rw [← gm_mat]
  pointwise [tCen, k0_pay15]
  change _ - ∑ x, _ * avg (F := Ideal) (ix2 x c) = _
  simp only [v_apply, avg_apply, ← EReal.coe_mul, coe_sum, ← EReal.coe_sub]

theorem rs_apply (p : Fin 512) (c : Fin 256) :
    tRs (F := Ideal) (fun i => (x0 i : EReal)) (ix2 p c) = ((rs (rV x0 p) (grp c) : ℝ) : EReal) := by
  pointwise [tRs, k0_pay16]
  simp only [cen_apply, avg_apply, lit_eps, ← EReal.coe_mul, coe_sum, ← EReal.coe_add]
  rw [gm_mat (fun j => cen (rV x0 p) j * cen (rV x0 p) j)]
  exact rsqrt_coe _ (vr_pos (rV x0 p) (grp c))

theorem xh_apply (p : Fin 512) (c : Fin 256) :
    tXh (F := Ideal) (fun i => (x0 i : EReal)) (ix2 p c) = ((xh (rV x0 p) c : ℝ) : EReal) := by
  have h := rs_apply x0 p c
  unfold tRs at h
  unfold xh
  pointwise [tXh, k0_pay17]
  rw [h, cen_apply, ← EReal.coe_mul]

theorem vn_apply (p : Fin 512) (c : Fin 256) :
    tVn (F := Ideal) (fun i => (x0 i : EReal)) (fun i => (x1 i : EReal)) (fun i => (x2 i : EReal)) (ix2 p c)
      = ((ln (rV x0 p) (fun j => x1 (ix2 0 j)) (fun j => x2 (ix2 0 j)) c : ℝ) : EReal) := by
  have h := xh_apply x0 p c
  unfold tXh at h
  unfold ln
  pointwise [tVn, k0_pay18]
  rw [h, ← EReal.coe_mul, ← EReal.coe_add]

/-! ## The chunks -/

section Terms

variable {F : FTy → Type} [FloatOps F] [Named F]

/-- Chunk `k`'s rows of an array of 512 rows; the first half of its rows of an array of 512 by 512. -/
def rowsOf {α : Type} (X : S512x256.Idx → α) : Fin 4 → (S128x256.Idx → α)
  | 0 => extractStridedSlice S128x256 ![0, 0] X slices_S512x256_o0_0_S128x256
  | 1 => extractStridedSlice S128x256 ![128, 0] X slices_S512x256_o128_0_S128x256
  | 2 => extractStridedSlice S128x256 ![256, 0] X slices_S512x256_o256_0_S128x256
  | 3 => extractStridedSlice S128x256 ![384, 0] X slices_S512x256_o384_0_S128x256
def leftOf {α : Type} (X : S512x512.Idx → α) : Fin 4 → (S128x256.Idx → α)
  | 0 => extractStridedSlice S128x256 ![0, 0] X slices_S512x512_o0_0_S128x256
  | 1 => extractStridedSlice S128x256 ![128, 0] X slices_S512x512_o128_0_S128x256
  | 2 => extractStridedSlice S128x256 ![256, 0] X slices_S512x512_o256_0_S128x256
  | 3 => extractStridedSlice S128x256 ![384, 0] X slices_S512x512_o384_0_S128x256

/-- The channels of group `g`; the zero of the choices. -/
def own (g : BitVec 32) : IVec S128x256 1 := cmpi .eq k0_pay19 (broadcast S128x256 g)
def zc : FVec F S128x256 .f32 := broadcast S128x256 (Scalar.ofBits .f32 0x00000000#32)

/-- One group's mixing of a chunk, all groups' mixing. -/
def tMix1 (w : Vec F S1x128x128 .f32) (b : Vec F S128x1 .f32) (n : FVec F S128x256 .bf16) : FVec F S128x256 .f32 :=
  addf (matmul dot_S128x128_S128x256_S128x256_1_0_0_1_n_n none
      (truncf .bf16 (shapeCast S128x128 w shapeCasts_S1x128x128_S128x128) bitsLt_bf16_f32) n (constant S128x256 .f32 0x00000000#32))
    (broadcastTo S128x256 (shapeCast S128x1 b shapeCasts_S128x1_S128x1) broadcasts_S128x1_S128x256)
def tMix (w0 w1 w2 w3 : Vec F S1x128x128 .f32) (b0 b1 b2 b3 : Vec F S128x1 .f32) (n : FVec F S128x256 .bf16) : FVec F S128x256 .f32 :=
  select (own 3#32) (tMix1 w3 b3 n) (select (own 2#32) (tMix1 w2 b2 n) (select (own 1#32) (tMix1 w1 b1 n)
    (select (own 0#32) (tMix1 w0 b0 n) zc)))

/-- The chunk's rows of the first half of the gradient of `z`. -/
def tZu (y : FVec F S128x256 .f32) (m dg : FVec F S128x256 .f32) : FVec F S128x256 .bf16 :=
  truncf .bf16 (mulf (mulf y m) dg) bitsLt_bf16_f32

/-- The gradient of the mixed half, of one group only; back through the group's mixing; all groups'. -/
def tDm (g : BitVec 32) (d : FVec F S128x256 .f32) : FVec F S128x256 .f32 := select (own g) d zc
def tDn1 (w : Vec F S1x128x128 .f32) (d : FVec F S128x256 .f32) : FVec F S128x256 .f32 :=
  matmul dot_S128x128_S128x256_S128x256_0_0_1_1_n_n none
    (truncf .bf16 (shapeCast S128x128 w shapeCasts_S1x128x128_S128x128) bitsLt_bf16_f32) (truncf .bf16 d bitsLt_bf16_f32)
    (constant S128x256 .f32 0x00000000#32)
def tDn (w0 w1 w2 w3 : Vec F S1x128x128 .f32) (d : FVec F S128x256 .f32) : FVec F S128x256 .f32 :=
  select (own 3#32) (tDn1 w3 (tDm 3#32 d)) (select (own 2#32) (tDn1 w2 (tDm 2#32 d)) (select (own 1#32) (tDn1 w1 (tDm 1#32 d))
    (select (own 0#32) (tDn1 w0 (tDm 0#32 d)) zc)))

/-- A chunk's part of one group's gradient of the mixing, and of the shift, added to what was held. -/
def tW (g : BitVec 32) (d : FVec F S128x256 .f32) (n : FVec F S128x256 .bf16) (o : Vec F S1x128x128 .f32) : Vec F S1x128x128 .f32 :=
  shapeCast S1x128x128 (addf (shapeCast S128x128 o shapeCasts_S1x128x128_S128x128)
    (matmul dot_S128x256_S128x256_S128x128_1_1_0_0_n_n none (truncf .bf16 (tDm g d) bitsLt_bf16_f32) n
      (constant S128x128 .f32 0x00000000#32))) shapeCasts_S128x128_S1x128x128
def tT (g : BitVec 32) (d : FVec F S128x256 .f32) (o : Vec F S128x1 .f32) : Vec F S128x1 .f32 :=
  addf (shapeCast S128x1 o shapeCasts_S128x1_S128x1)
    (shapeCast S128x1 (multiReduction .add [1] S128 (tDm g d) 0x00000000#32 reduces_S128x256_S128 (.inl rfl) rfl) shapeCasts_S128_S128x1)

end Terms

end Cert.SguIdeal.Stage
end
-- ==== Proof.SguBlock.lean ====
/-
  WHAT A GRID POINT LEAVES in the five buffers of the spatial gating's gradient, as the stages of `SguStage` over the blocks it
  reads: the named values of the generated run, at the first point and at the later ones, are these stages; the two
  accumulators that are stored and read back group by group hold, group by group, the sum of the four chunks' parts.
-/
module

public import proofs.«01_k».proof.Proof.SguStage
public import Idealize.ShloMosaic.Lib.Pipeline.ReadBack

@[expose] public section

set_option maxRecDepth 16384

noncomputable section

namespace Cert.SguIdeal.Block

open Cert.SguIdeal Cert.SguIdeal.Gen Cert.SguIdeal.Stage
open Idealize.ShloMosaic Idealize.ShloMosaic.TcCoe Idealize.SL.Sem

variable {F : FTy → Type} [FloatOps F] [Named F]

theorem hz : (![0, 0] : Fin 2 → Nat) = fun _ => 0 := funext fun a => by fin_cases a <;> rfl

/-- Group `g`'s matrix of four; column `g` of four. -/
def slab (X : Vec F S4x128x128 .f32) : Fin 4 → Vec F S1x128x128 .f32
  | 0 => View.ld X (Rect.unit ![0, 0, 0] S1x128x128.size inb_S4x128x128_S1x128x128_0_0_0)
  | 1 => View.ld X (Rect.unit ![1, 0, 0] S1x128x128.size inb_S4x128x128_S1x128x128_1_0_0)
  | 2 => View.ld X (Rect.unit ![2, 0, 0] S1x128x128.size inb_S4x128x128_S1x128x128_2_0_0)
  | 3 => View.ld X (Rect.unit ![3, 0, 0] S1x128x128.size inb_S4x128x128_S1x128x128_3_0_0)
def col (X : Vec F S128x4 .f32) : Fin 4 → Vec F S128x1 .f32
  | 0 => View.ld X (Rect.unit ![0, 0] S128x1.size inb_S128x4_S128x1_0_0)
  | 1 => View.ld X (Rect.unit ![0, 1] S128x1.size inb_S128x4_S128x1_0_1)
  | 2 => View.ld X (Rect.unit ![0, 2] S128x1.size inb_S128x4_S128x1_0_2)
  | 3 => View.ld X (Rect.unit ![0, 3] S128x1.size inb_S128x4_S128x1_0_3)

variable (x0 : Vec F S512x512 .f32) (x1 x2 : Vec F S1x256 .f32) (x3 : Vec F S4x128x128 .f32) (x4 : Vec F S128x4 .f32)
  (x5 : Vec F S512x256 .f32)

/-- Chunk `k`: the gradient of its mixed half, its normalised half. -/
def tD (k : Fin 4) : FVec F S128x256 .f32 := mulf (rowsOf x5 k) (rowsOf (k0_pay10 x0) k)
def tN (k : Fin 4) : FVec F S128x256 .bf16 := rowsOf (tVn x0 x1 x2) k

/-- Chunk `k`: its rows of the first half of the gradient of `z`; the gradient of its normalised half. -/
def zuRows (k : Fin 4) : FVec F S128x256 .bf16 :=
  tZu (rowsOf x5 k) (tMix (slab x3 0) (slab x3 1) (slab x3 2) (slab x3 3) (col x4 0) (col x4 1) (col x4 2) (col x4 3)
    (tN x0 x1 x2 k)) (leftOf (k0_pay9 x0) k)
def dnRows (k : Fin 4) : FVec F S128x256 .f32 := tDn (slab x3 0) (slab x3 1) (slab x3 2) (slab x3 3) (tD x0 x5 k)

/-- All four chunks' gradients of the normalised half. -/
def dnAll : FVec F S512x256 .f32 :=
  concatenate S512x256 0 [⟨S128x256, dnRows x0 x3 x5 0⟩, ⟨S128x256, dnRows x0 x3 x5 1⟩, ⟨S128x256, dnRows x0 x3 x5 2⟩,
    ⟨S128x256, dnRows x0 x3 x5 3⟩] concatenates_S128x256_S128x256_S128x256_S128x256_S512x256_d0

/-- The last half of the gradient of `z`. -/
def zvRows : FVec F S512x256 .bf16 := k0_pay134 (k0_pay9 x0) avg (tRs x0) (tXh x0) (dnAll x0 x3 x5) x1

/-- The gradients of the scale and of the shift, added to what was held. -/
def gAcc (o : Vec F S1x256 .f32) : Vec F S1x256 .f32 :=
  k0_pay132 (shapeCast S1x256 o shapeCasts_S1x256_S1x256)
    (multiReduction .add [0] S256 (mulf (dnAll x0 x3 x5) (tXh x0)) 0x00000000#32 reduces_S512x256_S256 (.inl rfl) rfl)
def bAcc (o : Vec F S1x256 .f32) : Vec F S1x256 .f32 := k0_pay133 (dnAll x0 x3 x5) o

/-- One chunk's part of the mixing's gradient for a group (given with its word), and of the mixing's shift. -/
def wStep (k : Fin 4) (g : BitVec 32) (o : Vec F S1x128x128 .f32) : Vec F S1x128x128 .f32 := tW g (tD x0 x5 k) (tN x0 x1 x2 k) o
def tStep (k : Fin 4) (g : BitVec 32) (o : Vec F S128x1 .f32) : Vec F S128x1 .f32 := tT g (tD x0 x5 k) o

/-- All four chunks' parts. -/
def wAcc (g : BitVec 32) (o : Vec F S1x128x128 .f32) : Vec F S1x128x128 .f32 :=
  wStep x0 x1 x2 x5 3 g (wStep x0 x1 x2 x5 2 g (wStep x0 x1 x2 x5 1 g (wStep x0 x1 x2 x5 0 g o)))
def tAcc (g : BitVec 32) (o : Vec F S128x1 .f32) : Vec F S128x1 .f32 :=
  tStep x0 x5 3 g (tStep x0 x5 2 g (tStep x0 x5 1 g (tStep x0 x5 0 g o)))

/-- The buffer of the gradient of `z`: five stores that tile it. -/
def zBuf : Vec F S512x512 .bf16 :=
  View.canon [⟨Rect.unit ![0, 256] S512x256.size inb_S512x512_S512x256_0_256, zvRows x0 x1 x3 x5⟩,
    ⟨Rect.unit ![384, 0] S128x256.size inb_S512x512_S128x256_384_0, zuRows x0 x1 x2 x3 x4 x5 3⟩,
    ⟨Rect.unit ![256, 0] S128x256.size inb_S512x512_S128x256_256_0, zuRows x0 x1 x2 x3 x4 x5 2⟩,
    ⟨Rect.unit ![128, 0] S128x256.size inb_S512x512_S128x256_128_0, zuRows x0 x1 x2 x3 x4 x5 1⟩,
    ⟨Rect.unit ![0, 0] S128x256.size inb_S512x512_S128x256_0_0, zuRows x0 x1 x2 x3 x4 x5 0⟩]

/-! ## The named values of the run -/

variable (c : Dev nD) (a1 : Memref sig .tc .vmem S512x512 .f32) (h1 : a1.IsWhole)
  (a2 : Memref sig .tc .vmem S1x256 .f32) (h2 : a2.IsWhole) (a3 : Memref sig .tc .vmem S1x256 .f32) (h3 : a3.IsWhole)
  (a4 : Memref sig .tc .vmem S4x128x128 .f32) (h4 : a4.IsWhole) (a5 : Memref sig .tc .vmem S128x4 .f32) (h5 : a5.IsWhole)
  (a6 : Memref sig .tc .vmem S512x256 .f32) (h6 : a6.IsWhole) (a7 : Memref sig .tc .vmem S512x512 .bf16) (h7 : a7.IsWhole)
  (a8 : Memref sig .tc .vmem S1x256 .f32) (h8 : a8.IsWhole) (a9 : Memref sig .tc .vmem S1x256 .f32) (h9 : a9.IsWhole)
  (a10 : Memref sig .tc .vmem S4x128x128 .f32) (h10 : a10.IsWhole) (a11 : Memref sig .tc .vmem S128x4 .f32) (h11 : a11.IsWhole)
  (xo7 xo8 : Vec F S1x256 .f32) (xo9 : Vec F S4x128x128 .f32) (xo10 : Vec F S128x4 .f32)

abbrev R0 := View.readAt (Elt F) a1.view (Rect.unit ![0, 0] S512x512.size inb_S512x512_S512x512_0_0).toLoadRect (h1.unread x0)
abbrev R5 := View.readAt (Elt F) a6.view (Rect.unit ![0, 0] S512x256.size inb_S512x256_S512x256_0_0).toLoadRect (h6.unread x5)
abbrev RV (a : Memref sig .tc .vmem S1x256 .f32) (h : a.IsWhole) (x : Vec F S1x256 .f32) :=
  View.readAt (Elt F) a.view (Rect.unit ![0, 0] S1x256.size inb_S1x256_S1x256_0_0).toLoadRect (h.unread x)

theorem r0 : R0 x0 a1 h1 = x0 := by simp only [R0, View.readAt_eq_ld, h1.read_unread, View.ld_unit_zero (S := S512x512) hz]
theorem r5 : R5 x5 a6 h6 = x5 := by simp only [R5, View.readAt_eq_ld, h6.read_unread, View.ld_unit_zero (S := S512x256) hz]
theorem rv (a : Memref sig .tc .vmem S1x256 .f32) (h : a.IsWhole) (x : Vec F S1x256 .f32) : RV a h x = x := by
  simp only [RV, View.readAt_eq_ld, h.read_unread, View.ld_unit_zero (S := S1x256) hz]

abbrev RW0 (a : Memref sig .tc .vmem S4x128x128 .f32) (h : a.IsWhole) (x : Vec F S4x128x128 .f32) :=
  View.readAt (Elt F) a.view (Rect.unit (s := S4x128x128) ![0, 0, 0] S1x128x128.size inb_S4x128x128_S1x128x128_0_0_0).toLoadRect (h.unread x)
theorem rw0 (a : Memref sig .tc .vmem S4x128x128 .f32) (h : a.IsWhole) (x : Vec F S4x128x128 .f32) : RW0 a h x = slab x 0 := by
  simp only [RW0, View.readAt_eq_ld, h.read_unread]; rfl
abbrev RC0 (a : Memref sig .tc .vmem S128x4 .f32) (h : a.IsWhole) (x : Vec F S128x4 .f32) :=
  View.readAt (Elt F) a.view (Rect.unit (s := S128x4) ![0, 0] S128x1.size inb_S128x4_S128x1_0_0).toLoadRect (h.unread x)
theorem rc0 (a : Memref sig .tc .vmem S128x4 .f32) (h : a.IsWhole) (x : Vec F S128x4 .f32) : RC0 a h x = col x 0 := by
  simp only [RC0, View.readAt_eq_ld, h.read_unread]; rfl

abbrev RW1 (a : Memref sig .tc .vmem S4x128x128 .f32) (h : a.IsWhole) (x : Vec F S4x128x128 .f32) :=
  View.readAt (Elt F) a.view (Rect.unit (s := S4x128x128) ![1, 0, 0] S1x128x128.size inb_S4x128x128_S1x128x128_1_0_0).toLoadRect (h.unread x)
theorem rw1 (a : Memref sig .tc .vmem S4x128x128 .f32) (h : a.IsWhole) (x : Vec F S4x128x128 .f32) : RW1 a h x = slab x 1 := by
  simp only [RW1, View.readAt_eq_ld, h.read_unread]; rfl
abbrev RC1 (a : Memref sig .tc .vmem S128x4 .f32) (h : a.IsWhole) (x : Vec F S128x4 .f32) :=
  View.readAt (Elt F) a.view (Rect.unit (s := S128x4) ![0, 1] S128x1.size inb_S128x4_S128x1_0_1).toLoadRect (h.unread x)
theorem rc1 (a : Memref sig .tc .vmem S128x4 .f32) (h : a.IsWhole) (x : Vec F S128x4 .f32) : RC1 a h x = col x 1 := by
  simp only [RC1, View.readAt_eq_ld, h.read_unread]; rfl

abbrev RW2 (a : Memref sig .tc .vmem S4x128x128 .f32) (h : a.IsWhole) (x : Vec F S4x128x128 .f32) :=
  View.readAt (Elt F) a.view (Rect.unit (s := S4x128x128) ![2, 0, 0] S1x128x128.size inb_S4x128x128_S1x128x128_2_0_0).toLoadRect (h.unread x)
theorem rw2 (a : Memref sig .tc .vmem S4x128x128 .f32) (h : a.IsWhole) (x : Vec F S4x128x128 .f32) : RW2 a h x = slab x 2 := by
  simp only [RW2, View.readAt_eq_ld, h.read_unread]; rfl
abbrev RC2 (a : Memref sig .tc .vmem S128x4 .f32) (h : a.IsWhole) (x : Vec F S128x4 .f32) :=
  View.readAt (Elt F) a.view (Rect.unit (s := S128x4) ![0, 2] S128x1.size inb_S128x4_S128x1_0_2).toLoadRect (h.unread x)
theorem rc2 (a : Memref sig .tc .vmem S128x4 .f32) (h : a.IsWhole) (x : Vec F S128x4 .f32) : RC2 a h x = col x 2 := by
  simp only [RC2, View.readAt_eq_ld, h.read_unread]; rfl

abbrev RW3 (a : Memref sig .tc .vmem S4x128x128 .f32) (h : a.IsWhole) (x : Vec F S4x128x128 .f32) :=
  View.readAt (Elt F) a.view (Rect.unit (s := S4x128x128) ![3, 0, 0] S1x128x128.size inb_S4x128x128_S1x128x128_3_0_0).toLoadRect (h.unread x)
theorem rw3 (a : Memref sig .tc .vmem S4x128x128 .f32) (h : a.IsWhole) (x : Vec F S4x128x128 .f32) : RW3 a h x = slab x 3 := by
  simp only [RW3, View.readAt_eq_ld, h.read_unread]; rfl
abbrev RC3 (a : Memref sig .tc .vmem S128x4 .f32) (h : a.IsWhole) (x : Vec F S128x4 .f32) :=
  View.readAt (Elt F) a.view (Rect.unit (s := S128x4) ![0, 3] S128x1.size inb_S128x4_S128x1_0_3).toLoadRect (h.unread x)
theorem rc3 (a : Memref sig .tc .vmem S128x4 .f32) (h : a.IsWhole) (x : Vec F S128x4 .f32) : RC3 a h x = col x 3 := by
  simp only [RC3, View.readAt_eq_ld, h.read_unread]; rfl

/-! ### At the first point -/

theorem zu_A_0 : kernelRun0_A.sl.v179 c a1 h1 a2 h2 a3 h3 a4 h4 a5 h5 a6 h6 x0 x1 x2 x3 x4 x5 = zuRows x0 x1 x2 x3 x4 x5 0 := by
  refine (show _ = tZu (rowsOf (R5 x5 a6 h6) 0) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 0)) (leftOf (k0_pay9 (R0 x0 a1 h1)) 0) from rfl).trans ?_
  rw [r0, r5, rv, rv, rw0, rw1, rw2, rw3, rc0, rc1, rc2, rc3]; rfl
theorem dn_A_0 : kernelRun0_A.sl.v269 c a1 h1 a4 h4 a6 h6 x0 x3 x5 = dnRows x0 x3 x5 0 := by
  refine (show _ = tDn (RW0 a4 h4 x3) (RW1 a4 h4 x3) (RW2 a4 h4 x3) (RW3 a4 h4 x3) (tD (R0 x0 a1 h1) (R5 x5 a6 h6) 0) from rfl).trans ?_
  rw [r0, r5, rw0, rw1, rw2, rw3]; rfl

theorem zu_A_1 : kernelRun0_A.sl.v335 c a1 h1 a2 h2 a3 h3 a4 h4 a5 h5 a6 h6 x0 x1 x2 x3 x4 x5 = zuRows x0 x1 x2 x3 x4 x5 1 := by
  refine (show _ = tZu (rowsOf (R5 x5 a6 h6) 1) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 1)) (leftOf (k0_pay9 (R0 x0 a1 h1)) 1) from rfl).trans ?_
  rw [r0, r5, rv, rv, rw0, rw1, rw2, rw3, rc0, rc1, rc2, rc3]; rfl
theorem dn_A_1 : kernelRun0_A.sl.v425 c a1 h1 a4 h4 a6 h6 x0 x3 x5 = dnRows x0 x3 x5 1 := by
  refine (show _ = tDn (RW0 a4 h4 x3) (RW1 a4 h4 x3) (RW2 a4 h4 x3) (RW3 a4 h4 x3) (tD (R0 x0 a1 h1) (R5 x5 a6 h6) 1) from rfl).trans ?_
  rw [r0, r5, rw0, rw1, rw2, rw3]; rfl

theorem zu_A_2 : kernelRun0_A.sl.v491 c a1 h1 a2 h2 a3 h3 a4 h4 a5 h5 a6 h6 x0 x1 x2 x3 x4 x5 = zuRows x0 x1 x2 x3 x4 x5 2 := by
  refine (show _ = tZu (rowsOf (R5 x5 a6 h6) 2) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 2)) (leftOf (k0_pay9 (R0 x0 a1 h1)) 2) from rfl).trans ?_
  rw [r0, r5, rv, rv, rw0, rw1, rw2, rw3, rc0, rc1, rc2, rc3]; rfl
theorem dn_A_2 : kernelRun0_A.sl.v581 c a1 h1 a4 h4 a6 h6 x0 x3 x5 = dnRows x0 x3 x5 2 := by
  refine (show _ = tDn (RW0 a4 h4 x3) (RW1 a4 h4 x3) (RW2 a4 h4 x3) (RW3 a4 h4 x3) (tD (R0 x0 a1 h1) (R5 x5 a6 h6) 2) from rfl).trans ?_
  rw [r0, r5, rw0, rw1, rw2, rw3]; rfl

theorem zu_A_3 : kernelRun0_A.sl.v647 c a1 h1 a2 h2 a3 h3 a4 h4 a5 h5 a6 h6 x0 x1 x2 x3 x4 x5 = zuRows x0 x1 x2 x3 x4 x5 3 := by
  refine (show _ = tZu (rowsOf (R5 x5 a6 h6) 3) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 3)) (leftOf (k0_pay9 (R0 x0 a1 h1)) 3) from rfl).trans ?_
  rw [r0, r5, rv, rv, rw0, rw1, rw2, rw3, rc0, rc1, rc2, rc3]; rfl
theorem dn_A_3 : kernelRun0_A.sl.v737 c a1 h1 a4 h4 a6 h6 x0 x3 x5 = dnRows x0 x3 x5 3 := by
  refine (show _ = tDn (RW0 a4 h4 x3) (RW1 a4 h4 x3) (RW2 a4 h4 x3) (RW3 a4 h4 x3) (tD (R0 x0 a1 h1) (R5 x5 a6 h6) 3) from rfl).trans ?_
  rw [r0, r5, rw0, rw1, rw2, rw3]; rfl

theorem all_A : kernelRun0_A.sl.v753 c a1 h1 a4 h4 a6 h6 x0 x3 x5 = dnAll x0 x3 x5 := by
  unfold kernelRun0_A.sl.v753 dnAll
  rw [dn_A_0, dn_A_1, dn_A_2, dn_A_3]
theorem zv_A : kernelRun0_A.sl.r_4 c a1 h1 a2 h2 a4 h4 a6 h6 x0 x1 x3 x5 = zvRows x0 x1 x3 x5 := by
  refine (show _ = k0_pay134 (k0_pay9 (R0 x0 a1 h1)) avg (tRs (R0 x0 a1 h1)) (tXh (R0 x0 a1 h1))
    (kernelRun0_A.sl.v753 c a1 h1 a4 h4 a6 h6 x0 x3 x5) (RV a2 h2 x1) from rfl).trans ?_
  rw [all_A, r0, rv]; rfl
theorem gs_A : kernelRun0_A.sl.v757 c a1 h1 a4 h4 a6 h6 x0 x3 x5 = multiReduction .add [0] S256 (mulf (dnAll x0 x3 x5) (tXh x0)) 0x00000000#32 reduces_S512x256_S256 (.inl rfl) rfl := by
  refine (show _ = multiReduction .add [0] S256 (mulf (kernelRun0_A.sl.v753 c a1 h1 a4 h4 a6 h6 x0 x3 x5) (tXh (R0 x0 a1 h1))) 0x00000000#32 reduces_S512x256_S256 (.inl rfl) rfl from rfl).trans ?_
  rw [all_A, r0]

/-- A group's matrix of the mixing, and a group's column of its shift, as places of their buffers. -/
abbrev W0 : Rect S4x128x128 := Rect.unit (s := S4x128x128) ![0, 0, 0] S1x128x128.size inb_S4x128x128_S1x128x128_0_0_0
abbrev T0 : Rect S128x4 := Rect.unit (s := S128x4) ![0, 0] S128x1.size inb_S128x4_S128x1_0_0
abbrev W1 : Rect S4x128x128 := Rect.unit (s := S4x128x128) ![1, 0, 0] S1x128x128.size inb_S4x128x128_S1x128x128_1_0_0
abbrev T1 : Rect S128x4 := Rect.unit (s := S128x4) ![0, 1] S128x1.size inb_S128x4_S128x1_0_1
abbrev W2 : Rect S4x128x128 := Rect.unit (s := S4x128x128) ![2, 0, 0] S1x128x128.size inb_S4x128x128_S1x128x128_2_0_0
abbrev T2 : Rect S128x4 := Rect.unit (s := S128x4) ![0, 2] S128x1.size inb_S128x4_S128x1_0_2
abbrev W3 : Rect S4x128x128 := Rect.unit (s := S4x128x128) ![3, 0, 0] S1x128x128.size inb_S4x128x128_S1x128x128_3_0_0
abbrev T3 : Rect S128x4 := Rect.unit (s := S128x4) ![0, 3] S128x1.size inb_S128x4_S128x1_0_3

theorem wl_A_0_0 : a10.view.readCov (kernelRun0_A.sl.H9_1) W0.toLoadRect = slab (k0_pay3 (F := F)) 0 :=
  View.readCov_fill _ inb_S4x128x128_S4x128x128_0_0_0 _ _ _ (by decide)
theorem tl_A_0_0 : a11.view.readCov (kernelRun0_A.sl.H10_1) T0.toLoadRect = col (k0_pay4 (F := F)) 0 :=
  View.readCov_fill _ inb_S128x4_S128x4_0_0 _ _ _ (by decide)

theorem w_A_0_0 : kernelRun0_A.sl.v203 c a1 h1 a2 h2 a3 h3 a6 h6 a10 x0 x1 x2 x5 = wStep x0 x1 x2 x5 0 0#32 (slab (k0_pay3 (F := F)) 0) := by
  refine (show _ = wStep (R0 x0 a1 h1) (RV a2 h2 x1) (RV a3 h3 x2) (R5 x5 a6 h6) 0 0#32 (a10.view.readCov (kernelRun0_A.sl.H9_1) W0.toLoadRect) from rfl).trans ?_
  rw [r0, r5, rv, rv, wl_A_0_0]
theorem t_A_0_0 : kernelRun0_A.sl.v208 c a1 h1 a6 h6 a11 x0 x5 = tStep x0 x5 0 0#32 (col (k0_pay4 (F := F)) 0) := by
  refine (show _ = tStep (R0 x0 a1 h1) (R5 x5 a6 h6) 0 0#32 (a11.view.readCov (kernelRun0_A.sl.H10_1) T0.toLoadRect) from rfl).trans ?_
  rw [r0, r5, tl_A_0_0]

theorem wl_A_0_1 : a10.view.readCov (kernelRun0_A.sl.H9_2 c a1 h1 a2 h2 a3 h3 a6 h6 a10 x0 x1 x2 x5) W1.toLoadRect = slab (k0_pay3 (F := F)) 1 :=
  (View.readCov_skip _ _ _ _ _ (by decide)).trans <| View.readCov_fill _ inb_S4x128x128_S4x128x128_0_0_0 _ _ _ (by decide)
theorem tl_A_0_1 : a11.view.readCov (kernelRun0_A.sl.H10_2 c a1 h1 a6 h6 a11 x0 x5) T1.toLoadRect = col (k0_pay4 (F := F)) 1 :=
  (View.readCov_skip _ _ _ _ _ (by decide)).trans <| View.readCov_fill _ inb_S128x4_S128x4_0_0 _ _ _ (by decide)

theorem w_A_0_1 : kernelRun0_A.sl.v228 c a1 h1 a2 h2 a3 h3 a6 h6 a10 x0 x1 x2 x5 = wStep x0 x1 x2 x5 0 1#32 (slab (k0_pay3 (F := F)) 1) := by
  refine (show _ = wStep (R0 x0 a1 h1) (RV a2 h2 x1) (RV a3 h3 x2) (R5 x5 a6 h6) 0 1#32 (a10.view.readCov (kernelRun0_A.sl.H9_2 c a1 h1 a2 h2 a3 h3 a6 h6 a10 x0 x1 x2 x5) W1.toLoadRect) from rfl).trans ?_
  rw [r0, r5, rv, rv, wl_A_0_1]
theorem t_A_0_1 : kernelRun0_A.sl.v233 c a1 h1 a6 h6 a11 x0 x5 = tStep x0 x5 0 1#32 (col (k0_pay4 (F := F)) 1) := by
  refine (show _ = tStep (R0 x0 a1 h1) (R5 x5 a6 h6) 0 1#32 (a11.view.readCov (kernelRun0_A.sl.H10_2 c a1 h1 a6 h6 a11 x0 x5) T1.toLoadRect) from rfl).trans ?_
  rw [r0, r5, tl_A_0_1]

theorem wl_A_0_2 : a10.view.readCov (kernelRun0_A.sl.H9_3 c a1 h1 a2 h2 a3 h3 a6 h6 a10 x0 x1 x2 x5) W2.toLoadRect = slab (k0_pay3 (F := F)) 2 :=
  (View.readCov_skip _ _ _ _ _ (by decide)).trans <| (View.readCov_skip _ _ _ _ _ (by decide)).trans <| View.readCov_fill _ inb_S4x128x128_S4x128x128_0_0_0 _ _ _ (by decide)
theorem tl_A_0_2 : a11.view.readCov (kernelRun0_A.sl.H10_3 c a1 h1 a6 h6 a11 x0 x5) T2.toLoadRect = col (k0_pay4 (F := F)) 2 :=
  (View.readCov_skip _ _ _ _ _ (by decide)).trans <| (View.readCov_skip _ _ _ _ _ (by decide)).trans <| View.readCov_fill _ inb_S128x4_S128x4_0_0 _ _ _ (by decide)

theorem w_A_0_2 : kernelRun0_A.sl.v253 c a1 h1 a2 h2 a3 h3 a6 h6 a10 x0 x1 x2 x5 = wStep x0 x1 x2 x5 0 2#32 (slab (k0_pay3 (F := F)) 2) := by
  refine (show _ = wStep (R0 x0 a1 h1) (RV a2 h2 x1) (RV a3 h3 x2) (R5 x5 a6 h6) 0 2#32 (a10.view.readCov (kernelRun0_A.sl.H9_3 c a1 h1 a2 h2 a3 h3 a6 h6 a10 x0 x1 x2 x5) W2.toLoadRect) from rfl).trans ?_
  rw [r0, r5, rv, rv, wl_A_0_2]
theorem t_A_0_2 : kernelRun0_A.sl.v258 c a1 h1 a6 h6 a11 x0 x5 = tStep x0 x5 0 2#32 (col (k0_pay4 (F := F)) 2) := by
  refine (show _ = tStep (R0 x0 a1 h1) (R5 x5 a6 h6) 0 2#32 (a11.view.readCov (kernelRun0_A.sl.H10_3 c a1 h1 a6 h6 a11 x0 x5) T2.toLoadRect) from rfl).trans ?_
  rw [r0, r5, tl_A_0_2]

theorem wl_A_0_3 : a10.view.readCov (kernelRun0_A.sl.H9_4 c a1 h1 a2 h2 a3 h3 a6 h6 a10 x0 x1 x2 x5) W3.toLoadRect = slab (k0_pay3 (F := F)) 3 :=
  (View.readCov_skip _ _ _ _ _ (by decide)).trans <| (View.readCov_skip _ _ _ _ _ (by decide)).trans <| (View.readCov_skip _ _ _ _ _ (by decide)).trans <| View.readCov_fill _ inb_S4x128x128_S4x128x128_0_0_0 _ _ _ (by decide)
theorem tl_A_0_3 : a11.view.readCov (kernelRun0_A.sl.H10_4 c a1 h1 a6 h6 a11 x0 x5) T3.toLoadRect = col (k0_pay4 (F := F)) 3 :=
  (View.readCov_skip _ _ _ _ _ (by decide)).trans <| (View.readCov_skip _ _ _ _ _ (by decide)).trans <| (View.readCov_skip _ _ _ _ _ (by decide)).trans <| View.readCov_fill _ inb_S128x4_S128x4_0_0 _ _ _ (by decide)

theorem w_A_0_3 : kernelRun0_A.sl.v278 c a1 h1 a2 h2 a3 h3 a6 h6 a10 x0 x1 x2 x5 = wStep x0 x1 x2 x5 0 3#32 (slab (k0_pay3 (F := F)) 3) := by
  refine (show _ = wStep (R0 x0 a1 h1) (RV a2 h2 x1) (RV a3 h3 x2) (R5 x5 a6 h6) 0 3#32 (a10.view.readCov (kernelRun0_A.sl.H9_4 c a1 h1 a2 h2 a3 h3 a6 h6 a10 x0 x1 x2 x5) W3.toLoadRect) from rfl).trans ?_
  rw [r0, r5, rv, rv, wl_A_0_3]
theorem t_A_0_3 : kernelRun0_A.sl.v283 c a1 h1 a6 h6 a11 x0 x5 = tStep x0 x5 0 3#32 (col (k0_pay4 (F := F)) 3) := by
  refine (show _ = tStep (R0 x0 a1 h1) (R5 x5 a6 h6) 0 3#32 (a11.view.readCov (kernelRun0_A.sl.H10_4 c a1 h1 a6 h6 a11 x0 x5) T3.toLoadRect) from rfl).trans ?_
  rw [r0, r5, tl_A_0_3]

theorem wl_A_1_0 : a10.view.readCov (kernelRun0_A.sl.H9_5 c a1 h1 a2 h2 a3 h3 a6 h6 a10 x0 x1 x2 x5) W0.toLoadRect = kernelRun0_A.sl.v203 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_1_0 : a11.view.readCov (kernelRun0_A.sl.H10_5 c a1 h1 a6 h6 a11 x0 x5) T0.toLoadRect = kernelRun0_A.sl.v208 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_1_0 : kernelRun0_A.sl.v359 c a1 h1 a2 h2 a3 h3 a6 h6 a10 x0 x1 x2 x5 = wStep x0 x1 x2 x5 1 0#32 (wStep x0 x1 x2 x5 0 0#32 (slab (k0_pay3 (F := F)) 0)) := by
  refine (show _ = wStep (R0 x0 a1 h1) (RV a2 h2 x1) (RV a3 h3 x2) (R5 x5 a6 h6) 1 0#32 (a10.view.readCov (kernelRun0_A.sl.H9_5 c a1 h1 a2 h2 a3 h3 a6 h6 a10 x0 x1 x2 x5) W0.toLoadRect) from rfl).trans ?_
  rw [r0, r5, rv, rv, wl_A_1_0, w_A_0_0]
theorem t_A_1_0 : kernelRun0_A.sl.v364 c a1 h1 a6 h6 a11 x0 x5 = tStep x0 x5 1 0#32 (tStep x0 x5 0 0#32 (col (k0_pay4 (F := F)) 0)) := by
  refine (show _ = tStep (R0 x0 a1 h1) (R5 x5 a6 h6) 1 0#32 (a11.view.readCov (kernelRun0_A.sl.H10_5 c a1 h1 a6 h6 a11 x0 x5) T0.toLoadRect) from rfl).trans ?_
  rw [r0, r5, tl_A_1_0, t_A_0_0]

theorem wl_A_1_1 : a10.view.readCov (kernelRun0_A.sl.H9_6 c a1 h1 a2 h2 a3 h3 a6 h6 a10 x0 x1 x2 x5) W1.toLoadRect = kernelRun0_A.sl.v228 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_1_1 : a11.view.readCov (kernelRun0_A.sl.H10_6 c a1 h1 a6 h6 a11 x0 x5) T1.toLoadRect = kernelRun0_A.sl.v233 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_1_1 : kernelRun0_A.sl.v384 c a1 h1 a2 h2 a3 h3 a6 h6 a10 x0 x1 x2 x5 = wStep x0 x1 x2 x5 1 1#32 (wStep x0 x1 x2 x5 0 1#32 (slab (k0_pay3 (F := F)) 1)) := by
  refine (show _ = wStep (R0 x0 a1 h1) (RV a2 h2 x1) (RV a3 h3 x2) (R5 x5 a6 h6) 1 1#32 (a10.view.readCov (kernelRun0_A.sl.H9_6 c a1 h1 a2 h2 a3 h3 a6 h6 a10 x0 x1 x2 x5) W1.toLoadRect) from rfl).trans ?_
  rw [r0, r5, rv, rv, wl_A_1_1, w_A_0_1]
theorem t_A_1_1 : kernelRun0_A.sl.v389 c a1 h1 a6 h6 a11 x0 x5 = tStep x0 x5 1 1#32 (tStep x0 x5 0 1#32 (col (k0_pay4 (F := F)) 1)) := by
  refine (show _ = tStep (R0 x0 a1 h1) (R5 x5 a6 h6) 1 1#32 (a11.view.readCov (kernelRun0_A.sl.H10_6 c a1 h1 a6 h6 a11 x0 x5) T1.toLoadRect) from rfl).trans ?_
  rw [r0, r5, tl_A_1_1, t_A_0_1]

theorem wl_A_1_2 : a10.view.readCov (kernelRun0_A.sl.H9_7 c a1 h1 a2 h2 a3 h3 a6 h6 a10 x0 x1 x2 x5) W2.toLoadRect = kernelRun0_A.sl.v253 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_1_2 : a11.view.readCov (kernelRun0_A.sl.H10_7 c a1 h1 a6 h6 a11 x0 x5) T2.toLoadRect = kernelRun0_A.sl.v258 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_1_2 : kernelRun0_A.sl.v409 c a1 h1 a2 h2 a3 h3 a6 h6 a10 x0 x1 x2 x5 = wStep x0 x1 x2 x5 1 2#32 (wStep x0 x1 x2 x5 0 2#32 (slab (k0_pay3 (F := F)) 2)) := by
  refine (show _ = wStep (R0 x0 a1 h1) (RV a2 h2 x1) (RV a3 h3 x2) (R5 x5 a6 h6) 1 2#32 (a10.view.readCov (kernelRun0_A.sl.H9_7 c a1 h1 a2 h2 a3 h3 a6 h6 a10 x0 x1 x2 x5) W2.toLoadRect) from rfl).trans ?_
  rw [r0, r5, rv, rv, wl_A_1_2, w_A_0_2]
theorem t_A_1_2 : kernelRun0_A.sl.v414 c a1 h1 a6 h6 a11 x0 x5 = tStep x0 x5 1 2#32 (tStep x0 x5 0 2#32 (col (k0_pay4 (F := F)) 2)) := by
  refine (show _ = tStep (R0 x0 a1 h1) (R5 x5 a6 h6) 1 2#32 (a11.view.readCov (kernelRun0_A.sl.H10_7 c a1 h1 a6 h6 a11 x0 x5) T2.toLoadRect) from rfl).trans ?_
  rw [r0, r5, tl_A_1_2, t_A_0_2]

theorem wl_A_1_3 : a10.view.readCov (kernelRun0_A.sl.H9_8 c a1 h1 a2 h2 a3 h3 a6 h6 a10 x0 x1 x2 x5) W3.toLoadRect = kernelRun0_A.sl.v278 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_1_3 : a11.view.readCov (kernelRun0_A.sl.H10_8 c a1 h1 a6 h6 a11 x0 x5) T3.toLoadRect = kernelRun0_A.sl.v283 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_1_3 : kernelRun0_A.sl.v434 c a1 h1 a2 h2 a3 h3 a6 h6 a10 x0 x1 x2 x5 = wStep x0 x1 x2 x5 1 3#32 (wStep x0 x1 x2 x5 0 3#32 (slab (k0_pay3 (F := F)) 3)) := by
  refine (show _ = wStep (R0 x0 a1 h1) (RV a2 h2 x1) (RV a3 h3 x2) (R5 x5 a6 h6) 1 3#32 (a10.view.readCov (kernelRun0_A.sl.H9_8 c a1 h1 a2 h2 a3 h3 a6 h6 a10 x0 x1 x2 x5) W3.toLoadRect) from rfl).trans ?_
  rw [r0, r5, rv, rv, wl_A_1_3, w_A_0_3]
theorem t_A_1_3 : kernelRun0_A.sl.v439 c a1 h1 a6 h6 a11 x0 x5 = tStep x0 x5 1 3#32 (tStep x0 x5 0 3#32 (col (k0_pay4 (F := F)) 3)) := by
  refine (show _ = tStep (R0 x0 a1 h1) (R5 x5 a6 h6) 1 3#32 (a11.view.readCov (kernelRun0_A.sl.H10_8 c a1 h1 a6 h6 a11 x0 x5) T3.toLoadRect) from rfl).trans ?_
  rw [r0, r5, tl_A_1_3, t_A_0_3]

theorem wl_A_2_0 : a10.view.readCov (kernelRun0_A.sl.H9_9 c a1 h1 a2 h2 a3 h3 a6 h6 a10 x0 x1 x2 x5) W0.toLoadRect = kernelRun0_A.sl.v359 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_2_0 : a11.view.readCov (kernelRun0_A.sl.H10_9 c a1 h1 a6 h6 a11 x0 x5) T0.toLoadRect = kernelRun0_A.sl.v364 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_2_0 : kernelRun0_A.sl.v515 c a1 h1 a2 h2 a3 h3 a6 h6 a10 x0 x1 x2 x5 = wStep x0 x1 x2 x5 2 0#32 (wStep x0 x1 x2 x5 1 0#32 (wStep x0 x1 x2 x5 0 0#32 (slab (k0_pay3 (F := F)) 0))) := by
  refine (show _ = wStep (R0 x0 a1 h1) (RV a2 h2 x1) (RV a3 h3 x2) (R5 x5 a6 h6) 2 0#32 (a10.view.readCov (kernelRun0_A.sl.H9_9 c a1 h1 a2 h2 a3 h3 a6 h6 a10 x0 x1 x2 x5) W0.toLoadRect) from rfl).trans ?_
  rw [r0, r5, rv, rv, wl_A_2_0, w_A_1_0]
theorem t_A_2_0 : kernelRun0_A.sl.v520 c a1 h1 a6 h6 a11 x0 x5 = tStep x0 x5 2 0#32 (tStep x0 x5 1 0#32 (tStep x0 x5 0 0#32 (col (k0_pay4 (F := F)) 0))) := by
  refine (show _ = tStep (R0 x0 a1 h1) (R5 x5 a6 h6) 2 0#32 (a11.view.readCov (kernelRun0_A.sl.H10_9 c a1 h1 a6 h6 a11 x0 x5) T0.toLoadRect) from rfl).trans ?_
  rw [r0, r5, tl_A_2_0, t_A_1_0]

theorem wl_A_2_1 : a10.view.readCov (kernelRun0_A.sl.H9_10 c a1 h1 a2 h2 a3 h3 a6 h6 a10 x0 x1 x2 x5) W1.toLoadRect = kernelRun0_A.sl.v384 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_2_1 : a11.view.readCov (kernelRun0_A.sl.H10_10 c a1 h1 a6 h6 a11 x0 x5) T1.toLoadRect = kernelRun0_A.sl.v389 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_2_1 : kernelRun0_A.sl.v540 c a1 h1 a2 h2 a3 h3 a6 h6 a10 x0 x1 x2 x5 = wStep x0 x1 x2 x5 2 1#32 (wStep x0 x1 x2 x5 1 1#32 (wStep x0 x1 x2 x5 0 1#32 (slab (k0_pay3 (F := F)) 1))) := by
  refine (show _ = wStep (R0 x0 a1 h1) (RV a2 h2 x1) (RV a3 h3 x2) (R5 x5 a6 h6) 2 1#32 (a10.view.readCov (kernelRun0_A.sl.H9_10 c a1 h1 a2 h2 a3 h3 a6 h6 a10 x0 x1 x2 x5) W1.toLoadRect) from rfl).trans ?_
  rw [r0, r5, rv, rv, wl_A_2_1, w_A_1_1]
theorem t_A_2_1 : kernelRun0_A.sl.v545 c a1 h1 a6 h6 a11 x0 x5 = tStep x0 x5 2 1#32 (tStep x0 x5 1 1#32 (tStep x0 x5 0 1#32 (col (k0_pay4 (F := F)) 1))) := by
  refine (show _ = tStep (R0 x0 a1 h1) (R5 x5 a6 h6) 2 1#32 (a11.view.readCov (kernelRun0_A.sl.H10_10 c a1 h1 a6 h6 a11 x0 x5) T1.toLoadRect) from rfl).trans ?_
  rw [r0, r5, tl_A_2_1, t_A_1_1]

theorem wl_A_2_2 : a10.view.readCov (kernelRun0_A.sl.H9_11 c a1 h1 a2 h2 a3 h3 a6 h6 a10 x0 x1 x2 x5) W2.toLoadRect = kernelRun0_A.sl.v409 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_2_2 : a11.view.readCov (kernelRun0_A.sl.H10_11 c a1 h1 a6 h6 a11 x0 x5) T2.toLoadRect = kernelRun0_A.sl.v414 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_2_2 : kernelRun0_A.sl.v565 c a1 h1 a2 h2 a3 h3 a6 h6 a10 x0 x1 x2 x5 = wStep x0 x1 x2 x5 2 2#32 (wStep x0 x1 x2 x5 1 2#32 (wStep x0 x1 x2 x5 0 2#32 (slab (k0_pay3 (F := F)) 2))) := by
  refine (show _ = wStep (R0 x0 a1 h1) (RV a2 h2 x1) (RV a3 h3 x2) (R5 x5 a6 h6) 2 2#32 (a10.view.readCov (kernelRun0_A.sl.H9_11 c a1 h1 a2 h2 a3 h3 a6 h6 a10 x0 x1 x2 x5) W2.toLoadRect) from rfl).trans ?_
  rw [r0, r5, rv, rv, wl_A_2_2, w_A_1_2]
theorem t_A_2_2 : kernelRun0_A.sl.v570 c a1 h1 a6 h6 a11 x0 x5 = tStep x0 x5 2 2#32 (tStep x0 x5 1 2#32 (tStep x0 x5 0 2#32 (col (k0_pay4 (F := F)) 2))) := by
  refine (show _ = tStep (R0 x0 a1 h1) (R5 x5 a6 h6) 2 2#32 (a11.view.readCov (kernelRun0_A.sl.H10_11 c a1 h1 a6 h6 a11 x0 x5) T2.toLoadRect) from rfl).trans ?_
  rw [r0, r5, tl_A_2_2, t_A_1_2]

theorem wl_A_2_3 : a10.view.readCov (kernelRun0_A.sl.H9_12 c a1 h1 a2 h2 a3 h3 a6 h6 a10 x0 x1 x2 x5) W3.toLoadRect = kernelRun0_A.sl.v434 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_2_3 : a11.view.readCov (kernelRun0_A.sl.H10_12 c a1 h1 a6 h6 a11 x0 x5) T3.toLoadRect = kernelRun0_A.sl.v439 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_2_3 : kernelRun0_A.sl.v590 c a1 h1 a2 h2 a3 h3 a6 h6 a10 x0 x1 x2 x5 = wStep x0 x1 x2 x5 2 3#32 (wStep x0 x1 x2 x5 1 3#32 (wStep x0 x1 x2 x5 0 3#32 (slab (k0_pay3 (F := F)) 3))) := by
  refine (show _ = wStep (R0 x0 a1 h1) (RV a2 h2 x1) (RV a3 h3 x2) (R5 x5 a6 h6) 2 3#32 (a10.view.readCov (kernelRun0_A.sl.H9_12 c a1 h1 a2 h2 a3 h3 a6 h6 a10 x0 x1 x2 x5) W3.toLoadRect) from rfl).trans ?_
  rw [r0, r5, rv, rv, wl_A_2_3, w_A_1_3]
theorem t_A_2_3 : kernelRun0_A.sl.v595 c a1 h1 a6 h6 a11 x0 x5 = tStep x0 x5 2 3#32 (tStep x0 x5 1 3#32 (tStep x0 x5 0 3#32 (col (k0_pay4 (F := F)) 3))) := by
  refine (show _ = tStep (R0 x0 a1 h1) (R5 x5 a6 h6) 2 3#32 (a11.view.readCov (kernelRun0_A.sl.H10_12 c a1 h1 a6 h6 a11 x0 x5) T3.toLoadRect) from rfl).trans ?_
  rw [r0, r5, tl_A_2_3, t_A_1_3]

theorem wl_A_3_0 : a10.view.readCov (kernelRun0_A.sl.H9_13 c a1 h1 a2 h2 a3 h3 a6 h6 a10 x0 x1 x2 x5) W0.toLoadRect = kernelRun0_A.sl.v515 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_3_0 : a11.view.readCov (kernelRun0_A.sl.H10_13 c a1 h1 a6 h6 a11 x0 x5) T0.toLoadRect = kernelRun0_A.sl.v520 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_3_0 : kernelRun0_A.sl.v671 c a1 h1 a2 h2 a3 h3 a6 h6 a10 x0 x1 x2 x5 = wStep x0 x1 x2 x5 3 0#32 (wStep x0 x1 x2 x5 2 0#32 (wStep x0 x1 x2 x5 1 0#32 (wStep x0 x1 x2 x5 0 0#32 (slab (k0_pay3 (F := F)) 0)))) := by
  refine (show _ = wStep (R0 x0 a1 h1) (RV a2 h2 x1) (RV a3 h3 x2) (R5 x5 a6 h6) 3 0#32 (a10.view.readCov (kernelRun0_A.sl.H9_13 c a1 h1 a2 h2 a3 h3 a6 h6 a10 x0 x1 x2 x5) W0.toLoadRect) from rfl).trans ?_
  rw [r0, r5, rv, rv, wl_A_3_0, w_A_2_0]
theorem t_A_3_0 : kernelRun0_A.sl.v676 c a1 h1 a6 h6 a11 x0 x5 = tStep x0 x5 3 0#32 (tStep x0 x5 2 0#32 (tStep x0 x5 1 0#32 (tStep x0 x5 0 0#32 (col (k0_pay4 (F := F)) 0)))) := by
  refine (show _ = tStep (R0 x0 a1 h1) (R5 x5 a6 h6) 3 0#32 (a11.view.readCov (kernelRun0_A.sl.H10_13 c a1 h1 a6 h6 a11 x0 x5) T0.toLoadRect) from rfl).trans ?_
  rw [r0, r5, tl_A_3_0, t_A_2_0]

theorem wl_A_3_1 : a10.view.readCov (kernelRun0_A.sl.H9_14 c a1 h1 a2 h2 a3 h3 a6 h6 a10 x0 x1 x2 x5) W1.toLoadRect = kernelRun0_A.sl.v540 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_3_1 : a11.view.readCov (kernelRun0_A.sl.H10_14 c a1 h1 a6 h6 a11 x0 x5) T1.toLoadRect = kernelRun0_A.sl.v545 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_3_1 : kernelRun0_A.sl.v696 c a1 h1 a2 h2 a3 h3 a6 h6 a10 x0 x1 x2 x5 = wStep x0 x1 x2 x5 3 1#32 (wStep x0 x1 x2 x5 2 1#32 (wStep x0 x1 x2 x5 1 1#32 (wStep x0 x1 x2 x5 0 1#32 (slab (k0_pay3 (F := F)) 1)))) := by
  refine (show _ = wStep (R0 x0 a1 h1) (RV a2 h2 x1) (RV a3 h3 x2) (R5 x5 a6 h6) 3 1#32 (a10.view.readCov (kernelRun0_A.sl.H9_14 c a1 h1 a2 h2 a3 h3 a6 h6 a10 x0 x1 x2 x5) W1.toLoadRect) from rfl).trans ?_
  rw [r0, r5, rv, rv, wl_A_3_1, w_A_2_1]
theorem t_A_3_1 : kernelRun0_A.sl.v701 c a1 h1 a6 h6 a11 x0 x5 = tStep x0 x5 3 1#32 (tStep x0 x5 2 1#32 (tStep x0 x5 1 1#32 (tStep x0 x5 0 1#32 (col (k0_pay4 (F := F)) 1)))) := by
  refine (show _ = tStep (R0 x0 a1 h1) (R5 x5 a6 h6) 3 1#32 (a11.view.readCov (kernelRun0_A.sl.H10_14 c a1 h1 a6 h6 a11 x0 x5) T1.toLoadRect) from rfl).trans ?_
  rw [r0, r5, tl_A_3_1, t_A_2_1]

theorem wl_A_3_2 : a10.view.readCov (kernelRun0_A.sl.H9_15 c a1 h1 a2 h2 a3 h3 a6 h6 a10 x0 x1 x2 x5) W2.toLoadRect = kernelRun0_A.sl.v565 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_3_2 : a11.view.readCov (kernelRun0_A.sl.H10_15 c a1 h1 a6 h6 a11 x0 x5) T2.toLoadRect = kernelRun0_A.sl.v570 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_3_2 : kernelRun0_A.sl.v721 c a1 h1 a2 h2 a3 h3 a6 h6 a10 x0 x1 x2 x5 = wStep x0 x1 x2 x5 3 2#32 (wStep x0 x1 x2 x5 2 2#32 (wStep x0 x1 x2 x5 1 2#32 (wStep x0 x1 x2 x5 0 2#32 (slab (k0_pay3 (F := F)) 2)))) := by
  refine (show _ = wStep (R0 x0 a1 h1) (RV a2 h2 x1) (RV a3 h3 x2) (R5 x5 a6 h6) 3 2#32 (a10.view.readCov (kernelRun0_A.sl.H9_15 c a1 h1 a2 h2 a3 h3 a6 h6 a10 x0 x1 x2 x5) W2.toLoadRect) from rfl).trans ?_
  rw [r0, r5, rv, rv, wl_A_3_2, w_A_2_2]
theorem t_A_3_2 : kernelRun0_A.sl.v726 c a1 h1 a6 h6 a11 x0 x5 = tStep x0 x5 3 2#32 (tStep x0 x5 2 2#32 (tStep x0 x5 1 2#32 (tStep x0 x5 0 2#32 (col (k0_pay4 (F := F)) 2)))) := by
  refine (show _ = tStep (R0 x0 a1 h1) (R5 x5 a6 h6) 3 2#32 (a11.view.readCov (kernelRun0_A.sl.H10_15 c a1 h1 a6 h6 a11 x0 x5) T2.toLoadRect) from rfl).trans ?_
  rw [r0, r5, tl_A_3_2, t_A_2_2]

theorem wl_A_3_3 : a10.view.readCov (kernelRun0_A.sl.H9_16 c a1 h1 a2 h2 a3 h3 a6 h6 a10 x0 x1 x2 x5) W3.toLoadRect = kernelRun0_A.sl.v590 c a1 h1 a2 h2 a3 h3 a6 h6 a10 x0 x1 x2 x5 :=
  (View.readCov_skip _ _ _ _ _ (by decide)).trans <| (View.readCov_skip _ _ _ _ _ (by decide)).trans <| (View.readCov_skip _ _ _ _ _ (by decide)).trans <| View.readCov_cons_toLoadRect _ _ _ _
theorem tl_A_3_3 : a11.view.readCov (kernelRun0_A.sl.H10_16 c a1 h1 a6 h6 a11 x0 x5) T3.toLoadRect = kernelRun0_A.sl.v595 c a1 h1 a6 h6 a11 x0 x5 :=
  (View.readCov_skip _ _ _ _ _ (by decide)).trans <| (View.readCov_skip _ _ _ _ _ (by decide)).trans <| (View.readCov_skip _ _ _ _ _ (by decide)).trans <| View.readCov_cons_toLoadRect _ _ _ _

theorem w_A_3_3 : kernelRun0_A.sl.v746 c a1 h1 a2 h2 a3 h3 a6 h6 a10 x0 x1 x2 x5 = wStep x0 x1 x2 x5 3 3#32 (wStep x0 x1 x2 x5 2 3#32 (wStep x0 x1 x2 x5 1 3#32 (wStep x0 x1 x2 x5 0 3#32 (slab (k0_pay3 (F := F)) 3)))) := by
  refine (show _ = wStep (R0 x0 a1 h1) (RV a2 h2 x1) (RV a3 h3 x2) (R5 x5 a6 h6) 3 3#32 (a10.view.readCov (kernelRun0_A.sl.H9_16 c a1 h1 a2 h2 a3 h3 a6 h6 a10 x0 x1 x2 x5) W3.toLoadRect) from rfl).trans ?_
  rw [r0, r5, rv, rv, wl_A_3_3, w_A_2_3]
theorem t_A_3_3 : kernelRun0_A.sl.v751 c a1 h1 a6 h6 a11 x0 x5 = tStep x0 x5 3 3#32 (tStep x0 x5 2 3#32 (tStep x0 x5 1 3#32 (tStep x0 x5 0 3#32 (col (k0_pay4 (F := F)) 3)))) := by
  refine (show _ = tStep (R0 x0 a1 h1) (R5 x5 a6 h6) 3 3#32 (a11.view.readCov (kernelRun0_A.sl.H10_16 c a1 h1 a6 h6 a11 x0 x5) T3.toLoadRect) from rfl).trans ?_
  rw [r0, r5, tl_A_3_3, t_A_2_3]

/-! ### At a later point -/

theorem zu_B_0 : kernelRun0_B.sl.v179 c a1 h1 a2 h2 a3 h3 a4 h4 a5 h5 a6 h6 x0 x1 x2 x3 x4 x5 = zuRows x0 x1 x2 x3 x4 x5 0 := by
  refine (show _ = tZu (rowsOf (R5 x5 a6 h6) 0) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 0)) (leftOf (k0_pay9 (R0 x0 a1 h1)) 0) from rfl).trans ?_
  rw [r0, r5, rv, rv, rw0, rw1, rw2, rw3, rc0, rc1, rc2, rc3]; rfl
theorem dn_B_0 : kernelRun0_B.sl.v269 c a1 h1 a4 h4 a6 h6 x0 x3 x5 = dnRows x0 x3 x5 0 := by
  refine (show _ = tDn (RW0 a4 h4 x3) (RW1 a4 h4 x3) (RW2 a4 h4 x3) (RW3 a4 h4 x3) (tD (R0 x0 a1 h1) (R5 x5 a6 h6) 0) from rfl).trans ?_
  rw [r0, r5, rw0, rw1, rw2, rw3]; rfl

theorem zu_B_1 : kernelRun0_B.sl.v335 c a1 h1 a2 h2 a3 h3 a4 h4 a5 h5 a6 h6 x0 x1 x2 x3 x4 x5 = zuRows x0 x1 x2 x3 x4 x5 1 := by
  refine (show _ = tZu (rowsOf (R5 x5 a6 h6) 1) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 1)) (leftOf (k0_pay9 (R0 x0 a1 h1)) 1) from rfl).trans ?_
  rw [r0, r5, rv, rv, rw0, rw1, rw2, rw3, rc0, rc1, rc2, rc3]; rfl
theorem dn_B_1 : kernelRun0_B.sl.v425 c a1 h1 a4 h4 a6 h6 x0 x3 x5 = dnRows x0 x3 x5 1 := by
  refine (show _ = tDn (RW0 a4 h4 x3) (RW1 a4 h4 x3) (RW2 a4 h4 x3) (RW3 a4 h4 x3) (tD (R0 x0 a1 h1) (R5 x5 a6 h6) 1) from rfl).trans ?_
  rw [r0, r5, rw0, rw1, rw2, rw3]; rfl

theorem zu_B_2 : kernelRun0_B.sl.v491 c a1 h1 a2 h2 a3 h3 a4 h4 a5 h5 a6 h6 x0 x1 x2 x3 x4 x5 = zuRows x0 x1 x2 x3 x4 x5 2 := by
  refine (show _ = tZu (rowsOf (R5 x5 a6 h6) 2) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 2)) (leftOf (k0_pay9 (R0 x0 a1 h1)) 2) from rfl).trans ?_
  rw [r0, r5, rv, rv, rw0, rw1, rw2, rw3, rc0, rc1, rc2, rc3]; rfl
theorem dn_B_2 : kernelRun0_B.sl.v581 c a1 h1 a4 h4 a6 h6 x0 x3 x5 = dnRows x0 x3 x5 2 := by
  refine (show _ = tDn (RW0 a4 h4 x3) (RW1 a4 h4 x3) (RW2 a4 h4 x3) (RW3 a4 h4 x3) (tD (R0 x0 a1 h1) (R5 x5 a6 h6) 2) from rfl).trans ?_
  rw [r0, r5, rw0, rw1, rw2, rw3]; rfl

theorem zu_B_3 : kernelRun0_B.sl.v647 c a1 h1 a2 h2 a3 h3 a4 h4 a5 h5 a6 h6 x0 x1 x2 x3 x4 x5 = zuRows x0 x1 x2 x3 x4 x5 3 := by
  refine (show _ = tZu (rowsOf (R5 x5 a6 h6) 3) (tMix (RW0 a4 h4 x3) (RW1 a4 h4 x3) (RW2 a4 h4 x3) (RW3 a4 h4 x3) (RC0 a5 h5 x4) (RC1 a5 h5 x4) (RC2 a5 h5 x4) (RC3 a5 h5 x4)
    (tN (R0 x0 a1 h1) (RV a2 h2 x1) (RV a3 h3 x2) 3)) (leftOf (k0_pay9 (R0 x0 a1 h1)) 3) from rfl).trans ?_
  rw [r0, r5, rv, rv, rw0, rw1, rw2, rw3, rc0, rc1, rc2, rc3]; rfl
theorem dn_B_3 : kernelRun0_B.sl.v737 c a1 h1 a4 h4 a6 h6 x0 x3 x5 = dnRows x0 x3 x5 3 := by
  refine (show _ = tDn (RW0 a4 h4 x3) (RW1 a4 h4 x3) (RW2 a4 h4 x3) (RW3 a4 h4 x3) (tD (R0 x0 a1 h1) (R5 x5 a6 h6) 3) from rfl).trans ?_
  rw [r0, r5, rw0, rw1, rw2, rw3]; rfl

theorem all_B : kernelRun0_B.sl.v753 c a1 h1 a4 h4 a6 h6 x0 x3 x5 = dnAll x0 x3 x5 := by
  unfold kernelRun0_B.sl.v753 dnAll
  rw [dn_B_0, dn_B_1, dn_B_2, dn_B_3]
theorem zv_B : kernelRun0_B.sl.r_4 c a1 h1 a2 h2 a4 h4 a6 h6 x0 x1 x3 x5 = zvRows x0 x1 x3 x5 := by
  refine (show _ = k0_pay134 (k0_pay9 (R0 x0 a1 h1)) avg (tRs (R0 x0 a1 h1)) (tXh (R0 x0 a1 h1))
    (kernelRun0_B.sl.v753 c a1 h1 a4 h4 a6 h6 x0 x3 x5) (RV a2 h2 x1) from rfl).trans ?_
  rw [all_B, r0, rv]; rfl
theorem gs_B : kernelRun0_B.sl.v757 c a1 h1 a4 h4 a6 h6 x0 x3 x5 = multiReduction .add [0] S256 (mulf (dnAll x0 x3 x5) (tXh x0)) 0x00000000#32 reduces_S512x256_S256 (.inl rfl) rfl := by
  refine (show _ = multiReduction .add [0] S256 (mulf (kernelRun0_B.sl.v753 c a1 h1 a4 h4 a6 h6 x0 x3 x5) (tXh (R0 x0 a1 h1))) 0x00000000#32 reduces_S512x256_S256 (.inl rfl) rfl from rfl).trans ?_
  rw [all_B, r0]

theorem w_B_0_0 : kernelRun0_B.sl.v203 c a1 h1 a2 h2 a3 h3 a6 h6 a10 h10 x0 x1 x2 x5 xo9 = wStep x0 x1 x2 x5 0 0#32 (slab xo9 0) := by
  refine (show _ = wStep (R0 x0 a1 h1) (RV a2 h2 x1) (RV a3 h3 x2) (R5 x5 a6 h6) 0 0#32 (RW0 a10 h10 xo9) from rfl).trans ?_
  rw [r0, r5, rv, rv, rw0]
theorem t_B_0_0 : kernelRun0_B.sl.v208 c a1 h1 a6 h6 a11 h11 x0 x5 xo10 = tStep x0 x5 0 0#32 (col xo10 0) := by
  refine (show _ = tStep (R0 x0 a1 h1) (R5 x5 a6 h6) 0 0#32 (RC0 a11 h11 xo10) from rfl).trans ?_
  rw [r0, r5, rc0]

theorem w_B_0_1 : kernelRun0_B.sl.v228 c a1 h1 a2 h2 a3 h3 a6 h6 a10 h10 x0 x1 x2 x5 xo9 = wStep x0 x1 x2 x5 0 1#32 (slab xo9 1) := by
  refine (show _ = wStep (R0 x0 a1 h1) (RV a2 h2 x1) (RV a3 h3 x2) (R5 x5 a6 h6) 0 1#32 (RW1 a10 h10 xo9) from rfl).trans ?_
  rw [r0, r5, rv, rv, rw1]
theorem t_B_0_1 : kernelRun0_B.sl.v233 c a1 h1 a6 h6 a11 h11 x0 x5 xo10 = tStep x0 x5 0 1#32 (col xo10 1) := by
  refine (show _ = tStep (R0 x0 a1 h1) (R5 x5 a6 h6) 0 1#32 (RC1 a11 h11 xo10) from rfl).trans ?_
  rw [r0, r5, rc1]

theorem w_B_0_2 : kernelRun0_B.sl.v253 c a1 h1 a2 h2 a3 h3 a6 h6 a10 h10 x0 x1 x2 x5 xo9 = wStep x0 x1 x2 x5 0 2#32 (slab xo9 2) := by
  refine (show _ = wStep (R0 x0 a1 h1) (RV a2 h2 x1) (RV a3 h3 x2) (R5 x5 a6 h6) 0 2#32 (RW2 a10 h10 xo9) from rfl).trans ?_
  rw [r0, r5, rv, rv, rw2]
theorem t_B_0_2 : kernelRun0_B.sl.v258 c a1 h1 a6 h6 a11 h11 x0 x5 xo10 = tStep x0 x5 0 2#32 (col xo10 2) := by
  refine (show _ = tStep (R0 x0 a1 h1) (R5 x5 a6 h6) 0 2#32 (RC2 a11 h11 xo10) from rfl).trans ?_
  rw [r0, r5, rc2]

theorem w_B_0_3 : kernelRun0_B.sl.v278 c a1 h1 a2 h2 a3 h3 a6 h6 a10 h10 x0 x1 x2 x5 xo9 = wStep x0 x1 x2 x5 0 3#32 (slab xo9 3) := by
  refine (show _ = wStep (R0 x0 a1 h1) (RV a2 h2 x1) (RV a3 h3 x2) (R5 x5 a6 h6) 0 3#32 (RW3 a10 h10 xo9) from rfl).trans ?_
  rw [r0, r5, rv, rv, rw3]
theorem t_B_0_3 : kernelRun0_B.sl.v283 c a1 h1 a6 h6 a11 h11 x0 x5 xo10 = tStep x0 x5 0 3#32 (col xo10 3) := by
  refine (show _ = tStep (R0 x0 a1 h1) (R5 x5 a6 h6) 0 3#32 (RC3 a11 h11 xo10) from rfl).trans ?_
  rw [r0, r5, rc3]

theorem wl_B_1_0 : a10.view.readCov (kernelRun0_B.sl.H9_4 c a1 h1 a2 h2 a3 h3 a6 h6 a10 h10 x0 x1 x2 x5 xo9) W0.toLoadRect = kernelRun0_B.sl.v203 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_1_0 : a11.view.readCov (kernelRun0_B.sl.H10_4 c a1 h1 a6 h6 a11 h11 x0 x5 xo10) T0.toLoadRect = kernelRun0_B.sl.v208 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_1_0 : kernelRun0_B.sl.v359 c a1 h1 a2 h2 a3 h3 a6 h6 a10 h10 x0 x1 x2 x5 xo9 = wStep x0 x1 x2 x5 1 0#32 (wStep x0 x1 x2 x5 0 0#32 (slab xo9 0)) := by
  refine (show _ = wStep (R0 x0 a1 h1) (RV a2 h2 x1) (RV a3 h3 x2) (R5 x5 a6 h6) 1 0#32 (a10.view.readCov (kernelRun0_B.sl.H9_4 c a1 h1 a2 h2 a3 h3 a6 h6 a10 h10 x0 x1 x2 x5 xo9) W0.toLoadRect) from rfl).trans ?_
  rw [r0, r5, rv, rv, wl_B_1_0, w_B_0_0]
theorem t_B_1_0 : kernelRun0_B.sl.v364 c a1 h1 a6 h6 a11 h11 x0 x5 xo10 = tStep x0 x5 1 0#32 (tStep x0 x5 0 0#32 (col xo10 0)) := by
  refine (show _ = tStep (R0 x0 a1 h1) (R5 x5 a6 h6) 1 0#32 (a11.view.readCov (kernelRun0_B.sl.H10_4 c a1 h1 a6 h6 a11 h11 x0 x5 xo10) T0.toLoadRect) from rfl).trans ?_
  rw [r0, r5, tl_B_1_0, t_B_0_0]

theorem wl_B_1_1 : a10.view.readCov (kernelRun0_B.sl.H9_5 c a1 h1 a2 h2 a3 h3 a6 h6 a10 h10 x0 x1 x2 x5 xo9) W1.toLoadRect = kernelRun0_B.sl.v228 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_1_1 : a11.view.readCov (kernelRun0_B.sl.H10_5 c a1 h1 a6 h6 a11 h11 x0 x5 xo10) T1.toLoadRect = kernelRun0_B.sl.v233 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_1_1 : kernelRun0_B.sl.v384 c a1 h1 a2 h2 a3 h3 a6 h6 a10 h10 x0 x1 x2 x5 xo9 = wStep x0 x1 x2 x5 1 1#32 (wStep x0 x1 x2 x5 0 1#32 (slab xo9 1)) := by
  refine (show _ = wStep (R0 x0 a1 h1) (RV a2 h2 x1) (RV a3 h3 x2) (R5 x5 a6 h6) 1 1#32 (a10.view.readCov (kernelRun0_B.sl.H9_5 c a1 h1 a2 h2 a3 h3 a6 h6 a10 h10 x0 x1 x2 x5 xo9) W1.toLoadRect) from rfl).trans ?_
  rw [r0, r5, rv, rv, wl_B_1_1, w_B_0_1]
theorem t_B_1_1 : kernelRun0_B.sl.v389 c a1 h1 a6 h6 a11 h11 x0 x5 xo10 = tStep x0 x5 1 1#32 (tStep x0 x5 0 1#32 (col xo10 1)) := by
  refine (show _ = tStep (R0 x0 a1 h1) (R5 x5 a6 h6) 1 1#32 (a11.view.readCov (kernelRun0_B.sl.H10_5 c a1 h1 a6 h6 a11 h11 x0 x5 xo10) T1.toLoadRect) from rfl).trans ?_
  rw [r0, r5, tl_B_1_1, t_B_0_1]

theorem wl_B_1_2 : a10.view.readCov (kernelRun0_B.sl.H9_6 c a1 h1 a2 h2 a3 h3 a6 h6 a10 h10 x0 x1 x2 x5 xo9) W2.toLoadRect = kernelRun0_B.sl.v253 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_1_2 : a11.view.readCov (kernelRun0_B.sl.H10_6 c a1 h1 a6 h6 a11 h11 x0 x5 xo10) T2.toLoadRect = kernelRun0_B.sl.v258 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_1_2 : kernelRun0_B.sl.v409 c a1 h1 a2 h2 a3 h3 a6 h6 a10 h10 x0 x1 x2 x5 xo9 = wStep x0 x1 x2 x5 1 2#32 (wStep x0 x1 x2 x5 0 2#32 (slab xo9 2)) := by
  refine (show _ = wStep (R0 x0 a1 h1) (RV a2 h2 x1) (RV a3 h3 x2) (R5 x5 a6 h6) 1 2#32 (a10.view.readCov (kernelRun0_B.sl.H9_6 c a1 h1 a2 h2 a3 h3 a6 h6 a10 h10 x0 x1 x2 x5 xo9) W2.toLoadRect) from rfl).trans ?_
  rw [r0, r5, rv, rv, wl_B_1_2, w_B_0_2]
theorem t_B_1_2 : kernelRun0_B.sl.v414 c a1 h1 a6 h6 a11 h11 x0 x5 xo10 = tStep x0 x5 1 2#32 (tStep x0 x5 0 2#32 (col xo10 2)) := by
  refine (show _ = tStep (R0 x0 a1 h1) (R5 x5 a6 h6) 1 2#32 (a11.view.readCov (kernelRun0_B.sl.H10_6 c a1 h1 a6 h6 a11 h11 x0 x5 xo10) T2.toLoadRect) from rfl).trans ?_
  rw [r0, r5, tl_B_1_2, t_B_0_2]

theorem wl_B_1_3 : a10.view.readCov (kernelRun0_B.sl.H9_7 c a1 h1 a2 h2 a3 h3 a6 h6 a10 h10 x0 x1 x2 x5 xo9) W3.toLoadRect = kernelRun0_B.sl.v278 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_1_3 : a11.view.readCov (kernelRun0_B.sl.H10_7 c a1 h1 a6 h6 a11 h11 x0 x5 xo10) T3.toLoadRect = kernelRun0_B.sl.v283 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_1_3 : kernelRun0_B.sl.v434 c a1 h1 a2 h2 a3 h3 a6 h6 a10 h10 x0 x1 x2 x5 xo9 = wStep x0 x1 x2 x5 1 3#32 (wStep x0 x1 x2 x5 0 3#32 (slab xo9 3)) := by
  refine (show _ = wStep (R0 x0 a1 h1) (RV a2 h2 x1) (RV a3 h3 x2) (R5 x5 a6 h6) 1 3#32 (a10.view.readCov (kernelRun0_B.sl.H9_7 c a1 h1 a2 h2 a3 h3 a6 h6 a10 h10 x0 x1 x2 x5 xo9) W3.toLoadRect) from rfl).trans ?_
  rw [r0, r5, rv, rv, wl_B_1_3, w_B_0_3]
theorem t_B_1_3 : kernelRun0_B.sl.v439 c a1 h1 a6 h6 a11 h11 x0 x5 xo10 = tStep x0 x5 1 3#32 (tStep x0 x5 0 3#32 (col xo10 3)) := by
  refine (show _ = tStep (R0 x0 a1 h1) (R5 x5 a6 h6) 1 3#32 (a11.view.readCov (kernelRun0_B.sl.H10_7 c a1 h1 a6 h6 a11 h11 x0 x5 xo10) T3.toLoadRect) from rfl).trans ?_
  rw [r0, r5, tl_B_1_3, t_B_0_3]

theorem wl_B_2_0 : a10.view.readCov (kernelRun0_B.sl.H9_8 c a1 h1 a2 h2 a3 h3 a6 h6 a10 h10 x0 x1 x2 x5 xo9) W0.toLoadRect = kernelRun0_B.sl.v359 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_2_0 : a11.view.readCov (kernelRun0_B.sl.H10_8 c a1 h1 a6 h6 a11 h11 x0 x5 xo10) T0.toLoadRect = kernelRun0_B.sl.v364 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_2_0 : kernelRun0_B.sl.v515 c a1 h1 a2 h2 a3 h3 a6 h6 a10 h10 x0 x1 x2 x5 xo9 = wStep x0 x1 x2 x5 2 0#32 (wStep x0 x1 x2 x5 1 0#32 (wStep x0 x1 x2 x5 0 0#32 (slab xo9 0))) := by
  refine (show _ = wStep (R0 x0 a1 h1) (RV a2 h2 x1) (RV a3 h3 x2) (R5 x5 a6 h6) 2 0#32 (a10.view.readCov (kernelRun0_B.sl.H9_8 c a1 h1 a2 h2 a3 h3 a6 h6 a10 h10 x0 x1 x2 x5 xo9) W0.toLoadRect) from rfl).trans ?_
  rw [r0, r5, rv, rv, wl_B_2_0, w_B_1_0]
theorem t_B_2_0 : kernelRun0_B.sl.v520 c a1 h1 a6 h6 a11 h11 x0 x5 xo10 = tStep x0 x5 2 0#32 (tStep x0 x5 1 0#32 (tStep x0 x5 0 0#32 (col xo10 0))) := by
  refine (show _ = tStep (R0 x0 a1 h1) (R5 x5 a6 h6) 2 0#32 (a11.view.readCov (kernelRun0_B.sl.H10_8 c a1 h1 a6 h6 a11 h11 x0 x5 xo10) T0.toLoadRect) from rfl).trans ?_
  rw [r0, r5, tl_B_2_0, t_B_1_0]

theorem wl_B_2_1 : a10.view.readCov (kernelRun0_B.sl.H9_9 c a1 h1 a2 h2 a3 h3 a6 h6 a10 h10 x0 x1 x2 x5 xo9) W1.toLoadRect = kernelRun0_B.sl.v384 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_2_1 : a11.view.readCov (kernelRun0_B.sl.H10_9 c a1 h1 a6 h6 a11 h11 x0 x5 xo10) T1.toLoadRect = kernelRun0_B.sl.v389 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_2_1 : kernelRun0_B.sl.v540 c a1 h1 a2 h2 a3 h3 a6 h6 a10 h10 x0 x1 x2 x5 xo9 = wStep x0 x1 x2 x5 2 1#32 (wStep x0 x1 x2 x5 1 1#32 (wStep x0 x1 x2 x5 0 1#32 (slab xo9 1))) := by
  refine (show _ = wStep (R0 x0 a1 h1) (RV a2 h2 x1) (RV a3 h3 x2) (R5 x5 a6 h6) 2 1#32 (a10.view.readCov (kernelRun0_B.sl.H9_9 c a1 h1 a2 h2 a3 h3 a6 h6 a10 h10 x0 x1 x2 x5 xo9) W1.toLoadRect) from rfl).trans ?_
  rw [r0, r5, rv, rv, wl_B_2_1, w_B_1_1]
theorem t_B_2_1 : kernelRun0_B.sl.v545 c a1 h1 a6 h6 a11 h11 x0 x5 xo10 = tStep x0 x5 2 1#32 (tStep x0 x5 1 1#32 (tStep x0 x5 0 1#32 (col xo10 1))) := by
  refine (show _ = tStep (R0 x0 a1 h1) (R5 x5 a6 h6) 2 1#32 (a11.view.readCov (kernelRun0_B.sl.H10_9 c a1 h1 a6 h6 a11 h11 x0 x5 xo10) T1.toLoadRect) from rfl).trans ?_
  rw [r0, r5, tl_B_2_1, t_B_1_1]

theorem wl_B_2_2 : a10.view.readCov (kernelRun0_B.sl.H9_10 c a1 h1 a2 h2 a3 h3 a6 h6 a10 h10 x0 x1 x2 x5 xo9) W2.toLoadRect = kernelRun0_B.sl.v409 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_2_2 : a11.view.readCov (kernelRun0_B.sl.H10_10 c a1 h1 a6 h6 a11 h11 x0 x5 xo10) T2.toLoadRect = kernelRun0_B.sl.v414 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_2_2 : kernelRun0_B.sl.v565 c a1 h1 a2 h2 a3 h3 a6 h6 a10 h10 x0 x1 x2 x5 xo9 = wStep x0 x1 x2 x5 2 2#32 (wStep x0 x1 x2 x5 1 2#32 (wStep x0 x1 x2 x5 0 2#32 (slab xo9 2))) := by
  refine (show _ = wStep (R0 x0 a1 h1) (RV a2 h2 x1) (RV a3 h3 x2) (R5 x5 a6 h6) 2 2#32 (a10.view.readCov (kernelRun0_B.sl.H9_10 c a1 h1 a2 h2 a3 h3 a6 h6 a10 h10 x0 x1 x2 x5 xo9) W2.toLoadRect) from rfl).trans ?_
  rw [r0, r5, rv, rv, wl_B_2_2, w_B_1_2]
theorem t_B_2_2 : kernelRun0_B.sl.v570 c a1 h1 a6 h6 a11 h11 x0 x5 xo10 = tStep x0 x5 2 2#32 (tStep x0 x5 1 2#32 (tStep x0 x5 0 2#32 (col xo10 2))) := by
  refine (show _ = tStep (R0 x0 a1 h1) (R5 x5 a6 h6) 2 2#32 (a11.view.readCov (kernelRun0_B.sl.H10_10 c a1 h1 a6 h6 a11 h11 x0 x5 xo10) T2.toLoadRect) from rfl).trans ?_
  rw [r0, r5, tl_B_2_2, t_B_1_2]

theorem wl_B_2_3 : a10.view.readCov (kernelRun0_B.sl.H9_11 c a1 h1 a2 h2 a3 h3 a6 h6 a10 h10 x0 x1 x2 x5 xo9) W3.toLoadRect = kernelRun0_B.sl.v434 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_2_3 : a11.view.readCov (kernelRun0_B.sl.H10_11 c a1 h1 a6 h6 a11 h11 x0 x5 xo10) T3.toLoadRect = kernelRun0_B.sl.v439 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_2_3 : kernelRun0_B.sl.v590 c a1 h1 a2 h2 a3 h3 a6 h6 a10 h10 x0 x1 x2 x5 xo9 = wStep x0 x1 x2 x5 2 3#32 (wStep x0 x1 x2 x5 1 3#32 (wStep x0 x1 x2 x5 0 3#32 (slab xo9 3))) := by
  refine (show _ = wStep (R0 x0 a1 h1) (RV a2 h2 x1) (RV a3 h3 x2) (R5 x5 a6 h6) 2 3#32 (a10.view.readCov (kernelRun0_B.sl.H9_11 c a1 h1 a2 h2 a3 h3 a6 h6 a10 h10 x0 x1 x2 x5 xo9) W3.toLoadRect) from rfl).trans ?_
  rw [r0, r5, rv, rv, wl_B_2_3, w_B_1_3]
theorem t_B_2_3 : kernelRun0_B.sl.v595 c a1 h1 a6 h6 a11 h11 x0 x5 xo10 = tStep x0 x5 2 3#32 (tStep x0 x5 1 3#32 (tStep x0 x5 0 3#32 (col xo10 3))) := by
  refine (show _ = tStep (R0 x0 a1 h1) (R5 x5 a6 h6) 2 3#32 (a11.view.readCov (kernelRun0_B.sl.H10_11 c a1 h1 a6 h6 a11 h11 x0 x5 xo10) T3.toLoadRect) from rfl).trans ?_
  rw [r0, r5, tl_B_2_3, t_B_1_3]

theorem wl_B_3_0 : a10.view.readCov (kernelRun0_B.sl.H9_12 c a1 h1 a2 h2 a3 h3 a6 h6 a10 h10 x0 x1 x2 x5 xo9) W0.toLoadRect = kernelRun0_B.sl.v515 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_3_0 : a11.view.readCov (kernelRun0_B.sl.H10_12 c a1 h1 a6 h6 a11 h11 x0 x5 xo10) T0.toLoadRect = kernelRun0_B.sl.v520 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_3_0 : kernelRun0_B.sl.v671 c a1 h1 a2 h2 a3 h3 a6 h6 a10 h10 x0 x1 x2 x5 xo9 = wStep x0 x1 x2 x5 3 0#32 (wStep x0 x1 x2 x5 2 0#32 (wStep x0 x1 x2 x5 1 0#32 (wStep x0 x1 x2 x5 0 0#32 (slab xo9 0)))) := by
  refine (show _ = wStep (R0 x0 a1 h1) (RV a2 h2 x1) (RV a3 h3 x2) (R5 x5 a6 h6) 3 0#32 (a10.view.readCov (kernelRun0_B.sl.H9_12 c a1 h1 a2 h2 a3 h3 a6 h6 a10 h10 x0 x1 x2 x5 xo9) W0.toLoadRect) from rfl).trans ?_
  rw [r0, r5, rv, rv, wl_B_3_0, w_B_2_0]
theorem t_B_3_0 : kernelRun0_B.sl.v676 c a1 h1 a6 h6 a11 h11 x0 x5 xo10 = tStep x0 x5 3 0#32 (tStep x0 x5 2 0#32 (tStep x0 x5 1 0#32 (tStep x0 x5 0 0#32 (col xo10 0)))) := by
  refine (show _ = tStep (R0 x0 a1 h1) (R5 x5 a6 h6) 3 0#32 (a11.view.readCov (kernelRun0_B.sl.H10_12 c a1 h1 a6 h6 a11 h11 x0 x5 xo10) T0.toLoadRect) from rfl).trans ?_
  rw [r0, r5, tl_B_3_0, t_B_2_0]

theorem wl_B_3_1 : a10.view.readCov (kernelRun0_B.sl.H9_13 c a1 h1 a2 h2 a3 h3 a6 h6 a10 h10 x0 x1 x2 x5 xo9) W1.toLoadRect = kernelRun0_B.sl.v540 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_3_1 : a11.view.readCov (kernelRun0_B.sl.H10_13 c a1 h1 a6 h6 a11 h11 x0 x5 xo10) T1.toLoadRect = kernelRun0_B.sl.v545 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_3_1 : kernelRun0_B.sl.v696 c a1 h1 a2 h2 a3 h3 a6 h6 a10 h10 x0 x1 x2 x5 xo9 = wStep x0 x1 x2 x5 3 1#32 (wStep x0 x1 x2 x5 2 1#32 (wStep x0 x1 x2 x5 1 1#32 (wStep x0 x1 x2 x5 0 1#32 (slab xo9 1)))) := by
  refine (show _ = wStep (R0 x0 a1 h1) (RV a2 h2 x1) (RV a3 h3 x2) (R5 x5 a6 h6) 3 1#32 (a10.view.readCov (kernelRun0_B.sl.H9_13 c a1 h1 a2 h2 a3 h3 a6 h6 a10 h10 x0 x1 x2 x5 xo9) W1.toLoadRect) from rfl).trans ?_
  rw [r0, r5, rv, rv, wl_B_3_1, w_B_2_1]
theorem t_B_3_1 : kernelRun0_B.sl.v701 c a1 h1 a6 h6 a11 h11 x0 x5 xo10 = tStep x0 x5 3 1#32 (tStep x0 x5 2 1#32 (tStep x0 x5 1 1#32 (tStep x0 x5 0 1#32 (col xo10 1)))) := by
  refine (show _ = tStep (R0 x0 a1 h1) (R5 x5 a6 h6) 3 1#32 (a11.view.readCov (kernelRun0_B.sl.H10_13 c a1 h1 a6 h6 a11 h11 x0 x5 xo10) T1.toLoadRect) from rfl).trans ?_
  rw [r0, r5, tl_B_3_1, t_B_2_1]

theorem wl_B_3_2 : a10.view.readCov (kernelRun0_B.sl.H9_14 c a1 h1 a2 h2 a3 h3 a6 h6 a10 h10 x0 x1 x2 x5 xo9) W2.toLoadRect = kernelRun0_B.sl.v565 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_3_2 : a11.view.readCov (kernelRun0_B.sl.H10_14 c a1 h1 a6 h6 a11 h11 x0 x5 xo10) T2.toLoadRect = kernelRun0_B.sl.v570 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_3_2 : kernelRun0_B.sl.v721 c a1 h1 a2 h2 a3 h3 a6 h6 a10 h10 x0 x1 x2 x5 xo9 = wStep x0 x1 x2 x5 3 2#32 (wStep x0 x1 x2 x5 2 2#32 (wStep x0 x1 x2 x5 1 2#32 (wStep x0 x1 x2 x5 0 2#32 (slab xo9 2)))) := by
  refine (show _ = wStep (R0 x0 a1 h1) (RV a2 h2 x1) (RV a3 h3 x2) (R5 x5 a6 h6) 3 2#32 (a10.view.readCov (kernelRun0_B.sl.H9_14 c a1 h1 a2 h2 a3 h3 a6 h6 a10 h10 x0 x1 x2 x5 xo9) W2.toLoadRect) from rfl).trans ?_
  rw [r0, r5, rv, rv, wl_B_3_2, w_B_2_2]
theorem t_B_3_2 : kernelRun0_B.sl.v726 c a1 h1 a6 h6 a11 h11 x0 x5 xo10 = tStep x0 x5 3 2#32 (tStep x0 x5 2 2#32 (tStep x0 x5 1 2#32 (tStep x0 x5 0 2#32 (col xo10 2)))) := by
  refine (show _ = tStep (R0 x0 a1 h1) (R5 x5 a6 h6) 3 2#32 (a11.view.readCov (kernelRun0_B.sl.H10_14 c a1 h1 a6 h6 a11 h11 x0 x5 xo10) T2.toLoadRect) from rfl).trans ?_
  rw [r0, r5, tl_B_3_2, t_B_2_2]

theorem wl_B_3_3 : a10.view.readCov (kernelRun0_B.sl.H9_15 c a1 h1 a2 h2 a3 h3 a6 h6 a10 h10 x0 x1 x2 x5 xo9) W3.toLoadRect = kernelRun0_B.sl.v590 c a1 h1 a2 h2 a3 h3 a6 h6 a10 h10 x0 x1 x2 x5 xo9 :=
  (View.readCov_skip _ _ _ _ _ (by decide)).trans <| (View.readCov_skip _ _ _ _ _ (by decide)).trans <| (View.readCov_skip _ _ _ _ _ (by decide)).trans <| View.readCov_cons_toLoadRect _ _ _ _
theorem tl_B_3_3 : a11.view.readCov (kernelRun0_B.sl.H10_15 c a1 h1 a6 h6 a11 h11 x0 x5 xo10) T3.toLoadRect = kernelRun0_B.sl.v595 c a1 h1 a6 h6 a11 h11 x0 x5 xo10 :=
  (View.readCov_skip _ _ _ _ _ (by decide)).trans <| (View.readCov_skip _ _ _ _ _ (by decide)).trans <| (View.readCov_skip _ _ _ _ _ (by decide)).trans <| View.readCov_cons_toLoadRect _ _ _ _

theorem w_B_3_3 : kernelRun0_B.sl.v746 c a1 h1 a2 h2 a3 h3 a6 h6 a10 h10 x0 x1 x2 x5 xo9 = wStep x0 x1 x2 x5 3 3#32 (wStep x0 x1 x2 x5 2 3#32 (wStep x0 x1 x2 x5 1 3#32 (wStep x0 x1 x2 x5 0 3#32 (slab xo9 3)))) := by
  refine (show _ = wStep (R0 x0 a1 h1) (RV a2 h2 x1) (RV a3 h3 x2) (R5 x5 a6 h6) 3 3#32 (a10.view.readCov (kernelRun0_B.sl.H9_15 c a1 h1 a2 h2 a3 h3 a6 h6 a10 h10 x0 x1 x2 x5 xo9) W3.toLoadRect) from rfl).trans ?_
  rw [r0, r5, rv, rv, wl_B_3_3, w_B_2_3]
theorem t_B_3_3 : kernelRun0_B.sl.v751 c a1 h1 a6 h6 a11 h11 x0 x5 xo10 = tStep x0 x5 3 3#32 (tStep x0 x5 2 3#32 (tStep x0 x5 1 3#32 (tStep x0 x5 0 3#32 (col xo10 3)))) := by
  refine (show _ = tStep (R0 x0 a1 h1) (R5 x5 a6 h6) 3 3#32 (a11.view.readCov (kernelRun0_B.sl.H10_15 c a1 h1 a6 h6 a11 h11 x0 x5 xo10) T3.toLoadRect) from rfl).trans ?_
  rw [r0, r5, tl_B_3_3, t_B_2_3]

/-! ## The buffers stored group by group -/

/-- Four matrices in one buffer; four columns in one buffer. -/
def joinW (P : Fin 4 → Vec F S1x128x128 .f32) : Vec F S4x128x128 .f32 := fun y => P (y 0) (ix3 0 (y 1) (y 2))
def joinT (P : Fin 4 → Vec F S128x1 .f32) : Vec F S128x4 .f32 := fun y => P (y 1) (ix2 (y 0) 0)

theorem piece_w (P : Fin 4 → Vec F S1x128x128 .f32) (g : Fin 4) (inb : ∀ a, (![g.val, 0, 0] : Fin 3 → Nat) a + S1x128x128.size a ≤ S4x128x128.size a)
    (x : S1x128x128.Idx) : P g x = joinW P ((Rect.unit (s := S4x128x128) ![g.val, 0, 0] S1x128x128.size inb).emb x) := by
  have h0 : (x 0).val = 0 := by have : (x 0).val < 1 := (x 0).isLt; omega
  unfold joinW
  have hg : (Rect.unit (s := S4x128x128) ![g.val, 0, 0] S1x128x128.size inb).emb x 0 = g :=
    Fin.ext (show g.val + 1 * (x 0).val = g.val by rw [h0]; omega)
  rw [hg]
  congr 1; funext b; apply Fin.ext
  match b with
  | ⟨0, _⟩ => exact h0
  | ⟨1, _⟩ => show (x 1).val = 0 + 1 * (x 1).val; omega
  | ⟨2, _⟩ => show (x 2).val = 0 + 1 * (x 2).val; omega

theorem piece_t (P : Fin 4 → Vec F S128x1 .f32) (g : Fin 4) (inb : ∀ a, (![0, g.val] : Fin 2 → Nat) a + S128x1.size a ≤ S128x4.size a)
    (x : S128x1.Idx) : P g x = joinT P ((Rect.unit (s := S128x4) ![0, g.val] S128x1.size inb).emb x) := by
  have h0 : (x 1).val = 0 := by have : (x 1).val < 1 := (x 1).isLt; omega
  unfold joinT
  have hg : (Rect.unit (s := S128x4) ![0, g.val] S128x1.size inb).emb x 1 = g :=
    Fin.ext (show g.val + 1 * (x 1).val = g.val by rw [h0]; omega)
  rw [hg]
  congr 1; funext b; apply Fin.ext
  match b with
  | ⟨0, _⟩ => show (x 0).val = 0 + 1 * (x 0).val; omega
  | ⟨1, _⟩ => exact h0

/-- Four stores, one to each group, leave the four matrices whatever was stored before. -/
theorem canon_w (P : Fin 4 → Vec F S1x128x128 .f32) (L : List (View.Piece (Elt F) S4x128x128 .f32)) :
    View.canon (⟨Rect.unit (s := S4x128x128) ![3, 0, 0] S1x128x128.size inb_S4x128x128_S1x128x128_3_0_0, P 3⟩
      :: ⟨Rect.unit (s := S4x128x128) ![2, 0, 0] S1x128x128.size inb_S4x128x128_S1x128x128_2_0_0, P 2⟩
      :: ⟨Rect.unit (s := S4x128x128) ![1, 0, 0] S1x128x128.size inb_S4x128x128_S1x128x128_1_0_0, P 1⟩
      :: ⟨Rect.unit (s := S4x128x128) ![0, 0, 0] S1x128x128.size inb_S4x128x128_S1x128x128_0_0_0, P 0⟩ :: L) = joinW P := by
  funext y
  refine View.canon_append_of_piecesOf (joinW P) L [_, _, _, _]
    ⟨piece_w P 3 inb_S4x128x128_S1x128x128_3_0_0, piece_w P 2 inb_S4x128x128_S1x128x128_2_0_0,
      piece_w P 1 inb_S4x128x128_S1x128x128_1_0_0, piece_w P 0 inb_S4x128x128_S1x128x128_0_0_0, trivial⟩ y ?_
  have m : ∀ (g : Nat) (inb : ∀ a, (![g, 0, 0] : Fin 3 → Nat) a + S1x128x128.size a ≤ S4x128x128.size a), (y 0).val = g →
      y ∈ (Rect.unit (s := S4x128x128) ![g, 0, 0] S1x128x128.size inb).set := fun g inb h => by
    have h1 : (y 1).val < 128 := (y 1).isLt
    have h2 : (y 2).val < 128 := (y 2).isLt
    rw [Rect.mem_set_unit]; intro b
    match b with
    | ⟨0, _⟩ => show g ≤ (y 0).val ∧ (y 0).val < g + 1; omega
    | ⟨1, _⟩ => show 0 ≤ (y 1).val ∧ (y 1).val < 0 + 128; omega
    | ⟨2, _⟩ => show 0 ≤ (y 2).val ∧ (y 2).val < 0 + 128; omega
  have h0 : (y 0).val < 4 := (y 0).isLt
  rcases (by omega : (y 0).val = 0 ∨ (y 0).val = 1 ∨ (y 0).val = 2 ∨ (y 0).val = 3) with h | h | h | h
  · exact ⟨_, .tail _ (.tail _ (.tail _ (.head _))), m 0 inb_S4x128x128_S1x128x128_0_0_0 h⟩
  · exact ⟨_, .tail _ (.tail _ (.head _)), m 1 inb_S4x128x128_S1x128x128_1_0_0 h⟩
  · exact ⟨_, .tail _ (.head _), m 2 inb_S4x128x128_S1x128x128_2_0_0 h⟩
  · exact ⟨_, .head _, m 3 inb_S4x128x128_S1x128x128_3_0_0 h⟩

theorem canon_t (P : Fin 4 → Vec F S128x1 .f32) (L : List (View.Piece (Elt F) S128x4 .f32)) :
    View.canon (⟨Rect.unit (s := S128x4) ![0, 3] S128x1.size inb_S128x4_S128x1_0_3, P 3⟩
      :: ⟨Rect.unit (s := S128x4) ![0, 2] S128x1.size inb_S128x4_S128x1_0_2, P 2⟩
      :: ⟨Rect.unit (s := S128x4) ![0, 1] S128x1.size inb_S128x4_S128x1_0_1, P 1⟩
      :: ⟨Rect.unit (s := S128x4) ![0, 0] S128x1.size inb_S128x4_S128x1_0_0, P 0⟩ :: L) = joinT P := by
  funext y
  refine View.canon_append_of_piecesOf (joinT P) L [_, _, _, _]
    ⟨piece_t P 3 inb_S128x4_S128x1_0_3, piece_t P 2 inb_S128x4_S128x1_0_2,
      piece_t P 1 inb_S128x4_S128x1_0_1, piece_t P 0 inb_S128x4_S128x1_0_0, trivial⟩ y ?_
  have m : ∀ (g : Nat) (inb : ∀ a, (![0, g] : Fin 2 → Nat) a + S128x1.size a ≤ S128x4.size a), (y 1).val = g →
      y ∈ (Rect.unit (s := S128x4) ![0, g] S128x1.size inb).set := fun g inb h => by
    have h1 : (y 0).val < 128 := (y 0).isLt
    rw [Rect.mem_set_unit]; intro b
    match b with
    | ⟨0, _⟩ => show 0 ≤ (y 0).val ∧ (y 0).val < 0 + 128; omega
    | ⟨1, _⟩ => show g ≤ (y 1).val ∧ (y 1).val < g + 1; omega
  have h0 : (y 1).val < 4 := (y 1).isLt
  rcases (by omega : (y 1).val = 0 ∨ (y 1).val = 1 ∨ (y 1).val = 2 ∨ (y 1).val = 3) with h | h | h | h
  · exact ⟨_, .tail _ (.tail _ (.tail _ (.head _))), m 0 inb_S128x4_S128x1_0_0 h⟩
  · exact ⟨_, .tail _ (.tail _ (.head _)), m 1 inb_S128x4_S128x1_0_1 h⟩
  · exact ⟨_, .tail _ (.head _), m 2 inb_S128x4_S128x1_0_2 h⟩
  · exact ⟨_, .head _, m 3 inb_S128x4_S128x1_0_3 h⟩

/-- The buffers of the gradients of the mixing and of its shift, from what they held. -/
def wBuf (o : Vec F S4x128x128 .f32) : Vec F S4x128x128 .f32 :=
  joinW fun g => wAcc x0 x1 x2 x5 (BitVec.ofNat 32 g.val) (slab o g)
def tBuf (o : Vec F S128x4 .f32) : Vec F S128x4 .f32 :=
  joinT fun g => tAcc x0 x5 (BitVec.ofNat 32 g.val) (col o g)

/-! ## What a point leaves -/

variable (i : grid0.Coords)

theorem out_A_6 (hc : cond0_0 i) : out0_A_6 c i a1 h1 a2 h2 a3 h3 a4 h4 a5 h5 a6 h6 a7 h7 a8 h8 a9 h9 a10 h10 a11 h11 hc x0 x1 x2 x3 x4 x5 = zBuf x0 x1 x2 x3 x4 x5 := by
  unfold out0_A_6
  rw [View.read_writes_eq_canon _ _ _ (cover0_A_6 c i a1 h1 a2 h2 a3 h3 a4 h4 a5 h5 a6 h6 a7 h7 a8 h8 a9 h9 a10 h10 a11 h11 hc x0 x1 x2 x3 x4 x5)]
  unfold kernelRun0_A; dsimp only
  rw [zv_A, zu_A_3, zu_A_2, zu_A_1, zu_A_0]; rfl
theorem out_A_9 (hc : cond0_0 i) : out0_A_9 c i a1 h1 a2 h2 a3 h3 a4 h4 a5 h5 a6 h6 a7 h7 a8 h8 a9 h9 a10 h10 a11 h11 hc x0 x1 x2 x3 x4 x5 = wBuf x0 x1 x2 x5 (k0_pay3 (F := F)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5)]
  unfold kernelRun0_A; dsimp only
  refine Eq.trans ?_ (canon_w (fun g => wAcc x0 x1 x2 x5 (BitVec.ofNat 32 g.val) (slab (k0_pay3 (F := F)) g)) (kernelRun0_A.sl.H9_13 c a1 h1 a2 h2 a3 h3 a6 h6 a10 x0 x1 x2 x5))
  refine (show _ = View.canon (⟨Rect.unit (s := S4x128x128) ![3, 0, 0] S1x128x128.size inb_S4x128x128_S1x128x128_3_0_0, kernelRun0_A.sl.v746 c a1 h1 a2 h2 a3 h3 a6 h6 a10 x0 x1 x2 x5⟩
      :: ⟨Rect.unit (s := S4x128x128) ![2, 0, 0] S1x128x128.size inb_S4x128x128_S1x128x128_2_0_0, kernelRun0_A.sl.v721 c a1 h1 a2 h2 a3 h3 a6 h6 a10 x0 x1 x2 x5⟩
      :: ⟨Rect.unit (s := S4x128x128) ![1, 0, 0] S1x128x128.size inb_S4x128x128_S1x128x128_1_0_0, kernelRun0_A.sl.v696 c a1 h1 a2 h2 a3 h3 a6 h6 a10 x0 x1 x2 x5⟩
      :: ⟨Rect.unit (s := S4x128x128) ![0, 0, 0] S1x128x128.size inb_S4x128x128_S1x128x128_0_0_0, kernelRun0_A.sl.v671 c a1 h1 a2 h2 a3 h3 a6 h6 a10 x0 x1 x2 x5⟩
      :: kernelRun0_A.sl.H9_13 c a1 h1 a2 h2 a3 h3 a6 h6 a10 x0 x1 x2 x5) from rfl).trans ?_
  rw [w_A_3_0, w_A_3_1, w_A_3_2, w_A_3_3]; rfl
theorem out_A_10 (hc : cond0_0 i) : out0_A_10 c i a1 h1 a2 h2 a3 h3 a4 h4 a5 h5 a6 h6 a7 h7 a8 h8 a9 h9 a10 h10 a11 h11 hc x0 x1 x2 x3 x4 x5 = tBuf x0 x5 (k0_pay4 (F := F)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5)]
  unfold kernelRun0_A; dsimp only
  refine Eq.trans ?_ (canon_t (fun g => tAcc x0 x5 (BitVec.ofNat 32 g.val) (col (k0_pay4 (F := F)) g)) (kernelRun0_A.sl.H10_13 c a1 h1 a6 h6 a11 x0 x5))
  refine (show _ = View.canon (⟨Rect.unit (s := S128x4) ![0, 3] S128x1.size inb_S128x4_S128x1_0_3, kernelRun0_A.sl.v751 c a1 h1 a6 h6 a11 x0 x5⟩
      :: ⟨Rect.unit (s := S128x4) ![0, 2] S128x1.size inb_S128x4_S128x1_0_2, kernelRun0_A.sl.v726 c a1 h1 a6 h6 a11 x0 x5⟩
      :: ⟨Rect.unit (s := S128x4) ![0, 1] S128x1.size inb_S128x4_S128x1_0_1, kernelRun0_A.sl.v701 c a1 h1 a6 h6 a11 x0 x5⟩
      :: ⟨Rect.unit (s := S128x4) ![0, 0] S128x1.size inb_S128x4_S128x1_0_0, kernelRun0_A.sl.v676 c a1 h1 a6 h6 a11 x0 x5⟩
      :: kernelRun0_A.sl.H10_13 c a1 h1 a6 h6 a11 x0 x5) from rfl).trans ?_
  rw [t_A_3_0, t_A_3_1, t_A_3_2, t_A_3_3]; rfl

theorem out_A_7 (hc : cond0_0 i) : out0_A_7 c i a1 h1 a2 h2 a3 h3 a4 h4 a5 h5 a6 h6 a7 h7 a8 h8 a9 h9 a10 h10 a11 h11 hc x0 x1 x2 x3 x4 x5 = gAcc x0 x3 x5 k0_pay1 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5)]
  unfold kernelRun0_A; dsimp only
  rw [View.canon_cons_unit_zero (S := S1x256) hz, gs_A]
  unfold kernelRun0_A.sl.v755 kernelRun0_A.sl.v754 kernelRun0_A.sl.H7_1
  rw [View.readCov_unit_zero (S := S1x256) _ hz]; rfl
theorem out_A_8 (hc : cond0_0 i) : out0_A_8 c i a1 h1 a2 h2 a3 h3 a4 h4 a5 h5 a6 h6 a7 h7 a8 h8 a9 h9 a10 h10 a11 h11 hc x0 x1 x2 x3 x4 x5 = bAcc x0 x3 x5 k0_pay2 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5)]
  unfold kernelRun0_A; dsimp only
  rw [View.canon_cons_unit_zero (S := S1x256) hz, all_A]
  unfold kernelRun0_A.sl.v761 kernelRun0_A.sl.H8_1
  rw [View.readCov_unit_zero (S := S1x256) _ hz]; rfl

theorem out_B_6 (hc : ¬cond0_0 i) : out0_B_6 c i a1 h1 a2 h2 a3 h3 a4 h4 a5 h5 a6 h6 a7 h7 a8 h8 a9 h9 a10 h10 a11 h11 hc x0 x1 x2 x3 x4 x5 xo7 xo8 xo9 xo10 = zBuf x0 x1 x2 x3 x4 x5 := by
  unfold out0_B_6
  rw [View.read_writes_eq_canon _ _ _ (cover0_B_6 c i a1 h1 a2 h2 a3 h3 a4 h4 a5 h5 a6 h6 a7 h7 a8 h8 a9 h9 a10 h10 a11 h11 hc x0 x1 x2 x3 x4 x5 xo7 xo8 xo9 xo10)]
  unfold kernelRun0_B; dsimp only
  rw [zv_B, zu_B_3, zu_B_2, zu_B_1, zu_B_0]; rfl
theorem out_B_9 (hc : ¬cond0_0 i) : out0_B_9 c i a1 h1 a2 h2 a3 h3 a4 h4 a5 h5 a6 h6 a7 h7 a8 h8 a9 h9 a10 h10 a11 h11 hc x0 x1 x2 x3 x4 x5 xo7 xo8 xo9 xo10 = wBuf x0 x1 x2 x5 xo9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 xo7 xo8 xo9 xo10)]
  unfold kernelRun0_B; dsimp only
  refine Eq.trans ?_ (canon_w (fun g => wAcc x0 x1 x2 x5 (BitVec.ofNat 32 g.val) (slab xo9 g)) (kernelRun0_B.sl.H9_12 c a1 h1 a2 h2 a3 h3 a6 h6 a10 h10 x0 x1 x2 x5 xo9))
  refine (show _ = View.canon (⟨Rect.unit (s := S4x128x128) ![3, 0, 0] S1x128x128.size inb_S4x128x128_S1x128x128_3_0_0, kernelRun0_B.sl.v746 c a1 h1 a2 h2 a3 h3 a6 h6 a10 h10 x0 x1 x2 x5 xo9⟩
      :: ⟨Rect.unit (s := S4x128x128) ![2, 0, 0] S1x128x128.size inb_S4x128x128_S1x128x128_2_0_0, kernelRun0_B.sl.v721 c a1 h1 a2 h2 a3 h3 a6 h6 a10 h10 x0 x1 x2 x5 xo9⟩
      :: ⟨Rect.unit (s := S4x128x128) ![1, 0, 0] S1x128x128.size inb_S4x128x128_S1x128x128_1_0_0, kernelRun0_B.sl.v696 c a1 h1 a2 h2 a3 h3 a6 h6 a10 h10 x0 x1 x2 x5 xo9⟩
      :: ⟨Rect.unit (s := S4x128x128) ![0, 0, 0] S1x128x128.size inb_S4x128x128_S1x128x128_0_0_0, kernelRun0_B.sl.v671 c a1 h1 a2 h2 a3 h3 a6 h6 a10 h10 x0 x1 x2 x5 xo9⟩
      :: kernelRun0_B.sl.H9_12 c a1 h1 a2 h2 a3 h3 a6 h6 a10 h10 x0 x1 x2 x5 xo9) from rfl).trans ?_
  rw [w_B_3_0, w_B_3_1, w_B_3_2, w_B_3_3]; rfl
theorem out_B_10 (hc : ¬cond0_0 i) : out0_B_10 c i a1 h1 a2 h2 a3 h3 a4 h4 a5 h5 a6 h6 a7 h7 a8 h8 a9 h9 a10 h10 a11 h11 hc x0 x1 x2 x3 x4 x5 xo7 xo8 xo9 xo10 = tBuf x0 x5 xo10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 xo7 xo8 xo9 xo10)]
  unfold kernelRun0_B; dsimp only
  refine Eq.trans ?_ (canon_t (fun g => tAcc x0 x5 (BitVec.ofNat 32 g.val) (col xo10 g)) (kernelRun0_B.sl.H10_12 c a1 h1 a6 h6 a11 h11 x0 x5 xo10))
  refine (show _ = View.canon (⟨Rect.unit (s := S128x4) ![0, 3] S128x1.size inb_S128x4_S128x1_0_3, kernelRun0_B.sl.v751 c a1 h1 a6 h6 a11 h11 x0 x5 xo10⟩
      :: ⟨Rect.unit (s := S128x4) ![0, 2] S128x1.size inb_S128x4_S128x1_0_2, kernelRun0_B.sl.v726 c a1 h1 a6 h6 a11 h11 x0 x5 xo10⟩
      :: ⟨Rect.unit (s := S128x4) ![0, 1] S128x1.size inb_S128x4_S128x1_0_1, kernelRun0_B.sl.v701 c a1 h1 a6 h6 a11 h11 x0 x5 xo10⟩
      :: ⟨Rect.unit (s := S128x4) ![0, 0] S128x1.size inb_S128x4_S128x1_0_0, kernelRun0_B.sl.v676 c a1 h1 a6 h6 a11 h11 x0 x5 xo10⟩
      :: kernelRun0_B.sl.H10_12 c a1 h1 a6 h6 a11 h11 x0 x5 xo10) from rfl).trans ?_
  rw [t_B_3_0, t_B_3_1, t_B_3_2, t_B_3_3]; rfl

theorem out_B_7 (hc : ¬cond0_0 i) : out0_B_7 c i a1 h1 a2 h2 a3 h3 a4 h4 a5 h5 a6 h6 a7 h7 a8 h8 a9 h9 a10 h10 a11 h11 hc x0 x1 x2 x3 x4 x5 xo7 xo8 xo9 xo10 = gAcc x0 x3 x5 xo7 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 xo7 xo8 xo9 xo10)]
  unfold kernelRun0_B; dsimp only
  rw [View.canon_unit_zero (S := S1x256) hz, gs_B]
  refine (show _ = k0_pay132 (shapeCast S1x256 (RV a8 h8 xo7) shapeCasts_S1x256_S1x256) _ from rfl).trans ?_
  rw [rv]; rfl
theorem out_B_8 (hc : ¬cond0_0 i) : out0_B_8 c i a1 h1 a2 h2 a3 h3 a4 h4 a5 h5 a6 h6 a7 h7 a8 h8 a9 h9 a10 h10 a11 h11 hc x0 x1 x2 x3 x4 x5 xo7 xo8 xo9 xo10 = bAcc x0 x3 x5 xo8 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 xo7 xo8 xo9 xo10)]
  unfold kernelRun0_B; dsimp only
  rw [View.canon_unit_zero (S := S1x256) hz, all_B]
  refine (show _ = k0_pay133 _ (RV a9 h9 xo8) from rfl).trans ?_
  rw [rv]; rfl

end Cert.SguIdeal.Block

end
-- ==== Proof.SguChunk.lean ====
/-
  ONE BLOCK OF REALS: the stages of the spatial gating's gradient over real blocks, read at an index, are the formulas of
  `SguMath` for the chunk that holds the row.
-/
module

public import proofs.«01_k».proof.Proof.SguBlock

@[expose] public section

set_option maxRecDepth 16384

noncomputable section

namespace Cert.SguIdeal.Chunk

open Cert.SguIdeal Cert.SguIdeal.Gen Cert.SguIdeal.Stage Cert.SguIdeal.Block Cert.Reals Cert.SguMath
open Idealize.ShloMosaic Idealize.ShloMosaic.TcCoe Idealize.SL.Sem
open scoped BigOperators

/-- Row `t` of chunk `k`. -/
abbrev row (k : Fin 4) (t : Fin 128) : Fin 512 := ⟨128 * k.val + t.val, by omega⟩

theorem rowsOf_apply {α : Type} (X : S512x256.Idx → α) (k : Fin 4) (t : Fin 128) (c : Fin 256) :
    rowsOf X k (ix2 t c) = X (ix2 (row k t) c) := by
  fin_cases k
  · exact congrArg X (funext fun a => Fin.ext (match a with
      | ⟨0, _⟩ => rfl
      | ⟨1, _⟩ => by show 0 + c.val = c.val; omega))
  · exact congrArg X (funext fun a => Fin.ext (match a with
      | ⟨0, _⟩ => rfl
      | ⟨1, _⟩ => by show 0 + c.val = c.val; omega))
  · exact congrArg X (funext fun a => Fin.ext (match a with
      | ⟨0, _⟩ => rfl
      | ⟨1, _⟩ => by show 0 + c.val = c.val; omega))
  · exact congrArg X (funext fun a => Fin.ext (match a with
      | ⟨0, _⟩ => rfl
      | ⟨1, _⟩ => by show 0 + c.val = c.val; omega))

theorem leftOf_apply {α : Type} (X : S512x512.Idx → α) (k : Fin 4) (t : Fin 128) (c : Fin 256) :
    leftOf X k (ix2 t c) = X (ix2 (row k t) (lo c)) := by
  fin_cases k
  · exact congrArg X (funext fun a => Fin.ext (match a with
      | ⟨0, _⟩ => rfl
      | ⟨1, _⟩ => by show 0 + c.val = c.val; omega))
  · exact congrArg X (funext fun a => Fin.ext (match a with
      | ⟨0, _⟩ => rfl
      | ⟨1, _⟩ => by show 0 + c.val = c.val; omega))
  · exact congrArg X (funext fun a => Fin.ext (match a with
      | ⟨0, _⟩ => rfl
      | ⟨1, _⟩ => by show 0 + c.val = c.val; omega))
  · exact congrArg X (funext fun a => Fin.ext (match a with
      | ⟨0, _⟩ => rfl
      | ⟨1, _⟩ => by show 0 + c.val = c.val; omega))

theorem slab_apply (X : Vec Ideal S4x128x128 .f32) (g : Fin 4) (t s : Fin 128) : slab X g (ix3 0 t s) = X (ix3 g t s) := by
  fin_cases g
  all_goals
    exact congrArg X (funext fun a => Fin.ext (match a with
      | ⟨0, _⟩ => rfl
      | ⟨1, _⟩ => by show 0 + 1 * t.val = t.val; omega
      | ⟨2, _⟩ => by show 0 + 1 * s.val = s.val; omega))

theorem col_apply (X : Vec Ideal S128x4 .f32) (g : Fin 4) (t : Fin 128) : col X g (ix2 t 0) = X (ix2 t g) := by
  fin_cases g
  all_goals
    exact congrArg X (funext fun a => Fin.ext (match a with
      | ⟨0, _⟩ => by show 0 + 1 * t.val = t.val; omega
      | ⟨1, _⟩ => rfl))

/-! ## The choices by group -/

theorem lit_zero : Ideal.ofBits .f32 0x00000000#32 = ((0 : ℝ) : EReal) := by
  simp [Ideal.ofBits, Ideal.ieee]

theorem own_select (g : Fin 4) (x y : FVec Ideal S128x256 .f32) (t : Fin 128) (c : Fin 256) :
    select (own (BitVec.ofNat 32 g.val)) x y (ix2 t c) = if grp c = g then x (ix2 t c) else y (ix2 t c) := by
  show Scalar.select (IntOp.cmpi CmpIPredicate.eq (k0_pay19 (ix2 t c)) (BitVec.ofNat 32 g.val)) _ _ = _
  rw [lane_apply, select_group]

theorem pick4 {α : Type} (f : Fin 4 → α) (z : α) (q : Fin 4) :
    (if q = 3 then f 3 else if q = 2 then f 2 else if q = 1 then f 1 else if q = 0 then f 0 else z) = f q := by
  fin_cases q <;> rfl

theorem select4 (A : Fin 4 → FVec Ideal S128x256 .f32) (t : Fin 128) (c : Fin 256) :
    select (own 3#32) (A 3) (select (own 2#32) (A 2) (select (own 1#32) (A 1) (select (own 0#32) (A 0) zc))) (ix2 t c)
      = A (grp c) (ix2 t c) := by
  refine (own_select 3 _ _ t c).trans ?_
  rw [show select (own 2#32) (A 2) (select (own 1#32) (A 1) (select (own 0#32) (A 0) zc)) (ix2 t c) = _ from own_select 2 _ _ t c,
    show select (own 1#32) (A 1) (select (own 0#32) (A 0) zc) (ix2 t c) = _ from own_select 1 _ _ t c,
    show select (own 0#32) (A 0) zc (ix2 t c) = _ from own_select 0 _ _ t c]
  exact pick4 (fun g => A g (ix2 t c)) _ (grp c)

/-! ## The stages of a chunk, for arguments that are real -/

section Stages

variable {w : Fin 4 → Vec Ideal S1x128x128 .f32} {W : Fin 4 → Fin 128 → Fin 128 → ℝ} (hw : ∀ g t s, w g (ix3 0 t s) = ((W g t s : ℝ) : EReal))
  {b : Fin 4 → Vec Ideal S128x1 .f32} {B : Fin 4 → Fin 128 → ℝ} (hb : ∀ g t, b g (ix2 t 0) = ((B g t : ℝ) : EReal))
  {n : FVec Ideal S128x256 .bf16} {N : Fin 128 → Fin 256 → ℝ} (hn : ∀ s c, n (ix2 s c) = ((N s c : ℝ) : EReal))
  {d : FVec Ideal S128x256 .f32} {D : Fin 128 → Fin 256 → ℝ} (hd : ∀ t c, d (ix2 t c) = ((D t c : ℝ) : EReal))

include hw hb hn in
theorem mix1_apply (g : Fin 4) (t : Fin 128) (c : Fin 256) :
    tMix1 (w g) (b g) n (ix2 t c) = (((∑ s, W g t s * N s c) + B g t : ℝ) : EReal) := by
  pointwise [tMix1]
  simp only [hw, hb, hn, ← EReal.coe_mul, coe_sum, ← EReal.coe_add]

include hw hb hn in
theorem mix_apply (t : Fin 128) (c : Fin 256) :
    tMix (w 0) (w 1) (w 2) (w 3) (b 0) (b 1) (b 2) (b 3) n (ix2 t c) = (((∑ s, W (grp c) t s * N s c) + B (grp c) t : ℝ) : EReal) :=
  (select4 (fun g => tMix1 (w g) (b g) n) t c).trans (mix1_apply hw hb hn (grp c) t c)

include hd in
theorem dm_apply (g : Fin 4) (t : Fin 128) (c : Fin 256) :
    tDm (BitVec.ofNat 32 g.val) d (ix2 t c) = (((if grp c = g then D t c else 0) : ℝ) : EReal) := by
  refine (own_select g _ _ t c).trans ?_
  rw [hd]
  split_ifs
  · rfl
  · exact lit_zero

include hw hd in
theorem dn1_apply (g : Fin 4) (s : Fin 128) (c : Fin 256) :
    tDn1 (w g) d (ix2 s c) = ((∑ t, W g t s * D t c : ℝ) : EReal) := by
  pointwise [tDn1]
  simp only [hw, hd, ← EReal.coe_mul, coe_sum]

include hw hd in
theorem dn_apply (s : Fin 128) (c : Fin 256) :
    tDn (w 0) (w 1) (w 2) (w 3) d (ix2 s c) = ((∑ t, W (grp c) t s * D t c : ℝ) : EReal) := by
  refine (select4 (fun g => tDn1 (w g) (tDm (BitVec.ofNat 32 g.val) d)) s c).trans ?_
  refine (dn1_apply hw (dm_apply hd (grp c)) (grp c) s c).trans ?_
  simp only [if_true]

include hd hn in
theorem w_apply (g : Fin 4) (o : Vec Ideal S1x128x128 .f32) (O : ℝ) (t s : Fin 128) (ho : o (ix3 0 t s) = (O : EReal)) :
    tW (BitVec.ofNat 32 g.val) d n o (ix3 0 t s) = ((O + ∑ e, D t (pr g e) * N s (pr g e) : ℝ) : EReal) := by
  have h := dm_apply hd g
  pointwise [tW]
  simp only [h, hn, ho, ← EReal.coe_mul, coe_sum, ← EReal.coe_add]
  rw [← sum_group (fun c => D t c * N s c)]
  simp only [ite_mul, zero_mul]

include hd in
theorem t_apply (g : Fin 4) (o : Vec Ideal S128x1 .f32) (O : ℝ) (t : Fin 128) (ho : o (ix2 t 0) = (O : EReal)) :
    tT (BitVec.ofNat 32 g.val) d o (ix2 t 0) = ((O + ∑ e, D t (pr g e) : ℝ) : EReal) := by
  have h := dm_apply hd g
  pointwise [tT]
  simp only [h, ho, coe_sum, ← EReal.coe_add]
  rw [← sum_group (fun c => D t c)]

end Stages

/-! ## The stages over real blocks -/

variable (x0 : S512x512.Idx → ℝ) (x1 x2 : S1x256.Idx → ℝ) (x3 : S4x128x128.Idx → ℝ) (x4 : S128x4.Idx → ℝ) (x5 : S512x256.Idx → ℝ)

/-- Chunk `k` of a block; the scale and the shift; the mixing and its shift. -/
abbrev zk (k : Fin 4) (t : Fin 128) (c : Fin 512) : ℝ := x0 (ix2 (row k t) c)
abbrev yk (k : Fin 4) (t : Fin 128) (c : Fin 256) : ℝ := x5 (ix2 (row k t) c)
abbrev vec (x : S1x256.Idx → ℝ) (c : Fin 256) : ℝ := x (ix2 0 c)
abbrev mixW (g : Fin 4) (t s : Fin 128) : ℝ := x3 (ix3 g t s)
abbrev mixB (g : Fin 4) (t : Fin 128) : ℝ := x4 (ix2 t g)

/-- An array of reals as an array of the extended reals. -/
abbrev up {ι : Type} (x : ι → ℝ) : ι → EReal := fun i => (x i : EReal)

theorem d_apply (k : Fin 4) (t : Fin 128) (c : Fin 256) :
    tD (F := Ideal) (up x0) (up x5) k (ix2 t c) = ((dM (zk x0 k) (yk x5 k) t c : ℝ) : EReal) := by
  show rowsOf (up x5) k (ix2 t c) * rowsOf (k0_pay10 (F := Ideal) (up x0)) k (ix2 t c) = _
  rw [rowsOf_apply, rowsOf_apply, u_apply, ← EReal.coe_mul]; rfl

theorem n_apply (k : Fin 4) (t : Fin 128) (c : Fin 256) :
    tN (F := Ideal) (up x0) (up x1) (up x2) k (ix2 t c) = ((cN (zk x0 k) (vec x1) (vec x2) t c : ℝ) : EReal) := by
  show rowsOf (tVn (F := Ideal) (up x0) (up x1) (up x2)) k (ix2 t c) = _
  rw [rowsOf_apply, vn_apply]; rfl

theorem slab_real (g : Fin 4) (t s : Fin 128) : slab (F := Ideal) (up x3) g (ix3 0 t s) = ((mixW x3 g t s : ℝ) : EReal) := slab_apply _ g t s
theorem col_real (g : Fin 4) (t : Fin 128) : col (F := Ideal) (up x4) g (ix2 t 0) = ((mixB x4 g t : ℝ) : EReal) := col_apply _ g t

theorem zu_apply (k : Fin 4) (t : Fin 128) (c : Fin 256) :
    zuRows (F := Ideal) (up x0) (up x1) (up x2) (up x3) (up x4) (up x5) k (ix2 t c)
      = ((dZu (zk x0 k) (vec x1) (vec x2) (mixW x3) (mixB x4) (yk x5 k) t c : ℝ) : EReal) := by
  have h := mix_apply (slab_real x3) (col_real x4) (n_apply x0 x1 x2 k) t c
  show rowsOf (up x5) k (ix2 t c) * tMix (F := Ideal) _ _ _ _ _ _ _ _ _ (ix2 t c) * leftOf (k0_pay9 (F := Ideal) (up x0)) k (ix2 t c) = _
  rw [h, rowsOf_apply, leftOf_apply, dgelu_apply, ← EReal.coe_mul, ← EReal.coe_mul]; rfl

theorem dnRows_apply (k : Fin 4) (t : Fin 128) (c : Fin 256) :
    dnRows (F := Ideal) (up x0) (up x3) (up x5) k (ix2 t c) = ((dN (zk x0 k) (mixW x3) (yk x5 k) t c : ℝ) : EReal) :=
  dn_apply (slab_real x3) (d_apply x0 x5 k) t c

theorem dnAll_apply (k : Fin 4) (t : Fin 128) (c : Fin 256) :
    dnAll (F := Ideal) (up x0) (up x3) (up x5) (ix2 (row k t) c) = ((dN (zk x0 k) (mixW x3) (yk x5 k) t c : ℝ) : EReal) := by
  rw [← dnRows_apply]
  fin_cases k
  · pointwise [dnAll]
  · pointwise [dnAll]
  · pointwise [dnAll]
    rw [dif_neg (by omega), dif_neg (by omega), dif_pos (by omega)]
    congr 2; apply Fin.ext; show 256 + t.val - 128 - 128 = t.val; omega
  · pointwise [dnAll]
    rw [dif_neg (by omega), dif_neg (by omega), dif_neg (by omega)]
    congr 2; apply Fin.ext; show 384 + t.val - 128 - 128 - 128 = t.val; omega

theorem sum_rows {M : Type} [AddCommMonoid M] (f : Fin 512 → M) : (∑ p, f p) = ∑ k, ∑ t, f (row k t) := by
  rw [← Fintype.sum_prod_type' (fun (k : Fin 4) (t : Fin 128) => f (row k t))]
  refine (Fintype.sum_equiv (finProdFinEquiv (m := 4) (n := 128)) _ _ fun x => congrArg f (Fin.ext ?_)).symm
  show 128 * x.1.val + x.2.val = x.2.val + 128 * x.1.val
  omega

theorem zv_apply (k : Fin 4) (t : Fin 128) (c : Fin 256) :
    zvRows (F := Ideal) (up x0) (up x1) (up x3) (up x5) (ix2 (row k t) c)
      = ((dZv (zk x0 k) (vec x1) (mixW x3) (yk x5 k) t c : ℝ) : EReal) := by
  pointwise [zvRows, k0_pay134]
  simp only [dnAll_apply, avg_apply, rs_apply, xh_apply, dgelu_apply, ← EReal.coe_mul, coe_sum, ← EReal.coe_sub]
  rw [gm_mat (fun i => dN (zk x0 k) (mixW x3) (yk x5 k) t i * x1 (ix2 0 i)),
    gm_mat (fun i => dN (zk x0 k) (mixW x3) (yk x5 k) t i * x1 (ix2 0 i) * xh (rV x0 (row k t)) i)]
  rfl

theorem g_apply (o : Vec Ideal S1x256 .f32) (O : ℝ) (c : Fin 256) (ho : o (ix2 0 c) = (O : EReal)) :
    gAcc (F := Ideal) (up x0) (up x3) (up x5) o (ix2 0 c)
      = ((O + ∑ k, pG (zk x0 k) (mixW x3) (yk x5 k) c : ℝ) : EReal) := by
  pointwise [gAcc, k0_pay132]
  rw [sum_rows]
  simp only [dnAll_apply, xh_apply, ho, ← EReal.coe_mul, coe_sum, ← EReal.coe_add]
  rfl

theorem b_apply (o : Vec Ideal S1x256 .f32) (O : ℝ) (c : Fin 256) (ho : o (ix2 0 c) = (O : EReal)) :
    bAcc (F := Ideal) (up x0) (up x3) (up x5) o (ix2 0 c)
      = ((O + ∑ k, pB (zk x0 k) (mixW x3) (yk x5 k) c : ℝ) : EReal) := by
  pointwise [bAcc, k0_pay133]
  rw [sum_rows]
  simp only [dnAll_apply, ho, coe_sum, ← EReal.coe_add]
  rfl

/-- The last half of the buffer of the gradient of `z`, and its first half. -/
theorem zBuf_hi (k : Fin 4) (t : Fin 128) (c : Fin 256) :
    zBuf (F := Ideal) (up x0) (up x1) (up x2) (up x3) (up x4) (up x5) (ix2 (row k t) (hi c))
      = ((dZv (zk x0 k) (vec x1) (mixW x3) (yk x5 k) t c : ℝ) : EReal) := by
  rw [← zv_apply x0 x1 x3 x5 k t c]
  have e : (ix2 (row k t) (hi c) : S512x512.Idx)
      = (Rect.unit (s := S512x512) ![0, 256] S512x256.size inb_S512x512_S512x256_0_256).emb (ix2 (row k t) c) :=
    funext fun a => Fin.ext (match a with
      | ⟨0, _⟩ => by show 128 * k.val + t.val = 0 + 1 * (128 * k.val + t.val); omega
      | ⟨1, _⟩ => by show 256 + c.val = 256 + 1 * c.val; omega)
  rw [e]
  exact View.canon_cons_emb _ _ _ _

/-- A row of another chunk, or a column of the other half, is not in the rectangle of a chunk. -/
theorem off_hi (k : Fin 4) (t : Fin 128) (c : Fin 256) : (ix2 (row k t) (lo c) : S512x512.Idx)
    ∉ (Rect.unit (s := S512x512) ![0, 256] S512x256.size inb_S512x512_S512x256_0_256).set := fun h => by
  have h1 : 256 ≤ c.val := (Rect.mem_set_unit.1 h 1).1
  omega
theorem off_row (k : Fin 4) (t : Fin 128) (c : Fin 256) (o : Nat) (inb : ∀ a, (![o, 0] : Fin 2 → Nat) a + S128x256.size a ≤ S512x512.size a)
    (ho : 128 * k.val + t.val < o) : (ix2 (row k t) (lo c) : S512x512.Idx) ∉ (Rect.unit (s := S512x512) ![o, 0] S128x256.size inb).set := fun h => by
  have h1 : o ≤ 128 * k.val + t.val := (Rect.mem_set_unit.1 h 0).1
  omega
theorem at_row (k : Fin 4) (t : Fin 128) (c : Fin 256) (o : Nat) (inb : ∀ a, (![o, 0] : Fin 2 → Nat) a + S128x256.size a ≤ S512x512.size a)
    (ho : o = 128 * k.val) : (ix2 (row k t) (lo c) : S512x512.Idx) = (Rect.unit (s := S512x512) ![o, 0] S128x256.size inb).emb (ix2 t c) :=
  funext fun a => Fin.ext (match a with
    | ⟨0, _⟩ => by show 128 * k.val + t.val = o + 1 * t.val; omega
    | ⟨1, _⟩ => by show c.val = 0 + 1 * c.val; omega)

theorem canon_hit (k : Fin 4) (t : Fin 128) (c : Fin 256) (o : Nat) (inb : ∀ a, (![o, 0] : Fin 2 → Nat) a + S128x256.size a ≤ S512x512.size a)
    (ho : o = 128 * k.val) (w : FVec Ideal S128x256 .bf16) (L : List (View.Piece (Elt Ideal) S512x512 .bf16)) :
    View.canon (⟨Rect.unit (s := S512x512) ![o, 0] S128x256.size inb, w⟩ :: L) (ix2 (row k t) (lo c)) = w (ix2 t c) := by
  rw [at_row k t c o inb ho]; exact View.canon_cons_emb _ _ _ _
theorem canon_skip (k : Fin 4) (t : Fin 128) (c : Fin 256) (o : Nat) (inb : ∀ a, (![o, 0] : Fin 2 → Nat) a + S128x256.size a ≤ S512x512.size a)
    (ho : 128 * k.val + t.val < o) (w : FVec Ideal S128x256 .bf16) (L : List (View.Piece (Elt Ideal) S512x512 .bf16)) :
    View.canon (⟨Rect.unit (s := S512x512) ![o, 0] S128x256.size inb, w⟩ :: L) (ix2 (row k t) (lo c))
      = View.canon L (ix2 (row k t) (lo c)) :=
  View.canon_cons_of_not_mem ⟨Rect.unit (s := S512x512) ![o, 0] S128x256.size inb, w⟩ L (off_row k t c o inb ho)

theorem canon_skip_hi (k : Fin 4) (t : Fin 128) (c : Fin 256) (Z : FVec Ideal S512x256 .bf16) (L : List (View.Piece (Elt Ideal) S512x512 .bf16)) :
    View.canon (⟨Rect.unit (s := S512x512) ![0, 256] S512x256.size inb_S512x512_S512x256_0_256, Z⟩ :: L) (ix2 (row k t) (lo c))
      = View.canon L (ix2 (row k t) (lo c)) :=
  View.canon_cons_of_not_mem ⟨Rect.unit (s := S512x512) ![0, 256] S512x256.size inb_S512x512_S512x256_0_256, Z⟩ L (off_hi k t c)

theorem canon_rows (P : Fin 4 → FVec Ideal S128x256 .bf16) (Z : FVec Ideal S512x256 .bf16) (k : Fin 4) (t : Fin 128) (c : Fin 256) :
    View.canon ([⟨Rect.unit (s := S512x512) ![0, 256] S512x256.size inb_S512x512_S512x256_0_256, Z⟩,
      ⟨Rect.unit (s := S512x512) ![384, 0] S128x256.size inb_S512x512_S128x256_384_0, P 3⟩,
      ⟨Rect.unit (s := S512x512) ![256, 0] S128x256.size inb_S512x512_S128x256_256_0, P 2⟩,
      ⟨Rect.unit (s := S512x512) ![128, 0] S128x256.size inb_S512x512_S128x256_128_0, P 1⟩,
      ⟨Rect.unit (s := S512x512) ![0, 0] S128x256.size inb_S512x512_S128x256_0_0, P 0⟩] : List (View.Piece (Elt Ideal) S512x512 .bf16))
      (ix2 (row k t) (lo c)) = P k (ix2 t c) := by
  rw [canon_skip_hi]
  have ht := t.isLt
  obtain rfl | rfl | rfl | rfl : k = 3 ∨ k = 2 ∨ k = 1 ∨ k = 0 := by revert k; decide
  · exact canon_hit 3 t c 384 _ rfl _ _
  · rw [canon_skip 2 t c 384 _ (by show 256 + t.val < 384; omega)]
    exact canon_hit 2 t c 256 _ rfl _ _
  · rw [canon_skip 1 t c 384 _ (by show 128 + t.val < 384; omega), canon_skip 1 t c 256 _ (by show 128 + t.val < 256; omega)]
    exact canon_hit 1 t c 128 _ rfl _ _
  · rw [canon_skip 0 t c 384 _ (by show 0 + t.val < 384; omega), canon_skip 0 t c 256 _ (by show 0 + t.val < 256; omega),
      canon_skip 0 t c 128 _ (by show 0 + t.val < 128; omega)]
    exact canon_hit 0 t c 0 _ rfl _ _

theorem zBuf_lo (k : Fin 4) (t : Fin 128) (c : Fin 256) :
    zBuf (F := Ideal) (up x0) (up x1) (up x2) (up x3) (up x4) (up x5) (ix2 (row k t) (lo c))
      = ((dZu (zk x0 k) (vec x1) (vec x2) (mixW x3) (mixB x4) (yk x5 k) t c : ℝ) : EReal) := by
  rw [← zu_apply x0 x1 x2 x3 x4 x5 k t c]
  exact canon_rows (zuRows (F := Ideal) (up x0) (up x1) (up x2) (up x3) (up x4) (up x5)) _ k t c

theorem wAcc_apply (g : Fin 4) (o : Vec Ideal S1x128x128 .f32) (O : ℝ) (t s : Fin 128) (ho : o (ix3 0 t s) = (O : EReal)) :
    wAcc (F := Ideal) (up x0) (up x1) (up x2) (up x5) (BitVec.ofNat 32 g.val) o (ix3 0 t s)
      = ((O + ∑ k, pW (zk x0 k) (vec x1) (vec x2) (yk x5 k) g t s : ℝ) : EReal) := by
  have st := fun (k : Fin 4) (o : Vec Ideal S1x128x128 .f32) (O : ℝ) (h : o (ix3 0 t s) = (O : EReal)) =>
    w_apply (n_apply x0 x1 x2 k) (d_apply x0 x5 k) g o O t s h
  refine (st 3 _ _ (st 2 _ _ (st 1 _ _ (st 0 _ _ ho)))).trans (congrArg _ ?_)
  rw [Fin.sum_univ_four]
  unfold pW; ring

theorem tAcc_apply (g : Fin 4) (o : Vec Ideal S128x1 .f32) (O : ℝ) (t : Fin 128) (ho : o (ix2 t 0) = (O : EReal)) :
    tAcc (F := Ideal) (up x0) (up x5) (BitVec.ofNat 32 g.val) o (ix2 t 0)
      = ((O + ∑ k, pT (zk x0 k) (yk x5 k) g t : ℝ) : EReal) := by
  have st := fun (k : Fin 4) (o : Vec Ideal S128x1 .f32) (O : ℝ) (h : o (ix2 t 0) = (O : EReal)) =>
    t_apply (d_apply x0 x5 k) g o O t h
  refine (st 3 _ _ (st 2 _ _ (st 1 _ _ (st 0 _ _ ho)))).trans (congrArg _ ?_)
  rw [Fin.sum_univ_four]
  unfold pT; ring

theorem wBuf_apply (o : Vec Ideal S4x128x128 .f32) (O : ℝ) (g : Fin 4) (t s : Fin 128) (ho : o (ix3 g t s) = (O : EReal)) :
    wBuf (F := Ideal) (up x0) (up x1) (up x2) (up x5) o (ix3 g t s)
      = ((O + ∑ k, pW (zk x0 k) (vec x1) (vec x2) (yk x5 k) g t s : ℝ) : EReal) :=
  wAcc_apply x0 x1 x2 x5 g (slab o g) O t s ((slab_apply o g t s).trans ho)

theorem tBuf_apply (o : Vec Ideal S128x4 .f32) (O : ℝ) (g : Fin 4) (t : Fin 128) (ho : o (ix2 t g) = (O : EReal)) :
    tBuf (F := Ideal) (up x0) (up x5) o (ix2 t g) = ((O + ∑ k, pT (zk x0 k) (yk x5 k) g t : ℝ) : EReal) :=
  tAcc_apply x0 x5 g (col o g) O t ((col_apply o g t).trans ho)

end Cert.SguIdeal.Chunk
end
-- ==== Proof.SguArray.lean ====
/-
  THE ARRAYS of the spatial gating's gradient, for arguments of reals: a grid point reads 512 rows, that is chunks `4 t` to
  `4 t + 3` of the 64; the first output ends holding, row by row, the gradient of `z`; the other four hold, after the last of
  the 16 points, the sums over all chunks that are the gradients of the scale, the shift, the mixing and its shift.
-/
module

public import proofs.«01_k».proof.Proof.SguChunk

@[expose] public section

set_option maxRecDepth 16384

noncomputable section

namespace Cert.SguIdeal.Arrays

open Cert.SguIdeal Cert.SguIdeal.Gen Cert.SguIdeal.Stage Cert.SguIdeal.Block Cert.SguIdeal.Chunk Cert.Reals Cert.SguMath
open Idealize.ShloMosaic Idealize.ShloMosaic.TcCoe Idealize.SL.Sem
open Idealize.ShloMosaic.Pipeline (Dat)
open scoped BigOperators

/-! ## The host's arrays -/

section Host

variable (m : (ℓ : Loc nD τ sig) → Buf (Elt Ideal) ℓ) (c : Dev nD)

/-- The lower triangle of ones, and the weights multiplied by it. -/
def tri : FVec Ideal S128x128 .f32 :=
  select (cmpi .sge (addi (iotaInDim S128x128 32 0) (broadcastInDim S128x128 ![] bcast_S_S128x128 (constantI S_ 32 0#32)))
    (iotaInDim S128x128 32 1)) (broadcastInDim S128x128 ![] bcast_S_S128x128 (constant S_ .f32 0x3F800000#32))
    (broadcastInDim S128x128 ![] bcast_S_S128x128 (constant S_ .f32 0x00000000#32))
def masked (w : FVec Ideal S4x128x128 .f32) : FVec Ideal S4x128x128 .f32 :=
  mulf w (broadcastInDim S4x128x128 ![0, 1, 2] bcast_S1x128x128_S4x128x128_0_1_2
    (broadcastInDim S1x128x128 ![1, 2] bcast_S128x128_S1x128x128_1_2 tri))

theorem V_v4 : V m c main_v4 = masked (m ((c : Thread nD τ).loc main_arg3)) := by
  simp only [V, hostOps0, hostOps0_1, hostOps0_2, List.flatten_cons, List.flatten_nil, List.append_nil, List.cons_append, List.nil_append]
  after_results; rfl
theorem V_v5 : V m c main_v5 = transpose S128x4 [1, 0] (m ((c : Thread nD τ).loc main_arg4)) transposes_S4x128_S128x4_1_0 := by
  simp only [V, hostOps0, hostOps0_1, hostOps0_2, List.flatten_cons, List.flatten_nil, List.append_nil, List.cons_append, List.nil_append]
  after_results
theorem V_v6 : V m c main_v6 = shapeCast _ (m ((c : Thread nD τ).loc main_arg1)) shapeCasts_S256_S1x256 := by
  simp only [V, hostOps0, hostOps0_1, hostOps0_2, List.flatten_cons, List.flatten_nil, List.append_nil, List.cons_append, List.nil_append]
  after_results; rfl
theorem V_v7 : V m c main_v7 = shapeCast _ (m ((c : Thread nD τ).loc main_arg2)) shapeCasts_S256_S1x256 := by
  simp only [V, hostOps0, hostOps0_1, hostOps0_2, List.flatten_cons, List.flatten_nil, List.append_nil, List.cons_append, List.nil_append]
  after_results; rfl

theorem tri_word : ∀ t s : Fin 128, Scalar.cmpi .sge (IntOp.addi (BitVec.ofNat 32 t.val) 0#32) (BitVec.ofNat 32 s.val)
    = if s ≤ t then 1#1 else 0#1 := by decide +kernel

/-- The masked weights: zero above the diagonal. -/
theorem masked_apply (w : S4x128x128.Idx → ℝ) (g : Fin 4) (t s : Fin 128) :
    masked (fun i => (w i : EReal)) (ix3 g t s) = (((if s ≤ t then w (ix3 g t s) else 0) : ℝ) : EReal) := by
  pointwise [masked, tri]
  have e : IntOp.cmpi .sge (IntOp.addi (BitVec.ofNat 32 t.val) 0#32) (BitVec.ofNat 32 s.val) = if s ≤ t then 1#1 else 0#1 := tri_word t s
  rw [e]
  split_ifs
  · rfl
  · exact EReal.coe_zero.symm

end Host

variable (m : (ℓ : Loc nD τ sig) → Buf (Elt Ideal) ℓ) (c : Dev nD)

theorem hN : cfg0.N = 16 := N_0

/-- Row `p` of block `t`; chunk `k` of block `t`; row `p` of chunk `q`. -/
abbrev brow (t : Fin cfg0.N) (p : Fin 512) : Fin 8192 := ⟨512 * t.val + p.val, by have := t.isLt.trans_eq hN; omega⟩
abbrev chunk (t : Fin cfg0.N) (k : Fin 4) : Fin 64 := ⟨4 * t.val + k.val, by have := t.isLt.trans_eq hN; omega⟩
abbrev grow (q : Fin 64) (p : Fin 128) : Fin 8192 := ⟨128 * q.val + p.val, by omega⟩

/-! ## What a point reads -/

theorem at0 : ∀ t : Fin cfg0.N, win0_0.index t 0 = t.val ∧ win0_0.index t 1 = 0 := (by decide +kernel : ∀ t : Fin grid0.N, win0_0.index t 0 = t.val ∧ win0_0.index t 1 = 0)
theorem at1 : ∀ t : Fin cfg0.N, win0_1.index t 0 = 0 ∧ win0_1.index t 1 = 0 := (by decide +kernel : ∀ t : Fin grid0.N, win0_1.index t 0 = 0 ∧ win0_1.index t 1 = 0)
theorem at2 : ∀ t : Fin cfg0.N, win0_2.index t 0 = 0 ∧ win0_2.index t 1 = 0 := (by decide +kernel : ∀ t : Fin grid0.N, win0_2.index t 0 = 0 ∧ win0_2.index t 1 = 0)
theorem at3 : ∀ t : Fin cfg0.N, win0_3.index t 0 = 0 ∧ win0_3.index t 1 = 0 ∧ win0_3.index t 2 = 0 := (by decide +kernel : ∀ t : Fin grid0.N, win0_3.index t 0 = 0 ∧ win0_3.index t 1 = 0 ∧ win0_3.index t 2 = 0)
theorem at4 : ∀ t : Fin cfg0.N, win0_4.index t 0 = 0 ∧ win0_4.index t 1 = 0 := (by decide +kernel : ∀ t : Fin grid0.N, win0_4.index t 0 = 0 ∧ win0_4.index t 1 = 0)
theorem at5 : ∀ t : Fin cfg0.N, win0_5.index t 0 = t.val ∧ win0_5.index t 1 = 0 := (by decide +kernel : ∀ t : Fin grid0.N, win0_5.index t 0 = t.val ∧ win0_5.index t 1 = 0)
theorem at6 : ∀ t : Fin cfg0.N, win0_6.index t 0 = t.val ∧ win0_6.index t 1 = 0 := (by decide +kernel : ∀ t : Fin grid0.N, win0_6.index t 0 = t.val ∧ win0_6.index t 1 = 0)
theorem at7 : ∀ t : Fin cfg0.N, win0_7.index t 0 = 0 ∧ win0_7.index t 1 = 0 := (by decide +kernel : ∀ t : Fin grid0.N, win0_7.index t 0 = 0 ∧ win0_7.index t 1 = 0)
theorem at8 : ∀ t : Fin cfg0.N, win0_8.index t 0 = 0 ∧ win0_8.index t 1 = 0 := (by decide +kernel : ∀ t : Fin grid0.N, win0_8.index t 0 = 0 ∧ win0_8.index t 1 = 0)
theorem at9 : ∀ t : Fin cfg0.N, win0_9.index t 0 = 0 ∧ win0_9.index t 1 = 0 ∧ win0_9.index t 2 = 0 := (by decide +kernel : ∀ t : Fin grid0.N, win0_9.index t 0 = 0 ∧ win0_9.index t 1 = 0 ∧ win0_9.index t 2 = 0)
theorem at10 : ∀ t : Fin cfg0.N, win0_10.index t 0 = 0 ∧ win0_10.index t 1 = 0 := (by decide +kernel : ∀ t : Fin grid0.N, win0_10.index t 0 = 0 ∧ win0_10.index t 1 = 0)

theorem read0 (t : Fin cfg0.N) (i : S512x512.Idx) :
    iblk m c 0 t i = m ((c : Thread nD τ).loc main_arg0) (ix2 (brow t (i 0)) (i 1)) := by
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * t.val + (i 0).val; rw [(at0 t).1]; omega
  | ⟨1, _⟩ => show win0_0.index t 1 * 512 + 1 * (i 1).val = (i 1).val; rw [(at0 t).2]; omega

theorem read5 (t : Fin cfg0.N) (i : S512x256.Idx) :
    iblk m c 5 t i = m ((c : Thread nD τ).loc main_arg5) (ix2 (brow t (i 0)) (i 1)) := by
  rw [← V_main_arg5 m c]; unfold iblk; rw [View.read_apply]
  show V m c main_arg5 _ = V m c main_arg5 _
  congr 1; funext b; apply Fin.ext
  match b with
  | ⟨0, _⟩ => show win0_5.index t 0 * 512 + 1 * (i 0).val = 512 * t.val + (i 0).val; rw [(at5 t).1]; omega
  | ⟨1, _⟩ => show win0_5.index t 1 * 256 + 1 * (i 1).val = (i 1).val; rw [(at5 t).2]; omega

theorem read1 (t : Fin cfg0.N) (i : S1x256.Idx) : iblk m c 1 t i = m ((c : Thread nD τ).loc main_arg1) (ix1 (i 1)) := by
  unfold iblk; rw [View.read_apply]
  have h0 : (i 0).val = 0 := by have : (i 0).val < 1 := (i 0).isLt; omega
  show V m c main_v6 _ = _
  rw [V_v6]
  refine shapeCast_apply _ shapeCasts_S256_S1x256 _ (ix1 (i 1)) ?_
  rewrite [Shape.rowMajor_val_one, Shape.rowMajor_val_two]
  show (i 1).val = (win0_1.index t 0 * 1 + 1 * (i 0).val) * 256 + (win0_1.index t 1 * 256 + 1 * (i 1).val)
  rw [(at1 t).1, (at1 t).2]; omega

theorem read2 (t : Fin cfg0.N) (i : S1x256.Idx) : iblk m c 2 t i = m ((c : Thread nD τ).loc main_arg2) (ix1 (i 1)) := by
  unfold iblk; rw [View.read_apply]
  have h0 : (i 0).val = 0 := by have : (i 0).val < 1 := (i 0).isLt; omega
  show V m c main_v7 _ = _
  rw [V_v7]
  refine shapeCast_apply _ shapeCasts_S256_S1x256 _ (ix1 (i 1)) ?_
  rewrite [Shape.rowMajor_val_one, Shape.rowMajor_val_two]
  show (i 1).val = (win0_2.index t 0 * 1 + 1 * (i 0).val) * 256 + (win0_2.index t 1 * 256 + 1 * (i 1).val)
  rw [(at2 t).1, (at2 t).2]; omega

theorem read3 (t : Fin cfg0.N) (i : S4x128x128.Idx) : iblk m c 3 t i = masked (m ((c : Thread nD τ).loc main_arg3)) i := by
  unfold iblk; rw [View.read_apply]
  show V m c main_v4 _ = _
  rw [V_v4]
  congr 1; funext b; apply Fin.ext
  match b with
  | ⟨0, _⟩ => show win0_3.index t 0 * 4 + 1 * (i 0).val = (i 0).val; rw [(at3 t).1]; omega
  | ⟨1, _⟩ => show win0_3.index t 1 * 128 + 1 * (i 1).val = (i 1).val; rw [(at3 t).2.1]; omega
  | ⟨2, _⟩ => show win0_3.index t 2 * 128 + 1 * (i 2).val = (i 2).val; rw [(at3 t).2.2]; omega

theorem read4 (t : Fin cfg0.N) (i : S128x4.Idx) : iblk m c 4 t i = m ((c : Thread nD τ).loc main_arg4) (ix2 (i 1) (i 0)) := by
  unfold iblk; rw [View.read_apply]
  show V m c main_v5 _ = _
  rw [V_v5]
  show m ((c : Thread nD τ).loc main_arg4) _ = _
  congr 1; funext b; apply Fin.ext
  match b with
  | ⟨0, _⟩ => show win0_4.index t 1 * 4 + 1 * (i 1).val = (i 1).val; rw [(at4 t).2]; omega
  | ⟨1, _⟩ => show win0_4.index t 0 * 128 + 1 * (i 0).val = (i 0).val; rw [(at4 t).1]; omega

/-! ## For arguments of reals -/

/-- The arguments are arrays of reals: `z`, the scale and the shift, the mixing and its shift, the incoming gradient. -/
structure Args (Z : S8192x512.Idx → ℝ) (G H : S256.Idx → ℝ) (W : S4x128x128.Idx → ℝ) (B : S4x128.Idx → ℝ)
    (Y : S8192x256.Idx → ℝ) : Prop where
  a0 : m ((c : Thread nD τ).loc main_arg0) = fun i => (Z i : EReal)
  a1 : m ((c : Thread nD τ).loc main_arg1) = fun i => (G i : EReal)
  a2 : m ((c : Thread nD τ).loc main_arg2) = fun i => (H i : EReal)
  a3 : m ((c : Thread nD τ).loc main_arg3) = fun i => (W i : EReal)
  a4 : m ((c : Thread nD τ).loc main_arg4) = fun i => (B i : EReal)
  a5 : m ((c : Thread nD τ).loc main_arg5) = fun i => (Y i : EReal)

variable (Z : S8192x512.Idx → ℝ) (G H : S256.Idx → ℝ) (W : S4x128x128.Idx → ℝ) (B : S4x128.Idx → ℝ) (Y : S8192x256.Idx → ℝ)

/-- Chunk `q`; the scale or the shift; the masked mixing and its shift. -/
abbrev gZ (q : Fin 64) (t : Fin 128) (j : Fin 512) : ℝ := Z (ix2 (grow q t) j)
abbrev gY (q : Fin 64) (t : Fin 128) (j : Fin 256) : ℝ := Y (ix2 (grow q t) j)
abbrev gV (X : S256.Idx → ℝ) (j : Fin 256) : ℝ := X (ix1 j)
abbrev gW (g : Fin 4) (t s : Fin 128) : ℝ := if s ≤ t then W (ix3 g t s) else 0
abbrev gB (g : Fin 4) (t : Fin 128) : ℝ := B (ix2 g t)

/-- The gradient of `z`: each half of a row by its own formula. -/
def DZ (p : Fin 8192) (j : Fin 512) : ℝ :=
  if h : j.val < 256 then
    dZu (gZ Z ⟨p.val / 128, by omega⟩) (gV G) (gV H) (gW W) (gB B) (gY Y ⟨p.val / 128, by omega⟩) ⟨p.val % 128, by omega⟩ ⟨j.val, h⟩
  else
    dZv (gZ Z ⟨p.val / 128, by omega⟩) (gV G) (gW W) (gY Y ⟨p.val / 128, by omega⟩) ⟨p.val % 128, by omega⟩ ⟨j.val - 256, by omega⟩

/-- A chunk's parts of the other gradients. -/
def partG (q : Fin 64) (j : Fin 256) : ℝ := pG (gZ Z q) (gW W) (gY Y q) j
def partB (q : Fin 64) (j : Fin 256) : ℝ := pB (gZ Z q) (gW W) (gY Y q) j
def partW (q : Fin 64) (g : Fin 4) (t s : Fin 128) : ℝ := pW (gZ Z q) (gV G) (gV H) (gY Y q) g t s
def partT (q : Fin 64) (g : Fin 4) (t : Fin 128) : ℝ := pT (gZ Z q) (gY Y q) g t

/-- The blocks of point `t`. -/
def bZ (t : Fin cfg0.N) : S512x512.Idx → ℝ := fun i => Z (ix2 (brow t (i 0)) (i 1))
def bV (X : S256.Idx → ℝ) : S1x256.Idx → ℝ := fun i => X (ix1 (i 1))
def bW : S4x128x128.Idx → ℝ := fun i => gW W (i 0) (i 1) (i 2)
def bB : S128x4.Idx → ℝ := fun i => B (ix2 (i 1) (i 0))
def bY (t : Fin cfg0.N) : S512x256.Idx → ℝ := fun i => Y (ix2 (brow t (i 0)) (i 1))

/-- A block's chunks are the array's. -/
theorem zk_eq (t : Fin cfg0.N) (k : Fin 4) : zk (bZ Z t) k = gZ Z (chunk t k) := by
  funext p j
  show Z _ = Z _
  congr 1; funext b; apply Fin.ext
  match b with
  | ⟨0, _⟩ => show 512 * t.val + (128 * k.val + p.val) = 128 * (4 * t.val + k.val) + p.val; omega
  | ⟨1, _⟩ => rfl
theorem yk_eq (t : Fin cfg0.N) (k : Fin 4) : yk (bY Y t) k = gY Y (chunk t k) := by
  funext p j
  show Y _ = Y _
  congr 1; funext b; apply Fin.ext
  match b with
  | ⟨0, _⟩ => show 512 * t.val + (128 * k.val + p.val) = 128 * (4 * t.val + k.val) + p.val; omega
  | ⟨1, _⟩ => rfl

variable {m c Z G H W B Y}

theorem block0 (h : Args m c Z G H W B Y) (t : Fin cfg0.N) : iblk m c 0 t = up (bZ Z t) := funext fun i => by rw [read0, h.a0]; rfl
theorem block1 (h : Args m c Z G H W B Y) (t : Fin cfg0.N) : iblk m c 1 t = up (bV G) := funext fun i => by rw [read1, h.a1]; rfl
theorem block2 (h : Args m c Z G H W B Y) (t : Fin cfg0.N) : iblk m c 2 t = up (bV H) := funext fun i => by rw [read2, h.a2]; rfl
theorem block3 (h : Args m c Z G H W B Y) (t : Fin cfg0.N) : iblk m c 3 t = up (bW W) := funext fun i => by
  have hi : i = ix3 (i 0) (i 1) (i 2) := by funext b; match b with | ⟨0, _⟩ => rfl | ⟨1, _⟩ => rfl | ⟨2, _⟩ => rfl
  rw [read3, h.a3]
  exact (congrArg _ hi).trans (masked_apply W (i 0) (i 1) (i 2))
theorem block4 (h : Args m c Z G H W B Y) (t : Fin cfg0.N) : iblk m c 4 t = up (bB B) := funext fun i => by rw [read4, h.a4]; rfl
theorem block5 (h : Args m c Z G H W B Y) (t : Fin cfg0.N) : iblk m c 5 t = up (bY Y t) := funext fun i => by rw [read5, h.a5]; rfl

/-- The rows a point leaves in the first output are its rows of the gradient of `z`. -/
theorem rows_eq (t : Fin cfg0.N) (p : Fin 512) (j : Fin 512) :
    zBuf (F := Ideal) (up (bZ Z t)) (up (bV G)) (up (bV H)) (up (bW W)) (up (bB B)) (up (bY Y t)) (ix2 p j)
      = ((DZ Z G H W B Y (brow t p) j : ℝ) : EReal) := by
  have hp : p = row ⟨p.val / 128, by omega⟩ ⟨p.val % 128, by omega⟩ := Fin.ext (by show p.val = 128 * (p.val / 128) + p.val % 128; omega)
  have hq : (⟨(brow t p).val / 128, by have := (brow t p).isLt; omega⟩ : Fin 64) = chunk t ⟨p.val / 128, by omega⟩ :=
    Fin.ext (by show (512 * t.val + p.val) / 128 = 4 * t.val + p.val / 128; omega)
  have hr : (⟨(brow t p).val % 128, by omega⟩ : Fin 128) = ⟨p.val % 128, by omega⟩ :=
    Fin.ext (by show (512 * t.val + p.val) % 128 = p.val % 128; omega)
  unfold DZ
  rw [hq, hr]
  by_cases hj : j.val < 256
  · rw [dif_pos hj, ← zk_eq, ← yk_eq]
    have e : (ix2 p j : S512x512.Idx) = ix2 (row ⟨p.val / 128, by omega⟩ ⟨p.val % 128, by omega⟩) (lo ⟨j.val, hj⟩) := by rw [← hp]
    exact (congrArg _ e).trans (zBuf_lo (bZ Z t) (bV G) (bV H) (bW W) (bB B) (bY Y t) _ _ _)
  · rw [dif_neg hj, ← zk_eq, ← yk_eq]
    have ej : j = hi ⟨j.val - 256, by omega⟩ := Fin.ext (by show j.val = 256 + (j.val - 256); omega)
    have e : (ix2 p j : S512x512.Idx) = ix2 (row ⟨p.val / 128, by omega⟩ ⟨p.val % 128, by omega⟩) (hi ⟨j.val - 256, by omega⟩) := by
      rw [← hp, ← ej]
    exact (congrArg _ e).trans (zBuf_hi (bZ Z t) (bV G) (bV H) (bW W) (bB B) (bY Y t) _ _ _)

/-! ## The first output -/

theorem outs_fst (t : Fin cfg0.N) : (outsAt0 m c t.val t.isLt).1
    = zBuf (F := Ideal) (iblk m c 0 t) (iblk m c 1 t) (iblk m c 2 t) (iblk m c 3 t) (iblk m c 4 t) (iblk m c 5 t) := by
  by_cases h0 : t.val % 16 = 0
  · rw [outsAt0_A m c t h0]; dsimp only; rw [out_A_6]
  · rw [outsAt0_B m c t h0]; dsimp only; rw [out_B_6]

theorem final6 (h : Args m c Z G H W B Y) :
    (dats m 0 c).arrAt 6 cfg0.N = fun i => ((DZ Z G H W B Y (i 0) (i 1) : ℝ) : EReal) := by
  refine (dats m 0 c).arrAt_eq_of_cover 6 _ (fun t _ => ?_) fun i => ?_
  · rw [Value.flushed6, outs_fst, block0 h, block1 h, block2 h, block3 h, block4 h, block5 h]
    funext j
    have hj : j = ix2 (j 0) (j 1) := by funext b; match b with | ⟨0, _⟩ => rfl | ⟨1, _⟩ => rfl
    rw [View.read_apply]
    refine (congrArg _ hj).trans ((rows_eq t (j 0) (j 1)).trans ?_)
    show _ = (((DZ Z G H W B Y _ _ : ℝ) : EReal))
    congr 2 <;> apply Fin.ext
    · show 512 * t.val + (j 0).val = win0_6.index t 0 * 512 + 1 * (j 0).val; rw [(at6 t).1]; omega
    · show (j 1).val = win0_6.index t 1 * 512 + 1 * (j 1).val; rw [(at6 t).2]; omega
  · have h0 : (i 0 : Nat) < 8192 := (i 0).isLt
    have h1 : (i 1 : Nat) < 512 := (i 1).isLt
    have ht : (i 0 : Nat) / 512 < cfg0.N := by have := hN; omega
    refine ⟨⟨(i 0 : Nat) / 512, ht⟩, flush0_6 _, ?_⟩
    show i ∈ ((View.whole main_v8_0).slice (win0_6.rect ⟨(i 0 : Nat) / 512, ht⟩)).set
    rw [View.set_slice_whole, Rect.mem_set_unit]
    intro b
    match b with
    | ⟨0, _⟩ =>
      show win0_6.index ⟨(i 0 : Nat) / 512, ht⟩ 0 * 512 ≤ (i 0 : Nat)
        ∧ (i 0 : Nat) < win0_6.index ⟨(i 0 : Nat) / 512, ht⟩ 0 * 512 + 512
      rw [(at6 _).1]; dsimp only; omega
    | ⟨1, _⟩ =>
      show win0_6.index ⟨(i 0 : Nat) / 512, ht⟩ 1 * 512 ≤ (i 1 : Nat)
        ∧ (i 1 : Nat) < win0_6.index ⟨(i 0 : Nat) / 512, ht⟩ 1 * 512 + 512
      rw [(at6 _).2]; omega

/-! ## The sums over the chunks -/

/-- The chunks of the points up to `n`. -/
abbrev upTo (n : ℕ) (hn : n < cfg0.N) (f : Fin 64 → ℝ) : ℝ :=
  ∑ t : Fin (n + 1), ∑ k : Fin 4, f (chunk ⟨t.val, lt_of_le_of_lt (Nat.le_of_lt_succ t.isLt) hn⟩ k)

theorem upTo_zero (hn : 0 < cfg0.N) (f : Fin 64 → ℝ) : upTo 0 hn f = 0 + ∑ k, f (chunk ⟨0, hn⟩ k) := by
  exact (Fin.sum_univ_one _).trans (zero_add _).symm
theorem upTo_succ (n : ℕ) (hn : n + 1 < cfg0.N) (f : Fin 64 → ℝ) :
    upTo (n + 1) hn f = upTo n (Nat.lt_of_succ_lt hn) f + ∑ k, f (chunk ⟨n + 1, hn⟩ k) := by
  unfold upTo; rw [Fin.sum_univ_castSucc (n := n + 1)]; rfl
theorem upTo_all (h15 : 15 < cfg0.N) (f : Fin 64 → ℝ) : upTo 15 h15 f = ∑ q, f q := by
  unfold upTo
  rw [← Fintype.sum_prod_type' (fun (t : Fin 16) (k : Fin 4) => f (chunk ⟨t.val, lt_of_le_of_lt (Nat.le_of_lt_succ t.isLt) h15⟩ k))]
  refine Fintype.sum_equiv (finProdFinEquiv (m := 16) (n := 4)) _ _ fun x => congrArg f (Fin.ext ?_)
  show 4 * x.1.val + x.2.val = x.2.val + 4 * x.1.val
  omega

/-! ## Output 7 -/

/-- What a point leaves there: what was held and its chunks' parts. -/
theorem step7 (t : Fin cfg0.N) (O : S1x256.Idx → ℝ) :
    gAcc (F := Ideal) (up (bZ Z t)) (up (bW W)) (up (bY Y t)) (up O)
      = up (fun i => O i + ∑ k, (fun q => partG Z W Y q (i 1)) (chunk t k)) := by
  funext i
  have hi : i = ix2 0 (i 1) := by funext b; match b with | ⟨0, _⟩ => exact Subsingleton.elim (α := Fin 1) _ _ | ⟨1, _⟩ => rfl
  rw [hi]
  refine (g_apply (bZ Z t) (bW W) (bY Y t) (up O) (O (ix2 0 (i 1))) (i 1) rfl).trans ?_
  simp only [zk_eq, yk_eq]
  rfl

theorem zero7 : k0_pay1 (F := Ideal) = up (fun _ => 0) := by
  funext i
  show Ideal.ofBits .f32 0x00000000#32 = _
  exact lit_zero

theorem outs7 (h : Args m c Z G H W B Y) : ∀ (n : ℕ) (hn : n < cfg0.N), (outsAt0 m c n hn).2.1
    = up (fun i => upTo n hn (fun q => partG Z W Y q (i 1)))
  | 0, hn => by
    rw [show outsAt0 m c 0 hn = _ from outsAt0_A m c ⟨0, hn⟩ rfl]
    dsimp only
    rw [out_A_7, block0 h, block3 h, block5 h, zero7, step7]
    funext i
    exact congrArg _ (upTo_zero hn (fun q => partG Z W Y q (i 1))).symm
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_7, show outsAt0 m c (n + 1 - 1) _ = outsAt0 m c n (Nat.lt_of_succ_lt hn) from rfl, outs7 h n, block0 h, block3 h, block5 h, step7]
    funext i
    exact congrArg _ (upTo_succ n hn (fun q => partG Z W Y q (i 1))).symm

theorem final7 (h : Args m c Z G H W B Y) :
    (dats m 0 c).arrAt 7 cfg0.N = fun i => (((∑ q, partG Z W Y q (i 1)) : ℝ) : EReal) := by
  have h15 : 15 < cfg0.N := by have := hN; omega
  refine (dats m 0 c).arrAt_eq_of_cover 7 _ (fun t ht => ?_) fun i => ⟨⟨15, h15⟩, (flush0_7 _).mpr rfl, ?_⟩
  · have h3 : t.val = 15 := by have := (flush0_7 t).mp ht; have := t.isLt.trans_eq hN; omega
    obtain rfl : t = ⟨15, h15⟩ := Fin.ext h3
    rw [Value.flushed7, outs7 h]
    funext i
    rw [View.read_apply]
    refine (congrArg (fun x : ℝ => (x : EReal)) (upTo_all h15 (fun q => partG Z W Y q (i 1)))).trans ?_
    have e : ((cfg0.win 7).blk ⟨15, h15⟩).view.emb i = i := by
      funext b; apply Fin.ext
      match b with
      | ⟨0, _⟩ => show win0_7.index ⟨15, h15⟩ 0 * 1 + 1 * (i 0).val = (i 0).val; rw [(at7 _).1]; omega
      | ⟨1, _⟩ => show win0_7.index ⟨15, h15⟩ 1 * 256 + 1 * (i 1).val = (i 1).val; rw [(at7 _).2]; omega
    rw [e]; rfl
  · show i ∈ ((View.whole main_v8_1).slice (win0_7.rect ⟨15, h15⟩)).set
    rw [View.set_slice_whole, Rect.mem_set_unit]
    intro b
    match b with
    | ⟨0, _⟩ =>
      show win0_7.index ⟨15, h15⟩ 0 * 1 ≤ (i 0 : Nat) ∧ (i 0 : Nat) < win0_7.index ⟨15, h15⟩ 0 * 1 + 1
      have h0 : (i 0 : Nat) < 1 := (i 0).isLt
      rw [(at7 _).1]; omega
    | ⟨1, _⟩ =>
      show win0_7.index ⟨15, h15⟩ 1 * 256 ≤ (i 1 : Nat) ∧ (i 1 : Nat) < win0_7.index ⟨15, h15⟩ 1 * 256 + 256
      have h0 : (i 1 : Nat) < 256 := (i 1).isLt
      rw [(at7 _).2]; omega

/-! ## Output 8 -/

/-- What a point leaves there: what was held and its chunks' parts. -/
theorem step8 (t : Fin cfg0.N) (O : S1x256.Idx → ℝ) :
    bAcc (F := Ideal) (up (bZ Z t)) (up (bW W)) (up (bY Y t)) (up O)
      = up (fun i => O i + ∑ k, (fun q => partB Z W Y q (i 1)) (chunk t k)) := by
  funext i
  have hi : i = ix2 0 (i 1) := by funext b; match b with | ⟨0, _⟩ => exact Subsingleton.elim (α := Fin 1) _ _ | ⟨1, _⟩ => rfl
  rw [hi]
  refine (b_apply (bZ Z t) (bW W) (bY Y t) (up O) (O (ix2 0 (i 1))) (i 1) rfl).trans ?_
  simp only [zk_eq, yk_eq]
  rfl

theorem zero8 : k0_pay2 (F := Ideal) = up (fun _ => 0) := by
  funext i
  show Ideal.ofBits .f32 0x00000000#32 = _
  exact lit_zero

theorem outs8 (h : Args m c Z G H W B Y) : ∀ (n : ℕ) (hn : n < cfg0.N), (outsAt0 m c n hn).2.2.1
    = up (fun i => upTo n hn (fun q => partB Z W Y q (i 1)))
  | 0, hn => by
    rw [show outsAt0 m c 0 hn = _ from outsAt0_A m c ⟨0, hn⟩ rfl]
    dsimp only
    rw [out_A_8, block0 h, block3 h, block5 h, zero8, step8]
    funext i
    exact congrArg _ (upTo_zero hn (fun q => partB Z W Y q (i 1))).symm
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_8, show outsAt0 m c (n + 1 - 1) _ = outsAt0 m c n (Nat.lt_of_succ_lt hn) from rfl, outs8 h n, block0 h, block3 h, block5 h, step8]
    funext i
    exact congrArg _ (upTo_succ n hn (fun q => partB Z W Y q (i 1))).symm

theorem final8 (h : Args m c Z G H W B Y) :
    (dats m 0 c).arrAt 8 cfg0.N = fun i => (((∑ q, partB Z W Y q (i 1)) : ℝ) : EReal) := by
  have h15 : 15 < cfg0.N := by have := hN; omega
  refine (dats m 0 c).arrAt_eq_of_cover 8 _ (fun t ht => ?_) fun i => ⟨⟨15, h15⟩, (flush0_8 _).mpr rfl, ?_⟩
  · have h3 : t.val = 15 := by have := (flush0_8 t).mp ht; have := t.isLt.trans_eq hN; omega
    obtain rfl : t = ⟨15, h15⟩ := Fin.ext h3
    rw [Value.flushed8, outs8 h]
    funext i
    rw [View.read_apply]
    refine (congrArg (fun x : ℝ => (x : EReal)) (upTo_all h15 (fun q => partB Z W Y q (i 1)))).trans ?_
    have e : ((cfg0.win 8).blk ⟨15, h15⟩).view.emb i = i := by
      funext b; apply Fin.ext
      match b with
      | ⟨0, _⟩ => show win0_8.index ⟨15, h15⟩ 0 * 1 + 1 * (i 0).val = (i 0).val; rw [(at8 _).1]; omega
      | ⟨1, _⟩ => show win0_8.index ⟨15, h15⟩ 1 * 256 + 1 * (i 1).val = (i 1).val; rw [(at8 _).2]; omega
    rw [e]; rfl
  · show i ∈ ((View.whole main_v8_2).slice (win0_8.rect ⟨15, h15⟩)).set
    rw [View.set_slice_whole, Rect.mem_set_unit]
    intro b
    match b with
    | ⟨0, _⟩ =>
      show win0_8.index ⟨15, h15⟩ 0 * 1 ≤ (i 0 : Nat) ∧ (i 0 : Nat) < win0_8.index ⟨15, h15⟩ 0 * 1 + 1
      have h0 : (i 0 : Nat) < 1 := (i 0).isLt
      rw [(at8 _).1]; omega
    | ⟨1, _⟩ =>
      show win0_8.index ⟨15, h15⟩ 1 * 256 ≤ (i 1 : Nat) ∧ (i 1 : Nat) < win0_8.index ⟨15, h15⟩ 1 * 256 + 256
      have h0 : (i 1 : Nat) < 256 := (i 1).isLt
      rw [(at8 _).2]; omega

/-! ## Output 9 -/

/-- What a point leaves there: what was held and its chunks' parts. -/
theorem step9 (t : Fin cfg0.N) (O : S4x128x128.Idx → ℝ) :
    wBuf (F := Ideal) (up (bZ Z t)) (up (bV G)) (up (bV H)) (up (bY Y t)) (up O)
      = up (fun i => O i + ∑ k, (fun q => partW Z G H Y q (i 0) (i 1) (i 2)) (chunk t k)) := by
  funext i
  have hi : i = ix3 (i 0) (i 1) (i 2) := by funext b; match b with | ⟨0, _⟩ => rfl | ⟨1, _⟩ => rfl | ⟨2, _⟩ => rfl
  rw [hi]
  refine (wBuf_apply (bZ Z t) (bV G) (bV H) (bY Y t) (up O) (O (ix3 (i 0) (i 1) (i 2))) (i 0) (i 1) (i 2) rfl).trans ?_
  simp only [zk_eq, yk_eq]
  rfl

theorem zero9 : k0_pay3 (F := Ideal) = up (fun _ => 0) := by
  funext i
  show Ideal.ofBits .f32 0x00000000#32 = _
  exact lit_zero

theorem outs9 (h : Args m c Z G H W B Y) : ∀ (n : ℕ) (hn : n < cfg0.N), (outsAt0 m c n hn).2.2.2.1
    = up (fun i => upTo n hn (fun q => partW Z G H Y q (i 0) (i 1) (i 2)))
  | 0, hn => by
    rw [show outsAt0 m c 0 hn = _ from outsAt0_A m c ⟨0, hn⟩ rfl]
    dsimp only
    rw [out_A_9, block0 h, block1 h, block2 h, block5 h, zero9, step9]
    funext i
    exact congrArg _ (upTo_zero hn (fun q => partW Z G H Y q (i 0) (i 1) (i 2))).symm
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_9, show outsAt0 m c (n + 1 - 1) _ = outsAt0 m c n (Nat.lt_of_succ_lt hn) from rfl, outs9 h n, block0 h, block1 h, block2 h, block5 h, step9]
    funext i
    exact congrArg _ (upTo_succ n hn (fun q => partW Z G H Y q (i 0) (i 1) (i 2))).symm

theorem final9 (h : Args m c Z G H W B Y) :
    (dats m 0 c).arrAt 9 cfg0.N = fun i => (((∑ q, partW Z G H Y q (i 0) (i 1) (i 2)) : ℝ) : EReal) := by
  have h15 : 15 < cfg0.N := by have := hN; omega
  refine (dats m 0 c).arrAt_eq_of_cover 9 _ (fun t ht => ?_) fun i => ⟨⟨15, h15⟩, (flush0_9 _).mpr rfl, ?_⟩
  · have h3 : t.val = 15 := by have := (flush0_9 t).mp ht; have := t.isLt.trans_eq hN; omega
    obtain rfl : t = ⟨15, h15⟩ := Fin.ext h3
    rw [Value.flushed9, outs9 h]
    funext i
    rw [View.read_apply]
    refine (congrArg (fun x : ℝ => (x : EReal)) (upTo_all h15 (fun q => partW Z G H Y q (i 0) (i 1) (i 2)))).trans ?_
    have e : ((cfg0.win 9).blk ⟨15, h15⟩).view.emb i = i := by
      funext b; apply Fin.ext
      match b with
      | ⟨0, _⟩ => show win0_9.index ⟨15, h15⟩ 0 * 4 + 1 * (i 0).val = (i 0).val; rw [(at9 _).1]; omega
      | ⟨1, _⟩ => show win0_9.index ⟨15, h15⟩ 1 * 128 + 1 * (i 1).val = (i 1).val; rw [(at9 _).2.1]; omega
      | ⟨2, _⟩ => show win0_9.index ⟨15, h15⟩ 2 * 128 + 1 * (i 2).val = (i 2).val; rw [(at9 _).2.2]; omega
    rw [e]; rfl
  · show i ∈ ((View.whole main_v8_3).slice (win0_9.rect ⟨15, h15⟩)).set
    rw [View.set_slice_whole, Rect.mem_set_unit]
    intro b
    match b with
    | ⟨0, _⟩ =>
      show win0_9.index ⟨15, h15⟩ 0 * 4 ≤ (i 0 : Nat) ∧ (i 0 : Nat) < win0_9.index ⟨15, h15⟩ 0 * 4 + 4
      have h0 : (i 0 : Nat) < 4 := (i 0).isLt
      rw [(at9 _).1]; omega
    | ⟨1, _⟩ =>
      show win0_9.index ⟨15, h15⟩ 1 * 128 ≤ (i 1 : Nat) ∧ (i 1 : Nat) < win0_9.index ⟨15, h15⟩ 1 * 128 + 128
      have h0 : (i 1 : Nat) < 128 := (i 1).isLt
      rw [(at9 _).2.1]; omega
    | ⟨2, _⟩ =>
      show win0_9.index ⟨15, h15⟩ 2 * 128 ≤ (i 2 : Nat) ∧ (i 2 : Nat) < win0_9.index ⟨15, h15⟩ 2 * 128 + 128
      have h0 : (i 2 : Nat) < 128 := (i 2).isLt
      rw [(at9 _).2.2]; omega

/-! ## Output 10 -/

/-- What a point leaves there: what was held and its chunks' parts. -/
theorem step10 (t : Fin cfg0.N) (O : S128x4.Idx → ℝ) :
    tBuf (F := Ideal) (up (bZ Z t)) (up (bY Y t)) (up O)
      = up (fun i => O i + ∑ k, (fun q => partT Z Y q (i 1) (i 0)) (chunk t k)) := by
  funext i
  have hi : i = ix2 (i 0) (i 1) := by funext b; match b with | ⟨0, _⟩ => rfl | ⟨1, _⟩ => rfl
  rw [hi]
  refine (tBuf_apply (bZ Z t) (bY Y t) (up O) (O (ix2 (i 0) (i 1))) (i 1) (i 0) rfl).trans ?_
  simp only [zk_eq, yk_eq]
  rfl

theorem zero10 : k0_pay4 (F := Ideal) = up (fun _ => 0) := by
  funext i
  show Ideal.ofBits .f32 0x00000000#32 = _
  exact lit_zero

theorem outs10 (h : Args m c Z G H W B Y) : ∀ (n : ℕ) (hn : n < cfg0.N), (outsAt0 m c n hn).2.2.2.2
    = up (fun i => upTo n hn (fun q => partT Z Y q (i 1) (i 0)))
  | 0, hn => by
    rw [show outsAt0 m c 0 hn = _ from outsAt0_A m c ⟨0, hn⟩ rfl]
    dsimp only
    rw [out_A_10, block0 h, block5 h, zero10, step10]
    funext i
    exact congrArg _ (upTo_zero hn (fun q => partT Z Y q (i 1) (i 0))).symm
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_10, show outsAt0 m c (n + 1 - 1) _ = outsAt0 m c n (Nat.lt_of_succ_lt hn) from rfl, outs10 h n, block0 h, block5 h, step10]
    funext i
    exact congrArg _ (upTo_succ n hn (fun q => partT Z Y q (i 1) (i 0))).symm

theorem final10 (h : Args m c Z G H W B Y) :
    (dats m 0 c).arrAt 10 cfg0.N = fun i => (((∑ q, partT Z Y q (i 1) (i 0)) : ℝ) : EReal) := by
  have h15 : 15 < cfg0.N := by have := hN; omega
  refine (dats m 0 c).arrAt_eq_of_cover 10 _ (fun t ht => ?_) fun i => ⟨⟨15, h15⟩, (flush0_10 _).mpr rfl, ?_⟩
  · have h3 : t.val = 15 := by have := (flush0_10 t).mp ht; have := t.isLt.trans_eq hN; omega
    obtain rfl : t = ⟨15, h15⟩ := Fin.ext h3
    rw [Value.flushed10, outs10 h]
    funext i
    rw [View.read_apply]
    refine (congrArg (fun x : ℝ => (x : EReal)) (upTo_all h15 (fun q => partT Z Y q (i 1) (i 0)))).trans ?_
    have e : ((cfg0.win 10).blk ⟨15, h15⟩).view.emb i = i := by
      funext b; apply Fin.ext
      match b with
      | ⟨0, _⟩ => show win0_10.index ⟨15, h15⟩ 0 * 128 + 1 * (i 0).val = (i 0).val; rw [(at10 _).1]; omega
      | ⟨1, _⟩ => show win0_10.index ⟨15, h15⟩ 1 * 4 + 1 * (i 1).val = (i 1).val; rw [(at10 _).2]; omega
    rw [e]; rfl
  · show i ∈ ((View.whole main_v8_4).slice (win0_10.rect ⟨15, h15⟩)).set
    rw [View.set_slice_whole, Rect.mem_set_unit]
    intro b
    match b with
    | ⟨0, _⟩ =>
      show win0_10.index ⟨15, h15⟩ 0 * 128 ≤ (i 0 : Nat) ∧ (i 0 : Nat) < win0_10.index ⟨15, h15⟩ 0 * 128 + 128
      have h0 : (i 0 : Nat) < 128 := (i 0).isLt
      rw [(at10 _).1]; omega
    | ⟨1, _⟩ =>
      show win0_10.index ⟨15, h15⟩ 1 * 4 ≤ (i 1 : Nat) ∧ (i 1 : Nat) < win0_10.index ⟨15, h15⟩ 1 * 4 + 4
      have h0 : (i 1 : Nat) < 4 := (i 1).isLt
      rw [(at10 _).2]; omega

end Cert.SguIdeal.Arrays

end
-- ==== Proof.SguRef.lean ====
/-
  THE REFERENCE of the spatial gating's gradient, read: each stage of the plain program at an index, for arguments of reals, as
  the formulas of `SguMath` over the arrays.
-/
module

public import proofs.«01_k».proof.Proof.HostSum
public import proofs.«01_k».proof.Proof.SguArray
public import proofs.«01_k».proof.Proof.Gen.SguRefIdeal.Run
public import proofs.«01_k».proof.Proof.Gen.SguRefIdeal.Read

@[expose] public section

set_option maxRecDepth 16384

noncomputable section

namespace Cert.SguRefIdeal.Reading

open Cert.SguRefIdeal Cert.SguRefIdeal.Gen Cert.SguRefIdeal.Read Cert.Reals Cert.SguMath
open Cert.SguIdeal.Arrays (gZ gY gV gW gB DZ partG partB partW partT grow)
open Cert.SguIdeal.Chunk (up lit_zero)
open Cert.SguIdeal.Stage (lit_C lit_A)
open Idealize.ShloMosaic Idealize.ShloMosaic.TcCoe Idealize.SL.Sem
open scoped BigOperators

theorem lit_64 : Ideal.ofBits .f32 0x42800000#32 = ((64 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num

variable (Z : S8192x512.Idx → ℝ) (G H : S256.Idx → ℝ) (W : S4x128x128.Idx → ℝ) (B : S4x128.Idx → ℝ) (Y : S8192x256.Idx → ℝ)

/-! ## The activation -/

theorem v11 (p : Fin 8192) (j : Fin 512) : val_main_v11 (F := Ideal) (up Z) (ix2 p j) = ((tn (Z (ix2 p j)) : ℝ) : EReal) := by
  pointwise [val_main_v11, val_main_v10, val_main_v9, val_main_v8, val_main_v7, val_main_v6, val_main_v2, val_main_v1,
    val_main_cst_0, val_main_cst_1]
  simp only [lit_C, lit_A, ← EReal.coe_mul, ← EReal.coe_add, tanh_coe]
  unfold tn; congr 2; ring

theorem v21 (p : Fin 8192) (j : Fin 512) : val_main_v21 (F := Ideal) (up Z) (ix2 p j) = ((gl (Z (ix2 p j)) : ℝ) : EReal) := by
  pointwise [val_main_v21, val_main_v20, val_main_v19, val_main_v18, val_main_v17, val_main_cst_4, val_main_cst_5]
  simp only [v11, lit_half, ← EReal.coe_one, ← EReal.coe_mul, ← EReal.coe_add]
  rfl

/-! ## The half that is mixed: its mean, deviation and normalised value, by chunk, position, group and channel of the group -/

theorem v24 (q : Fin 64) (t : Fin 128) (g : Fin 4) (e : Fin 64) :
    val_main_v24 (F := Ideal) (up Z) (ix4 q t g e) = ((cV (gZ Z q) t (pr g e) : ℝ) : EReal) := by
  pointwise [val_main_v24, val_main_v23]
  rw [v21]
  refine congrArg (fun i => ((gl (Z i) : ℝ) : EReal)) (congrArg₂ ix2 (Fin.ext ?_) (Fin.ext ?_))
  · show q.val * 128 + t.val = 128 * q.val + t.val; omega
  · show 256 + (g.val * 64 + e.val) = 256 + (64 * g.val + e.val); omega

theorem v28 (q : Fin 64) (t : Fin 128) (g : Fin 4) (o : Fin 1) :
    val_main_v28 (F := Ideal) (up Z) (ix4 q t g o) = ((gm (cV (gZ Z q) t) g : ℝ) : EReal) := by
  pointwise [val_main_v28, val_main_v27, val_main_v26, val_main_v25, val_main_cst_6, val_main_cst_7]
  simp only [v24, lit_64, lit_zero, coe_sum, ← EReal.coe_add, div_coe _ _ (by norm_num : (64 : ℝ) ≠ 0), zero_add]
  rfl

theorem v30 (q : Fin 64) (t : Fin 128) (g : Fin 4) (e : Fin 64) :
    val_main_v30 (F := Ideal) (up Z) (ix4 q t g e) = ((cen (cV (gZ Z q) t) (pr g e) : ℝ) : EReal) := by
  pointwise [val_main_v30, val_main_v29]
  simp only [v24, v28, ← EReal.coe_sub]
  unfold cen; rw [grp_pr]

theorem v39 (q : Fin 64) (t : Fin 128) (g : Fin 4) (e : Fin 64) :
    val_main_v39 (F := Ideal) (up Z) (ix4 q t g e) = ((cen (cV (gZ Z q) t) (pr g e) : ℝ) : EReal) := by
  pointwise [val_main_v39, val_main_v38]
  simp only [v24, v28, ← EReal.coe_sub]
  unfold cen; rw [grp_pr]

theorem v41 (q : Fin 64) (t : Fin 128) (g : Fin 4) (o : Fin 1) :
    val_main_v41 (F := Ideal) (up Z) (ix4 q t g o) = ((vr (cV (gZ Z q) t) g : ℝ) : EReal) := by
  pointwise [val_main_v41, val_main_v40, val_main_v37, val_main_v36, val_main_v35, val_main_v34, val_main_v31, val_main_cst_9,
    val_main_cst_10, val_main_cst_11]
  simp only [v30, lit_64, lit_eps, lit_zero, ← EReal.coe_mul, coe_sum, ← EReal.coe_add, div_coe _ _ (by norm_num : (64 : ℝ) ≠ 0),
    zero_add]
  rfl

theorem v42 (q : Fin 64) (t : Fin 128) (g : Fin 4) (o : Fin 1) :
    val_main_v42 (F := Ideal) (up Z) (ix4 q t g o) = ((rs (cV (gZ Z q) t) g : ℝ) : EReal) := by
  pointwise [val_main_v42]
  rw [v41, rsqrt_coe _ (vr_pos _ _)]
  rfl

theorem v45 (q : Fin 64) (t : Fin 128) (g : Fin 4) (o : Fin 1) :
    val_main_v45 (F := Ideal) (up Z) (ix4 q t g o)
      = ((-(1 / 2) * (rs (cV (gZ Z q) t) g / vr (cV (gZ Z q) t) g) : ℝ) : EReal) := by
  pointwise [val_main_v45, val_main_v44, val_main_v43, val_main_cst_12]
  rw [v41, v42, lit_neg_half, div_coe _ _ (vr_pos _ _).ne', ← EReal.coe_mul]

theorem v47 (q : Fin 64) (t : Fin 128) (g : Fin 4) (e : Fin 64) :
    val_main_v47 (F := Ideal) (up Z) (ix4 q t g e) = ((xh (cV (gZ Z q) t) (pr g e) : ℝ) : EReal) := by
  pointwise [val_main_v47, val_main_v46]
  simp only [v39, v42, ← EReal.coe_mul]
  unfold xh; rw [grp_pr]

theorem vec_apply (X : S256.Idx → ℝ) (g : Fin 4) (e : Fin 64) (h : g.val * 64 + e.val < 256) :
    X (ix1 ⟨g.val * 64 + e.val, h⟩) = gV X (pr g e) :=
  congrArg (fun i => X (ix1 i)) (Fin.ext (by show g.val * 64 + e.val = 64 * g.val + e.val; omega))

theorem v55 (q : Fin 64) (t : Fin 128) (g : Fin 4) (e : Fin 64) :
    val_main_v55 (F := Ideal) (up Z) (up G) (up H) (ix4 q t g e)
      = ((cN (gZ Z q) (gV G) (gV H) t (pr g e) : ℝ) : EReal) := by
  pointwise [val_main_v55, val_main_v54, val_main_v53, val_main_v52, val_main_v51, val_main_v50, val_main_v49, val_main_v48]
  simp only [v47, vec_apply, ← EReal.coe_mul, ← EReal.coe_add]
  rfl

/-! ## The mixing -/

theorem mask_word : ∀ t s : Fin 128, IntOp.cmpi CmpIPredicate.sge (IntOp.addi (BitVec.ofNat 32 t.val) 0#32) (BitVec.ofNat 32 s.val)
    = if s ≤ t then 1#1 else 0#1 := by decide +kernel

theorem v0 (g : Fin 4) (t s : Fin 128) :
    val_main_v0 (F := Ideal) (up W) (ix3 g t s) = ((gW W g t s : ℝ) : EReal) := by
  pointwise [val_main_v0, val_main_call0_v0, val_main_call0_c, val_main_call0_v1, val_main_call0_v2, val_main_call0_v3,
    val_main_call0_v4, val_main_call0_v5, val_main_call0_v6, val_main_call0_cst]
  rw [mask_word t s]
  by_cases h : s ≤ t
  · rw [if_pos h]; unfold gW; rw [if_pos h]; rfl
  · rw [if_neg h]; unfold gW; rw [if_neg h]; rfl

theorem v57 (q : Fin 64) (t : Fin 128) (g : Fin 4) (e : Fin 64) :
    val_main_v57 (F := Ideal) (up Z) (up G) (up H) (up W) (ix4 q t g e)
      = ((∑ s, gW W g t s * cN (gZ Z q) (gV G) (gV H) s (pr g e) : ℝ) : EReal) := by
  pointwise [val_main_v57, val_main_v56]
  simp only [v55, v0, ← EReal.coe_mul, coe_sum]
  simp only [mul_comm]

theorem v62 (q : Fin 64) (t : Fin 128) (g : Fin 4) (e : Fin 64) :
    val_main_v62 (F := Ideal) (up Z) (up G) (up H) (up W) (up B) (ix4 q t g e)
      = ((cM (gZ Z q) (gV G) (gV H) (gW W) (gB B) t (pr g e) : ℝ) : EReal) := by
  pointwise [val_main_v62, val_main_v61, val_main_v60, val_main_v59, val_main_v58]
  rw [v57, ← EReal.coe_add]
  unfold cM; rw [grp_pr]

theorem v63 (q : Fin 64) (t : Fin 128) (c : Fin 256) :
    val_main_v63 (F := Ideal) (up Z) (up G) (up H) (up W) (up B) (ix2 (grow q t) c)
      = ((cM (gZ Z q) (gV G) (gV H) (gW W) (gB B) t c : ℝ) : EReal) := by
  pointwise [val_main_v63]
  rw [show (⟨(128 * q.val + t.val) / 128, by omega⟩ : Fin 64) = q from Fin.ext (by show (128 * q.val + t.val) / 128 = q.val; omega),
    show (⟨(128 * q.val + t.val) % 128, by omega⟩ : Fin 128) = t from Fin.ext (by show (128 * q.val + t.val) % 128 = t.val; omega),
    v62, show pr ⟨c.val / 64, by omega⟩ ⟨c.val % 64, by omega⟩ = c from Fin.ext (by show 64 * (c.val / 64) + c.val % 64 = c.val; omega)]

theorem v65 (q : Fin 64) (t : Fin 128) (c : Fin 256) :
    val_main_v65 (F := Ideal) (up Z) (up Y) (ix2 (grow q t) c) = ((dM (gZ Z q) (gY Y q) t c : ℝ) : EReal) := by
  pointwise [val_main_v65, val_main_v22]
  rw [v21, ← EReal.coe_mul, mul_comm]
  rfl

theorem v67 (q : Fin 64) (t : Fin 128) (g : Fin 4) (e : Fin 64) :
    val_main_v67 (F := Ideal) (up Z) (up Y) (ix4 q t g e) = ((dM (gZ Z q) (gY Y q) t (pr g e) : ℝ) : EReal) := by
  pointwise [val_main_v67]
  refine Eq.trans (congrArg _ (congrArg₂ ix2 (Fin.ext ?_) (Fin.ext ?_))) (v65 Z Y q t (pr g e))
  · show q.val * 128 + t.val = 128 * q.val + t.val; omega
  · show g.val * 64 + e.val = 64 * g.val + e.val; omega

theorem v77 (q : Fin 64) (s : Fin 128) (g : Fin 4) (e : Fin 64) :
    val_main_v77 (F := Ideal) (up Z) (up W) (up Y) (ix4 q s g e)
      = ((dN (gZ Z q) (gW W) (gY Y q) s (pr g e) : ℝ) : EReal) := by
  pointwise [val_main_v77, val_main_v76, val_main_v74]
  simp only [v67, v0, ← EReal.coe_mul, coe_sum]
  unfold dN; simp only [grp_pr, mul_comm]

/-! ## The four sums over the chunks -/

theorem v75 (g : Fin 4) (t s : Fin 128) :
    val_main_v75 (F := Ideal) (up Z) (up G) (up H) (up Y) (ix3 g t s) = ((∑ q, partW Z G H Y q g t s : ℝ) : EReal) := by
  pointwise [val_main_v75, val_main_v74]
  simp only [v67, v55, ← EReal.coe_mul, coe_sum]
  rfl

theorem v68 (t : Fin 128) (g : Fin 4) :
    val_main_v68 (F := Ideal) (up Z) (up Y) (ix2 t g) = ((∑ q, partT Z Y q g t : ℝ) : EReal) := by
  refine (HostSum.d03 _ _ _ t g).trans ?_
  pointwise [val_main_cst_13]
  simp only [v67, lit_zero, coe_sum, ← EReal.coe_add, zero_add]
  rfl

theorem v70 (t : Fin 128) (g : Fin 4) :
    val_main_v70 (F := Ideal) (up Z) (up Y) (ix2 t g) = ((∑ q, partT Z Y q g t : ℝ) : EReal) := by
  refine (HostSum.d03 _ _ _ t g).trans ?_
  pointwise [val_main_cst_14, val_main_v69]
  simp only [v68, lit_zero, coe_sum, ← EReal.coe_add, zero_add, Fin.sum_univ_one]

theorem v130 (t : Fin 128) (g : Fin 4) :
    val_main_v130 (F := Ideal) (up Z) (up Y) (ix2 t g) = ((∑ q, partT Z Y q g t : ℝ) : EReal) := by
  pointwise [val_main_v130, val_main_v73, val_main_v72, val_main_v71, val_main_cst_15]
  simp only [v70, lit_zero, coe_sum, ← EReal.coe_add, zero_add, Fin.sum_univ_one]

theorem v78 (g : Fin 4) (e : Fin 64) :
    val_main_v78 (F := Ideal) (up Z) (up W) (up Y) (ix2 g e) = ((∑ q, partB Z W Y q (pr g e) : ℝ) : EReal) := by
  refine (HostSum.d01 _ _ _ g e).trans ?_
  pointwise [val_main_cst_16]
  simp only [v77, lit_zero, coe_sum, ← EReal.coe_add, zero_add]
  rfl

theorem v80 (g : Fin 4) (e : Fin 64) :
    val_main_v80 (F := Ideal) (up Z) (up W) (up Y) (ix2 g e) = ((∑ q, partB Z W Y q (pr g e) : ℝ) : EReal) := by
  refine (HostSum.d01 _ _ _ g e).trans ?_
  pointwise [val_main_cst_17, val_main_v79]
  simp only [v78, lit_zero, coe_sum, ← EReal.coe_add, zero_add, Fin.sum_univ_one]

theorem pr_parts (c : Fin 256) : pr ⟨c.val / 64, by omega⟩ ⟨c.val % 64, by omega⟩ = c :=
  Fin.ext (by show 64 * (c.val / 64) + c.val % 64 = c.val; omega)

theorem v129 (o : Fin 1) (c : Fin 256) :
    val_main_v129 (F := Ideal) (up Z) (up W) (up Y) (ix2 o c) = ((∑ q, partB Z W Y q c : ℝ) : EReal) := by
  pointwise [val_main_v129, val_main_v81]
  rw [v80, pr_parts]

theorem v83 (g : Fin 4) (e : Fin 64) :
    val_main_v83 (F := Ideal) (up Z) (up W) (up Y) (ix2 g e) = ((∑ q, partG Z W Y q (pr g e) : ℝ) : EReal) := by
  refine (HostSum.d01 _ _ _ g e).trans ?_
  pointwise [val_main_cst_18, val_main_v82]
  simp only [v47, v77, lit_zero, ← EReal.coe_mul, coe_sum, ← EReal.coe_add, zero_add]
  unfold partG pG; simp only [mul_comm]

theorem v87 (g : Fin 4) (e : Fin 64) :
    val_main_v87 (F := Ideal) (up Z) (up W) (up Y) (ix2 g e) = ((∑ q, partG Z W Y q (pr g e) : ℝ) : EReal) := by
  refine (HostSum.d01 _ _ _ g e).trans ?_
  pointwise [val_main_cst_19, val_main_v84]
  simp only [v83, lit_zero, coe_sum, ← EReal.coe_add, zero_add, Fin.sum_univ_one]

theorem v128 (o : Fin 1) (c : Fin 256) :
    val_main_v128 (F := Ideal) (up Z) (up W) (up Y) (ix2 o c) = ((∑ q, partG Z W Y q c : ℝ) : EReal) := by
  pointwise [val_main_v128, val_main_v88]
  rw [v87, pr_parts]

/-! ## The gradient of the normalisation -/

theorem v86 (q : Fin 64) (t : Fin 128) (g : Fin 4) (e : Fin 64) :
    val_main_v86 (F := Ideal) (up Z) (up G) (up W) (up Y) (ix4 q t g e)
      = ((dN (gZ Z q) (gW W) (gY Y q) t (pr g e) * gV G (pr g e) : ℝ) : EReal) := by
  pointwise [val_main_v86, val_main_v85, val_main_v49, val_main_v48]
  simp only [v77, vec_apply, ← EReal.coe_mul]

theorem v93 (q : Fin 64) (t : Fin 128) (g : Fin 4) (e : Fin 64) :
    val_main_v93 (F := Ideal) (up Z) (up G) (up W) (up Y) (ix4 q t g e)
      = ((dN (gZ Z q) (gW W) (gY Y q) t (pr g e) * gV G (pr g e) * rs (cV (gZ Z q) t) g : ℝ) : EReal) := by
  pointwise [val_main_v93, val_main_v92]
  simp only [v86, v42, ← EReal.coe_mul]

/-- What the variance's branch passes on. -/
abbrev varBranch (q : Fin 64) (t : Fin 128) (g : Fin 4) : ℝ :=
  (∑ k, cen (cV (gZ Z q) t) (pr g k) * (dN (gZ Z q) (gW W) (gY Y q) t (pr g k) * gV G (pr g k)))
    * (-(1 / 2) * (rs (cV (gZ Z q) t) g / vr (cV (gZ Z q) t) g)) / 64

theorem v99 (q : Fin 64) (t : Fin 128) (g : Fin 4) (o : Fin 1) :
    val_main_v99 (F := Ideal) (up Z) (up G) (up W) (up Y) (ix4 q t g o) = ((varBranch Z G W Y q t g : ℝ) : EReal) := by
  pointwise [val_main_v99, val_main_v98, val_main_v94, val_main_v91, val_main_v90, val_main_v89, val_main_cst_20, val_main_cst_22]
  simp only [v86, v39, v45, lit_64, lit_zero, ← EReal.coe_mul, coe_sum, ← EReal.coe_add, zero_add,
    div_coe _ _ (by norm_num : (64 : ℝ) ≠ 0)]

theorem v102 (q : Fin 64) (t : Fin 128) (g : Fin 4) (e : Fin 64) :
    val_main_v102 (F := Ideal) (up Z) (up G) (up W) (up Y) (ix4 q t g e)
      = ((varBranch Z G W Y q t g * (2 * cen (cV (gZ Z q) t) (pr g e)) : ℝ) : EReal) := by
  pointwise [val_main_v102, val_main_v101, val_main_v100, val_main_v33, val_main_v32, val_main_cst_8, val_main_cst_23]
  simp only [v99, v30, lit_2, lit_zero, Fin.sum_univ_one, ← EReal.coe_mul, ← EReal.coe_add, zero_add]

theorem v112 (q : Fin 64) (t : Fin 128) (g : Fin 4) (e : Fin 64) :
    val_main_v112 (F := Ideal) (up Z) (up G) (up W) (up Y) (ix4 q t g e)
      = ((dLn (cV (gZ Z q) t) (gV G) (dN (gZ Z q) (gW W) (gY Y q) t) (pr g e) : ℝ) : EReal) := by
  rw [← dLn_eq]
  pointwise [val_main_v112, val_main_v111, val_main_v110, val_main_v109, val_main_v108, val_main_v107, val_main_v106,
    val_main_v105, val_main_v104, val_main_v103, val_main_v97, val_main_v96, val_main_v95, val_main_cst_21, val_main_cst_24,
    val_main_cst_25, val_main_cst_26]
  simp only [v93, v102, lit_64, lit_zero, Fin.sum_univ_one, ← EReal.coe_neg, coe_sum, ← EReal.coe_mul, ← EReal.coe_add, zero_add,
    div_coe _ _ (by norm_num : (64 : ℝ) ≠ 0)]

/-! ## The gradient of `z` -/

theorem v113 (q : Fin 64) (t : Fin 128) (c : Fin 256) :
    val_main_v113 (F := Ideal) (up Z) (up G) (up W) (up Y) (ix2 (grow q t) c)
      = ((dLn (cV (gZ Z q) t) (gV G) (dN (gZ Z q) (gW W) (gY Y q) t) c : ℝ) : EReal) := by
  pointwise [val_main_v113]
  rw [show (⟨(128 * q.val + t.val) / 128, by omega⟩ : Fin 64) = q from Fin.ext (by show (128 * q.val + t.val) / 128 = q.val; omega),
    show (⟨(128 * q.val + t.val) % 128, by omega⟩ : Fin 128) = t from Fin.ext (by show (128 * q.val + t.val) % 128 = t.val; omega),
    v112, pr_parts]

/-- The gradient of the activation's result, joined of its two halves. -/
def dGate (q : Fin 64) (t : Fin 128) (j : Fin 512) : ℝ :=
  if h : j.val < 256 then gY Y q t ⟨j.val, h⟩ * cM (gZ Z q) (gV G) (gV H) (gW W) (gB B) t ⟨j.val, h⟩
  else dLn (cV (gZ Z q) t) (gV G) (dN (gZ Z q) (gW W) (gY Y q) t) ⟨j.val - 256, by omega⟩

theorem v114 (q : Fin 64) (t : Fin 128) (j : Fin 512) :
    val_main_v114 (F := Ideal) (up Z) (up G) (up H) (up W) (up B) (up Y) (ix2 (grow q t) j)
      = ((dGate Z G H W B Y q t j : ℝ) : EReal) := by
  unfold dGate
  pointwise [val_main_v114]
  by_cases h : j.val < 256
  · rw [dif_pos h, dif_pos h]
    pointwise [val_main_v66]
    rw [v63, ← EReal.coe_mul]
  · rw [dif_neg h, dif_neg h]
    first
      | rw [dif_pos (by omega), v113]
      | rw [v113]

theorem v126 (q : Fin 64) (t : Fin 128) (j : Fin 512) :
    val_main_v126 (F := Ideal) (up Z) (up G) (up H) (up W) (up B) (up Y) (ix2 (grow q t) j)
      = ((dGate Z G H W B Y q t j * dgl (gZ Z q t j) : ℝ) : EReal) := by
  pointwise [val_main_v126, val_main_v125, val_main_v124, val_main_v123, val_main_v122, val_main_v121, val_main_v120, val_main_v119,
    val_main_v118, val_main_v117, val_main_v116, val_main_v115, val_main_v20, val_main_v19, val_main_v18, val_main_v17, val_main_v16,
    val_main_v15, val_main_v14, val_main_v13, val_main_v12, val_main_v5, val_main_v4, val_main_v3, val_main_cst, val_main_cst_2,
    val_main_cst_3, val_main_cst_4, val_main_cst_5, val_main_cst_27, val_main_cst_28, val_main_cst_29]
  simp only [v114, v11, lit_half, lit_3, lit_C, lit_A, ← EReal.coe_one, ← EReal.coe_mul, ← EReal.coe_add, ← EReal.coe_sub]
  congr 1
  unfold dgl
  ring

theorem v127 (p : Fin 8192) (j : Fin 512) :
    val_main_v127 (F := Ideal) (up Z) (up G) (up H) (up W) (up B) (up Y) (ix2 p j) = ((DZ Z G H W B Y p j : ℝ) : EReal) := by
  have hp : p = grow ⟨p.val / 128, by omega⟩ ⟨p.val % 128, by omega⟩ :=
    Fin.ext (by show p.val = 128 * (p.val / 128) + p.val % 128; omega)
  have h := v126 Z G H W B Y ⟨p.val / 128, by omega⟩ ⟨p.val % 128, by omega⟩ j
  rw [← hp] at h
  refine Eq.trans ?_ (h.trans ?_)
  · pointwise [val_main_v127]
  · congr 1
    unfold DZ dGate
    by_cases k : j.val < 256
    · rw [dif_pos k, dif_pos k]; rfl
    · rw [dif_neg k, dif_neg k]
      unfold dZv
      congr 3
      exact Fin.ext (by show j.val = 256 + (j.val - 256); omega)

/-! ## The results as arrays -/

theorem array127 : val_main_v127 (F := Ideal) (up Z) (up G) (up H) (up W) (up B) (up Y)
    = fun i => ((DZ Z G H W B Y (i 0) (i 1) : ℝ) : EReal) :=
  funext fun i => (congrArg _ (eq_ix2 i)).trans (v127 Z G H W B Y (i 0) (i 1))
theorem array128 : val_main_v128 (F := Ideal) (up Z) (up W) (up Y) = fun i => (((∑ q, partG Z W Y q (i 1)) : ℝ) : EReal) :=
  funext fun i => (congrArg _ (eq_ix2 i)).trans (v128 Z W Y (i 0) (i 1))
theorem array129 : val_main_v129 (F := Ideal) (up Z) (up W) (up Y) = fun i => (((∑ q, partB Z W Y q (i 1)) : ℝ) : EReal) :=
  funext fun i => (congrArg _ (eq_ix2 i)).trans (v129 Z W Y (i 0) (i 1))
theorem array75 : val_main_v75 (F := Ideal) (up Z) (up G) (up H) (up Y)
    = fun i => (((∑ q, partW Z G H Y q (i 0) (i 1) (i 2)) : ℝ) : EReal) :=
  funext fun i => (congrArg _ (eq_ix3 i)).trans (v75 Z G H Y (i 0) (i 1) (i 2))
theorem array130 : val_main_v130 (F := Ideal) (up Z) (up Y) = fun i => (((∑ q, partT Z Y q (i 1) (i 0)) : ℝ) : EReal) :=
  funext fun i => (congrArg _ (eq_ix2 i)).trans (v130 Z Y (i 0) (i 1))

end Cert.SguRefIdeal.Reading
-- ==== Proof.SguClaims.lean ====
/-
  THE CLAIMS about the spatial gating's gradient: the frames, the named constant, and the value claim — for finite arguments,
  kernel and reference end with the same five arrays, the gradients of the input, of the norm's scale and offset, of the mixing
  matrices and of their offsets.
-/
module

public import proofs.«01_k».proof.Defs
public import proofs.«01_k».proof.Proof.SguRef
public import proofs.«01_k».proof.Proof.Gen.Sgu.Frame
public import proofs.«01_k».proof.Proof.Gen.Pre_finite_sgu
public import Idealize.ShloMosaic.Lib.Quiescent

@[expose] public section

set_option maxRecDepth 16384

noncomputable section

namespace Cert.Proof.Sgu

open Cert.Reals Cert.SguIdeal.Arrays
open Idealize.ShloMosaic Idealize.ShloMosaic.TcCoe Idealize.SL.Sem

theorem frame : Cert.quiescent_Sgu := fun m ρ _ => Cert.Sgu.Gen.frame m ρ
theorem frame_ideal : Cert.quiescent_SguIdeal := fun m ρ _ => Cert.SguIdeal.Gen.frame m ρ
theorem frame_ideal_pre : Cert.quiescent_SguIdeal_pre_finite_sgu := fun m ρ _ => Cert.SguIdeal.Gen.frame m ρ

/-- The reference's run, read at its arguments; it declares no semaphore. -/
theorem frame_ref : Cert.quiescent_SguRefIdeal := fun m ρ _ =>
  (θ_run Cert.SguRefIdeal.defs _ _).mono
    (fun r h => ⟨fun c => (h c).2.2.2.2.2, Idealize.ShloMosaic.sem_eq_zero_of_no_sems (by decide) r.2⟩)
    (Cert.SguRefIdeal.Value.run (F := Ideal) m ρ)
theorem frame_ref_pre : Cert.quiescent_SguRefIdeal_pre_finite_sgu := fun m ρ _ => frame_ref m ρ trivial

/-- The one named constant: the word of `3·A·C` stands for the product of the two words `A` and `C`. -/
theorem preserves : Cert.preserves_Sgu_SguIdeal :=
  IdealRules.named_const.statement Cert.SguIdeal.κ "three_a_c" .f32 0x3DDB33B6#32
    ((241015141496493 / 2251799813685248 : ℝ) : EReal) rfl

/-- Finite arguments are arrays of reals. -/
theorem args_real (m : (ℓ : Loc Cert.SguIdeal.nD Cert.SguIdeal.τ Cert.SguIdeal.sig) → Buf (Elt Ideal) ℓ)
    (h : Cert.Pre_SguIdeal_finite_sgu m) (c : Dev Cert.SguIdeal.nD) : ∃ Z G H W B Y, Args m c Z G H W B Y := by
  obtain ⟨h0, h1, h2, h3, h4, h5⟩ := h c
  obtain ⟨Z, hZ⟩ := reals_of_olt _ fun i => congrFun h0 i
  obtain ⟨G, hG⟩ := reals_of_olt _ fun i => congrFun h1 i
  obtain ⟨H, hH⟩ := reals_of_olt _ fun i => congrFun h2 i
  obtain ⟨W, hW⟩ := reals_of_olt _ fun i => congrFun h3 i
  obtain ⟨B, hB⟩ := reals_of_olt _ fun i => congrFun h4 i
  obtain ⟨Y, hY⟩ := reals_of_olt _ fun i => congrFun h5 i
  exact ⟨Z, G, H, W, B, Y, hZ, hG, hH, hW, hB, hY⟩

/-- For finite arguments the two programs end with the same five gradients. -/
theorem algebraic : Cert.algebraic_SguIdeal_SguRefIdeal_pre_finite_sgu := by
  intro m ρ m' ρ' hpre hagree
  refine ⟨fun c => (Cert.SguIdeal.Gen.dats (F := Ideal) m 0 c).arrAt 6 Cert.SguIdeal.cfg0.N,
    fun c => (Cert.SguIdeal.Gen.dats (F := Ideal) m 0 c).arrAt 7 Cert.SguIdeal.cfg0.N,
    fun c => (Cert.SguIdeal.Gen.dats (F := Ideal) m 0 c).arrAt 8 Cert.SguIdeal.cfg0.N,
    fun c => (Cert.SguIdeal.Gen.dats (F := Ideal) m 0 c).arrAt 9 Cert.SguIdeal.cfg0.N,
    fun c => (Cert.SguIdeal.Gen.dats (F := Ideal) m 0 c).arrAt 10 Cert.SguIdeal.cfg0.N,
    Cert.SguIdeal.Value.run_blocks m ρ, ?_⟩
  refine (θ_run Cert.SguRefIdeal.defs _ _).mono (fun r h c => ?_) (Cert.SguRefIdeal.Value.run (F := Ideal) m' ρ')
  obtain ⟨Z, G, H, W, B, Y, hargs⟩ := args_real m hpre c
  obtain ⟨g0, g1, g2, g3, g4, g5⟩ := hagree c
  have e0 := g0.trans hargs.a0
  have e1 := g1.trans hargs.a1
  have e2 := g2.trans hargs.a2
  have e3 := g3.trans hargs.a3
  have e4 := g4.trans hargs.a4
  have e5 := g5.trans hargs.a5
  refine ⟨(h c).1.trans ?_, (h c).2.1.trans ?_, (h c).2.2.1.trans ?_, (h c).2.2.2.1.trans ?_, (h c).2.2.2.2.1.trans ?_,
    (h c).2.2.2.2.2⟩
  · refine Eq.trans ?_ (final6 hargs).symm
    refine (Cert.SguRefIdeal.Read.val_main_v127_eq _).trans ?_
    refine Eq.trans ?_ (Cert.SguRefIdeal.Reading.array127 Z G H W B Y)
    congr 1
  · refine Eq.trans ?_ (final7 hargs).symm
    refine (Cert.SguRefIdeal.Read.val_main_v128_eq _).trans ?_
    refine Eq.trans ?_ (Cert.SguRefIdeal.Reading.array128 Z W Y)
    congr 1
  · refine Eq.trans ?_ (final8 hargs).symm
    refine (Cert.SguRefIdeal.Read.val_main_v129_eq _).trans ?_
    refine Eq.trans ?_ (Cert.SguRefIdeal.Reading.array129 Z W Y)
    congr 1
  · refine Eq.trans ?_ (final9 hargs).symm
    refine (Cert.SguRefIdeal.Read.val_main_v75_eq _).trans ?_
    refine Eq.trans ?_ (Cert.SguRefIdeal.Reading.array75 Z G H Y)
    congr 1
  · refine Eq.trans ?_ (final10 hargs).symm
    refine (Cert.SguRefIdeal.Read.val_main_v130_eq _).trans ?_
    refine Eq.trans ?_ (Cert.SguRefIdeal.Reading.array130 Z Y)
    congr 1

end Cert.Proof.Sgu

end
-- ==== Proof.NormAttnBlock.lean ====
/-
  ONE BLOCK of `d_xn_attn` (512 rows of the stream): what a grid point leaves in its two output buffers, first as the
  program's own terms over its input blocks, then, for input blocks of reals, as real formulas — the gradient rows of
  `NormMath.dRow`, and the block's part of the gradient of `g`.
-/
module

public import proofs.«01_k».proof.Proof.NormMath
public import proofs.«01_k».proof.Proof.Gen.NormAttnIdeal.Value
public import Idealize.ShloMosaic.Lib.Pointwise

@[expose] public section

set_option maxRecDepth 16384

noncomputable section

namespace Cert.NormAttnIdeal.Block

open Cert.NormAttnIdeal Cert.NormAttnIdeal.Gen Cert.Reals Cert.NormMath
open Idealize.ShloMosaic Idealize.ShloMosaic.TcCoe Idealize.SL.Sem
open scoped BigOperators

section Terms

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The rows a point leaves in the first output, of its blocks: of the product's gradient `a`, the weights `w`, the
    stream `x`, the scale `g`, the gradient `d` past the norm. -/
def rows (a : Vec F S512x2304 .bf16) (w : Vec F S1x1024x2304 .bf16) (x : Vec F S512x1024 .f32) (g : Vec F S1x1024 .f32)
    (d : Vec F S512x1024 .f32) : Vec F S512x1024 .f32 :=
  k0_pay1 (k0_pay4 x) (k0_pay5 x) (k0_pay7 a w g) d (k0_pay8 a w x g) (Scalar.ofBits .f32 0x44800000#32)

variable (c : Dev nD) (i : grid0.Coords) (a1 : Memref sig .tc .vmem S512x2304 .bf16) (h1 : a1.IsWhole)
  (a2 : Memref sig .tc .vmem S1x1024x2304 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 : Vec F S512x2304 .bf16) (x1 : Vec F S1x1024x2304 .bf16) (x2 : Vec F S512x1024 .f32) (x3 : Vec F S1x1024 .f32)
  (x4 : Vec F S512x1024 .f32) (xo : Vec F S1x1024 .f32)

/-- At a later point, the first output holds `rows`. -/
theorem out_B_5 (hc : ¬cond0_0 i) :
    out0_B_5 c i a1 h1 a2 h2 a3 h3 a4 h4 a5 h5 a6 h6 a7 h7 hc x0 x1 x2 x3 x4 xo = rows x0 x1 x2 x3 x4 := by
  unfold out0_B_5 rows
  rw [View.read_writes_eq_canon _ _ _ (cover0_B_5 c i a1 h1 a2 h2 a3 h3 a4 h4 a5 h5 a6 h6 a7 h7 hc x0 x1 x2 x3 x4 xo)]
  unfold kernelRun0_B; dsimp only; sl_unfold_words
  rw [View.canon_unit_zero hz]
  simp only [View.readAt_eq_ld, h1.read_unread, h2.read_unread, h3.read_unread, h4.read_unread, h5.read_unread,
    h7.read_unread, View.ld_unit_zero (S := S512x2304) hz, View.ld_unit_zero (S := S1x1024x2304) hz3,
    View.ld_unit_zero (S := S512x1024) hz, View.ld_unit_zero (S := S1x1024) hz]

/-- At the first point, too. -/
theorem out_A_5 (hc : cond0_0 i) :
    out0_A_5 c i a1 h1 a2 h2 a3 h3 a4 h4 a5 h5 a6 h6 a7 h7 hc x0 x1 x2 x3 x4 = rows x0 x1 x2 x3 x4 := by
  unfold out0_A_5 rows
  rw [View.read_writes_eq_canon _ _ _ (cover0_A_5 c i a1 h1 a2 h2 a3 h3 a4 h4 a5 h5 a6 h6 a7 h7 hc x0 x1 x2 x3 x4)]
  unfold kernelRun0_A; dsimp only; sl_unfold_words
  rw [View.canon_unit_zero hz]
  simp only [View.readAt_eq_ld, h1.read_unread, h2.read_unread, h3.read_unread, h4.read_unread, h5.read_unread,
    View.ld_unit_zero (S := S512x2304) hz, View.ld_unit_zero (S := S1x1024x2304) hz3,
    View.ld_unit_zero (S := S512x1024) hz, View.ld_unit_zero (S := S1x1024) hz]

/-- At a later point, the second output holds what it held, plus the block's part. -/
theorem out_B_6 (hc : ¬cond0_0 i) :
    out0_B_6 c i a1 h1 a2 h2 a3 h3 a4 h4 a5 h5 a6 h6 a7 h7 hc x0 x1 x2 x3 x4 xo = k0_pay6 x0 x1 x2 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B; dsimp only; sl_unfold_words
  rw [View.canon_unit_zero hz]
  simp only [View.readAt_eq_ld, h1.read_unread, h2.read_unread, h3.read_unread, h4.read_unread, h5.read_unread,
    h7.read_unread, View.ld_unit_zero (S := S512x2304) hz, View.ld_unit_zero (S := S1x1024x2304) hz3,
    View.ld_unit_zero (S := S512x1024) hz, View.ld_unit_zero (S := S1x1024) hz]

/-- At the first point, it holds zero plus the block's part. -/
theorem out_A_6 (hc : cond0_0 i) :
    out0_A_6 c i a1 h1 a2 h2 a3 h3 a4 h4 a5 h5 a6 h6 a7 h7 hc x0 x1 x2 x3 x4 = k0_pay6 x0 x1 x2 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A; dsimp only; sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S512x2304) hz, View.ld_unit_zero (S := S1x1024x2304) hz3,
    View.ld_unit_zero (S := S512x1024) hz, View.ld_unit_zero (S := S1x1024) hz]

end Terms

/-! ## At blocks of reals -/

variable (a : S512x2304.Idx → ℝ) (w : S1x1024x2304.Idx → ℝ) (x : S512x1024.Idx → ℝ) (g : S1x1024.Idx → ℝ)
  (d : S512x1024.Idx → ℝ)

/-- The gradient of the normalised row `p`: the product of the block's row with the weights. -/
def dy (p : Fin 512) (j : Fin 1024) : ℝ := ∑ k : Fin 2304, a (ix2 p k) * w (ix3 0 j k)

theorem pay3 (p : Fin 512) (j : Fin 1024) :
    k0_pay3 (F := Ideal) (fun i => (a i : EReal)) (fun i => (w i : EReal)) (ix2 p j) = ((dy a w p j : ℝ) : EReal) := by
  unfold dy
  pointwise [k0_pay3]
  simp only [← EReal.coe_mul, coe_sum]

theorem pay4 (p : Fin 512) :
    k0_pay4 (F := Ideal) (fun i => (x i : EReal)) (ix2 p 0) = ((rinv (fun k => x (ix2 p k)) : ℝ) : EReal) := by
  pointwise [k0_pay4]
  simp only [← EReal.coe_mul, coe_sum, lit_1024, lit_eps]
  rw [div_coe _ _ (by norm_num), ← EReal.coe_add]
  exact rsqrt_coe _ (msq_pos fun k => x (ix2 p k))

/-- The gradient rows: `dRow` of the row's product. -/
theorem rows_apply (p : Fin 512) (j : Fin 1024) :
    rows (F := Ideal) (fun i => (a i : EReal)) (fun i => (w i : EReal)) (fun i => (x i : EReal)) (fun i => (g i : EReal))
        (fun i => (d i : EReal)) (ix2 p j)
      = ((dRow (dy a w p) (fun k => x (ix2 p k)) (fun k => g (ix2 0 k)) (fun k => d (ix2 p k)) j : ℝ) : EReal) := by
  unfold dRow
  pointwise [rows, k0_pay1, k0_pay5, k0_pay7, k0_pay8]
  simp only [pay3, pay4, ← EReal.coe_mul, coe_sum, lit_1024]
  rw [div_coe _ _ (by norm_num)]
  simp only [← EReal.coe_mul, ← EReal.coe_sub, ← EReal.coe_add]

/-- The block's part of the gradient of `g`, added to what the accumulator `o` holds. -/
theorem part_apply (o : S1x1024.Idx → ℝ) (j : Fin 1024) :
    k0_pay6 (F := Ideal) (fun i => (a i : EReal)) (fun i => (w i : EReal)) (fun i => (x i : EReal)) (fun i => (o i : EReal))
        (ix2 0 j)
      = ((o (ix2 0 j) + ∑ p : Fin 512, dy a w p j * (x (ix2 p j) * rinv (fun k => x (ix2 p k))) : ℝ) : EReal) := by
  pointwise [k0_pay6, k0_pay5]
  simp only [pay3, pay4, ← EReal.coe_mul, coe_sum, ← EReal.coe_add]

/-- The accumulator starts at zero. -/
theorem zero_apply : k0_pay2 (F := Ideal) = fun _ => ((0 : ℝ) : EReal) := by
  funext i
  pointwise [k0_pay2]
  exact EReal.coe_zero.symm

end Cert.NormAttnIdeal.Block

end
-- ==== Proof.NormAttnArray.lean ====
/-
  THE ARRAYS of `d_xn_attn`, for arguments of reals: the blocks a grid point reads are rows `512 t + p` of the arguments; the
  first output ends holding, row by row, the gradient of the stream (`NormMath.dRow`); the second holds, after the last of
  the 16 points, the sum over all 8192 rows that is the gradient of `g`.
-/
module

public import proofs.«01_k».proof.Proof.NormAttnBlock

@[expose] public section

set_option maxRecDepth 16384

noncomputable section

namespace Cert.NormAttnIdeal.Arrays

open Cert.NormAttnIdeal Cert.NormAttnIdeal.Gen Cert.NormAttnIdeal.Block Cert.Reals Cert.NormMath
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

theorem hN : cfg0.N = 16 := N_0

/-- Row `p` of block `t`. -/
abbrev row (t : Fin cfg0.N) (p : Fin 512) : Fin 8192 :=
  ⟨512 * t.val + p.val, by have := t.isLt.trans_eq hN; omega⟩

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)

theorem read0 (t : Fin cfg0.N) (i : S512x2304.Idx) :
    iblk m c 0 t i = m ((c : Thread nD τ).loc main_arg0) (ix2 (row t (i 0)) (i 1)) := by
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * t.val + (i 0).val; rw [(at0 t).1]; omega
  | ⟨1, _⟩ => show win0_0.index t 1 * 2304 + 1 * (i 1).val = (i 1).val; rw [(at0 t).2]; omega

theorem read1 (t : Fin cfg0.N) (i : S1x1024x2304.Idx) :
    iblk m c 1 t i = m ((c : Thread nD τ).loc main_arg1) (ix3 0 (i 1) (i 2)) := by
  rw [← V_main_arg1 m c]; unfold iblk; rw [View.read_apply]
  show V m c main_arg1 _ = V m c main_arg1 _
  congr 1; funext b; apply Fin.ext
  have h0 : (i 0).val = 0 := by have : (i 0).val < 1 := (i 0).isLt; omega
  match b with
  | ⟨0, _⟩ => show win0_1.index t 0 * 1 + 1 * (i 0).val = 0; rw [(at1 t).1, h0]
  | ⟨1, _⟩ => show win0_1.index t 1 * 1024 + 1 * (i 1).val = (i 1).val; rw [(at1 t).2.1]; omega
  | ⟨2, _⟩ => show win0_1.index t 2 * 2304 + 1 * (i 2).val = (i 2).val; rw [(at1 t).2.2]; omega

theorem read2 (t : Fin cfg0.N) (i : S512x1024.Idx) :
    iblk m c 2 t i = m ((c : Thread nD τ).loc main_arg2) (ix2 (row t (i 0)) (i 1)) := by
  rw [← V_main_arg2 m c]; unfold iblk; rw [View.read_apply]
  show V m c main_arg2 _ = V m c main_arg2 _
  congr 1; funext b; apply Fin.ext
  match b with
  | ⟨0, _⟩ => show win0_2.index t 0 * 512 + 1 * (i 0).val = 512 * t.val + (i 0).val; rw [(at2 t).1]; omega
  | ⟨1, _⟩ => show win0_2.index t 1 * 1024 + 1 * (i 1).val = (i 1).val; rw [(at2 t).2]; omega

theorem V_v0 : V m c main_v0 = shapeCast _ (m ((c : Thread nD τ).loc main_arg3)) shapeCasts_S1024_S1x1024 := by
  unfold_abbrev_sides; after_results; rfl

theorem read3 (t : Fin cfg0.N) (i : S1x1024.Idx) :
    iblk m c 3 t i = m ((c : Thread nD τ).loc main_arg3) (ix1 (i 1)) := by
  unfold iblk; rw [View.read_apply]
  have h0 : (i 0).val = 0 := by have : (i 0).val < 1 := (i 0).isLt; omega
  show V m c main_v0 _ = _
  rw [V_v0]
  refine shapeCast_apply _ shapeCasts_S1024_S1x1024 _ (ix1 (i 1)) ?_
  rewrite [Shape.rowMajor_val_one, Shape.rowMajor_val_two]
  show (i 1).val = (win0_3.index t 0 * 1 + 1 * (i 0).val) * 1024 + (win0_3.index t 1 * 1024 + 1 * (i 1).val)
  rw [(at3 t).1, (at3 t).2]; omega

theorem read4 (t : Fin cfg0.N) (i : S512x1024.Idx) :
    iblk m c 4 t i = m ((c : Thread nD τ).loc main_arg4) (ix2 (row t (i 0)) (i 1)) := by
  rw [← V_main_arg4 m c]; unfold iblk; rw [View.read_apply]
  show V m c main_arg4 _ = V m c main_arg4 _
  congr 1; funext b; apply Fin.ext
  match b with
  | ⟨0, _⟩ => show win0_4.index t 0 * 512 + 1 * (i 0).val = 512 * t.val + (i 0).val; rw [(at4 t).1]; omega
  | ⟨1, _⟩ => show win0_4.index t 1 * 1024 + 1 * (i 1).val = (i 1).val; rw [(at4 t).2]; omega

/-! ## For arguments of reals -/

/-- The arguments are arrays of reals: the product's gradient, the two layers' weights, the stream, its scale, and the
    gradient past the norm. -/
structure Args (A : S8192x2304.Idx → ℝ) (W : S2x1024x2304.Idx → ℝ) (X : S8192x1024.Idx → ℝ) (G : S1024.Idx → ℝ)
    (D : S8192x1024.Idx → ℝ) : Prop where
  a0 : m ((c : Thread nD τ).loc main_arg0) = fun i => (A i : EReal)
  a1 : m ((c : Thread nD τ).loc main_arg1) = fun i => (W i : EReal)
  a2 : m ((c : Thread nD τ).loc main_arg2) = fun i => (X i : EReal)
  a3 : m ((c : Thread nD τ).loc main_arg3) = fun i => (G i : EReal)
  a4 : m ((c : Thread nD τ).loc main_arg4) = fun i => (D i : EReal)

variable (A : S8192x2304.Idx → ℝ) (W : S2x1024x2304.Idx → ℝ) (X : S8192x1024.Idx → ℝ) (G : S1024.Idx → ℝ)
  (D : S8192x1024.Idx → ℝ)

/-- The gradient of the normalised stream: the product of the incoming gradient with the layer's weights. -/
def DY (p : Fin 8192) (j : Fin 1024) : ℝ := ∑ k : Fin 2304, A (ix2 p k) * W (ix3 0 j k)

/-- The gradient of the stream. -/
def DH (p : Fin 8192) (j : Fin 1024) : ℝ :=
  dRow (DY A W p) (fun k => X (ix2 p k)) (fun k => G (ix1 k)) (fun k => D (ix2 p k)) j

/-- Row `p`'s part of the gradient of the scale. -/
def DGpart (p : Fin 8192) (j : Fin 1024) : ℝ := DY A W p j * (X (ix2 p j) * rinv (fun k => X (ix2 p k)))

/-- The gradient of the scale. -/
def DG (j : Fin 1024) : ℝ := ∑ p : Fin 8192, DGpart A W X p j

/-- The blocks of point `t`. -/
def blkA (t : Fin cfg0.N) : S512x2304.Idx → ℝ := fun i => A (ix2 (row t (i 0)) (i 1))
def blkW : S1x1024x2304.Idx → ℝ := fun i => W (ix3 0 (i 1) (i 2))
def blkX (t : Fin cfg0.N) : S512x1024.Idx → ℝ := fun i => X (ix2 (row t (i 0)) (i 1))
def blkG : S1x1024.Idx → ℝ := fun i => G (ix1 (i 1))

variable {m c A W X G D}

/-- What a point reads, for such arguments. -/
theorem blocks_eq (h : Args m c A W X G D) (t : Fin cfg0.N) :
    iblk m c 0 t = (fun i => (blkA A t i : EReal)) ∧ iblk m c 1 t = (fun i => (blkW W i : EReal))
      ∧ iblk m c 2 t = (fun i => (blkX X t i : EReal)) ∧ iblk m c 3 t = (fun i => (blkG G i : EReal))
      ∧ iblk m c 4 t = (fun i => (blkX D t i : EReal)) :=
  ⟨funext fun i => by rw [read0, h.a0]; rfl, funext fun i => by rw [read1, h.a1]; rfl,
    funext fun i => by rw [read2, h.a2]; rfl, funext fun i => by rw [read3, h.a3]; rfl,
    funext fun i => by rw [read4, h.a4]; rfl⟩

/-- The rows a point leaves in the first output are its rows of the gradient of the stream. -/
theorem rows_eq (h : Args m c A W X G D) (t : Fin cfg0.N) (i : S512x1024.Idx) :
    rows (F := Ideal) (iblk m c 0 t) (iblk m c 1 t) (iblk m c 2 t) (iblk m c 3 t) (iblk m c 4 t) i
      = ((DH A W X G D (row t (i 0)) (i 1) : ℝ) : EReal) := by
  obtain ⟨e0, e1, e2, e3, e4⟩ := blocks_eq h t
  have hi : i = ix2 (i 0) (i 1) := by funext b; match b with | ⟨0, _⟩ => rfl | ⟨1, _⟩ => rfl
  rw [show rows (F := Ideal) (iblk m c 0 t) (iblk m c 1 t) (iblk m c 2 t) (iblk m c 3 t) (iblk m c 4 t)
    = rows (F := Ideal) (fun i => (blkA A t i : EReal)) (fun i => (blkW W i : EReal)) (fun i => (blkX X t i : EReal))
      (fun i => (blkG G i : EReal)) (fun i => (blkX D t i : EReal)) by rw [e0, e1, e2, e3, e4]]
  exact (congrArg _ hi).trans (rows_apply (blkA A t) (blkW W) (blkX X t) (blkG G) (blkX D t) (i 0) (i 1))

/-- What a point adds to the second output: its rows' parts. -/
theorem part_eq (h : Args m c A W X G D) (t : Fin cfg0.N) (o : S1x1024.Idx → ℝ) (i : S1x1024.Idx) :
    k0_pay6 (F := Ideal) (iblk m c 0 t) (iblk m c 1 t) (iblk m c 2 t) (fun i => (o i : EReal)) i
      = ((o i + ∑ p : Fin 512, DGpart A W X (row t p) (i 1) : ℝ) : EReal) := by
  obtain ⟨e0, e1, e2, -, -⟩ := blocks_eq h t
  have hi : i = ix2 0 (i 1) := by
    funext b; match b with | ⟨0, _⟩ => exact Subsingleton.elim (α := Fin 1) _ _ | ⟨1, _⟩ => rfl
  rw [show k0_pay6 (F := Ideal) (iblk m c 0 t) (iblk m c 1 t) (iblk m c 2 t) (fun i => (o i : EReal))
    = k0_pay6 (F := Ideal) (fun i => (blkA A t i : EReal)) (fun i => (blkW W i : EReal)) (fun i => (blkX X t i : EReal))
      (fun i => (o i : EReal)) by rw [e0, e1, e2]]
  refine (congrArg _ hi).trans ((part_apply (blkA A t) (blkW W) (blkX X t) o (i 1)).trans ?_)
  rw [show o (ix2 0 (i 1)) = o i from congrArg o hi.symm]; rfl

/-- What the first output's buffer holds after any point. -/
theorem outs_fst (t : Fin cfg0.N) : (outsAt0 m c t.val t.isLt).1
    = rows (F := Ideal) (iblk m c 0 t) (iblk m c 1 t) (iblk m c 2 t) (iblk m c 3 t) (iblk m c 4 t) := by
  by_cases h0 : t.val % 16 = 0
  · rw [outsAt0_A m c t h0]; dsimp only; rw [out_A_5]
  · rw [outsAt0_B m c t h0]; dsimp only; rw [out_B_5]

/-- The first output ends holding the gradient of the stream. -/
theorem final5 (h : Args m c A W X G D) :
    (dats m 0 c).arrAt 5 cfg0.N = fun i => ((DH A W X G D (i 0) (i 1) : ℝ) : EReal) := by
  refine (dats m 0 c).arrAt_eq_of_cover 5 _ (fun t _ => ?_) fun i => ?_
  · rw [Value.flushed5, outs_fst]
    funext j
    rw [View.read_apply]
    refine (rows_eq h t j).trans ?_
    show _ = (((DH A W X G D _ _ : ℝ) : EReal))
    congr 2 <;> apply Fin.ext
    · show 512 * t.val + (j 0).val = win0_5.index t 0 * 512 + 1 * (j 0).val; rw [(at5 t).1]; omega
    · show (j 1).val = win0_5.index t 1 * 1024 + 1 * (j 1).val; rw [(at5 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_5 _, ?_⟩
    show i ∈ ((View.whole main_v1_0).slice (win0_5.rect ⟨(i 0 : Nat) / 512, ht⟩)).set
    rw [View.set_slice_whole, Rect.mem_set_unit]
    intro b
    match b with
    | ⟨0, _⟩ =>
      show win0_5.index ⟨(i 0 : Nat) / 512, ht⟩ 0 * 512 ≤ (i 0 : Nat)
        ∧ (i 0 : Nat) < win0_5.index ⟨(i 0 : Nat) / 512, ht⟩ 0 * 512 + 512
      rw [(at5 _).1]; dsimp only; omega
    | ⟨1, _⟩ =>
      show win0_5.index ⟨(i 0 : Nat) / 512, ht⟩ 1 * 1024 ≤ (i 1 : Nat)
        ∧ (i 1 : Nat) < win0_5.index ⟨(i 0 : Nat) / 512, ht⟩ 1 * 1024 + 1024
      rw [(at5 _).2]; omega

/-- What the second output's buffer holds after point `n`: the parts of the rows so far. -/
theorem outs_snd (h : Args m c A W X G D) : ∀ (n : ℕ) (hn : n < cfg0.N), (outsAt0 m c n hn).2
    = fun i => ((∑ t : Fin (n + 1), ∑ p : Fin 512, DGpart A W X (row ⟨t.val, lt_of_le_of_lt (Nat.le_of_lt_succ t.isLt) hn⟩ p) (i 1) : ℝ) : EReal)
  | 0, hn => by
    rw [show outsAt0 m c 0 hn = _ from outsAt0_A m c ⟨0, hn⟩ rfl]
    dsimp only
    rw [out_A_6, zero_apply]
    funext i
    refine (part_eq h ⟨0, hn⟩ (fun _ => 0) i).trans ?_
    rw [Fin.sum_univ_one, zero_add]
    rfl
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_6, show outsAt0 m c (n + 1 - 1) _ = outsAt0 m c n (Nat.lt_of_succ_lt hn) from rfl, outs_snd h n]
    funext i
    refine (part_eq h ⟨n + 1, hn⟩ (fun i => ∑ t : Fin (n + 1), ∑ p : Fin 512, DGpart A W X
      (row ⟨t.val, lt_of_le_of_lt (Nat.le_of_lt_succ t.isLt) (Nat.lt_of_succ_lt hn)⟩ p) (i 1)) i).trans ?_
    rw [Fin.sum_univ_castSucc (n := n + 1)]
    rfl

/-- The sum over the points of the sums over their rows is the sum over all rows. -/
theorem sum_rows (f : Fin 8192 → ℝ) (h15 : 15 < cfg0.N) :
    (∑ t : Fin (15 + 1), ∑ p : Fin 512, f (row ⟨t.val, lt_of_le_of_lt (Nat.le_of_lt_succ t.isLt) h15⟩ p)) = ∑ q, f q := by
  rw [← Fintype.sum_prod_type' (fun (t : Fin 16) (p : Fin 512) => f (row ⟨t.val, lt_of_le_of_lt (Nat.le_of_lt_succ t.isLt) h15⟩ p))]
  refine Fintype.sum_equiv (finProdFinEquiv (m := 16) (n := 512)) _ _ fun x => congrArg f (Fin.ext ?_)
  show 512 * x.1.val + x.2.val = x.2.val + 512 * x.1.val
  omega

/-- The second output ends holding the gradient of the scale. -/
theorem final6 (h : Args m c A W X G D) :
    (dats m 0 c).arrAt 6 cfg0.N = fun i => ((DG A W X (i 1) : ℝ) : EReal) := by
  have h15 : 15 < cfg0.N := by have := hN; omega
  refine (dats m 0 c).arrAt_eq_of_cover 6 _ (fun t ht => ?_) fun i => ⟨⟨15, h15⟩, (flush0_6 _).mpr rfl, ?_⟩
  · have h3 : t.val = 15 := by have := (flush0_6 t).mp ht; have := t.isLt.trans_eq hN; omega
    obtain rfl : t = ⟨15, h15⟩ := Fin.ext h3
    rw [Value.flushed6, outs_snd h]
    funext j
    rw [View.read_apply]
    show ((_ : ℝ) : EReal) = ((DG A W X _ : ℝ) : EReal)
    congr 1
    refine (sum_rows (fun p => DGpart A W X p _) h15).trans ?_
    show DG A W X _ = DG A W X _
    congr 1; apply Fin.ext
    show (j 1).val = win0_6.index ⟨15, h15⟩ 1 * 1024 + 1 * (j 1).val
    rw [(at6 _).2]; omega
  · show i ∈ ((View.whole main_v1_1).slice (win0_6.rect ⟨15, h15⟩)).set
    rw [View.set_slice_whole, Rect.mem_set_unit]
    have h0 : (i 0 : Nat) < 1 := (i 0).isLt
    have h1 : (i 1 : Nat) < 1024 := (i 1).isLt
    intro b
    match b with
    | ⟨0, _⟩ =>
      show win0_6.index ⟨15, h15⟩ 0 * 1 ≤ (i 0 : Nat) ∧ (i 0 : Nat) < win0_6.index ⟨15, h15⟩ 0 * 1 + 1
      rw [(at6 _).1]; omega
    | ⟨1, _⟩ =>
      show win0_6.index ⟨15, h15⟩ 1 * 1024 ≤ (i 1 : Nat) ∧ (i 1 : Nat) < win0_6.index ⟨15, h15⟩ 1 * 1024 + 1024
      rw [(at6 _).2]; omega

end Cert.NormAttnIdeal.Arrays

end
-- ==== Proof.NormAttnRef.lean ====
/-
  THE REFERENCE of `d_xn_attn`, read at an index for arguments of reals: the two gradients are the formulas of
  `NormAttnIdeal.Arrays` — the product's gradient, the norm differentiated factor by factor (`NormMath.dRow_eq`), and
  the sum over the rows for the scale.
-/
module

public import proofs.«01_k».proof.Proof.NormAttnArray
public import proofs.«01_k».proof.Proof.Gen.NormAttnRefIdeal.Run
public import proofs.«01_k».proof.Proof.Gen.NormAttnRefIdeal.Read

@[expose] public section

set_option maxRecDepth 16384

noncomputable section

namespace Cert.NormAttnRefIdeal.Reading

open Cert.NormAttnRefIdeal Cert.NormAttnRefIdeal.Gen Cert.NormAttnRefIdeal.Read Cert.Reals Cert.NormMath
open Cert.NormAttnIdeal.Arrays (DY DH DG DGpart)
open Idealize.ShloMosaic Idealize.ShloMosaic.TcCoe Idealize.SL.Sem
open scoped BigOperators

variable (A : S8192x2304.Idx → ℝ) (W : S2x1024x2304.Idx → ℝ) (X : S8192x1024.Idx → ℝ) (G : S1024.Idx → ℝ)
  (D : S8192x1024.Idx → ℝ)

theorem v9 (p : Fin 8192) :
    val_main_v9 (F := Ideal) (fun i => (X i : EReal)) (ix2 p 0) = ((msq (fun k => X (ix2 p k)) : ℝ) : EReal) := by
  unfold msq
  pointwise [val_main_v9, val_main_v8, val_main_v7, val_main_v6, val_main_v5, val_main_v4, val_main_v3, val_main_cst,
    val_main_cst_0, val_main_cst_1]
  simp only [← EReal.coe_mul, coe_sum, lit_1024, lit_eps]
  rw [div_coe _ _ (by norm_num), ← EReal.coe_add]

theorem v10 (p : Fin 8192) :
    val_main_v10 (F := Ideal) (fun i => (X i : EReal)) (ix2 p 0) = ((rinv (fun k => X (ix2 p k)) : ℝ) : EReal) := by
  pointwise [val_main_v10]
  rw [v9]
  exact rsqrt_coe _ (msq_pos fun k => X (ix2 p k))

theorem v13 (p : Fin 8192) : val_main_v13 (F := Ideal) (fun i => (X i : EReal)) (ix2 p 0)
    = ((-(1 / 2) * (rinv (fun k => X (ix2 p k)) / msq (fun k => X (ix2 p k))) : ℝ) : EReal) := by
  pointwise [val_main_v13, val_main_v12, val_main_v11, val_main_cst_2]
  rw [v9, v10, lit_neg_half, div_coe _ _ (msq_pos _).ne', ← EReal.coe_mul]

theorem v21 (p : Fin 8192) (j : Fin 1024) :
    val_main_v21 (F := Ideal) (fun i => (A i : EReal)) (fun i => (W i : EReal)) (ix2 p j) = ((DY A W p j : ℝ) : EReal) := by
  unfold DY
  pointwise [val_main_v21, val_main_v20, val_main_v2, val_main_v1, val_main_v0]
  simp only [← EReal.coe_mul, coe_sum]

theorem v22 (p : Fin 8192) (j : Fin 1024) :
    val_main_v22 (F := Ideal) (fun i => (A i : EReal)) (fun i => (W i : EReal)) (fun i => (X i : EReal)) (ix2 p j)
      = ((DGpart A W X p j : ℝ) : EReal) := by
  unfold DGpart
  pointwise [val_main_v22, val_main_v15, val_main_v14]
  rw [v10, v21, ← EReal.coe_mul, ← EReal.coe_mul, mul_comm]

/-- The second result: the gradient of the scale. -/
theorem out1 (j : Fin 1024) :
    val_main_v43 (F := Ideal) (fun i => (A i : EReal)) (fun i => (W i : EReal)) (fun i => (X i : EReal)) (ix2 0 j)
      = ((DG A W X j : ℝ) : EReal) := by
  unfold DG
  pointwise [val_main_v43, val_main_v27, val_main_v24, val_main_v23, val_main_cst_3, val_main_cst_4]
  simp only [v22, coe_sum, Fin.sum_univ_one]

theorem v26 (p : Fin 8192) (j : Fin 1024) :
    val_main_v26 (F := Ideal) (fun i => (A i : EReal)) (fun i => (W i : EReal)) (fun i => (G i : EReal)) (ix2 p j)
      = ((DY A W p j * G (ix1 j) : ℝ) : EReal) := by
  pointwise [val_main_v26, val_main_v25, val_main_v16]
  rw [v21, ← EReal.coe_mul]

theorem v38 (p : Fin 8192) (j : Fin 1024) :
    val_main_v38 (F := Ideal) (fun i => (A i : EReal)) (fun i => (W i : EReal)) (fun i => (X i : EReal)) (fun i => (G i : EReal)) (ix2 p j)
      = (((∑ k, X (ix2 p k) * (DY A W p k * G (ix1 k)))
          * (-(1 / 2) * (rinv (fun k => X (ix2 p k)) / msq (fun k => X (ix2 p k)))) / 1024 : ℝ) : EReal) := by
  pointwise [val_main_v38, val_main_v37, val_main_v36, val_main_v35, val_main_v34, val_main_v30, val_main_v29, val_main_v28,
    val_main_cst_5, val_main_cst_6, val_main_cst_7]
  simp only [Fin.sum_univ_one, v26, v13, ← EReal.coe_mul, coe_sum, lit_1024]
  rw [div_coe _ _ (by norm_num)]

/-- The first result: the gradient of the stream. -/
theorem out0 (p : Fin 8192) (j : Fin 1024) :
    val_main_v42 (F := Ideal) (fun i => (A i : EReal)) (fun i => (W i : EReal)) (fun i => (X i : EReal)) (fun i => (G i : EReal))
        (fun i => (D i : EReal)) (ix2 p j)
      = ((DH A W X G D p j : ℝ) : EReal) := by
  unfold DH
  rw [← dRow_eq]
  pointwise [val_main_v42, val_main_v41, val_main_v40, val_main_v39, val_main_v33, val_main_v32, val_main_v31]
  simp only [v26, v38, v10, ← EReal.coe_mul, ← EReal.coe_add]

/-- The two results as arrays. -/
theorem array0 : val_main_v42 (F := Ideal) (fun i => (A i : EReal)) (fun i => (W i : EReal)) (fun i => (X i : EReal))
    (fun i => (G i : EReal)) (fun i => (D i : EReal)) = fun i => ((DH A W X G D (i 0) (i 1) : ℝ) : EReal) := by
  funext i
  have hi : i = ix2 (i 0) (i 1) := by funext b; match b with | ⟨0, _⟩ => rfl | ⟨1, _⟩ => rfl
  exact (congrArg _ hi).trans (out0 A W X G D (i 0) (i 1))

theorem array1 : val_main_v43 (F := Ideal) (fun i => (A i : EReal)) (fun i => (W i : EReal)) (fun i => (X i : EReal))
    = fun i => ((DG A W X (i 1) : ℝ) : EReal) := by
  funext i
  have hi : i = ix2 0 (i 1) := by
    funext b; match b with | ⟨0, _⟩ => exact Subsingleton.elim (α := Fin 1) _ _ | ⟨1, _⟩ => rfl
  exact (congrArg _ hi).trans (out1 A W X (i 1))

end Cert.NormAttnRefIdeal.Reading

end
-- ==== Proof.NormAttnClaims.lean ====
/-
  THE CLAIMS about `d_xn_attn`: the frames, and the value claim — for finite arguments, kernel and reference end with the
  same two arrays, the gradients of the stream and of the scale.
-/
module

public import proofs.«01_k».proof.Defs
public import proofs.«01_k».proof.Proof.NormAttnRef
public import proofs.«01_k».proof.Proof.Gen.NormAttn.Frame
public import proofs.«01_k».proof.Proof.Gen.Pre_finite_attn
public import Idealize.ShloMosaic.Lib.Quiescent

@[expose] public section

set_option maxRecDepth 16384

noncomputable section

namespace Cert.Proof.NormAttn

open Cert.Reals Cert.NormAttnIdeal.Arrays
open Idealize.ShloMosaic Idealize.ShloMosaic.TcCoe Idealize.SL.Sem

theorem frame : Cert.quiescent_NormAttn := fun m ρ _ => Cert.NormAttn.Gen.frame m ρ
theorem frame_ideal : Cert.quiescent_NormAttnIdeal := fun m ρ _ => Cert.NormAttnIdeal.Gen.frame m ρ
theorem frame_ideal_pre : Cert.quiescent_NormAttnIdeal_pre_finite_attn := fun m ρ _ => Cert.NormAttnIdeal.Gen.frame m ρ

/-- The reference's run, read at its arguments; it declares no semaphore. -/
theorem frame_ref : Cert.quiescent_NormAttnRefIdeal := fun m ρ _ =>
  (θ_run Cert.NormAttnRefIdeal.defs _ _).mono
    (fun r h => ⟨fun c => (h c).2.2, Idealize.ShloMosaic.sem_eq_zero_of_no_sems (by decide) r.2⟩)
    (Cert.NormAttnRefIdeal.Value.run (F := Ideal) m ρ)
theorem frame_ref_pre : Cert.quiescent_NormAttnRefIdeal_pre_finite_attn := fun m ρ _ => frame_ref m ρ trivial

/-- Finite arguments are arrays of reals. -/
theorem args_real (m : (ℓ : Loc Cert.NormAttnIdeal.nD Cert.NormAttnIdeal.τ Cert.NormAttnIdeal.sig) → Buf (Elt Ideal) ℓ)
    (h : Cert.Pre_NormAttnIdeal_finite_attn m) (c : Dev Cert.NormAttnIdeal.nD) : ∃ A W X G D, Args m c A W X G D := by
  obtain ⟨h0, h1, h2, h3, h4⟩ := h c
  obtain ⟨A, hA⟩ := reals_of_olt _ fun i => congrFun h0 i
  obtain ⟨W, hW⟩ := reals_of_olt _ fun i => congrFun h1 i
  obtain ⟨X, hX⟩ := reals_of_olt _ fun i => congrFun h2 i
  obtain ⟨G, hG⟩ := reals_of_olt _ fun i => congrFun h3 i
  obtain ⟨D, hD⟩ := reals_of_olt _ fun i => congrFun h4 i
  exact ⟨A, W, X, G, D, hA, hW, hX, hG, hD⟩

/-- For finite arguments the two programs end with the same gradients of the stream and of the scale. -/
theorem algebraic : Cert.algebraic_NormAttnIdeal_NormAttnRefIdeal_pre_finite_attn := by
  intro m ρ m' ρ' hpre hagree
  refine ⟨fun c => (Cert.NormAttnIdeal.Gen.dats (F := Ideal) m 0 c).arrAt 5 Cert.NormAttnIdeal.cfg0.N,
    fun c => (Cert.NormAttnIdeal.Gen.dats (F := Ideal) m 0 c).arrAt 6 Cert.NormAttnIdeal.cfg0.N,
    Cert.NormAttnIdeal.Value.run_blocks m ρ, ?_⟩
  refine (θ_run Cert.NormAttnRefIdeal.defs _ _).mono (fun r h c => ?_) (Cert.NormAttnRefIdeal.Value.run (F := Ideal) m' ρ')
  obtain ⟨A, W, X, G, D, hargs⟩ := args_real m hpre c
  obtain ⟨g0, g1, g2, g3, g4⟩ := hagree c
  have e0 := g0.trans hargs.a0
  have e1 := g1.trans hargs.a1
  have e2 := g2.trans hargs.a2
  have e3 := g3.trans hargs.a3
  have e4 := g4.trans hargs.a4
  refine ⟨(h c).1.trans ?_, (h c).2.1.trans ?_, (h c).2.2⟩
  · refine Eq.trans ?_ (final5 hargs).symm
    refine (Cert.NormAttnRefIdeal.Read.val_main_v42_eq m' c).trans ?_
    rw [e0, e1, e2, e3, e4]
    exact Cert.NormAttnRefIdeal.Reading.array0 A W X G D
  · refine Eq.trans ?_ (final6 hargs).symm
    refine (Cert.NormAttnRefIdeal.Read.val_main_v43_eq _ _ _).trans ?_
    rw [e0, e1, e2]
    exact Cert.NormAttnRefIdeal.Reading.array1 A W X

end Cert.Proof.NormAttn

end
-- ==== Proof.NormPleBlock.lean ====
/-
  ONE BLOCK of `d_xn_ple` (512 rows of the stream): what a grid point leaves in its two output buffers, first as the
  program's own terms over its input blocks, then, for input blocks of reals, as real formulas — the gradient rows of
  `NormMath.dRow`, and the block's part of the gradient of `g`.
-/
module

public import proofs.«01_k».proof.Proof.NormMath
public import proofs.«01_k».proof.Proof.Gen.NormPleIdeal.Value
public import Idealize.ShloMosaic.Lib.Pointwise

@[expose] public section

set_option maxRecDepth 16384

noncomputable section

namespace Cert.NormPleIdeal.Block

open Cert.NormPleIdeal Cert.NormPleIdeal.Gen Cert.Reals Cert.NormMath
open Idealize.ShloMosaic Idealize.ShloMosaic.TcCoe Idealize.SL.Sem
open scoped BigOperators

section Terms

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The rows a point leaves in the first output, of its blocks: of the product's gradient `a`, the weights `w`, the
    stream `x`, the scale `g`, the gradient `d` past the norm. -/
def rows (a : Vec F S512x1024 .bf16) (w : Vec F S1x1024x1024 .bf16) (x : Vec F S512x1024 .f32) (g : Vec F S1x1024 .f32)
    (d : Vec F S512x1024 .f32) : Vec F S512x1024 .f32 :=
  k0_pay1 (k0_pay4 x) (k0_pay5 x) (k0_pay7 a w g) d (k0_pay8 a w x g) (Scalar.ofBits .f32 0x44800000#32)

variable (c : Dev nD) (i : grid0.Coords) (a1 : Memref sig .tc .vmem S512x1024 .bf16) (h1 : a1.IsWhole)
  (a2 : Memref sig .tc .vmem S1x1024x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 : Vec F S512x1024 .bf16) (x1 : Vec F S1x1024x1024 .bf16) (x2 : Vec F S512x1024 .f32) (x3 : Vec F S1x1024 .f32)
  (x4 : Vec F S512x1024 .f32) (xo : Vec F S1x1024 .f32)

/-- At a later point, the first output holds `rows`. -/
theorem out_B_5 (hc : ¬cond0_0 i) :
    out0_B_5 c i a1 h1 a2 h2 a3 h3 a4 h4 a5 h5 a6 h6 a7 h7 hc x0 x1 x2 x3 x4 xo = rows x0 x1 x2 x3 x4 := by
  unfold out0_B_5 rows
  rw [View.read_writes_eq_canon _ _ _ (cover0_B_5 c i a1 h1 a2 h2 a3 h3 a4 h4 a5 h5 a6 h6 a7 h7 hc x0 x1 x2 x3 x4 xo)]
  unfold kernelRun0_B; dsimp only; sl_unfold_words
  rw [View.canon_unit_zero hz]
  simp only [View.readAt_eq_ld, h1.read_unread, h2.read_unread, h3.read_unread, h4.read_unread, h5.read_unread,
    h7.read_unread, View.ld_unit_zero (S := S512x1024) hz, View.ld_unit_zero (S := S1x1024x1024) hz3,
    View.ld_unit_zero (S := S1x1024) hz]

/-- At the first point, too. -/
theorem out_A_5 (hc : cond0_0 i) :
    out0_A_5 c i a1 h1 a2 h2 a3 h3 a4 h4 a5 h5 a6 h6 a7 h7 hc x0 x1 x2 x3 x4 = rows x0 x1 x2 x3 x4 := by
  unfold out0_A_5 rows
  rw [View.read_writes_eq_canon _ _ _ (cover0_A_5 c i a1 h1 a2 h2 a3 h3 a4 h4 a5 h5 a6 h6 a7 h7 hc x0 x1 x2 x3 x4)]
  unfold kernelRun0_A; dsimp only; sl_unfold_words
  rw [View.canon_unit_zero hz]
  simp only [View.readAt_eq_ld, h1.read_unread, h2.read_unread, h3.read_unread, h4.read_unread, h5.read_unread,
    View.ld_unit_zero (S := S512x1024) hz, View.ld_unit_zero (S := S1x1024x1024) hz3,
    View.ld_unit_zero (S := S1x1024) hz]

/-- At a later point, the second output holds what it held, plus the block's part. -/
theorem out_B_6 (hc : ¬cond0_0 i) :
    out0_B_6 c i a1 h1 a2 h2 a3 h3 a4 h4 a5 h5 a6 h6 a7 h7 hc x0 x1 x2 x3 x4 xo = k0_pay6 x0 x1 x2 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B; dsimp only; sl_unfold_words
  rw [View.canon_unit_zero hz]
  simp only [View.readAt_eq_ld, h1.read_unread, h2.read_unread, h3.read_unread, h4.read_unread, h5.read_unread,
    h7.read_unread, View.ld_unit_zero (S := S512x1024) hz, View.ld_unit_zero (S := S1x1024x1024) hz3,
    View.ld_unit_zero (S := S1x1024) hz]

/-- At the first point, it holds zero plus the block's part. -/
theorem out_A_6 (hc : cond0_0 i) :
    out0_A_6 c i a1 h1 a2 h2 a3 h3 a4 h4 a5 h5 a6 h6 a7 h7 hc x0 x1 x2 x3 x4 = k0_pay6 x0 x1 x2 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A; dsimp only; sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S512x1024) hz, View.ld_unit_zero (S := S1x1024x1024) hz3,
    View.ld_unit_zero (S := S1x1024) hz]

end Terms

/-! ## At blocks of reals -/

variable (a : S512x1024.Idx → ℝ) (w : S1x1024x1024.Idx → ℝ) (x : S512x1024.Idx → ℝ) (g : S1x1024.Idx → ℝ)
  (d : S512x1024.Idx → ℝ)

/-- The gradient of the normalised row `p`: the product of the block's row with the weights. -/
def dy (p : Fin 512) (j : Fin 1024) : ℝ := ∑ k : Fin 1024, a (ix2 p k) * w (ix3 0 j k)

theorem pay3 (p : Fin 512) (j : Fin 1024) :
    k0_pay3 (F := Ideal) (fun i => (a i : EReal)) (fun i => (w i : EReal)) (ix2 p j) = ((dy a w p j : ℝ) : EReal) := by
  unfold dy
  pointwise [k0_pay3]
  simp only [← EReal.coe_mul, coe_sum]

theorem pay4 (p : Fin 512) :
    k0_pay4 (F := Ideal) (fun i => (x i : EReal)) (ix2 p 0) = ((rinv (fun k => x (ix2 p k)) : ℝ) : EReal) := by
  pointwise [k0_pay4]
  simp only [← EReal.coe_mul, coe_sum, lit_1024, lit_eps]
  rw [div_coe _ _ (by norm_num), ← EReal.coe_add]
  exact rsqrt_coe _ (msq_pos fun k => x (ix2 p k))

/-- The gradient rows: `dRow` of the row's product. -/
theorem rows_apply (p : Fin 512) (j : Fin 1024) :
    rows (F := Ideal) (fun i => (a i : EReal)) (fun i => (w i : EReal)) (fun i => (x i : EReal)) (fun i => (g i : EReal))
        (fun i => (d i : EReal)) (ix2 p j)
      = ((dRow (dy a w p) (fun k => x (ix2 p k)) (fun k => g (ix2 0 k)) (fun k => d (ix2 p k)) j : ℝ) : EReal) := by
  unfold dRow
  pointwise [rows, k0_pay1, k0_pay5, k0_pay7, k0_pay8]
  simp only [pay3, pay4, ← EReal.coe_mul, coe_sum, lit_1024]
  rw [div_coe _ _ (by norm_num)]
  simp only [← EReal.coe_mul, ← EReal.coe_sub, ← EReal.coe_add]

/-- The block's part of the gradient of `g`, added to what the accumulator `o` holds. -/
theorem part_apply (o : S1x1024.Idx → ℝ) (j : Fin 1024) :
    k0_pay6 (F := Ideal) (fun i => (a i : EReal)) (fun i => (w i : EReal)) (fun i => (x i : EReal)) (fun i => (o i : EReal))
        (ix2 0 j)
      = ((o (ix2 0 j) + ∑ p : Fin 512, dy a w p j * (x (ix2 p j) * rinv (fun k => x (ix2 p k))) : ℝ) : EReal) := by
  pointwise [k0_pay6, k0_pay5]
  simp only [pay3, pay4, ← EReal.coe_mul, coe_sum, ← EReal.coe_add]

/-- The accumulator starts at zero. -/
theorem zero_apply : k0_pay2 (F := Ideal) = fun _ => ((0 : ℝ) : EReal) := by
  funext i
  pointwise [k0_pay2]
  exact EReal.coe_zero.symm

end Cert.NormPleIdeal.Block

end
-- ==== Proof.NormPleArray.lean ====
/-
  THE ARRAYS of `d_xn_ple`, for arguments of reals: the blocks a grid point reads are rows `512 t + p` of the arguments; the
  first output ends holding, row by row, the gradient of the stream (`NormMath.dRow`); the second holds, after the last of
  the 16 points, the sum over all 8192 rows that is the gradient of `g`.
-/
module

public import proofs.«01_k».proof.Proof.NormPleBlock

@[expose] public section

set_option maxRecDepth 16384

noncomputable section

namespace Cert.NormPleIdeal.Arrays

open Cert.NormPleIdeal Cert.NormPleIdeal.Gen Cert.NormPleIdeal.Block Cert.Reals Cert.NormMath
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

theorem hN : cfg0.N = 16 := N_0

/-- Row `p` of block `t`. -/
abbrev row (t : Fin cfg0.N) (p : Fin 512) : Fin 8192 :=
  ⟨512 * t.val + p.val, by have := t.isLt.trans_eq hN; omega⟩

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 1 ∧ win0_1.index t 1 = 0 ∧ win0_1.index t 2 = 0 :=
  (by decide +kernel : ∀ t : Fin grid0.N, win0_1.index t 0 = 1 ∧ win0_1.index t 1 = 0 ∧ win0_1.index t 2 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)

theorem read0 (t : Fin cfg0.N) (i : S512x1024.Idx) :
    iblk m c 0 t i = m ((c : Thread nD τ).loc main_arg0) (ix2 (row t (i 0)) (i 1)) := by
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * t.val + (i 0).val; rw [(at0 t).1]; omega
  | ⟨1, _⟩ => show win0_0.index t 1 * 1024 + 1 * (i 1).val = (i 1).val; rw [(at0 t).2]; omega

theorem read1 (t : Fin cfg0.N) (i : S1x1024x1024.Idx) :
    iblk m c 1 t i = m ((c : Thread nD τ).loc main_arg1) (ix3 1 (i 1) (i 2)) := by
  rw [← V_main_arg1 m c]; unfold iblk; rw [View.read_apply]
  show V m c main_arg1 _ = V m c main_arg1 _
  congr 1; funext b; apply Fin.ext
  have h0 : (i 0).val = 0 := by have : (i 0).val < 1 := (i 0).isLt; omega
  match b with
  | ⟨0, _⟩ => show win0_1.index t 0 * 1 + 1 * (i 0).val = 1; rw [(at1 t).1, h0]
  | ⟨1, _⟩ => show win0_1.index t 1 * 1024 + 1 * (i 1).val = (i 1).val; rw [(at1 t).2.1]; omega
  | ⟨2, _⟩ => show win0_1.index t 2 * 1024 + 1 * (i 2).val = (i 2).val; rw [(at1 t).2.2]; omega

theorem read2 (t : Fin cfg0.N) (i : S512x1024.Idx) :
    iblk m c 2 t i = m ((c : Thread nD τ).loc main_arg2) (ix2 (row t (i 0)) (i 1)) := by
  rw [← V_main_arg2 m c]; unfold iblk; rw [View.read_apply]
  show V m c main_arg2 _ = V m c main_arg2 _
  congr 1; funext b; apply Fin.ext
  match b with
  | ⟨0, _⟩ => show win0_2.index t 0 * 512 + 1 * (i 0).val = 512 * t.val + (i 0).val; rw [(at2 t).1]; omega
  | ⟨1, _⟩ => show win0_2.index t 1 * 1024 + 1 * (i 1).val = (i 1).val; rw [(at2 t).2]; omega

theorem V_v0 : V m c main_v0 = shapeCast _ (m ((c : Thread nD τ).loc main_arg3)) shapeCasts_S1024_S1x1024 := by
  unfold_abbrev_sides; after_results; rfl

theorem read3 (t : Fin cfg0.N) (i : S1x1024.Idx) :
    iblk m c 3 t i = m ((c : Thread nD τ).loc main_arg3) (ix1 (i 1)) := by
  unfold iblk; rw [View.read_apply]
  have h0 : (i 0).val = 0 := by have : (i 0).val < 1 := (i 0).isLt; omega
  show V m c main_v0 _ = _
  rw [V_v0]
  refine shapeCast_apply _ shapeCasts_S1024_S1x1024 _ (ix1 (i 1)) ?_
  rewrite [Shape.rowMajor_val_one, Shape.rowMajor_val_two]
  show (i 1).val = (win0_3.index t 0 * 1 + 1 * (i 0).val) * 1024 + (win0_3.index t 1 * 1024 + 1 * (i 1).val)
  rw [(at3 t).1, (at3 t).2]; omega

theorem read4 (t : Fin cfg0.N) (i : S512x1024.Idx) :
    iblk m c 4 t i = m ((c : Thread nD τ).loc main_arg4) (ix2 (row t (i 0)) (i 1)) := by
  rw [← V_main_arg4 m c]; unfold iblk; rw [View.read_apply]
  show V m c main_arg4 _ = V m c main_arg4 _
  congr 1; funext b; apply Fin.ext
  match b with
  | ⟨0, _⟩ => show win0_4.index t 0 * 512 + 1 * (i 0).val = 512 * t.val + (i 0).val; rw [(at4 t).1]; omega
  | ⟨1, _⟩ => show win0_4.index t 1 * 1024 + 1 * (i 1).val = (i 1).val; rw [(at4 t).2]; omega

/-! ## For arguments of reals -/

/-- The arguments are arrays of reals: the product's gradient, the two layers' weights, the stream, its scale, and the
    gradient past the norm. -/
structure Args (A : S8192x1024.Idx → ℝ) (W : S2x1024x1024.Idx → ℝ) (X : S8192x1024.Idx → ℝ) (G : S1024.Idx → ℝ)
    (D : S8192x1024.Idx → ℝ) : Prop where
  a0 : m ((c : Thread nD τ).loc main_arg0) = fun i => (A i : EReal)
  a1 : m ((c : Thread nD τ).loc main_arg1) = fun i => (W i : EReal)
  a2 : m ((c : Thread nD τ).loc main_arg2) = fun i => (X i : EReal)
  a3 : m ((c : Thread nD τ).loc main_arg3) = fun i => (G i : EReal)
  a4 : m ((c : Thread nD τ).loc main_arg4) = fun i => (D i : EReal)

variable (A : S8192x1024.Idx → ℝ) (W : S2x1024x1024.Idx → ℝ) (X : S8192x1024.Idx → ℝ) (G : S1024.Idx → ℝ)
  (D : S8192x1024.Idx → ℝ)

/-- The gradient of the normalised stream: the product of the incoming gradient with the layer's weights. -/
def DY (p : Fin 8192) (j : Fin 1024) : ℝ := ∑ k : Fin 1024, A (ix2 p k) * W (ix3 1 j k)

/-- The gradient of the stream. -/
def DH (p : Fin 8192) (j : Fin 1024) : ℝ :=
  dRow (DY A W p) (fun k => X (ix2 p k)) (fun k => G (ix1 k)) (fun k => D (ix2 p k)) j

/-- Row `p`'s part of the gradient of the scale. -/
def DGpart (p : Fin 8192) (j : Fin 1024) : ℝ := DY A W p j * (X (ix2 p j) * rinv (fun k => X (ix2 p k)))

/-- The gradient of the scale. -/
def DG (j : Fin 1024) : ℝ := ∑ p : Fin 8192, DGpart A W X p j

/-- The blocks of point `t`. -/
def blkA (t : Fin cfg0.N) : S512x1024.Idx → ℝ := fun i => A (ix2 (row t (i 0)) (i 1))
def blkW : S1x1024x1024.Idx → ℝ := fun i => W (ix3 1 (i 1) (i 2))
def blkX (t : Fin cfg0.N) : S512x1024.Idx → ℝ := fun i => X (ix2 (row t (i 0)) (i 1))
def blkG : S1x1024.Idx → ℝ := fun i => G (ix1 (i 1))

variable {m c A W X G D}

/-- What a point reads, for such arguments. -/
theorem blocks_eq (h : Args m c A W X G D) (t : Fin cfg0.N) :
    iblk m c 0 t = (fun i => (blkA A t i : EReal)) ∧ iblk m c 1 t = (fun i => (blkW W i : EReal))
      ∧ iblk m c 2 t = (fun i => (blkX X t i : EReal)) ∧ iblk m c 3 t = (fun i => (blkG G i : EReal))
      ∧ iblk m c 4 t = (fun i => (blkX D t i : EReal)) :=
  ⟨funext fun i => by rw [read0, h.a0]; rfl, funext fun i => by rw [read1, h.a1]; rfl,
    funext fun i => by rw [read2, h.a2]; rfl, funext fun i => by rw [read3, h.a3]; rfl,
    funext fun i => by rw [read4, h.a4]; rfl⟩

/-- The rows a point leaves in the first output are its rows of the gradient of the stream. -/
theorem rows_eq (h : Args m c A W X G D) (t : Fin cfg0.N) (i : S512x1024.Idx) :
    rows (F := Ideal) (iblk m c 0 t) (iblk m c 1 t) (iblk m c 2 t) (iblk m c 3 t) (iblk m c 4 t) i
      = ((DH A W X G D (row t (i 0)) (i 1) : ℝ) : EReal) := by
  obtain ⟨e0, e1, e2, e3, e4⟩ := blocks_eq h t
  have hi : i = ix2 (i 0) (i 1) := by funext b; match b with | ⟨0, _⟩ => rfl | ⟨1, _⟩ => rfl
  rw [show rows (F := Ideal) (iblk m c 0 t) (iblk m c 1 t) (iblk m c 2 t) (iblk m c 3 t) (iblk m c 4 t)
    = rows (F := Ideal) (fun i => (blkA A t i : EReal)) (fun i => (blkW W i : EReal)) (fun i => (blkX X t i : EReal))
      (fun i => (blkG G i : EReal)) (fun i => (blkX D t i : EReal)) by rw [e0, e1, e2, e3, e4]]
  exact (congrArg _ hi).trans (rows_apply (blkA A t) (blkW W) (blkX X t) (blkG G) (blkX D t) (i 0) (i 1))

/-- What a point adds to the second output: its rows' parts. -/
theorem part_eq (h : Args m c A W X G D) (t : Fin cfg0.N) (o : S1x1024.Idx → ℝ) (i : S1x1024.Idx) :
    k0_pay6 (F := Ideal) (iblk m c 0 t) (iblk m c 1 t) (iblk m c 2 t) (fun i => (o i : EReal)) i
      = ((o i + ∑ p : Fin 512, DGpart A W X (row t p) (i 1) : ℝ) : EReal) := by
  obtain ⟨e0, e1, e2, -, -⟩ := blocks_eq h t
  have hi : i = ix2 0 (i 1) := by
    funext b; match b with | ⟨0, _⟩ => exact Subsingleton.elim (α := Fin 1) _ _ | ⟨1, _⟩ => rfl
  rw [show k0_pay6 (F := Ideal) (iblk m c 0 t) (iblk m c 1 t) (iblk m c 2 t) (fun i => (o i : EReal))
    = k0_pay6 (F := Ideal) (fun i => (blkA A t i : EReal)) (fun i => (blkW W i : EReal)) (fun i => (blkX X t i : EReal))
      (fun i => (o i : EReal)) by rw [e0, e1, e2]]
  refine (congrArg _ hi).trans ((part_apply (blkA A t) (blkW W) (blkX X t) o (i 1)).trans ?_)
  rw [show o (ix2 0 (i 1)) = o i from congrArg o hi.symm]; rfl

/-- What the first output's buffer holds after any point. -/
theorem outs_fst (t : Fin cfg0.N) : (outsAt0 m c t.val t.isLt).1
    = rows (F := Ideal) (iblk m c 0 t) (iblk m c 1 t) (iblk m c 2 t) (iblk m c 3 t) (iblk m c 4 t) := by
  by_cases h0 : t.val % 16 = 0
  · rw [outsAt0_A m c t h0]; dsimp only; rw [out_A_5]
  · rw [outsAt0_B m c t h0]; dsimp only; rw [out_B_5]

/-- The first output ends holding the gradient of the stream. -/
theorem final5 (h : Args m c A W X G D) :
    (dats m 0 c).arrAt 5 cfg0.N = fun i => ((DH A W X G D (i 0) (i 1) : ℝ) : EReal) := by
  refine (dats m 0 c).arrAt_eq_of_cover 5 _ (fun t _ => ?_) fun i => ?_
  · rw [Value.flushed5, outs_fst]
    funext j
    rw [View.read_apply]
    refine (rows_eq h t j).trans ?_
    show _ = (((DH A W X G D _ _ : ℝ) : EReal))
    congr 2 <;> apply Fin.ext
    · show 512 * t.val + (j 0).val = win0_5.index t 0 * 512 + 1 * (j 0).val; rw [(at5 t).1]; omega
    · show (j 1).val = win0_5.index t 1 * 1024 + 1 * (j 1).val; rw [(at5 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_5 _, ?_⟩
    show i ∈ ((View.whole main_v1_0).slice (win0_5.rect ⟨(i 0 : Nat) / 512, ht⟩)).set
    rw [View.set_slice_whole, Rect.mem_set_unit]
    intro b
    match b with
    | ⟨0, _⟩ =>
      show win0_5.index ⟨(i 0 : Nat) / 512, ht⟩ 0 * 512 ≤ (i 0 : Nat)
        ∧ (i 0 : Nat) < win0_5.index ⟨(i 0 : Nat) / 512, ht⟩ 0 * 512 + 512
      rw [(at5 _).1]; dsimp only; omega
    | ⟨1, _⟩ =>
      show win0_5.index ⟨(i 0 : Nat) / 512, ht⟩ 1 * 1024 ≤ (i 1 : Nat)
        ∧ (i 1 : Nat) < win0_5.index ⟨(i 0 : Nat) / 512, ht⟩ 1 * 1024 + 1024
      rw [(at5 _).2]; omega

/-- What the second output's buffer holds after point `n`: the parts of the rows so far. -/
theorem outs_snd (h : Args m c A W X G D) : ∀ (n : ℕ) (hn : n < cfg0.N), (outsAt0 m c n hn).2
    = fun i => ((∑ t : Fin (n + 1), ∑ p : Fin 512, DGpart A W X (row ⟨t.val, lt_of_le_of_lt (Nat.le_of_lt_succ t.isLt) hn⟩ p) (i 1) : ℝ) : EReal)
  | 0, hn => by
    rw [show outsAt0 m c 0 hn = _ from outsAt0_A m c ⟨0, hn⟩ rfl]
    dsimp only
    rw [out_A_6, zero_apply]
    funext i
    refine (part_eq h ⟨0, hn⟩ (fun _ => 0) i).trans ?_
    rw [Fin.sum_univ_one, zero_add]
    rfl
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_6, show outsAt0 m c (n + 1 - 1) _ = outsAt0 m c n (Nat.lt_of_succ_lt hn) from rfl, outs_snd h n]
    funext i
    refine (part_eq h ⟨n + 1, hn⟩ (fun i => ∑ t : Fin (n + 1), ∑ p : Fin 512, DGpart A W X
      (row ⟨t.val, lt_of_le_of_lt (Nat.le_of_lt_succ t.isLt) (Nat.lt_of_succ_lt hn)⟩ p) (i 1)) i).trans ?_
    rw [Fin.sum_univ_castSucc (n := n + 1)]
    rfl

/-- The sum over the points of the sums over their rows is the sum over all rows. -/
theorem sum_rows (f : Fin 8192 → ℝ) (h15 : 15 < cfg0.N) :
    (∑ t : Fin (15 + 1), ∑ p : Fin 512, f (row ⟨t.val, lt_of_le_of_lt (Nat.le_of_lt_succ t.isLt) h15⟩ p)) = ∑ q, f q := by
  rw [← Fintype.sum_prod_type' (fun (t : Fin 16) (p : Fin 512) => f (row ⟨t.val, lt_of_le_of_lt (Nat.le_of_lt_succ t.isLt) h15⟩ p))]
  refine Fintype.sum_equiv (finProdFinEquiv (m := 16) (n := 512)) _ _ fun x => congrArg f (Fin.ext ?_)
  show 512 * x.1.val + x.2.val = x.2.val + 512 * x.1.val
  omega

/-- The second output ends holding the gradient of the scale. -/
theorem final6 (h : Args m c A W X G D) :
    (dats m 0 c).arrAt 6 cfg0.N = fun i => ((DG A W X (i 1) : ℝ) : EReal) := by
  have h15 : 15 < cfg0.N := by have := hN; omega
  refine (dats m 0 c).arrAt_eq_of_cover 6 _ (fun t ht => ?_) fun i => ⟨⟨15, h15⟩, (flush0_6 _).mpr rfl, ?_⟩
  · have h3 : t.val = 15 := by have := (flush0_6 t).mp ht; have := t.isLt.trans_eq hN; omega
    obtain rfl : t = ⟨15, h15⟩ := Fin.ext h3
    rw [Value.flushed6, outs_snd h]
    funext j
    rw [View.read_apply]
    show ((_ : ℝ) : EReal) = ((DG A W X _ : ℝ) : EReal)
    congr 1
    refine (sum_rows (fun p => DGpart A W X p _) h15).trans ?_
    show DG A W X _ = DG A W X _
    congr 1; apply Fin.ext
    show (j 1).val = win0_6.index ⟨15, h15⟩ 1 * 1024 + 1 * (j 1).val
    rw [(at6 _).2]; omega
  · show i ∈ ((View.whole main_v1_1).slice (win0_6.rect ⟨15, h15⟩)).set
    rw [View.set_slice_whole, Rect.mem_set_unit]
    have h0 : (i 0 : Nat) < 1 := (i 0).isLt
    have h1 : (i 1 : Nat) < 1024 := (i 1).isLt
    intro b
    match b with
    | ⟨0, _⟩ =>
      show win0_6.index ⟨15, h15⟩ 0 * 1 ≤ (i 0 : Nat) ∧ (i 0 : Nat) < win0_6.index ⟨15, h15⟩ 0 * 1 + 1
      rw [(at6 _).1]; omega
    | ⟨1, _⟩ =>
      show win0_6.index ⟨15, h15⟩ 1 * 1024 ≤ (i 1 : Nat) ∧ (i 1 : Nat) < win0_6.index ⟨15, h15⟩ 1 * 1024 + 1024
      rw [(at6 _).2]; omega

end Cert.NormPleIdeal.Arrays

end
-- ==== Proof.NormPleRef.lean ====
/-
  THE REFERENCE of `d_xn_ple`, read at an index for arguments of reals: the two gradients are the formulas of
  `NormPleIdeal.Arrays` — the product's gradient, the norm differentiated factor by factor (`NormMath.dRow_eq`), and
  the sum over the rows for the scale.
-/
module

public import proofs.«01_k».proof.Proof.NormPleArray
public import proofs.«01_k».proof.Proof.Gen.NormPleRefIdeal.Run
public import proofs.«01_k».proof.Proof.Gen.NormPleRefIdeal.Read

@[expose] public section

set_option maxRecDepth 16384

noncomputable section

namespace Cert.NormPleRefIdeal.Reading

open Cert.NormPleRefIdeal Cert.NormPleRefIdeal.Gen Cert.NormPleRefIdeal.Read Cert.Reals Cert.NormMath
open Cert.NormPleIdeal.Arrays (DY DH DG DGpart)
open Idealize.ShloMosaic Idealize.ShloMosaic.TcCoe Idealize.SL.Sem
open scoped BigOperators

variable (A : S8192x1024.Idx → ℝ) (W : S2x1024x1024.Idx → ℝ) (X : S8192x1024.Idx → ℝ) (G : S1024.Idx → ℝ)
  (D : S8192x1024.Idx → ℝ)

theorem v9 (p : Fin 8192) :
    val_main_v9 (F := Ideal) (fun i => (X i : EReal)) (ix2 p 0) = ((msq (fun k => X (ix2 p k)) : ℝ) : EReal) := by
  unfold msq
  pointwise [val_main_v9, val_main_v8, val_main_v7, val_main_v6, val_main_v5, val_main_v4, val_main_v3, val_main_cst,
    val_main_cst_0, val_main_cst_1]
  simp only [← EReal.coe_mul, coe_sum, lit_1024, lit_eps]
  rw [div_coe _ _ (by norm_num), ← EReal.coe_add]

theorem v10 (p : Fin 8192) :
    val_main_v10 (F := Ideal) (fun i => (X i : EReal)) (ix2 p 0) = ((rinv (fun k => X (ix2 p k)) : ℝ) : EReal) := by
  pointwise [val_main_v10]
  rw [v9]
  exact rsqrt_coe _ (msq_pos fun k => X (ix2 p k))

theorem v13 (p : Fin 8192) : val_main_v13 (F := Ideal) (fun i => (X i : EReal)) (ix2 p 0)
    = ((-(1 / 2) * (rinv (fun k => X (ix2 p k)) / msq (fun k => X (ix2 p k))) : ℝ) : EReal) := by
  pointwise [val_main_v13, val_main_v12, val_main_v11, val_main_cst_2]
  rw [v9, v10, lit_neg_half, div_coe _ _ (msq_pos _).ne', ← EReal.coe_mul]

theorem v21 (p : Fin 8192) (j : Fin 1024) :
    val_main_v21 (F := Ideal) (fun i => (A i : EReal)) (fun i => (W i : EReal)) (ix2 p j) = ((DY A W p j : ℝ) : EReal) := by
  unfold DY
  pointwise [val_main_v21, val_main_v20, val_main_v2, val_main_v1, val_main_v0]
  simp only [← EReal.coe_mul, coe_sum]

theorem v22 (p : Fin 8192) (j : Fin 1024) :
    val_main_v22 (F := Ideal) (fun i => (A i : EReal)) (fun i => (W i : EReal)) (fun i => (X i : EReal)) (ix2 p j)
      = ((DGpart A W X p j : ℝ) : EReal) := by
  unfold DGpart
  pointwise [val_main_v22, val_main_v15, val_main_v14]
  rw [v10, v21, ← EReal.coe_mul, ← EReal.coe_mul, mul_comm]

/-- The second result: the gradient of the scale. -/
theorem out1 (j : Fin 1024) :
    val_main_v43 (F := Ideal) (fun i => (A i : EReal)) (fun i => (W i : EReal)) (fun i => (X i : EReal)) (ix2 0 j)
      = ((DG A W X j : ℝ) : EReal) := by
  unfold DG
  pointwise [val_main_v43, val_main_v27, val_main_v24, val_main_v23, val_main_cst_3, val_main_cst_4]
  simp only [v22, coe_sum, Fin.sum_univ_one]

theorem v26 (p : Fin 8192) (j : Fin 1024) :
    val_main_v26 (F := Ideal) (fun i => (A i : EReal)) (fun i => (W i : EReal)) (fun i => (G i : EReal)) (ix2 p j)
      = ((DY A W p j * G (ix1 j) : ℝ) : EReal) := by
  pointwise [val_main_v26, val_main_v25, val_main_v16]
  rw [v21, ← EReal.coe_mul]

theorem v38 (p : Fin 8192) (j : Fin 1024) :
    val_main_v38 (F := Ideal) (fun i => (A i : EReal)) (fun i => (W i : EReal)) (fun i => (X i : EReal)) (fun i => (G i : EReal)) (ix2 p j)
      = (((∑ k, X (ix2 p k) * (DY A W p k * G (ix1 k)))
          * (-(1 / 2) * (rinv (fun k => X (ix2 p k)) / msq (fun k => X (ix2 p k)))) / 1024 : ℝ) : EReal) := by
  pointwise [val_main_v38, val_main_v37, val_main_v36, val_main_v35, val_main_v34, val_main_v30, val_main_v29, val_main_v28,
    val_main_cst_5, val_main_cst_6, val_main_cst_7]
  simp only [Fin.sum_univ_one, v26, v13, ← EReal.coe_mul, coe_sum, lit_1024]
  rw [div_coe _ _ (by norm_num)]

/-- The first result: the gradient of the stream. -/
theorem out0 (p : Fin 8192) (j : Fin 1024) :
    val_main_v42 (F := Ideal) (fun i => (A i : EReal)) (fun i => (W i : EReal)) (fun i => (X i : EReal)) (fun i => (G i : EReal))
        (fun i => (D i : EReal)) (ix2 p j)
      = ((DH A W X G D p j : ℝ) : EReal) := by
  unfold DH
  rw [← dRow_eq]
  pointwise [val_main_v42, val_main_v41, val_main_v40, val_main_v39, val_main_v33, val_main_v32, val_main_v31]
  simp only [v26, v38, v10, ← EReal.coe_mul, ← EReal.coe_add]

/-- The two results as arrays. -/
theorem array0 : val_main_v42 (F := Ideal) (fun i => (A i : EReal)) (fun i => (W i : EReal)) (fun i => (X i : EReal))
    (fun i => (G i : EReal)) (fun i => (D i : EReal)) = fun i => ((DH A W X G D (i 0) (i 1) : ℝ) : EReal) := by
  funext i
  have hi : i = ix2 (i 0) (i 1) := by funext b; match b with | ⟨0, _⟩ => rfl | ⟨1, _⟩ => rfl
  exact (congrArg _ hi).trans (out0 A W X G D (i 0) (i 1))

theorem array1 : val_main_v43 (F := Ideal) (fun i => (A i : EReal)) (fun i => (W i : EReal)) (fun i => (X i : EReal))
    = fun i => ((DG A W X (i 1) : ℝ) : EReal) := by
  funext i
  have hi : i = ix2 0 (i 1) := by
    funext b; match b with | ⟨0, _⟩ => exact Subsingleton.elim (α := Fin 1) _ _ | ⟨1, _⟩ => rfl
  exact (congrArg _ hi).trans (out1 A W X (i 1))

end Cert.NormPleRefIdeal.Reading

end
-- ==== Proof.NormPleClaims.lean ====
/-
  THE CLAIMS about `d_xn_ple`: the frames, and the value claim — for finite arguments, kernel and reference end with the
  same two arrays, the gradients of the stream and of the scale.
-/
module

public import proofs.«01_k».proof.Defs
public import proofs.«01_k».proof.Proof.NormPleRef
public import proofs.«01_k».proof.Proof.Gen.NormPle.Frame
public import proofs.«01_k».proof.Proof.Gen.Pre_finite_ple
public import Idealize.ShloMosaic.Lib.Quiescent

@[expose] public section

set_option maxRecDepth 16384

noncomputable section

namespace Cert.Proof.NormPle

open Cert.Reals Cert.NormPleIdeal.Arrays
open Idealize.ShloMosaic Idealize.ShloMosaic.TcCoe Idealize.SL.Sem

theorem frame : Cert.quiescent_NormPle := fun m ρ _ => Cert.NormPle.Gen.frame m ρ
theorem frame_ideal : Cert.quiescent_NormPleIdeal := fun m ρ _ => Cert.NormPleIdeal.Gen.frame m ρ
theorem frame_ideal_pre : Cert.quiescent_NormPleIdeal_pre_finite_ple := fun m ρ _ => Cert.NormPleIdeal.Gen.frame m ρ

/-- The reference's run, read at its arguments; it declares no semaphore. -/
theorem frame_ref : Cert.quiescent_NormPleRefIdeal := fun m ρ _ =>
  (θ_run Cert.NormPleRefIdeal.defs _ _).mono
    (fun r h => ⟨fun c => (h c).2.2, Idealize.ShloMosaic.sem_eq_zero_of_no_sems (by decide) r.2⟩)
    (Cert.NormPleRefIdeal.Value.run (F := Ideal) m ρ)
theorem frame_ref_pre : Cert.quiescent_NormPleRefIdeal_pre_finite_ple := fun m ρ _ => frame_ref m ρ trivial

/-- Finite arguments are arrays of reals. -/
theorem args_real (m : (ℓ : Loc Cert.NormPleIdeal.nD Cert.NormPleIdeal.τ Cert.NormPleIdeal.sig) → Buf (Elt Ideal) ℓ)
    (h : Cert.Pre_NormPleIdeal_finite_ple m) (c : Dev Cert.NormPleIdeal.nD) : ∃ A W X G D, Args m c A W X G D := by
  obtain ⟨h0, h1, h2, h3, h4⟩ := h c
  obtain ⟨A, hA⟩ := reals_of_olt _ fun i => congrFun h0 i
  obtain ⟨W, hW⟩ := reals_of_olt _ fun i => congrFun h1 i
  obtain ⟨X, hX⟩ := reals_of_olt _ fun i => congrFun h2 i
  obtain ⟨G, hG⟩ := reals_of_olt _ fun i => congrFun h3 i
  obtain ⟨D, hD⟩ := reals_of_olt _ fun i => congrFun h4 i
  exact ⟨A, W, X, G, D, hA, hW, hX, hG, hD⟩

/-- For finite arguments the two programs end with the same gradients of the stream and of the scale. -/
theorem algebraic : Cert.algebraic_NormPleIdeal_NormPleRefIdeal_pre_finite_ple := by
  intro m ρ m' ρ' hpre hagree
  refine ⟨fun c => (Cert.NormPleIdeal.Gen.dats (F := Ideal) m 0 c).arrAt 5 Cert.NormPleIdeal.cfg0.N,
    fun c => (Cert.NormPleIdeal.Gen.dats (F := Ideal) m 0 c).arrAt 6 Cert.NormPleIdeal.cfg0.N,
    Cert.NormPleIdeal.Value.run_blocks m ρ, ?_⟩
  refine (θ_run Cert.NormPleRefIdeal.defs _ _).mono (fun r h c => ?_) (Cert.NormPleRefIdeal.Value.run (F := Ideal) m' ρ')
  obtain ⟨A, W, X, G, D, hargs⟩ := args_real m hpre c
  obtain ⟨g0, g1, g2, g3, g4⟩ := hagree c
  have e0 := g0.trans hargs.a0
  have e1 := g1.trans hargs.a1
  have e2 := g2.trans hargs.a2
  have e3 := g3.trans hargs.a3
  have e4 := g4.trans hargs.a4
  refine ⟨(h c).1.trans ?_, (h c).2.1.trans ?_, (h c).2.2⟩
  · refine Eq.trans ?_ (final5 hargs).symm
    refine (Cert.NormPleRefIdeal.Read.val_main_v42_eq m' c).trans ?_
    rw [e0, e1, e2, e3, e4]
    exact Cert.NormPleRefIdeal.Reading.array0 A W X G D
  · refine Eq.trans ?_ (final6 hargs).symm
    refine (Cert.NormPleRefIdeal.Read.val_main_v43_eq _ _ _).trans ?_
    rw [e0, e1, e2]
    exact Cert.NormPleRefIdeal.Reading.array1 A W X

end Cert.Proof.NormPle

end
-- ==== Proof.RowSum.lean ====
/-
  A SUM OVER ALL 8192 ROWS, taken block of 1024 rows by block: the eight partial sums that a grid of products accumulates add up to
  the whole contraction.
-/
module

public import Idealize.ShloMosaic.PureOps.Ideal.Laws
public import Idealize.ShloMosaic.Lib.IdealHost

@[expose] public section

noncomputable section

namespace Cert.RowSum

open scoped BigOperators

/-- Row `k` of block `s`. -/
abbrev row (s : Fin 8) (k : Fin 1024) : Fin 8192 := ⟨1024 * s.val + k.val, by omega⟩

/-- The sum over the blocks of the sums over their rows is the sum over all rows. -/
theorem blocks {M : Type} [AddCommMonoid M] (f : Fin 8192 → M) : (∑ s : Fin 8, ∑ k : Fin 1024, f (row s k)) = ∑ q, f q := by
  rw [← Fintype.sum_prod_type' (fun (s : Fin 8) (k : Fin 1024) => f (row s k))]
  refine Fintype.sum_equiv (finProdFinEquiv (m := 8) (n := 1024)) _ _ fun x => congrArg f (Fin.ext ?_)
  show 1024 * x.1.val + x.2.val = x.2.val + 1024 * x.1.val
  omega

/-- The same, the blocks numbered by the naturals of a run of grid points. -/
theorem run {M : Type} [AddCommMonoid M] (g : ℕ → M) (f : Fin 8192 → M) (h : ∀ s : Fin 8, g s.val = ∑ k : Fin 1024, f (row s k)) :
    (∑ s ∈ Finset.range (7 + 1), g s) = ∑ q, f q := by
  rw [Finset.sum_range, ← blocks]
  exact Finset.sum_congr rfl fun s _ => h s

end Cert.RowSum

end
-- ==== Proof.GradUpClaims.lean ====
/-
  `d_ffn_w_up`: the gradient of the up projection of the feed-forward branch, a contraction of all 8192 rows. The kernel's grid visits,
  for each block of the result, the eight blocks of 1024 rows, and accumulates the products of the blocks; so its array ends
  holding the sum over all rows (`final`), which the reference writes as one product (`reference`). The claims
  follow: the frames, and the value claim, for all arguments.
-/
module

public import proofs.«01_k».proof.Defs
public import proofs.«01_k».proof.Proof.RowSum
public import proofs.«01_k».proof.Proof.Gen.GradUp.Frame
public import proofs.«01_k».proof.Proof.Gen.GradUpIdeal.Value
public import proofs.«01_k».proof.Proof.Gen.GradUpRefIdeal.Run
public import proofs.«01_k».proof.Proof.Gen.GradUpRefIdeal.Read
public import Idealize.ShloMosaic.Lib.Quiescent
public import Idealize.ShloMosaic.Lib.Pointwise

@[expose] public section

set_option maxRecDepth 16384

noncomputable section

namespace Cert.Proof.GradUp

open Cert.GradUpIdeal Cert.GradUpIdeal.Gen
open Idealize.ShloMosaic Idealize.ShloMosaic.TcCoe Idealize.SL.Sem
open scoped BigOperators

section kernel

variable (m : (ℓ : Loc nD τ sig) → Buf (Elt Ideal) ℓ) (c : Dev nD)

theorem hN : cfg0.N = 32 := N_0

/-- The two operands of the product. -/
abbrev lhs (i : S8192x1024.Idx) : EReal := m ((c : Thread nD τ).loc main_arg0) i
abbrev rhs (i : S8192x5632.Idx) : EReal := m ((c : Thread nD τ).loc main_arg1) i

/-- Which block each operand's window shows at grid point `t`: rows block `t % 8`, and the columns of the run `t / 8`. -/
theorem at0 : ∀ t : Fin cfg0.N, win0_0.index t 0 = t.val % 8 ∧ win0_0.index t 1 = t.val / 8 / 4 :=
  (by decide +kernel : ∀ t : Fin grid0.N, win0_0.index t 0 = t.val % 8 ∧ win0_0.index t 1 = t.val / 8 / 4)
theorem at1 : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)

/-- The row of the arrays that is row `k` of the blocks at point `t`. -/
abbrev row (t : Fin cfg0.N) (k : Fin 1024) : Fin 8192 := ⟨1024 * (t.val % 8) + k.val, by omega⟩
/-- The column of the left array at point `t`, and of the right. -/
abbrev col0 (t : Fin cfg0.N) (p : Fin 1024) : Fin 1024 :=
  ⟨1024 * (t.val / 8 / 4) + p.val, by have := t.isLt.trans_eq hN; omega⟩
abbrev col1 (t : Fin cfg0.N) (q : Fin 1408) : Fin 5632 :=
  ⟨1408 * (t.val / 8 % 4) + q.val, by omega⟩

theorem read0 (t : Fin cfg0.N) (i : S1024x1024.Idx) :
    iblk m c 0 t i = lhs m c (ix2 (row t (i 0)) (col0 t (i 1))) := by
  unfold lhs
  rw [← V_main_arg0 m c]; unfold iblk; rw [View.read_apply]
  show V m c main_arg0 _ = V m c main_arg0 _
  congr 1; funext b; apply Fin.ext
  match b with
  | ⟨0, _⟩ => show win0_0.index t 0 * 1024 + 1 * (i 0).val = 1024 * (t.val % 8) + (i 0).val; rw [(at0 t).1]; omega
  | ⟨1, _⟩ => show win0_0.index t 1 * 1024 + 1 * (i 1).val = 1024 * (t.val / 8 / 4) + (i 1).val; rw [(at0 t).2]; omega

theorem read1 (t : Fin cfg0.N) (i : S1024x1408.Idx) :
    iblk m c 1 t i = rhs m c (ix2 (row t (i 0)) (col1 t (i 1))) := by
  unfold rhs
  rw [← V_main_arg1 m c]; unfold iblk; rw [View.read_apply]
  show V m c main_arg1 _ = V m c main_arg1 _
  congr 1; funext b; apply Fin.ext
  match b with
  | ⟨0, _⟩ => show win0_1.index t 0 * 1024 + 1 * (i 0).val = 1024 * (t.val % 8) + (i 0).val; rw [(at1 t).1]; omega
  | ⟨1, _⟩ => show win0_1.index t 1 * 1408 + 1 * (i 1).val = 1408 * (t.val / 8 % 4) + (i 1).val; rw [(at1 t).2]; omega

/-- One point's addend: the product of its two blocks. -/
def addend (n : ℕ) (i : S1024x1408.Idx) : EReal :=
  if h : n < cfg0.N then
    ∑ k : Fin 1024, lhs m c (ix2 (row ⟨n, h⟩ k) (col0 ⟨n, h⟩ (i 0))) * rhs m c (ix2 (row ⟨n, h⟩ k) (col1 ⟨n, h⟩ (i 1)))
  else 0

/-- The body adds the product of the two blocks to what it finds. -/
theorem body (acc : Vec Ideal S1024x1408 .f32) (x0 : Vec Ideal S1024x1024 .bf16)
    (x1 : Vec Ideal S1024x1408 .bf16) (p : Fin 1024) (q : Fin 1408) :
    k0_pay2 (F := Ideal) acc x0 x1 (ix2 p q) = acc (ix2 p q) + ∑ k : Fin 1024, x0 (ix2 k p) * x1 (ix2 k q) := by
  pointwise [k0_pay2]

theorem step (n : ℕ) (h : n < cfg0.N) (acc : Vec Ideal S1024x1408 .f32) (i : S1024x1408.Idx) :
    Value.step2 m c n h acc i = acc i + addend m c n i := by
  unfold Value.step2 addend
  rw [dif_pos h, eq_ix2 i]
  refine (body _ _ _ (i 0) (i 1)).trans ?_
  refine congrArg _ (Finset.sum_congr rfl fun k _ => ?_)
  rw [read0, read1]
  rfl

/-- The first point of a run starts from zero. -/
theorem zero (i : S1024x1408.Idx) : k0_pay1 (F := Ideal) i = 0 := by
  rw [eq_ix2 i]
  pointwise [k0_pay1]

theorem reset (n : ℕ) (h : n < cfg0.N) (i : S1024x1408.Idx) : Value.reset2 m c n h i = 0 + addend m c n i :=
  (step m c n h (k0_pay1 (F := Ideal)) i).trans (by rw [zero])

/-- The result: the contraction of all rows. -/
theorem final : Value.G2 m c = fun i => ∑ r : Fin 8192, lhs m c (ix2 r (i 0)) * rhs m c (ix2 r (i 1)) := by
  funext i
  have h0 : (i 0).val < 1024 := (i 0).isLt
  have h1 : (i 1).val < 5632 := (i 1).isLt
  have hr : Value.run2Of i = 4 * ((i 0).val / 1024) + (i 1).val / 1408 := by
    show 4 * ((i 0).val / 1024 - 0) + 1 * ((i 1).val / 1408 - 0) = _
    omega
  have hr' : Value.run2Of i / 4 = (i 0).val / 1024 ∧ Value.run2Of i % 4 = (i 1).val / 1408 := by
    rw [hr]; omega
  have hb : 8 * Value.run2Of i + 7 < cfg0.N := by rw [hN, hr]; omega
  unfold Value.G2
  rw [dif_pos hb, Pipeline.accAt_add_apply (Value.reset2 m c) (Value.step2 m c) (fun _ => (0 : EReal)) (addend m c) _ 7
    (fun h i => reset m c _ h i) (fun n h acc i _ _ => step m c n h acc i) 7 le_rfl hb]
  refine (zero_add (∑ s ∈ Finset.range (7 + 1), addend m c (8 * Value.run2Of i + s) (Value.loc2Of i))).trans ?_
  refine RowSum.run (fun s => addend m c (8 * Value.run2Of i + s) (Value.loc2Of i))
    (fun r => lhs m c (ix2 r (i 0)) * rhs m c (ix2 r (i 1))) fun s => ?_
  have hs : 8 * Value.run2Of i + s.val < cfg0.N := by omega
  unfold addend
  rw [dif_pos hs]
  refine Finset.sum_congr rfl fun k _ => ?_
  have e0 : row ⟨8 * Value.run2Of i + s.val, hs⟩ k = RowSum.row s k :=
    Fin.ext (by show 1024 * ((8 * Value.run2Of i + s.val) % 8) + k.val = 1024 * s.val + k.val; omega)
  have e1 : col0 ⟨8 * Value.run2Of i + s.val, hs⟩ (Value.loc2Of i 0) = i 0 :=
    Fin.ext (by
      show 1024 * ((8 * Value.run2Of i + s.val) / 8 / 4) + (i 0).val % 1024 = (i 0).val
      rw [show (8 * Value.run2Of i + s.val) / 8 = Value.run2Of i by omega, hr'.1]; omega)
  have e2 : col1 ⟨8 * Value.run2Of i + s.val, hs⟩ (Value.loc2Of i 1) = i 1 :=
    Fin.ext (by
      show 1408 * ((8 * Value.run2Of i + s.val) / 8 % 4) + (i 1).val % 1408 = (i 1).val
      rw [show (8 * Value.run2Of i + s.val) / 8 = Value.run2Of i by omega, hr'.2]; omega)
  rw [e0, e1, e2]

end kernel

/-! ## The claims -/

theorem frame : Cert.quiescent_GradUp := fun m ρ _ => Cert.GradUp.Gen.frame m ρ
theorem frame_ideal : Cert.quiescent_GradUpIdeal := fun m ρ _ => Cert.GradUpIdeal.Gen.frame m ρ

/-- The reference's run, read at its arguments; it declares no semaphore. -/
theorem frame_ref : Cert.quiescent_GradUpRefIdeal := fun m ρ _ =>
  (θ_run Cert.GradUpRefIdeal.defs _ _).mono
    (fun r h => ⟨fun c => (h c).2, Idealize.ShloMosaic.sem_eq_zero_of_no_sems (by decide) r.2⟩)
    (Cert.GradUpRefIdeal.Value.run (F := Ideal) m ρ)

/-- The reference at a place: the same contraction. -/
theorem reference (x0 : S8192x1024.Idx → EReal) (x1 : S8192x5632.Idx → EReal) (p : Fin 1024) (q : Fin 5632) :
    Cert.GradUpRefIdeal.Read.val_main_v5 (F := Ideal) x0 x1 (ix2 p q) = ∑ r : Fin 8192, x0 (ix2 r p) * x1 (ix2 r q) := by
  open Cert.GradUpRefIdeal.Read in
  pointwise [val_main_v5, val_main_v4, val_main_v3, val_main_v2, val_main_cst, val_main_v1, val_main_v0]
  exact Finset.sum_congr rfl fun r _ => mul_comm _ _

/-- The two programs end with the same gradient. -/
theorem algebraic : Cert.algebraic_GradUpIdeal_GradUpRefIdeal := by
  intro m ρ m' ρ' hpre hagree
  refine ⟨fun c => Cert.GradUpIdeal.Value.G2 (F := Ideal) m c, Cert.GradUpIdeal.Value.run m ρ, ?_⟩
  refine (θ_run Cert.GradUpRefIdeal.defs _ _).mono (fun r h c => ?_) (Cert.GradUpRefIdeal.Value.run (F := Ideal) m' ρ')
  obtain ⟨g0, g1⟩ := hagree c
  refine ⟨(h c).1.trans ?_, (h c).2⟩
  refine Eq.trans ?_ (final m c).symm
  refine (Cert.GradUpRefIdeal.Read.val_main_v5_eq _ _).trans ?_
  rw [g0, g1]
  funext i
  rw [eq_ix2 i]
  exact reference _ _ (i 0) (i 1)

end Cert.Proof.GradUp

end
-- ==== Proof.GradDownClaims.lean ====
/-
  `d_ffn_w_down`: the gradient of the down projection of the feed-forward branch, a contraction of all 8192 rows. The kernel's grid visits,
  for each block of the result, the eight blocks of 1024 rows, and accumulates the products of the blocks; so its array ends
  holding the sum over all rows (`final`), which the reference writes as one product (`reference`). The claims
  follow: the frames, and the value claim, for all arguments.
-/
module

public import proofs.«01_k».proof.Defs
public import proofs.«01_k».proof.Proof.RowSum
public import proofs.«01_k».proof.Proof.Gen.GradDown.Frame
public import proofs.«01_k».proof.Proof.Gen.GradDownIdeal.Value
public import proofs.«01_k».proof.Proof.Gen.GradDownRefIdeal.Run
public import proofs.«01_k».proof.Proof.Gen.GradDownRefIdeal.Read
public import Idealize.ShloMosaic.Lib.Quiescent
public import Idealize.ShloMosaic.Lib.Pointwise

@[expose] public section

set_option maxRecDepth 16384

noncomputable section

namespace Cert.Proof.GradDown

open Cert.GradDownIdeal Cert.GradDownIdeal.Gen
open Idealize.ShloMosaic Idealize.ShloMosaic.TcCoe Idealize.SL.Sem
open scoped BigOperators

section kernel

variable (m : (ℓ : Loc nD τ sig) → Buf (Elt Ideal) ℓ) (c : Dev nD)

theorem hN : cfg0.N = 16 := N_0

/-- The two operands of the product. -/
abbrev lhs (i : S8192x2816.Idx) : EReal := m ((c : Thread nD τ).loc main_arg0) i
abbrev rhs (i : S8192x1024.Idx) : EReal := m ((c : Thread nD τ).loc main_arg1) i

/-- Which block each operand's window shows at grid point `t`: rows block `t % 8`, and the columns of the run `t / 8`. -/
theorem at0 : ∀ t : Fin cfg0.N, win0_0.index t 0 = t.val % 8 ∧ win0_0.index t 1 = t.val / 8 / 1 :=
  (by decide +kernel : ∀ t : Fin grid0.N, win0_0.index t 0 = t.val % 8 ∧ win0_0.index t 1 = t.val / 8 / 1)
theorem at1 : ∀ t : Fin cfg0.N, win0_1.index t 0 = t.val % 8 ∧ win0_1.index t 1 = t.val / 8 % 1 :=
  (by decide +kernel : ∀ t : Fin grid0.N, win0_1.index t 0 = t.val % 8 ∧ win0_1.index t 1 = t.val / 8 % 1)

/-- The row of the arrays that is row `k` of the blocks at point `t`. -/
abbrev row (t : Fin cfg0.N) (k : Fin 1024) : Fin 8192 := ⟨1024 * (t.val % 8) + k.val, by omega⟩
/-- The column of the left array at point `t`, and of the right. -/
abbrev col0 (t : Fin cfg0.N) (p : Fin 1408) : Fin 2816 :=
  ⟨1408 * (t.val / 8 / 1) + p.val, by have := t.isLt.trans_eq hN; omega⟩
abbrev col1 (t : Fin cfg0.N) (q : Fin 1024) : Fin 1024 :=
  ⟨1024 * (t.val / 8 % 1) + q.val, by omega⟩

theorem read0 (t : Fin cfg0.N) (i : S1024x1408.Idx) :
    iblk m c 0 t i = lhs m c (ix2 (row t (i 0)) (col0 t (i 1))) := by
  unfold lhs
  rw [← V_main_arg0 m c]; unfold iblk; rw [View.read_apply]
  show V m c main_arg0 _ = V m c main_arg0 _
  congr 1; funext b; apply Fin.ext
  match b with
  | ⟨0, _⟩ => show win0_0.index t 0 * 1024 + 1 * (i 0).val = 1024 * (t.val % 8) + (i 0).val; rw [(at0 t).1]; omega
  | ⟨1, _⟩ => show win0_0.index t 1 * 1408 + 1 * (i 1).val = 1408 * (t.val / 8 / 1) + (i 1).val; rw [(at0 t).2]; omega

theorem read1 (t : Fin cfg0.N) (i : S1024x1024.Idx) :
    iblk m c 1 t i = rhs m c (ix2 (row t (i 0)) (col1 t (i 1))) := by
  unfold rhs
  rw [← V_main_arg1 m c]; unfold iblk; rw [View.read_apply]
  show V m c main_arg1 _ = V m c main_arg1 _
  congr 1; funext b; apply Fin.ext
  match b with
  | ⟨0, _⟩ => show win0_1.index t 0 * 1024 + 1 * (i 0).val = 1024 * (t.val % 8) + (i 0).val; rw [(at1 t).1]; omega
  | ⟨1, _⟩ => show win0_1.index t 1 * 1024 + 1 * (i 1).val = 1024 * (t.val / 8 % 1) + (i 1).val; rw [(at1 t).2]; omega

/-- One point's addend: the product of its two blocks. -/
def addend (n : ℕ) (i : S1408x1024.Idx) : EReal :=
  if h : n < cfg0.N then
    ∑ k : Fin 1024, lhs m c (ix2 (row ⟨n, h⟩ k) (col0 ⟨n, h⟩ (i 0))) * rhs m c (ix2 (row ⟨n, h⟩ k) (col1 ⟨n, h⟩ (i 1)))
  else 0

/-- The body adds the product of the two blocks to what it finds. -/
theorem body (acc : Vec Ideal S1408x1024 .f32) (x0 : Vec Ideal S1024x1408 .bf16)
    (x1 : Vec Ideal S1024x1024 .f32) (p : Fin 1408) (q : Fin 1024) :
    k0_pay2 (F := Ideal) acc x0 x1 (ix2 p q) = acc (ix2 p q) + ∑ k : Fin 1024, x0 (ix2 k p) * x1 (ix2 k q) := by
  pointwise [k0_pay2]

theorem step (n : ℕ) (h : n < cfg0.N) (acc : Vec Ideal S1408x1024 .f32) (i : S1408x1024.Idx) :
    Value.step2 m c n h acc i = acc i + addend m c n i := by
  unfold Value.step2 addend
  rw [dif_pos h, eq_ix2 i]
  refine (body _ _ _ (i 0) (i 1)).trans ?_
  refine congrArg _ (Finset.sum_congr rfl fun k _ => ?_)
  rw [read0, read1]
  rfl

/-- The first point of a run starts from zero. -/
theorem zero (i : S1408x1024.Idx) : k0_pay1 (F := Ideal) i = 0 := by
  rw [eq_ix2 i]
  pointwise [k0_pay1]

theorem reset (n : ℕ) (h : n < cfg0.N) (i : S1408x1024.Idx) : Value.reset2 m c n h i = 0 + addend m c n i :=
  (step m c n h (k0_pay1 (F := Ideal)) i).trans (by rw [zero])

/-- The result: the contraction of all rows. -/
theorem final : Value.G2 m c = fun i => ∑ r : Fin 8192, lhs m c (ix2 r (i 0)) * rhs m c (ix2 r (i 1)) := by
  funext i
  have h0 : (i 0).val < 2816 := (i 0).isLt
  have h1 : (i 1).val < 1024 := (i 1).isLt
  have hr : Value.run2Of i = 1 * ((i 0).val / 1408) + (i 1).val / 1024 := by
    show 1 * ((i 0).val / 1408 - 0) + 1 * ((i 1).val / 1024 - 0) = _
    omega
  have hr' : Value.run2Of i / 1 = (i 0).val / 1408 ∧ Value.run2Of i % 1 = (i 1).val / 1024 := by
    rw [hr]; omega
  have hb : 8 * Value.run2Of i + 7 < cfg0.N := by rw [hN, hr]; omega
  unfold Value.G2
  rw [dif_pos hb, Pipeline.accAt_add_apply (Value.reset2 m c) (Value.step2 m c) (fun _ => (0 : EReal)) (addend m c) _ 7
    (fun h i => reset m c _ h i) (fun n h acc i _ _ => step m c n h acc i) 7 le_rfl hb]
  refine (zero_add (∑ s ∈ Finset.range (7 + 1), addend m c (8 * Value.run2Of i + s) (Value.loc2Of i))).trans ?_
  refine RowSum.run (fun s => addend m c (8 * Value.run2Of i + s) (Value.loc2Of i))
    (fun r => lhs m c (ix2 r (i 0)) * rhs m c (ix2 r (i 1))) fun s => ?_
  have hs : 8 * Value.run2Of i + s.val < cfg0.N := by omega
  unfold addend
  rw [dif_pos hs]
  refine Finset.sum_congr rfl fun k _ => ?_
  have e0 : row ⟨8 * Value.run2Of i + s.val, hs⟩ k = RowSum.row s k :=
    Fin.ext (by show 1024 * ((8 * Value.run2Of i + s.val) % 8) + k.val = 1024 * s.val + k.val; omega)
  have e1 : col0 ⟨8 * Value.run2Of i + s.val, hs⟩ (Value.loc2Of i 0) = i 0 :=
    Fin.ext (by
      show 1408 * ((8 * Value.run2Of i + s.val) / 8 / 1) + (i 0).val % 1408 = (i 0).val
      rw [show (8 * Value.run2Of i + s.val) / 8 = Value.run2Of i by omega, hr'.1]; omega)
  have e2 : col1 ⟨8 * Value.run2Of i + s.val, hs⟩ (Value.loc2Of i 1) = i 1 :=
    Fin.ext (by
      show 1024 * ((8 * Value.run2Of i + s.val) / 8 % 1) + (i 1).val % 1024 = (i 1).val
      rw [show (8 * Value.run2Of i + s.val) / 8 = Value.run2Of i by omega, hr'.2]; omega)
  rw [e0, e1, e2]

end kernel

/-! ## The claims -/

theorem frame : Cert.quiescent_GradDown := fun m ρ _ => Cert.GradDown.Gen.frame m ρ
theorem frame_ideal : Cert.quiescent_GradDownIdeal := fun m ρ _ => Cert.GradDownIdeal.Gen.frame m ρ

/-- The reference's run, read at its arguments; it declares no semaphore. -/
theorem frame_ref : Cert.quiescent_GradDownRefIdeal := fun m ρ _ =>
  (θ_run Cert.GradDownRefIdeal.defs _ _).mono
    (fun r h => ⟨fun c => (h c).2, Idealize.ShloMosaic.sem_eq_zero_of_no_sems (by decide) r.2⟩)
    (Cert.GradDownRefIdeal.Value.run (F := Ideal) m ρ)

/-- The reference at a place: the same contraction. -/
theorem reference (x0 : S8192x2816.Idx → EReal) (x1 : S8192x1024.Idx → EReal) (p : Fin 2816) (q : Fin 1024) :
    Cert.GradDownRefIdeal.Read.val_main_v4 (F := Ideal) x0 x1 (ix2 p q) = ∑ r : Fin 8192, x0 (ix2 r p) * x1 (ix2 r q) := by
  open Cert.GradDownRefIdeal.Read in
  pointwise [val_main_v4, val_main_v3, val_main_v2, val_main_v1, val_main_cst, val_main_v0]
  exact Finset.sum_congr rfl fun r _ => mul_comm _ _

/-- The two programs end with the same gradient. -/
theorem algebraic : Cert.algebraic_GradDownIdeal_GradDownRefIdeal := by
  intro m ρ m' ρ' hpre hagree
  refine ⟨fun c => Cert.GradDownIdeal.Value.G2 (F := Ideal) m c, Cert.GradDownIdeal.Value.run m ρ, ?_⟩
  refine (θ_run Cert.GradDownRefIdeal.defs _ _).mono (fun r h c => ?_) (Cert.GradDownRefIdeal.Value.run (F := Ideal) m' ρ')
  obtain ⟨g0, g1⟩ := hagree c
  refine ⟨(h c).1.trans ?_, (h c).2⟩
  refine Eq.trans ?_ (final m c).symm
  refine (Cert.GradDownRefIdeal.Read.val_main_v4_eq _ _).trans ?_
  rw [g0, g1]
  funext i
  rw [eq_ix2 i]
  exact reference _ _ (i 0) (i 1)

end Cert.Proof.GradDown

end
-- ==== Proof.GradInClaims.lean ====
/-
  `d_w_in`: the gradient of the input projection of the attention branch, a contraction of all 8192 rows. The kernel's grid visits,
  for each block of the result, the eight blocks of 1024 rows, and accumulates the products of the blocks; so its array ends
  holding the sum over all rows (`final`), which the reference writes as one product (`reference`). The claims
  follow: the frames, and the value claim, for all arguments.
-/
module

public import proofs.«01_k».proof.Defs
public import proofs.«01_k».proof.Proof.RowSum
public import proofs.«01_k».proof.Proof.Gen.GradIn.Frame
public import proofs.«01_k».proof.Proof.Gen.GradInIdeal.Value
public import proofs.«01_k».proof.Proof.Gen.GradInRefIdeal.Run
public import proofs.«01_k».proof.Proof.Gen.GradInRefIdeal.Read
public import Idealize.ShloMosaic.Lib.Quiescent
public import Idealize.ShloMosaic.Lib.Pointwise

@[expose] public section

set_option maxRecDepth 16384

noncomputable section

namespace Cert.Proof.GradIn

open Cert.GradInIdeal Cert.GradInIdeal.Gen
open Idealize.ShloMosaic Idealize.ShloMosaic.TcCoe Idealize.SL.Sem
open scoped BigOperators

section kernel

variable (m : (ℓ : Loc nD τ sig) → Buf (Elt Ideal) ℓ) (c : Dev nD)

theorem hN : cfg0.N = 16 := N_0

/-- The two operands of the product. -/
abbrev lhs (i : S8192x1024.Idx) : EReal := m ((c : Thread nD τ).loc main_arg0) i
abbrev rhs (i : S8192x2304.Idx) : EReal := m ((c : Thread nD τ).loc main_arg1) i

/-- Which block each operand's window shows at grid point `t`: rows block `t % 8`, and the columns of the run `t / 8`. -/
theorem at0 : ∀ t : Fin cfg0.N, win0_0.index t 0 = t.val % 8 ∧ win0_0.index t 1 = t.val / 8 / 2 :=
  (by decide +kernel : ∀ t : Fin grid0.N, win0_0.index t 0 = t.val % 8 ∧ win0_0.index t 1 = t.val / 8 / 2)
theorem at1 : ∀ t : Fin cfg0.N, win0_1.index t 0 = t.val % 8 ∧ win0_1.index t 1 = t.val / 8 % 2 :=
  (by decide +kernel : ∀ t : Fin grid0.N, win0_1.index t 0 = t.val % 8 ∧ win0_1.index t 1 = t.val / 8 % 2)

/-- The row of the arrays that is row `k` of the blocks at point `t`. -/
abbrev row (t : Fin cfg0.N) (k : Fin 1024) : Fin 8192 := ⟨1024 * (t.val % 8) + k.val, by omega⟩
/-- The column of the left array at point `t`, and of the right. -/
abbrev col0 (t : Fin cfg0.N) (p : Fin 1024) : Fin 1024 :=
  ⟨1024 * (t.val / 8 / 2) + p.val, by have := t.isLt.trans_eq hN; omega⟩
abbrev col1 (t : Fin cfg0.N) (q : Fin 1152) : Fin 2304 :=
  ⟨1152 * (t.val / 8 % 2) + q.val, by omega⟩

theorem read0 (t : Fin cfg0.N) (i : S1024x1024.Idx) :
    iblk m c 0 t i = lhs m c (ix2 (row t (i 0)) (col0 t (i 1))) := by
  unfold lhs
  rw [← V_main_arg0 m c]; unfold iblk; rw [View.read_apply]
  show V m c main_arg0 _ = V m c main_arg0 _
  congr 1; funext b; apply Fin.ext
  match b with
  | ⟨0, _⟩ => show win0_0.index t 0 * 1024 + 1 * (i 0).val = 1024 * (t.val % 8) + (i 0).val; rw [(at0 t).1]; omega
  | ⟨1, _⟩ => show win0_0.index t 1 * 1024 + 1 * (i 1).val = 1024 * (t.val / 8 / 2) + (i 1).val; rw [(at0 t).2]; omega

theorem read1 (t : Fin cfg0.N) (i : S1024x1152.Idx) :
    iblk m c 1 t i = rhs m c (ix2 (row t (i 0)) (col1 t (i 1))) := by
  unfold rhs
  rw [← V_main_arg1 m c]; unfold iblk; rw [View.read_apply]
  show V m c main_arg1 _ = V m c main_arg1 _
  congr 1; funext b; apply Fin.ext
  match b with
  | ⟨0, _⟩ => show win0_1.index t 0 * 1024 + 1 * (i 0).val = 1024 * (t.val % 8) + (i 0).val; rw [(at1 t).1]; omega
  | ⟨1, _⟩ => show win0_1.index t 1 * 1152 + 1 * (i 1).val = 1152 * (t.val / 8 % 2) + (i 1).val; rw [(at1 t).2]; omega

/-- One point's addend: the product of its two blocks. -/
def addend (n : ℕ) (i : S1024x1152.Idx) : EReal :=
  if h : n < cfg0.N then
    ∑ k : Fin 1024, lhs m c (ix2 (row ⟨n, h⟩ k) (col0 ⟨n, h⟩ (i 0))) * rhs m c (ix2 (row ⟨n, h⟩ k) (col1 ⟨n, h⟩ (i 1)))
  else 0

/-- The body adds the product of the two blocks to what it finds. -/
theorem body (acc : Vec Ideal S1024x1152 .f32) (x0 : Vec Ideal S1024x1024 .bf16)
    (x1 : Vec Ideal S1024x1152 .bf16) (p : Fin 1024) (q : Fin 1152) :
    k0_pay2 (F := Ideal) acc x0 x1 (ix2 p q) = acc (ix2 p q) + ∑ k : Fin 1024, x0 (ix2 k p) * x1 (ix2 k q) := by
  pointwise [k0_pay2]

theorem step (n : ℕ) (h : n < cfg0.N) (acc : Vec Ideal S1024x1152 .f32) (i : S1024x1152.Idx) :
    Value.step2 m c n h acc i = acc i + addend m c n i := by
  unfold Value.step2 addend
  rw [dif_pos h, eq_ix2 i]
  refine (body _ _ _ (i 0) (i 1)).trans ?_
  refine congrArg _ (Finset.sum_congr rfl fun k _ => ?_)
  rw [read0, read1]
  rfl

/-- The first point of a run starts from zero. -/
theorem zero (i : S1024x1152.Idx) : k0_pay1 (F := Ideal) i = 0 := by
  rw [eq_ix2 i]
  pointwise [k0_pay1]

theorem reset (n : ℕ) (h : n < cfg0.N) (i : S1024x1152.Idx) : Value.reset2 m c n h i = 0 + addend m c n i :=
  (step m c n h (k0_pay1 (F := Ideal)) i).trans (by rw [zero])

/-- The result: the contraction of all rows. -/
theorem final : Value.G2 m c = fun i => ∑ r : Fin 8192, lhs m c (ix2 r (i 0)) * rhs m c (ix2 r (i 1)) := by
  funext i
  have h0 : (i 0).val < 1024 := (i 0).isLt
  have h1 : (i 1).val < 2304 := (i 1).isLt
  have hr : Value.run2Of i = 2 * ((i 0).val / 1024) + (i 1).val / 1152 := by
    show 2 * ((i 0).val / 1024 - 0) + 1 * ((i 1).val / 1152 - 0) = _
    omega
  have hr' : Value.run2Of i / 2 = (i 0).val / 1024 ∧ Value.run2Of i % 2 = (i 1).val / 1152 := by
    rw [hr]; omega
  have hb : 8 * Value.run2Of i + 7 < cfg0.N := by rw [hN, hr]; omega
  unfold Value.G2
  rw [dif_pos hb, Pipeline.accAt_add_apply (Value.reset2 m c) (Value.step2 m c) (fun _ => (0 : EReal)) (addend m c) _ 7
    (fun h i => reset m c _ h i) (fun n h acc i _ _ => step m c n h acc i) 7 le_rfl hb]
  refine (zero_add (∑ s ∈ Finset.range (7 + 1), addend m c (8 * Value.run2Of i + s) (Value.loc2Of i))).trans ?_
  refine RowSum.run (fun s => addend m c (8 * Value.run2Of i + s) (Value.loc2Of i))
    (fun r => lhs m c (ix2 r (i 0)) * rhs m c (ix2 r (i 1))) fun s => ?_
  have hs : 8 * Value.run2Of i + s.val < cfg0.N := by omega
  unfold addend
  rw [dif_pos hs]
  refine Finset.sum_congr rfl fun k _ => ?_
  have e0 : row ⟨8 * Value.run2Of i + s.val, hs⟩ k = RowSum.row s k :=
    Fin.ext (by show 1024 * ((8 * Value.run2Of i + s.val) % 8) + k.val = 1024 * s.val + k.val; omega)
  have e1 : col0 ⟨8 * Value.run2Of i + s.val, hs⟩ (Value.loc2Of i 0) = i 0 :=
    Fin.ext (by
      show 1024 * ((8 * Value.run2Of i + s.val) / 8 / 2) + (i 0).val % 1024 = (i 0).val
      rw [show (8 * Value.run2Of i + s.val) / 8 = Value.run2Of i by omega, hr'.1]; omega)
  have e2 : col1 ⟨8 * Value.run2Of i + s.val, hs⟩ (Value.loc2Of i 1) = i 1 :=
    Fin.ext (by
      show 1152 * ((8 * Value.run2Of i + s.val) / 8 % 2) + (i 1).val % 1152 = (i 1).val
      rw [show (8 * Value.run2Of i + s.val) / 8 = Value.run2Of i by omega, hr'.2]; omega)
  rw [e0, e1, e2]

end kernel

/-! ## The claims -/

theorem frame : Cert.quiescent_GradIn := fun m ρ _ => Cert.GradIn.Gen.frame m ρ
theorem frame_ideal : Cert.quiescent_GradInIdeal := fun m ρ _ => Cert.GradInIdeal.Gen.frame m ρ

/-- The reference's run, read at its arguments; it declares no semaphore. -/
theorem frame_ref : Cert.quiescent_GradInRefIdeal := fun m ρ _ =>
  (θ_run Cert.GradInRefIdeal.defs _ _).mono
    (fun r h => ⟨fun c => (h c).2, Idealize.ShloMosaic.sem_eq_zero_of_no_sems (by decide) r.2⟩)
    (Cert.GradInRefIdeal.Value.run (F := Ideal) m ρ)

/-- The reference at a place: the same contraction. -/
theorem reference (x0 : S8192x1024.Idx → EReal) (x1 : S8192x2304.Idx → EReal) (p : Fin 1024) (q : Fin 2304) :
    Cert.GradInRefIdeal.Read.val_main_v5 (F := Ideal) x0 x1 (ix2 p q) = ∑ r : Fin 8192, x0 (ix2 r p) * x1 (ix2 r q) := by
  open Cert.GradInRefIdeal.Read in
  pointwise [val_main_v5, val_main_v4, val_main_v3, val_main_v2, val_main_cst, val_main_v1, val_main_v0]
  exact Finset.sum_congr rfl fun r _ => mul_comm _ _

/-- The two programs end with the same gradient. -/
theorem algebraic : Cert.algebraic_GradInIdeal_GradInRefIdeal := by
  intro m ρ m' ρ' hpre hagree
  refine ⟨fun c => Cert.GradInIdeal.Value.G2 (F := Ideal) m c, Cert.GradInIdeal.Value.run m ρ, ?_⟩
  refine (θ_run Cert.GradInRefIdeal.defs _ _).mono (fun r h c => ?_) (Cert.GradInRefIdeal.Value.run (F := Ideal) m' ρ')
  obtain ⟨g0, g1⟩ := hagree c
  refine ⟨(h c).1.trans ?_, (h c).2⟩
  refine Eq.trans ?_ (final m c).symm
  refine (Cert.GradInRefIdeal.Read.val_main_v5_eq _ _).trans ?_
  rw [g0, g1]
  funext i
  rw [eq_ix2 i]
  exact reference _ _ (i 0) (i 1)

end Cert.Proof.GradIn

end
-- ==== Proof.GradOutClaims.lean ====
/-
  `d_w_out`: the gradient of the output projection of the attention branch, a contraction of all 8192 rows. The kernel's grid visits,
  for each block of the result, the eight blocks of 1024 rows, and accumulates the products of the blocks; so its array ends
  holding the sum over all rows (`final`), which the reference writes as one product (`reference`). The claims
  follow: the frames, and the value claim, for all arguments.
-/
module

public import proofs.«01_k».proof.Defs
public import proofs.«01_k».proof.Proof.RowSum
public import proofs.«01_k».proof.Proof.Gen.GradOut.Frame
public import proofs.«01_k».proof.Proof.Gen.GradOutIdeal.Value
public import proofs.«01_k».proof.Proof.Gen.GradOutRefIdeal.Run
public import proofs.«01_k».proof.Proof.Gen.GradOutRefIdeal.Read
public import Idealize.ShloMosaic.Lib.Quiescent
public import Idealize.ShloMosaic.Lib.Pointwise

@[expose] public section

set_option maxRecDepth 16384

noncomputable section

namespace Cert.Proof.GradOut

open Cert.GradOutIdeal Cert.GradOutIdeal.Gen
open Idealize.ShloMosaic Idealize.ShloMosaic.TcCoe Idealize.SL.Sem
open scoped BigOperators

section kernel

variable (m : (ℓ : Loc nD τ sig) → Buf (Elt Ideal) ℓ) (c : Dev nD)

theorem hN : cfg0.N = 8 := N_0

/-- The two operands of the product. -/
abbrev lhs (i : S8192x1024.Idx) : EReal := m ((c : Thread nD τ).loc main_arg0) i
abbrev rhs (i : S8192x1024.Idx) : EReal := m ((c : Thread nD τ).loc main_arg1) i

/-- Which block each operand's window shows at grid point `t`: rows block `t % 8`, and the columns of the run `t / 8`. -/
theorem at0 : ∀ t : Fin cfg0.N, win0_0.index t 0 = t.val % 8 ∧ win0_0.index t 1 = t.val / 8 / 1 :=
  (by decide +kernel : ∀ t : Fin grid0.N, win0_0.index t 0 = t.val % 8 ∧ win0_0.index t 1 = t.val / 8 / 1)
theorem at1 : ∀ t : Fin cfg0.N, win0_1.index t 0 = t.val % 8 ∧ win0_1.index t 1 = t.val / 8 % 1 :=
  (by decide +kernel : ∀ t : Fin grid0.N, win0_1.index t 0 = t.val % 8 ∧ win0_1.index t 1 = t.val / 8 % 1)

/-- The row of the arrays that is row `k` of the blocks at point `t`. -/
abbrev row (t : Fin cfg0.N) (k : Fin 1024) : Fin 8192 := ⟨1024 * (t.val % 8) + k.val, by omega⟩
/-- The column of the left array at point `t`, and of the right. -/
abbrev col0 (t : Fin cfg0.N) (p : Fin 1024) : Fin 1024 :=
  ⟨1024 * (t.val / 8 / 1) + p.val, by have := t.isLt.trans_eq hN; omega⟩
abbrev col1 (t : Fin cfg0.N) (q : Fin 1024) : Fin 1024 :=
  ⟨1024 * (t.val / 8 % 1) + q.val, by omega⟩

theorem read0 (t : Fin cfg0.N) (i : S1024x1024.Idx) :
    iblk m c 0 t i = lhs m c (ix2 (row t (i 0)) (col0 t (i 1))) := by
  unfold lhs
  rw [← V_main_arg0 m c]; unfold iblk; rw [View.read_apply]
  show V m c main_arg0 _ = V m c main_arg0 _
  congr 1; funext b; apply Fin.ext
  match b with
  | ⟨0, _⟩ => show win0_0.index t 0 * 1024 + 1 * (i 0).val = 1024 * (t.val % 8) + (i 0).val; rw [(at0 t).1]; omega
  | ⟨1, _⟩ => show win0_0.index t 1 * 1024 + 1 * (i 1).val = 1024 * (t.val / 8 / 1) + (i 1).val; rw [(at0 t).2]; omega

theorem read1 (t : Fin cfg0.N) (i : S1024x1024.Idx) :
    iblk m c 1 t i = rhs m c (ix2 (row t (i 0)) (col1 t (i 1))) := by
  unfold rhs
  rw [← V_main_arg1 m c]; unfold iblk; rw [View.read_apply]
  show V m c main_arg1 _ = V m c main_arg1 _
  congr 1; funext b; apply Fin.ext
  match b with
  | ⟨0, _⟩ => show win0_1.index t 0 * 1024 + 1 * (i 0).val = 1024 * (t.val % 8) + (i 0).val; rw [(at1 t).1]; omega
  | ⟨1, _⟩ => show win0_1.index t 1 * 1024 + 1 * (i 1).val = 1024 * (t.val / 8 % 1) + (i 1).val; rw [(at1 t).2]; omega

/-- One point's addend: the product of its two blocks. -/
def addend (n : ℕ) (i : S1024x1024.Idx) : EReal :=
  if h : n < cfg0.N then
    ∑ k : Fin 1024, lhs m c (ix2 (row ⟨n, h⟩ k) (col0 ⟨n, h⟩ (i 0))) * rhs m c (ix2 (row ⟨n, h⟩ k) (col1 ⟨n, h⟩ (i 1)))
  else 0

/-- The body adds the product of the two blocks to what it finds. -/
theorem body (acc : Vec Ideal S1024x1024 .f32) (x0 : Vec Ideal S1024x1024 .bf16)
    (x1 : Vec Ideal S1024x1024 .f32) (p : Fin 1024) (q : Fin 1024) :
    k0_pay2 (F := Ideal) acc x0 x1 (ix2 p q) = acc (ix2 p q) + ∑ k : Fin 1024, x0 (ix2 k p) * x1 (ix2 k q) := by
  pointwise [k0_pay2]

theorem step (n : ℕ) (h : n < cfg0.N) (acc : Vec Ideal S1024x1024 .f32) (i : S1024x1024.Idx) :
    Value.step2 m c n h acc i = acc i + addend m c n i := by
  unfold Value.step2 addend
  rw [dif_pos h, eq_ix2 i]
  refine (body _ _ _ (i 0) (i 1)).trans ?_
  refine congrArg _ (Finset.sum_congr rfl fun k _ => ?_)
  rw [read0, read1]
  rfl

/-- The first point of a run starts from zero. -/
theorem zero (i : S1024x1024.Idx) : k0_pay1 (F := Ideal) i = 0 := by
  rw [eq_ix2 i]
  pointwise [k0_pay1]

theorem reset (n : ℕ) (h : n < cfg0.N) (i : S1024x1024.Idx) : Value.reset2 m c n h i = 0 + addend m c n i :=
  (step m c n h (k0_pay1 (F := Ideal)) i).trans (by rw [zero])

/-- The result: the contraction of all rows. -/
theorem final : Value.G2 m c = fun i => ∑ r : Fin 8192, lhs m c (ix2 r (i 0)) * rhs m c (ix2 r (i 1)) := by
  funext i
  have h0 : (i 0).val < 1024 := (i 0).isLt
  have h1 : (i 1).val < 1024 := (i 1).isLt
  have hr : Value.run2Of i = 1 * ((i 0).val / 1024) + (i 1).val / 1024 := by
    show 1 * ((i 0).val / 1024 - 0) + 1 * ((i 1).val / 1024 - 0) = _
    omega
  have hr' : Value.run2Of i / 1 = (i 0).val / 1024 ∧ Value.run2Of i % 1 = (i 1).val / 1024 := by
    rw [hr]; omega
  have hb : 8 * Value.run2Of i + 7 < cfg0.N := by rw [hN, hr]; omega
  unfold Value.G2
  rw [dif_pos hb, Pipeline.accAt_add_apply (Value.reset2 m c) (Value.step2 m c) (fun _ => (0 : EReal)) (addend m c) _ 7
    (fun h i => reset m c _ h i) (fun n h acc i _ _ => step m c n h acc i) 7 le_rfl hb]
  refine (zero_add (∑ s ∈ Finset.range (7 + 1), addend m c (8 * Value.run2Of i + s) (Value.loc2Of i))).trans ?_
  refine RowSum.run (fun s => addend m c (8 * Value.run2Of i + s) (Value.loc2Of i))
    (fun r => lhs m c (ix2 r (i 0)) * rhs m c (ix2 r (i 1))) fun s => ?_
  have hs : 8 * Value.run2Of i + s.val < cfg0.N := by omega
  unfold addend
  rw [dif_pos hs]
  refine Finset.sum_congr rfl fun k _ => ?_
  have e0 : row ⟨8 * Value.run2Of i + s.val, hs⟩ k = RowSum.row s k :=
    Fin.ext (by show 1024 * ((8 * Value.run2Of i + s.val) % 8) + k.val = 1024 * s.val + k.val; omega)
  have e1 : col0 ⟨8 * Value.run2Of i + s.val, hs⟩ (Value.loc2Of i 0) = i 0 :=
    Fin.ext (by
      show 1024 * ((8 * Value.run2Of i + s.val) / 8 / 1) + (i 0).val % 1024 = (i 0).val
      rw [show (8 * Value.run2Of i + s.val) / 8 = Value.run2Of i by omega, hr'.1]; omega)
  have e2 : col1 ⟨8 * Value.run2Of i + s.val, hs⟩ (Value.loc2Of i 1) = i 1 :=
    Fin.ext (by
      show 1024 * ((8 * Value.run2Of i + s.val) / 8 % 1) + (i 1).val % 1024 = (i 1).val
      rw [show (8 * Value.run2Of i + s.val) / 8 = Value.run2Of i by omega, hr'.2]; omega)
  rw [e0, e1, e2]

end kernel

/-! ## The claims -/

theorem frame : Cert.quiescent_GradOut := fun m ρ _ => Cert.GradOut.Gen.frame m ρ
theorem frame_ideal : Cert.quiescent_GradOutIdeal := fun m ρ _ => Cert.GradOutIdeal.Gen.frame m ρ

/-- The reference's run, read at its arguments; it declares no semaphore. -/
theorem frame_ref : Cert.quiescent_GradOutRefIdeal := fun m ρ _ =>
  (θ_run Cert.GradOutRefIdeal.defs _ _).mono
    (fun r h => ⟨fun c => (h c).2, Idealize.ShloMosaic.sem_eq_zero_of_no_sems (by decide) r.2⟩)
    (Cert.GradOutRefIdeal.Value.run (F := Ideal) m ρ)

/-- The reference at a place: the same contraction. -/
theorem reference (x0 : S8192x1024.Idx → EReal) (x1 : S8192x1024.Idx → EReal) (p : Fin 1024) (q : Fin 1024) :
    Cert.GradOutRefIdeal.Read.val_main_v4 (F := Ideal) x0 x1 (ix2 p q) = ∑ r : Fin 8192, x0 (ix2 r p) * x1 (ix2 r q) := by
  open Cert.GradOutRefIdeal.Read in
  pointwise [val_main_v4, val_main_v3, val_main_v2, val_main_v1, val_main_cst, val_main_v0]
  exact Finset.sum_congr rfl fun r _ => mul_comm _ _

/-- The two programs end with the same gradient. -/
theorem algebraic : Cert.algebraic_GradOutIdeal_GradOutRefIdeal := by
  intro m ρ m' ρ' hpre hagree
  refine ⟨fun c => Cert.GradOutIdeal.Value.G2 (F := Ideal) m c, Cert.GradOutIdeal.Value.run m ρ, ?_⟩
  refine (θ_run Cert.GradOutRefIdeal.defs _ _).mono (fun r h c => ?_) (Cert.GradOutRefIdeal.Value.run (F := Ideal) m' ρ')
  obtain ⟨g0, g1⟩ := hagree c
  refine ⟨(h c).1.trans ?_, (h c).2⟩
  refine Eq.trans ?_ (final m c).symm
  refine (Cert.GradOutRefIdeal.Read.val_main_v4_eq _ _).trans ?_
  rw [g0, g1]
  funext i
  rw [eq_ix2 i]
  exact reference _ _ (i 0) (i 1)

end Cert.Proof.GradOut

end
-- ==== Proof.GradGateClaims.lean ====
/-
  `d_ple_w_gate`: the gradient of the gate of the per-layer embedding, a contraction of all 8192 rows. The kernel's grid visits,
  for each block of the result, the eight blocks of 1024 rows, and accumulates the products of the blocks; so its array ends
  holding the sum over all rows (`final`), which the reference writes as one product (`reference`). The claims
  follow: the frames, and the value claim, for all arguments.
-/
module

public import proofs.«01_k».proof.Defs
public import proofs.«01_k».proof.Proof.RowSum
public import proofs.«01_k».proof.Proof.Gen.GradGate.Frame
public import proofs.«01_k».proof.Proof.Gen.GradGateIdeal.Value
public import proofs.«01_k».proof.Proof.Gen.GradGateRefIdeal.Run
public import proofs.«01_k».proof.Proof.Gen.GradGateRefIdeal.Read
public import Idealize.ShloMosaic.Lib.Quiescent
public import Idealize.ShloMosaic.Lib.Pointwise

@[expose] public section

set_option maxRecDepth 16384

noncomputable section

namespace Cert.Proof.GradGate

open Cert.GradGateIdeal Cert.GradGateIdeal.Gen
open Idealize.ShloMosaic Idealize.ShloMosaic.TcCoe Idealize.SL.Sem
open scoped BigOperators

section kernel

variable (m : (ℓ : Loc nD τ sig) → Buf (Elt Ideal) ℓ) (c : Dev nD)

theorem hN : cfg0.N = 8 := N_0

/-- The two operands of the product. -/
abbrev lhs (i : S8192x1024.Idx) : EReal := m ((c : Thread nD τ).loc main_arg0) i
abbrev rhs (i : S8192x1024.Idx) : EReal := m ((c : Thread nD τ).loc main_arg1) i

/-- Which block each operand's window shows at grid point `t`: rows block `t % 8`, and the columns of the run `t / 8`. -/
theorem at0 : ∀ t : Fin cfg0.N, win0_0.index t 0 = t.val % 8 ∧ win0_0.index t 1 = t.val / 8 / 1 :=
  (by decide +kernel : ∀ t : Fin grid0.N, win0_0.index t 0 = t.val % 8 ∧ win0_0.index t 1 = t.val / 8 / 1)
theorem at1 : ∀ t : Fin cfg0.N, win0_1.index t 0 = t.val % 8 ∧ win0_1.index t 1 = t.val / 8 % 1 :=
  (by decide +kernel : ∀ t : Fin grid0.N, win0_1.index t 0 = t.val % 8 ∧ win0_1.index t 1 = t.val / 8 % 1)

/-- The row of the arrays that is row `k` of the blocks at point `t`. -/
abbrev row (t : Fin cfg0.N) (k : Fin 1024) : Fin 8192 := ⟨1024 * (t.val % 8) + k.val, by omega⟩
/-- The column of the left array at point `t`, and of the right. -/
abbrev col0 (t : Fin cfg0.N) (p : Fin 1024) : Fin 1024 :=
  ⟨1024 * (t.val / 8 / 1) + p.val, by have := t.isLt.trans_eq hN; omega⟩
abbrev col1 (t : Fin cfg0.N) (q : Fin 1024) : Fin 1024 :=
  ⟨1024 * (t.val / 8 % 1) + q.val, by omega⟩

theorem read0 (t : Fin cfg0.N) (i : S1024x1024.Idx) :
    iblk m c 0 t i = lhs m c (ix2 (row t (i 0)) (col0 t (i 1))) := by
  unfold lhs
  rw [← V_main_arg0 m c]; unfold iblk; rw [View.read_apply]
  show V m c main_arg0 _ = V m c main_arg0 _
  congr 1; funext b; apply Fin.ext
  match b with
  | ⟨0, _⟩ => show win0_0.index t 0 * 1024 + 1 * (i 0).val = 1024 * (t.val % 8) + (i 0).val; rw [(at0 t).1]; omega
  | ⟨1, _⟩ => show win0_0.index t 1 * 1024 + 1 * (i 1).val = 1024 * (t.val / 8 / 1) + (i 1).val; rw [(at0 t).2]; omega

theorem read1 (t : Fin cfg0.N) (i : S1024x1024.Idx) :
    iblk m c 1 t i = rhs m c (ix2 (row t (i 0)) (col1 t (i 1))) := by
  unfold rhs
  rw [← V_main_arg1 m c]; unfold iblk; rw [View.read_apply]
  show V m c main_arg1 _ = V m c main_arg1 _
  congr 1; funext b; apply Fin.ext
  match b with
  | ⟨0, _⟩ => show win0_1.index t 0 * 1024 + 1 * (i 0).val = 1024 * (t.val % 8) + (i 0).val; rw [(at1 t).1]; omega
  | ⟨1, _⟩ => show win0_1.index t 1 * 1024 + 1 * (i 1).val = 1024 * (t.val / 8 % 1) + (i 1).val; rw [(at1 t).2]; omega

/-- One point's addend: the product of its two blocks. -/
def addend (n : ℕ) (i : S1024x1024.Idx) : EReal :=
  if h : n < cfg0.N then
    ∑ k : Fin 1024, lhs m c (ix2 (row ⟨n, h⟩ k) (col0 ⟨n, h⟩ (i 0))) * rhs m c (ix2 (row ⟨n, h⟩ k) (col1 ⟨n, h⟩ (i 1)))
  else 0

/-- The body adds the product of the two blocks to what it finds. -/
theorem body (acc : Vec Ideal S1024x1024 .f32) (x0 : Vec Ideal S1024x1024 .bf16)
    (x1 : Vec Ideal S1024x1024 .bf16) (p : Fin 1024) (q : Fin 1024) :
    k0_pay2 (F := Ideal) acc x0 x1 (ix2 p q) = acc (ix2 p q) + ∑ k : Fin 1024, x0 (ix2 k p) * x1 (ix2 k q) := by
  pointwise [k0_pay2]

theorem step (n : ℕ) (h : n < cfg0.N) (acc : Vec Ideal S1024x1024 .f32) (i : S1024x1024.Idx) :
    Value.step2 m c n h acc i = acc i + addend m c n i := by
  unfold Value.step2 addend
  rw [dif_pos h, eq_ix2 i]
  refine (body _ _ _ (i 0) (i 1)).trans ?_
  refine congrArg _ (Finset.sum_congr rfl fun k _ => ?_)
  rw [read0, read1]
  rfl

/-- The first point of a run starts from zero. -/
theorem zero (i : S1024x1024.Idx) : k0_pay1 (F := Ideal) i = 0 := by
  rw [eq_ix2 i]
  pointwise [k0_pay1]

theorem reset (n : ℕ) (h : n < cfg0.N) (i : S1024x1024.Idx) : Value.reset2 m c n h i = 0 + addend m c n i :=
  (step m c n h (k0_pay1 (F := Ideal)) i).trans (by rw [zero])

/-- The result: the contraction of all rows. -/
theorem final : Value.G2 m c = fun i => ∑ r : Fin 8192, lhs m c (ix2 r (i 0)) * rhs m c (ix2 r (i 1)) := by
  funext i
  have h0 : (i 0).val < 1024 := (i 0).isLt
  have h1 : (i 1).val < 1024 := (i 1).isLt
  have hr : Value.run2Of i = 1 * ((i 0).val / 1024) + (i 1).val / 1024 := by
    show 1 * ((i 0).val / 1024 - 0) + 1 * ((i 1).val / 1024 - 0) = _
    omega
  have hr' : Value.run2Of i / 1 = (i 0).val / 1024 ∧ Value.run2Of i % 1 = (i 1).val / 1024 := by
    rw [hr]; omega
  have hb : 8 * Value.run2Of i + 7 < cfg0.N := by rw [hN, hr]; omega
  unfold Value.G2
  rw [dif_pos hb, Pipeline.accAt_add_apply (Value.reset2 m c) (Value.step2 m c) (fun _ => (0 : EReal)) (addend m c) _ 7
    (fun h i => reset m c _ h i) (fun n h acc i _ _ => step m c n h acc i) 7 le_rfl hb]
  refine (zero_add (∑ s ∈ Finset.range (7 + 1), addend m c (8 * Value.run2Of i + s) (Value.loc2Of i))).trans ?_
  refine RowSum.run (fun s => addend m c (8 * Value.run2Of i + s) (Value.loc2Of i))
    (fun r => lhs m c (ix2 r (i 0)) * rhs m c (ix2 r (i 1))) fun s => ?_
  have hs : 8 * Value.run2Of i + s.val < cfg0.N := by omega
  unfold addend
  rw [dif_pos hs]
  refine Finset.sum_congr rfl fun k _ => ?_
  have e0 : row ⟨8 * Value.run2Of i + s.val, hs⟩ k = RowSum.row s k :=
    Fin.ext (by show 1024 * ((8 * Value.run2Of i + s.val) % 8) + k.val = 1024 * s.val + k.val; omega)
  have e1 : col0 ⟨8 * Value.run2Of i + s.val, hs⟩ (Value.loc2Of i 0) = i 0 :=
    Fin.ext (by
      show 1024 * ((8 * Value.run2Of i + s.val) / 8 / 1) + (i 0).val % 1024 = (i 0).val
      rw [show (8 * Value.run2Of i + s.val) / 8 = Value.run2Of i by omega, hr'.1]; omega)
  have e2 : col1 ⟨8 * Value.run2Of i + s.val, hs⟩ (Value.loc2Of i 1) = i 1 :=
    Fin.ext (by
      show 1024 * ((8 * Value.run2Of i + s.val) / 8 % 1) + (i 1).val % 1024 = (i 1).val
      rw [show (8 * Value.run2Of i + s.val) / 8 = Value.run2Of i by omega, hr'.2]; omega)
  rw [e0, e1, e2]

end kernel

/-! ## The claims -/

theorem frame : Cert.quiescent_GradGate := fun m ρ _ => Cert.GradGate.Gen.frame m ρ
theorem frame_ideal : Cert.quiescent_GradGateIdeal := fun m ρ _ => Cert.GradGateIdeal.Gen.frame m ρ

/-- The reference's run, read at its arguments; it declares no semaphore. -/
theorem frame_ref : Cert.quiescent_GradGateRefIdeal := fun m ρ _ =>
  (θ_run Cert.GradGateRefIdeal.defs _ _).mono
    (fun r h => ⟨fun c => (h c).2, Idealize.ShloMosaic.sem_eq_zero_of_no_sems (by decide) r.2⟩)
    (Cert.GradGateRefIdeal.Value.run (F := Ideal) m ρ)

/-- The reference at a place: the same contraction. -/
theorem reference (x0 : S8192x1024.Idx → EReal) (x1 : S8192x1024.Idx → EReal) (p : Fin 1024) (q : Fin 1024) :
    Cert.GradGateRefIdeal.Read.val_main_v5 (F := Ideal) x0 x1 (ix2 p q) = ∑ r : Fin 8192, x0 (ix2 r p) * x1 (ix2 r q) := by
  open Cert.GradGateRefIdeal.Read in
  pointwise [val_main_v5, val_main_v4, val_main_v3, val_main_v2, val_main_cst, val_main_v1, val_main_v0]
  exact Finset.sum_congr rfl fun r _ => mul_comm _ _

/-- The two programs end with the same gradient. -/
theorem algebraic : Cert.algebraic_GradGateIdeal_GradGateRefIdeal := by
  intro m ρ m' ρ' hpre hagree
  refine ⟨fun c => Cert.GradGateIdeal.Value.G2 (F := Ideal) m c, Cert.GradGateIdeal.Value.run m ρ, ?_⟩
  refine (θ_run Cert.GradGateRefIdeal.defs _ _).mono (fun r h c => ?_) (Cert.GradGateRefIdeal.Value.run (F := Ideal) m' ρ')
  obtain ⟨g0, g1⟩ := hagree c
  refine ⟨(h c).1.trans ?_, (h c).2⟩
  refine Eq.trans ?_ (final m c).symm
  refine (Cert.GradGateRefIdeal.Read.val_main_v5_eq _ _).trans ?_
  rw [g0, g1]
  funext i
  rw [eq_ix2 i]
  exact reference _ _ (i 0) (i 1)

end Cert.Proof.GradGate

end
-- ==== Proof.GradProjClaims.lean ====
/-
  `d_ple_w_proj`: the gradient of the projection of the per-layer embedding, a contraction of all 8192 rows. The kernel's grid visits,
  for each block of the result, the eight blocks of 1024 rows, and accumulates the products of the blocks; so its array ends
  holding the sum over all rows (`final`), which the reference writes as one product (`reference`). The claims
  follow: the frames, and the value claim, for all arguments.
-/
module

public import proofs.«01_k».proof.Defs
public import proofs.«01_k».proof.Proof.RowSum
public import proofs.«01_k».proof.Proof.Gen.GradProj.Frame
public import proofs.«01_k».proof.Proof.Gen.GradProjIdeal.Value
public import proofs.«01_k».proof.Proof.Gen.GradProjRefIdeal.Run
public import proofs.«01_k».proof.Proof.Gen.GradProjRefIdeal.Read
public import Idealize.ShloMosaic.Lib.Quiescent
public import Idealize.ShloMosaic.Lib.Pointwise

@[expose] public section

set_option maxRecDepth 16384

noncomputable section

namespace Cert.Proof.GradProj

open Cert.GradProjIdeal Cert.GradProjIdeal.Gen
open Idealize.ShloMosaic Idealize.ShloMosaic.TcCoe Idealize.SL.Sem
open scoped BigOperators

section kernel

variable (m : (ℓ : Loc nD τ sig) → Buf (Elt Ideal) ℓ) (c : Dev nD)

theorem hN : cfg0.N = 8 := N_0

/-- The two operands of the product. -/
abbrev lhs (i : S8192x256.Idx) : EReal := m ((c : Thread nD τ).loc main_arg0) i
abbrev rhs (i : S8192x1024.Idx) : EReal := m ((c : Thread nD τ).loc main_arg1) i

/-- Which block each operand's window shows at grid point `t`: rows block `t % 8`, and the columns of the run `t / 8`. -/
theorem at0 : ∀ t : Fin cfg0.N, win0_0.index t 0 = t.val % 8 ∧ win0_0.index t 1 = t.val / 8 / 1 :=
  (by decide +kernel : ∀ t : Fin grid0.N, win0_0.index t 0 = t.val % 8 ∧ win0_0.index t 1 = t.val / 8 / 1)
theorem at1 : ∀ t : Fin cfg0.N, win0_1.index t 0 = t.val % 8 ∧ win0_1.index t 1 = t.val / 8 % 1 :=
  (by decide +kernel : ∀ t : Fin grid0.N, win0_1.index t 0 = t.val % 8 ∧ win0_1.index t 1 = t.val / 8 % 1)

/-- The row of the arrays that is row `k` of the blocks at point `t`. -/
abbrev row (t : Fin cfg0.N) (k : Fin 1024) : Fin 8192 := ⟨1024 * (t.val % 8) + k.val, by omega⟩
/-- The column of the left array at point `t`, and of the right. -/
abbrev col0 (t : Fin cfg0.N) (p : Fin 256) : Fin 256 :=
  ⟨256 * (t.val / 8 / 1) + p.val, by have := t.isLt.trans_eq hN; omega⟩
abbrev col1 (t : Fin cfg0.N) (q : Fin 1024) : Fin 1024 :=
  ⟨1024 * (t.val / 8 % 1) + q.val, by omega⟩

theorem read0 (t : Fin cfg0.N) (i : S1024x256.Idx) :
    iblk m c 0 t i = lhs m c (ix2 (row t (i 0)) (col0 t (i 1))) := by
  unfold lhs
  rw [← V_main_arg0 m c]; unfold iblk; rw [View.read_apply]
  show V m c main_arg0 _ = V m c main_arg0 _
  congr 1; funext b; apply Fin.ext
  match b with
  | ⟨0, _⟩ => show win0_0.index t 0 * 1024 + 1 * (i 0).val = 1024 * (t.val % 8) + (i 0).val; rw [(at0 t).1]; omega
  | ⟨1, _⟩ => show win0_0.index t 1 * 256 + 1 * (i 1).val = 256 * (t.val / 8 / 1) + (i 1).val; rw [(at0 t).2]; omega

theorem read1 (t : Fin cfg0.N) (i : S1024x1024.Idx) :
    iblk m c 1 t i = rhs m c (ix2 (row t (i 0)) (col1 t (i 1))) := by
  unfold rhs
  rw [← V_main_arg1 m c]; unfold iblk; rw [View.read_apply]
  show V m c main_arg1 _ = V m c main_arg1 _
  congr 1; funext b; apply Fin.ext
  match b with
  | ⟨0, _⟩ => show win0_1.index t 0 * 1024 + 1 * (i 0).val = 1024 * (t.val % 8) + (i 0).val; rw [(at1 t).1]; omega
  | ⟨1, _⟩ => show win0_1.index t 1 * 1024 + 1 * (i 1).val = 1024 * (t.val / 8 % 1) + (i 1).val; rw [(at1 t).2]; omega

/-- One point's addend: the product of its two blocks. -/
def addend (n : ℕ) (i : S256x1024.Idx) : EReal :=
  if h : n < cfg0.N then
    ∑ k : Fin 1024, lhs m c (ix2 (row ⟨n, h⟩ k) (col0 ⟨n, h⟩ (i 0))) * rhs m c (ix2 (row ⟨n, h⟩ k) (col1 ⟨n, h⟩ (i 1)))
  else 0

/-- The body adds the product of the two blocks to what it finds. -/
theorem body (acc : Vec Ideal S256x1024 .f32) (x0 : Vec Ideal S1024x256 .f32)
    (x1 : Vec Ideal S1024x1024 .bf16) (p : Fin 256) (q : Fin 1024) :
    k0_pay2 (F := Ideal) acc x0 x1 (ix2 p q) = acc (ix2 p q) + ∑ k : Fin 1024, x0 (ix2 k p) * x1 (ix2 k q) := by
  pointwise [k0_pay2]

theorem step (n : ℕ) (h : n < cfg0.N) (acc : Vec Ideal S256x1024 .f32) (i : S256x1024.Idx) :
    Value.step2 m c n h acc i = acc i + addend m c n i := by
  unfold Value.step2 addend
  rw [dif_pos h, eq_ix2 i]
  refine (body _ _ _ (i 0) (i 1)).trans ?_
  refine congrArg _ (Finset.sum_congr rfl fun k _ => ?_)
  rw [read0, read1]
  rfl

/-- The first point of a run starts from zero. -/
theorem zero (i : S256x1024.Idx) : k0_pay1 (F := Ideal) i = 0 := by
  rw [eq_ix2 i]
  pointwise [k0_pay1]

theorem reset (n : ℕ) (h : n < cfg0.N) (i : S256x1024.Idx) : Value.reset2 m c n h i = 0 + addend m c n i :=
  (step m c n h (k0_pay1 (F := Ideal)) i).trans (by rw [zero])

/-- The result: the contraction of all rows. -/
theorem final : Value.G2 m c = fun i => ∑ r : Fin 8192, lhs m c (ix2 r (i 0)) * rhs m c (ix2 r (i 1)) := by
  funext i
  have h0 : (i 0).val < 256 := (i 0).isLt
  have h1 : (i 1).val < 1024 := (i 1).isLt
  have hr : Value.run2Of i = 1 * ((i 0).val / 256) + (i 1).val / 1024 := by
    show 1 * ((i 0).val / 256 - 0) + 1 * ((i 1).val / 1024 - 0) = _
    omega
  have hr' : Value.run2Of i / 1 = (i 0).val / 256 ∧ Value.run2Of i % 1 = (i 1).val / 1024 := by
    rw [hr]; omega
  have hb : 8 * Value.run2Of i + 7 < cfg0.N := by rw [hN, hr]; omega
  unfold Value.G2
  rw [dif_pos hb, Pipeline.accAt_add_apply (Value.reset2 m c) (Value.step2 m c) (fun _ => (0 : EReal)) (addend m c) _ 7
    (fun h i => reset m c _ h i) (fun n h acc i _ _ => step m c n h acc i) 7 le_rfl hb]
  refine (zero_add (∑ s ∈ Finset.range (7 + 1), addend m c (8 * Value.run2Of i + s) (Value.loc2Of i))).trans ?_
  refine RowSum.run (fun s => addend m c (8 * Value.run2Of i + s) (Value.loc2Of i))
    (fun r => lhs m c (ix2 r (i 0)) * rhs m c (ix2 r (i 1))) fun s => ?_
  have hs : 8 * Value.run2Of i + s.val < cfg0.N := by omega
  unfold addend
  rw [dif_pos hs]
  refine Finset.sum_congr rfl fun k _ => ?_
  have e0 : row ⟨8 * Value.run2Of i + s.val, hs⟩ k = RowSum.row s k :=
    Fin.ext (by show 1024 * ((8 * Value.run2Of i + s.val) % 8) + k.val = 1024 * s.val + k.val; omega)
  have e1 : col0 ⟨8 * Value.run2Of i + s.val, hs⟩ (Value.loc2Of i 0) = i 0 :=
    Fin.ext (by
      show 256 * ((8 * Value.run2Of i + s.val) / 8 / 1) + (i 0).val % 256 = (i 0).val
      rw [show (8 * Value.run2Of i + s.val) / 8 = Value.run2Of i by omega, hr'.1]; omega)
  have e2 : col1 ⟨8 * Value.run2Of i + s.val, hs⟩ (Value.loc2Of i 1) = i 1 :=
    Fin.ext (by
      show 1024 * ((8 * Value.run2Of i + s.val) / 8 % 1) + (i 1).val % 1024 = (i 1).val
      rw [show (8 * Value.run2Of i + s.val) / 8 = Value.run2Of i by omega, hr'.2]; omega)
  rw [e0, e1, e2]

end kernel

/-! ## The claims -/

theorem frame : Cert.quiescent_GradProj := fun m ρ _ => Cert.GradProj.Gen.frame m ρ
theorem frame_ideal : Cert.quiescent_GradProjIdeal := fun m ρ _ => Cert.GradProjIdeal.Gen.frame m ρ

/-- The reference's run, read at its arguments; it declares no semaphore. -/
theorem frame_ref : Cert.quiescent_GradProjRefIdeal := fun m ρ _ =>
  (θ_run Cert.GradProjRefIdeal.defs _ _).mono
    (fun r h => ⟨fun c => (h c).2, Idealize.ShloMosaic.sem_eq_zero_of_no_sems (by decide) r.2⟩)
    (Cert.GradProjRefIdeal.Value.run (F := Ideal) m ρ)

/-- The reference at a place: the same contraction. -/
theorem reference (x0 : S8192x256.Idx → EReal) (x1 : S8192x1024.Idx → EReal) (p : Fin 256) (q : Fin 1024) :
    Cert.GradProjRefIdeal.Read.val_main_v4 (F := Ideal) x0 x1 (ix2 p q) = ∑ r : Fin 8192, x0 (ix2 r p) * x1 (ix2 r q) := by
  open Cert.GradProjRefIdeal.Read in
  pointwise [val_main_v4, val_main_v3, val_main_v2, val_main_v1, val_main_cst, val_main_v0]
  exact Finset.sum_congr rfl fun r _ => mul_comm _ _

/-- The two programs end with the same gradient. -/
theorem algebraic : Cert.algebraic_GradProjIdeal_GradProjRefIdeal := by
  intro m ρ m' ρ' hpre hagree
  refine ⟨fun c => Cert.GradProjIdeal.Value.G2 (F := Ideal) m c, Cert.GradProjIdeal.Value.run m ρ, ?_⟩
  refine (θ_run Cert.GradProjRefIdeal.defs _ _).mono (fun r h c => ?_) (Cert.GradProjRefIdeal.Value.run (F := Ideal) m' ρ')
  obtain ⟨g0, g1⟩ := hagree c
  refine ⟨(h c).1.trans ?_, (h c).2⟩
  refine Eq.trans ?_ (final m c).symm
  refine (Cert.GradProjRefIdeal.Read.val_main_v4_eq _ _).trans ?_
  rw [g0, g1]
  funext i
  rw [eq_ix2 i]
  exact reference _ _ (i 0) (i 1)

end Cert.Proof.GradProj

end
-- ==== Proof.BackActClaims.lean ====
/-
  `d_ffn_act`: the gradient of the activations that the down projection of the feed-forward branch takes. Each grid point leaves one block of the product of its rows (in bfloat16, a rounding that is no step over the reals) with the
  layer's weights, and the blocks tile the array (`final`); the reference writes one product (`reference`). The claims follow: the
  frames, and the value claim, for all arguments.
-/
module

public import proofs.«01_k».proof.Defs
public import proofs.«01_k».proof.Proof.Gen.BackAct.Frame
public import proofs.«01_k».proof.Proof.Gen.BackActIdeal.Value
public import proofs.«01_k».proof.Proof.Gen.BackActRefIdeal.Run
public import proofs.«01_k».proof.Proof.Gen.BackActRefIdeal.Read
public import Idealize.ShloMosaic.Lib.Quiescent
public import Idealize.ShloMosaic.Lib.Pointwise

@[expose] public section

set_option maxRecDepth 16384

noncomputable section

namespace Cert.Proof.BackAct

open Cert.BackActIdeal Cert.BackActIdeal.Gen
open Idealize.ShloMosaic Idealize.ShloMosaic.TcCoe Idealize.SL.Sem
open Idealize.ShloMosaic.Pipeline (Dat)
open scoped BigOperators

section kernel

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves, at a place of its block. -/
theorem block (x0 : Vec Ideal S512x1024 .f32) (x1 : Vec Ideal S1x1408x1024 .bf16) (p : Fin 512) (q : Fin 1408) :
    out0_2 (F := Ideal) x0 x1 (ix2 p q) = (∑ k : Fin 1024, x0 (ix2 p k) * x1 (ix3 0 q k)) := by
  unfold out0_2
  rw [View.canon_unit_zero hz]
  simp only [View.ld_unit_zero (S := S512x1024) hz, View.ld_unit_zero (S := S1x1408x1024) hz3]
  pointwise [k0_pay1]

variable (m : (ℓ : Loc nD τ sig) → Buf (Elt Ideal) ℓ) (c : Dev nD)

theorem hN : cfg0.N = 32 := N_0

/-- The arguments. -/
abbrev lhs (i : S8192x1024.Idx) : EReal := m ((c : Thread nD τ).loc main_arg0) i
abbrev wts (i : S2x2816x1024.Idx) : EReal := m ((c : Thread nD τ).loc main_arg1) i

/-- Which block each window shows at grid point `t`. -/
theorem at0 : ∀ t : Fin cfg0.N, win0_0.index t 0 = t.val / 2 ∧ win0_0.index t 1 = 0 :=
  (by decide +kernel : ∀ t : Fin grid0.N, win0_0.index t 0 = t.val / 2 ∧ win0_0.index t 1 = 0)
theorem at1 : ∀ t : Fin cfg0.N, win0_1.index t 0 = 1 ∧ win0_1.index t 1 = t.val % 2 ∧ win0_1.index t 2 = 0 :=
  (by decide +kernel : ∀ t : Fin grid0.N, win0_1.index t 0 = 1 ∧ win0_1.index t 1 = t.val % 2 ∧ win0_1.index t 2 = 0)
theorem at2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The row of the arrays that is row `p` of the blocks at point `t`, and the column. -/
abbrev row (t : Fin cfg0.N) (p : Fin 512) : Fin 8192 :=
  ⟨512 * (t.val / 2) + p.val, by have := t.isLt.trans_eq hN; omega⟩
abbrev col (t : Fin cfg0.N) (q : Fin 1408) : Fin 2816 := ⟨1408 * (t.val % 2) + q.val, by omega⟩

theorem read0 (t : Fin cfg0.N) (i : S512x1024.Idx) : iblk m c 0 t i = lhs m c (ix2 (row t (i 0)) (i 1)) := by
  unfold lhs
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * (t.val / 2) + (i 0).val; rw [(at0 t).1]; omega
  | ⟨1, _⟩ => show win0_0.index t 1 * 1024 + 1 * (i 1).val = (i 1).val; rw [(at0 t).2]; omega

theorem read1 (t : Fin cfg0.N) (i : S1x1408x1024.Idx) : iblk m c 1 t i = wts m c (ix3 1 (col t (i 1)) (i 2)) := by
  unfold wts
  rw [← V_main_arg1 m c]; unfold iblk; rw [View.read_apply]
  show V m c main_arg1 _ = V m c main_arg1 _
  congr 1; funext b; apply Fin.ext
  have h0 : (i 0).val = 0 := by have : (i 0).val < 1 := (i 0).isLt; omega
  match b with
  | ⟨0, _⟩ => show win0_1.index t 0 * 1 + 1 * (i 0).val = 1; rw [(at1 t).1, h0]
  | ⟨1, _⟩ => show win0_1.index t 1 * 1408 + 1 * (i 1).val = 1408 * (t.val % 2) + (i 1).val; rw [(at1 t).2.1]; omega
  | ⟨2, _⟩ => show win0_1.index t 2 * 1024 + 1 * (i 2).val = (i 2).val; rw [(at1 t).2.2]; omega

/-- The value at a place of the result. -/
def value (p : Fin 8192) (q : Fin 2816) : EReal := ∑ k : Fin 1024, lhs m c (ix2 p k) * wts m c (ix3 1 q k)

/-- What a point leaves, from the arguments. -/
theorem block_eq (t : Fin cfg0.N) (i : S512x1408.Idx) :
    out0_2 (F := Ideal) (iblk m c 0 t) (iblk m c 1 t) i = value m c (row t (i 0)) (col t (i 1)) := by
  rw [eq_ix2 i]
  refine (block _ _ (i 0) (i 1)).trans ?_
  unfold value
  refine Finset.sum_congr rfl fun k _ => ?_
  rw [read0, read1]; rfl

/-- The result ends holding the value everywhere. -/
theorem final : (dats m 0 c).arrAt 2 cfg0.N = fun i => value m c (i 0) (i 1) := by
  refine (dats m 0 c).arrAt_eq_of_cover 2 _ (fun t _ => ?_) fun i => ?_
  · rw [Value.flushed2]
    funext j
    rw [View.read_apply]
    refine (block_eq m c t j).trans ?_
    show _ = value m c _ _
    congr 1 <;> apply Fin.ext
    · show 512 * (t.val / 2) + (j 0).val = win0_2.index t 0 * 512 + 1 * (j 0).val; rw [(at2 t).1]; omega
    · show 1408 * (t.val % 2) + (j 1).val = win0_2.index t 1 * 1408 + 1 * (j 1).val; rw [(at2 t).2]; omega
  · have h0 : (i 0 : Nat) < 8192 := (i 0).isLt
    have h1 : (i 1 : Nat) < 2816 := (i 1).isLt
    have ht : 2 * ((i 0 : Nat) / 512) + (i 1 : Nat) / 1408 < cfg0.N := by have := hN; omega
    refine ⟨⟨2 * ((i 0 : Nat) / 512) + (i 1 : Nat) / 1408, ht⟩, flush0_2 _, ?_⟩
    show i ∈ ((View.whole main_v0).slice (win0_2.rect ⟨2 * ((i 0 : Nat) / 512) + (i 1 : Nat) / 1408, ht⟩)).set
    rw [View.set_slice_whole, Rect.mem_set_unit]
    intro b
    match b with
    | ⟨0, _⟩ =>
      show win0_2.index ⟨_, ht⟩ 0 * 512 ≤ (i 0 : Nat) ∧ (i 0 : Nat) < win0_2.index ⟨_, ht⟩ 0 * 512 + 512
      rw [(at2 _).1]; dsimp only; omega
    | ⟨1, _⟩ =>
      show win0_2.index ⟨_, ht⟩ 1 * 1408 ≤ (i 1 : Nat) ∧ (i 1 : Nat) < win0_2.index ⟨_, ht⟩ 1 * 1408 + 1408
      rw [(at2 _).2]; dsimp only; omega

end kernel

/-! ## The claims -/

theorem frame : Cert.quiescent_BackAct := fun m ρ _ => Cert.BackAct.Gen.frame m ρ
theorem frame_ideal : Cert.quiescent_BackActIdeal := fun m ρ _ => Cert.BackActIdeal.Gen.frame m ρ

/-- The reference's run, read at its arguments; it declares no semaphore. -/
theorem frame_ref : Cert.quiescent_BackActRefIdeal := fun m ρ _ =>
  (θ_run Cert.BackActRefIdeal.defs _ _).mono
    (fun r h => ⟨fun c => (h c).2, Idealize.ShloMosaic.sem_eq_zero_of_no_sems (by decide) r.2⟩)
    (Cert.BackActRefIdeal.Value.run (F := Ideal) m ρ)

/-- The reference at a place: the same product. -/
theorem reference (x0 : S8192x1024.Idx → EReal) (x1 : S2x2816x1024.Idx → EReal) (p : Fin 8192) (q : Fin 2816) :
    Cert.BackActRefIdeal.Read.val_main_v6 (F := Ideal) x0 x1 (ix2 p q)
      = (∑ k : Fin 1024, x0 (ix2 p k) * x1 (ix3 1 q k)) := by
  open Cert.BackActRefIdeal.Read in
  pointwise [val_main_v6, val_main_v5, val_main_v4, val_main_v3, val_main_cst, val_main_v2, val_main_v1, val_main_v0]

/-- The two programs end with the same array. -/
theorem algebraic : Cert.algebraic_BackActIdeal_BackActRefIdeal := by
  intro m ρ m' ρ' hpre hagree
  refine ⟨fun c => (Cert.BackActIdeal.Gen.dats (F := Ideal) m 0 c).arrAt 2 Cert.BackActIdeal.cfg0.N,
    Cert.BackActIdeal.Value.run_blocks m ρ, ?_⟩
  refine (θ_run Cert.BackActRefIdeal.defs _ _).mono (fun r h c => ?_) (Cert.BackActRefIdeal.Value.run (F := Ideal) m' ρ')
  obtain ⟨g0, g1⟩ := hagree c
  refine ⟨(h c).1.trans ?_, (h c).2⟩
  refine Eq.trans ?_ (final m c).symm
  refine (Cert.BackActRefIdeal.Read.val_main_v6_eq _ _).trans ?_
  rw [g0, g1]
  funext i
  rw [eq_ix2 i]
  exact reference _ _ (i 0) (i 1)

end Cert.Proof.BackAct

end
-- ==== Proof.BackMixClaims.lean ====
/-
  `d_mix`: the gradient of the mixed heads that the output projection takes. Each grid point leaves one block of the product of its rows with the
  layer's weights, and the blocks tile the array (`final`); the reference writes one product (`reference`). The claims follow: the
  frames, and the value claim, for all arguments.
-/
module

public import proofs.«01_k».proof.Defs
public import proofs.«01_k».proof.Proof.Gen.BackMix.Frame
public import proofs.«01_k».proof.Proof.Gen.BackMixIdeal.Value
public import proofs.«01_k».proof.Proof.Gen.BackMixRefIdeal.Run
public import proofs.«01_k».proof.Proof.Gen.BackMixRefIdeal.Read
public import Idealize.ShloMosaic.Lib.Quiescent
public import Idealize.ShloMosaic.Lib.Pointwise

@[expose] public section

set_option maxRecDepth 16384

noncomputable section

namespace Cert.Proof.BackMix

open Cert.BackMixIdeal Cert.BackMixIdeal.Gen
open Idealize.ShloMosaic Idealize.ShloMosaic.TcCoe Idealize.SL.Sem
open Idealize.ShloMosaic.Pipeline (Dat)
open scoped BigOperators

section kernel

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves, at a place of its block. -/
theorem block (x0 : Vec Ideal S512x1024 .f32) (x1 : Vec Ideal S1x1024x1024 .bf16) (p : Fin 512) (q : Fin 1024) :
    out0_2 (F := Ideal) x0 x1 (ix2 p q) = (∑ k : Fin 1024, x0 (ix2 p k) * x1 (ix3 0 q k)) := by
  unfold out0_2
  rw [View.canon_unit_zero hz]
  simp only [View.ld_unit_zero (S := S512x1024) hz, View.ld_unit_zero (S := S1x1024x1024) hz3]
  pointwise [k0_pay1]

variable (m : (ℓ : Loc nD τ sig) → Buf (Elt Ideal) ℓ) (c : Dev nD)

theorem hN : cfg0.N = 16 := N_0

/-- The arguments. -/
abbrev lhs (i : S8192x1024.Idx) : EReal := m ((c : Thread nD τ).loc main_arg0) i
abbrev wts (i : S2x1024x1024.Idx) : EReal := m ((c : Thread nD τ).loc main_arg1) i

/-- Which block each window shows at grid point `t`. -/
theorem at0 : ∀ t : Fin cfg0.N, win0_0.index t 0 = t.val / 1 ∧ win0_0.index t 1 = 0 :=
  (by decide +kernel : ∀ t : Fin grid0.N, win0_0.index t 0 = t.val / 1 ∧ win0_0.index t 1 = 0)
theorem at1 : ∀ t : Fin cfg0.N, win0_1.index t 0 = 1 ∧ win0_1.index t 1 = t.val % 1 ∧ win0_1.index t 2 = 0 :=
  (by decide +kernel : ∀ t : Fin grid0.N, win0_1.index t 0 = 1 ∧ win0_1.index t 1 = t.val % 1 ∧ win0_1.index t 2 = 0)
theorem at2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)

/-- The row of the arrays that is row `p` of the blocks at point `t`, and the column. -/
abbrev row (t : Fin cfg0.N) (p : Fin 512) : Fin 8192 :=
  ⟨512 * (t.val / 1) + p.val, by have := t.isLt.trans_eq hN; omega⟩
abbrev col (t : Fin cfg0.N) (q : Fin 1024) : Fin 1024 := ⟨1024 * (t.val % 1) + q.val, by omega⟩

theorem read0 (t : Fin cfg0.N) (i : S512x1024.Idx) : iblk m c 0 t i = lhs m c (ix2 (row t (i 0)) (i 1)) := by
  unfold lhs
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * (t.val / 1) + (i 0).val; rw [(at0 t).1]; omega
  | ⟨1, _⟩ => show win0_0.index t 1 * 1024 + 1 * (i 1).val = (i 1).val; rw [(at0 t).2]; omega

theorem read1 (t : Fin cfg0.N) (i : S1x1024x1024.Idx) : iblk m c 1 t i = wts m c (ix3 1 (col t (i 1)) (i 2)) := by
  unfold wts
  rw [← V_main_arg1 m c]; unfold iblk; rw [View.read_apply]
  show V m c main_arg1 _ = V m c main_arg1 _
  congr 1; funext b; apply Fin.ext
  have h0 : (i 0).val = 0 := by have : (i 0).val < 1 := (i 0).isLt; omega
  match b with
  | ⟨0, _⟩ => show win0_1.index t 0 * 1 + 1 * (i 0).val = 1; rw [(at1 t).1, h0]
  | ⟨1, _⟩ => show win0_1.index t 1 * 1024 + 1 * (i 1).val = 1024 * (t.val % 1) + (i 1).val; rw [(at1 t).2.1]; omega
  | ⟨2, _⟩ => show win0_1.index t 2 * 1024 + 1 * (i 2).val = (i 2).val; rw [(at1 t).2.2]; omega

/-- The value at a place of the result. -/
def value (p : Fin 8192) (q : Fin 1024) : EReal := ∑ k : Fin 1024, lhs m c (ix2 p k) * wts m c (ix3 1 q k)

/-- What a point leaves, from the arguments. -/
theorem block_eq (t : Fin cfg0.N) (i : S512x1024.Idx) :
    out0_2 (F := Ideal) (iblk m c 0 t) (iblk m c 1 t) i = value m c (row t (i 0)) (col t (i 1)) := by
  rw [eq_ix2 i]
  refine (block _ _ (i 0) (i 1)).trans ?_
  unfold value
  refine Finset.sum_congr rfl fun k _ => ?_
  rw [read0, read1]; rfl

/-- The result ends holding the value everywhere. -/
theorem final : (dats m 0 c).arrAt 2 cfg0.N = fun i => value m c (i 0) (i 1) := by
  refine (dats m 0 c).arrAt_eq_of_cover 2 _ (fun t _ => ?_) fun i => ?_
  · rw [Value.flushed2]
    funext j
    rw [View.read_apply]
    refine (block_eq m c t j).trans ?_
    show _ = value m c _ _
    congr 1 <;> apply Fin.ext
    · show 512 * (t.val / 1) + (j 0).val = win0_2.index t 0 * 512 + 1 * (j 0).val; rw [(at2 t).1]; omega
    · show 1024 * (t.val % 1) + (j 1).val = win0_2.index t 1 * 1024 + 1 * (j 1).val; rw [(at2 t).2]; omega
  · have h0 : (i 0 : Nat) < 8192 := (i 0).isLt
    have h1 : (i 1 : Nat) < 1024 := (i 1).isLt
    have ht : 1 * ((i 0 : Nat) / 512) + (i 1 : Nat) / 1024 < cfg0.N := by have := hN; omega
    refine ⟨⟨1 * ((i 0 : Nat) / 512) + (i 1 : Nat) / 1024, ht⟩, flush0_2 _, ?_⟩
    show i ∈ ((View.whole main_v0).slice (win0_2.rect ⟨1 * ((i 0 : Nat) / 512) + (i 1 : Nat) / 1024, ht⟩)).set
    rw [View.set_slice_whole, Rect.mem_set_unit]
    intro b
    match b with
    | ⟨0, _⟩ =>
      show win0_2.index ⟨_, ht⟩ 0 * 512 ≤ (i 0 : Nat) ∧ (i 0 : Nat) < win0_2.index ⟨_, ht⟩ 0 * 512 + 512
      rw [(at2 _).1]; dsimp only; omega
    | ⟨1, _⟩ =>
      show win0_2.index ⟨_, ht⟩ 1 * 1024 ≤ (i 1 : Nat) ∧ (i 1 : Nat) < win0_2.index ⟨_, ht⟩ 1 * 1024 + 1024
      rw [(at2 _).2]; dsimp only; omega

end kernel

/-! ## The claims -/

theorem frame : Cert.quiescent_BackMix := fun m ρ _ => Cert.BackMix.Gen.frame m ρ
theorem frame_ideal : Cert.quiescent_BackMixIdeal := fun m ρ _ => Cert.BackMixIdeal.Gen.frame m ρ

/-- The reference's run, read at its arguments; it declares no semaphore. -/
theorem frame_ref : Cert.quiescent_BackMixRefIdeal := fun m ρ _ =>
  (θ_run Cert.BackMixRefIdeal.defs _ _).mono
    (fun r h => ⟨fun c => (h c).2, Idealize.ShloMosaic.sem_eq_zero_of_no_sems (by decide) r.2⟩)
    (Cert.BackMixRefIdeal.Value.run (F := Ideal) m ρ)

/-- The reference at a place: the same product. -/
theorem reference (x0 : S8192x1024.Idx → EReal) (x1 : S2x1024x1024.Idx → EReal) (p : Fin 8192) (q : Fin 1024) :
    Cert.BackMixRefIdeal.Read.val_main_v5 (F := Ideal) x0 x1 (ix2 p q)
      = (∑ k : Fin 1024, x0 (ix2 p k) * x1 (ix3 1 q k)) := by
  open Cert.BackMixRefIdeal.Read in
  pointwise [val_main_v5, val_main_v4, val_main_v3, val_main_cst, val_main_v2, val_main_v1, val_main_v0]

/-- The two programs end with the same array. -/
theorem algebraic : Cert.algebraic_BackMixIdeal_BackMixRefIdeal := by
  intro m ρ m' ρ' hpre hagree
  refine ⟨fun c => (Cert.BackMixIdeal.Gen.dats (F := Ideal) m 0 c).arrAt 2 Cert.BackMixIdeal.cfg0.N,
    Cert.BackMixIdeal.Value.run_blocks m ρ, ?_⟩
  refine (θ_run Cert.BackMixRefIdeal.defs _ _).mono (fun r h c => ?_) (Cert.BackMixRefIdeal.Value.run (F := Ideal) m' ρ')
  obtain ⟨g0, g1⟩ := hagree c
  refine ⟨(h c).1.trans ?_, (h c).2⟩
  refine Eq.trans ?_ (final m c).symm
  refine (Cert.BackMixRefIdeal.Read.val_main_v5_eq _ _).trans ?_
  rw [g0, g1]
  funext i
  rw [eq_ix2 i]
  exact reference _ _ (i 0) (i 1)

end Cert.Proof.BackMix

end
-- ==== Proof.DownClaims.lean ====
/-
  `ffn_down`: the down projection of the feed-forward branch, added to the stream. Each grid point leaves one block of the product of its rows with the
  layer's weights, and the blocks tile the array (`final`); the reference writes one product (`reference`). The claims follow: the
  frames, and the value claim, for all arguments.
-/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Quiescent
public import Idealize.ShloMosaic.Lib.Pointwise

@[expose] public section

set_option maxRecDepth 16384

noncomputable section

namespace Cert.Proof.Down

open Cert.DownIdeal Cert.DownIdeal.Gen
open Idealize.ShloMosaic Idealize.ShloMosaic.TcCoe Idealize.SL.Sem
open Idealize.ShloMosaic.Pipeline (Dat)
open scoped BigOperators

section kernel

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves, at a place of its block. -/
theorem block (x0 : Vec Ideal S512x2816 .bf16) (x1 : Vec Ideal S1x2816x1024 .bf16) (x2 : Vec Ideal S512x1024 .f32) (p : Fin 512) (q : Fin 1024) :
    out0_3 (F := Ideal) x0 x1 x2 (ix2 p q) = (∑ k : Fin 2816, x0 (ix2 p k) * x1 (ix3 0 k q)) + x2 (ix2 p q) := by
  unfold out0_3
  rw [View.canon_unit_zero hz]
  simp only [View.ld_unit_zero (S := S512x2816) hz, View.ld_unit_zero (S := S1x2816x1024) hz3, View.ld_unit_zero (S := S512x1024) hz]
  pointwise [k0_pay1]

variable (m : (ℓ : Loc nD τ sig) → Buf (Elt Ideal) ℓ) (c : Dev nD)

theorem hN : cfg0.N = 16 := N_0

/-- The arguments. -/
abbrev lhs (i : S8192x2816.Idx) : EReal := m ((c : Thread nD τ).loc main_arg0) i
abbrev wts (i : S2x2816x1024.Idx) : EReal := m ((c : Thread nD τ).loc main_arg1) i
abbrev stream (i : S8192x1024.Idx) : EReal := m ((c : Thread nD τ).loc main_arg2) i

/-- Which block each window shows at grid point `t`. -/
theorem at0 : ∀ t : Fin cfg0.N, win0_0.index t 0 = t.val / 1 ∧ win0_0.index t 1 = 0 :=
  (by decide +kernel : ∀ t : Fin grid0.N, win0_0.index t 0 = t.val / 1 ∧ win0_0.index t 1 = 0)
theorem at1 : ∀ t : Fin cfg0.N, win0_1.index t 0 = 1 ∧ win0_1.index t 1 = 0 ∧ win0_1.index t 2 = t.val % 1 :=
  (by decide +kernel : ∀ t : Fin grid0.N, win0_1.index t 0 = 1 ∧ win0_1.index t 1 = 0 ∧ win0_1.index t 2 = t.val % 1)
theorem at2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)
theorem at3 : ∀ t : Fin cfg0.N, win0_3.index t 0 = t.val / 1 ∧ win0_3.index t 1 = t.val % 1 :=
  (by decide +kernel : ∀ t : Fin grid0.N, win0_3.index t 0 = t.val / 1 ∧ win0_3.index t 1 = t.val % 1)

/-- The row of the arrays that is row `p` of the blocks at point `t`, and the column. -/
abbrev row (t : Fin cfg0.N) (p : Fin 512) : Fin 8192 :=
  ⟨512 * (t.val / 1) + p.val, by have := t.isLt.trans_eq hN; omega⟩
abbrev col (t : Fin cfg0.N) (q : Fin 1024) : Fin 1024 := ⟨1024 * (t.val % 1) + q.val, by omega⟩

theorem read0 (t : Fin cfg0.N) (i : S512x2816.Idx) : iblk m c 0 t i = lhs m c (ix2 (row t (i 0)) (i 1)) := by
  unfold lhs
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * (t.val / 1) + (i 0).val; rw [(at0 t).1]; omega
  | ⟨1, _⟩ => show win0_0.index t 1 * 2816 + 1 * (i 1).val = (i 1).val; rw [(at0 t).2]; omega

theorem read1 (t : Fin cfg0.N) (i : S1x2816x1024.Idx) : iblk m c 1 t i = wts m c (ix3 1 (i 1) (col t (i 2))) := by
  unfold wts
  rw [← V_main_arg1 m c]; unfold iblk; rw [View.read_apply]
  show V m c main_arg1 _ = V m c main_arg1 _
  congr 1; funext b; apply Fin.ext
  have h0 : (i 0).val = 0 := by have : (i 0).val < 1 := (i 0).isLt; omega
  match b with
  | ⟨0, _⟩ => show win0_1.index t 0 * 1 + 1 * (i 0).val = 1; rw [(at1 t).1, h0]
  | ⟨1, _⟩ => show win0_1.index t 1 * 2816 + 1 * (i 1).val = (i 1).val; rw [(at1 t).2.1]; omega
  | ⟨2, _⟩ => show win0_1.index t 2 * 1024 + 1 * (i 2).val = 1024 * (t.val % 1) + (i 2).val; rw [(at1 t).2.2]; omega

theorem read2 (t : Fin cfg0.N) (i : S512x1024.Idx) : iblk m c 2 t i = stream m c (ix2 (row t (i 0)) (col t (i 1))) := by
  unfold stream
  rw [← V_main_arg2 m c]; unfold iblk; rw [View.read_apply]
  show V m c main_arg2 _ = V m c main_arg2 _
  congr 1; funext b; apply Fin.ext
  match b with
  | ⟨0, _⟩ => show win0_2.index t 0 * 512 + 1 * (i 0).val = 512 * (t.val / 1) + (i 0).val; rw [(at2 t).1]; omega
  | ⟨1, _⟩ => show win0_2.index t 1 * 1024 + 1 * (i 1).val = 1024 * (t.val % 1) + (i 1).val; rw [(at2 t).2]; omega

/-- The value at a place of the result. -/
def value (p : Fin 8192) (q : Fin 1024) : EReal := (∑ k : Fin 2816, lhs m c (ix2 p k) * wts m c (ix3 1 k q)) + stream m c (ix2 p q)

/-- What a point leaves, from the arguments. -/
theorem block_eq (t : Fin cfg0.N) (i : S512x1024.Idx) :
    out0_3 (F := Ideal) (iblk m c 0 t) (iblk m c 1 t) (iblk m c 2 t) i = value m c (row t (i 0)) (col t (i 1)) := by
  rw [eq_ix2 i]
  refine (block _ _ _ (i 0) (i 1)).trans ?_
  unfold value
  refine congrArg₂ (· + ·) (Finset.sum_congr rfl fun k _ => ?_) ?_
  · rw [read0, read1]; rfl
  · rw [read2]

/-- The result ends holding the value everywhere. -/
theorem final : (dats m 0 c).arrAt 3 cfg0.N = fun i => value m c (i 0) (i 1) := by
  refine (dats m 0 c).arrAt_eq_of_cover 3 _ (fun t _ => ?_) fun i => ?_
  · rw [Value.flushed3]
    funext j
    rw [View.read_apply]
    refine (block_eq m c t j).trans ?_
    show _ = value m c _ _
    congr 1 <;> apply Fin.ext
    · show 512 * (t.val / 1) + (j 0).val = win0_3.index t 0 * 512 + 1 * (j 0).val; rw [(at3 t).1]; omega
    · show 1024 * (t.val % 1) + (j 1).val = win0_3.index t 1 * 1024 + 1 * (j 1).val; rw [(at3 t).2]; omega
  · have h0 : (i 0 : Nat) < 8192 := (i 0).isLt
    have h1 : (i 1 : Nat) < 1024 := (i 1).isLt
    have ht : 1 * ((i 0 : Nat) / 512) + (i 1 : Nat) / 1024 < cfg0.N := by have := hN; omega
    refine ⟨⟨1 * ((i 0 : Nat) / 512) + (i 1 : Nat) / 1024, ht⟩, flush0_3 _, ?_⟩
    show i ∈ ((View.whole main_v0).slice (win0_3.rect ⟨1 * ((i 0 : Nat) / 512) + (i 1 : Nat) / 1024, ht⟩)).set
    rw [View.set_slice_whole, Rect.mem_set_unit]
    intro b
    match b with
    | ⟨0, _⟩ =>
      show win0_3.index ⟨_, ht⟩ 0 * 512 ≤ (i 0 : Nat) ∧ (i 0 : Nat) < win0_3.index ⟨_, ht⟩ 0 * 512 + 512
      rw [(at3 _).1]; dsimp only; omega
    | ⟨1, _⟩ =>
      show win0_3.index ⟨_, ht⟩ 1 * 1024 ≤ (i 1 : Nat) ∧ (i 1 : Nat) < win0_3.index ⟨_, ht⟩ 1 * 1024 + 1024
      rw [(at3 _).2]; dsimp only; omega

end kernel

/-! ## The claims -/

theorem frame : Cert.quiescent_Down := fun m ρ _ => Cert.Down.Gen.frame m ρ
theorem frame_ideal : Cert.quiescent_DownIdeal := fun m ρ _ => Cert.DownIdeal.Gen.frame m ρ

/-- The reference's run, read at its arguments; it declares no semaphore. -/
theorem frame_ref : Cert.quiescent_DownRefIdeal := fun m ρ _ =>
  (θ_run Cert.DownRefIdeal.defs _ _).mono
    (fun r h => ⟨fun c => (h c).2, Idealize.ShloMosaic.sem_eq_zero_of_no_sems (by decide) r.2⟩)
    (Cert.DownRefIdeal.Value.run (F := Ideal) m ρ)

/-- The reference at a place: the same product. -/
theorem reference (x0 : S8192x2816.Idx → EReal) (x1 : S2x2816x1024.Idx → EReal) (x2 : S8192x1024.Idx → EReal) (p : Fin 8192) (q : Fin 1024) :
    Cert.DownRefIdeal.Read.val_main_v5 (F := Ideal) x0 x1 x2 (ix2 p q)
      = (∑ k : Fin 2816, x0 (ix2 p k) * x1 (ix3 1 k q)) + x2 (ix2 p q) := by
  open Cert.DownRefIdeal.Read in
  pointwise [val_main_v5, val_main_v4, val_main_v3, val_main_v2, val_main_v1, val_main_v0]
  exact add_comm _ _

/-- The two programs end with the same array. -/
theorem algebraic : Cert.algebraic_DownIdeal_DownRefIdeal := by
  intro m ρ m' ρ' hpre hagree
  refine ⟨fun c => (Cert.DownIdeal.Gen.dats (F := Ideal) m 0 c).arrAt 3 Cert.DownIdeal.cfg0.N,
    Cert.DownIdeal.Value.run_blocks m ρ, ?_⟩
  refine (θ_run Cert.DownRefIdeal.defs _ _).mono (fun r h c => ?_) (Cert.DownRefIdeal.Value.run (F := Ideal) m' ρ')
  obtain ⟨g0, g1, g2⟩ := hagree c
  refine ⟨(h c).1.trans ?_, (h c).2⟩
  refine Eq.trans ?_ (final m c).symm
  refine (Cert.DownRefIdeal.Read.val_main_v5_eq _ _ _).trans ?_
  rw [g0, g1, g2]
  funext i
  rw [eq_ix2 i]
  exact reference _ _ _ (i 0) (i 1)

end Cert.Proof.Down

end
-- ==== Proof.OutClaims.lean ====
/-
  `w_out`: the output projection of the attention branch, added to the stream. Each grid point leaves one block of the product of its rows with the
  layer's weights, and the blocks tile the array (`final`); the reference writes one product (`reference`). The claims follow: the
  frames, and the value claim, for all arguments.
-/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Quiescent
public import Idealize.ShloMosaic.Lib.Pointwise

@[expose] public section

set_option maxRecDepth 16384

noncomputable section

namespace Cert.Proof.Out

open Cert.OutIdeal Cert.OutIdeal.Gen
open Idealize.ShloMosaic Idealize.ShloMosaic.TcCoe Idealize.SL.Sem
open Idealize.ShloMosaic.Pipeline (Dat)
open scoped BigOperators

section kernel

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves, at a place of its block. -/
theorem block (x0 : Vec Ideal S512x1024 .bf16) (x1 : Vec Ideal S1x1024x1024 .bf16) (x2 : Vec Ideal S512x1024 .f32) (p : Fin 512) (q : Fin 1024) :
    out0_3 (F := Ideal) x0 x1 x2 (ix2 p q) = (∑ k : Fin 1024, x0 (ix2 p k) * x1 (ix3 0 k q)) + x2 (ix2 p q) := by
  unfold out0_3
  rw [View.canon_unit_zero hz]
  simp only [View.ld_unit_zero (S := S512x1024) hz, View.ld_unit_zero (S := S1x1024x1024) hz3]
  pointwise [k0_pay1]

variable (m : (ℓ : Loc nD τ sig) → Buf (Elt Ideal) ℓ) (c : Dev nD)

theorem hN : cfg0.N = 16 := N_0

/-- The arguments. -/
abbrev lhs (i : S8192x1024.Idx) : EReal := m ((c : Thread nD τ).loc main_arg0) i
abbrev wts (i : S2x1024x1024.Idx) : EReal := m ((c : Thread nD τ).loc main_arg1) i
abbrev stream (i : S8192x1024.Idx) : EReal := m ((c : Thread nD τ).loc main_arg2) i

/-- Which block each window shows at grid point `t`. -/
theorem at0 : ∀ t : Fin cfg0.N, win0_0.index t 0 = t.val / 1 ∧ win0_0.index t 1 = 0 :=
  (by decide +kernel : ∀ t : Fin grid0.N, win0_0.index t 0 = t.val / 1 ∧ win0_0.index t 1 = 0)
theorem at1 : ∀ t : Fin cfg0.N, win0_1.index t 0 = 1 ∧ win0_1.index t 1 = 0 ∧ win0_1.index t 2 = t.val % 1 :=
  (by decide +kernel : ∀ t : Fin grid0.N, win0_1.index t 0 = 1 ∧ win0_1.index t 1 = 0 ∧ win0_1.index t 2 = t.val % 1)
theorem at2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)
theorem at3 : ∀ t : Fin cfg0.N, win0_3.index t 0 = t.val / 1 ∧ win0_3.index t 1 = t.val % 1 :=
  (by decide +kernel : ∀ t : Fin grid0.N, win0_3.index t 0 = t.val / 1 ∧ win0_3.index t 1 = t.val % 1)

/-- The row of the arrays that is row `p` of the blocks at point `t`, and the column. -/
abbrev row (t : Fin cfg0.N) (p : Fin 512) : Fin 8192 :=
  ⟨512 * (t.val / 1) + p.val, by have := t.isLt.trans_eq hN; omega⟩
abbrev col (t : Fin cfg0.N) (q : Fin 1024) : Fin 1024 := ⟨1024 * (t.val % 1) + q.val, by omega⟩

theorem read0 (t : Fin cfg0.N) (i : S512x1024.Idx) : iblk m c 0 t i = lhs m c (ix2 (row t (i 0)) (i 1)) := by
  unfold lhs
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * (t.val / 1) + (i 0).val; rw [(at0 t).1]; omega
  | ⟨1, _⟩ => show win0_0.index t 1 * 1024 + 1 * (i 1).val = (i 1).val; rw [(at0 t).2]; omega

theorem read1 (t : Fin cfg0.N) (i : S1x1024x1024.Idx) : iblk m c 1 t i = wts m c (ix3 1 (i 1) (col t (i 2))) := by
  unfold wts
  rw [← V_main_arg1 m c]; unfold iblk; rw [View.read_apply]
  show V m c main_arg1 _ = V m c main_arg1 _
  congr 1; funext b; apply Fin.ext
  have h0 : (i 0).val = 0 := by have : (i 0).val < 1 := (i 0).isLt; omega
  match b with
  | ⟨0, _⟩ => show win0_1.index t 0 * 1 + 1 * (i 0).val = 1; rw [(at1 t).1, h0]
  | ⟨1, _⟩ => show win0_1.index t 1 * 1024 + 1 * (i 1).val = (i 1).val; rw [(at1 t).2.1]; omega
  | ⟨2, _⟩ => show win0_1.index t 2 * 1024 + 1 * (i 2).val = 1024 * (t.val % 1) + (i 2).val; rw [(at1 t).2.2]; omega

theorem read2 (t : Fin cfg0.N) (i : S512x1024.Idx) : iblk m c 2 t i = stream m c (ix2 (row t (i 0)) (col t (i 1))) := by
  unfold stream
  rw [← V_main_arg2 m c]; unfold iblk; rw [View.read_apply]
  show V m c main_arg2 _ = V m c main_arg2 _
  congr 1; funext b; apply Fin.ext
  match b with
  | ⟨0, _⟩ => show win0_2.index t 0 * 512 + 1 * (i 0).val = 512 * (t.val / 1) + (i 0).val; rw [(at2 t).1]; omega
  | ⟨1, _⟩ => show win0_2.index t 1 * 1024 + 1 * (i 1).val = 1024 * (t.val % 1) + (i 1).val; rw [(at2 t).2]; omega

/-- The value at a place of the result. -/
def value (p : Fin 8192) (q : Fin 1024) : EReal := (∑ k : Fin 1024, lhs m c (ix2 p k) * wts m c (ix3 1 k q)) + stream m c (ix2 p q)

/-- What a point leaves, from the arguments. -/
theorem block_eq (t : Fin cfg0.N) (i : S512x1024.Idx) :
    out0_3 (F := Ideal) (iblk m c 0 t) (iblk m c 1 t) (iblk m c 2 t) i = value m c (row t (i 0)) (col t (i 1)) := by
  rw [eq_ix2 i]
  refine (block _ _ _ (i 0) (i 1)).trans ?_
  unfold value
  refine congrArg₂ (· + ·) (Finset.sum_congr rfl fun k _ => ?_) ?_
  · rw [read0, read1]; rfl
  · rw [read2]

/-- The result ends holding the value everywhere. -/
theorem final : (dats m 0 c).arrAt 3 cfg0.N = fun i => value m c (i 0) (i 1) := by
  refine (dats m 0 c).arrAt_eq_of_cover 3 _ (fun t _ => ?_) fun i => ?_
  · rw [Value.flushed3]
    funext j
    rw [View.read_apply]
    refine (block_eq m c t j).trans ?_
    show _ = value m c _ _
    congr 1 <;> apply Fin.ext
    · show 512 * (t.val / 1) + (j 0).val = win0_3.index t 0 * 512 + 1 * (j 0).val; rw [(at3 t).1]; omega
    · show 1024 * (t.val % 1) + (j 1).val = win0_3.index t 1 * 1024 + 1 * (j 1).val; rw [(at3 t).2]; omega
  · have h0 : (i 0 : Nat) < 8192 := (i 0).isLt
    have h1 : (i 1 : Nat) < 1024 := (i 1).isLt
    have ht : 1 * ((i 0 : Nat) / 512) + (i 1 : Nat) / 1024 < cfg0.N := by have := hN; omega
    refine ⟨⟨1 * ((i 0 : Nat) / 512) + (i 1 : Nat) / 1024, ht⟩, flush0_3 _, ?_⟩
    show i ∈ ((View.whole main_v0).slice (win0_3.rect ⟨1 * ((i 0 : Nat) / 512) + (i 1 : Nat) / 1024, ht⟩)).set
    rw [View.set_slice_whole, Rect.mem_set_unit]
    intro b
    match b with
    | ⟨0, _⟩ =>
      show win0_3.index ⟨_, ht⟩ 0 * 512 ≤ (i 0 : Nat) ∧ (i 0 : Nat) < win0_3.index ⟨_, ht⟩ 0 * 512 + 512
      rw [(at3 _).1]; dsimp only; omega
    | ⟨1, _⟩ =>
      show win0_3.index ⟨_, ht⟩ 1 * 1024 ≤ (i 1 : Nat) ∧ (i 1 : Nat) < win0_3.index ⟨_, ht⟩ 1 * 1024 + 1024
      rw [(at3 _).2]; dsimp only; omega

end kernel

/-! ## The claims -/

theorem frame : Cert.quiescent_Out := fun m ρ _ => Cert.Out.Gen.frame m ρ
theorem frame_ideal : Cert.quiescent_OutIdeal := fun m ρ _ => Cert.OutIdeal.Gen.frame m ρ

/-- The reference's run, read at its arguments; it declares no semaphore. -/
theorem frame_ref : Cert.quiescent_OutRefIdeal := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

/-- The reference at a place: the same product. -/
theorem reference (x0 : S8192x1024.Idx → EReal) (x1 : S2x1024x1024.Idx → EReal) (x2 : S8192x1024.Idx → EReal) (p : Fin 8192) (q : Fin 1024) :
    Cert.OutRefIdeal.Read.val_main_v5 (F := Ideal) x0 x1 x2 (ix2 p q)
      = (∑ k : Fin 1024, x0 (ix2 p k) * x1 (ix3 1 k q)) + x2 (ix2 p q) := by
  open Cert.OutRefIdeal.Read in
  pointwise [val_main_v5, val_main_v4, val_main_v3, val_main_v2, val_main_v1, val_main_v0]
  exact add_comm _ _

/-- The two programs end with the same array. -/
theorem algebraic : Cert.algebraic_OutIdeal_OutRefIdeal := by
  intro m ρ m' ρ' hpre hagree
  refine ⟨fun c => (Cert.OutIdeal.Gen.dats (F := Ideal) m 0 c).arrAt 3 Cert.OutIdeal.cfg0.N,
    Cert.OutIdeal.Value.run_blocks m ρ, ?_⟩
  refine (θ_run Cert.OutRefIdeal.defs _ _).mono (fun r h c => ?_) (Cert.OutRefIdeal.Value.run (F := Ideal) m' ρ')
  obtain ⟨g0, g1, g2⟩ := hagree c
  refine ⟨(h c).1.trans ?_, (h c).2⟩
  refine Eq.trans ?_ (final m c).symm
  refine (Cert.OutRefIdeal.Read.val_main_v5_eq _ _ _).trans ?_
  rw [g0, g1, g2]
  funext i
  rw [eq_ix2 i]
  exact reference _ _ _ (i 0) (i 1)

end Cert.Proof.Out

end
-- ==== Proof.RowNorm.lean ====
/-
  The RMS norm of one row of the stream with its scale, on extended reals: the forward calls and their references all compute this
  term, so no condition on the arguments is needed.
-/
module

public import proofs.«01_k».proof.Proof.Reals

@[expose] public section

noncomputable section

namespace Cert.RowNorm

open Idealize.ShloMosaic
open scoped BigOperators

/-- Element `j` of the normed row: `x` over the root of its mean square, times the scale. -/
def normed (x g : Fin 1024 → EReal) (j : Fin 1024) : EReal :=
  x j * Ideal.rsqrt (Ideal.div (∑ k, x k * x k) (Ideal.ofBits .f32 0x44800000#32) + Ideal.ofBits .f32 0x358637BD#32) * g j

end Cert.RowNorm

end
-- ==== Proof.InProjClaims.lean ====
/-
  `in_proj`: the first product of a layer. The stream is normed (an output), multiplied with the layer's weights, and the columns are
  dealt out: queries (scaled), keys and values in twelve blocks of 128, then the gating unit's, then the scan's. Each grid point
  leaves its rows of the four arrays (`block3` … `block6`), which tile them (`final3` … `final6`); the reference computes the same
  terms. The claims hold for all arguments.
-/
module

public import proofs.«01_k».proof.Defs
public import proofs.«01_k».proof.Proof.RowNorm
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import Idealize.ShloMosaic.Lib.Quiescent
public import Idealize.ShloMosaic.Lib.Pointwise
public import Idealize.ShloMosaic.Lib.Pipeline.ReadBack

@[expose] public section

set_option maxRecDepth 16384

noncomputable section

namespace Cert.Proof.InProj

open Cert.InProjIdeal Cert.InProjIdeal.Gen Cert.RowNorm
open Idealize.ShloMosaic Idealize.ShloMosaic.TcCoe Idealize.SL.Sem
open Idealize.ShloMosaic.Pipeline (Dat)
open scoped BigOperators

section kernel

theorem hz : (![0, 0] : Fin 2 → Nat) = fun _ => 0 := funext fun a => by fin_cases a <;> rfl
theorem hz3 : (![0, 0, 0] : Fin 3 → Nat) = fun _ => 0 := funext fun a => by fin_cases a <;> rfl

/-- The product's element at row `x`, column weights `w`. -/
def prod (x g : Fin 1024 → EReal) (w : Fin 1024 → EReal) : EReal := ∑ k, normed x g k * w k

/-- The column of the product that is lane `l` of block `j`. -/
abbrev lane (j : Fin 12) (l : Fin 128) : Fin 2304 := ⟨128 * j.val + l.val, by omega⟩

/-- A point's first twelve blocks of columns: four scaled, eight as they are. -/
def stored (Z : S512x2304.Idx → EReal) : Vec Ideal S12x512x128 .f32 := fun y =>
  if (y 0).val < 4 then Z (ix2 (y 1) (lane (y 0) (y 2))) * Ideal.ofBits .f32 0x3E000000#32 else Z (ix2 (y 1) (lane (y 0) (y 2)))

theorem stored_scaled (Z : S512x2304.Idx → EReal) (j : Fin 12) (p : Fin 512) (l : Fin 128) (h : j.val < 4) :
    stored Z (ix3 j p l) = Z (ix2 p (lane j l)) * Ideal.ofBits .f32 0x3E000000#32 := if_pos h
theorem stored_plain (Z : S512x2304.Idx → EReal) (j : Fin 12) (p : Fin 512) (l : Fin 128) (h : ¬ j.val < 4) :
    stored Z (ix3 j p l) = Z (ix2 p (lane j l)) := if_neg h

theorem eq_ix3_one (x : S1x512x128.Idx) : ∃ (p : Fin 512) (l : Fin 128), x = ix3 (0 : Fin 1) p l := by
  refine ⟨x 1, x 2, ?_⟩
  funext b
  match b with
  | ⟨0, _⟩ => exact Subsingleton.elim (α := Fin 1) _ _
  | ⟨1, _⟩ => rfl
  | ⟨2, _⟩ => rfl

section pieces

variable (x0 : Vec Ideal S512x1024 .f32) (x1 : Vec Ideal S1x1024 .f32) (x2 : Vec Ideal S1x1024x2304 .bf16)

/-- The product of a point, at a place. -/
theorem prod_eq (p : Fin 512) (q : Fin 2304) : k0_pay20 (F := Ideal) x0 x1 x2 (ix2 p q)
    = prod (fun k => x0 (ix2 p k)) (fun k => x1 (ix2 0 k)) (fun k => x2 (ix3 0 k q)) := by
  unfold k0_pay20 prod normed
  simp only [View.ld_unit_zero (S := S512x1024) hz, View.ld_unit_zero (S := S1x1024) hz, View.ld_unit_zero (S := S1x1024x2304) hz3]
  pointwise [k0_pay7, k0_pay6]

theorem piece0 (x : S1x512x128.Idx) :
    k0_pay8 (View.ld x0 r0_0) (View.ld x1 r0_1) (View.ld x2 r0_2) x = stored (k0_pay20 x0 x1 x2) (r0_3.emb x) := by
  obtain ⟨p, l, rfl⟩ := eq_ix3_one x
  have h : r0_3.emb (ix3 (0 : Fin 1) p l) = ix3 (0 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_scaled _ _ _ _ (by decide)]
  pointwise [k0_pay8]
  refine congrArg (fun i : Fin 2304 => k0_pay20 x0 x1 x2 (ix2 p i) * Ideal.ofBits .f32 0x3E000000#32) (Fin.ext ?_)
  show l.val = 128 * 0 + l.val; omega

theorem piece1 (x : S1x512x128.Idx) :
    k0_pay9 (View.ld x0 r0_0) (View.ld x1 r0_1) (View.ld x2 r0_2) x = stored (k0_pay20 x0 x1 x2) (r0_4.emb x) := by
  obtain ⟨p, l, rfl⟩ := eq_ix3_one x
  have h : r0_4.emb (ix3 (0 : Fin 1) p l) = ix3 (1 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_scaled _ _ _ _ (by decide)]
  pointwise [k0_pay9]
  rfl

theorem piece2 (x : S1x512x128.Idx) :
    k0_pay12 (k0_pay10 (View.ld x0 r0_0) (View.ld x1 r0_1) (View.ld x2 r0_2)) (k0_pay11 (F := Ideal)) x = stored (k0_pay20 x0 x1 x2) (r0_5.emb x) := by
  obtain ⟨p, l, rfl⟩ := eq_ix3_one x
  have h : r0_5.emb (ix3 (0 : Fin 1) p l) = ix3 (2 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_scaled _ _ _ _ (by decide)]
  pointwise [k0_pay12, k0_pay10, k0_pay11]
  rfl

theorem piece3 (x : S1x512x128.Idx) :
    k0_pay13 (k0_pay20 x0 x1 x2) x = stored (k0_pay20 x0 x1 x2) (r0_6.emb x) := by
  obtain ⟨p, l, rfl⟩ := eq_ix3_one x
  have h : r0_6.emb (ix3 (0 : Fin 1) p l) = ix3 (3 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_scaled _ _ _ _ (by decide)]
  pointwise [k0_pay13]
  rfl

theorem piece4 (x : S1x512x128.Idx) :
    k0_pay14 (k0_pay20 x0 x1 x2) x = stored (k0_pay20 x0 x1 x2) (r0_7.emb x) := by
  obtain ⟨p, l, rfl⟩ := eq_ix3_one x
  have h : r0_7.emb (ix3 (0 : Fin 1) p l) = ix3 (4 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay14]
  rfl

theorem piece5 (x : S1x512x128.Idx) :
    k0_pay15 (k0_pay20 x0 x1 x2) x = stored (k0_pay20 x0 x1 x2) (r0_8.emb x) := by
  obtain ⟨p, l, rfl⟩ := eq_ix3_one x
  have h : r0_8.emb (ix3 (0 : Fin 1) p l) = ix3 (5 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay15]
  rfl

theorem piece6 (x : S1x512x128.Idx) :
    k0_pay16 (k0_pay20 x0 x1 x2) x = stored (k0_pay20 x0 x1 x2) (r0_9.emb x) := by
  obtain ⟨p, l, rfl⟩ := eq_ix3_one x
  have h : r0_9.emb (ix3 (0 : Fin 1) p l) = ix3 (6 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay16]
  rfl

theorem piece7 (x : S1x512x128.Idx) :
    k0_pay17 (k0_pay20 x0 x1 x2) x = stored (k0_pay20 x0 x1 x2) (r0_10.emb x) := by
  obtain ⟨p, l, rfl⟩ := eq_ix3_one x
  have h : r0_10.emb (ix3 (0 : Fin 1) p l) = ix3 (7 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay17]
  rfl

theorem piece8 (x : S1x512x128.Idx) :
    k0_pay18 (k0_pay20 x0 x1 x2) x = stored (k0_pay20 x0 x1 x2) (r0_11.emb x) := by
  obtain ⟨p, l, rfl⟩ := eq_ix3_one x
  have h : r0_11.emb (ix3 (0 : Fin 1) p l) = ix3 (8 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay18]
  rfl

theorem piece9 (x : S1x512x128.Idx) :
    k0_pay1 (k0_pay19 (k0_pay20 x0 x1 x2)) x = stored (k0_pay20 x0 x1 x2) (r0_12.emb x) := by
  obtain ⟨p, l, rfl⟩ := eq_ix3_one x
  have h : r0_12.emb (ix3 (0 : Fin 1) p l) = ix3 (9 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay1, k0_pay19]
  rfl

theorem piece10 (x : S1x512x128.Idx) :
    k0_pay2 (k0_pay20 x0 x1 x2) x = stored (k0_pay20 x0 x1 x2) (r0_13.emb x) := by
  obtain ⟨p, l, rfl⟩ := eq_ix3_one x
  have h : r0_13.emb (ix3 (0 : Fin 1) p l) = ix3 (10 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay2]
  rfl

theorem piece11 (x : S1x512x128.Idx) :
    k0_pay3 (k0_pay20 x0 x1 x2) x = stored (k0_pay20 x0 x1 x2) (r0_14.emb x) := by
  obtain ⟨p, l, rfl⟩ := eq_ix3_one x
  have h : r0_14.emb (ix3 (0 : Fin 1) p l) = ix3 (11 : Fin 12) p l := by
    funext b; apply Fin.ext
    match b with
    | ⟨0, _⟩ => rfl
    | ⟨1, _⟩ => show 0 + 1 * p.val = p.val; omega
    | ⟨2, _⟩ => show 0 + 1 * l.val = l.val; omega
  rw [h, stored_plain _ _ _ _ (by decide)]
  pointwise [k0_pay3]
  rfl

/-- The twelve stores leave the array of blocks. -/
theorem out4 : out0_4 (F := Ideal) x0 x1 x2 = stored (k0_pay20 x0 x1 x2) := by
  funext y
  unfold out0_4
  refine View.canon_append_of_piecesOf (stored (k0_pay20 x0 x1 x2)) [] [_, _, _, _, _, _, _, _, _, _, _, _] ?_ y
    (cover0_4 _ _ _ _ _ _ _ _ _ _ _ _ y)
  exact ⟨piece11 x0 x1 x2, piece10 x0 x1 x2, piece9 x0 x1 x2, piece8 x0 x1 x2, piece7 x0 x1 x2, piece6 x0 x1 x2, piece5 x0 x1 x2, piece4 x0 x1 x2, piece3 x0 x1 x2, piece2 x0 x1 x2, piece1 x0 x1 x2, piece0 x0 x1 x2, trivial⟩

theorem block4 (j : Fin 12) (p : Fin 512) (l : Fin 128) : out0_4 (F := Ideal) x0 x1 x2 (ix3 j p l)
    = if j.val < 4 then
        prod (fun k => x0 (ix2 p k)) (fun k => x1 (ix2 0 k)) (fun k => x2 (ix3 0 k (lane j l))) * Ideal.ofBits .f32 0x3E000000#32
      else prod (fun k => x0 (ix2 p k)) (fun k => x1 (ix2 0 k)) (fun k => x2 (ix3 0 k (lane j l))) := by
  rw [out4, ← prod_eq]; rfl

theorem block3 (p : Fin 512) (q : Fin 1024) :
    out0_3 (F := Ideal) x0 x1 x2 (ix2 p q) = normed (fun k => x0 (ix2 p k)) (fun k => x1 (ix2 0 k)) q := by
  unfold out0_3 normed
  rw [View.canon_unit_zero hz]
  simp only [View.ld_unit_zero (S := S512x1024) hz, View.ld_unit_zero (S := S1x1024) hz]
  pointwise [k0_pay6]

theorem block5 (p : Fin 512) (q : Fin 512) : out0_5 (F := Ideal) x0 x1 x2 (ix2 p q)
    = prod (fun k => x0 (ix2 p k)) (fun k => x1 (ix2 0 k)) (fun k => x2 (ix3 0 k ⟨1536 + q.val, by omega⟩)) := by
  rw [← prod_eq]
  unfold out0_5
  rw [View.canon_unit_zero hz]
  pointwise [k0_pay4]

theorem block6 (p : Fin 512) (q : Fin 256) : out0_6 (F := Ideal) x0 x1 x2 (ix2 p q)
    = prod (fun k => x0 (ix2 p k)) (fun k => x1 (ix2 0 k)) (fun k => x2 (ix3 0 k ⟨2048 + q.val, by omega⟩)) := by
  rw [← prod_eq]
  unfold out0_6
  rw [View.canon_unit_zero hz]
  pointwise [k0_pay5]

end pieces

variable (m : (ℓ : Loc nD τ sig) → Buf (Elt Ideal) ℓ) (c : Dev nD)

theorem hN : cfg0.N = 16 := N_0

/-- The arguments. -/
abbrev h (i : S8192x1024.Idx) : EReal := m ((c : Thread nD τ).loc main_arg0) i
abbrev g (i : S1024.Idx) : EReal := m ((c : Thread nD τ).loc main_arg1) i
abbrev w (i : S2x1024x2304.Idx) : EReal := m ((c : Thread nD τ).loc main_arg2) i

/-- The row of the arrays that is row `p` of the blocks at point `t`. -/
abbrev row (t : Fin cfg0.N) (p : Fin 512) : Fin 8192 := ⟨512 * t.val + p.val, by have := t.isLt.trans_eq hN; omega⟩

/-- Which block each window shows at grid point `t`. -/
theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 1 ∧ win0_2.index t 1 = 0 ∧ win0_2.index t 2 = 0 :=
  (by decide +kernel : ∀ t : Fin grid0.N, win0_2.index t 0 = 1 ∧ win0_2.index t 1 = 0 ∧ win0_2.index t 2 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)

theorem read0 (t : Fin cfg0.N) (i : S512x1024.Idx) : iblk m c 0 t i = h m c (ix2 (row t (i 0)) (i 1)) := by
  unfold h
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * t.val + (i 0).val; rw [(at0 t).1]; omega
  | ⟨1, _⟩ => show win0_0.index t 1 * 1024 + 1 * (i 1).val = (i 1).val; rw [(at0 t).2]; omega

theorem V_v0 : V m c main_v0 = shapeCast _ (m ((c : Thread nD τ).loc main_arg1)) shapeCasts_S1024_S1x1024 := by
  unfold_abbrev_sides; after_results; rfl

theorem read1 (t : Fin cfg0.N) (i : S1x1024.Idx) : iblk m c 1 t i = g m c (ix1 (i 1)) := by
  unfold iblk; rw [View.read_apply]
  have h0 : (i 0).val = 0 := by have : (i 0).val < 1 := (i 0).isLt; omega
  show V m c main_v0 _ = _
  rw [V_v0]
  refine shapeCast_apply _ shapeCasts_S1024_S1x1024 _ (ix1 (i 1)) ?_
  rewrite [Shape.rowMajor_val_one, Shape.rowMajor_val_two]
  show (i 1).val = (win0_1.index t 0 * 1 + 1 * (i 0).val) * 1024 + (win0_1.index t 1 * 1024 + 1 * (i 1).val)
  rw [(at1 t).1, (at1 t).2]; omega

theorem read2 (t : Fin cfg0.N) (i : S1x1024x2304.Idx) : iblk m c 2 t i = w m c (ix3 1 (i 1) (i 2)) := by
  unfold w
  rw [← V_main_arg2 m c]; unfold iblk; rw [View.read_apply]
  show V m c main_arg2 _ = V m c main_arg2 _
  congr 1; funext b; apply Fin.ext
  have h0 : (i 0).val = 0 := by have : (i 0).val < 1 := (i 0).isLt; omega
  match b with
  | ⟨0, _⟩ => show win0_2.index t 0 * 1 + 1 * (i 0).val = 1; rw [(at2 t).1, h0]
  | ⟨1, _⟩ => show win0_2.index t 1 * 1024 + 1 * (i 1).val = (i 1).val; rw [(at2 t).2.1]; omega
  | ⟨2, _⟩ => show win0_2.index t 2 * 2304 + 1 * (i 2).val = (i 2).val; rw [(at2 t).2.2]; omega

/-- The normed rows, at a place. -/
def value3 (p : Fin 8192) (q : Fin 1024) : EReal := normed (fun k => h m c (ix2 p k)) (fun k => g m c (ix1 k)) q

theorem block_eq3 (t : Fin cfg0.N) (i : S512x1024.Idx) :
    out0_3 (F := Ideal) (iblk m c 0 t) (iblk m c 1 t) (iblk m c 2 t) i = value3 m c (row t (i 0)) (i 1) := by
  rw [eq_ix2 i]
  refine (block3 _ _ _ (i 0) (i 1)).trans ?_
  unfold value3
  congr 1
  · exact funext fun k => read0 m c t _
  · exact funext fun k => read1 m c t _

theorem final3 : (dats m 0 c).arrAt 3 cfg0.N = fun i => value3 m c (i 0) (i 1) := by
  refine (dats m 0 c).arrAt_eq_of_cover 3 _ (fun t _ => ?_) fun i => ?_
  · rw [Value.flushed3]
    funext j
    rw [View.read_apply]
    refine (block_eq3 m c t j).trans ?_
    show _ = value3 m c _ _
    congr 1 <;> apply Fin.ext
    · show 512 * t.val + (j 0).val = win0_3.index t 0 * 512 + 1 * (j 0).val; rw [(at3 t).1]; omega
    · show (j 1).val = win0_3.index t 1 * 1024 + 1 * (j 1).val; rw [(at3 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_3 _, ?_⟩
    show i ∈ ((View.whole main_v1_0).slice (win0_3.rect ⟨(i 0 : Nat) / 512, ht⟩)).set
    rw [View.set_slice_whole, Rect.mem_set_unit]
    intro b
    match b with
    | ⟨0, _⟩ =>
      show win0_3.index ⟨_, ht⟩ 0 * 512 ≤ (i 0 : Nat) ∧ (i 0 : Nat) < win0_3.index ⟨_, ht⟩ 0 * 512 + 512
      rw [(at3 _).1]; dsimp only; omega
    | ⟨1, _⟩ =>
      show win0_3.index ⟨_, ht⟩ 1 * 1024 ≤ (i 1 : Nat) ∧ (i 1 : Nat) < win0_3.index ⟨_, ht⟩ 1 * 1024 + 1024
      rw [(at3 _).2]; omega

/-- Queries, keys and values, at a lane of a block. -/
def value4 (j : Fin 12) (p : Fin 8192) (q : Fin 128) : EReal :=
  if j.val < 4 then prod (fun k => h m c (ix2 p k)) (fun k => g m c (ix1 k)) (fun k => w m c (ix3 1 k (lane j q))) * Ideal.ofBits .f32 0x3E000000#32
  else prod (fun k => h m c (ix2 p k)) (fun k => g m c (ix1 k)) (fun k => w m c (ix3 1 k (lane j q)))

theorem block_eq4 (t : Fin cfg0.N) (i : S12x512x128.Idx) :
    out0_4 (F := Ideal) (iblk m c 0 t) (iblk m c 1 t) (iblk m c 2 t) i = value4 m c (i 0) (row t (i 1)) (i 2) := by
  rw [eq_ix3 i]
  refine (block4 _ _ _ (i 0) (i 1) (i 2)).trans ?_
  unfold value4
  have e : prod (fun k => iblk m c 0 t (ix2 (i 1) k)) (fun k => iblk m c 1 t (ix2 0 k)) (fun k => iblk m c 2 t (ix3 0 k (lane (i 0) (i 2))))
      = prod (fun k => h m c (ix2 (row t (i 1)) k)) (fun k => g m c (ix1 k)) (fun k => w m c (ix3 1 k (lane (i 0) (i 2)))) := by
    congr 1
    · exact funext fun k => read0 m c t _
    · exact funext fun k => read1 m c t _
    · exact funext fun k => read2 m c t _
  exact congrArg (fun z => if (i 0).val < 4 then z * Ideal.ofBits .f32 0x3E000000#32 else z) e

theorem final4 : (dats m 0 c).arrAt 4 cfg0.N = fun i => value4 m c (i 0) (i 1) (i 2) := by
  refine (dats m 0 c).arrAt_eq_of_cover 4 _ (fun t _ => ?_) fun i => ?_
  · rw [Value.flushed4]
    funext j
    rw [View.read_apply]
    refine (block_eq4 m c t j).trans ?_
    show _ = value4 m c _ _ _
    congr 1 <;> apply Fin.ext
    · show (j 0).val = win0_4.index t 0 * 12 + 1 * (j 0).val; rw [(at4 t).1]; omega
    · show 512 * t.val + (j 1).val = win0_4.index t 1 * 512 + 1 * (j 1).val; rw [(at4 t).2.1]; omega
    · show (j 2).val = win0_4.index t 2 * 128 + 1 * (j 2).val; rw [(at4 t).2.2]; omega
  · have h0 : (i 0 : Nat) < 12 := (i 0).isLt
    have h1 : (i 1 : Nat) < 8192 := (i 1).isLt
    have h2 : (i 2 : Nat) < 128 := (i 2).isLt
    have ht : (i 1 : Nat) / 512 < cfg0.N := by have := hN; omega
    refine ⟨⟨(i 1 : Nat) / 512, ht⟩, flush0_4 _, ?_⟩
    show i ∈ ((View.whole main_v1_1).slice (win0_4.rect ⟨(i 1 : Nat) / 512, ht⟩)).set
    rw [View.set_slice_whole, Rect.mem_set_unit]
    intro b
    match b with
    | ⟨0, _⟩ =>
      show win0_4.index ⟨_, ht⟩ 0 * 12 ≤ (i 0 : Nat) ∧ (i 0 : Nat) < win0_4.index ⟨_, ht⟩ 0 * 12 + 12
      rw [(at4 _).1]; omega
    | ⟨1, _⟩ =>
      show win0_4.index ⟨_, ht⟩ 1 * 512 ≤ (i 1 : Nat) ∧ (i 1 : Nat) < win0_4.index ⟨_, ht⟩ 1 * 512 + 512
      rw [(at4 _).2.1]; dsimp only; omega
    | ⟨2, _⟩ =>
      show win0_4.index ⟨_, ht⟩ 2 * 128 ≤ (i 2 : Nat) ∧ (i 2 : Nat) < win0_4.index ⟨_, ht⟩ 2 * 128 + 128
      rw [(at4 _).2.2]; omega

/-- The gating unit's columns, at a place. -/
def value5 (p : Fin 8192) (q : Fin 512) : EReal := prod (fun k => h m c (ix2 p k)) (fun k => g m c (ix1 k)) (fun k => w m c (ix3 1 k ⟨1536 + q.val, by omega⟩))

theorem block_eq5 (t : Fin cfg0.N) (i : S512x512.Idx) :
    out0_5 (F := Ideal) (iblk m c 0 t) (iblk m c 1 t) (iblk m c 2 t) i = value5 m c (row t (i 0)) (i 1) := by
  rw [eq_ix2 i]
  refine (block5 _ _ _ (i 0) (i 1)).trans ?_
  unfold value5
  congr 1
  · exact funext fun k => read0 m c t _
  · exact funext fun k => read1 m c t _
  · exact funext fun k => read2 m c t _

theorem final5 : (dats m 0 c).arrAt 5 cfg0.N = fun i => value5 m c (i 0) (i 1) := by
  refine (dats m 0 c).arrAt_eq_of_cover 5 _ (fun t _ => ?_) fun i => ?_
  · rw [Value.flushed5]
    funext j
    rw [View.read_apply]
    refine (block_eq5 m c t j).trans ?_
    show _ = value5 m c _ _
    congr 1 <;> apply Fin.ext
    · show 512 * t.val + (j 0).val = win0_5.index t 0 * 512 + 1 * (j 0).val; rw [(at5 t).1]; omega
    · show (j 1).val = win0_5.index t 1 * 512 + 1 * (j 1).val; rw [(at5 t).2]; omega
  · have h0 : (i 0 : Nat) < 8192 := (i 0).isLt
    have h1 : (i 1 : Nat) < 512 := (i 1).isLt
    have ht : (i 0 : Nat) / 512 < cfg0.N := by have := hN; omega
    refine ⟨⟨(i 0 : Nat) / 512, ht⟩, flush0_5 _, ?_⟩
    show i ∈ ((View.whole main_v1_2).slice (win0_5.rect ⟨(i 0 : Nat) / 512, ht⟩)).set
    rw [View.set_slice_whole, Rect.mem_set_unit]
    intro b
    match b with
    | ⟨0, _⟩ =>
      show win0_5.index ⟨_, ht⟩ 0 * 512 ≤ (i 0 : Nat) ∧ (i 0 : Nat) < win0_5.index ⟨_, ht⟩ 0 * 512 + 512
      rw [(at5 _).1]; dsimp only; omega
    | ⟨1, _⟩ =>
      show win0_5.index ⟨_, ht⟩ 1 * 512 ≤ (i 1 : Nat) ∧ (i 1 : Nat) < win0_5.index ⟨_, ht⟩ 1 * 512 + 512
      rw [(at5 _).2]; omega

/-- The scan's columns, at a place. -/
def value6 (p : Fin 8192) (q : Fin 256) : EReal := prod (fun k => h m c (ix2 p k)) (fun k => g m c (ix1 k)) (fun k => w m c (ix3 1 k ⟨2048 + q.val, by omega⟩))

theorem block_eq6 (t : Fin cfg0.N) (i : S512x256.Idx) :
    out0_6 (F := Ideal) (iblk m c 0 t) (iblk m c 1 t) (iblk m c 2 t) i = value6 m c (row t (i 0)) (i 1) := by
  rw [eq_ix2 i]
  refine (block6 _ _ _ (i 0) (i 1)).trans ?_
  unfold value6
  congr 1
  · exact funext fun k => read0 m c t _
  · exact funext fun k => read1 m c t _
  · exact funext fun k => read2 m c t _

theorem final6 : (dats m 0 c).arrAt 6 cfg0.N = fun i => value6 m c (i 0) (i 1) := by
  refine (dats m 0 c).arrAt_eq_of_cover 6 _ (fun t _ => ?_) fun i => ?_
  · rw [Value.flushed6]
    funext j
    rw [View.read_apply]
    refine (block_eq6 m c t j).trans ?_
    show _ = value6 m c _ _
    congr 1 <;> apply Fin.ext
    · show 512 * t.val + (j 0).val = win0_6.index t 0 * 512 + 1 * (j 0).val; rw [(at6 t).1]; omega
    · show (j 1).val = win0_6.index t 1 * 256 + 1 * (j 1).val; rw [(at6 t).2]; omega
  · have h0 : (i 0 : Nat) < 8192 := (i 0).isLt
    have h1 : (i 1 : Nat) < 256 := (i 1).isLt
    have ht : (i 0 : Nat) / 512 < cfg0.N := by have := hN; omega
    refine ⟨⟨(i 0 : Nat) / 512, ht⟩, flush0_6 _, ?_⟩
    show i ∈ ((View.whole main_v1_3).slice (win0_6.rect ⟨(i 0 : Nat) / 512, ht⟩)).set
    rw [View.set_slice_whole, Rect.mem_set_unit]
    intro b
    match b with
    | ⟨0, _⟩ =>
      show win0_6.index ⟨_, ht⟩ 0 * 512 ≤ (i 0 : Nat) ∧ (i 0 : Nat) < win0_6.index ⟨_, ht⟩ 0 * 512 + 512
      rw [(at6 _).1]; dsimp only; omega
    | ⟨1, _⟩ =>
      show win0_6.index ⟨_, ht⟩ 1 * 256 ≤ (i 1 : Nat) ∧ (i 1 : Nat) < win0_6.index ⟨_, ht⟩ 1 * 256 + 256
      rw [(at6 _).2]; omega

end kernel

/-! ## The claims -/

theorem frame : Cert.quiescent_InProj := fun m ρ _ => Cert.InProj.Gen.frame m ρ
theorem frame_ideal : Cert.quiescent_InProjIdeal := fun m ρ _ => Cert.InProjIdeal.Gen.frame m ρ

/-- The reference's run, read at its arguments; it declares no semaphore. -/
theorem frame_ref : Cert.quiescent_InProjRefIdeal := fun m ρ _ =>
  (θ_run Cert.InProjRefIdeal.defs _ _).mono
    (fun r h => ⟨fun c => (h c).2.2.2.2, Idealize.ShloMosaic.sem_eq_zero_of_no_sems (by decide) r.2⟩)
    (Cert.InProjRefIdeal.Value.run (F := Ideal) m ρ)

/-- The reference at a place. -/
theorem norm_ref (x0 : S8192x1024.Idx → EReal) (x1 : S1024.Idx → EReal) (p : Fin 8192) (q : Fin 1024) :
    Cert.InProjRefIdeal.Read.val_main_v12 (F := Ideal) x0 x1 (ix2 p q)
      = normed (fun k => x0 (ix2 p k)) (fun k => x1 (ix1 k)) q := by
  unfold normed
  open Cert.InProjRefIdeal.Read in
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem prod_ref (x0 : S8192x1024.Idx → EReal) (x1 : S1024.Idx → EReal) (x2 : S2x1024x2304.Idx → EReal) (p : Fin 8192) (q : Fin 2304) :
    Cert.InProjRefIdeal.Read.val_main_v16 (F := Ideal) x0 x1 x2 (ix2 p q)
      = prod (fun k => x0 (ix2 p k)) (fun k => x1 (ix1 k)) (fun k => x2 (ix3 1 k q)) := by
  unfold prod
  open Cert.InProjRefIdeal.Read in
  pointwise [val_main_v16, val_main_v15, val_main_v14, val_main_v13]
  simp only [norm_ref]

theorem reference3 (x0 : S8192x1024.Idx → EReal) (x1 : S1024.Idx → EReal) (p : Fin 8192) (q : Fin 1024) :
    Cert.InProjRefIdeal.Read.val_main_v24 (F := Ideal) x0 x1 (ix2 p q)
      = normed (fun k => x0 (ix2 p k)) (fun k => x1 (ix1 k)) q := by
  open Cert.InProjRefIdeal.Read in
  pointwise [val_main_v24]
  exact norm_ref _ _ _ _

/-- The first 1536 columns, the first 512 of them scaled. -/
theorem cols_ref (x0 : S8192x1024.Idx → EReal) (x1 : S1024.Idx → EReal) (x2 : S2x1024x2304.Idx → EReal) (p : Fin 8192) (q : Fin 1536) :
    Cert.InProjRefIdeal.Read.val_main_v21 (F := Ideal) x0 x1 x2 (ix2 p q)
      = if q.val < 512 then prod (fun k => x0 (ix2 p k)) (fun k => x1 (ix1 k)) (fun k => x2 (ix3 1 k ⟨q.val, by omega⟩)) * Ideal.ofBits .f32 0x3E000000#32
        else prod (fun k => x0 (ix2 p k)) (fun k => x1 (ix1 k)) (fun k => x2 (ix3 1 k ⟨q.val, by omega⟩)) := by
  open Cert.InProjRefIdeal.Read in
  pointwise [val_main_v21, val_main_v20, val_main_v19, val_main_v18, val_main_v17, val_main_cst_2]
  split_ifs with hq
  · rw [prod_ref]
  · rw [prod_ref]
    congr 3; funext k; congr 2; apply Fin.ext
    show 512 + (q.val - 512) = q.val; omega
  · exact absurd rfl ‹_›

theorem reference4 (x0 : S8192x1024.Idx → EReal) (x1 : S1024.Idx → EReal) (x2 : S2x1024x2304.Idx → EReal) (j : Fin 12) (p : Fin 8192) (l : Fin 128) :
    Cert.InProjRefIdeal.Read.val_main_v23 (F := Ideal) x0 x1 x2 (ix3 j p l)
      = if j.val < 4 then prod (fun k => x0 (ix2 p k)) (fun k => x1 (ix1 k)) (fun k => x2 (ix3 1 k (lane j l))) * Ideal.ofBits .f32 0x3E000000#32
        else prod (fun k => x0 (ix2 p k)) (fun k => x1 (ix1 k)) (fun k => x2 (ix3 1 k (lane j l))) := by
  open Cert.InProjRefIdeal.Read in
  pointwise [val_main_v23]
  unfold Cert.InProjRefIdeal.Read.val_main_v22
  rw [shapeCast_apply _ Cert.InProjRefIdeal.Gen.shapeCasts_S8192x1536_S8192x12x128 _ (ix2 p ⟨128 * j.val + l.val, by omega⟩) (by
    rewrite [Shape.rowMajor_val_two, Shape.rowMajor_val_three]
    show p.val * 1536 + (128 * j.val + l.val) = (p.val * 12 + j.val) * 128 + l.val
    omega)]
  rw [cols_ref]
  have : (128 * j.val + l.val < 512) ↔ j.val < 4 := by omega
  simp only [this]

theorem reference5 (x0 : S8192x1024.Idx → EReal) (x1 : S1024.Idx → EReal) (x2 : S2x1024x2304.Idx → EReal) (p : Fin 8192) (q : Fin 512) :
    Cert.InProjRefIdeal.Read.val_main_v25 (F := Ideal) x0 x1 x2 (ix2 p q)
      = prod (fun k => x0 (ix2 p k)) (fun k => x1 (ix1 k)) (fun k => x2 (ix3 1 k ⟨1536 + q.val, by omega⟩)) := by
  open Cert.InProjRefIdeal.Read in
  pointwise [val_main_v25]
  exact prod_ref _ _ _ _ _

theorem reference6 (x0 : S8192x1024.Idx → EReal) (x1 : S1024.Idx → EReal) (x2 : S2x1024x2304.Idx → EReal) (p : Fin 8192) (q : Fin 256) :
    Cert.InProjRefIdeal.Read.val_main_v26 (F := Ideal) x0 x1 x2 (ix2 p q)
      = prod (fun k => x0 (ix2 p k)) (fun k => x1 (ix1 k)) (fun k => x2 (ix3 1 k ⟨2048 + q.val, by omega⟩)) := by
  open Cert.InProjRefIdeal.Read in
  pointwise [val_main_v26]
  exact prod_ref _ _ _ _ _

/-- The two programs end with the same arrays. -/
theorem algebraic : Cert.algebraic_InProjIdeal_InProjRefIdeal := by
  intro m ρ m' ρ' hpre hagree
  refine ⟨fun c => (Cert.InProjIdeal.Gen.dats (F := Ideal) m 0 c).arrAt 3 Cert.InProjIdeal.cfg0.N, fun c => (Cert.InProjIdeal.Gen.dats (F := Ideal) m 0 c).arrAt 4 Cert.InProjIdeal.cfg0.N, fun c => (Cert.InProjIdeal.Gen.dats (F := Ideal) m 0 c).arrAt 5 Cert.InProjIdeal.cfg0.N, fun c => (Cert.InProjIdeal.Gen.dats (F := Ideal) m 0 c).arrAt 6 Cert.InProjIdeal.cfg0.N,
    Cert.InProjIdeal.Value.run_blocks m ρ, ?_⟩
  refine (θ_run Cert.InProjRefIdeal.defs _ _).mono (fun r h c => ?_) (Cert.InProjRefIdeal.Value.run (F := Ideal) m' ρ')
  obtain ⟨g0, g1, g2⟩ := hagree c
  refine ⟨(h c).1.trans ?_, (h c).2.1.trans ?_, (h c).2.2.1.trans ?_, (h c).2.2.2.1.trans ?_, (h c).2.2.2.2⟩
  · refine Eq.trans ?_ (final3 m c).symm
    refine (Cert.InProjRefIdeal.Read.val_main_v24_eq _ _).trans ?_
    rw [g0, g1]
    funext i
    rw [eq_ix2 i]
    exact reference3 _ _ (i 0) (i 1)
  · refine Eq.trans ?_ (final4 m c).symm
    refine (Cert.InProjRefIdeal.Read.val_main_v23_eq _ _ _).trans ?_
    rw [g0, g1, g2]
    funext i
    rw [eq_ix3 i]
    exact reference4 _ _ _ (i 0) (i 1) (i 2)
  · refine Eq.trans ?_ (final5 m c).symm
    refine (Cert.InProjRefIdeal.Read.val_main_v25_eq _ _ _).trans ?_
    rw [g0, g1, g2]
    funext i
    rw [eq_ix2 i]
    exact reference5 _ _ _ (i 0) (i 1)
  · refine Eq.trans ?_ (final6 m c).symm
    refine (Cert.InProjRefIdeal.Read.val_main_v26_eq _ _ _).trans ?_
    rw [g0, g1, g2]
    funext i
    rw [eq_ix2 i]
    exact reference6 _ _ _ (i 0) (i 1)

end Cert.Proof.InProj

end
-- ==== Proof.PleFwdClaims.lean ====
/-
  `ple_fwd`: the per-layer embedding, added to the stream: the normed rows are an output, and their product with the gate's weights goes
  through the logistic and multiplies the projection of the embedding. Each grid point leaves its rows (`block5`, `block6`), which
  tile the arrays (`final5`, `final6`); the reference computes the same terms. The claims hold for all arguments.
-/
module

public import proofs.«01_k».proof.Defs
public import proofs.«01_k».proof.Proof.RowNorm
public import proofs.«01_k».proof.Proof.Gen.PleFwd.Frame
public import proofs.«01_k».proof.Proof.Gen.PleFwdIdeal.Value
public import proofs.«01_k».proof.Proof.Gen.PleFwdRefIdeal.Run
public import proofs.«01_k».proof.Proof.Gen.PleFwdRefIdeal.Read
public import Idealize.ShloMosaic.Lib.Quiescent
public import Idealize.ShloMosaic.Lib.Pointwise

@[expose] public section

set_option maxRecDepth 16384

noncomputable section

namespace Cert.Proof.PleFwd

open Cert.PleFwdIdeal Cert.PleFwdIdeal.Gen Cert.RowNorm
open Idealize.ShloMosaic Idealize.ShloMosaic.TcCoe Idealize.SL.Sem
open Idealize.ShloMosaic.Pipeline (Dat)
open scoped BigOperators

section kernel

theorem hz : (![0, 0] : Fin 2 → Nat) = fun _ => 0 := funext fun a => by fin_cases a <;> rfl
theorem hz3 : (![0, 0, 0] : Fin 3 → Nat) = fun _ => 0 := funext fun a => by fin_cases a <;> rfl

/-- The stream `x j` with the gated projection added. -/
def added (x g : Fin 1024 → EReal) (p : Fin 256 → EReal) (w : Fin 1024 → EReal) (v : Fin 256 → EReal) (s : EReal) : EReal :=
  s + Ideal.logistic (∑ k, normed x g k * w k) * ∑ k, p k * v k

theorem block6 (x0 : Vec Ideal S512x1024 .f32) (x1 : Vec Ideal S1x1024 .f32) (x2 : Vec Ideal S512x256 .f32)
    (x3 : Vec Ideal S1x1024x1024 .bf16) (x4 : Vec Ideal S1x256x1024 .bf16) (p : Fin 512) (q : Fin 1024) :
    out0_6 (F := Ideal) x0 x1 x2 x3 x4 (ix2 p q) = normed (fun k => x0 (ix2 p k)) (fun k => x1 (ix2 0 k)) q := by
  unfold out0_6 normed
  rw [View.canon_unit_zero hz]
  simp only [View.ld_unit_zero (S := S512x1024) hz, View.ld_unit_zero (S := S1x1024) hz]
  pointwise [k0_pay1]

theorem block5 (x0 : Vec Ideal S512x1024 .f32) (x1 : Vec Ideal S1x1024 .f32) (x2 : Vec Ideal S512x256 .f32)
    (x3 : Vec Ideal S1x1024x1024 .bf16) (x4 : Vec Ideal S1x256x1024 .bf16) (p : Fin 512) (q : Fin 1024) :
    out0_5 (F := Ideal) x0 x1 x2 x3 x4 (ix2 p q)
      = added (fun k => x0 (ix2 p k)) (fun k => x1 (ix2 0 k)) (fun k => x2 (ix2 p k)) (fun k => x3 (ix3 0 k q))
          (fun k => x4 (ix3 0 k q)) (x0 (ix2 p q)) := by
  unfold out0_5 added normed
  rw [View.canon_unit_zero hz]
  simp only [View.ld_unit_zero (S := S512x1024) hz, View.ld_unit_zero (S := S1x1024) hz, View.ld_unit_zero (S := S512x256) hz,
    View.ld_unit_zero (S := S1x1024x1024) hz3, View.ld_unit_zero (S := S1x256x1024) hz3]
  pointwise [k0_pay2, k0_pay1]

variable (m : (ℓ : Loc nD τ sig) → Buf (Elt Ideal) ℓ) (c : Dev nD)

theorem hN : cfg0.N = 16 := N_0

/-- The arguments. -/
abbrev h (i : S8192x1024.Idx) : EReal := m ((c : Thread nD τ).loc main_arg0) i
abbrev g (i : S1024.Idx) : EReal := m ((c : Thread nD τ).loc main_arg1) i
abbrev emb (i : S8192x256.Idx) : EReal := m ((c : Thread nD τ).loc main_arg2) i
abbrev wg (i : S2x1024x1024.Idx) : EReal := m ((c : Thread nD τ).loc main_arg3) i
abbrev wp (i : S2x256x1024.Idx) : EReal := m ((c : Thread nD τ).loc main_arg4) i

/-- The row of the arrays that is row `p` of the blocks at point `t`. -/
abbrev row (t : Fin cfg0.N) (p : Fin 512) : Fin 8192 := ⟨512 * t.val + p.val, by have := t.isLt.trans_eq hN; omega⟩

/-- Which block each window shows at grid point `t`. -/
theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 1 ∧ win0_3.index t 1 = 0 ∧ win0_3.index t 2 = 0 :=
  (by decide +kernel : ∀ t : Fin grid0.N, win0_3.index t 0 = 1 ∧ win0_3.index t 1 = 0 ∧ win0_3.index t 2 = 0)
theorem at4 : ∀ t : Fin cfg0.N, win0_4.index t 0 = 1 ∧ win0_4.index t 1 = 0 ∧ win0_4.index t 2 = 0 :=
  (by decide +kernel : ∀ t : Fin grid0.N, win0_4.index t 0 = 1 ∧ win0_4.index t 1 = 0 ∧ win0_4.index t 2 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)

theorem read0 (t : Fin cfg0.N) (i : S512x1024.Idx) : iblk m c 0 t i = h m c (ix2 (row t (i 0)) (i 1)) := by
  unfold h
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * t.val + (i 0).val; rw [(at0 t).1]; omega
  | ⟨1, _⟩ => show win0_0.index t 1 * 1024 + 1 * (i 1).val = (i 1).val; rw [(at0 t).2]; omega

theorem V_v0 : V m c main_v0 = shapeCast _ (m ((c : Thread nD τ).loc main_arg1)) shapeCasts_S1024_S1x1024 := by
  unfold_abbrev_sides; after_results; rfl

theorem read1 (t : Fin cfg0.N) (i : S1x1024.Idx) : iblk m c 1 t i = g m c (ix1 (i 1)) := by
  unfold iblk; rw [View.read_apply]
  have h0 : (i 0).val = 0 := by have : (i 0).val < 1 := (i 0).isLt; omega
  show V m c main_v0 _ = _
  rw [V_v0]
  refine shapeCast_apply _ shapeCasts_S1024_S1x1024 _ (ix1 (i 1)) ?_
  rewrite [Shape.rowMajor_val_one, Shape.rowMajor_val_two]
  show (i 1).val = (win0_1.index t 0 * 1 + 1 * (i 0).val) * 1024 + (win0_1.index t 1 * 1024 + 1 * (i 1).val)
  rw [(at1 t).1, (at1 t).2]; omega

theorem read2 (t : Fin cfg0.N) (i : S512x256.Idx) : iblk m c 2 t i = emb m c (ix2 (row t (i 0)) (i 1)) := by
  unfold emb
  rw [← V_main_arg2 m c]; unfold iblk; rw [View.read_apply]
  show V m c main_arg2 _ = V m c main_arg2 _
  congr 1; funext b; apply Fin.ext
  match b with
  | ⟨0, _⟩ => show win0_2.index t 0 * 512 + 1 * (i 0).val = 512 * t.val + (i 0).val; rw [(at2 t).1]; omega
  | ⟨1, _⟩ => show win0_2.index t 1 * 256 + 1 * (i 1).val = (i 1).val; rw [(at2 t).2]; omega

theorem read3 (t : Fin cfg0.N) (i : S1x1024x1024.Idx) : iblk m c 3 t i = wg m c (ix3 1 (i 1) (i 2)) := by
  unfold wg
  rw [← V_main_arg3 m c]; unfold iblk; rw [View.read_apply]
  show V m c main_arg3 _ = V m c main_arg3 _
  congr 1; funext b; apply Fin.ext
  have h0 : (i 0).val = 0 := by have : (i 0).val < 1 := (i 0).isLt; omega
  match b with
  | ⟨0, _⟩ => show win0_3.index t 0 * 1 + 1 * (i 0).val = 1; rw [(at3 t).1, h0]
  | ⟨1, _⟩ => show win0_3.index t 1 * 1024 + 1 * (i 1).val = (i 1).val; rw [(at3 t).2.1]; omega
  | ⟨2, _⟩ => show win0_3.index t 2 * 1024 + 1 * (i 2).val = (i 2).val; rw [(at3 t).2.2]; omega

theorem read4 (t : Fin cfg0.N) (i : S1x256x1024.Idx) : iblk m c 4 t i = wp m c (ix3 1 (i 1) (i 2)) := by
  unfold wp
  rw [← V_main_arg4 m c]; unfold iblk; rw [View.read_apply]
  show V m c main_arg4 _ = V m c main_arg4 _
  congr 1; funext b; apply Fin.ext
  have h0 : (i 0).val = 0 := by have : (i 0).val < 1 := (i 0).isLt; omega
  match b with
  | ⟨0, _⟩ => show win0_4.index t 0 * 1 + 1 * (i 0).val = 1; rw [(at4 t).1, h0]
  | ⟨1, _⟩ => show win0_4.index t 1 * 256 + 1 * (i 1).val = (i 1).val; rw [(at4 t).2.1]; omega
  | ⟨2, _⟩ => show win0_4.index t 2 * 1024 + 1 * (i 2).val = (i 2).val; rw [(at4 t).2.2]; omega

/-- The stream after the call, at a place. -/
def value5 (p : Fin 8192) (q : Fin 1024) : EReal := added (fun k => h m c (ix2 p k)) (fun k => g m c (ix1 k)) (fun k => emb m c (ix2 p k))
  (fun k => wg m c (ix3 1 k q)) (fun k => wp m c (ix3 1 k q)) (h m c (ix2 p q))

theorem block_eq5 (t : Fin cfg0.N) (i : S512x1024.Idx) :
    out0_5 (F := Ideal) (iblk m c 0 t) (iblk m c 1 t) (iblk m c 2 t) (iblk m c 3 t) (iblk m c 4 t) i = value5 m c (row t (i 0)) (i 1) := by
  rw [eq_ix2 i]
  refine (block5 _ _ _ _ _ (i 0) (i 1)).trans ?_
  unfold value5
  congr 1
  · exact funext fun k => read0 m c t _
  · exact funext fun k => read1 m c t _
  · exact funext fun k => read2 m c t _
  · exact funext fun k => read3 m c t _
  · exact funext fun k => read4 m c t _
  · exact read0 m c t _

theorem final5 : (dats m 0 c).arrAt 5 cfg0.N = fun i => value5 m c (i 0) (i 1) := by
  refine (dats m 0 c).arrAt_eq_of_cover 5 _ (fun t _ => ?_) fun i => ?_
  · rw [Value.flushed5]
    funext j
    rw [View.read_apply]
    refine (block_eq5 m c t j).trans ?_
    show _ = value5 m c _ _
    congr 1 <;> apply Fin.ext
    · show 512 * t.val + (j 0).val = win0_5.index t 0 * 512 + 1 * (j 0).val; rw [(at5 t).1]; omega
    · show (j 1).val = win0_5.index t 1 * 1024 + 1 * (j 1).val; rw [(at5 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_5 _, ?_⟩
    show i ∈ ((View.whole main_v1_0).slice (win0_5.rect ⟨(i 0 : Nat) / 512, ht⟩)).set
    rw [View.set_slice_whole, Rect.mem_set_unit]
    intro b
    match b with
    | ⟨0, _⟩ =>
      show win0_5.index ⟨_, ht⟩ 0 * 512 ≤ (i 0 : Nat) ∧ (i 0 : Nat) < win0_5.index ⟨_, ht⟩ 0 * 512 + 512
      rw [(at5 _).1]; dsimp only; omega
    | ⟨1, _⟩ =>
      show win0_5.index ⟨_, ht⟩ 1 * 1024 ≤ (i 1 : Nat) ∧ (i 1 : Nat) < win0_5.index ⟨_, ht⟩ 1 * 1024 + 1024
      rw [(at5 _).2]; omega

/-- The normed rows, at a place. -/
def value6 (p : Fin 8192) (q : Fin 1024) : EReal := normed (fun k => h m c (ix2 p k)) (fun k => g m c (ix1 k)) q

theorem block_eq6 (t : Fin cfg0.N) (i : S512x1024.Idx) :
    out0_6 (F := Ideal) (iblk m c 0 t) (iblk m c 1 t) (iblk m c 2 t) (iblk m c 3 t) (iblk m c 4 t) i = value6 m c (row t (i 0)) (i 1) := by
  rw [eq_ix2 i]
  refine (block6 _ _ _ _ _ (i 0) (i 1)).trans ?_
  unfold value6
  congr 1
  · exact funext fun k => read0 m c t _
  · exact funext fun k => read1 m c t _

theorem final6 : (dats m 0 c).arrAt 6 cfg0.N = fun i => value6 m c (i 0) (i 1) := by
  refine (dats m 0 c).arrAt_eq_of_cover 6 _ (fun t _ => ?_) fun i => ?_
  · rw [Value.flushed6]
    funext j
    rw [View.read_apply]
    refine (block_eq6 m c t j).trans ?_
    show _ = value6 m c _ _
    congr 1 <;> apply Fin.ext
    · show 512 * t.val + (j 0).val = win0_6.index t 0 * 512 + 1 * (j 0).val; rw [(at6 t).1]; omega
    · show (j 1).val = win0_6.index t 1 * 1024 + 1 * (j 1).val; rw [(at6 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_6 _, ?_⟩
    show i ∈ ((View.whole main_v1_1).slice (win0_6.rect ⟨(i 0 : Nat) / 512, ht⟩)).set
    rw [View.set_slice_whole, Rect.mem_set_unit]
    intro b
    match b with
    | ⟨0, _⟩ =>
      show win0_6.index ⟨_, ht⟩ 0 * 512 ≤ (i 0 : Nat) ∧ (i 0 : Nat) < win0_6.index ⟨_, ht⟩ 0 * 512 + 512
      rw [(at6 _).1]; dsimp only; omega
    | ⟨1, _⟩ =>
      show win0_6.index ⟨_, ht⟩ 1 * 1024 ≤ (i 1 : Nat) ∧ (i 1 : Nat) < win0_6.index ⟨_, ht⟩ 1 * 1024 + 1024
      rw [(at6 _).2]; omega

end kernel

/-! ## The claims -/

theorem frame : Cert.quiescent_PleFwd := fun m ρ _ => Cert.PleFwd.Gen.frame m ρ
theorem frame_ideal : Cert.quiescent_PleFwdIdeal := fun m ρ _ => Cert.PleFwdIdeal.Gen.frame m ρ

/-- The reference's run, read at its arguments; it declares no semaphore. -/
theorem frame_ref : Cert.quiescent_PleFwdRefIdeal := fun m ρ _ =>
  (θ_run Cert.PleFwdRefIdeal.defs _ _).mono
    (fun r h => ⟨fun c => (h c).2.2, Idealize.ShloMosaic.sem_eq_zero_of_no_sems (by decide) r.2⟩)
    (Cert.PleFwdRefIdeal.Value.run (F := Ideal) m ρ)

/-- The reference at a place. -/
theorem norm_ref (x0 : S8192x1024.Idx → EReal) (x1 : S1024.Idx → EReal) (p : Fin 8192) (q : Fin 1024) :
    Cert.PleFwdRefIdeal.Read.val_main_v18 (F := Ideal) x0 x1 (ix2 p q)
      = normed (fun k => x0 (ix2 p k)) (fun k => x1 (ix1 k)) q := by
  unfold normed
  open Cert.PleFwdRefIdeal.Read in
  pointwise [val_main_v18, val_main_v17, val_main_v16, val_main_v15, val_main_v14, val_main_v13, val_main_v12, val_main_v11,
    val_main_v10, val_main_v9, val_main_v8, val_main_v7, val_main_v6, val_main_cst, val_main_cst_0, val_main_cst_1]

theorem reference5 (x0 : S8192x1024.Idx → EReal) (x1 : S1024.Idx → EReal) (x2 : S8192x256.Idx → EReal)
    (x3 : S2x1024x1024.Idx → EReal) (x4 : S2x256x1024.Idx → EReal) (p : Fin 8192) (q : Fin 1024) :
    Cert.PleFwdRefIdeal.Read.val_main_v28 (F := Ideal) x0 x1 x2 x3 x4 (ix2 p q)
      = added (fun k => x0 (ix2 p k)) (fun k => x1 (ix1 k)) (fun k => x2 (ix2 p k)) (fun k => x3 (ix3 1 k q))
          (fun k => x4 (ix3 1 k q)) (x0 (ix2 p q)) := by
  unfold added Ideal.logistic
  open Cert.PleFwdRefIdeal.Read in
  pointwise [val_main_v28, val_main_v27, val_main_v26, val_main_v25, val_main_v24, val_main_v23, val_main_v22, val_main_v21,
    val_main_v20, val_main_v19, val_main_v5, val_main_v4, val_main_v3, val_main_v2, val_main_v1, val_main_v0, val_main_cst_2,
    val_main_cst_3]
  simp only [norm_ref]

theorem reference6 (x0 : S8192x1024.Idx → EReal) (x1 : S1024.Idx → EReal) (p : Fin 8192) (q : Fin 1024) :
    Cert.PleFwdRefIdeal.Read.val_main_v29 (F := Ideal) x0 x1 (ix2 p q)
      = normed (fun k => x0 (ix2 p k)) (fun k => x1 (ix1 k)) q := by
  open Cert.PleFwdRefIdeal.Read in
  pointwise [val_main_v29]
  exact norm_ref _ _ _ _

/-- The two programs end with the same arrays. -/
theorem algebraic : Cert.algebraic_PleFwdIdeal_PleFwdRefIdeal := by
  intro m ρ m' ρ' hpre hagree
  refine ⟨fun c => (Cert.PleFwdIdeal.Gen.dats (F := Ideal) m 0 c).arrAt 5 Cert.PleFwdIdeal.cfg0.N, fun c => (Cert.PleFwdIdeal.Gen.dats (F := Ideal) m 0 c).arrAt 6 Cert.PleFwdIdeal.cfg0.N,
    Cert.PleFwdIdeal.Value.run_blocks m ρ, ?_⟩
  refine (θ_run Cert.PleFwdRefIdeal.defs _ _).mono (fun r h c => ?_) (Cert.PleFwdRefIdeal.Value.run (F := Ideal) m' ρ')
  obtain ⟨g0, g1, g2, g3, g4⟩ := hagree c
  refine ⟨(h c).1.trans ?_, (h c).2.1.trans ?_, (h c).2.2⟩
  · refine Eq.trans ?_ (final5 m c).symm
    refine (Cert.PleFwdRefIdeal.Read.val_main_v28_eq _ _ _ _ _).trans ?_
    rw [g0, g1, g2, g3, g4]
    funext i
    rw [eq_ix2 i]
    exact reference5 _ _ _ _ _ (i 0) (i 1)
  · refine Eq.trans ?_ (final6 m c).symm
    refine (Cert.PleFwdRefIdeal.Read.val_main_v29_eq _ _).trans ?_
    rw [g0, g1]
    funext i
    rw [eq_ix2 i]
    exact reference6 _ _ (i 0) (i 1)

end Cert.Proof.PleFwd

end
-- ==== Proof.PleBwdClaims.lean ====
/-
  `ple_bwd`: the gradients of the per-layer embedding's gate (before its logistic) and of its projection. Each grid point computes gate
  and projection of its rows and leaves its rows of both gradients (`block5`, `block6`); the blocks tile the arrays (`final5`,
  `final6`). The reference differentiates the gated product, and the claims hold for all arguments.
-/
module

public import proofs.«01_k».proof.Defs
public import proofs.«01_k».proof.Proof.Gen.PleBwd.Frame
public import proofs.«01_k».proof.Proof.Gen.PleBwdIdeal.Value
public import proofs.«01_k».proof.Proof.Gen.PleBwdRefIdeal.Run
public import proofs.«01_k».proof.Proof.Gen.PleBwdRefIdeal.Read
public import Idealize.ShloMosaic.Lib.Quiescent
public import Idealize.ShloMosaic.Lib.Pointwise

@[expose] public section

set_option maxRecDepth 16384

noncomputable section

namespace Cert.Proof.PleBwd

open Cert.PleBwdIdeal Cert.PleBwdIdeal.Gen
open Idealize.ShloMosaic Idealize.ShloMosaic.TcCoe Idealize.SL.Sem
open Idealize.ShloMosaic.Pipeline (Dat)
open scoped BigOperators

section kernel

theorem hz : (![0, 0] : Fin 2 → Nat) = fun _ => 0 := funext fun a => by fin_cases a <;> rfl
theorem hz3 : (![0, 0, 0] : Fin 3 → Nat) = fun _ => 0 := funext fun a => by fin_cases a <;> rfl

/-- The gate of a row `x` at a column with weights `w`. -/
def gate (x w : Fin 1024 → EReal) : EReal := Ideal.logistic (∑ k, x k * w k)

/-- The gradient before the logistic, and that of the projection, from the gradient `d` of the sum. -/
def dPre (x w : Fin 1024 → EReal) (p v : Fin 256 → EReal) (d : EReal) : EReal :=
  d * (∑ k, p k * v k) * gate x w * (1 - gate x w)
def dProj (x w : Fin 1024 → EReal) (d : EReal) : EReal := d * gate x w

theorem block5 (x0 : Vec Ideal S512x1024 .bf16) (x1 : Vec Ideal S512x256 .f32) (x2 : Vec Ideal S1x1024x1024 .bf16)
    (x3 : Vec Ideal S1x256x1024 .bf16) (x4 : Vec Ideal S512x1024 .f32) (p : Fin 512) (q : Fin 1024) :
    out0_5 (F := Ideal) x0 x1 x2 x3 x4 (ix2 p q)
      = dPre (fun k => x0 (ix2 p k)) (fun k => x2 (ix3 0 k q)) (fun k => x1 (ix2 p k)) (fun k => x3 (ix3 0 k q)) (x4 (ix2 p q)) := by
  unfold out0_5 dPre gate
  rw [View.canon_unit_zero hz]
  simp only [View.ld_unit_zero (S := S512x1024) hz, View.ld_unit_zero (S := S512x256) hz,
    View.ld_unit_zero (S := S1x1024x1024) hz3, View.ld_unit_zero (S := S1x256x1024) hz3]
  pointwise [k0_pay2, k0_pay1]

theorem block6 (x0 : Vec Ideal S512x1024 .bf16) (x1 : Vec Ideal S512x256 .f32) (x2 : Vec Ideal S1x1024x1024 .bf16)
    (x3 : Vec Ideal S1x256x1024 .bf16) (x4 : Vec Ideal S512x1024 .f32) (p : Fin 512) (q : Fin 1024) :
    out0_6 (F := Ideal) x0 x1 x2 x3 x4 (ix2 p q)
      = dProj (fun k => x0 (ix2 p k)) (fun k => x2 (ix3 0 k q)) (x4 (ix2 p q)) := by
  unfold out0_6 dProj gate
  rw [View.canon_unit_zero hz]
  simp only [View.ld_unit_zero (S := S512x1024) hz, View.ld_unit_zero (S := S1x1024x1024) hz3]
  pointwise [k0_pay3, k0_pay1]

variable (m : (ℓ : Loc nD τ sig) → Buf (Elt Ideal) ℓ) (c : Dev nD)

theorem hN : cfg0.N = 16 := N_0

/-- The arguments. -/
abbrev xn (i : S8192x1024.Idx) : EReal := m ((c : Thread nD τ).loc main_arg0) i
abbrev emb (i : S8192x256.Idx) : EReal := m ((c : Thread nD τ).loc main_arg1) i
abbrev wg (i : S2x1024x1024.Idx) : EReal := m ((c : Thread nD τ).loc main_arg2) i
abbrev wp (i : S2x256x1024.Idx) : EReal := m ((c : Thread nD τ).loc main_arg3) i
abbrev dh (i : S8192x1024.Idx) : EReal := m ((c : Thread nD τ).loc main_arg4) i

/-- The row of the arrays that is row `p` of the blocks at point `t`. -/
abbrev row (t : Fin cfg0.N) (p : Fin 512) : Fin 8192 := ⟨512 * t.val + p.val, by have := t.isLt.trans_eq hN; omega⟩

/-- Which block each window shows at grid point `t`. -/
theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = 1 ∧ win0_2.index t 1 = 0 ∧ win0_2.index t 2 = 0 :=
  (by decide +kernel : ∀ t : Fin grid0.N, win0_2.index t 0 = 1 ∧ win0_2.index t 1 = 0 ∧ win0_2.index t 2 = 0)
theorem at3 : ∀ t : Fin cfg0.N, win0_3.index t 0 = 1 ∧ win0_3.index t 1 = 0 ∧ win0_3.index t 2 = 0 :=
  (by decide +kernel : ∀ t : Fin grid0.N, win0_3.index t 0 = 1 ∧ win0_3.index t 1 = 0 ∧ win0_3.index t 2 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)

theorem read0 (t : Fin cfg0.N) (i : S512x1024.Idx) : iblk m c 0 t i = xn m c (ix2 (row t (i 0)) (i 1)) := by
  unfold xn
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * t.val + (i 0).val; rw [(at0 t).1]; omega
  | ⟨1, _⟩ => show win0_0.index t 1 * 1024 + 1 * (i 1).val = (i 1).val; rw [(at0 t).2]; omega

theorem read1 (t : Fin cfg0.N) (i : S512x256.Idx) : iblk m c 1 t i = emb m c (ix2 (row t (i 0)) (i 1)) := by
  unfold emb
  rw [← V_main_arg1 m c]; unfold iblk; rw [View.read_apply]
  show V m c main_arg1 _ = V m c main_arg1 _
  congr 1; funext b; apply Fin.ext
  match b with
  | ⟨0, _⟩ => show win0_1.index t 0 * 512 + 1 * (i 0).val = 512 * t.val + (i 0).val; rw [(at1 t).1]; omega
  | ⟨1, _⟩ => show win0_1.index t 1 * 256 + 1 * (i 1).val = (i 1).val; rw [(at1 t).2]; omega

theorem read2 (t : Fin cfg0.N) (i : S1x1024x1024.Idx) : iblk m c 2 t i = wg m c (ix3 1 (i 1) (i 2)) := by
  unfold wg
  rw [← V_main_arg2 m c]; unfold iblk; rw [View.read_apply]
  show V m c main_arg2 _ = V m c main_arg2 _
  congr 1; funext b; apply Fin.ext
  have h0 : (i 0).val = 0 := by have : (i 0).val < 1 := (i 0).isLt; omega
  match b with
  | ⟨0, _⟩ => show win0_2.index t 0 * 1 + 1 * (i 0).val = 1; rw [(at2 t).1, h0]
  | ⟨1, _⟩ => show win0_2.index t 1 * 1024 + 1 * (i 1).val = (i 1).val; rw [(at2 t).2.1]; omega
  | ⟨2, _⟩ => show win0_2.index t 2 * 1024 + 1 * (i 2).val = (i 2).val; rw [(at2 t).2.2]; omega

theorem read3 (t : Fin cfg0.N) (i : S1x256x1024.Idx) : iblk m c 3 t i = wp m c (ix3 1 (i 1) (i 2)) := by
  unfold wp
  rw [← V_main_arg3 m c]; unfold iblk; rw [View.read_apply]
  show V m c main_arg3 _ = V m c main_arg3 _
  congr 1; funext b; apply Fin.ext
  have h0 : (i 0).val = 0 := by have : (i 0).val < 1 := (i 0).isLt; omega
  match b with
  | ⟨0, _⟩ => show win0_3.index t 0 * 1 + 1 * (i 0).val = 1; rw [(at3 t).1, h0]
  | ⟨1, _⟩ => show win0_3.index t 1 * 256 + 1 * (i 1).val = (i 1).val; rw [(at3 t).2.1]; omega
  | ⟨2, _⟩ => show win0_3.index t 2 * 1024 + 1 * (i 2).val = (i 2).val; rw [(at3 t).2.2]; omega

theorem read4 (t : Fin cfg0.N) (i : S512x1024.Idx) : iblk m c 4 t i = dh m c (ix2 (row t (i 0)) (i 1)) := by
  unfold dh
  rw [← V_main_arg4 m c]; unfold iblk; rw [View.read_apply]
  show V m c main_arg4 _ = V m c main_arg4 _
  congr 1; funext b; apply Fin.ext
  match b with
  | ⟨0, _⟩ => show win0_4.index t 0 * 512 + 1 * (i 0).val = 512 * t.val + (i 0).val; rw [(at4 t).1]; omega
  | ⟨1, _⟩ => show win0_4.index t 1 * 1024 + 1 * (i 1).val = (i 1).val; rw [(at4 t).2]; omega

/-- The first gradient at a place. -/
def value5 (p : Fin 8192) (q : Fin 1024) : EReal := dPre (fun k => xn m c (ix2 p k)) (fun k => wg m c (ix3 1 k q)) (fun k => emb m c (ix2 p k))
  (fun k => wp m c (ix3 1 k q)) (dh m c (ix2 p q))

theorem block_eq5 (t : Fin cfg0.N) (i : S512x1024.Idx) :
    out0_5 (F := Ideal) (iblk m c 0 t) (iblk m c 1 t) (iblk m c 2 t) (iblk m c 3 t) (iblk m c 4 t) i = value5 m c (row t (i 0)) (i 1) := by
  rw [eq_ix2 i]
  refine (block5 _ _ _ _ _ (i 0) (i 1)).trans ?_
  unfold value5
  congr 1
  · exact funext fun k => read0 m c t _
  · exact funext fun k => read2 m c t _
  · exact funext fun k => read1 m c t _
  · exact funext fun k => read3 m c t _
  · exact read4 m c t _

theorem final5 : (dats m 0 c).arrAt 5 cfg0.N = fun i => value5 m c (i 0) (i 1) := by
  refine (dats m 0 c).arrAt_eq_of_cover 5 _ (fun t _ => ?_) fun i => ?_
  · rw [Value.flushed5]
    funext j
    rw [View.read_apply]
    refine (block_eq5 m c t j).trans ?_
    show _ = value5 m c _ _
    congr 1 <;> apply Fin.ext
    · show 512 * t.val + (j 0).val = win0_5.index t 0 * 512 + 1 * (j 0).val; rw [(at5 t).1]; omega
    · show (j 1).val = win0_5.index t 1 * 1024 + 1 * (j 1).val; rw [(at5 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_5 _, ?_⟩
    show i ∈ ((View.whole main_v0_0).slice (win0_5.rect ⟨(i 0 : Nat) / 512, ht⟩)).set
    rw [View.set_slice_whole, Rect.mem_set_unit]
    intro b
    match b with
    | ⟨0, _⟩ =>
      show win0_5.index ⟨_, ht⟩ 0 * 512 ≤ (i 0 : Nat) ∧ (i 0 : Nat) < win0_5.index ⟨_, ht⟩ 0 * 512 + 512
      rw [(at5 _).1]; dsimp only; omega
    | ⟨1, _⟩ =>
      show win0_5.index ⟨_, ht⟩ 1 * 1024 ≤ (i 1 : Nat) ∧ (i 1 : Nat) < win0_5.index ⟨_, ht⟩ 1 * 1024 + 1024
      rw [(at5 _).2]; omega

/-- The second gradient at a place. -/
def value6 (p : Fin 8192) (q : Fin 1024) : EReal := dProj (fun k => xn m c (ix2 p k)) (fun k => wg m c (ix3 1 k q)) (dh m c (ix2 p q))

theorem block_eq6 (t : Fin cfg0.N) (i : S512x1024.Idx) :
    out0_6 (F := Ideal) (iblk m c 0 t) (iblk m c 1 t) (iblk m c 2 t) (iblk m c 3 t) (iblk m c 4 t) i = value6 m c (row t (i 0)) (i 1) := by
  rw [eq_ix2 i]
  refine (block6 _ _ _ _ _ (i 0) (i 1)).trans ?_
  unfold value6
  congr 1
  · exact funext fun k => read0 m c t _
  · exact funext fun k => read2 m c t _
  · exact read4 m c t _

theorem final6 : (dats m 0 c).arrAt 6 cfg0.N = fun i => value6 m c (i 0) (i 1) := by
  refine (dats m 0 c).arrAt_eq_of_cover 6 _ (fun t _ => ?_) fun i => ?_
  · rw [Value.flushed6]
    funext j
    rw [View.read_apply]
    refine (block_eq6 m c t j).trans ?_
    show _ = value6 m c _ _
    congr 1 <;> apply Fin.ext
    · show 512 * t.val + (j 0).val = win0_6.index t 0 * 512 + 1 * (j 0).val; rw [(at6 t).1]; omega
    · show (j 1).val = win0_6.index t 1 * 1024 + 1 * (j 1).val; rw [(at6 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_6 _, ?_⟩
    show i ∈ ((View.whole main_v0_1).slice (win0_6.rect ⟨(i 0 : Nat) / 512, ht⟩)).set
    rw [View.set_slice_whole, Rect.mem_set_unit]
    intro b
    match b with
    | ⟨0, _⟩ =>
      show win0_6.index ⟨_, ht⟩ 0 * 512 ≤ (i 0 : Nat) ∧ (i 0 : Nat) < win0_6.index ⟨_, ht⟩ 0 * 512 + 512
      rw [(at6 _).1]; dsimp only; omega
    | ⟨1, _⟩ =>
      show win0_6.index ⟨_, ht⟩ 1 * 1024 ≤ (i 1 : Nat) ∧ (i 1 : Nat) < win0_6.index ⟨_, ht⟩ 1 * 1024 + 1024
      rw [(at6 _).2]; omega

end kernel

/-! ## The claims -/

theorem frame : Cert.quiescent_PleBwd := fun m ρ _ => Cert.PleBwd.Gen.frame m ρ
theorem frame_ideal : Cert.quiescent_PleBwdIdeal := fun m ρ _ => Cert.PleBwdIdeal.Gen.frame m ρ

/-- The reference's run, read at its arguments; it declares no semaphore. -/
theorem frame_ref : Cert.quiescent_PleBwdRefIdeal := fun m ρ _ =>
  (θ_run Cert.PleBwdRefIdeal.defs _ _).mono
    (fun r h => ⟨fun c => (h c).2.2, Idealize.ShloMosaic.sem_eq_zero_of_no_sems (by decide) r.2⟩)
    (Cert.PleBwdRefIdeal.Value.run (F := Ideal) m ρ)

/-- The reference at a place: its gate is the same logistic, and the derivative's factors come in another grouping. -/
theorem gate_ref (x0 : S8192x1024.Idx → EReal) (x2 : S2x1024x1024.Idx → EReal) (p : Fin 8192) (q : Fin 1024) :
    Cert.PleBwdRefIdeal.Read.val_main_v14 (F := Ideal) x0 x2 (ix2 p q)
      = gate (fun k => x0 (ix2 p k)) (fun k => x2 (ix3 1 k q)) := by
  unfold gate Ideal.logistic
  open Cert.PleBwdRefIdeal.Read in
  pointwise [val_main_v14, val_main_v13, val_main_v12, val_main_v11, val_main_v10, val_main_v9, val_main_v7, val_main_v5,
    val_main_v4, val_main_v1, val_main_v0, val_main_cst, val_main_cst_0]

theorem reference5 (x0 : S8192x1024.Idx → EReal) (x1 : S8192x256.Idx → EReal) (x2 : S2x1024x1024.Idx → EReal)
    (x3 : S2x256x1024.Idx → EReal) (x4 : S8192x1024.Idx → EReal) (p : Fin 8192) (q : Fin 1024) :
    Cert.PleBwdRefIdeal.Read.val_main_v22 (F := Ideal) x0 x1 x2 x3 x4 (ix2 p q)
      = dPre (fun k => x0 (ix2 p k)) (fun k => x2 (ix3 1 k q)) (fun k => x1 (ix2 p k)) (fun k => x3 (ix3 1 k q)) (x4 (ix2 p q)) := by
  unfold dPre
  open Cert.PleBwdRefIdeal.Read in
  pointwise [val_main_v22, val_main_v21, val_main_v20, val_main_v17, val_main_v16, val_main_v15, val_main_v8, val_main_v6,
    val_main_v3, val_main_v2, val_main_cst_1]
  rw [gate_ref]
  exact (mul_assoc _ _ _).symm

theorem reference6 (x0 : S8192x1024.Idx → EReal) (x2 : S2x1024x1024.Idx → EReal) (x4 : S8192x1024.Idx → EReal)
    (p : Fin 8192) (q : Fin 1024) :
    Cert.PleBwdRefIdeal.Read.val_main_v23 (F := Ideal) x0 x2 x4 (ix2 p q)
      = dProj (fun k => x0 (ix2 p k)) (fun k => x2 (ix3 1 k q)) (x4 (ix2 p q)) := by
  unfold dProj
  open Cert.PleBwdRefIdeal.Read in
  pointwise [val_main_v23, val_main_v19]
  rw [gate_ref]
  exact mul_comm _ _

/-- The two programs end with the same arrays. -/
theorem algebraic : Cert.algebraic_PleBwdIdeal_PleBwdRefIdeal := by
  intro m ρ m' ρ' hpre hagree
  refine ⟨fun c => (Cert.PleBwdIdeal.Gen.dats (F := Ideal) m 0 c).arrAt 5 Cert.PleBwdIdeal.cfg0.N, fun c => (Cert.PleBwdIdeal.Gen.dats (F := Ideal) m 0 c).arrAt 6 Cert.PleBwdIdeal.cfg0.N,
    Cert.PleBwdIdeal.Value.run_blocks m ρ, ?_⟩
  refine (θ_run Cert.PleBwdRefIdeal.defs _ _).mono (fun r h c => ?_) (Cert.PleBwdRefIdeal.Value.run (F := Ideal) m' ρ')
  obtain ⟨g0, g1, g2, g3, g4⟩ := hagree c
  refine ⟨(h c).1.trans ?_, (h c).2.1.trans ?_, (h c).2.2⟩
  · refine Eq.trans ?_ (final5 m c).symm
    refine (Cert.PleBwdRefIdeal.Read.val_main_v22_eq _ _ _ _ _).trans ?_
    rw [g0, g1, g2, g3, g4]
    funext i
    rw [eq_ix2 i]
    exact reference5 _ _ _ _ _ (i 0) (i 1)
  · refine Eq.trans ?_ (final6 m c).symm
    refine (Cert.PleBwdRefIdeal.Read.val_main_v23_eq _ _ _).trans ?_
    rw [g0, g2, g4]
    funext i
    rw [eq_ix2 i]
    exact reference6 _ _ _ (i 0) (i 1)

end Cert.Proof.PleBwd

end
-- ==== Proof.ConvGateBlock.lean ====
/-
  One block of the convolution and its gate, at exact arithmetic. The kernel shifts the rows of its block by a product with a matrix of
  zeros and ones and takes the rows before the block from a second window; `conv_block` reads the result as the convolution of a
  column, and `gate_block` is what the block holds.
-/
module

public import proofs.«01_k».proof.Proof.Gen.ConvGateIdeal.Frame
public import Idealize.ShloMosaic.Lib.Pointwise
public import Idealize.ShloMosaic.Lib.IdealHost

@[expose] public section

set_option maxRecDepth 16384

noncomputable section

namespace Cert.Proof.ConvGate

open Cert.ConvGateIdeal Cert.ConvGateIdeal.Gen
open Idealize.ShloMosaic Idealize.ShloMosaic.TcCoe

/-! ## The mathematics -/

/-- The entry of a column `k` rows earlier; zero before the first row. -/
def earlier (col : ℕ → EReal) (k r : ℕ) : EReal := if r < k then 0 else col (r - k)

/-- The causal convolution with three taps, at a row of a column. -/
def conv (w : Fin 3 → EReal) (b : EReal) (col : ℕ → EReal) (r : ℕ) : EReal :=
  w 0 * earlier col 2 r + w 1 * earlier col 1 r + w 2 * col r + b

/-- The tanh form of GELU, with the float words of its constants. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-! ## The shifted rows -/

theorem select_eq (a b : BitVec 32) (u v : EReal) : Scalar.select (IntOp.cmpi .eq a b) u v = if a = b then u else v := by
  by_cases h : a = b
  · subst h; simp [Scalar.select, IntOp.cmpi]
  · have h' : (a == b) = false := by simpa using h
    simp [Scalar.select, IntOp.cmpi, h, h']

theorem ofNat_eq (a b : ℕ) (ha : a < 4294967296) (hb : b < 4294967296) : BitVec.ofNat 32 a = BitVec.ofNat 32 b ↔ a = b := by
  rw [← BitVec.toNat_inj, BitVec.toNat_ofNat, BitVec.toNat_ofNat, Nat.mod_eq_of_lt ha, Nat.mod_eq_of_lt hb]

/-- The column of the shift matrix that holds row `p`'s one, as a word. -/
theorem shift_word : ∀ p : Fin 512,
    IntOp.subi
        (Scalar.select (IntOp.cmpi CmpIPredicate.slt (BitVec.ofNat 32 p.val) 256#32) (BitVec.ofNat 32 p.val)
          (IntOp.subi (BitVec.ofNat 32 p.val) 256#32))
        (Scalar.select (IntOp.cmpi CmpIPredicate.slt (BitVec.ofNat 32 p.val) 256#32) 1#32 2#32)
      = BitVec.ofNat 32 ((p.val % 256 + (if p.val < 256 then 4294967295 else 4294967294)) % 4294967296) := by decide +kernel

/-- The product with the shift matrix: in its first half the row before, in its second half the row two before, zero where there is none. -/
theorem shifted (x : Vec Ideal S256x2816 .bf16) (p : Fin 512) (q : Fin 2816) (s : ℕ) (hs : s = if p.val < 256 then 1 else 2) :
    k0_pay4 (F := Ideal) x (ix2 p q) = if h : p.val % 256 < s then 0 else x (ix2 ⟨p.val % 256 - s, by omega⟩ q) := by
  have e : k0_pay4 (F := Ideal) x (ix2 p q) = ∑ k : Fin 256,
      if k.val = (p.val % 256 + (if p.val < 256 then 4294967295 else 4294967294)) % 4294967296 then x (ix2 k q) else 0 := by
    pointwise [k0_pay4, k0_pay2]
    refine Finset.sum_congr rfl fun k _ => ?_
    rw [shift_word p, select_eq]
    refine if_congr (ofNat_eq _ _ (by omega) (Nat.mod_lt _ (by norm_num))) rfl rfl
  have hp : p.val % 256 < 256 := Nat.mod_lt _ (by norm_num)
  have hw : ∀ k : Fin 256, k.val = (p.val % 256 + (if p.val < 256 then 4294967295 else 4294967294)) % 4294967296 ↔ p.val % 256 = k.val + s := by
    intro k
    have := k.isLt
    by_cases hl : p.val < 256
    · rw [if_pos hl] at hs ⊢; omega
    · rw [if_neg hl] at hs ⊢; omega
  rw [e]
  by_cases h : p.val % 256 < s
  · rw [dif_pos h]
    exact Finset.sum_eq_zero fun k _ => if_neg fun w => by have := (hw k).1 w; omega
  · rw [dif_neg h, Finset.sum_eq_single (⟨p.val % 256 - s, by omega⟩ : Fin 256)]
    · exact if_pos ((hw _).2 (by show p.val % 256 = p.val % 256 - s + s; omega))
    · intro k _ hk
      exact if_neg fun w => hk (Fin.ext (by show k.val = p.val % 256 - s; have := (hw k).1 w; omega))
    · intro hk; exact absurd (Finset.mem_univ _) hk

/-! ## The block -/

section block

variable (i : grid0.Coords) (x : Vec Ideal S256x2816 .bf16) (h : Vec Ideal S16x2816 .bf16) (q : Fin 2816)
variable (col : ℕ → EReal) (hx : ∀ p : Fin 256, x (ix2 p q) = col (256 * (i 1).val + p.val))
variable (hh : (i 1).val ≠ 0 → ∀ s : Fin 16, h (ix2 s q) = col (256 * (i 1).val - 16 + s.val))

theorem i1 : (i 1).val < 32 := (i 1).isLt

theorem first_iff : (BitVec.ofNat 32 (i 1).val = 0#32) ↔ (i 1).val = 0 :=
  ofNat_eq _ 0 (by have := i1 i; omega) (by norm_num)

include hh in
theorem halo1 : k0_pay5 (F := Ideal) i h (ix2 0 q) = earlier col 1 (256 * (i 1).val) := by
  have e : k0_pay5 (F := Ideal) i h (ix2 0 q) = Scalar.select (IntOp.cmpi .eq (BitVec.ofNat 32 (i 1).val) 0#32) (0 : EReal) (h (ix2 15 q)) := by
    pointwise [k0_pay5, k0_pay3]
    rfl
  rw [e, select_eq]
  unfold earlier
  by_cases h0 : (i 1).val = 0
  · rw [if_pos ((first_iff i).2 h0), if_pos (by omega)]
  · rw [if_neg (fun w => h0 ((first_iff i).1 w)), if_neg (by omega), hh h0]
    congr 1
    show 256 * (i 1).val - 16 + 15 = _
    omega

include hh in
theorem halo2 : k0_pay6 (F := Ideal) i h (ix2 0 q) = earlier col 2 (256 * (i 1).val) := by
  have e : k0_pay6 (F := Ideal) i h (ix2 0 q) = Scalar.select (IntOp.cmpi .eq (BitVec.ofNat 32 (i 1).val) 0#32) (0 : EReal) (h (ix2 14 q)) := by
    pointwise [k0_pay6, k0_pay3]
    rfl
  rw [e, select_eq]
  unfold earlier
  by_cases h0 : (i 1).val = 0
  · rw [if_pos ((first_iff i).2 h0), if_pos (by omega)]
  · rw [if_neg (fun w => h0 ((first_iff i).1 w)), if_neg (by omega), hh h0]
    congr 1
    show 256 * (i 1).val - 16 + 14 = _
    omega

include hx in
theorem inside (p : Fin 512) (s : ℕ) (hs : s = if p.val < 256 then 1 else 2) (hp : s ≤ p.val % 256) :
    k0_pay4 (F := Ideal) x (ix2 p q) = earlier col s (256 * (i 1).val + p.val % 256) := by
  rw [shifted x p q s hs, dif_neg (by omega), hx]
  unfold earlier
  rw [if_neg (by omega)]
  congr 1
  show 256 * (i 1).val + (p.val % 256 - s) = _
  omega

include hx hh in
theorem tap1 (p : Fin 256) : k0_pay7 (F := Ideal) i x h (ix2 p q) = earlier col 1 (256 * (i 1).val + p.val) := by
  have e : k0_pay7 (F := Ideal) i x h (ix2 p q) = if p.val = 0 then k0_pay5 (F := Ideal) i h (ix2 0 q) else
      k0_pay4 (F := Ideal) x (ix2 ⟨p.val, by omega⟩ q) := by
    have hp := p.isLt
    pointwise [k0_pay7]
    by_cases h8 : p.val < 8
    · rw [dif_pos h8, select_eq]
      exact if_congr (ofNat_eq _ 0 (by omega) (by norm_num)) rfl rfl
    · have h0 : ¬ p.val = 0 := fun w => h8 (by rw [w]; norm_num)
      rw [dif_neg h8]
      refine Eq.trans ?_ (if_neg h0).symm
      congr 2; apply Fin.ext; show 8 + (p.val - 8) = p.val; omega
  rw [e]
  split_ifs with h0
  · rw [halo1 i h q col hh, h0, Nat.add_zero]
  · have hp := p.isLt
    refine (inside i x q col hx ⟨p.val, by omega⟩ 1 (by simp only; rw [if_pos hp]) (by simp only; omega)).trans ?_
    congr 2
    exact Nat.mod_eq_of_lt hp

include hx in
/-- What stands two rows before, as the second half of the body finds it. -/
theorem tap2 (v27 v30 : FVec Ideal S1x2816 .f32) (p : Fin 256) (h1 : v27 (ix2 0 q) = earlier col 1 (256 * (i 1).val))
    (h2 : v30 (ix2 0 q) = earlier col 2 (256 * (i 1).val)) :
    (if h : p.val < 8 then
        Scalar.select (IntOp.cmpi CmpIPredicate.eq (BitVec.ofNat 32 p.val) 1#32) (v27 (ix2 0 q))
          (Scalar.select (IntOp.cmpi CmpIPredicate.eq (BitVec.ofNat 32 p.val) 0#32) (v30 (ix2 0 q)) (k0_pay8 (F := Ideal) x (ix2 p q)))
      else k0_pay8 (F := Ideal) x (ix2 ⟨8 + (p.val - 8), by omega⟩ q)) = earlier col 2 (256 * (i 1).val + p.val) := by
  have hp := p.isLt
  have e : ∀ p' : Fin 256, p'.val = p.val → 2 ≤ p.val → k0_pay8 (F := Ideal) x (ix2 p' q) = earlier col 2 (256 * (i 1).val + p.val) := by
    intro p' hp' h2p
    have e' : k0_pay8 (F := Ideal) x (ix2 p' q) = k0_pay4 (F := Ideal) x (ix2 ⟨256 + p'.val, by omega⟩ q) := by
      pointwise [k0_pay8]
    rw [e']
    refine (inside i x q col hx ⟨256 + p'.val, by omega⟩ 2 (by simp only; rw [if_neg (by omega)]) (by simp only; omega)).trans ?_
    congr 2
    show (256 + p'.val) % 256 = p.val
    omega
  by_cases h8 : p.val < 8
  · rw [dif_pos h8, select_eq, select_eq]
    by_cases hp1 : p.val = 1
    · rw [if_pos (by rw [hp1]), h1, hp1]
      unfold earlier
      by_cases h0 : (i 1).val = 0
      · rw [if_pos (by omega), if_pos (by omega)]
      · rw [if_neg (by omega), if_neg (by omega)]; congr 1
    · rw [if_neg (fun w => hp1 ((ofNat_eq _ 1 (by omega) (by norm_num)).1 w))]
      by_cases hp0 : p.val = 0
      · rw [if_pos (by rw [hp0]), h2, hp0, Nat.add_zero]
      · rw [if_neg (fun w => hp0 ((ofNat_eq _ 0 (by omega) (by norm_num)).1 w))]
        exact e p rfl (by omega)
  · rw [dif_neg h8]
    exact e _ (by show 8 + (p.val - 8) = p.val; omega) (by omega)

include hx hh in
/-- The convolution, in the kernel's block. -/
theorem conv_block (v57 v61 v66 v71 : FVec Ideal S1x2816 .f32) (p : Fin 256) :
    k0_pay9 (F := Ideal) (k0_pay2 x) (k0_pay5 i h) (k0_pay6 i h) (k0_pay7 i x h) (k0_pay8 x) v57 v61 v66 v71 (ix2 p q)
      = conv ![v57 (ix2 0 q), v61 (ix2 0 q), v66 (ix2 0 q)] (v71 (ix2 0 q)) col (256 * (i 1).val + p.val) := by
  have e : k0_pay2 (F := Ideal) x (ix2 p q) = x (ix2 p q) := by pointwise [k0_pay2]
  have t2 := tap2 i x q col hx _ _ p (halo1 i h q col hh) (halo2 i h q col hh)
  have t1 := tap1 i x h q col hx hh p
  unfold conv
  rw [← t2, ← t1, ← hx p, ← e]
  pointwise [k0_pay9]

end block

/-- The block: GELU of the gate's half times the other half. -/
theorem gate_block (v2 : FVec Ideal S256x2816 .bf16) (v27 v30 : FVec Ideal S1x2816 .f32) (v40 v41 : FVec Ideal S256x2816 .f32)
    (v57 v61 v66 v71 : FVec Ideal S1x2816 .f32) (p : Fin 256) (q : Fin 1408) :
    k0_pay1 (F := Ideal) (k0_pay9 v2 v27 v30 v40 v41 v57 v61 v66 v71) (k0_pay11 v2 v27 v30 v40 v41 v57 v61 v66 v71)
        (k0_pay12 v2 v27 v30 v40 v41 v57 v61 v66 v71) (ix2 p q)
      = gelu (k0_pay9 (F := Ideal) v2 v27 v30 v40 v41 v57 v61 v66 v71 (ix2 p ⟨1408 + q.val, by omega⟩))
        * k0_pay9 (F := Ideal) v2 v27 v30 v40 v41 v57 v61 v66 v71 (ix2 p ⟨q.val, by omega⟩) := by
  have e : ∀ (a x z t : EReal), a * x * t * z = x * (a * t) * z := fun a x z t => by rw [mul_comm a x, mul_assoc x a t]
  have e' : ∀ (a x : EReal), a * x * x * x = a * (x * x * x) := fun a x => by rw [mul_assoc a x x, mul_assoc a (x * x) x]
  unfold gelu
  rw [← e' , ← e]
  pointwise [k0_pay1, k0_pay11, k0_pay12, k0_pay10]

end Cert.Proof.ConvGate

end
-- ==== Proof.ConvGateClaims.lean ====
/-
  `conv_gate`: the causal convolution of the feed-forward's two halves and its gate, forward. Each grid point computes one block of rows and
  columns of the result (`block_eq`), the blocks tile the array (`final`), and the reference computes the same function of the
  arguments (`reference_eq`). The claims hold for all arguments.
-/
module

public import proofs.«01_k».proof.Defs
public import proofs.«01_k».proof.Proof.ConvGateBlock
public import proofs.«01_k».proof.Proof.Gen.ConvGate.Frame
public import proofs.«01_k».proof.Proof.Gen.ConvGateIdeal.Value
public import proofs.«01_k».proof.Proof.Gen.ConvGateRefIdeal.Run
public import proofs.«01_k».proof.Proof.Gen.ConvGateRefIdeal.Read
public import Idealize.ShloMosaic.Lib.Quiescent

@[expose] public section

set_option maxRecDepth 16384

noncomputable section

namespace Cert.Proof.ConvGate

open Cert.ConvGateIdeal Cert.ConvGateIdeal.Gen
open Idealize.ShloMosaic Idealize.ShloMosaic.TcCoe Idealize.SL.Sem
open Idealize.ShloMosaic.Pipeline (Dat)

/-! ## The function of the arguments -/

section function

variable (X : S8192x5632.Idx → EReal) (W : S3x5632.Idx → EReal) (B : S5632.Idx → EReal)

/-- A column of the array, by row numbers. -/
def column (q : Fin 5632) : ℕ → EReal := fun r => if h : r < 8192 then X (ix2 ⟨r, h⟩ q) else 0

/-- The convolution at a row and a column. -/
def convAt (r : ℕ) (q : Fin 5632) : EReal := conv (fun k => W (ix2 k q)) (B (ix1 q)) (column X q) r

/-- The gated array: GELU of the second half of the columns times the first half. -/
def gated (i : S8192x2816.Idx) : EReal :=
  gelu (convAt X W B (i 0).val ⟨2816 + (i 1).val, by have : (i 1).val < 2816 := (i 1).isLt; omega⟩)
    * convAt X W B (i 0).val ⟨(i 1).val, by have : (i 1).val < 2816 := (i 1).isLt; omega⟩

end function

/-! ## The kernel's array -/

section kernel

variable (m : (ℓ : Loc nD τ sig) → Buf (Elt Ideal) ℓ) (c : Dev nD)

/-- The arguments: the array, the taps, the bias. -/
def h : S8192x5632.Idx → EReal := m ((c : Thread nD τ).loc main_arg0)
def w : S3x5632.Idx → EReal := m ((c : Thread nD τ).loc main_arg1)
def b : S5632.Idx → EReal := m ((c : Thread nD τ).loc main_arg2)

/-- The column of the argument that stands in column `q` of the pair of blocks `j`. -/
def natural (j : Fin 2) (q : Fin 2816) : Fin 5632 :=
  ⟨2816 * (q.val / 1408) + 1408 * j.val + q.val % 1408, by have := q.isLt; have := j.isLt; omega⟩

theorem V_v2 : V m c main_v2 = shapeCast S8192x5632 (transpose S8192x2x2x1408 [0, 2, 1, 3]
    (shapeCast S8192x2x2x1408 (h m c) shapeCasts_S8192x5632_S8192x2x2x1408) transposes_S8192x2x2x1408_S8192x2x2x1408_0_2_1_3)
    shapeCasts_S8192x2x2x1408_S8192x5632 := by
  unfold h; unfold_abbrev_sides; after_results; rfl

theorem V_v5 : V m c main_v5 = shapeCast S3x5632 (transpose S3x2x2x1408 [0, 2, 1, 3]
    (shapeCast S3x2x2x1408 (w m c) shapeCasts_S3x5632_S3x2x2x1408) transposes_S3x2x2x1408_S3x2x2x1408_0_2_1_3)
    shapeCasts_S3x2x2x1408_S3x5632 := by
  unfold w; unfold_abbrev_sides; after_results; rfl

theorem V_v9 : V m c main_v9 = shapeCast S1x5632 (shapeCast S5632 (transpose S2x2x1408 [1, 0, 2]
    (shapeCast S2x2x1408 (b m c) shapeCasts_S5632_S2x2x1408) transposes_S2x2x1408_S2x2x1408_1_0_2)
    shapeCasts_S2x2x1408_S5632) shapeCasts_S5632_S1x5632 := by
  unfold b; unfold_abbrev_sides; after_results; rfl

theorem at_v2 (r : Fin 8192) (j : Fin 2) (q : Fin 2816) :
    (V m c main_v2 : S8192x5632.Idx → EReal) (ix2 r ⟨2816 * j.val + q.val, by omega⟩) = h m c (ix2 r (natural j q)) := by
  have hq := q.isLt
  rw [V_v2]
  refine (shapeCast_apply _ shapeCasts_S8192x2x2x1408_S8192x5632 _
    (ix4 r j (⟨q.val / 1408, by omega⟩ : Fin 2) (⟨q.val % 1408, by omega⟩ : Fin 1408)) ?_).trans ?_
  · rewrite [Shape.rowMajor_val_four, Shape.rowMajor_val_two]
    show ((r.val * 2 + j.val) * 2 + q.val / 1408) * 1408 + q.val % 1408 = r.val * 5632 + (2816 * j.val + q.val)
    omega
  pointwise
  refine congrArg (fun z => h m c (ix2 r z)) (Fin.ext ?_)
  show q.val / 1408 * 2816 + j.val * 1408 + q.val % 1408 = 2816 * (q.val / 1408) + 1408 * j.val + q.val % 1408
  omega

theorem at_v5 (r : Fin 3) (j : Fin 2) (q : Fin 2816) :
    (V m c main_v5 : S3x5632.Idx → EReal) (ix2 r ⟨2816 * j.val + q.val, by omega⟩) = w m c (ix2 r (natural j q)) := by
  have hq := q.isLt
  rw [V_v5]
  refine (shapeCast_apply _ shapeCasts_S3x2x2x1408_S3x5632 _
    (ix4 r j (⟨q.val / 1408, by omega⟩ : Fin 2) (⟨q.val % 1408, by omega⟩ : Fin 1408)) ?_).trans ?_
  · rewrite [Shape.rowMajor_val_four, Shape.rowMajor_val_two]
    show ((r.val * 2 + j.val) * 2 + q.val / 1408) * 1408 + q.val % 1408 = r.val * 5632 + (2816 * j.val + q.val)
    omega
  pointwise
  refine congrArg (fun z => w m c (ix2 r z)) (Fin.ext ?_)
  show q.val / 1408 * 2816 + j.val * 1408 + q.val % 1408 = 2816 * (q.val / 1408) + 1408 * j.val + q.val % 1408
  omega

theorem at_v9 (r : Fin 1) (j : Fin 2) (q : Fin 2816) :
    (V m c main_v9 : S1x5632.Idx → EReal) (ix2 r ⟨2816 * j.val + q.val, by omega⟩) = b m c (ix1 (natural j q)) := by
  have hq := q.isLt
  have hr := r.isLt
  rw [V_v9]
  refine (shapeCast_apply _ shapeCasts_S5632_S1x5632 _ (ix1 (⟨2816 * j.val + q.val, by omega⟩ : Fin 5632)) ?_).trans ?_
  · rewrite [Shape.rowMajor_val_one, Shape.rowMajor_val_two]
    show 2816 * j.val + q.val = r.val * 5632 + (2816 * j.val + q.val)
    omega
  refine (shapeCast_apply _ shapeCasts_S2x2x1408_S5632 _
    (ix3 j (⟨q.val / 1408, by omega⟩ : Fin 2) (⟨q.val % 1408, by omega⟩ : Fin 1408)) ?_).trans ?_
  · rewrite [Shape.rowMajor_val_three, Shape.rowMajor_val_one]
    show (j.val * 2 + q.val / 1408) * 1408 + q.val % 1408 = 2816 * j.val + q.val
    omega
  pointwise
  refine congrArg (fun z => b m c (ix1 z)) (Fin.ext ?_)
  show q.val / 1408 * 2816 + j.val * 1408 + q.val % 1408 = 2816 * (q.val / 1408) + 1408 * j.val + q.val % 1408
  omega

theorem hN : cfg0.N = 64 := N_0

/-- A grid point's block of columns and block of rows. -/
abbrev cb (t : Fin cfg0.N) : Fin 2 := ⟨t.val / 32, by have := t.isLt.trans_eq hN; omega⟩
theorem coord : ∀ t : Fin cfg0.N, (grid0.coords t 1).val = t.val % 32 :=
  (by decide +kernel : ∀ t : Fin grid0.N, (grid0.coords t 1).val = t.val % 32)
theorem at0 : ∀ t : Fin cfg0.N, win0_0.index t 0 = t.val % 32 ∧ win0_0.index t 1 = t.val / 32 :=
  (by decide +kernel : ∀ t : Fin grid0.N, win0_0.index t 0 = t.val % 32 ∧ win0_0.index t 1 = t.val / 32)
theorem at1 : ∀ t : Fin cfg0.N, win0_1.index t 0 = t.val % 32 * 16 - 1 ∧ win0_1.index t 1 = t.val / 32 :=
  (by decide +kernel : ∀ t : Fin grid0.N, win0_1.index t 0 = t.val % 32 * 16 - 1 ∧ win0_1.index t 1 = t.val / 32)
theorem at2 : ∀ t : Fin cfg0.N, win0_2.index t 0 = 0 ∧ win0_2.index t 1 = t.val / 32 :=
  (by decide +kernel : ∀ t : Fin grid0.N, win0_2.index t 0 = 0 ∧ win0_2.index t 1 = t.val / 32)
theorem at3 : ∀ t : Fin cfg0.N, win0_3.index t 0 = 0 ∧ win0_3.index t 1 = t.val / 32 :=
  (by decide +kernel : ∀ t : Fin grid0.N, win0_3.index t 0 = 0 ∧ win0_3.index t 1 = t.val / 32)
theorem at4 : ∀ t : Fin cfg0.N, win0_4.index t 0 = t.val % 32 ∧ win0_4.index t 1 = t.val / 32 :=
  (by decide +kernel : ∀ t : Fin grid0.N, win0_4.index t 0 = t.val % 32 ∧ win0_4.index t 1 = t.val / 32)

theorem read0 (t : Fin cfg0.N) (p : Fin 256) (q : Fin 2816) :
    (iblk m c 0 t : S256x2816.Idx → EReal) (ix2 p q) = column (h m c) (natural (cb t) q) (256 * (t.val % 32) + p.val) := by
  have hp := p.isLt
  unfold column
  rw [dif_pos (by omega), ← at_v2 m c _ (cb t) q]
  unfold iblk; rw [View.read_apply]
  show V m c main_v2 _ = V m c main_v2 _
  congr 1; funext b; apply Fin.ext
  match b with
  | ⟨0, _⟩ => show win0_0.index t 0 * 256 + 1 * p.val = 256 * (t.val % 32) + p.val; rw [(at0 t).1]; omega
  | ⟨1, _⟩ => show win0_0.index t 1 * 2816 + 1 * q.val = 2816 * (t.val / 32) + q.val; rw [(at0 t).2]; omega

theorem read1 (t : Fin cfg0.N) (ht : t.val % 32 ≠ 0) (s : Fin 16) (q : Fin 2816) :
    (iblk m c 1 t : S16x2816.Idx → EReal) (ix2 s q) = column (h m c) (natural (cb t) q) (256 * (t.val % 32) - 16 + s.val) := by
  have hs := s.isLt
  unfold column
  rw [dif_pos (by omega), ← at_v2 m c _ (cb t) q]
  unfold iblk; rw [View.read_apply]
  show V m c main_v2 _ = V m c main_v2 _
  congr 1; funext b; apply Fin.ext
  match b with
  | ⟨0, _⟩ => show win0_1.index t 0 * 16 + 1 * s.val = 256 * (t.val % 32) - 16 + s.val; rw [(at1 t).1]; omega
  | ⟨1, _⟩ => show win0_1.index t 1 * 2816 + 1 * q.val = 2816 * (t.val / 32) + q.val; rw [(at1 t).2]; omega

theorem read2 (t : Fin cfg0.N) (k : Fin 3) (q : Fin 2816) :
    (iblk m c 2 t : S3x2816.Idx → EReal) (ix2 k q) = w m c (ix2 k (natural (cb t) q)) := by
  rw [← at_v5 m c k (cb t) q]
  unfold iblk; rw [View.read_apply]
  show V m c main_v5 _ = V m c main_v5 _
  congr 1; funext b; apply Fin.ext
  match b with
  | ⟨0, _⟩ => show win0_2.index t 0 * 3 + 1 * k.val = k.val; rw [(at2 t).1]; omega
  | ⟨1, _⟩ => show win0_2.index t 1 * 2816 + 1 * q.val = 2816 * (t.val / 32) + q.val; rw [(at2 t).2]; omega

theorem read3 (t : Fin cfg0.N) (q : Fin 2816) :
    (iblk m c 3 t : S1x2816.Idx → EReal) (ix2 0 q) = b m c (ix1 (natural (cb t) q)) := by
  rw [← at_v9 m c 0 (cb t) q]
  unfold iblk; rw [View.read_apply]
  show V m c main_v9 _ = V m c main_v9 _
  congr 1; funext b; apply Fin.ext
  match b with
  | ⟨0, _⟩ => show win0_3.index t 0 * 1 + 1 * 0 = 0; rw [(at3 t).1]
  | ⟨1, _⟩ => show win0_3.index t 1 * 2816 + 1 * q.val = 2816 * (t.val / 32) + q.val; rw [(at3 t).2]; omega

theorem hz : (![0, 0] : Fin 2 → Nat) = fun _ => 0 := funext fun a => by fin_cases a <;> rfl

theorem tap_row (x : Vec Ideal S3x2816 .f32) (q : Fin 2816) :
    View.ld x r0_2 (ix2 0 q) = x (ix2 0 q) ∧ View.ld x r0_3 (ix2 0 q) = x (ix2 1 q) ∧ View.ld x r0_4 (ix2 0 q) = x (ix2 2 q) := by
  refine ⟨?_, ?_, ?_⟩ <;>
  · show x _ = x _
    congr 1; funext a; apply Fin.ext
    match a with
    | ⟨0, _⟩ => rfl
    | ⟨1, _⟩ => show 0 + 1 * q.val = q.val; omega

/-- What the window holds after the body at a grid point: its block of the gated array. -/
theorem block_eq (t : Fin cfg0.N) (p : Fin 256) (l : Fin 1408) :
    out0_4 (F := Ideal) (grid0.coords t) (iblk m c 0 t) (iblk m c 1 t) (iblk m c 2 t) (iblk m c 3 t) (ix2 p l)
      = gated (h m c) (w m c) (b m c) (ix2 ⟨256 * (t.val % 32) + p.val, by have := p.isLt; omega⟩
          ⟨1408 * (t.val / 32) + l.val, by have := t.isLt.trans_eq hN; have := l.isLt; omega⟩) := by
  have hl := l.isLt
  unfold out0_4 k0_pay17 k0_pay16 k0_pay15 k0_pay14 k0_pay13
  rw [View.canon_unit_zero hz]
  simp only [View.ld_unit_zero (S := S256x2816) hz, View.ld_unit_zero (S := S16x2816) hz, View.ld_unit_zero (S := S1x2816) hz]
  refine (gate_block _ _ _ _ _ _ _ _ _ p l).trans ?_
  have e : ∀ q : Fin 2816, _ := fun q => conv_block (grid0.coords t) (iblk m c 0 t) (iblk m c 1 t) q (column (h m c) (natural (cb t) q))
    (fun p => by rw [coord]; exact read0 m c t p q) (fun h0 s => by rw [coord] at h0 ⊢; exact read1 m c t h0 s q)
    (View.ld (iblk m c 2 t) r0_2) (View.ld (iblk m c 2 t) r0_3) (View.ld (iblk m c 2 t) r0_4) (iblk m c 3 t) p
  have e' : ∀ q : Fin 2816, conv ![View.ld (iblk m c 2 t) r0_2 (ix2 0 q), View.ld (iblk m c 2 t) r0_3 (ix2 0 q), View.ld (iblk m c 2 t) r0_4 (ix2 0 q)]
      (iblk m c 3 t (ix2 0 q)) (column (h m c) (natural (cb t) q)) (256 * (grid0.coords t 1).val + p.val)
      = convAt (h m c) (w m c) (b m c) (256 * (t.val % 32) + p.val) (natural (cb t) q) := by
    intro q
    obtain ⟨a0, a1, a2⟩ := tap_row (iblk m c 2 t) q
    have hw : ![View.ld (iblk m c 2 t) r0_2 (ix2 0 q), View.ld (iblk m c 2 t) r0_3 (ix2 0 q), View.ld (iblk m c 2 t) r0_4 (ix2 0 q)]
        = fun k => w m c (ix2 k (natural (cb t) q)) := by
      funext k
      match k with
      | 0 => exact a0.trans (read2 m c t 0 q)
      | 1 => exact a1.trans (read2 m c t 1 q)
      | 2 => exact a2.trans (read2 m c t 2 q)
    exact (congrArg (fun f => conv f _ _ _) hw).trans ((congrArg (fun z => conv _ z _ _) (read3 m c t q)).trans
      (congrArg (fun n => conv _ _ _ (256 * n + p.val)) (coord t)))
  have n0 : natural (cb t) ⟨l.val, by omega⟩ = ⟨1408 * (t.val / 32) + l.val, by have := t.isLt.trans_eq hN; omega⟩ := by
    apply Fin.ext
    show 2816 * (l.val / 1408) + 1408 * (t.val / 32) + l.val % 1408 = 1408 * (t.val / 32) + l.val
    omega
  have n1 : natural (cb t) ⟨1408 + l.val, by omega⟩ = ⟨2816 + (1408 * (t.val / 32) + l.val), by have := t.isLt.trans_eq hN; omega⟩ := by
    apply Fin.ext
    show 2816 * ((1408 + l.val) / 1408) + 1408 * (t.val / 32) + (1408 + l.val) % 1408 = 2816 + (1408 * (t.val / 32) + l.val)
    omega
  refine (congrArg₂ (fun a b => gelu a * b) ((e _).trans (e' _)) ((e _).trans (e' _))).trans ?_
  rw [n0, n1]
  rfl

/-- The array after the run. -/
theorem final : (dats m 0 c).arrAt 4 cfg0.N = gated (h m c) (w m c) (b m c) := by
  refine (dats m 0 c).arrAt_eq_of_cover 4 _ (fun t _ => ?_) fun i => ?_
  · rw [Value.flushed4]
    funext j
    rw [View.read_apply]
    obtain ⟨p, l, rfl⟩ : ∃ (p : Fin 256) (l : Fin 1408), j = ix2 p l := ⟨j 0, j 1, eq_ix2 j⟩
    refine (block_eq m c t p l).trans ?_
    show _ = gated (h m c) (w m c) (b m c) _
    congr 1; funext b; apply Fin.ext
    match b with
    | ⟨0, _⟩ => show 256 * (t.val % 32) + p.val = win0_4.index t 0 * 256 + 1 * p.val; rw [(at4 t).1]; omega
    | ⟨1, _⟩ => show 1408 * (t.val / 32) + l.val = win0_4.index t 1 * 1408 + 1 * l.val; rw [(at4 t).2]; omega
  · have h0 : (i 0 : Nat) < 8192 := (i 0).isLt
    have h1 : (i 1 : Nat) < 2816 := (i 1).isLt
    have ht : (i 1 : Nat) / 1408 * 32 + (i 0 : Nat) / 256 < cfg0.N := by have := hN; omega
    refine ⟨⟨(i 1 : Nat) / 1408 * 32 + (i 0 : Nat) / 256, ht⟩, flush0_4 _, ?_⟩
    show i ∈ ((View.whole main_v10).slice (win0_4.rect ⟨(i 1 : Nat) / 1408 * 32 + (i 0 : Nat) / 256, ht⟩)).set
    rw [View.set_slice_whole, Rect.mem_set_unit]
    intro b
    match b with
    | ⟨0, _⟩ =>
      show win0_4.index ⟨_, ht⟩ 0 * 256 ≤ (i 0 : Nat) ∧ (i 0 : Nat) < win0_4.index ⟨_, ht⟩ 0 * 256 + 256
      rw [(at4 _).1]; dsimp only; omega
    | ⟨1, _⟩ =>
      show win0_4.index ⟨_, ht⟩ 1 * 1408 ≤ (i 1 : Nat) ∧ (i 1 : Nat) < win0_4.index ⟨_, ht⟩ 1 * 1408 + 1408
      rw [(at4 _).2]; dsimp only; omega

end kernel

/-! ## The reference -/

section reference

open Cert.ConvGateRefIdeal.Read

variable (x0 : S8192x5632.Idx → EReal) (x1 : S3x5632.Idx → EReal) (x2 : S5632.Idx → EReal)

theorem column_at (r : Fin 8192) (q : Fin 5632) (n : ℕ) (hn : n = r.val) : column x0 q n = x0 (ix2 r q) := by
  subst hn; unfold column; rw [dif_pos r.isLt]

theorem back2 (r : Fin 8192) (q : Fin 5632) : val_main_v5 (F := Ideal) x0 (ix2 r q) = earlier (column x0 q) 2 r.val := by
  have hr := r.isLt
  unfold earlier
  by_cases h2 : r.val < 2
  · rw [if_pos h2]
    pointwise [val_main_v5, val_main_v3, val_main_v4, val_main_cst, val_main_v0]
    exact dif_pos h2
  · rw [if_neg h2, column_at x0 ⟨r.val - 2, by omega⟩ q _ rfl]
    pointwise [val_main_v5, val_main_v3, val_main_v4, val_main_cst, val_main_v0]
    exact dif_neg h2

theorem back1 (r : Fin 8192) (q : Fin 5632) : val_main_v13 (F := Ideal) x0 (ix2 r q) = earlier (column x0 q) 1 r.val := by
  have hr := r.isLt
  unfold earlier
  by_cases h2 : r.val < 1
  · rw [if_pos h2]
    pointwise [val_main_v13, val_main_v11, val_main_v12, val_main_cst_0, val_main_v0]
    exact dif_pos h2
  · rw [if_neg h2, column_at x0 ⟨r.val - 1, by omega⟩ q _ rfl]
    pointwise [val_main_v13, val_main_v11, val_main_v12, val_main_cst_0, val_main_v0]
    exact dif_neg h2

theorem conv_ref (r : Fin 8192) (q : Fin 5632) : val_main_v26 (F := Ideal) x0 x1 x2 (ix2 r q) = convAt x0 x1 x2 r.val q := by
  unfold convAt conv
  rw [← back2, ← back1, column_at x0 r q _ rfl]
  pointwise [val_main_v26, val_main_v25, val_main_v24, val_main_v23, val_main_v22, val_main_v21, val_main_v20, val_main_v19, val_main_v18,
    val_main_v17, val_main_v16, val_main_v15, val_main_v14, val_main_v10, val_main_v9, val_main_v8, val_main_v7, val_main_v6, val_main_v2,
    val_main_v1, val_main_v0]

theorem reference_eq : val_main_v43 (F := Ideal) x0 x1 x2 = gated x0 x1 x2 := by
  funext i
  obtain ⟨r, q, rfl⟩ : ∃ (r : Fin 8192) (q : Fin 2816), i = ix2 r q := ⟨i 0, i 1, eq_ix2 i⟩
  unfold gated gelu
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_cst_1,
    val_main_cst_2, val_main_cst_3, val_main_cst_4]
  rw [conv_ref, conv_ref]

end reference

/-! ## The claims -/

theorem frame : Cert.quiescent_ConvGate := fun m ρ _ => Cert.ConvGate.Gen.frame m ρ
theorem frame_ideal : Cert.quiescent_ConvGateIdeal := fun m ρ _ => Cert.ConvGateIdeal.Gen.frame m ρ

/-- The reference's run, read at its arguments; it declares no semaphore. -/
theorem frame_ref : Cert.quiescent_ConvGateRefIdeal := fun m ρ _ =>
  (θ_run Cert.ConvGateRefIdeal.defs _ _).mono
    (fun r h => ⟨fun c => (h c).2, Idealize.ShloMosaic.sem_eq_zero_of_no_sems (by decide) r.2⟩)
    (Cert.ConvGateRefIdeal.Value.run (F := Ideal) m ρ)

/-- The two programs end with the same array. -/
theorem algebraic : Cert.algebraic_ConvGateIdeal_ConvGateRefIdeal := by
  intro m ρ m' ρ' hpre hagree
  refine ⟨fun c => (Cert.ConvGateIdeal.Gen.dats (F := Ideal) m 0 c).arrAt 4 Cert.ConvGateIdeal.cfg0.N,
    Cert.ConvGateIdeal.Value.run_blocks m ρ, ?_⟩
  refine (θ_run Cert.ConvGateRefIdeal.defs _ _).mono (fun r h c => ?_) (Cert.ConvGateRefIdeal.Value.run (F := Ideal) m' ρ')
  obtain ⟨g0, g1, g2⟩ := hagree c
  refine ⟨(h c).1.trans ?_, (h c).2⟩
  refine Eq.trans ?_ (final m c).symm
  refine (Cert.ConvGateRefIdeal.Read.val_main_v43_eq _ _).trans ?_
  rw [g0, g1, g2]
  exact reference_eq _ _ _

end Cert.Proof.ConvGate

end
-- ==== Proof.Adam.lean ====
/-
  AdamW's step for one weight, at exact arithmetic: the new moments and the change of the weight, with the constants as the float
  words that both programs hold.
-/
module

public import Idealize.ShloMosaic.PureOps.Ideal.Laws
public import Idealize.ShloMosaic.Lib.IdealHost

@[expose] public section

noncomputable section

namespace Cert.Adam

open Idealize.ShloMosaic

/-- The new first moment. -/
def first (g m : EReal) : EReal := Ideal.ofBits .f32 0x3F666666#32 * m + Ideal.ofBits .f32 0x3DCCCCCD#32 * g
/-- The new second moment. -/
def second (g v : EReal) : EReal := Ideal.ofBits .f32 0x3F7FBE77#32 * v + Ideal.ofBits .f32 0x3A83126F#32 * (g * g)
/-- The change of the weight: the moments corrected for their start, their quotient, and the decay of the weight. -/
def change (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- A window shows, at grid point `t`, the block of rows number `t`, with all columns. -/
abbrev Rows {N : ℕ} (f : Fin N → Fin 2 → ℕ) : Prop := ∀ t, f t 0 = t.val ∧ f t 1 = 0

theorem row_at {x t : ℕ} (T p : ℕ) (h : x = t) : x * T + 1 * p = T * t + p := by rw [h, Nat.mul_comm, Nat.one_mul]
theorem col_at {x : ℕ} (C q : ℕ) (h : x = 0) : x * C + 1 * q = q := by rw [h, Nat.zero_mul, Nat.one_mul, Nat.zero_add]
theorem in_rows {x : ℕ} (T n : ℕ) (hT : 0 < T) (h : x = n / T) : x * T ≤ n ∧ n < x * T + T := by
  have a := Nat.div_add_mod n T
  have b := Nat.mod_lt n hT
  rw [← h, Nat.mul_comm] at a
  omega
theorem in_cols {x n C : ℕ} (h : x = 0) (hn : n < C) : x * C ≤ n ∧ n < x * C + C := by
  rw [h]; omega

end Cert.Adam

end
-- ==== Proof.AdamInClaims.lean ====
/-
  `adamw_w_in`: AdamW's step for the weight `w_in`, at one device's part of it. The call reads the four arrays as matrices of 2048 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Quiescent
public import Idealize.ShloMosaic.Lib.Pointwise

@[expose] public section

set_option maxRecDepth 16384

noncomputable section

namespace Cert.Proof.AdamIn

open Cert.AdamInIdeal Cert.AdamInIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S256x576 .f32) (p : Fin 256) (q : Fin 576)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S256x576) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S256x576) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S256x576) hz]
  pointwise [k0_pay3, k0_pay1]

end block

variable (m : (ℓ : Loc nD τ sig) → Buf (Elt Ideal) ℓ) (c : Dev nD)

theorem hN : cfg0.N = 8 := N_0

/-- The arguments as the call reads them: the weight, its gradient, its moments. -/
def arg0 : S2048x576.Idx → EReal := shapeCast S2048x576 (m ((c : Thread nD τ).loc main_arg0)) shapeCasts_S2x1024x576_S2048x576
def arg1 : S2048x576.Idx → EReal := shapeCast S2048x576 (m ((c : Thread nD τ).loc main_arg1)) shapeCasts_S2x1024x576_S2048x576
def arg2 : S2048x576.Idx → EReal := shapeCast S2048x576 (m ((c : Thread nD τ).loc main_arg2)) shapeCasts_S2x1024x576_S2048x576
def arg3 : S2048x576.Idx → EReal := shapeCast S2048x576 (m ((c : Thread nD τ).loc main_arg3)) shapeCasts_S2x1024x576_S2048x576

/-- The row of the arrays that is row `p` of the blocks at point `t`. -/
abbrev row (t : Fin cfg0.N) (p : Fin 256) : Fin 2048 := ⟨256 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S256x576.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 256 (i 0).val (at0 t).1 :)
  | ⟨1, _⟩ => exact (col_at 576 (i 1).val (at0 t).2 :)

theorem V_v1 : V m c main_v1 = arg1 m c := by
  unfold arg1; unfold_abbrev_sides; after_results; rfl

theorem read1 (t : Fin cfg0.N) (i : S256x576.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 256 (i 0).val (at1 t).1 :)
  | ⟨1, _⟩ => exact (col_at 576 (i 1).val (at1 t).2 :)

theorem V_v2 : V m c main_v2 = arg2 m c := by
  unfold arg2; unfold_abbrev_sides; after_results; rfl

theorem read2 (t : Fin cfg0.N) (i : S256x576.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 256 (i 0).val (at2 t).1 :)
  | ⟨1, _⟩ => exact (col_at 576 (i 1).val (at2 t).2 :)

theorem V_v3 : V m c main_v3 = arg3 m c := by
  unfold arg3; unfold_abbrev_sides; after_results; rfl

theorem read3 (t : Fin cfg0.N) (i : S256x576.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 256 (i 0).val (at3 t).1 :)
  | ⟨1, _⟩ => exact (col_at 576 (i 1).val (at3 t).2 :)

/-- The change of the weight, at an index of the matrix. -/
def value4 (i : S2048x576.Idx) : EReal := change (arg0 m c i) (arg1 m c i) (arg2 m c i) (arg3 m c i)

theorem block_eq4 (t : Fin cfg0.N) (i : S256x576.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 256 (j 0).val (at4 t).1 :).symm
    | ⟨1, _⟩ => exact (col_at 576 (j 1).val (at4 t).2 :).symm
  · have ht : (i 0 : Nat) / 256 < cfg0.N := by have := hN; have : (i 0 : Nat) < 2048 := (i 0).isLt; omega
    refine ⟨⟨(i 0 : Nat) / 256, ht⟩, flush0_4 _, ?_⟩
    show i ∈ ((View.whole main_v4_0).slice (win0_4.rect ⟨(i 0 : Nat) / 256, ht⟩)).set
    rw [View.set_slice_whole, Rect.mem_set_unit]
    intro b
    match b with
    | ⟨0, _⟩ => exact (in_rows 256 (i 0) (by decide) (at4 ⟨_, ht⟩).1 :)
    | ⟨1, _⟩ => exact (in_cols (at4 ⟨_, ht⟩).2 (i 1).isLt :)

/-- The new first moment, at an index of the matrix. -/
def value5 (i : S2048x576.Idx) : EReal := first (arg1 m c i) (arg2 m c i)

theorem block_eq5 (t : Fin cfg0.N) (i : S256x576.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 256 (j 0).val (at5 t).1 :).symm
    | ⟨1, _⟩ => exact (col_at 576 (j 1).val (at5 t).2 :).symm
  · have ht : (i 0 : Nat) / 256 < cfg0.N := by have := hN; have : (i 0 : Nat) < 2048 := (i 0).isLt; omega
    refine ⟨⟨(i 0 : Nat) / 256, ht⟩, flush0_5 _, ?_⟩
    show i ∈ ((View.whole main_v4_1).slice (win0_5.rect ⟨(i 0 : Nat) / 256, ht⟩)).set
    rw [View.set_slice_whole, Rect.mem_set_unit]
    intro b
    match b with
    | ⟨0, _⟩ => exact (in_rows 256 (i 0) (by decide) (at5 ⟨_, ht⟩).1 :)
    | ⟨1, _⟩ => exact (in_cols (at5 ⟨_, ht⟩).2 (i 1).isLt :)

/-- The new second moment, at an index of the matrix. -/
def value6 (i : S2048x576.Idx) : EReal := second (arg1 m c i) (arg3 m c i)

theorem block_eq6 (t : Fin cfg0.N) (i : S256x576.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 256 (j 0).val (at6 t).1 :).symm
    | ⟨1, _⟩ => exact (col_at 576 (j 1).val (at6 t).2 :).symm
  · have ht : (i 0 : Nat) / 256 < cfg0.N := by have := hN; have : (i 0 : Nat) < 2048 := (i 0).isLt; omega
    refine ⟨⟨(i 0 : Nat) / 256, ht⟩, flush0_6 _, ?_⟩
    show i ∈ ((View.whole main_v4_2).slice (win0_6.rect ⟨(i 0 : Nat) / 256, ht⟩)).set
    rw [View.set_slice_whole, Rect.mem_set_unit]
    intro b
    match b with
    | ⟨0, _⟩ => exact (in_rows 256 (i 0) (by decide) (at6 ⟨_, ht⟩).1 :)
    | ⟨1, _⟩ => exact (in_cols (at6 ⟨_, ht⟩).2 (i 1).isLt :)

end kernel

/-! ## The claims -/

theorem frame : Cert.quiescent_AdamIn := fun m ρ _ => Cert.AdamIn.Gen.frame m ρ
theorem frame_ideal : Cert.quiescent_AdamInIdeal := fun m ρ _ => Cert.AdamInIdeal.Gen.frame m ρ

/-- The reference's run, read at its arguments; it declares no semaphore. -/
theorem frame_ref : Cert.quiescent_AdamInRefIdeal := fun m ρ _ =>
  (θ_run Cert.AdamInRefIdeal.defs _ _).mono
    (fun r h => ⟨fun c => (h c).2.2.2, Idealize.ShloMosaic.sem_eq_zero_of_no_sems (by decide) r.2⟩)
    (Cert.AdamInRefIdeal.Value.run (F := Ideal) m ρ)

section reference

variable (x0 x1 x2 x3 : S2x1024x576.Idx → EReal)

/-- The reference's step, place by place; the reshape to a matrix comes after it. -/
theorem reference4 : Cert.AdamInRefIdeal.Read.val_main_v24 (F := Ideal) x0 x1 x2 x3
    = shapeCast S2048x576 (fun j => change (x0 j) (x1 j) (x2 j) (x3 j) : S2x1024x576.Idx → EReal) shapeCasts_S2x1024x576_S2048x576 := by
  unfold Cert.AdamInRefIdeal.Read.val_main_v24
  congr 1

theorem reference5 : Cert.AdamInRefIdeal.Read.val_main_v25 (F := Ideal) x1 x2
    = shapeCast S2048x576 (fun j => first (x1 j) (x2 j) : S2x1024x576.Idx → EReal) shapeCasts_S2x1024x576_S2048x576 := by
  unfold Cert.AdamInRefIdeal.Read.val_main_v25
  congr 1

theorem reference6 : Cert.AdamInRefIdeal.Read.val_main_v26 (F := Ideal) x1 x3
    = shapeCast S2048x576 (fun j => second (x1 j) (x3 j) : S2x1024x576.Idx → EReal) shapeCasts_S2x1024x576_S2048x576 := by
  unfold Cert.AdamInRefIdeal.Read.val_main_v26
  congr 1

end reference

/-- The two programs end with the same arrays. -/
theorem algebraic : Cert.algebraic_AdamInIdeal_AdamInRefIdeal := by
  intro m ρ m' ρ' hpre hagree
  refine ⟨_, _, _, Value.run_blocks m ρ, ?_⟩
  refine (θ_run Cert.AdamInRefIdeal.defs _ _).mono (fun r h c => ?_) (Cert.AdamInRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamInRefIdeal.Read.val_main_v24_eq _ _ _ _).trans ?_
    rw [g0, g1, g2, g3]
    exact reference4 _ _ _ _
  · refine Eq.trans ?_ (final5 m c).symm
    refine (Cert.AdamInRefIdeal.Read.val_main_v25_eq _ _).trans ?_
    rw [g1, g2]
    exact reference5 _ _
  · refine Eq.trans ?_ (final6 m c).symm
    refine (Cert.AdamInRefIdeal.Read.val_main_v26_eq _ _).trans ?_
    rw [g1, g3]
    exact reference6 _ _

end Cert.Proof.AdamIn

end
-- ==== Proof.AdamGluClaims.lean ====
/-
  `adamw_ssm_glu_w`: AdamW's step for the weight `ssm_glu_w`, at one device's part of it. The call reads the four arrays as matrices of 128 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamGlu.Frame
public import proofs.«01_k».proof.Proof.Gen.AdamGluIdeal.Value
public import proofs.«01_k».proof.Proof.Gen.AdamGluRefIdeal.Run
public import proofs.«01_k».proof.Proof.Gen.AdamGluRefIdeal.Read
public import Idealize.ShloMosaic.Lib.Quiescent
public import Idealize.ShloMosaic.Lib.Pointwise

@[expose] public section

set_option maxRecDepth 16384

noncomputable section

namespace Cert.Proof.AdamGlu

open Cert.AdamGluIdeal Cert.AdamGluIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S128x256 .f32) (p : Fin 128) (q : Fin 256)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S128x256) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S128x256) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S128x256) hz]
  pointwise [k0_pay3, k0_pay1]

end block

variable (m : (ℓ : Loc nD τ sig) → Buf (Elt Ideal) ℓ) (c : Dev nD)

theorem hN : cfg0.N = 1 := N_0

/-- The arguments as the call reads them: the weight, its gradient, its moments. -/
def arg0 : S128x256.Idx → EReal := shapeCast S128x256 (m ((c : Thread nD τ).loc main_arg0)) shapeCasts_S2x64x256_S128x256
def arg1 : S128x256.Idx → EReal := shapeCast S128x256 (m ((c : Thread nD τ).loc main_arg1)) shapeCasts_S2x64x256_S128x256
def arg2 : S128x256.Idx → EReal := shapeCast S128x256 (m ((c : Thread nD τ).loc main_arg2)) shapeCasts_S2x64x256_S128x256
def arg3 : S128x256.Idx → EReal := shapeCast S128x256 (m ((c : Thread nD τ).loc main_arg3)) shapeCasts_S2x64x256_S128x256

/-- The row of the arrays that is row `p` of the blocks at point `t`. -/
abbrev row (t : Fin cfg0.N) (p : Fin 128) : Fin 128 := ⟨128 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S128x256.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 128 (i 0).val (at0 t).1 :)
  | ⟨1, _⟩ => exact (col_at 256 (i 1).val (at0 t).2 :)

theorem V_v1 : V m c main_v1 = arg1 m c := by
  unfold arg1; unfold_abbrev_sides; after_results; rfl

theorem read1 (t : Fin cfg0.N) (i : S128x256.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 128 (i 0).val (at1 t).1 :)
  | ⟨1, _⟩ => exact (col_at 256 (i 1).val (at1 t).2 :)

theorem V_v2 : V m c main_v2 = arg2 m c := by
  unfold arg2; unfold_abbrev_sides; after_results; rfl

theorem read2 (t : Fin cfg0.N) (i : S128x256.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 128 (i 0).val (at2 t).1 :)
  | ⟨1, _⟩ => exact (col_at 256 (i 1).val (at2 t).2 :)

theorem V_v3 : V m c main_v3 = arg3 m c := by
  unfold arg3; unfold_abbrev_sides; after_results; rfl

theorem read3 (t : Fin cfg0.N) (i : S128x256.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 128 (i 0).val (at3 t).1 :)
  | ⟨1, _⟩ => exact (col_at 256 (i 1).val (at3 t).2 :)

/-- The change of the weight, at an index of the matrix. -/
def value4 (i : S128x256.Idx) : EReal := change (arg0 m c i) (arg1 m c i) (arg2 m c i) (arg3 m c i)

theorem block_eq4 (t : Fin cfg0.N) (i : S128x256.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 128 (j 0).val (at4 t).1 :).symm
    | ⟨1, _⟩ => exact (col_at 256 (j 1).val (at4 t).2 :).symm
  · have ht : (i 0 : Nat) / 128 < cfg0.N := by have := hN; have : (i 0 : Nat) < 128 := (i 0).isLt; omega
    refine ⟨⟨(i 0 : Nat) / 128, ht⟩, flush0_4 _, ?_⟩
    show i ∈ ((View.whole main_v4_0).slice (win0_4.rect ⟨(i 0 : Nat) / 128, ht⟩)).set
    rw [View.set_slice_whole, Rect.mem_set_unit]
    intro b
    match b with
    | ⟨0, _⟩ => exact (in_rows 128 (i 0) (by decide) (at4 ⟨_, ht⟩).1 :)
    | ⟨1, _⟩ => exact (in_cols (at4 ⟨_, ht⟩).2 (i 1).isLt :)

/-- The new first moment, at an index of the matrix. -/
def value5 (i : S128x256.Idx) : EReal := first (arg1 m c i) (arg2 m c i)

theorem block_eq5 (t : Fin cfg0.N) (i : S128x256.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 128 (j 0).val (at5 t).1 :).symm
    | ⟨1, _⟩ => exact (col_at 256 (j 1).val (at5 t).2 :).symm
  · have ht : (i 0 : Nat) / 128 < cfg0.N := by have := hN; have : (i 0 : Nat) < 128 := (i 0).isLt; omega
    refine ⟨⟨(i 0 : Nat) / 128, ht⟩, flush0_5 _, ?_⟩
    show i ∈ ((View.whole main_v4_1).slice (win0_5.rect ⟨(i 0 : Nat) / 128, ht⟩)).set
    rw [View.set_slice_whole, Rect.mem_set_unit]
    intro b
    match b with
    | ⟨0, _⟩ => exact (in_rows 128 (i 0) (by decide) (at5 ⟨_, ht⟩).1 :)
    | ⟨1, _⟩ => exact (in_cols (at5 ⟨_, ht⟩).2 (i 1).isLt :)

/-- The new second moment, at an index of the matrix. -/
def value6 (i : S128x256.Idx) : EReal := second (arg1 m c i) (arg3 m c i)

theorem block_eq6 (t : Fin cfg0.N) (i : S128x256.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 128 (j 0).val (at6 t).1 :).symm
    | ⟨1, _⟩ => exact (col_at 256 (j 1).val (at6 t).2 :).symm
  · have ht : (i 0 : Nat) / 128 < cfg0.N := by have := hN; have : (i 0 : Nat) < 128 := (i 0).isLt; omega
    refine ⟨⟨(i 0 : Nat) / 128, ht⟩, flush0_6 _, ?_⟩
    show i ∈ ((View.whole main_v4_2).slice (win0_6.rect ⟨(i 0 : Nat) / 128, ht⟩)).set
    rw [View.set_slice_whole, Rect.mem_set_unit]
    intro b
    match b with
    | ⟨0, _⟩ => exact (in_rows 128 (i 0) (by decide) (at6 ⟨_, ht⟩).1 :)
    | ⟨1, _⟩ => exact (in_cols (at6 ⟨_, ht⟩).2 (i 1).isLt :)

end kernel

/-! ## The claims -/

theorem frame : Cert.quiescent_AdamGlu := fun m ρ _ => Cert.AdamGlu.Gen.frame m ρ
theorem frame_ideal : Cert.quiescent_AdamGluIdeal := fun m ρ _ => Cert.AdamGluIdeal.Gen.frame m ρ

/-- The reference's run, read at its arguments; it declares no semaphore. -/
theorem frame_ref : Cert.quiescent_AdamGluRefIdeal := fun m ρ _ =>
  (θ_run Cert.AdamGluRefIdeal.defs _ _).mono
    (fun r h => ⟨fun c => (h c).2.2.2, Idealize.ShloMosaic.sem_eq_zero_of_no_sems (by decide) r.2⟩)
    (Cert.AdamGluRefIdeal.Value.run (F := Ideal) m ρ)

section reference

variable (x0 x1 x2 x3 : S2x64x256.Idx → EReal)

/-- The reference's step, place by place; the reshape to a matrix comes after it. -/
theorem reference4 : Cert.AdamGluRefIdeal.Read.val_main_v24 (F := Ideal) x0 x1 x2 x3
    = shapeCast S128x256 (fun j => change (x0 j) (x1 j) (x2 j) (x3 j) : S2x64x256.Idx → EReal) shapeCasts_S2x64x256_S128x256 := by
  unfold Cert.AdamGluRefIdeal.Read.val_main_v24
  congr 1

theorem reference5 : Cert.AdamGluRefIdeal.Read.val_main_v25 (F := Ideal) x1 x2
    = shapeCast S128x256 (fun j => first (x1 j) (x2 j) : S2x64x256.Idx → EReal) shapeCasts_S2x64x256_S128x256 := by
  unfold Cert.AdamGluRefIdeal.Read.val_main_v25
  congr 1

theorem reference6 : Cert.AdamGluRefIdeal.Read.val_main_v26 (F := Ideal) x1 x3
    = shapeCast S128x256 (fun j => second (x1 j) (x3 j) : S2x64x256.Idx → EReal) shapeCasts_S2x64x256_S128x256 := by
  unfold Cert.AdamGluRefIdeal.Read.val_main_v26
  congr 1

end reference

/-- The two programs end with the same arrays. -/
theorem algebraic : Cert.algebraic_AdamGluIdeal_AdamGluRefIdeal := by
  intro m ρ m' ρ' hpre hagree
  refine ⟨_, _, _, Value.run_blocks m ρ, ?_⟩
  refine (θ_run Cert.AdamGluRefIdeal.defs _ _).mono (fun r h c => ?_) (Cert.AdamGluRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamGluRefIdeal.Read.val_main_v24_eq _ _ _ _).trans ?_
    rw [g0, g1, g2, g3]
    exact reference4 _ _ _ _
  · refine Eq.trans ?_ (final5 m c).symm
    refine (Cert.AdamGluRefIdeal.Read.val_main_v25_eq _ _).trans ?_
    rw [g1, g2]
    exact reference5 _ _
  · refine Eq.trans ?_ (final6 m c).symm
    refine (Cert.AdamGluRefIdeal.Read.val_main_v26_eq _ _).trans ?_
    rw [g1, g3]
    exact reference6 _ _

end Cert.Proof.AdamGlu

end
-- ==== Proof.AdamOutClaims.lean ====
/-
  `adamw_w_out`: AdamW's step for the weight `w_out`, at one device's part of it. The call reads the four arrays as matrices of 512 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Quiescent
public import Idealize.ShloMosaic.Lib.Pointwise

@[expose] public section

set_option maxRecDepth 16384

noncomputable section

namespace Cert.Proof.AdamOut

open Cert.AdamOutIdeal Cert.AdamOutIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S256x1024 .f32) (p : Fin 256) (q : Fin 1024)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S256x1024) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S256x1024) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S256x1024) hz]
  pointwise [k0_pay3, k0_pay1]

end block

variable (m : (ℓ : Loc nD τ sig) → Buf (Elt Ideal) ℓ) (c : Dev nD)

theorem hN : cfg0.N = 2 := N_0

/-- The arguments as the call reads them: the weight, its gradient, its moments. -/
def arg0 : S512x1024.Idx → EReal := shapeCast S512x1024 (m ((c : Thread nD τ).loc main_arg0)) shapeCasts_S2x256x1024_S512x1024
def arg1 : S512x1024.Idx → EReal := shapeCast S512x1024 (m ((c : Thread nD τ).loc main_arg1)) shapeCasts_S2x256x1024_S512x1024
def arg2 : S512x1024.Idx → EReal := shapeCast S512x1024 (m ((c : Thread nD τ).loc main_arg2)) shapeCasts_S2x256x1024_S512x1024
def arg3 : S512x1024.Idx → EReal := shapeCast S512x1024 (m ((c : Thread nD τ).loc main_arg3)) shapeCasts_S2x256x1024_S512x1024

/-- The row of the arrays that is row `p` of the blocks at point `t`. -/
abbrev row (t : Fin cfg0.N) (p : Fin 256) : Fin 512 := ⟨256 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S256x1024.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 256 (i 0).val (at0 t).1 :)
  | ⟨1, _⟩ => exact (col_at 1024 (i 1).val (at0 t).2 :)

theorem V_v1 : V m c main_v1 = arg1 m c := by
  unfold arg1; unfold_abbrev_sides; after_results; rfl

theorem read1 (t : Fin cfg0.N) (i : S256x1024.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 256 (i 0).val (at1 t).1 :)
  | ⟨1, _⟩ => exact (col_at 1024 (i 1).val (at1 t).2 :)

theorem V_v2 : V m c main_v2 = arg2 m c := by
  unfold arg2; unfold_abbrev_sides; after_results; rfl

theorem read2 (t : Fin cfg0.N) (i : S256x1024.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 256 (i 0).val (at2 t).1 :)
  | ⟨1, _⟩ => exact (col_at 1024 (i 1).val (at2 t).2 :)

theorem V_v3 : V m c main_v3 = arg3 m c := by
  unfold arg3; unfold_abbrev_sides; after_results; rfl

theorem read3 (t : Fin cfg0.N) (i : S256x1024.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 256 (i 0).val (at3 t).1 :)
  | ⟨1, _⟩ => exact (col_at 1024 (i 1).val (at3 t).2 :)

/-- The change of the weight, at an index of the matrix. -/
def value4 (i : S512x1024.Idx) : EReal := change (arg0 m c i) (arg1 m c i) (arg2 m c i) (arg3 m c i)

theorem block_eq4 (t : Fin cfg0.N) (i : S256x1024.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 256 (j 0).val (at4 t).1 :).symm
    | ⟨1, _⟩ => exact (col_at 1024 (j 1).val (at4 t).2 :).symm
  · have ht : (i 0 : Nat) / 256 < cfg0.N := by have := hN; have : (i 0 : Nat) < 512 := (i 0).isLt; omega
    refine ⟨⟨(i 0 : Nat) / 256, ht⟩, flush0_4 _, ?_⟩
    show i ∈ ((View.whole main_v4_0).slice (win0_4.rect ⟨(i 0 : Nat) / 256, ht⟩)).set
    rw [View.set_slice_whole, Rect.mem_set_unit]
    intro b
    match b with
    | ⟨0, _⟩ => exact (in_rows 256 (i 0) (by decide) (at4 ⟨_, ht⟩).1 :)
    | ⟨1, _⟩ => exact (in_cols (at4 ⟨_, ht⟩).2 (i 1).isLt :)

/-- The new first moment, at an index of the matrix. -/
def value5 (i : S512x1024.Idx) : EReal := first (arg1 m c i) (arg2 m c i)

theorem block_eq5 (t : Fin cfg0.N) (i : S256x1024.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 256 (j 0).val (at5 t).1 :).symm
    | ⟨1, _⟩ => exact (col_at 1024 (j 1).val (at5 t).2 :).symm
  · have ht : (i 0 : Nat) / 256 < cfg0.N := by have := hN; have : (i 0 : Nat) < 512 := (i 0).isLt; omega
    refine ⟨⟨(i 0 : Nat) / 256, ht⟩, flush0_5 _, ?_⟩
    show i ∈ ((View.whole main_v4_1).slice (win0_5.rect ⟨(i 0 : Nat) / 256, ht⟩)).set
    rw [View.set_slice_whole, Rect.mem_set_unit]
    intro b
    match b with
    | ⟨0, _⟩ => exact (in_rows 256 (i 0) (by decide) (at5 ⟨_, ht⟩).1 :)
    | ⟨1, _⟩ => exact (in_cols (at5 ⟨_, ht⟩).2 (i 1).isLt :)

/-- The new second moment, at an index of the matrix. -/
def value6 (i : S512x1024.Idx) : EReal := second (arg1 m c i) (arg3 m c i)

theorem block_eq6 (t : Fin cfg0.N) (i : S256x1024.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 256 (j 0).val (at6 t).1 :).symm
    | ⟨1, _⟩ => exact (col_at 1024 (j 1).val (at6 t).2 :).symm
  · have ht : (i 0 : Nat) / 256 < cfg0.N := by have := hN; have : (i 0 : Nat) < 512 := (i 0).isLt; omega
    refine ⟨⟨(i 0 : Nat) / 256, ht⟩, flush0_6 _, ?_⟩
    show i ∈ ((View.whole main_v4_2).slice (win0_6.rect ⟨(i 0 : Nat) / 256, ht⟩)).set
    rw [View.set_slice_whole, Rect.mem_set_unit]
    intro b
    match b with
    | ⟨0, _⟩ => exact (in_rows 256 (i 0) (by decide) (at6 ⟨_, ht⟩).1 :)
    | ⟨1, _⟩ => exact (in_cols (at6 ⟨_, ht⟩).2 (i 1).isLt :)

end kernel

/-! ## The claims -/

theorem frame : Cert.quiescent_AdamOut := fun m ρ _ => Cert.AdamOut.Gen.frame m ρ
theorem frame_ideal : Cert.quiescent_AdamOutIdeal := fun m ρ _ => Cert.AdamOutIdeal.Gen.frame m ρ

/-- The reference's run, read at its arguments; it declares no semaphore. -/
theorem frame_ref : Cert.quiescent_AdamOutRefIdeal := fun m ρ _ =>
  (θ_run Cert.AdamOutRefIdeal.defs _ _).mono
    (fun r h => ⟨fun c => (h c).2.2.2, Idealize.ShloMosaic.sem_eq_zero_of_no_sems (by decide) r.2⟩)
    (Cert.AdamOutRefIdeal.Value.run (F := Ideal) m ρ)

section reference

variable (x0 x1 x2 x3 : S2x256x1024.Idx → EReal)

/-- The reference's step, place by place; the reshape to a matrix comes after it. -/
theorem reference4 : Cert.AdamOutRefIdeal.Read.val_main_v24 (F := Ideal) x0 x1 x2 x3
    = shapeCast S512x1024 (fun j => change (x0 j) (x1 j) (x2 j) (x3 j) : S2x256x1024.Idx → EReal) shapeCasts_S2x256x1024_S512x1024 := by
  unfold Cert.AdamOutRefIdeal.Read.val_main_v24
  congr 1

theorem reference5 : Cert.AdamOutRefIdeal.Read.val_main_v25 (F := Ideal) x1 x2
    = shapeCast S512x1024 (fun j => first (x1 j) (x2 j) : S2x256x1024.Idx → EReal) shapeCasts_S2x256x1024_S512x1024 := by
  unfold Cert.AdamOutRefIdeal.Read.val_main_v25
  congr 1

theorem reference6 : Cert.AdamOutRefIdeal.Read.val_main_v26 (F := Ideal) x1 x3
    = shapeCast S512x1024 (fun j => second (x1 j) (x3 j) : S2x256x1024.Idx → EReal) shapeCasts_S2x256x1024_S512x1024 := by
  unfold Cert.AdamOutRefIdeal.Read.val_main_v26
  congr 1

end reference

/-- The two programs end with the same arrays. -/
theorem algebraic : Cert.algebraic_AdamOutIdeal_AdamOutRefIdeal := by
  intro m ρ m' ρ' hpre hagree
  refine ⟨_, _, _, Value.run_blocks m ρ, ?_⟩
  refine (θ_run Cert.AdamOutRefIdeal.defs _ _).mono (fun r h c => ?_) (Cert.AdamOutRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamOutRefIdeal.Read.val_main_v24_eq _ _ _ _).trans ?_
    rw [g0, g1, g2, g3]
    exact reference4 _ _ _ _
  · refine Eq.trans ?_ (final5 m c).symm
    refine (Cert.AdamOutRefIdeal.Read.val_main_v25_eq _ _).trans ?_
    rw [g1, g2]
    exact reference5 _ _
  · refine Eq.trans ?_ (final6 m c).symm
    refine (Cert.AdamOutRefIdeal.Read.val_main_v26_eq _ _).trans ?_
    rw [g1, g3]
    exact reference6 _ _

end Cert.Proof.AdamOut

end
-- ==== Proof.AdamUpClaims.lean ====
/-
  `adamw_ffn_w_up`: AdamW's step for the weight `ffn_w_up`, at one device's part of it. The call reads the four arrays as matrices of 2048 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Quiescent
public import Idealize.ShloMosaic.Lib.Pointwise

@[expose] public section

set_option maxRecDepth 16384

noncomputable section

namespace Cert.Proof.AdamUp

open Cert.AdamUpIdeal Cert.AdamUpIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S128x1408 .f32) (p : Fin 128) (q : Fin 1408)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S128x1408) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S128x1408) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S128x1408) hz]
  pointwise [k0_pay3, k0_pay1]

end block

variable (m : (ℓ : Loc nD τ sig) → Buf (Elt Ideal) ℓ) (c : Dev nD)

theorem hN : cfg0.N = 16 := N_0

/-- The arguments as the call reads them: the weight, its gradient, its moments. -/
def arg0 : S2048x1408.Idx → EReal := shapeCast S2048x1408 (m ((c : Thread nD τ).loc main_arg0)) shapeCasts_S2x1024x1408_S2048x1408
def arg1 : S2048x1408.Idx → EReal := shapeCast S2048x1408 (m ((c : Thread nD τ).loc main_arg1)) shapeCasts_S2x1024x1408_S2048x1408
def arg2 : S2048x1408.Idx → EReal := shapeCast S2048x1408 (m ((c : Thread nD τ).loc main_arg2)) shapeCasts_S2x1024x1408_S2048x1408
def arg3 : S2048x1408.Idx → EReal := shapeCast S2048x1408 (m ((c : Thread nD τ).loc main_arg3)) shapeCasts_S2x1024x1408_S2048x1408

/-- The row of the arrays that is row `p` of the blocks at point `t`. -/
abbrev row (t : Fin cfg0.N) (p : Fin 128) : Fin 2048 := ⟨128 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S128x1408.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 128 (i 0).val (at0 t).1 :)
  | ⟨1, _⟩ => exact (col_at 1408 (i 1).val (at0 t).2 :)

theorem V_v1 : V m c main_v1 = arg1 m c := by
  unfold arg1; unfold_abbrev_sides; after_results; rfl

theorem read1 (t : Fin cfg0.N) (i : S128x1408.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 128 (i 0).val (at1 t).1 :)
  | ⟨1, _⟩ => exact (col_at 1408 (i 1).val (at1 t).2 :)

theorem V_v2 : V m c main_v2 = arg2 m c := by
  unfold arg2; unfold_abbrev_sides; after_results; rfl

theorem read2 (t : Fin cfg0.N) (i : S128x1408.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 128 (i 0).val (at2 t).1 :)
  | ⟨1, _⟩ => exact (col_at 1408 (i 1).val (at2 t).2 :)

theorem V_v3 : V m c main_v3 = arg3 m c := by
  unfold arg3; unfold_abbrev_sides; after_results; rfl

theorem read3 (t : Fin cfg0.N) (i : S128x1408.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 128 (i 0).val (at3 t).1 :)
  | ⟨1, _⟩ => exact (col_at 1408 (i 1).val (at3 t).2 :)

/-- The change of the weight, at an index of the matrix. -/
def value4 (i : S2048x1408.Idx) : EReal := change (arg0 m c i) (arg1 m c i) (arg2 m c i) (arg3 m c i)

theorem block_eq4 (t : Fin cfg0.N) (i : S128x1408.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 128 (j 0).val (at4 t).1 :).symm
    | ⟨1, _⟩ => exact (col_at 1408 (j 1).val (at4 t).2 :).symm
  · have ht : (i 0 : Nat) / 128 < cfg0.N := by have := hN; have : (i 0 : Nat) < 2048 := (i 0).isLt; omega
    refine ⟨⟨(i 0 : Nat) / 128, ht⟩, flush0_4 _, ?_⟩
    show i ∈ ((View.whole main_v4_0).slice (win0_4.rect ⟨(i 0 : Nat) / 128, ht⟩)).set
    rw [View.set_slice_whole, Rect.mem_set_unit]
    intro b
    match b with
    | ⟨0, _⟩ => exact (in_rows 128 (i 0) (by decide) (at4 ⟨_, ht⟩).1 :)
    | ⟨1, _⟩ => exact (in_cols (at4 ⟨_, ht⟩).2 (i 1).isLt :)

/-- The new first moment, at an index of the matrix. -/
def value5 (i : S2048x1408.Idx) : EReal := first (arg1 m c i) (arg2 m c i)

theorem block_eq5 (t : Fin cfg0.N) (i : S128x1408.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 128 (j 0).val (at5 t).1 :).symm
    | ⟨1, _⟩ => exact (col_at 1408 (j 1).val (at5 t).2 :).symm
  · have ht : (i 0 : Nat) / 128 < cfg0.N := by have := hN; have : (i 0 : Nat) < 2048 := (i 0).isLt; omega
    refine ⟨⟨(i 0 : Nat) / 128, ht⟩, flush0_5 _, ?_⟩
    show i ∈ ((View.whole main_v4_1).slice (win0_5.rect ⟨(i 0 : Nat) / 128, ht⟩)).set
    rw [View.set_slice_whole, Rect.mem_set_unit]
    intro b
    match b with
    | ⟨0, _⟩ => exact (in_rows 128 (i 0) (by decide) (at5 ⟨_, ht⟩).1 :)
    | ⟨1, _⟩ => exact (in_cols (at5 ⟨_, ht⟩).2 (i 1).isLt :)

/-- The new second moment, at an index of the matrix. -/
def value6 (i : S2048x1408.Idx) : EReal := second (arg1 m c i) (arg3 m c i)

theorem block_eq6 (t : Fin cfg0.N) (i : S128x1408.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 128 (j 0).val (at6 t).1 :).symm
    | ⟨1, _⟩ => exact (col_at 1408 (j 1).val (at6 t).2 :).symm
  · have ht : (i 0 : Nat) / 128 < cfg0.N := by have := hN; have : (i 0 : Nat) < 2048 := (i 0).isLt; omega
    refine ⟨⟨(i 0 : Nat) / 128, ht⟩, flush0_6 _, ?_⟩
    show i ∈ ((View.whole main_v4_2).slice (win0_6.rect ⟨(i 0 : Nat) / 128, ht⟩)).set
    rw [View.set_slice_whole, Rect.mem_set_unit]
    intro b
    match b with
    | ⟨0, _⟩ => exact (in_rows 128 (i 0) (by decide) (at6 ⟨_, ht⟩).1 :)
    | ⟨1, _⟩ => exact (in_cols (at6 ⟨_, ht⟩).2 (i 1).isLt :)

end kernel

/-! ## The claims -/

theorem frame : Cert.quiescent_AdamUp := fun m ρ _ => Cert.AdamUp.Gen.frame m ρ
theorem frame_ideal : Cert.quiescent_AdamUpIdeal := fun m ρ _ => Cert.AdamUpIdeal.Gen.frame m ρ

/-- The reference's run, read at its arguments; it declares no semaphore. -/
theorem frame_ref : Cert.quiescent_AdamUpRefIdeal := fun m ρ _ =>
  (θ_run Cert.AdamUpRefIdeal.defs _ _).mono
    (fun r h => ⟨fun c => (h c).2.2.2, Idealize.ShloMosaic.sem_eq_zero_of_no_sems (by decide) r.2⟩)
    (Cert.AdamUpRefIdeal.Value.run (F := Ideal) m ρ)

section reference

variable (x0 x1 x2 x3 : S2x1024x1408.Idx → EReal)

/-- The reference's step, place by place; the reshape to a matrix comes after it. -/
theorem reference4 : Cert.AdamUpRefIdeal.Read.val_main_v24 (F := Ideal) x0 x1 x2 x3
    = shapeCast S2048x1408 (fun j => change (x0 j) (x1 j) (x2 j) (x3 j) : S2x1024x1408.Idx → EReal) shapeCasts_S2x1024x1408_S2048x1408 := by
  unfold Cert.AdamUpRefIdeal.Read.val_main_v24
  congr 1

theorem reference5 : Cert.AdamUpRefIdeal.Read.val_main_v25 (F := Ideal) x1 x2
    = shapeCast S2048x1408 (fun j => first (x1 j) (x2 j) : S2x1024x1408.Idx → EReal) shapeCasts_S2x1024x1408_S2048x1408 := by
  unfold Cert.AdamUpRefIdeal.Read.val_main_v25
  congr 1

theorem reference6 : Cert.AdamUpRefIdeal.Read.val_main_v26 (F := Ideal) x1 x3
    = shapeCast S2048x1408 (fun j => second (x1 j) (x3 j) : S2x1024x1408.Idx → EReal) shapeCasts_S2x1024x1408_S2048x1408 := by
  unfold Cert.AdamUpRefIdeal.Read.val_main_v26
  congr 1

end reference

/-- The two programs end with the same arrays. -/
theorem algebraic : Cert.algebraic_AdamUpIdeal_AdamUpRefIdeal := by
  intro m ρ m' ρ' hpre hagree
  refine ⟨_, _, _, Value.run_blocks m ρ, ?_⟩
  refine (θ_run Cert.AdamUpRefIdeal.defs _ _).mono (fun r h c => ?_) (Cert.AdamUpRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamUpRefIdeal.Read.val_main_v24_eq _ _ _ _).trans ?_
    rw [g0, g1, g2, g3]
    exact reference4 _ _ _ _
  · refine Eq.trans ?_ (final5 m c).symm
    refine (Cert.AdamUpRefIdeal.Read.val_main_v25_eq _ _).trans ?_
    rw [g1, g2]
    exact reference5 _ _
  · refine Eq.trans ?_ (final6 m c).symm
    refine (Cert.AdamUpRefIdeal.Read.val_main_v26_eq _ _).trans ?_
    rw [g1, g3]
    exact reference6 _ _

end Cert.Proof.AdamUp

end
-- ==== Proof.AdamConvClaims.lean ====
/-
  `adamw_ffn_conv_w`: AdamW's step for the weight `ffn_conv_w`, at one device's part of it. The call reads the four arrays as matrices of 6 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamConvRefIdeal.Read
public import Idealize.ShloMosaic.Lib.Quiescent
public import Idealize.ShloMosaic.Lib.Pointwise

@[expose] public section

set_option maxRecDepth 16384

noncomputable section

namespace Cert.Proof.AdamConv

open Cert.AdamConvIdeal Cert.AdamConvIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S6x1408 .f32) (p : Fin 6) (q : Fin 1408)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S6x1408) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S6x1408) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S6x1408) hz]
  pointwise [k0_pay3, k0_pay1]

end block

variable (m : (ℓ : Loc nD τ sig) → Buf (Elt Ideal) ℓ) (c : Dev nD)

theorem hN : cfg0.N = 1 := N_0

/-- The arguments as the call reads them: the weight, its gradient, its moments. -/
def arg0 : S6x1408.Idx → EReal := shapeCast S6x1408 (m ((c : Thread nD τ).loc main_arg0)) shapeCasts_S2x3x1408_S6x1408
def arg1 : S6x1408.Idx → EReal := shapeCast S6x1408 (m ((c : Thread nD τ).loc main_arg1)) shapeCasts_S2x3x1408_S6x1408
def arg2 : S6x1408.Idx → EReal := shapeCast S6x1408 (m ((c : Thread nD τ).loc main_arg2)) shapeCasts_S2x3x1408_S6x1408
def arg3 : S6x1408.Idx → EReal := shapeCast S6x1408 (m ((c : Thread nD τ).loc main_arg3)) shapeCasts_S2x3x1408_S6x1408

/-- The row of the arrays that is row `p` of the blocks at point `t`. -/
abbrev row (t : Fin cfg0.N) (p : Fin 6) : Fin 6 := ⟨6 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S6x1408.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 6 (i 0).val (at0 t).1 :)
  | ⟨1, _⟩ => exact (col_at 1408 (i 1).val (at0 t).2 :)

theorem V_v1 : V m c main_v1 = arg1 m c := by
  unfold arg1; unfold_abbrev_sides; after_results; rfl

theorem read1 (t : Fin cfg0.N) (i : S6x1408.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 6 (i 0).val (at1 t).1 :)
  | ⟨1, _⟩ => exact (col_at 1408 (i 1).val (at1 t).2 :)

theorem V_v2 : V m c main_v2 = arg2 m c := by
  unfold arg2; unfold_abbrev_sides; after_results; rfl

theorem read2 (t : Fin cfg0.N) (i : S6x1408.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 6 (i 0).val (at2 t).1 :)
  | ⟨1, _⟩ => exact (col_at 1408 (i 1).val (at2 t).2 :)

theorem V_v3 : V m c main_v3 = arg3 m c := by
  unfold arg3; unfold_abbrev_sides; after_results; rfl

theorem read3 (t : Fin cfg0.N) (i : S6x1408.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 6 (i 0).val (at3 t).1 :)
  | ⟨1, _⟩ => exact (col_at 1408 (i 1).val (at3 t).2 :)

/-- The change of the weight, at an index of the matrix. -/
def value4 (i : S6x1408.Idx) : EReal := change (arg0 m c i) (arg1 m c i) (arg2 m c i) (arg3 m c i)

theorem block_eq4 (t : Fin cfg0.N) (i : S6x1408.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 6 (j 0).val (at4 t).1 :).symm
    | ⟨1, _⟩ => exact (col_at 1408 (j 1).val (at4 t).2 :).symm
  · have ht : (i 0 : Nat) / 6 < cfg0.N := by have := hN; have : (i 0 : Nat) < 6 := (i 0).isLt; omega
    refine ⟨⟨(i 0 : Nat) / 6, ht⟩, flush0_4 _, ?_⟩
    show i ∈ ((View.whole main_v4_0).slice (win0_4.rect ⟨(i 0 : Nat) / 6, ht⟩)).set
    rw [View.set_slice_whole, Rect.mem_set_unit]
    intro b
    match b with
    | ⟨0, _⟩ => exact (in_rows 6 (i 0) (by decide) (at4 ⟨_, ht⟩).1 :)
    | ⟨1, _⟩ => exact (in_cols (at4 ⟨_, ht⟩).2 (i 1).isLt :)

/-- The new first moment, at an index of the matrix. -/
def value5 (i : S6x1408.Idx) : EReal := first (arg1 m c i) (arg2 m c i)

theorem block_eq5 (t : Fin cfg0.N) (i : S6x1408.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 6 (j 0).val (at5 t).1 :).symm
    | ⟨1, _⟩ => exact (col_at 1408 (j 1).val (at5 t).2 :).symm
  · have ht : (i 0 : Nat) / 6 < cfg0.N := by have := hN; have : (i 0 : Nat) < 6 := (i 0).isLt; omega
    refine ⟨⟨(i 0 : Nat) / 6, ht⟩, flush0_5 _, ?_⟩
    show i ∈ ((View.whole main_v4_1).slice (win0_5.rect ⟨(i 0 : Nat) / 6, ht⟩)).set
    rw [View.set_slice_whole, Rect.mem_set_unit]
    intro b
    match b with
    | ⟨0, _⟩ => exact (in_rows 6 (i 0) (by decide) (at5 ⟨_, ht⟩).1 :)
    | ⟨1, _⟩ => exact (in_cols (at5 ⟨_, ht⟩).2 (i 1).isLt :)

/-- The new second moment, at an index of the matrix. -/
def value6 (i : S6x1408.Idx) : EReal := second (arg1 m c i) (arg3 m c i)

theorem block_eq6 (t : Fin cfg0.N) (i : S6x1408.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 6 (j 0).val (at6 t).1 :).symm
    | ⟨1, _⟩ => exact (col_at 1408 (j 1).val (at6 t).2 :).symm
  · have ht : (i 0 : Nat) / 6 < cfg0.N := by have := hN; have : (i 0 : Nat) < 6 := (i 0).isLt; omega
    refine ⟨⟨(i 0 : Nat) / 6, ht⟩, flush0_6 _, ?_⟩
    show i ∈ ((View.whole main_v4_2).slice (win0_6.rect ⟨(i 0 : Nat) / 6, ht⟩)).set
    rw [View.set_slice_whole, Rect.mem_set_unit]
    intro b
    match b with
    | ⟨0, _⟩ => exact (in_rows 6 (i 0) (by decide) (at6 ⟨_, ht⟩).1 :)
    | ⟨1, _⟩ => exact (in_cols (at6 ⟨_, ht⟩).2 (i 1).isLt :)

end kernel

/-! ## The claims -/

theorem frame : Cert.quiescent_AdamConv := fun m ρ _ => Cert.AdamConv.Gen.frame m ρ
theorem frame_ideal : Cert.quiescent_AdamConvIdeal := fun m ρ _ => Cert.AdamConvIdeal.Gen.frame m ρ

/-- The reference's run, read at its arguments; it declares no semaphore. -/
theorem frame_ref : Cert.quiescent_AdamConvRefIdeal := fun m ρ _ =>
  (θ_run Cert.AdamConvRefIdeal.defs _ _).mono
    (fun r h => ⟨fun c => (h c).2.2.2, Idealize.ShloMosaic.sem_eq_zero_of_no_sems (by decide) r.2⟩)
    (Cert.AdamConvRefIdeal.Value.run (F := Ideal) m ρ)

section reference

variable (x0 x1 x2 x3 : S2x3x1408.Idx → EReal)

/-- The reference's step, place by place; the reshape to a matrix comes after it. -/
theorem reference4 : Cert.AdamConvRefIdeal.Read.val_main_v24 (F := Ideal) x0 x1 x2 x3
    = shapeCast S6x1408 (fun j => change (x0 j) (x1 j) (x2 j) (x3 j) : S2x3x1408.Idx → EReal) shapeCasts_S2x3x1408_S6x1408 := by
  unfold Cert.AdamConvRefIdeal.Read.val_main_v24
  congr 1

theorem reference5 : Cert.AdamConvRefIdeal.Read.val_main_v25 (F := Ideal) x1 x2
    = shapeCast S6x1408 (fun j => first (x1 j) (x2 j) : S2x3x1408.Idx → EReal) shapeCasts_S2x3x1408_S6x1408 := by
  unfold Cert.AdamConvRefIdeal.Read.val_main_v25
  congr 1

theorem reference6 : Cert.AdamConvRefIdeal.Read.val_main_v26 (F := Ideal) x1 x3
    = shapeCast S6x1408 (fun j => second (x1 j) (x3 j) : S2x3x1408.Idx → EReal) shapeCasts_S2x3x1408_S6x1408 := by
  unfold Cert.AdamConvRefIdeal.Read.val_main_v26
  congr 1

end reference

/-- The two programs end with the same arrays. -/
theorem algebraic : Cert.algebraic_AdamConvIdeal_AdamConvRefIdeal := by
  intro m ρ m' ρ' hpre hagree
  refine ⟨_, _, _, Value.run_blocks m ρ, ?_⟩
  refine (θ_run Cert.AdamConvRefIdeal.defs _ _).mono (fun r h c => ?_) (Cert.AdamConvRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamConvRefIdeal.Read.val_main_v24_eq _ _ _ _).trans ?_
    rw [g0, g1, g2, g3]
    exact reference4 _ _ _ _
  · refine Eq.trans ?_ (final5 m c).symm
    refine (Cert.AdamConvRefIdeal.Read.val_main_v25_eq _ _).trans ?_
    rw [g1, g2]
    exact reference5 _ _
  · refine Eq.trans ?_ (final6 m c).symm
    refine (Cert.AdamConvRefIdeal.Read.val_main_v26_eq _ _).trans ?_
    rw [g1, g3]
    exact reference6 _ _

end Cert.Proof.AdamConv

end
-- ==== Proof.AdamDownClaims.lean ====
/-
  `adamw_ffn_w_down`: AdamW's step for the weight `ffn_w_down`, at one device's part of it. The call reads the four arrays as matrices of 1408 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Quiescent
public import Idealize.ShloMosaic.Lib.Pointwise

@[expose] public section

set_option maxRecDepth 16384

noncomputable section

namespace Cert.Proof.AdamDown

open Cert.AdamDownIdeal Cert.AdamDownIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S176x1024 .f32) (p : Fin 176) (q : Fin 1024)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S176x1024) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S176x1024) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S176x1024) hz]
  pointwise [k0_pay3, k0_pay1]

end block

variable (m : (ℓ : Loc nD τ sig) → Buf (Elt Ideal) ℓ) (c : Dev nD)

theorem hN : cfg0.N = 8 := N_0

/-- The arguments as the call reads them: the weight, its gradient, its moments. -/
def arg0 : S1408x1024.Idx → EReal := shapeCast S1408x1024 (m ((c : Thread nD τ).loc main_arg0)) shapeCasts_S2x704x1024_S1408x1024
def arg1 : S1408x1024.Idx → EReal := shapeCast S1408x1024 (m ((c : Thread nD τ).loc main_arg1)) shapeCasts_S2x704x1024_S1408x1024
def arg2 : S1408x1024.Idx → EReal := shapeCast S1408x1024 (m ((c : Thread nD τ).loc main_arg2)) shapeCasts_S2x704x1024_S1408x1024
def arg3 : S1408x1024.Idx → EReal := shapeCast S1408x1024 (m ((c : Thread nD τ).loc main_arg3)) shapeCasts_S2x704x1024_S1408x1024

/-- The row of the arrays that is row `p` of the blocks at point `t`. -/
abbrev row (t : Fin cfg0.N) (p : Fin 176) : Fin 1408 := ⟨176 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S176x1024.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 176 (i 0).val (at0 t).1 :)
  | ⟨1, _⟩ => exact (col_at 1024 (i 1).val (at0 t).2 :)

theorem V_v1 : V m c main_v1 = arg1 m c := by
  unfold arg1; unfold_abbrev_sides; after_results; rfl

theorem read1 (t : Fin cfg0.N) (i : S176x1024.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 176 (i 0).val (at1 t).1 :)
  | ⟨1, _⟩ => exact (col_at 1024 (i 1).val (at1 t).2 :)

theorem V_v2 : V m c main_v2 = arg2 m c := by
  unfold arg2; unfold_abbrev_sides; after_results; rfl

theorem read2 (t : Fin cfg0.N) (i : S176x1024.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 176 (i 0).val (at2 t).1 :)
  | ⟨1, _⟩ => exact (col_at 1024 (i 1).val (at2 t).2 :)

theorem V_v3 : V m c main_v3 = arg3 m c := by
  unfold arg3; unfold_abbrev_sides; after_results; rfl

theorem read3 (t : Fin cfg0.N) (i : S176x1024.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 176 (i 0).val (at3 t).1 :)
  | ⟨1, _⟩ => exact (col_at 1024 (i 1).val (at3 t).2 :)

/-- The change of the weight, at an index of the matrix. -/
def value4 (i : S1408x1024.Idx) : EReal := change (arg0 m c i) (arg1 m c i) (arg2 m c i) (arg3 m c i)

theorem block_eq4 (t : Fin cfg0.N) (i : S176x1024.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 176 (j 0).val (at4 t).1 :).symm
    | ⟨1, _⟩ => exact (col_at 1024 (j 1).val (at4 t).2 :).symm
  · have ht : (i 0 : Nat) / 176 < cfg0.N := by have := hN; have : (i 0 : Nat) < 1408 := (i 0).isLt; omega
    refine ⟨⟨(i 0 : Nat) / 176, ht⟩, flush0_4 _, ?_⟩
    show i ∈ ((View.whole main_v4_0).slice (win0_4.rect ⟨(i 0 : Nat) / 176, ht⟩)).set
    rw [View.set_slice_whole, Rect.mem_set_unit]
    intro b
    match b with
    | ⟨0, _⟩ => exact (in_rows 176 (i 0) (by decide) (at4 ⟨_, ht⟩).1 :)
    | ⟨1, _⟩ => exact (in_cols (at4 ⟨_, ht⟩).2 (i 1).isLt :)

/-- The new first moment, at an index of the matrix. -/
def value5 (i : S1408x1024.Idx) : EReal := first (arg1 m c i) (arg2 m c i)

theorem block_eq5 (t : Fin cfg0.N) (i : S176x1024.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 176 (j 0).val (at5 t).1 :).symm
    | ⟨1, _⟩ => exact (col_at 1024 (j 1).val (at5 t).2 :).symm
  · have ht : (i 0 : Nat) / 176 < cfg0.N := by have := hN; have : (i 0 : Nat) < 1408 := (i 0).isLt; omega
    refine ⟨⟨(i 0 : Nat) / 176, ht⟩, flush0_5 _, ?_⟩
    show i ∈ ((View.whole main_v4_1).slice (win0_5.rect ⟨(i 0 : Nat) / 176, ht⟩)).set
    rw [View.set_slice_whole, Rect.mem_set_unit]
    intro b
    match b with
    | ⟨0, _⟩ => exact (in_rows 176 (i 0) (by decide) (at5 ⟨_, ht⟩).1 :)
    | ⟨1, _⟩ => exact (in_cols (at5 ⟨_, ht⟩).2 (i 1).isLt :)

/-- The new second moment, at an index of the matrix. -/
def value6 (i : S1408x1024.Idx) : EReal := second (arg1 m c i) (arg3 m c i)

theorem block_eq6 (t : Fin cfg0.N) (i : S176x1024.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 176 (j 0).val (at6 t).1 :).symm
    | ⟨1, _⟩ => exact (col_at 1024 (j 1).val (at6 t).2 :).symm
  · have ht : (i 0 : Nat) / 176 < cfg0.N := by have := hN; have : (i 0 : Nat) < 1408 := (i 0).isLt; omega
    refine ⟨⟨(i 0 : Nat) / 176, ht⟩, flush0_6 _, ?_⟩
    show i ∈ ((View.whole main_v4_2).slice (win0_6.rect ⟨(i 0 : Nat) / 176, ht⟩)).set
    rw [View.set_slice_whole, Rect.mem_set_unit]
    intro b
    match b with
    | ⟨0, _⟩ => exact (in_rows 176 (i 0) (by decide) (at6 ⟨_, ht⟩).1 :)
    | ⟨1, _⟩ => exact (in_cols (at6 ⟨_, ht⟩).2 (i 1).isLt :)

end kernel

/-! ## The claims -/

theorem frame : Cert.quiescent_AdamDown := fun m ρ _ => Cert.AdamDown.Gen.frame m ρ
theorem frame_ideal : Cert.quiescent_AdamDownIdeal := fun m ρ _ => Cert.AdamDownIdeal.Gen.frame m ρ

/-- The reference's run, read at its arguments; it declares no semaphore. -/
theorem frame_ref : Cert.quiescent_AdamDownRefIdeal := fun m ρ _ =>
  (θ_run Cert.AdamDownRefIdeal.defs _ _).mono
    (fun r h => ⟨fun c => (h c).2.2.2, Idealize.ShloMosaic.sem_eq_zero_of_no_sems (by decide) r.2⟩)
    (Cert.AdamDownRefIdeal.Value.run (F := Ideal) m ρ)

section reference

variable (x0 x1 x2 x3 : S2x704x1024.Idx → EReal)

/-- The reference's step, place by place; the reshape to a matrix comes after it. -/
theorem reference4 : Cert.AdamDownRefIdeal.Read.val_main_v24 (F := Ideal) x0 x1 x2 x3
    = shapeCast S1408x1024 (fun j => change (x0 j) (x1 j) (x2 j) (x3 j) : S2x704x1024.Idx → EReal) shapeCasts_S2x704x1024_S1408x1024 := by
  unfold Cert.AdamDownRefIdeal.Read.val_main_v24
  congr 1

theorem reference5 : Cert.AdamDownRefIdeal.Read.val_main_v25 (F := Ideal) x1 x2
    = shapeCast S1408x1024 (fun j => first (x1 j) (x2 j) : S2x704x1024.Idx → EReal) shapeCasts_S2x704x1024_S1408x1024 := by
  unfold Cert.AdamDownRefIdeal.Read.val_main_v25
  congr 1

theorem reference6 : Cert.AdamDownRefIdeal.Read.val_main_v26 (F := Ideal) x1 x3
    = shapeCast S1408x1024 (fun j => second (x1 j) (x3 j) : S2x704x1024.Idx → EReal) shapeCasts_S2x704x1024_S1408x1024 := by
  unfold Cert.AdamDownRefIdeal.Read.val_main_v26
  congr 1

end reference

/-- The two programs end with the same arrays. -/
theorem algebraic : Cert.algebraic_AdamDownIdeal_AdamDownRefIdeal := by
  intro m ρ m' ρ' hpre hagree
  refine ⟨_, _, _, Value.run_blocks m ρ, ?_⟩
  refine (θ_run Cert.AdamDownRefIdeal.defs _ _).mono (fun r h c => ?_) (Cert.AdamDownRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamDownRefIdeal.Read.val_main_v24_eq _ _ _ _).trans ?_
    rw [g0, g1, g2, g3]
    exact reference4 _ _ _ _
  · refine Eq.trans ?_ (final5 m c).symm
    refine (Cert.AdamDownRefIdeal.Read.val_main_v25_eq _ _).trans ?_
    rw [g1, g2]
    exact reference5 _ _
  · refine Eq.trans ?_ (final6 m c).symm
    refine (Cert.AdamDownRefIdeal.Read.val_main_v26_eq _ _).trans ?_
    rw [g1, g3]
    exact reference6 _ _

end Cert.Proof.AdamDown

end
-- ==== Proof.AdamGateClaims.lean ====
/-
  `adamw_ple_w_gate`: AdamW's step for the weight `ple_w_gate`, at one device's part of it. The call reads the four arrays as matrices of 512 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamGateRefIdeal.Read
public import Idealize.ShloMosaic.Lib.Quiescent
public import Idealize.ShloMosaic.Lib.Pointwise

@[expose] public section

set_option maxRecDepth 16384

noncomputable section

namespace Cert.Proof.AdamGate

open Cert.AdamGateIdeal Cert.AdamGateIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S256x1024 .f32) (p : Fin 256) (q : Fin 1024)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S256x1024) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S256x1024) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S256x1024) hz]
  pointwise [k0_pay3, k0_pay1]

end block

variable (m : (ℓ : Loc nD τ sig) → Buf (Elt Ideal) ℓ) (c : Dev nD)

theorem hN : cfg0.N = 2 := N_0

/-- The arguments as the call reads them: the weight, its gradient, its moments. -/
def arg0 : S512x1024.Idx → EReal := shapeCast S512x1024 (m ((c : Thread nD τ).loc main_arg0)) shapeCasts_S2x256x1024_S512x1024
def arg1 : S512x1024.Idx → EReal := shapeCast S512x1024 (m ((c : Thread nD τ).loc main_arg1)) shapeCasts_S2x256x1024_S512x1024
def arg2 : S512x1024.Idx → EReal := shapeCast S512x1024 (m ((c : Thread nD τ).loc main_arg2)) shapeCasts_S2x256x1024_S512x1024
def arg3 : S512x1024.Idx → EReal := shapeCast S512x1024 (m ((c : Thread nD τ).loc main_arg3)) shapeCasts_S2x256x1024_S512x1024

/-- The row of the arrays that is row `p` of the blocks at point `t`. -/
abbrev row (t : Fin cfg0.N) (p : Fin 256) : Fin 512 := ⟨256 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S256x1024.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 256 (i 0).val (at0 t).1 :)
  | ⟨1, _⟩ => exact (col_at 1024 (i 1).val (at0 t).2 :)

theorem V_v1 : V m c main_v1 = arg1 m c := by
  unfold arg1; unfold_abbrev_sides; after_results; rfl

theorem read1 (t : Fin cfg0.N) (i : S256x1024.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 256 (i 0).val (at1 t).1 :)
  | ⟨1, _⟩ => exact (col_at 1024 (i 1).val (at1 t).2 :)

theorem V_v2 : V m c main_v2 = arg2 m c := by
  unfold arg2; unfold_abbrev_sides; after_results; rfl

theorem read2 (t : Fin cfg0.N) (i : S256x1024.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 256 (i 0).val (at2 t).1 :)
  | ⟨1, _⟩ => exact (col_at 1024 (i 1).val (at2 t).2 :)

theorem V_v3 : V m c main_v3 = arg3 m c := by
  unfold arg3; unfold_abbrev_sides; after_results; rfl

theorem read3 (t : Fin cfg0.N) (i : S256x1024.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 256 (i 0).val (at3 t).1 :)
  | ⟨1, _⟩ => exact (col_at 1024 (i 1).val (at3 t).2 :)

/-- The change of the weight, at an index of the matrix. -/
def value4 (i : S512x1024.Idx) : EReal := change (arg0 m c i) (arg1 m c i) (arg2 m c i) (arg3 m c i)

theorem block_eq4 (t : Fin cfg0.N) (i : S256x1024.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 256 (j 0).val (at4 t).1 :).symm
    | ⟨1, _⟩ => exact (col_at 1024 (j 1).val (at4 t).2 :).symm
  · have ht : (i 0 : Nat) / 256 < cfg0.N := by have := hN; have : (i 0 : Nat) < 512 := (i 0).isLt; omega
    refine ⟨⟨(i 0 : Nat) / 256, ht⟩, flush0_4 _, ?_⟩
    show i ∈ ((View.whole main_v4_0).slice (win0_4.rect ⟨(i 0 : Nat) / 256, ht⟩)).set
    rw [View.set_slice_whole, Rect.mem_set_unit]
    intro b
    match b with
    | ⟨0, _⟩ => exact (in_rows 256 (i 0) (by decide) (at4 ⟨_, ht⟩).1 :)
    | ⟨1, _⟩ => exact (in_cols (at4 ⟨_, ht⟩).2 (i 1).isLt :)

/-- The new first moment, at an index of the matrix. -/
def value5 (i : S512x1024.Idx) : EReal := first (arg1 m c i) (arg2 m c i)

theorem block_eq5 (t : Fin cfg0.N) (i : S256x1024.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 256 (j 0).val (at5 t).1 :).symm
    | ⟨1, _⟩ => exact (col_at 1024 (j 1).val (at5 t).2 :).symm
  · have ht : (i 0 : Nat) / 256 < cfg0.N := by have := hN; have : (i 0 : Nat) < 512 := (i 0).isLt; omega
    refine ⟨⟨(i 0 : Nat) / 256, ht⟩, flush0_5 _, ?_⟩
    show i ∈ ((View.whole main_v4_1).slice (win0_5.rect ⟨(i 0 : Nat) / 256, ht⟩)).set
    rw [View.set_slice_whole, Rect.mem_set_unit]
    intro b
    match b with
    | ⟨0, _⟩ => exact (in_rows 256 (i 0) (by decide) (at5 ⟨_, ht⟩).1 :)
    | ⟨1, _⟩ => exact (in_cols (at5 ⟨_, ht⟩).2 (i 1).isLt :)

/-- The new second moment, at an index of the matrix. -/
def value6 (i : S512x1024.Idx) : EReal := second (arg1 m c i) (arg3 m c i)

theorem block_eq6 (t : Fin cfg0.N) (i : S256x1024.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 256 (j 0).val (at6 t).1 :).symm
    | ⟨1, _⟩ => exact (col_at 1024 (j 1).val (at6 t).2 :).symm
  · have ht : (i 0 : Nat) / 256 < cfg0.N := by have := hN; have : (i 0 : Nat) < 512 := (i 0).isLt; omega
    refine ⟨⟨(i 0 : Nat) / 256, ht⟩, flush0_6 _, ?_⟩
    show i ∈ ((View.whole main_v4_2).slice (win0_6.rect ⟨(i 0 : Nat) / 256, ht⟩)).set
    rw [View.set_slice_whole, Rect.mem_set_unit]
    intro b
    match b with
    | ⟨0, _⟩ => exact (in_rows 256 (i 0) (by decide) (at6 ⟨_, ht⟩).1 :)
    | ⟨1, _⟩ => exact (in_cols (at6 ⟨_, ht⟩).2 (i 1).isLt :)

end kernel

/-! ## The claims -/

theorem frame : Cert.quiescent_AdamGate := fun m ρ _ => Cert.AdamGate.Gen.frame m ρ
theorem frame_ideal : Cert.quiescent_AdamGateIdeal := fun m ρ _ => Cert.AdamGateIdeal.Gen.frame m ρ

/-- The reference's run, read at its arguments; it declares no semaphore. -/
theorem frame_ref : Cert.quiescent_AdamGateRefIdeal := fun m ρ _ =>
  (θ_run Cert.AdamGateRefIdeal.defs _ _).mono
    (fun r h => ⟨fun c => (h c).2.2.2, Idealize.ShloMosaic.sem_eq_zero_of_no_sems (by decide) r.2⟩)
    (Cert.AdamGateRefIdeal.Value.run (F := Ideal) m ρ)

section reference

variable (x0 x1 x2 x3 : S2x256x1024.Idx → EReal)

/-- The reference's step, place by place; the reshape to a matrix comes after it. -/
theorem reference4 : Cert.AdamGateRefIdeal.Read.val_main_v24 (F := Ideal) x0 x1 x2 x3
    = shapeCast S512x1024 (fun j => change (x0 j) (x1 j) (x2 j) (x3 j) : S2x256x1024.Idx → EReal) shapeCasts_S2x256x1024_S512x1024 := by
  unfold Cert.AdamGateRefIdeal.Read.val_main_v24
  congr 1

theorem reference5 : Cert.AdamGateRefIdeal.Read.val_main_v25 (F := Ideal) x1 x2
    = shapeCast S512x1024 (fun j => first (x1 j) (x2 j) : S2x256x1024.Idx → EReal) shapeCasts_S2x256x1024_S512x1024 := by
  unfold Cert.AdamGateRefIdeal.Read.val_main_v25
  congr 1

theorem reference6 : Cert.AdamGateRefIdeal.Read.val_main_v26 (F := Ideal) x1 x3
    = shapeCast S512x1024 (fun j => second (x1 j) (x3 j) : S2x256x1024.Idx → EReal) shapeCasts_S2x256x1024_S512x1024 := by
  unfold Cert.AdamGateRefIdeal.Read.val_main_v26
  congr 1

end reference

/-- The two programs end with the same arrays. -/
theorem algebraic : Cert.algebraic_AdamGateIdeal_AdamGateRefIdeal := by
  intro m ρ m' ρ' hpre hagree
  refine ⟨_, _, _, Value.run_blocks m ρ, ?_⟩
  refine (θ_run Cert.AdamGateRefIdeal.defs _ _).mono (fun r h c => ?_) (Cert.AdamGateRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamGateRefIdeal.Read.val_main_v24_eq _ _ _ _).trans ?_
    rw [g0, g1, g2, g3]
    exact reference4 _ _ _ _
  · refine Eq.trans ?_ (final5 m c).symm
    refine (Cert.AdamGateRefIdeal.Read.val_main_v25_eq _ _).trans ?_
    rw [g1, g2]
    exact reference5 _ _
  · refine Eq.trans ?_ (final6 m c).symm
    refine (Cert.AdamGateRefIdeal.Read.val_main_v26_eq _ _).trans ?_
    rw [g1, g3]
    exact reference6 _ _

end Cert.Proof.AdamGate

end
-- ==== Proof.AdamProjClaims.lean ====
/-
  `adamw_ple_w_proj`: AdamW's step for the weight `ple_w_proj`, at one device's part of it. The call reads the four arrays as matrices of 512 rows;
  each grid point leaves its rows of the three results (`block4` … `block6`), which tile them (`final4` … `final6`). The reference takes the
  same step on the arrays as they are. The claims hold for all arguments.
-/
module

public import proofs.«01_k».proof.Defs
public import proofs.«01_k».proof.Proof.Adam
public import proofs.«01_k».proof.Proof.Gen.AdamProj.Frame
public import proofs.«01_k».proof.Proof.Gen.AdamProjIdeal.Value
public import proofs.«01_k».proof.Proof.Gen.AdamProjRefIdeal.Run
public import proofs.«01_k».proof.Proof.Gen.AdamProjRefIdeal.Read
public import Idealize.ShloMosaic.Lib.Quiescent
public import Idealize.ShloMosaic.Lib.Pointwise

@[expose] public section

set_option maxRecDepth 16384

noncomputable section

namespace Cert.Proof.AdamProj

open Cert.AdamProjIdeal Cert.AdamProjIdeal.Gen Cert.Adam
open Idealize.ShloMosaic Idealize.ShloMosaic.TcCoe Idealize.SL.Sem
open Idealize.ShloMosaic.Pipeline (Dat)

section kernel

theorem hz : (![0, 0] : Fin 2 → Nat) = fun _ => 0 := funext fun a => by fin_cases a <;> rfl

section block

variable (x0 x1 x2 x3 : Vec Ideal S512x256 .f32) (p : Fin 512) (q : Fin 256)

theorem block4 : out0_4 (F := Ideal) x0 x1 x2 x3 (ix2 p q) = change (x0 (ix2 p q)) (x1 (ix2 p q)) (x2 (ix2 p q)) (x3 (ix2 p q)) := by
  unfold out0_4 change first second
  rw [View.canon_unit_zero hz]
  simp only [View.ld_unit_zero (S := S512x256) hz]
  pointwise [k0_pay4, k0_pay3, k0_pay2, k0_pay1]

theorem block5 : out0_5 (F := Ideal) x0 x1 x2 x3 (ix2 p q) = first (x1 (ix2 p q)) (x2 (ix2 p q)) := by
  unfold out0_5 first
  rw [View.canon_unit_zero hz]
  simp only [View.ld_unit_zero (S := S512x256) hz]
  pointwise [k0_pay2, k0_pay1]

theorem block6 : out0_6 (F := Ideal) x0 x1 x2 x3 (ix2 p q) = second (x1 (ix2 p q)) (x3 (ix2 p q)) := by
  unfold out0_6 second
  rw [View.canon_unit_zero hz]
  simp only [View.ld_unit_zero (S := S512x256) hz]
  pointwise [k0_pay3, k0_pay1]

end block

variable (m : (ℓ : Loc nD τ sig) → Buf (Elt Ideal) ℓ) (c : Dev nD)

theorem hN : cfg0.N = 1 := N_0

/-- The arguments as the call reads them: the weight, its gradient, its moments. -/
def arg0 : S512x256.Idx → EReal := shapeCast S512x256 (m ((c : Thread nD τ).loc main_arg0)) shapeCasts_S2x256x256_S512x256
def arg1 : S512x256.Idx → EReal := shapeCast S512x256 (m ((c : Thread nD τ).loc main_arg1)) shapeCasts_S2x256x256_S512x256
def arg2 : S512x256.Idx → EReal := shapeCast S512x256 (m ((c : Thread nD τ).loc main_arg2)) shapeCasts_S2x256x256_S512x256
def arg3 : S512x256.Idx → EReal := shapeCast S512x256 (m ((c : Thread nD τ).loc main_arg3)) shapeCasts_S2x256x256_S512x256

/-- The row of the arrays that is row `p` of the blocks at point `t`. -/
abbrev row (t : Fin cfg0.N) (p : Fin 512) : Fin 512 := ⟨512 * t.val + p.val, by have := t.isLt.trans_eq hN; omega⟩

/-- Which block each window shows at grid point `t`. -/
theorem at0 : Rows win0_0.index := by decide +kernel
theorem at1 : Rows win0_1.index := by decide +kernel
theorem at2 : Rows win0_2.index := by decide +kernel
theorem at3 : Rows win0_3.index := by decide +kernel
theorem at4 : Rows win0_4.index := by decide +kernel
theorem at5 : Rows win0_5.index := by decide +kernel
theorem at6 : Rows win0_6.index := by decide +kernel

theorem V_v0 : V m c main_v0 = arg0 m c := by
  unfold arg0; unfold_abbrev_sides; after_results; rfl

theorem read0 (t : Fin cfg0.N) (i : S512x256.Idx) : iblk m c 0 t i = arg0 m c (ix2 (row t (i 0)) (i 1)) := by
  rw [← V_v0 m c]; unfold iblk; rw [View.read_apply]
  show V m c main_v0 _ = V m c main_v0 _
  congr 1; funext b; apply Fin.ext
  match b with
  | ⟨0, _⟩ => exact (row_at 512 (i 0).val (at0 t).1 :)
  | ⟨1, _⟩ => exact (col_at 256 (i 1).val (at0 t).2 :)

theorem V_v1 : V m c main_v1 = arg1 m c := by
  unfold arg1; unfold_abbrev_sides; after_results; rfl

theorem read1 (t : Fin cfg0.N) (i : S512x256.Idx) : iblk m c 1 t i = arg1 m c (ix2 (row t (i 0)) (i 1)) := by
  rw [← V_v1 m c]; unfold iblk; rw [View.read_apply]
  show V m c main_v1 _ = V m c main_v1 _
  congr 1; funext b; apply Fin.ext
  match b with
  | ⟨0, _⟩ => exact (row_at 512 (i 0).val (at1 t).1 :)
  | ⟨1, _⟩ => exact (col_at 256 (i 1).val (at1 t).2 :)

theorem V_v2 : V m c main_v2 = arg2 m c := by
  unfold arg2; unfold_abbrev_sides; after_results; rfl

theorem read2 (t : Fin cfg0.N) (i : S512x256.Idx) : iblk m c 2 t i = arg2 m c (ix2 (row t (i 0)) (i 1)) := by
  rw [← V_v2 m c]; unfold iblk; rw [View.read_apply]
  show V m c main_v2 _ = V m c main_v2 _
  congr 1; funext b; apply Fin.ext
  match b with
  | ⟨0, _⟩ => exact (row_at 512 (i 0).val (at2 t).1 :)
  | ⟨1, _⟩ => exact (col_at 256 (i 1).val (at2 t).2 :)

theorem V_v3 : V m c main_v3 = arg3 m c := by
  unfold arg3; unfold_abbrev_sides; after_results; rfl

theorem read3 (t : Fin cfg0.N) (i : S512x256.Idx) : iblk m c 3 t i = arg3 m c (ix2 (row t (i 0)) (i 1)) := by
  rw [← V_v3 m c]; unfold iblk; rw [View.read_apply]
  show V m c main_v3 _ = V m c main_v3 _
  congr 1; funext b; apply Fin.ext
  match b with
  | ⟨0, _⟩ => exact (row_at 512 (i 0).val (at3 t).1 :)
  | ⟨1, _⟩ => exact (col_at 256 (i 1).val (at3 t).2 :)

/-- The change of the weight, at an index of the matrix. -/
def value4 (i : S512x256.Idx) : EReal := change (arg0 m c i) (arg1 m c i) (arg2 m c i) (arg3 m c i)

theorem block_eq4 (t : Fin cfg0.N) (i : S512x256.Idx) :
    out0_4 (F := Ideal) (iblk m c 0 t) (iblk m c 1 t) (iblk m c 2 t) (iblk m c 3 t) i = value4 m c (ix2 (row t (i 0)) (i 1)) := by
  rw [eq_ix2 i]
  refine (block4 _ _ _ _ (i 0) (i 1)).trans ?_
  exact congr (congr (congr (congrArg change (read0 m c t _)) (read1 m c t _)) (read2 m c t _)) (read3 m c t _)

theorem final4 : (dats m 0 c).arrAt 4 cfg0.N = value4 m c := by
  refine (dats m 0 c).arrAt_eq_of_cover 4 _ (fun t _ => ?_) fun i => ?_
  · rw [Value.flushed4]
    funext j
    rw [View.read_apply]
    refine (block_eq4 m c t j).trans ?_
    show _ = value4 m c _
    congr 1; funext b; apply Fin.ext
    match b with
    | ⟨0, _⟩ => exact (row_at 512 (j 0).val (at4 t).1 :).symm
    | ⟨1, _⟩ => exact (col_at 256 (j 1).val (at4 t).2 :).symm
  · have ht : (i 0 : Nat) / 512 < cfg0.N := by have := hN; have : (i 0 : Nat) < 512 := (i 0).isLt; omega
    refine ⟨⟨(i 0 : Nat) / 512, ht⟩, flush0_4 _, ?_⟩
    show i ∈ ((View.whole main_v4_0).slice (win0_4.rect ⟨(i 0 : Nat) / 512, ht⟩)).set
    rw [View.set_slice_whole, Rect.mem_set_unit]
    intro b
    match b with
    | ⟨0, _⟩ => exact (in_rows 512 (i 0) (by decide) (at4 ⟨_, ht⟩).1 :)
    | ⟨1, _⟩ => exact (in_cols (at4 ⟨_, ht⟩).2 (i 1).isLt :)

/-- The new first moment, at an index of the matrix. -/
def value5 (i : S512x256.Idx) : EReal := first (arg1 m c i) (arg2 m c i)

theorem block_eq5 (t : Fin cfg0.N) (i : S512x256.Idx) :
    out0_5 (F := Ideal) (iblk m c 0 t) (iblk m c 1 t) (iblk m c 2 t) (iblk m c 3 t) i = value5 m c (ix2 (row t (i 0)) (i 1)) := by
  rw [eq_ix2 i]
  refine (block5 _ _ _ _ (i 0) (i 1)).trans ?_
  exact congr (congrArg first (read1 m c t _)) (read2 m c t _)

theorem final5 : (dats m 0 c).arrAt 5 cfg0.N = value5 m c := by
  refine (dats m 0 c).arrAt_eq_of_cover 5 _ (fun t _ => ?_) fun i => ?_
  · rw [Value.flushed5]
    funext j
    rw [View.read_apply]
    refine (block_eq5 m c t j).trans ?_
    show _ = value5 m c _
    congr 1; funext b; apply Fin.ext
    match b with
    | ⟨0, _⟩ => exact (row_at 512 (j 0).val (at5 t).1 :).symm
    | ⟨1, _⟩ => exact (col_at 256 (j 1).val (at5 t).2 :).symm
  · have ht : (i 0 : Nat) / 512 < cfg0.N := by have := hN; have : (i 0 : Nat) < 512 := (i 0).isLt; omega
    refine ⟨⟨(i 0 : Nat) / 512, ht⟩, flush0_5 _, ?_⟩
    show i ∈ ((View.whole main_v4_1).slice (win0_5.rect ⟨(i 0 : Nat) / 512, ht⟩)).set
    rw [View.set_slice_whole, Rect.mem_set_unit]
    intro b
    match b with
    | ⟨0, _⟩ => exact (in_rows 512 (i 0) (by decide) (at5 ⟨_, ht⟩).1 :)
    | ⟨1, _⟩ => exact (in_cols (at5 ⟨_, ht⟩).2 (i 1).isLt :)

/-- The new second moment, at an index of the matrix. -/
def value6 (i : S512x256.Idx) : EReal := second (arg1 m c i) (arg3 m c i)

theorem block_eq6 (t : Fin cfg0.N) (i : S512x256.Idx) :
    out0_6 (F := Ideal) (iblk m c 0 t) (iblk m c 1 t) (iblk m c 2 t) (iblk m c 3 t) i = value6 m c (ix2 (row t (i 0)) (i 1)) := by
  rw [eq_ix2 i]
  refine (block6 _ _ _ _ (i 0) (i 1)).trans ?_
  exact congr (congrArg second (read1 m c t _)) (read3 m c t _)

theorem final6 : (dats m 0 c).arrAt 6 cfg0.N = value6 m c := by
  refine (dats m 0 c).arrAt_eq_of_cover 6 _ (fun t _ => ?_) fun i => ?_
  · rw [Value.flushed6]
    funext j
    rw [View.read_apply]
    refine (block_eq6 m c t j).trans ?_
    show _ = value6 m c _
    congr 1; funext b; apply Fin.ext
    match b with
    | ⟨0, _⟩ => exact (row_at 512 (j 0).val (at6 t).1 :).symm
    | ⟨1, _⟩ => exact (col_at 256 (j 1).val (at6 t).2 :).symm
  · have ht : (i 0 : Nat) / 512 < cfg0.N := by have := hN; have : (i 0 : Nat) < 512 := (i 0).isLt; omega
    refine ⟨⟨(i 0 : Nat) / 512, ht⟩, flush0_6 _, ?_⟩
    show i ∈ ((View.whole main_v4_2).slice (win0_6.rect ⟨(i 0 : Nat) / 512, ht⟩)).set
    rw [View.set_slice_whole, Rect.mem_set_unit]
    intro b
    match b with
    | ⟨0, _⟩ => exact (in_rows 512 (i 0) (by decide) (at6 ⟨_, ht⟩).1 :)
    | ⟨1, _⟩ => exact (in_cols (at6 ⟨_, ht⟩).2 (i 1).isLt :)

end kernel

/-! ## The claims -/

theorem frame : Cert.quiescent_AdamProj := fun m ρ _ => Cert.AdamProj.Gen.frame m ρ
theorem frame_ideal : Cert.quiescent_AdamProjIdeal := fun m ρ _ => Cert.AdamProjIdeal.Gen.frame m ρ

/-- The reference's run, read at its arguments; it declares no semaphore. -/
theorem frame_ref : Cert.quiescent_AdamProjRefIdeal := fun m ρ _ =>
  (θ_run Cert.AdamProjRefIdeal.defs _ _).mono
    (fun r h => ⟨fun c => (h c).2.2.2, Idealize.ShloMosaic.sem_eq_zero_of_no_sems (by decide) r.2⟩)
    (Cert.AdamProjRefIdeal.Value.run (F := Ideal) m ρ)

section reference

variable (x0 x1 x2 x3 : S2x256x256.Idx → EReal)

/-- The reference's step, place by place; the reshape to a matrix comes after it. -/
theorem reference4 : Cert.AdamProjRefIdeal.Read.val_main_v24 (F := Ideal) x0 x1 x2 x3
    = shapeCast S512x256 (fun j => change (x0 j) (x1 j) (x2 j) (x3 j) : S2x256x256.Idx → EReal) shapeCasts_S2x256x256_S512x256 := by
  unfold Cert.AdamProjRefIdeal.Read.val_main_v24
  congr 1

theorem reference5 : Cert.AdamProjRefIdeal.Read.val_main_v25 (F := Ideal) x1 x2
    = shapeCast S512x256 (fun j => first (x1 j) (x2 j) : S2x256x256.Idx → EReal) shapeCasts_S2x256x256_S512x256 := by
  unfold Cert.AdamProjRefIdeal.Read.val_main_v25
  congr 1

theorem reference6 : Cert.AdamProjRefIdeal.Read.val_main_v26 (F := Ideal) x1 x3
    = shapeCast S512x256 (fun j => second (x1 j) (x3 j) : S2x256x256.Idx → EReal) shapeCasts_S2x256x256_S512x256 := by
  unfold Cert.AdamProjRefIdeal.Read.val_main_v26
  congr 1

end reference

/-- The two programs end with the same arrays. -/
theorem algebraic : Cert.algebraic_AdamProjIdeal_AdamProjRefIdeal := by
  intro m ρ m' ρ' hpre hagree
  refine ⟨_, _, _, Value.run_blocks m ρ, ?_⟩
  refine (θ_run Cert.AdamProjRefIdeal.defs _ _).mono (fun r h c => ?_) (Cert.AdamProjRefIdeal.Value.run (F := Ideal) m' ρ')
  obtain ⟨g0, g1, g2, g3⟩ := hagree c
  refine ⟨(h c).1.trans ?_, (h c).2.1.trans ?_, (h c).2.2.1.trans ?_, (h c).2.2.2⟩
  · refine Eq.trans ?_ (final4 m c).symm
    refine (Cert.AdamProjRefIdeal.Read.val_main_v24_eq _ _ _ _).trans ?_
    rw [g0, g1, g2, g3]
    exact reference4 _ _ _ _
  · refine Eq.trans ?_ (final5 m c).symm
    refine (Cert.AdamProjRefIdeal.Read.val_main_v25_eq _ _).trans ?_
    rw [g1, g2]
    exact reference5 _ _
  · refine Eq.trans ?_ (final6 m c).symm
    refine (Cert.AdamProjRefIdeal.Read.val_main_v26_eq _ _).trans ?_
    rw [g1, g3]
    exact reference6 _ _

end Cert.Proof.AdamProj

end
-- ==== Proof.LossBlock.lean ====
/-
  ONE BLOCK of `loss_head` (512 rows of the stream): what a grid point leaves in its three output buffers, first as the
  program's own terms over its input blocks, then, for input blocks of reals, as real formulas — the block's part of the
  loss, the gradient rows of `NormMath.dRow`, and the block's part of the gradient of `g`.
-/
module

public import proofs.«01_k».proof.Proof.NormMath
public import proofs.«01_k».proof.Proof.Gen.LossHeadIdeal.Value
public import Idealize.ShloMosaic.Lib.Pointwise

@[expose] public section

set_option maxRecDepth 16384

noncomputable section

namespace Cert.LossHeadIdeal.Block

open Cert.LossHeadIdeal Cert.LossHeadIdeal.Gen Cert.Reals Cert.NormMath
open Idealize.ShloMosaic Idealize.ShloMosaic.TcCoe Idealize.SL.Sem
open scoped BigOperators

section Terms

variable {F : FTy → Type} [FloatOps F]

theorem hz : (![0, 0] : Fin 2 → Nat) = fun _ => 0 := funext fun a => by fin_cases a <;> rfl

/-- The rows a point leaves in the second output, of its blocks: of the stream `x`, the scale `g`, the target `t`. -/
def rows (x : Vec F S512x1024 .f32) (g : Vec F S1x1024 .f32) (t : Vec F S512x1024 .f32) : Vec F S512x1024 .f32 :=
  k0_pay2 (k0_pay5 x) (k0_pay6 x) (k0_pay9 x g t) g

/-- What a point leaves in the third output, which held `o`. -/
def scale (x : Vec F S512x1024 .f32) (g : Vec F S1x1024 .f32) (t : Vec F S512x1024 .f32) (o : Vec F S1x1024 .f32) :
    Vec F S1x1024 .f32 :=
  k0_pay1 (k0_pay6 x) (k0_pay9 x g t) o

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S1x1 .f32) (h4 : a4.IsWhole) (a5 : Memref sig .tc .vmem S512x1024 .f32) (h5 : a5.IsWhole)
  (a6 : Memref sig .tc .vmem S1x1024 .f32) (h6 : a6.IsWhole)
  (x0 : Vec F S512x1024 .f32) (x1 : Vec F S1x1024 .f32) (x2 : Vec F S512x1024 .f32)
  (o3 : Vec F S1x1 .f32) (o5 : Vec F S1x1024 .f32)

/-- At a later point, the first output holds what it held, plus the block's part of the loss. -/
theorem out_B_3 (hc : ¬cond0_0 i) :
    out0_B_3 c i a1 h1 a2 h2 a3 h3 a4 h4 a5 h5 a6 h6 hc x0 x1 x2 o3 o5 = k0_pay8 x0 x1 x2 o3 := by
  unfold out0_B_3
  rw [View.read_writes_eq_canon _ _ _ (cover0_B_3 c i a1 h1 a2 h2 a3 h3 a4 h4 a5 h5 a6 h6 hc x0 x1 x2 o3 o5)]
  unfold kernelRun0_B; dsimp only; sl_unfold_words
  rw [View.canon_unit_zero hz]
  simp only [View.readAt_eq_ld, h1.read_unread, h2.read_unread, h3.read_unread, h4.read_unread, h6.read_unread,
    View.ld_unit_zero (S := S512x1024) hz, View.ld_unit_zero (S := S1x1024) hz, View.ld_unit_zero (S := S1x1) hz]

/-- At the first point, zero plus the block's part. -/
theorem out_A_3 (hc : cond0_0 i) :
    out0_A_3 c i a1 h1 a2 h2 a3 h3 a4 h4 a5 h5 a6 h6 hc x0 x1 x2 = k0_pay8 x0 x1 x2 k0_pay3 := by
  unfold out0_A_3
  rw [View.read_writes_eq_canon _ _ _ (cover0_A_3 c i a1 h1 a2 h2 a3 h3 a4 h4 a5 h5 a6 h6 hc x0 x1 x2)]
  unfold kernelRun0_A; dsimp only; sl_unfold_words
  rw [View.canon_cons_unit_zero (S := S1x1) hz, View.readCov_unit_zero (S := S1x1) _ hz]
  simp only [View.readAt_eq_ld, h1.read_unread, h2.read_unread, h3.read_unread,
    View.ld_unit_zero (S := S512x1024) hz, View.ld_unit_zero (S := S1x1024) hz, View.ld_unit_zero (S := S1x1) hz]

/-- At a later point, the second output holds `rows`. -/
theorem out_B_4 (hc : ¬cond0_0 i) :
    out0_B_4 c i a1 h1 a2 h2 a3 h3 a4 h4 a5 h5 a6 h6 hc x0 x1 x2 o3 o5 = rows x0 x1 x2 := by
  unfold out0_B_4 rows
  rw [View.read_writes_eq_canon _ _ _ (cover0_B_4 c i a1 h1 a2 h2 a3 h3 a4 h4 a5 h5 a6 h6 hc x0 x1 x2 o3 o5)]
  unfold kernelRun0_B; dsimp only; sl_unfold_words
  rw [View.canon_unit_zero hz]
  simp only [View.readAt_eq_ld, h1.read_unread, h2.read_unread, h3.read_unread,
    View.ld_unit_zero (S := S512x1024) hz, View.ld_unit_zero (S := S1x1024) hz]

/-- At the first point, too. -/
theorem out_A_4 (hc : cond0_0 i) :
    out0_A_4 c i a1 h1 a2 h2 a3 h3 a4 h4 a5 h5 a6 h6 hc x0 x1 x2 = rows x0 x1 x2 := by
  unfold out0_A_4 rows
  rw [View.read_writes_eq_canon _ _ _ (cover0_A_4 c i a1 h1 a2 h2 a3 h3 a4 h4 a5 h5 a6 h6 hc x0 x1 x2)]
  unfold kernelRun0_A; dsimp only; sl_unfold_words
  rw [View.canon_unit_zero hz]
  simp only [View.readAt_eq_ld, h1.read_unread, h2.read_unread, h3.read_unread,
    View.ld_unit_zero (S := S512x1024) hz, View.ld_unit_zero (S := S1x1024) hz]

/-- At a later point, the third output holds what it held, plus the block's part of the gradient of `g`. -/
theorem out_B_5 (hc : ¬cond0_0 i) :
    out0_B_5 c i a1 h1 a2 h2 a3 h3 a4 h4 a5 h5 a6 h6 hc x0 x1 x2 o3 o5 = scale x0 x1 x2 o5 := by
  unfold out0_B_5 scale
  rw [View.read_writes_eq_canon _ _ _ (cover0_B_5 c i a1 h1 a2 h2 a3 h3 a4 h4 a5 h5 a6 h6 hc x0 x1 x2 o3 o5)]
  unfold kernelRun0_B; dsimp only; sl_unfold_words
  rw [View.canon_unit_zero hz]
  simp only [View.readAt_eq_ld, h1.read_unread, h2.read_unread, h3.read_unread, h4.read_unread, h6.read_unread,
    View.ld_unit_zero (S := S512x1024) hz, View.ld_unit_zero (S := S1x1024) hz]

/-- At the first point, zero plus the block's part. -/
theorem out_A_5 (hc : cond0_0 i) :
    out0_A_5 c i a1 h1 a2 h2 a3 h3 a4 h4 a5 h5 a6 h6 hc x0 x1 x2 = scale x0 x1 x2 k0_pay4 := by
  unfold out0_A_5 scale
  rw [View.read_writes_eq_canon _ _ _ (cover0_A_5 c i a1 h1 a2 h2 a3 h3 a4 h4 a5 h5 a6 h6 hc x0 x1 x2)]
  unfold kernelRun0_A; dsimp only; sl_unfold_words
  rw [View.canon_cons_unit_zero (S := S1x1024) hz, View.readCov_unit_zero (S := S1x1024) _ hz]
  simp only [View.readAt_eq_ld, h1.read_unread, h2.read_unread, h3.read_unread,
    View.ld_unit_zero (S := S512x1024) hz, View.ld_unit_zero (S := S1x1024) hz]

end Terms

/-! ## At blocks of reals -/

/-- The error of one row at one feature: the normed row with its scale, less the target. -/
def err (x g t : Fin 1024 → ℝ) (j : Fin 1024) : ℝ := x j * rinv x * g j - t j

/-- The mean square error of one row. -/
def mse (x g t : Fin 1024 → ℝ) : ℝ := (∑ j, err x g t j * err x g t j) / 1024

variable (x : S512x1024.Idx → ℝ) (g : S1x1024.Idx → ℝ) (t : S512x1024.Idx → ℝ)

/-- The error of the block's row `p`. -/
abbrev errB (p : Fin 512) : Fin 1024 → ℝ := err (fun k => x (ix2 p k)) (fun k => g (ix2 0 k)) (fun k => t (ix2 p k))

theorem pay5 (p : Fin 512) :
    k0_pay5 (F := Ideal) (fun i => (x i : EReal)) (ix2 p 0) = ((rinv (fun k => x (ix2 p k)) : ℝ) : EReal) := by
  pointwise [k0_pay5]
  simp only [← EReal.coe_mul, coe_sum, lit_1024, lit_eps]
  rw [div_coe _ _ (by norm_num), ← EReal.coe_add]
  exact rsqrt_coe _ (msq_pos fun k => x (ix2 p k))

theorem pay7 (p : Fin 512) (j : Fin 1024) :
    k0_pay7 (F := Ideal) (fun i => (x i : EReal)) (fun i => (g i : EReal)) (fun i => (t i : EReal)) (ix2 p j)
      = ((errB x g t p j : ℝ) : EReal) := by
  unfold errB err
  pointwise [k0_pay7, k0_pay6]
  simp only [pay5, ← EReal.coe_mul, ← EReal.coe_sub]

/-- The gradient rows: `dRow` of the row's error over the number of features. -/
theorem rows_apply (p : Fin 512) (j : Fin 1024) :
    rows (F := Ideal) (fun i => (x i : EReal)) (fun i => (g i : EReal)) (fun i => (t i : EReal)) (ix2 p j)
      = ((dRow (fun k => errB x g t p k / 1024) (fun k => x (ix2 p k)) (fun k => g (ix2 0 k)) (fun _ => 0) j : ℝ) : EReal) := by
  unfold dRow
  pointwise [rows, k0_pay2, k0_pay6, k0_pay9]
  simp only [pay7, pay5, lit_1024, div_coe _ _ (show (1024 : ℝ) ≠ 0 by norm_num), ← EReal.coe_mul, coe_sum, ← EReal.coe_sub,
    zero_add]

/-- The block's part of the gradient of `g`, added to what the accumulator `o` holds. -/
theorem scale_apply (o : S1x1024.Idx → ℝ) (j : Fin 1024) :
    scale (F := Ideal) (fun i => (x i : EReal)) (fun i => (g i : EReal)) (fun i => (t i : EReal)) (fun i => (o i : EReal))
        (ix2 0 j)
      = ((o (ix2 0 j) + ∑ p : Fin 512, errB x g t p j / 1024 * (x (ix2 p j) * rinv (fun k => x (ix2 p k))) : ℝ) : EReal) := by
  pointwise [scale, k0_pay1, k0_pay6, k0_pay9]
  simp only [pay7, pay5, lit_1024, div_coe _ _ (show (1024 : ℝ) ≠ 0 by norm_num), ← EReal.coe_mul, coe_sum, ← EReal.coe_add]

/-- The block's part of the loss, added to what the accumulator `o` holds. -/
theorem loss_apply (o : S1x1.Idx → ℝ) :
    k0_pay8 (F := Ideal) (fun i => (x i : EReal)) (fun i => (g i : EReal)) (fun i => (t i : EReal)) (fun i => (o i : EReal))
        (ix2 0 0)
      = ((o (ix2 0 0) + 1 / 2 * ∑ p : Fin 512, mse (fun k => x (ix2 p k)) (fun k => g (ix2 0 k)) (fun k => t (ix2 p k)) : ℝ) : EReal) := by
  unfold mse
  pointwise [k0_pay8]
  simp only [pay7, lit_1024, lit_half, div_coe _ _ (show (1024 : ℝ) ≠ 0 by norm_num), ← EReal.coe_mul, coe_sum, ← EReal.coe_add]

/-- The accumulators start at zero. -/
theorem zero_loss : k0_pay3 (F := Ideal) = fun _ => ((0 : ℝ) : EReal) := by
  funext i
  pointwise [k0_pay3]
  exact EReal.coe_zero.symm

theorem zero_scale : k0_pay4 (F := Ideal) = fun _ => ((0 : ℝ) : EReal) := by
  funext i
  pointwise [k0_pay4]
  exact EReal.coe_zero.symm

end Cert.LossHeadIdeal.Block

end
-- ==== Proof.LossArray.lean ====
/-
  THE ARRAYS of `loss_head`, for arguments of reals: the blocks a grid point reads are rows `512 t + p` of the arguments; the
  first output holds, after the last of the 16 points, the loss; the second ends holding, row by row, the gradient of the
  stream (`NormMath.dRow`); the third, after the last point, the sum over all 8192 rows that is the gradient of `g`.
-/
module

public import proofs.«01_k».proof.Proof.LossBlock

@[expose] public section

set_option maxRecDepth 16384

noncomputable section

namespace Cert.LossHeadIdeal.Arrays

open Cert.LossHeadIdeal Cert.LossHeadIdeal.Gen Cert.LossHeadIdeal.Block Cert.Reals Cert.NormMath
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

theorem hN : cfg0.N = 16 := N_0

/-- Row `p` of block `t`. -/
abbrev row (t : Fin cfg0.N) (p : Fin 512) : Fin 8192 :=
  ⟨512 * t.val + p.val, by have := t.isLt.trans_eq hN; omega⟩

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)

theorem read0 (t : Fin cfg0.N) (i : S512x1024.Idx) :
    iblk m c 0 t i = m ((c : Thread nD τ).loc main_arg0) (ix2 (row t (i 0)) (i 1)) := by
  rw [← V_main_arg0 m c]; unfold iblk; rw [View.read_apply]
  show V m c main_arg0 _ = V m c main_arg0 _
  congr 1; funext b; apply Fin.ext
  match b with
  | ⟨0, _⟩ => show win0_0.index t 0 * 512 + 1 * (i 0).val = 512 * t.val + (i 0).val; rw [(at0 t).1]; omega
  | ⟨1, _⟩ => show win0_0.index t 1 * 1024 + 1 * (i 1).val = (i 1).val; rw [(at0 t).2]; omega

theorem read2 (t : Fin cfg0.N) (i : S512x1024.Idx) :
    iblk m c 2 t i = m ((c : Thread nD τ).loc main_arg2) (ix2 (row t (i 0)) (i 1)) := by
  rw [← V_main_arg2 m c]; unfold iblk; rw [View.read_apply]
  show V m c main_arg2 _ = V m c main_arg2 _
  congr 1; funext b; apply Fin.ext
  match b with
  | ⟨0, _⟩ => show win0_2.index t 0 * 512 + 1 * (i 0).val = 512 * t.val + (i 0).val; rw [(at2 t).1]; omega
  | ⟨1, _⟩ => show win0_2.index t 1 * 1024 + 1 * (i 1).val = (i 1).val; rw [(at2 t).2]; omega

theorem V_v0 : V m c main_v0 = shapeCast _ (m ((c : Thread nD τ).loc main_arg1)) shapeCasts_S1024_S1x1024 := by
  unfold_abbrev_sides; after_results; rfl

theorem read1 (t : Fin cfg0.N) (i : S1x1024.Idx) :
    iblk m c 1 t i = m ((c : Thread nD τ).loc main_arg1) (ix1 (i 1)) := by
  unfold iblk; rw [View.read_apply]
  have h0 : (i 0).val = 0 := by have : (i 0).val < 1 := (i 0).isLt; omega
  show V m c main_v0 _ = _
  rw [V_v0]
  refine shapeCast_apply _ shapeCasts_S1024_S1x1024 _ (ix1 (i 1)) ?_
  rewrite [Shape.rowMajor_val_one, Shape.rowMajor_val_two]
  show (i 1).val = (win0_1.index t 0 * 1 + 1 * (i 0).val) * 1024 + (win0_1.index t 1 * 1024 + 1 * (i 1).val)
  rw [(at1 t).1, (at1 t).2]; omega

/-! ## For arguments of reals -/

/-- The arguments are arrays of reals: the stream, the scale of its norm, and the target. -/
structure Args (X : S8192x1024.Idx → ℝ) (G : S1024.Idx → ℝ) (T : S8192x1024.Idx → ℝ) : Prop where
  a0 : m ((c : Thread nD τ).loc main_arg0) = fun i => (X i : EReal)
  a1 : m ((c : Thread nD τ).loc main_arg1) = fun i => (G i : EReal)
  a2 : m ((c : Thread nD τ).loc main_arg2) = fun i => (T i : EReal)

variable (X : S8192x1024.Idx → ℝ) (G : S1024.Idx → ℝ) (T : S8192x1024.Idx → ℝ)

/-- The error: the normed stream less the target. -/
def ERR (p : Fin 8192) (j : Fin 1024) : ℝ :=
  err (fun k => X (ix2 p k)) (fun k => G (ix1 k)) (fun k => T (ix2 p k)) j

/-- The mean square error of row `p`. -/
def MSE (p : Fin 8192) : ℝ := mse (fun k => X (ix2 p k)) (fun k => G (ix1 k)) (fun k => T (ix2 p k))

/-- The loss: half the sum over the rows of their mean square errors. -/
def LOSS : ℝ := 1 / 2 * ∑ p : Fin 8192, MSE X G T p

/-- The gradient of the stream. -/
def DH (p : Fin 8192) (j : Fin 1024) : ℝ :=
  dRow (fun k => ERR X G T p k / 1024) (fun k => X (ix2 p k)) (fun k => G (ix1 k)) (fun _ => 0) j

/-- Row `p`'s part of the gradient of the scale. -/
def DGpart (p : Fin 8192) (j : Fin 1024) : ℝ := ERR X G T p j / 1024 * (X (ix2 p j) * rinv (fun k => X (ix2 p k)))

/-- The gradient of the scale. -/
def DG (j : Fin 1024) : ℝ := ∑ p : Fin 8192, DGpart X G T p j

/-- The blocks of point `t`. -/
def blkX (t : Fin cfg0.N) : S512x1024.Idx → ℝ := fun i => X (ix2 (row t (i 0)) (i 1))
def blkG : S1x1024.Idx → ℝ := fun i => G (ix1 (i 1))

/-- Row `p` of block `t`, a block not past block `n`. -/
abbrev rowTo {n : ℕ} (hn : n < cfg0.N) (t : Fin (n + 1)) (p : Fin 512) : Fin 8192 :=
  row ⟨t.val, lt_of_le_of_lt (Nat.le_of_lt_succ t.isLt) hn⟩ p

variable {m c X G T}

/-- What a point reads, for such arguments. -/
theorem blocks_eq (h : Args m c X G T) (t : Fin cfg0.N) :
    iblk m c 0 t = (fun i => (blkX X t i : EReal)) ∧ iblk m c 1 t = (fun i => (blkG G i : EReal))
      ∧ iblk m c 2 t = (fun i => (blkX T t i : EReal)) :=
  ⟨funext fun i => by rw [read0, h.a0]; rfl, funext fun i => by rw [read1, h.a1]; rfl,
    funext fun i => by rw [read2, h.a2]; rfl⟩

/-- The rows a point leaves in the second output are its rows of the gradient of the stream. -/
theorem rows_eq (h : Args m c X G T) (t : Fin cfg0.N) (i : S512x1024.Idx) :
    rows (F := Ideal) (iblk m c 0 t) (iblk m c 1 t) (iblk m c 2 t) i = ((DH X G T (row t (i 0)) (i 1) : ℝ) : EReal) := by
  obtain ⟨e0, e1, e2⟩ := blocks_eq h t
  have hi : i = ix2 (i 0) (i 1) := by funext b; match b with | ⟨0, _⟩ => rfl | ⟨1, _⟩ => rfl
  rw [show rows (F := Ideal) (iblk m c 0 t) (iblk m c 1 t) (iblk m c 2 t)
    = rows (F := Ideal) (fun i => (blkX X t i : EReal)) (fun i => (blkG G i : EReal)) (fun i => (blkX T t i : EReal)) by
      rw [e0, e1, e2]]
  exact (congrArg _ hi).trans (rows_apply (blkX X t) (blkG G) (blkX T t) (i 0) (i 1))

/-- What a point adds to the third output: its rows' parts. -/
theorem scale_eq (h : Args m c X G T) (t : Fin cfg0.N) (o : S1x1024.Idx → ℝ) (i : S1x1024.Idx) :
    scale (F := Ideal) (iblk m c 0 t) (iblk m c 1 t) (iblk m c 2 t) (fun i => (o i : EReal)) i
      = ((o i + ∑ p : Fin 512, DGpart X G T (row t p) (i 1) : ℝ) : EReal) := by
  obtain ⟨e0, e1, e2⟩ := blocks_eq h t
  have hi : i = ix2 0 (i 1) := by
    funext b; match b with | ⟨0, _⟩ => exact Subsingleton.elim (α := Fin 1) _ _ | ⟨1, _⟩ => rfl
  rw [show scale (F := Ideal) (iblk m c 0 t) (iblk m c 1 t) (iblk m c 2 t) (fun i => (o i : EReal))
    = scale (F := Ideal) (fun i => (blkX X t i : EReal)) (fun i => (blkG G i : EReal)) (fun i => (blkX T t i : EReal))
      (fun i => (o i : EReal)) by rw [e0, e1, e2]]
  refine (congrArg _ hi).trans ((scale_apply (blkX X t) (blkG G) (blkX T t) o (i 1)).trans ?_)
  rw [show o (ix2 0 (i 1)) = o i from congrArg o hi.symm]; rfl

theorem one_idx (i : S1x1.Idx) : i = ix2 0 0 := by
  funext b; match b with | ⟨0, _⟩ => exact Subsingleton.elim (α := Fin 1) _ _ | ⟨1, _⟩ => exact Subsingleton.elim (α := Fin 1) _ _

/-- What a point adds to the first output: half its rows' mean square errors. -/
theorem loss_eq (h : Args m c X G T) (t : Fin cfg0.N) (o : S1x1.Idx → ℝ) (i : S1x1.Idx) :
    k0_pay8 (F := Ideal) (iblk m c 0 t) (iblk m c 1 t) (iblk m c 2 t) (fun i => (o i : EReal)) i
      = ((o i + 1 / 2 * ∑ p : Fin 512, MSE X G T (row t p) : ℝ) : EReal) := by
  obtain ⟨e0, e1, e2⟩ := blocks_eq h t
  rw [show k0_pay8 (F := Ideal) (iblk m c 0 t) (iblk m c 1 t) (iblk m c 2 t) (fun i => (o i : EReal))
    = k0_pay8 (F := Ideal) (fun i => (blkX X t i : EReal)) (fun i => (blkG G i : EReal)) (fun i => (blkX T t i : EReal))
      (fun i => (o i : EReal)) by rw [e0, e1, e2]]
  refine (congrArg _ (one_idx i)).trans ((loss_apply (blkX X t) (blkG G) (blkX T t) o).trans ?_)
  rw [show o (ix2 0 0) = o i from congrArg o (one_idx i).symm]; rfl

/-- What the second output's buffer holds after any point. -/
theorem outs_rows (t : Fin cfg0.N) : (outsAt0 m c t.val t.isLt).2.1
    = rows (F := Ideal) (iblk m c 0 t) (iblk m c 1 t) (iblk m c 2 t) := by
  by_cases h0 : t.val % 16 = 0
  · rw [outsAt0_A m c t h0]; dsimp only; rw [out_A_4]
  · rw [outsAt0_B m c t h0]; dsimp only; rw [out_B_4]

/-- The second output ends holding the gradient of the stream. -/
theorem final4 (h : Args m c X G T) :
    (dats m 0 c).arrAt 4 cfg0.N = fun i => ((DH X G T (i 0) (i 1) : ℝ) : EReal) := by
  refine (dats m 0 c).arrAt_eq_of_cover 4 _ (fun t _ => ?_) fun i => ?_
  · rw [Value.flushed4, outs_rows]
    funext j
    rw [View.read_apply]
    refine (rows_eq h t j).trans ?_
    show _ = (((DH X G T _ _ : ℝ) : EReal))
    congr 2 <;> apply Fin.ext
    · show 512 * t.val + (j 0).val = win0_4.index t 0 * 512 + 1 * (j 0).val; rw [(at4 t).1]; omega
    · show (j 1).val = win0_4.index t 1 * 1024 + 1 * (j 1).val; rw [(at4 t).2]; omega
  · have h0 : (i 0 : Nat) < 8192 := (i 0).isLt
    have h1 : (i 1 : Nat) < 1024 := (i 1).isLt
    have ht : (i 0 : Nat) / 512 < cfg0.N := by have := hN; omega
    refine ⟨⟨(i 0 : Nat) / 512, ht⟩, flush0_4 _, ?_⟩
    show i ∈ ((View.whole main_v1_1).slice (win0_4.rect ⟨(i 0 : Nat) / 512, ht⟩)).set
    rw [View.set_slice_whole, Rect.mem_set_unit]
    intro b
    match b with
    | ⟨0, _⟩ =>
      show win0_4.index ⟨(i 0 : Nat) / 512, ht⟩ 0 * 512 ≤ (i 0 : Nat)
        ∧ (i 0 : Nat) < win0_4.index ⟨(i 0 : Nat) / 512, ht⟩ 0 * 512 + 512
      rw [(at4 _).1]; dsimp only; omega
    | ⟨1, _⟩ =>
      show win0_4.index ⟨(i 0 : Nat) / 512, ht⟩ 1 * 1024 ≤ (i 1 : Nat)
        ∧ (i 1 : Nat) < win0_4.index ⟨(i 0 : Nat) / 512, ht⟩ 1 * 1024 + 1024
      rw [(at4 _).2]; omega

/-- What the first output's buffer holds after point `n`: the parts of the rows so far. -/
theorem outs_loss (h : Args m c X G T) : ∀ (n : ℕ) (hn : n < cfg0.N), (outsAt0 m c n hn).1
    = fun i => ((∑ t : Fin (n + 1), 1 / 2 * ∑ p : Fin 512, MSE X G T (rowTo hn t p) : ℝ) : EReal)
  | 0, hn => by
    rw [show outsAt0 m c 0 hn = _ from outsAt0_A m c ⟨0, hn⟩ rfl]
    dsimp only
    rw [out_A_3, zero_loss]
    funext i
    refine (loss_eq h ⟨0, hn⟩ (fun _ => 0) i).trans ?_
    rw [Fin.sum_univ_one, zero_add]
    rfl
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_3, show outsAt0 m c (n + 1 - 1) _ = outsAt0 m c n (Nat.lt_of_succ_lt hn) from rfl, outs_loss h n]
    funext i
    refine (loss_eq h ⟨n + 1, hn⟩ (fun i => ∑ t : Fin (n + 1), 1 / 2 * ∑ p : Fin 512, MSE X G T (rowTo (Nat.lt_of_succ_lt hn) t p)) i).trans ?_
    rw [Fin.sum_univ_castSucc (n := n + 1)]
    rfl

/-- What the third output's buffer holds after point `n`: the parts of the rows so far. -/
theorem outs_scale (h : Args m c X G T) : ∀ (n : ℕ) (hn : n < cfg0.N), (outsAt0 m c n hn).2.2
    = fun i => ((∑ t : Fin (n + 1), ∑ p : Fin 512, DGpart X G T (rowTo hn t p) (i 1) : ℝ) : EReal)
  | 0, hn => by
    rw [show outsAt0 m c 0 hn = _ from outsAt0_A m c ⟨0, hn⟩ rfl]
    dsimp only
    rw [out_A_5, zero_scale]
    funext i
    refine (scale_eq h ⟨0, hn⟩ (fun _ => 0) i).trans ?_
    rw [Fin.sum_univ_one, zero_add]
    rfl
  | n + 1, hn => by
    have hB : ¬(⟨n + 1, hn⟩ : Fin cfg0.N).val % 16 = 0 := by have := hN; dsimp only; omega
    rw [show outsAt0 m c (n + 1) hn = _ from outsAt0_B m c ⟨n + 1, hn⟩ hB]
    dsimp only
    rw [out_B_5, show outsAt0 m c (n + 1 - 1) _ = outsAt0 m c n (Nat.lt_of_succ_lt hn) from rfl, outs_scale h n]
    funext i
    refine (scale_eq h ⟨n + 1, hn⟩ (fun i => ∑ t : Fin (n + 1), ∑ p : Fin 512, DGpart X G T (rowTo (Nat.lt_of_succ_lt hn) t p) (i 1)) i).trans ?_
    rw [Fin.sum_univ_castSucc (n := n + 1)]
    rfl

/-- The sum over the points of the sums over their rows is the sum over all rows. -/
theorem sum_rows (f : Fin 8192 → ℝ) (h15 : 15 < cfg0.N) :
    (∑ t : Fin (15 + 1), ∑ p : Fin 512, f (row ⟨t.val, lt_of_le_of_lt (Nat.le_of_lt_succ t.isLt) h15⟩ p)) = ∑ q, f q := by
  rw [← Fintype.sum_prod_type' (fun (t : Fin 16) (p : Fin 512) => f (row ⟨t.val, lt_of_le_of_lt (Nat.le_of_lt_succ t.isLt) h15⟩ p))]
  refine Fintype.sum_equiv (finProdFinEquiv (m := 16) (n := 512)) _ _ fun x => congrArg f (Fin.ext ?_)
  show 512 * x.1.val + x.2.val = x.2.val + 512 * x.1.val
  omega

/-- The third output ends holding the gradient of the scale. -/
theorem final5 (h : Args m c X G T) :
    (dats m 0 c).arrAt 5 cfg0.N = fun i => ((DG X G T (i 1) : ℝ) : EReal) := by
  have h15 : 15 < cfg0.N := by have := hN; omega
  refine (dats m 0 c).arrAt_eq_of_cover 5 _ (fun t ht => ?_) fun i => ⟨⟨15, h15⟩, (flush0_5 _).mpr rfl, ?_⟩
  · have h3 : t.val = 15 := by have := (flush0_5 t).mp ht; have := t.isLt.trans_eq hN; omega
    obtain rfl : t = ⟨15, h15⟩ := Fin.ext h3
    rw [Value.flushed5, outs_scale h]
    funext j
    rw [View.read_apply]
    show ((_ : ℝ) : EReal) = ((DG X G T _ : ℝ) : EReal)
    congr 1
    refine (sum_rows (fun p => DGpart X G T p _) h15).trans ?_
    show DG X G T _ = DG X G T _
    congr 1; apply Fin.ext
    show (j 1).val = win0_5.index ⟨15, h15⟩ 1 * 1024 + 1 * (j 1).val
    rw [(at5 _).2]; omega
  · show i ∈ ((View.whole main_v1_2).slice (win0_5.rect ⟨15, h15⟩)).set
    rw [View.set_slice_whole, Rect.mem_set_unit]
    have h0 : (i 0 : Nat) < 1 := (i 0).isLt
    have h1 : (i 1 : Nat) < 1024 := (i 1).isLt
    intro b
    match b with
    | ⟨0, _⟩ =>
      show win0_5.index ⟨15, h15⟩ 0 * 1 ≤ (i 0 : Nat) ∧ (i 0 : Nat) < win0_5.index ⟨15, h15⟩ 0 * 1 + 1
      rw [(at5 _).1]; omega
    | ⟨1, _⟩ =>
      show win0_5.index ⟨15, h15⟩ 1 * 1024 ≤ (i 1 : Nat) ∧ (i 1 : Nat) < win0_5.index ⟨15, h15⟩ 1 * 1024 + 1024
      rw [(at5 _).2]; omega

/-- The first output ends holding the loss. -/
theorem final3 (h : Args m c X G T) :
    (dats m 0 c).arrAt 3 cfg0.N = fun _ => ((LOSS X G T : ℝ) : EReal) := by
  have h15 : 15 < cfg0.N := by have := hN; omega
  refine (dats m 0 c).arrAt_eq_of_cover 3 _ (fun t ht => ?_) fun i => ⟨⟨15, h15⟩, (flush0_3 _).mpr rfl, ?_⟩
  · have h3 : t.val = 15 := by have := (flush0_3 t).mp ht; have := t.isLt.trans_eq hN; omega
    obtain rfl : t = ⟨15, h15⟩ := Fin.ext h3
    rw [Value.flushed3, outs_loss h]
    funext j
    rw [View.read_apply]
    show ((_ : ℝ) : EReal) = ((LOSS X G T : ℝ) : EReal)
    congr 1
    rw [← Finset.mul_sum]
    exact congrArg (1 / 2 * ·) (sum_rows (fun p => MSE X G T p) h15)
  · show i ∈ ((View.whole main_v1_0).slice (win0_3.rect ⟨15, h15⟩)).set
    rw [View.set_slice_whole, Rect.mem_set_unit]
    have h0 : (i 0 : Nat) < 1 := (i 0).isLt
    have h1 : (i 1 : Nat) < 1 := (i 1).isLt
    intro b
    match b with
    | ⟨0, _⟩ =>
      show win0_3.index ⟨15, h15⟩ 0 * 1 ≤ (i 0 : Nat) ∧ (i 0 : Nat) < win0_3.index ⟨15, h15⟩ 0 * 1 + 1
      rw [(at3 _).1]; omega
    | ⟨1, _⟩ =>
      show win0_3.index ⟨15, h15⟩ 1 * 1 ≤ (i 1 : Nat) ∧ (i 1 : Nat) < win0_3.index ⟨15, h15⟩ 1 * 1 + 1
      rw [(at3 _).2]; omega

end Cert.LossHeadIdeal.Arrays

end
-- ==== Proof.LossRef.lean ====
/-
  THE REFERENCE of `loss_head`, read at an index for arguments of reals: the loss and the two gradients are the formulas
  of `LossHeadIdeal.Arrays` — half the sum of the rows' mean square errors, the norm differentiated factor by factor
  (`NormMath.dRow_eq`), and the sum over the rows for the scale.
-/
module

public import proofs.«01_k».proof.Proof.LossArray
public import proofs.«01_k».proof.Proof.Gen.LossHeadRefIdeal.Run
public import proofs.«01_k».proof.Proof.Gen.LossHeadRefIdeal.Read

@[expose] public section

set_option maxRecDepth 16384

noncomputable section

namespace Cert.LossHeadRefIdeal.Reading

open Cert.LossHeadRefIdeal Cert.LossHeadRefIdeal.Gen Cert.LossHeadRefIdeal.Read Cert.Reals Cert.NormMath
open Cert.LossHeadIdeal.Block (err mse)
open Cert.LossHeadIdeal.Arrays (ERR MSE LOSS DH DG DGpart)
open Idealize.ShloMosaic Idealize.ShloMosaic.TcCoe Idealize.SL.Sem
open scoped BigOperators

theorem lit_two : Ideal.ofBits .f32 0x40000000#32 = ((2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num

variable (X : S8192x1024.Idx → ℝ) (G : S1024.Idx → ℝ) (T : S8192x1024.Idx → ℝ)

theorem v6 (p : Fin 8192) :
    val_main_v6 (F := Ideal) (fun i => (X i : EReal)) (ix2 p 0) = ((msq (fun k => X (ix2 p k)) : ℝ) : EReal) := by
  unfold msq
  pointwise [val_main_v6, val_main_v5, val_main_v4, val_main_v3, val_main_v2, val_main_v1, val_main_v0, val_main_cst,
    val_main_cst_0, val_main_cst_1]
  simp only [← EReal.coe_mul, coe_sum, lit_1024, lit_eps]
  rw [div_coe _ _ (by norm_num), ← EReal.coe_add]

theorem v7 (p : Fin 8192) :
    val_main_v7 (F := Ideal) (fun i => (X i : EReal)) (ix2 p 0) = ((rinv (fun k => X (ix2 p k)) : ℝ) : EReal) := by
  pointwise [val_main_v7]
  rw [v6]
  exact rsqrt_coe _ (msq_pos fun k => X (ix2 p k))

theorem v10 (p : Fin 8192) : val_main_v10 (F := Ideal) (fun i => (X i : EReal)) (ix2 p 0)
    = ((-(1 / 2) * (rinv (fun k => X (ix2 p k)) / msq (fun k => X (ix2 p k))) : ℝ) : EReal) := by
  pointwise [val_main_v10, val_main_v9, val_main_v8, val_main_cst_2]
  rw [v6, v7, lit_neg_half, div_coe _ _ (msq_pos _).ne', ← EReal.coe_mul]

theorem v16 (p : Fin 8192) (j : Fin 1024) :
    val_main_v16 (F := Ideal) (fun i => (X i : EReal)) (fun i => (G i : EReal)) (fun i => (T i : EReal)) (ix2 p j)
      = ((ERR X G T p j : ℝ) : EReal) := by
  unfold ERR err
  pointwise [val_main_v16, val_main_v15, val_main_v14, val_main_v13, val_main_v12, val_main_v11]
  rw [v7, ← EReal.coe_mul, ← EReal.coe_mul, ← EReal.coe_sub]

/-- The mean square error of row `p`. -/
theorem v22 (p : Fin 8192) :
    val_main_v22 (F := Ideal) (fun i => (X i : EReal)) (fun i => (G i : EReal)) (fun i => (T i : EReal)) (ix1 p)
      = ((mse (fun k => X (ix2 p k)) (fun k => G (ix1 k)) (fun k => T (ix2 p k)) : ℝ) : EReal) := by
  unfold mse
  pointwise [val_main_v22, val_main_v21, val_main_v20, val_main_v17, val_main_cst_4, val_main_cst_5]
  simp only [v16, ← EReal.coe_mul, coe_sum, lit_1024]
  exact div_coe _ _ (by norm_num)

/-- The loss, a scalar. -/
theorem v24 (i : S_.Idx) :
    val_main_v24 (F := Ideal) (fun i => (X i : EReal)) (fun i => (G i : EReal)) (fun i => (T i : EReal)) i
      = ((LOSS X G T : ℝ) : EReal) := by
  unfold LOSS MSE
  pointwise [val_main_v24, val_main_v23, val_main_cst_6, val_main_cst_7]
  simp only [v22, coe_sum, lit_half, ← EReal.coe_mul]

/-- The gradient of the normed row: the error over the number of features. -/
theorem v30 (p : Fin 8192) (j : Fin 1024) :
    val_main_v30 (F := Ideal) (fun i => (X i : EReal)) (fun i => (G i : EReal)) (fun i => (T i : EReal)) (ix2 p j)
      = ((ERR X G T p j / 1024 : ℝ) : EReal) := by
  pointwise [val_main_v30, val_main_v29, val_main_v28, val_main_v27, val_main_v26, val_main_v25, val_main_v19, val_main_v18,
    val_main_cst_3, val_main_cst_8, val_main_cst_9, val_main_cst_10]
  simp only [v16, lit_half, lit_one, lit_two, lit_1024, ← EReal.coe_mul]
  rw [div_coe _ _ (by norm_num), ← EReal.coe_mul]
  congr 1; ring

theorem v31 (p : Fin 8192) (j : Fin 1024) :
    val_main_v31 (F := Ideal) (fun i => (X i : EReal)) (fun i => (G i : EReal)) (fun i => (T i : EReal)) (ix2 p j)
      = ((DGpart X G T p j : ℝ) : EReal) := by
  unfold DGpart
  pointwise [val_main_v31, val_main_v12, val_main_v11]
  rw [v7, v30, ← EReal.coe_mul, ← EReal.coe_mul, mul_comm]

/-- The gradient of the scale. -/
theorem v52 (j : Fin 1024) :
    val_main_v52 (F := Ideal) (fun i => (X i : EReal)) (fun i => (G i : EReal)) (fun i => (T i : EReal)) (ix2 0 j)
      = ((DG X G T j : ℝ) : EReal) := by
  unfold DG
  pointwise [val_main_v52, val_main_v36, val_main_v33, val_main_v32, val_main_cst_11, val_main_cst_12]
  simp only [v31, coe_sum, Fin.sum_univ_one]

theorem v35 (p : Fin 8192) (j : Fin 1024) :
    val_main_v35 (F := Ideal) (fun i => (X i : EReal)) (fun i => (G i : EReal)) (fun i => (T i : EReal)) (ix2 p j)
      = ((ERR X G T p j / 1024 * G (ix1 j) : ℝ) : EReal) := by
  pointwise [val_main_v35, val_main_v34, val_main_v13]
  rw [v30, ← EReal.coe_mul]

theorem v46 (p : Fin 8192) (j : Fin 1024) :
    val_main_v46 (F := Ideal) (fun i => (X i : EReal)) (fun i => (G i : EReal)) (fun i => (T i : EReal)) (ix2 p j)
      = (((∑ k, X (ix2 p k) * (ERR X G T p k / 1024 * G (ix1 k)))
          * (-(1 / 2) * (rinv (fun k => X (ix2 p k)) / msq (fun k => X (ix2 p k)))) / 1024 : ℝ) : EReal) := by
  pointwise [val_main_v46, val_main_v45, val_main_v44, val_main_v43, val_main_v42, val_main_v39, val_main_v38, val_main_v37,
    val_main_cst_13, val_main_cst_14, val_main_cst_15]
  simp only [Fin.sum_univ_one, v35, v10, ← EReal.coe_mul, coe_sum, lit_1024]
  rw [div_coe _ _ (by norm_num)]

/-- The gradient of the stream. -/
theorem v50 (p : Fin 8192) (j : Fin 1024) :
    val_main_v50 (F := Ideal) (fun i => (X i : EReal)) (fun i => (G i : EReal)) (fun i => (T i : EReal)) (ix2 p j)
      = ((DH X G T p j : ℝ) : EReal) := by
  unfold DH
  rw [← dRow_eq, zero_add]
  pointwise [val_main_v50, val_main_v49, val_main_v48, val_main_v47, val_main_v41, val_main_v40]
  simp only [v35, v46, v7, ← EReal.coe_mul, ← EReal.coe_add]

/-- The three results as arrays. -/
theorem array0 : val_main_v51 (F := Ideal) (fun i => (X i : EReal)) (fun i => (G i : EReal)) (fun i => (T i : EReal))
    = fun _ => ((LOSS X G T : ℝ) : EReal) := by
  funext i
  unfold val_main_v51
  refine (shapeCast_apply _ shapeCasts_S_S1x1 i (fun a => a.elim0) ?_).trans (v24 X G T _)
  have h0 : (i 0).val < 1 := (i 0).isLt
  have h1 : (i 1).val < 1 := (i 1).isLt
  rewrite [Shape.rowMajor_val_two]
  show 0 = (i 0).val * 1 + (i 1).val
  omega

theorem array1 : val_main_v50 (F := Ideal) (fun i => (X i : EReal)) (fun i => (G i : EReal)) (fun i => (T i : EReal))
    = fun i => ((DH X G T (i 0) (i 1) : ℝ) : EReal) := by
  funext i
  have hi : i = ix2 (i 0) (i 1) := by funext b; match b with | ⟨0, _⟩ => rfl | ⟨1, _⟩ => rfl
  exact (congrArg _ hi).trans (v50 X G T (i 0) (i 1))

theorem array2 : val_main_v52 (F := Ideal) (fun i => (X i : EReal)) (fun i => (G i : EReal)) (fun i => (T i : EReal))
    = fun i => ((DG X G T (i 1) : ℝ) : EReal) := by
  funext i
  have hi : i = ix2 0 (i 1) := by
    funext b; match b with | ⟨0, _⟩ => exact Subsingleton.elim (α := Fin 1) _ _ | ⟨1, _⟩ => rfl
  exact (congrArg _ hi).trans (v52 X G T (i 1))

end Cert.LossHeadRefIdeal.Reading

end
-- ==== Proof.LossHeadClaims.lean ====
/-
  THE CLAIMS about `loss_head`: the frames, and the value claim — for finite arguments, kernel and reference end with the
  same three arrays, the loss and the gradients of the stream and of the scale.
-/
module

public import proofs.«01_k».proof.Defs
public import proofs.«01_k».proof.Proof.LossRef
public import proofs.«01_k».proof.Proof.Gen.LossHead.Frame
public import proofs.«01_k».proof.Proof.Gen.Pre_finite_loss
public import Idealize.ShloMosaic.Lib.Quiescent

@[expose] public section

set_option maxRecDepth 16384

noncomputable section

namespace Cert.Proof.LossHead

open Cert.Reals Cert.LossHeadIdeal.Arrays
open Idealize.ShloMosaic Idealize.ShloMosaic.TcCoe Idealize.SL.Sem

theorem frame : Cert.quiescent_LossHead := fun m ρ _ => Cert.LossHead.Gen.frame m ρ
theorem frame_ideal : Cert.quiescent_LossHeadIdeal := fun m ρ _ => Cert.LossHeadIdeal.Gen.frame m ρ
theorem frame_ideal_pre : Cert.quiescent_LossHeadIdeal_pre_finite_loss := fun m ρ _ => Cert.LossHeadIdeal.Gen.frame m ρ

/-- The reference's run, read at its arguments; it declares no semaphore. -/
theorem frame_ref : Cert.quiescent_LossHeadRefIdeal := fun m ρ _ =>
  (θ_run Cert.LossHeadRefIdeal.defs _ _).mono
    (fun r h => ⟨fun c => (h c).2.2.2, Idealize.ShloMosaic.sem_eq_zero_of_no_sems (by decide) r.2⟩)
    (Cert.LossHeadRefIdeal.Value.run (F := Ideal) m ρ)
theorem frame_ref_pre : Cert.quiescent_LossHeadRefIdeal_pre_finite_loss := fun m ρ _ => frame_ref m ρ trivial

/-- Finite arguments are arrays of reals. -/
theorem args_real (m : (ℓ : Loc Cert.LossHeadIdeal.nD Cert.LossHeadIdeal.τ Cert.LossHeadIdeal.sig) → Buf (Elt Ideal) ℓ)
    (h : Cert.Pre_LossHeadIdeal_finite_loss m) (c : Dev Cert.LossHeadIdeal.nD) : ∃ X G T, Args m c X G T := by
  obtain ⟨h0, h1, h2⟩ := h c
  obtain ⟨X, hX⟩ := reals_of_olt _ fun i => congrFun h0 i
  obtain ⟨G, hG⟩ := reals_of_olt _ fun i => congrFun h1 i
  obtain ⟨T, hT⟩ := reals_of_olt _ fun i => congrFun h2 i
  exact ⟨X, G, T, hX, hG, hT⟩

/-- For finite arguments the two programs end with the same loss and the same gradients of the stream and of the scale. -/
theorem algebraic : Cert.algebraic_LossHeadIdeal_LossHeadRefIdeal_pre_finite_loss := by
  intro m ρ m' ρ' hpre hagree
  refine ⟨fun c => (Cert.LossHeadIdeal.Gen.dats (F := Ideal) m 0 c).arrAt 3 Cert.LossHeadIdeal.cfg0.N,
    fun c => (Cert.LossHeadIdeal.Gen.dats (F := Ideal) m 0 c).arrAt 4 Cert.LossHeadIdeal.cfg0.N,
    fun c => (Cert.LossHeadIdeal.Gen.dats (F := Ideal) m 0 c).arrAt 5 Cert.LossHeadIdeal.cfg0.N,
    Cert.LossHeadIdeal.Value.run_blocks m ρ, ?_⟩
  refine (θ_run Cert.LossHeadRefIdeal.defs _ _).mono (fun r h c => ?_) (Cert.LossHeadRefIdeal.Value.run (F := Ideal) m' ρ')
  obtain ⟨X, G, T, hargs⟩ := args_real m hpre c
  obtain ⟨g0, g1, g2⟩ := hagree c
  have e0 := g0.trans hargs.a0
  have e1 := g1.trans hargs.a1
  have e2 := g2.trans hargs.a2
  refine ⟨(h c).1.trans ?_, (h c).2.1.trans ?_, (h c).2.2.1.trans ?_, (h c).2.2.2⟩
  · refine Eq.trans ?_ (final3 hargs).symm
    refine (Cert.LossHeadRefIdeal.Read.val_main_v51_eq _ _ _).trans ?_
    rw [e0, e1, e2]
    exact Cert.LossHeadRefIdeal.Reading.array0 X G T
  · refine Eq.trans ?_ (final4 hargs).symm
    refine (Cert.LossHeadRefIdeal.Read.val_main_v50_eq m' c).trans ?_
    rw [e0, e1, e2]
    exact Cert.LossHeadRefIdeal.Reading.array1 X G T
  · refine Eq.trans ?_ (final5 hargs).symm
    refine (Cert.LossHeadRefIdeal.Read.val_main_v52_eq _ _ _).trans ?_
    rw [e0, e1, e2]
    exact Cert.LossHeadRefIdeal.Reading.array2 X G T

end Cert.Proof.LossHead

end
-- ==== Proof.lean ====
/-
  THE CERTIFICATE: the claims of `Defs.lean`, each by its own module. For every program: the frames of the kernel as written, of the
  kernel at exact arithmetic and of the reference; that the two kernels are one program but for named constants; and that kernel
  and reference end with the same arrays.
-/
module

public import proofs.«01_k».proof.Defs
public import proofs.«01_k».proof.Proof.NormFfnClaims
public import proofs.«01_k».proof.Proof.Gen.NormFfn
public import proofs.«01_k».proof.Proof.Gen.NormFfn.Frame
public import proofs.«01_k».proof.Proof.Gen.NormFfnIdeal
public import proofs.«01_k».proof.Proof.Gen.NormFfnIdeal.Frame
public import proofs.«01_k».proof.Proof.Gen.NormFfnIdeal.Value
public import proofs.«01_k».proof.Proof.Gen.NormFfnRefIdeal
public import proofs.«01_k».proof.Proof.Gen.NormFfnRefIdeal.Run
public import proofs.«01_k».proof.Proof.Gen.NormFfnRefIdeal.Read
public import proofs.«01_k».proof.Proof.Gen.Pre_finite_ffn
public import proofs.«01_k».proof.Proof.SguClaims
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.Pre_finite_sgu
public import proofs.«01_k».proof.Proof.NormAttnClaims
public import proofs.«01_k».proof.Proof.Gen.NormAttn
public import proofs.«01_k».proof.Proof.Gen.NormAttn.Frame
public import proofs.«01_k».proof.Proof.Gen.NormAttnIdeal
public import proofs.«01_k».proof.Proof.Gen.NormAttnIdeal.Frame
public import proofs.«01_k».proof.Proof.Gen.NormAttnIdeal.Value
public import proofs.«01_k».proof.Proof.Gen.NormAttnRefIdeal
public import proofs.«01_k».proof.Proof.Gen.NormAttnRefIdeal.Run
public import proofs.«01_k».proof.Proof.Gen.NormAttnRefIdeal.Read
public import proofs.«01_k».proof.Proof.Gen.Pre_finite_attn
public import proofs.«01_k».proof.Proof.NormPleClaims
public import proofs.«01_k».proof.Proof.Gen.NormPle
public import proofs.«01_k».proof.Proof.Gen.NormPle.Frame
public import proofs.«01_k».proof.Proof.Gen.NormPleIdeal
public import proofs.«01_k».proof.Proof.Gen.NormPleIdeal.Frame
public import proofs.«01_k».proof.Proof.Gen.NormPleIdeal.Value
public import proofs.«01_k».proof.Proof.Gen.NormPleRefIdeal
public import proofs.«01_k».proof.Proof.Gen.NormPleRefIdeal.Run
public import proofs.«01_k».proof.Proof.Gen.NormPleRefIdeal.Read
public import proofs.«01_k».proof.Proof.Gen.Pre_finite_ple
public import proofs.«01_k».proof.Proof.GradUpClaims
public import proofs.«01_k».proof.Proof.Gen.GradUp
public import proofs.«01_k».proof.Proof.Gen.GradUp.Frame
public import proofs.«01_k».proof.Proof.Gen.GradUpIdeal
public import proofs.«01_k».proof.Proof.Gen.GradUpIdeal.Frame
public import proofs.«01_k».proof.Proof.Gen.GradUpIdeal.Value
public import proofs.«01_k».proof.Proof.Gen.GradUpRefIdeal
public import proofs.«01_k».proof.Proof.Gen.GradUpRefIdeal.Run
public import proofs.«01_k».proof.Proof.Gen.GradUpRefIdeal.Read
public import proofs.«01_k».proof.Proof.GradDownClaims
public import proofs.«01_k».proof.Proof.Gen.GradDown
public import proofs.«01_k».proof.Proof.Gen.GradDown.Frame
public import proofs.«01_k».proof.Proof.Gen.GradDownIdeal
public import proofs.«01_k».proof.Proof.Gen.GradDownIdeal.Frame
public import proofs.«01_k».proof.Proof.Gen.GradDownIdeal.Value
public import proofs.«01_k».proof.Proof.Gen.GradDownRefIdeal
public import proofs.«01_k».proof.Proof.Gen.GradDownRefIdeal.Run
public import proofs.«01_k».proof.Proof.Gen.GradDownRefIdeal.Read
public import proofs.«01_k».proof.Proof.GradInClaims
public import proofs.«01_k».proof.Proof.Gen.GradIn
public import proofs.«01_k».proof.Proof.Gen.GradIn.Frame
public import proofs.«01_k».proof.Proof.Gen.GradInIdeal
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradInRefIdeal.Read
public import proofs.«01_k».proof.Proof.GradOutClaims
public import proofs.«01_k».proof.Proof.Gen.GradOut
public import proofs.«01_k».proof.Proof.Gen.GradOut.Frame
public import proofs.«01_k».proof.Proof.Gen.GradOutIdeal
public import proofs.«01_k».proof.Proof.Gen.GradOutIdeal.Frame
public import proofs.«01_k».proof.Proof.Gen.GradOutIdeal.Value
public import proofs.«01_k».proof.Proof.Gen.GradOutRefIdeal
public import proofs.«01_k».proof.Proof.Gen.GradOutRefIdeal.Run
public import proofs.«01_k».proof.Proof.Gen.GradOutRefIdeal.Read
public import proofs.«01_k».proof.Proof.GradGateClaims
public import proofs.«01_k».proof.Proof.Gen.GradGate
public import proofs.«01_k».proof.Proof.Gen.GradGate.Frame
public import proofs.«01_k».proof.Proof.Gen.GradGateIdeal
public import proofs.«01_k».proof.Proof.Gen.GradGateIdeal.Frame
public import proofs.«01_k».proof.Proof.Gen.GradGateIdeal.Value
public import proofs.«01_k».proof.Proof.Gen.GradGateRefIdeal
public import proofs.«01_k».proof.Proof.Gen.GradGateRefIdeal.Run
public import proofs.«01_k».proof.Proof.Gen.GradGateRefIdeal.Read
public import proofs.«01_k».proof.Proof.GradProjClaims
public import proofs.«01_k».proof.Proof.Gen.GradProj
public import proofs.«01_k».proof.Proof.Gen.GradProj.Frame
public import proofs.«01_k».proof.Proof.Gen.GradProjIdeal
public import proofs.«01_k».proof.Proof.Gen.GradProjIdeal.Frame
public import proofs.«01_k».proof.Proof.Gen.GradProjIdeal.Value
public import proofs.«01_k».proof.Proof.Gen.GradProjRefIdeal
public import proofs.«01_k».proof.Proof.Gen.GradProjRefIdeal.Run
public import proofs.«01_k».proof.Proof.Gen.GradProjRefIdeal.Read
public import proofs.«01_k».proof.Proof.BackActClaims
public import proofs.«01_k».proof.Proof.Gen.BackAct
public import proofs.«01_k».proof.Proof.Gen.BackAct.Frame
public import proofs.«01_k».proof.Proof.Gen.BackActIdeal
public import proofs.«01_k».proof.Proof.Gen.BackActIdeal.Frame
public import proofs.«01_k».proof.Proof.Gen.BackActIdeal.Value
public import proofs.«01_k».proof.Proof.Gen.BackActRefIdeal
public import proofs.«01_k».proof.Proof.Gen.BackActRefIdeal.Run
public import proofs.«01_k».proof.Proof.Gen.BackActRefIdeal.Read
public import proofs.«01_k».proof.Proof.BackMixClaims
public import proofs.«01_k».proof.Proof.Gen.BackMix
public import proofs.«01_k».proof.Proof.Gen.BackMix.Frame
public import proofs.«01_k».proof.Proof.Gen.BackMixIdeal
public import proofs.«01_k».proof.Proof.Gen.BackMixIdeal.Frame
public import proofs.«01_k».proof.Proof.Gen.BackMixIdeal.Value
public import proofs.«01_k».proof.Proof.Gen.BackMixRefIdeal
public import proofs.«01_k».proof.Proof.Gen.BackMixRefIdeal.Run
public import proofs.«01_k».proof.Proof.Gen.BackMixRefIdeal.Read
public import proofs.«01_k».proof.Proof.DownClaims
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.OutClaims
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.InProjClaims
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.PleFwdClaims
public import proofs.«01_k».proof.Proof.Gen.PleFwd
public import proofs.«01_k».proof.Proof.Gen.PleFwd.Frame
public import proofs.«01_k».proof.Proof.Gen.PleFwdIdeal
public import proofs.«01_k».proof.Proof.Gen.PleFwdIdeal.Frame
public import proofs.«01_k».proof.Proof.Gen.PleFwdIdeal.Value
public import proofs.«01_k».proof.Proof.Gen.PleFwdRefIdeal
public import proofs.«01_k».proof.Proof.Gen.PleFwdRefIdeal.Run
public import proofs.«01_k».proof.Proof.Gen.PleFwdRefIdeal.Read
public import proofs.«01_k».proof.Proof.PleBwdClaims
public import proofs.«01_k».proof.Proof.Gen.PleBwd
public import proofs.«01_k».proof.Proof.Gen.PleBwd.Frame
public import proofs.«01_k».proof.Proof.Gen.PleBwdIdeal
public import proofs.«01_k».proof.Proof.Gen.PleBwdIdeal.Frame
public import proofs.«01_k».proof.Proof.Gen.PleBwdIdeal.Value
public import proofs.«01_k».proof.Proof.Gen.PleBwdRefIdeal
public import proofs.«01_k».proof.Proof.Gen.PleBwdRefIdeal.Run
public import proofs.«01_k».proof.Proof.Gen.PleBwdRefIdeal.Read
public import proofs.«01_k».proof.Proof.ConvGateClaims
public import proofs.«01_k».proof.Proof.Gen.ConvGate
public import proofs.«01_k».proof.Proof.Gen.ConvGate.Frame
public import proofs.«01_k».proof.Proof.Gen.ConvGateIdeal
public import proofs.«01_k».proof.Proof.Gen.ConvGateIdeal.Frame
public import proofs.«01_k».proof.Proof.Gen.ConvGateIdeal.Value
public import proofs.«01_k».proof.Proof.Gen.ConvGateRefIdeal
public import proofs.«01_k».proof.Proof.Gen.ConvGateRefIdeal.Run
public import proofs.«01_k».proof.Proof.Gen.ConvGateRefIdeal.Read
public import proofs.«01_k».proof.Proof.AdamInClaims
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamGluClaims
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Frame
public import proofs.«01_k».proof.Proof.Gen.AdamGluIdeal.Value
public import proofs.«01_k».proof.Proof.Gen.AdamGluRefIdeal
public import proofs.«01_k».proof.Proof.Gen.AdamGluRefIdeal.Run
public import proofs.«01_k».proof.Proof.Gen.AdamGluRefIdeal.Read
public import proofs.«01_k».proof.Proof.AdamOutClaims
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamUpClaims
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.AdamConvClaims
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.AdamDownClaims
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.AdamGateClaims
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.AdamProjClaims
public import proofs.«01_k».proof.Proof.Gen.AdamProj
public import proofs.«01_k».proof.Proof.Gen.AdamProj.Frame
public import proofs.«01_k».proof.Proof.Gen.AdamProjIdeal
public import proofs.«01_k».proof.Proof.Gen.AdamProjIdeal.Frame
public import proofs.«01_k».proof.Proof.Gen.AdamProjIdeal.Value
public import proofs.«01_k».proof.Proof.Gen.AdamProjRefIdeal
public import proofs.«01_k».proof.Proof.Gen.AdamProjRefIdeal.Run
public import proofs.«01_k».proof.Proof.Gen.AdamProjRefIdeal.Read
public import proofs.«01_k».proof.Proof.LossHeadClaims
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Pre_finite_loss

@[expose] public section

noncomputable section

namespace Cert.Proof

theorem claim : Cert.Claim :=
  ⟨Cert.NormFfn.Gen.facts, Cert.NormFfnIdeal.Gen.facts, Cert.NormFfnRefIdeal.Gen.facts, Cert.Sgu.Gen.facts,
    Cert.SguIdeal.Gen.facts, Cert.SguRefIdeal.Gen.facts, Cert.NormAttn.Gen.facts, Cert.NormAttnIdeal.Gen.facts,
    Cert.NormAttnRefIdeal.Gen.facts, Cert.NormPle.Gen.facts, Cert.NormPleIdeal.Gen.facts, Cert.NormPleRefIdeal.Gen.facts,
    Cert.GradUp.Gen.facts, Cert.GradUpIdeal.Gen.facts, Cert.GradUpRefIdeal.Gen.facts, Cert.GradDown.Gen.facts,
    Cert.GradDownIdeal.Gen.facts, Cert.GradDownRefIdeal.Gen.facts, Cert.GradIn.Gen.facts, Cert.GradInIdeal.Gen.facts,
    Cert.GradInRefIdeal.Gen.facts, Cert.GradOut.Gen.facts, Cert.GradOutIdeal.Gen.facts, Cert.GradOutRefIdeal.Gen.facts,
    Cert.GradGate.Gen.facts, Cert.GradGateIdeal.Gen.facts, Cert.GradGateRefIdeal.Gen.facts, Cert.GradProj.Gen.facts,
    Cert.GradProjIdeal.Gen.facts, Cert.GradProjRefIdeal.Gen.facts, Cert.BackAct.Gen.facts, Cert.BackActIdeal.Gen.facts,
    Cert.BackActRefIdeal.Gen.facts, Cert.BackMix.Gen.facts, Cert.BackMixIdeal.Gen.facts, Cert.BackMixRefIdeal.Gen.facts,
    Cert.Down.Gen.facts, Cert.DownIdeal.Gen.facts, Cert.DownRefIdeal.Gen.facts, Cert.Out.Gen.facts, Cert.OutIdeal.Gen.facts,
    Cert.OutRefIdeal.Gen.facts, Cert.InProj.Gen.facts, Cert.InProjIdeal.Gen.facts, Cert.InProjRefIdeal.Gen.facts,
    Cert.PleFwd.Gen.facts, Cert.PleFwdIdeal.Gen.facts, Cert.PleFwdRefIdeal.Gen.facts, Cert.PleBwd.Gen.facts,
    Cert.PleBwdIdeal.Gen.facts, Cert.PleBwdRefIdeal.Gen.facts, Cert.ConvGate.Gen.facts, Cert.ConvGateIdeal.Gen.facts,
    Cert.ConvGateRefIdeal.Gen.facts, Cert.AdamIn.Gen.facts, Cert.AdamInIdeal.Gen.facts, Cert.AdamInRefIdeal.Gen.facts,
    Cert.AdamGlu.Gen.facts, Cert.AdamGluIdeal.Gen.facts, Cert.AdamGluRefIdeal.Gen.facts, Cert.AdamOut.Gen.facts,
    Cert.AdamOutIdeal.Gen.facts, Cert.AdamOutRefIdeal.Gen.facts, Cert.AdamUp.Gen.facts, Cert.AdamUpIdeal.Gen.facts,
    Cert.AdamUpRefIdeal.Gen.facts, Cert.AdamConv.Gen.facts, Cert.AdamConvIdeal.Gen.facts, Cert.AdamConvRefIdeal.Gen.facts,
    Cert.AdamDown.Gen.facts, Cert.AdamDownIdeal.Gen.facts, Cert.AdamDownRefIdeal.Gen.facts, Cert.AdamGate.Gen.facts,
    Cert.AdamGateIdeal.Gen.facts, Cert.AdamGateRefIdeal.Gen.facts, Cert.AdamProj.Gen.facts, Cert.AdamProjIdeal.Gen.facts,
    Cert.AdamProjRefIdeal.Gen.facts, Cert.LossHead.Gen.facts, Cert.LossHeadIdeal.Gen.facts, Cert.LossHeadRefIdeal.Gen.facts,
    Cert.Pre_finite_ffn.Gen.facts, Cert.Pre_finite_sgu.Gen.facts, Cert.Pre_finite_attn.Gen.facts,
    Cert.Pre_finite_ple.Gen.facts, Cert.Pre_finite_loss.Gen.facts, NormFfn.frame, NormFfn.frame_ideal,
    NormFfn.frame_ideal_pre, NormFfn.frame_ref, NormFfn.frame_ref_pre, Sgu.frame, Sgu.frame_ideal, Sgu.frame_ideal_pre,
    Sgu.frame_ref, Sgu.frame_ref_pre, NormAttn.frame, NormAttn.frame_ideal, NormAttn.frame_ideal_pre, NormAttn.frame_ref,
    NormAttn.frame_ref_pre, NormPle.frame, NormPle.frame_ideal, NormPle.frame_ideal_pre, NormPle.frame_ref,
    NormPle.frame_ref_pre, GradUp.frame, GradUp.frame_ideal, GradUp.frame_ref, GradDown.frame, GradDown.frame_ideal,
    GradDown.frame_ref, GradIn.frame, GradIn.frame_ideal, GradIn.frame_ref, GradOut.frame, GradOut.frame_ideal,
    GradOut.frame_ref, GradGate.frame, GradGate.frame_ideal, GradGate.frame_ref, GradProj.frame, GradProj.frame_ideal,
    GradProj.frame_ref, BackAct.frame, BackAct.frame_ideal, BackAct.frame_ref, BackMix.frame, BackMix.frame_ideal,
    BackMix.frame_ref, Down.frame, Down.frame_ideal, Down.frame_ref, Out.frame, Out.frame_ideal, Out.frame_ref, InProj.frame,
    InProj.frame_ideal, InProj.frame_ref, PleFwd.frame, PleFwd.frame_ideal, PleFwd.frame_ref, PleBwd.frame,
    PleBwd.frame_ideal, PleBwd.frame_ref, ConvGate.frame, ConvGate.frame_ideal, ConvGate.frame_ref, AdamIn.frame,
    AdamIn.frame_ideal, AdamIn.frame_ref, AdamGlu.frame, AdamGlu.frame_ideal, AdamGlu.frame_ref, AdamOut.frame,
    AdamOut.frame_ideal, AdamOut.frame_ref, AdamUp.frame, AdamUp.frame_ideal, AdamUp.frame_ref, AdamConv.frame,
    AdamConv.frame_ideal, AdamConv.frame_ref, AdamDown.frame, AdamDown.frame_ideal, AdamDown.frame_ref, AdamGate.frame,
    AdamGate.frame_ideal, AdamGate.frame_ref, AdamProj.frame, AdamProj.frame_ideal, AdamProj.frame_ref, LossHead.frame,
    LossHead.frame_ideal, LossHead.frame_ideal_pre, LossHead.frame_ref, LossHead.frame_ref_pre, trivial, NormFfn.algebraic,
    Sgu.preserves, Sgu.algebraic, trivial, NormAttn.algebraic, trivial, NormPle.algebraic, trivial, GradUp.algebraic,
    trivial, GradDown.algebraic, trivial, GradIn.algebraic, trivial, GradOut.algebraic, trivial, GradGate.algebraic, trivial,
    GradProj.algebraic, trivial, BackAct.algebraic, trivial, BackMix.algebraic, trivial, Down.algebraic, trivial,
    Out.algebraic, trivial, InProj.algebraic, trivial, PleFwd.algebraic, trivial, PleBwd.algebraic, trivial,
    ConvGate.algebraic, trivial, AdamIn.algebraic, trivial, AdamGlu.algebraic, trivial, AdamOut.algebraic, trivial,
    AdamUp.algebraic, trivial, AdamConv.algebraic, trivial, AdamDown.algebraic, trivial, AdamGate.algebraic, trivial,
    AdamProj.algebraic, trivial, LossHead.algebraic⟩

end Cert.Proof

end
